-- ==== Defs.lean ====
def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_KernelFinalIdeal_finite_final [hPre_finite_final : Cert.Pre_finite_final.Facts] (m : (ℓ : Loc Cert.KernelFinalIdeal.nD Cert.KernelFinalIdeal.τ Cert.KernelFinalIdeal.sig) → Buf (Elt Ideal) ℓ) : Prop :=
  ∀ c : Dev Cert.KernelFinalIdeal.nD,
    (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2))) = (fun _ => 1#1)

def Pre_ReferenceFinalIdeal (m : (ℓ : Loc Cert.ReferenceFinalIdeal.nD Cert.ReferenceFinalIdeal.τ Cert.ReferenceFinalIdeal.sig) → Buf (Elt Ideal) ℓ) : Prop :=
  True

def Pre_ReferenceFinalIdeal_finite_final [hPre_finite_final : Cert.Pre_finite_final.Facts] (m : (ℓ : Loc Cert.ReferenceFinalIdeal.nD Cert.ReferenceFinalIdeal.τ Cert.ReferenceFinalIdeal.sig) → Buf (Elt Ideal) ℓ) : Prop :=
  ∀ c : Dev Cert.ReferenceFinalIdeal.nD,
    (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2))) = (fun _ => 1#1)

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_in [hPre_finite_in : Cert.Pre_finite_in.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))) = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_KernelMlpIdeal_finite_mlp [hPre_finite_mlp : Cert.Pre_finite_mlp.Facts] (m : (ℓ : Loc Cert.KernelMlpIdeal.nD Cert.KernelMlpIdeal.τ Cert.KernelMlpIdeal.sig) → Buf (Elt Ideal) ℓ) : Prop :=
  ∀ c : Dev Cert.KernelMlpIdeal.nD,
    (Cert.Pre_finite_mlp.fn (F := Ideal) (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4))) = (fun _ => 1#1)

def Pre_ReferenceMlpIdeal (m : (ℓ : Loc Cert.ReferenceMlpIdeal.nD Cert.ReferenceMlpIdeal.τ Cert.ReferenceMlpIdeal.sig) → Buf (Elt Ideal) ℓ) : Prop :=
  True

def Pre_ReferenceMlpIdeal_finite_mlp [hPre_finite_mlp : Cert.Pre_finite_mlp.Facts] (m : (ℓ : Loc Cert.ReferenceMlpIdeal.nD Cert.ReferenceMlpIdeal.τ Cert.ReferenceMlpIdeal.sig) → Buf (Elt Ideal) ℓ) : Prop :=
  ∀ c : Dev Cert.ReferenceMlpIdeal.nD,
    (Cert.Pre_finite_mlp.fn (F := Ideal) (m ((c.tc : Thread Cert.ReferenceMlpIdeal.nD Cert.ReferenceMlpIdeal.τ).loc Cert.ReferenceMlpIdeal.main_arg0)) (m ((c.tc : Thread Cert.ReferenceMlpIdeal.nD Cert.ReferenceMlpIdeal.τ).loc Cert.ReferenceMlpIdeal.main_arg1)) (m ((c.tc : Thread Cert.ReferenceMlpIdeal.nD Cert.ReferenceMlpIdeal.τ).loc Cert.ReferenceMlpIdeal.main_arg2)) (m ((c.tc : Thread Cert.ReferenceMlpIdeal.nD Cert.ReferenceMlpIdeal.τ).loc Cert.ReferenceMlpIdeal.main_arg3)) (m ((c.tc : Thread Cert.ReferenceMlpIdeal.nD Cert.ReferenceMlpIdeal.τ).loc Cert.ReferenceMlpIdeal.main_arg4))) = (fun _ => 1#1)

def Pre_KernelXattn (m : (ℓ : Loc Cert.KernelXattn.nD Cert.KernelXattn.τ Cert.KernelXattn.sig) → Buf (Elt Bits) ℓ) : Prop :=
  True

def Pre_KernelXattnIdeal (m : (ℓ : Loc Cert.KernelXattnIdeal.nD Cert.KernelXattnIdeal.τ Cert.KernelXattnIdeal.sig) → Buf (Elt Ideal) ℓ) : Prop :=
  True

def Pre_KernelXattnIdeal_finite_xattn [hPre_finite_xattn : Cert.Pre_finite_xattn.Facts] (m : (ℓ : Loc Cert.KernelXattnIdeal.nD Cert.KernelXattnIdeal.τ Cert.KernelXattnIdeal.sig) → Buf (Elt Ideal) ℓ) : Prop :=
  ∀ c : Dev Cert.KernelXattnIdeal.nD,
    (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5))) = (fun _ => 1#1)

def Pre_ReferenceXattnIdeal (m : (ℓ : Loc Cert.ReferenceXattnIdeal.nD Cert.ReferenceXattnIdeal.τ Cert.ReferenceXattnIdeal.sig) → Buf (Elt Ideal) ℓ) : Prop :=
  True

def Pre_ReferenceXattnIdeal_finite_xattn [hPre_finite_xattn : Cert.Pre_finite_xattn.Facts] (m : (ℓ : Loc Cert.ReferenceXattnIdeal.nD Cert.ReferenceXattnIdeal.τ Cert.ReferenceXattnIdeal.sig) → Buf (Elt Ideal) ℓ) : Prop :=
  ∀ c : Dev Cert.ReferenceXattnIdeal.nD,
    (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5))) = (fun _ => 1#1)

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelXfwd (m : (ℓ : Loc Cert.KernelXfwd.nD Cert.KernelXfwd.τ Cert.KernelXfwd.sig) → Buf (Elt Bits) ℓ) : Prop :=
  True

def Pre_KernelXfwdIdeal (m : (ℓ : Loc Cert.KernelXfwdIdeal.nD Cert.KernelXfwdIdeal.τ Cert.KernelXfwdIdeal.sig) → Buf (Elt Ideal) ℓ) : Prop :=
  True

def Pre_ReferenceXfwdIdeal (m : (ℓ : Loc Cert.ReferenceXfwdIdeal.nD Cert.ReferenceXfwdIdeal.τ Cert.ReferenceXfwdIdeal.sig) → Buf (Elt Ideal) ℓ) : Prop :=
  True

def Pre_KernelSfwd (m : (ℓ : Loc Cert.KernelSfwd.nD Cert.KernelSfwd.τ Cert.KernelSfwd.sig) → Buf (Elt Bits) ℓ) : Prop :=
  True

def Pre_KernelSfwdIdeal (m : (ℓ : Loc Cert.KernelSfwdIdeal.nD Cert.KernelSfwdIdeal.τ Cert.KernelSfwdIdeal.sig) → Buf (Elt Ideal) ℓ) : Prop :=
  True

def Pre_ReferenceSfwdIdeal (m : (ℓ : Loc Cert.ReferenceSfwdIdeal.nD Cert.ReferenceSfwdIdeal.τ Cert.ReferenceSfwdIdeal.sig) → Buf (Elt Ideal) ℓ) : Prop :=
  True

def Pre_KernelPfwd (m : (ℓ : Loc Cert.KernelPfwd.nD Cert.KernelPfwd.τ Cert.KernelPfwd.sig) → Buf (Elt Bits) ℓ) : Prop :=
  True

def Pre_KernelPfwdIdeal (m : (ℓ : Loc Cert.KernelPfwdIdeal.nD Cert.KernelPfwdIdeal.τ Cert.KernelPfwdIdeal.sig) → Buf (Elt Ideal) ℓ) : Prop :=
  True

def Pre_ReferencePfwdIdeal (m : (ℓ : Loc Cert.ReferencePfwdIdeal.nD Cert.ReferencePfwdIdeal.τ Cert.ReferencePfwdIdeal.sig) → Buf (Elt Ideal) ℓ) : Prop :=
  True

def Pre_KernelMfwd (m : (ℓ : Loc Cert.KernelMfwd.nD Cert.KernelMfwd.τ Cert.KernelMfwd.sig) → Buf (Elt Bits) ℓ) : Prop :=
  True

def Pre_KernelMfwdIdeal (m : (ℓ : Loc Cert.KernelMfwdIdeal.nD Cert.KernelMfwdIdeal.τ Cert.KernelMfwdIdeal.sig) → Buf (Elt Ideal) ℓ) : Prop :=
  True

def Pre_ReferenceMfwdIdeal (m : (ℓ : Loc Cert.ReferenceMfwdIdeal.nD Cert.ReferenceMfwdIdeal.τ Cert.ReferenceMfwdIdeal.sig) → Buf (Elt Ideal) ℓ) : Prop :=
  True

def Pre_KernelQfwd (m : (ℓ : Loc Cert.KernelQfwd.nD Cert.KernelQfwd.τ Cert.KernelQfwd.sig) → Buf (Elt Bits) ℓ) : Prop :=
  True

def Pre_KernelQfwdIdeal (m : (ℓ : Loc Cert.KernelQfwdIdeal.nD Cert.KernelQfwdIdeal.τ Cert.KernelQfwdIdeal.sig) → Buf (Elt Ideal) ℓ) : Prop :=
  True

def Pre_ReferenceQfwdIdeal (m : (ℓ : Loc Cert.ReferenceQfwdIdeal.nD Cert.ReferenceQfwdIdeal.τ Cert.ReferenceQfwdIdeal.sig) → Buf (Elt Ideal) ℓ) : Prop :=
  True

def Pre_KernelMmtn (m : (ℓ : Loc Cert.KernelMmtn.nD Cert.KernelMmtn.τ Cert.KernelMmtn.sig) → Buf (Elt Bits) ℓ) : Prop :=
  True

def Pre_KernelMmtnIdeal (m : (ℓ : Loc Cert.KernelMmtnIdeal.nD Cert.KernelMmtnIdeal.τ Cert.KernelMmtnIdeal.sig) → Buf (Elt Ideal) ℓ) : Prop :=
  True

def Pre_ReferenceMmtnIdeal (m : (ℓ : Loc Cert.ReferenceMmtnIdeal.nD Cert.ReferenceMmtnIdeal.τ Cert.ReferenceMmtnIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ r.2.sem = fun _ => 0)

def quiescent_KernelFinalIdeal_pre_finite_final [hKernelFinalIdeal : Cert.KernelFinalIdeal.Facts] [hPre_finite_final : Cert.Pre_finite_final.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal_finite_final m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2))
      ∧ r.2.sem = fun _ => 0)

def quiescent_ReferenceFinalIdeal_pre_finite_final [hReferenceFinalIdeal : Cert.ReferenceFinalIdeal.Facts] [hPre_finite_final : Cert.Pre_finite_final.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal_finite_final m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_KernelInIdeal_pre_finite_in [hKernelInIdeal : Cert.KernelInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_in m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_KernelMlpIdeal_pre_finite_mlp [hKernelMlpIdeal : Cert.KernelMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal_finite_mlp m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_ReferenceMlpIdeal_pre_finite_mlp [hReferenceMlpIdeal : Cert.ReferenceMlpIdeal.Facts] [hPre_finite_mlp : Cert.Pre_finite_mlp.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal_finite_mlp m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_KernelXattn [hKernelXattn : Cert.KernelXattn.Facts] : Prop :=
  ∀ (m : (ℓ : Loc Cert.KernelXattn.nD Cert.KernelXattn.τ Cert.KernelXattn.sig) → Buf (Elt Bits) ℓ) (g : Dev Cert.KernelXattn.nD → PrngReg), Pre_KernelXattn m →
    θ_run (Cert.KernelXattn.defs (F := Bits)) (onTc (τ := Cert.KernelXattn.τ) (Cert.KernelXattn.main (F := Bits))) ⟨m, fun _ => 0, g⟩ (fun r => (∀ c : Dev Cert.KernelXattn.nD,
      r.2.mem ((c.tc : Thread Cert.KernelXattn.nD Cert.KernelXattn.τ).loc Cert.KernelXattn.main_arg0) = m ((c.tc : Thread Cert.KernelXattn.nD Cert.KernelXattn.τ).loc Cert.KernelXattn.main_arg0)
      ∧ r.2.mem ((c.tc : Thread Cert.KernelXattn.nD Cert.KernelXattn.τ).loc Cert.KernelXattn.main_arg1) = m ((c.tc : Thread Cert.KernelXattn.nD Cert.KernelXattn.τ).loc Cert.KernelXattn.main_arg1)
      ∧ r.2.mem ((c.tc : Thread Cert.KernelXattn.nD Cert.KernelXattn.τ).loc Cert.KernelXattn.main_arg2) = m ((c.tc : Thread Cert.KernelXattn.nD Cert.KernelXattn.τ).loc Cert.KernelXattn.main_arg2)
      ∧ r.2.mem ((c.tc : Thread Cert.KernelXattn.nD Cert.KernelXattn.τ).loc Cert.KernelXattn.main_arg3) = m ((c.tc : Thread Cert.KernelXattn.nD Cert.KernelXattn.τ).loc Cert.KernelXattn.main_arg3)
      ∧ r.2.mem ((c.tc : Thread Cert.KernelXattn.nD Cert.KernelXattn.τ).loc Cert.KernelXattn.main_arg4) = m ((c.tc : Thread Cert.KernelXattn.nD Cert.KernelXattn.τ).loc Cert.KernelXattn.main_arg4)
      ∧ r.2.mem ((c.tc : Thread Cert.KernelXattn.nD Cert.KernelXattn.τ).loc Cert.KernelXattn.main_arg5) = m ((c.tc : Thread Cert.KernelXattn.nD Cert.KernelXattn.τ).loc Cert.KernelXattn.main_arg5))
      ∧ r.2.sem = fun _ => 0)

def quiescent_KernelXattnIdeal [hKernelXattnIdeal : Cert.KernelXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2)
      ∧ r.2.mem ((c.tc : Thread Cert.KernelXattnIdeal.nD Cert.KernelXattnIdeal.τ).loc Cert.KernelXattnIdeal.main_arg3) = m ((c.tc : Thread Cert.KernelXattnIdeal.nD Cert.KernelXattnIdeal.τ).loc Cert.KernelXattnIdeal.main_arg3)
      ∧ r.2.mem ((c.tc : Thread Cert.KernelXattnIdeal.nD Cert.KernelXattnIdeal.τ).loc Cert.KernelXattnIdeal.main_arg4) = m ((c.tc : Thread Cert.KernelXattnIdeal.nD Cert.KernelXattnIdeal.τ).loc Cert.KernelXattnIdeal.main_arg4)
      ∧ r.2.mem ((c.tc : Thread Cert.KernelXattnIdeal.nD Cert.KernelXattnIdeal.τ).loc Cert.KernelXattnIdeal.main_arg5) = m ((c.tc : Thread Cert.KernelXattnIdeal.nD Cert.KernelXattnIdeal.τ).loc Cert.KernelXattnIdeal.main_arg5))
      ∧ r.2.sem = fun _ => 0)

def quiescent_KernelXattnIdeal_pre_finite_xattn [hKernelXattnIdeal : Cert.KernelXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal_finite_xattn m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2)
      ∧ r.2.mem ((c.tc : Thread Cert.KernelXattnIdeal.nD Cert.KernelXattnIdeal.τ).loc Cert.KernelXattnIdeal.main_arg3) = m ((c.tc : Thread Cert.KernelXattnIdeal.nD Cert.KernelXattnIdeal.τ).loc Cert.KernelXattnIdeal.main_arg3)
      ∧ r.2.mem ((c.tc : Thread Cert.KernelXattnIdeal.nD Cert.KernelXattnIdeal.τ).loc Cert.KernelXattnIdeal.main_arg4) = m ((c.tc : Thread Cert.KernelXattnIdeal.nD Cert.KernelXattnIdeal.τ).loc Cert.KernelXattnIdeal.main_arg4)
      ∧ r.2.mem ((c.tc : Thread Cert.KernelXattnIdeal.nD Cert.KernelXattnIdeal.τ).loc Cert.KernelXattnIdeal.main_arg5) = m ((c.tc : Thread Cert.KernelXattnIdeal.nD Cert.KernelXattnIdeal.τ).loc Cert.KernelXattnIdeal.main_arg5))
      ∧ r.2.sem = fun _ => 0)

def quiescent_ReferenceXattnIdeal [hReferenceXattnIdeal : Cert.ReferenceXattnIdeal.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2)
      ∧ r.2.mem ((c.tc : Thread Cert.ReferenceXattnIdeal.nD Cert.ReferenceXattnIdeal.τ).loc Cert.ReferenceXattnIdeal.main_arg3) = m ((c.tc : Thread Cert.ReferenceXattnIdeal.nD Cert.ReferenceXattnIdeal.τ).loc Cert.ReferenceXattnIdeal.main_arg3)
      ∧ r.2.mem ((c.tc : Thread Cert.ReferenceXattnIdeal.nD Cert.ReferenceXattnIdeal.τ).loc Cert.ReferenceXattnIdeal.main_arg4) = m ((c.tc : Thread Cert.ReferenceXattnIdeal.nD Cert.ReferenceXattnIdeal.τ).loc Cert.ReferenceXattnIdeal.main_arg4)
      ∧ r.2.mem ((c.tc : Thread Cert.ReferenceXattnIdeal.nD Cert.ReferenceXattnIdeal.τ).loc Cert.ReferenceXattnIdeal.main_arg5) = m ((c.tc : Thread Cert.ReferenceXattnIdeal.nD Cert.ReferenceXattnIdeal.τ).loc Cert.ReferenceXattnIdeal.main_arg5))
      ∧ r.2.sem = fun _ => 0)

def quiescent_ReferenceXattnIdeal_pre_finite_xattn [hReferenceXattnIdeal : Cert.ReferenceXattnIdeal.Facts] [hPre_finite_xattn : Cert.Pre_finite_xattn.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal_finite_xattn m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2)
      ∧ r.2.mem ((c.tc : Thread Cert.ReferenceXattnIdeal.nD Cert.ReferenceXattnIdeal.τ).loc Cert.ReferenceXattnIdeal.main_arg3) = m ((c.tc : Thread Cert.ReferenceXattnIdeal.nD Cert.ReferenceXattnIdeal.τ).loc Cert.ReferenceXattnIdeal.main_arg3)
      ∧ r.2.mem ((c.tc : Thread Cert.ReferenceXattnIdeal.nD Cert.ReferenceXattnIdeal.τ).loc Cert.ReferenceXattnIdeal.main_arg4) = m ((c.tc : Thread Cert.ReferenceXattnIdeal.nD Cert.ReferenceXattnIdeal.τ).loc Cert.ReferenceXattnIdeal.main_arg4)
      ∧ r.2.mem ((c.tc : Thread Cert.ReferenceXattnIdeal.nD Cert.ReferenceXattnIdeal.τ).loc Cert.ReferenceXattnIdeal.main_arg5) = m ((c.tc : Thread Cert.ReferenceXattnIdeal.nD Cert.ReferenceXattnIdeal.τ).loc Cert.ReferenceXattnIdeal.main_arg5))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4)
      ∧ r.2.mem ((c.tc : Thread Cert.KernelPre.nD Cert.KernelPre.τ).loc Cert.KernelPre.main_arg5) = m ((c.tc : Thread Cert.KernelPre.nD Cert.KernelPre.τ).loc Cert.KernelPre.main_arg5)
      ∧ r.2.mem ((c.tc : Thread Cert.KernelPre.nD Cert.KernelPre.τ).loc Cert.KernelPre.main_arg6) = m ((c.tc : Thread Cert.KernelPre.nD Cert.KernelPre.τ).loc Cert.KernelPre.main_arg6)
      ∧ r.2.mem ((c.tc : Thread Cert.KernelPre.nD Cert.KernelPre.τ).loc Cert.KernelPre.main_arg7) = m ((c.tc : Thread Cert.KernelPre.nD Cert.KernelPre.τ).loc Cert.KernelPre.main_arg7)
      ∧ r.2.mem ((c.tc : Thread Cert.KernelPre.nD Cert.KernelPre.τ).loc Cert.KernelPre.main_arg8) = m ((c.tc : Thread Cert.KernelPre.nD Cert.KernelPre.τ).loc Cert.KernelPre.main_arg8)
      ∧ r.2.mem ((c.tc : Thread Cert.KernelPre.nD Cert.KernelPre.τ).loc Cert.KernelPre.main_arg9) = m ((c.tc : Thread Cert.KernelPre.nD Cert.KernelPre.τ).loc Cert.KernelPre.main_arg9)
      ∧ r.2.mem ((c.tc : Thread Cert.KernelPre.nD Cert.KernelPre.τ).loc Cert.KernelPre.main_arg10) = m ((c.tc : Thread Cert.KernelPre.nD Cert.KernelPre.τ).loc Cert.KernelPre.main_arg10)
      ∧ r.2.mem ((c.tc : Thread Cert.KernelPre.nD Cert.KernelPre.τ).loc Cert.KernelPre.main_arg11) = m ((c.tc : Thread Cert.KernelPre.nD Cert.KernelPre.τ).loc Cert.KernelPre.main_arg11)
      ∧ r.2.mem ((c.tc : Thread Cert.KernelPre.nD Cert.KernelPre.τ).loc Cert.KernelPre.main_arg12) = m ((c.tc : Thread Cert.KernelPre.nD Cert.KernelPre.τ).loc Cert.KernelPre.main_arg12))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
      ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
      ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
      ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8)
      ∧ r.2.mem ((c.tc : Thread Cert.KernelPreIdeal.nD Cert.KernelPreIdeal.τ).loc Cert.KernelPreIdeal.main_arg9) = m ((c.tc : Thread Cert.KernelPreIdeal.nD Cert.KernelPreIdeal.τ).loc Cert.KernelPreIdeal.main_arg9)
      ∧ r.2.mem ((c.tc : Thread Cert.KernelPreIdeal.nD Cert.KernelPreIdeal.τ).loc Cert.KernelPreIdeal.main_arg10) = m ((c.tc : Thread Cert.KernelPreIdeal.nD Cert.KernelPreIdeal.τ).loc Cert.KernelPreIdeal.main_arg10)
      ∧ r.2.mem ((c.tc : Thread Cert.KernelPreIdeal.nD Cert.KernelPreIdeal.τ).loc Cert.KernelPreIdeal.main_arg11) = m ((c.tc : Thread Cert.KernelPreIdeal.nD Cert.KernelPreIdeal.τ).loc Cert.KernelPreIdeal.main_arg11)
      ∧ r.2.mem ((c.tc : Thread Cert.KernelPreIdeal.nD Cert.KernelPreIdeal.τ).loc Cert.KernelPreIdeal.main_arg12) = m ((c.tc : Thread Cert.KernelPreIdeal.nD Cert.KernelPreIdeal.τ).loc Cert.KernelPreIdeal.main_arg12))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5)
      ∧ r.2.mem ((c.tc : Thread Cert.ReferencePreIdeal.nD Cert.ReferencePreIdeal.τ).loc Cert.ReferencePreIdeal.main_arg6) = m ((c.tc : Thread Cert.ReferencePreIdeal.nD Cert.ReferencePreIdeal.τ).loc Cert.ReferencePreIdeal.main_arg6)
      ∧ r.2.mem ((c.tc : Thread Cert.ReferencePreIdeal.nD Cert.ReferencePreIdeal.τ).loc Cert.ReferencePreIdeal.main_arg7) = m ((c.tc : Thread Cert.ReferencePreIdeal.nD Cert.ReferencePreIdeal.τ).loc Cert.ReferencePreIdeal.main_arg7)
      ∧ r.2.mem ((c.tc : Thread Cert.ReferencePreIdeal.nD Cert.ReferencePreIdeal.τ).loc Cert.ReferencePreIdeal.main_arg8) = m ((c.tc : Thread Cert.ReferencePreIdeal.nD Cert.ReferencePreIdeal.τ).loc Cert.ReferencePreIdeal.main_arg8)
      ∧ r.2.mem ((c.tc : Thread Cert.ReferencePreIdeal.nD Cert.ReferencePreIdeal.τ).loc Cert.ReferencePreIdeal.main_arg9) = m ((c.tc : Thread Cert.ReferencePreIdeal.nD Cert.ReferencePreIdeal.τ).loc Cert.ReferencePreIdeal.main_arg9)
      ∧ r.2.mem ((c.tc : Thread Cert.ReferencePreIdeal.nD Cert.ReferencePreIdeal.τ).loc Cert.ReferencePreIdeal.main_arg10) = m ((c.tc : Thread Cert.ReferencePreIdeal.nD Cert.ReferencePreIdeal.τ).loc Cert.ReferencePreIdeal.main_arg10)
      ∧ r.2.mem ((c.tc : Thread Cert.ReferencePreIdeal.nD Cert.ReferencePreIdeal.τ).loc Cert.ReferencePreIdeal.main_arg11) = m ((c.tc : Thread Cert.ReferencePreIdeal.nD Cert.ReferencePreIdeal.τ).loc Cert.ReferencePreIdeal.main_arg11)
      ∧ r.2.mem ((c.tc : Thread Cert.ReferencePreIdeal.nD Cert.ReferencePreIdeal.τ).loc Cert.ReferencePreIdeal.main_arg12) = m ((c.tc : Thread Cert.ReferencePreIdeal.nD Cert.ReferencePreIdeal.τ).loc Cert.ReferencePreIdeal.main_arg12))
      ∧ r.2.sem = fun _ => 0)

def quiescent_KernelXfwd [hKernelXfwd : Cert.KernelXfwd.Facts] : Prop :=
  ∀ (m : (ℓ : Loc Cert.KernelXfwd.nD Cert.KernelXfwd.τ Cert.KernelXfwd.sig) → Buf (Elt Bits) ℓ) (g : Dev Cert.KernelXfwd.nD → PrngReg), Pre_KernelXfwd m →
    θ_run (Cert.KernelXfwd.defs (F := Bits)) (onTc (τ := Cert.KernelXfwd.τ) (Cert.KernelXfwd.main (F := Bits))) ⟨m, fun _ => 0, g⟩ (fun r => (∀ c : Dev Cert.KernelXfwd.nD,
      r.2.mem ((c.tc : Thread Cert.KernelXfwd.nD Cert.KernelXfwd.τ).loc Cert.KernelXfwd.main_arg0) = m ((c.tc : Thread Cert.KernelXfwd.nD Cert.KernelXfwd.τ).loc Cert.KernelXfwd.main_arg0)
      ∧ r.2.mem ((c.tc : Thread Cert.KernelXfwd.nD Cert.KernelXfwd.τ).loc Cert.KernelXfwd.main_arg1) = m ((c.tc : Thread Cert.KernelXfwd.nD Cert.KernelXfwd.τ).loc Cert.KernelXfwd.main_arg1)
      ∧ r.2.mem ((c.tc : Thread Cert.KernelXfwd.nD Cert.KernelXfwd.τ).loc Cert.KernelXfwd.main_arg2) = m ((c.tc : Thread Cert.KernelXfwd.nD Cert.KernelXfwd.τ).loc Cert.KernelXfwd.main_arg2)
      ∧ r.2.mem ((c.tc : Thread Cert.KernelXfwd.nD Cert.KernelXfwd.τ).loc Cert.KernelXfwd.main_arg3) = m ((c.tc : Thread Cert.KernelXfwd.nD Cert.KernelXfwd.τ).loc Cert.KernelXfwd.main_arg3)
      ∧ r.2.mem ((c.tc : Thread Cert.KernelXfwd.nD Cert.KernelXfwd.τ).loc Cert.KernelXfwd.main_arg4) = m ((c.tc : Thread Cert.KernelXfwd.nD Cert.KernelXfwd.τ).loc Cert.KernelXfwd.main_arg4))
      ∧ r.2.sem = fun _ => 0)

def quiescent_KernelXfwdIdeal [hKernelXfwdIdeal : Cert.KernelXfwdIdeal.Facts] : Prop :=
  ∀ (m : (ℓ : Loc Cert.KernelXfwdIdeal.nD Cert.KernelXfwdIdeal.τ Cert.KernelXfwdIdeal.sig) → Buf (Elt Ideal) ℓ) (g : Dev Cert.KernelXfwdIdeal.nD → PrngReg), Pre_KernelXfwdIdeal m →
    θ_run (Cert.KernelXfwdIdeal.defs (F := Ideal)) (onTc (τ := Cert.KernelXfwdIdeal.τ) (Cert.KernelXfwdIdeal.main (F := Ideal))) ⟨m, fun _ => 0, g⟩ (fun r => (∀ c : Dev Cert.KernelXfwdIdeal.nD,
      r.2.mem ((c.tc : Thread Cert.KernelXfwdIdeal.nD Cert.KernelXfwdIdeal.τ).loc Cert.KernelXfwdIdeal.main_arg0) = m ((c.tc : Thread Cert.KernelXfwdIdeal.nD Cert.KernelXfwdIdeal.τ).loc Cert.KernelXfwdIdeal.main_arg0)
      ∧ r.2.mem ((c.tc : Thread Cert.KernelXfwdIdeal.nD Cert.KernelXfwdIdeal.τ).loc Cert.KernelXfwdIdeal.main_arg1) = m ((c.tc : Thread Cert.KernelXfwdIdeal.nD Cert.KernelXfwdIdeal.τ).loc Cert.KernelXfwdIdeal.main_arg1)
      ∧ r.2.mem ((c.tc : Thread Cert.KernelXfwdIdeal.nD Cert.KernelXfwdIdeal.τ).loc Cert.KernelXfwdIdeal.main_arg2) = m ((c.tc : Thread Cert.KernelXfwdIdeal.nD Cert.KernelXfwdIdeal.τ).loc Cert.KernelXfwdIdeal.main_arg2)
      ∧ r.2.mem ((c.tc : Thread Cert.KernelXfwdIdeal.nD Cert.KernelXfwdIdeal.τ).loc Cert.KernelXfwdIdeal.main_arg3) = m ((c.tc : Thread Cert.KernelXfwdIdeal.nD Cert.KernelXfwdIdeal.τ).loc Cert.KernelXfwdIdeal.main_arg3)
      ∧ r.2.mem ((c.tc : Thread Cert.KernelXfwdIdeal.nD Cert.KernelXfwdIdeal.τ).loc Cert.KernelXfwdIdeal.main_arg4) = m ((c.tc : Thread Cert.KernelXfwdIdeal.nD Cert.KernelXfwdIdeal.τ).loc Cert.KernelXfwdIdeal.main_arg4))
      ∧ r.2.sem = fun _ => 0)

def quiescent_ReferenceXfwdIdeal [hReferenceXfwdIdeal : Cert.ReferenceXfwdIdeal.Facts] : Prop :=
  ∀ (m : (ℓ : Loc Cert.ReferenceXfwdIdeal.nD Cert.ReferenceXfwdIdeal.τ Cert.ReferenceXfwdIdeal.sig) → Buf (Elt Ideal) ℓ) (g : Dev Cert.ReferenceXfwdIdeal.nD → PrngReg), Pre_ReferenceXfwdIdeal m →
    θ_run (Cert.ReferenceXfwdIdeal.defs (F := Ideal)) (onTc (τ := Cert.ReferenceXfwdIdeal.τ) (Cert.ReferenceXfwdIdeal.main (F := Ideal))) ⟨m, fun _ => 0, g⟩ (fun r => (∀ c : Dev Cert.ReferenceXfwdIdeal.nD,
      r.2.mem ((c.tc : Thread Cert.ReferenceXfwdIdeal.nD Cert.ReferenceXfwdIdeal.τ).loc Cert.ReferenceXfwdIdeal.main_arg0) = m ((c.tc : Thread Cert.ReferenceXfwdIdeal.nD Cert.ReferenceXfwdIdeal.τ).loc Cert.ReferenceXfwdIdeal.main_arg0)
      ∧ r.2.mem ((c.tc : Thread Cert.ReferenceXfwdIdeal.nD Cert.ReferenceXfwdIdeal.τ).loc Cert.ReferenceXfwdIdeal.main_arg1) = m ((c.tc : Thread Cert.ReferenceXfwdIdeal.nD Cert.ReferenceXfwdIdeal.τ).loc Cert.ReferenceXfwdIdeal.main_arg1)
      ∧ r.2.mem ((c.tc : Thread Cert.ReferenceXfwdIdeal.nD Cert.ReferenceXfwdIdeal.τ).loc Cert.ReferenceXfwdIdeal.main_arg2) = m ((c.tc : Thread Cert.ReferenceXfwdIdeal.nD Cert.ReferenceXfwdIdeal.τ).loc Cert.ReferenceXfwdIdeal.main_arg2)
      ∧ r.2.mem ((c.tc : Thread Cert.ReferenceXfwdIdeal.nD Cert.ReferenceXfwdIdeal.τ).loc Cert.ReferenceXfwdIdeal.main_arg3) = m ((c.tc : Thread Cert.ReferenceXfwdIdeal.nD Cert.ReferenceXfwdIdeal.τ).loc Cert.ReferenceXfwdIdeal.main_arg3)
      ∧ r.2.mem ((c.tc : Thread Cert.ReferenceXfwdIdeal.nD Cert.ReferenceXfwdIdeal.τ).loc Cert.ReferenceXfwdIdeal.main_arg4) = m ((c.tc : Thread Cert.ReferenceXfwdIdeal.nD Cert.ReferenceXfwdIdeal.τ).loc Cert.ReferenceXfwdIdeal.main_arg4))
      ∧ r.2.sem = fun _ => 0)

def quiescent_KernelSfwd [hKernelSfwd : Cert.KernelSfwd.Facts] : Prop :=
  ∀ (m : (ℓ : Loc Cert.KernelSfwd.nD Cert.KernelSfwd.τ Cert.KernelSfwd.sig) → Buf (Elt Bits) ℓ) (g : Dev Cert.KernelSfwd.nD → PrngReg), Pre_KernelSfwd m →
    θ_run (Cert.KernelSfwd.defs (F := Bits)) (onTc (τ := Cert.KernelSfwd.τ) (Cert.KernelSfwd.main (F := Bits))) ⟨m, fun _ => 0, g⟩ (fun r => (∀ c : Dev Cert.KernelSfwd.nD,
      r.2.mem ((c.tc : Thread Cert.KernelSfwd.nD Cert.KernelSfwd.τ).loc Cert.KernelSfwd.main_arg0) = m ((c.tc : Thread Cert.KernelSfwd.nD Cert.KernelSfwd.τ).loc Cert.KernelSfwd.main_arg0)
      ∧ r.2.mem ((c.tc : Thread Cert.KernelSfwd.nD Cert.KernelSfwd.τ).loc Cert.KernelSfwd.main_arg1) = m ((c.tc : Thread Cert.KernelSfwd.nD Cert.KernelSfwd.τ).loc Cert.KernelSfwd.main_arg1)
      ∧ r.2.mem ((c.tc : Thread Cert.KernelSfwd.nD Cert.KernelSfwd.τ).loc Cert.KernelSfwd.main_arg2) = m ((c.tc : Thread Cert.KernelSfwd.nD Cert.KernelSfwd.τ).loc Cert.KernelSfwd.main_arg2)
      ∧ r.2.mem ((c.tc : Thread Cert.KernelSfwd.nD Cert.KernelSfwd.τ).loc Cert.KernelSfwd.main_arg3) = m ((c.tc : Thread Cert.KernelSfwd.nD Cert.KernelSfwd.τ).loc Cert.KernelSfwd.main_arg3)
      ∧ r.2.mem ((c.tc : Thread Cert.KernelSfwd.nD Cert.KernelSfwd.τ).loc Cert.KernelSfwd.main_arg4) = m ((c.tc : Thread Cert.KernelSfwd.nD Cert.KernelSfwd.τ).loc Cert.KernelSfwd.main_arg4)
      ∧ r.2.mem ((c.tc : Thread Cert.KernelSfwd.nD Cert.KernelSfwd.τ).loc Cert.KernelSfwd.main_arg5) = m ((c.tc : Thread Cert.KernelSfwd.nD Cert.KernelSfwd.τ).loc Cert.KernelSfwd.main_arg5)
      ∧ r.2.mem ((c.tc : Thread Cert.KernelSfwd.nD Cert.KernelSfwd.τ).loc Cert.KernelSfwd.main_arg6) = m ((c.tc : Thread Cert.KernelSfwd.nD Cert.KernelSfwd.τ).loc Cert.KernelSfwd.main_arg6)
      ∧ r.2.mem ((c.tc : Thread Cert.KernelSfwd.nD Cert.KernelSfwd.τ).loc Cert.KernelSfwd.main_arg7) = m ((c.tc : Thread Cert.KernelSfwd.nD Cert.KernelSfwd.τ).loc Cert.KernelSfwd.main_arg7))
      ∧ r.2.sem = fun _ => 0)

def quiescent_KernelSfwdIdeal [hKernelSfwdIdeal : Cert.KernelSfwdIdeal.Facts] : Prop :=
  ∀ (m : (ℓ : Loc Cert.KernelSfwdIdeal.nD Cert.KernelSfwdIdeal.τ Cert.KernelSfwdIdeal.sig) → Buf (Elt Ideal) ℓ) (g : Dev Cert.KernelSfwdIdeal.nD → PrngReg), Pre_KernelSfwdIdeal m →
    θ_run (Cert.KernelSfwdIdeal.defs (F := Ideal)) (onTc (τ := Cert.KernelSfwdIdeal.τ) (Cert.KernelSfwdIdeal.main (F := Ideal))) ⟨m, fun _ => 0, g⟩ (fun r => (∀ c : Dev Cert.KernelSfwdIdeal.nD,
      r.2.mem ((c.tc : Thread Cert.KernelSfwdIdeal.nD Cert.KernelSfwdIdeal.τ).loc Cert.KernelSfwdIdeal.main_arg0) = m ((c.tc : Thread Cert.KernelSfwdIdeal.nD Cert.KernelSfwdIdeal.τ).loc Cert.KernelSfwdIdeal.main_arg0)
      ∧ r.2.mem ((c.tc : Thread Cert.KernelSfwdIdeal.nD Cert.KernelSfwdIdeal.τ).loc Cert.KernelSfwdIdeal.main_arg1) = m ((c.tc : Thread Cert.KernelSfwdIdeal.nD Cert.KernelSfwdIdeal.τ).loc Cert.KernelSfwdIdeal.main_arg1)
      ∧ r.2.mem ((c.tc : Thread Cert.KernelSfwdIdeal.nD Cert.KernelSfwdIdeal.τ).loc Cert.KernelSfwdIdeal.main_arg2) = m ((c.tc : Thread Cert.KernelSfwdIdeal.nD Cert.KernelSfwdIdeal.τ).loc Cert.KernelSfwdIdeal.main_arg2)
      ∧ r.2.mem ((c.tc : Thread Cert.KernelSfwdIdeal.nD Cert.KernelSfwdIdeal.τ).loc Cert.KernelSfwdIdeal.main_arg3) = m ((c.tc : Thread Cert.KernelSfwdIdeal.nD Cert.KernelSfwdIdeal.τ).loc Cert.KernelSfwdIdeal.main_arg3)
      ∧ r.2.mem ((c.tc : Thread Cert.KernelSfwdIdeal.nD Cert.KernelSfwdIdeal.τ).loc Cert.KernelSfwdIdeal.main_arg4) = m ((c.tc : Thread Cert.KernelSfwdIdeal.nD Cert.KernelSfwdIdeal.τ).loc Cert.KernelSfwdIdeal.main_arg4)
      ∧ r.2.mem ((c.tc : Thread Cert.KernelSfwdIdeal.nD Cert.KernelSfwdIdeal.τ).loc Cert.KernelSfwdIdeal.main_arg5) = m ((c.tc : Thread Cert.KernelSfwdIdeal.nD Cert.KernelSfwdIdeal.τ).loc Cert.KernelSfwdIdeal.main_arg5)
      ∧ r.2.mem ((c.tc : Thread Cert.KernelSfwdIdeal.nD Cert.KernelSfwdIdeal.τ).loc Cert.KernelSfwdIdeal.main_arg6) = m ((c.tc : Thread Cert.KernelSfwdIdeal.nD Cert.KernelSfwdIdeal.τ).loc Cert.KernelSfwdIdeal.main_arg6)
      ∧ r.2.mem ((c.tc : Thread Cert.KernelSfwdIdeal.nD Cert.KernelSfwdIdeal.τ).loc Cert.KernelSfwdIdeal.main_arg7) = m ((c.tc : Thread Cert.KernelSfwdIdeal.nD Cert.KernelSfwdIdeal.τ).loc Cert.KernelSfwdIdeal.main_arg7))
      ∧ r.2.sem = fun _ => 0)

def quiescent_ReferenceSfwdIdeal [hReferenceSfwdIdeal : Cert.ReferenceSfwdIdeal.Facts] : Prop :=
  ∀ (m : (ℓ : Loc Cert.ReferenceSfwdIdeal.nD Cert.ReferenceSfwdIdeal.τ Cert.ReferenceSfwdIdeal.sig) → Buf (Elt Ideal) ℓ) (g : Dev Cert.ReferenceSfwdIdeal.nD → PrngReg), Pre_ReferenceSfwdIdeal m →
    θ_run (Cert.ReferenceSfwdIdeal.defs (F := Ideal)) (onTc (τ := Cert.ReferenceSfwdIdeal.τ) (Cert.ReferenceSfwdIdeal.main (F := Ideal))) ⟨m, fun _ => 0, g⟩ (fun r => (∀ c : Dev Cert.ReferenceSfwdIdeal.nD,
      r.2.mem ((c.tc : Thread Cert.ReferenceSfwdIdeal.nD Cert.ReferenceSfwdIdeal.τ).loc Cert.ReferenceSfwdIdeal.main_arg0) = m ((c.tc : Thread Cert.ReferenceSfwdIdeal.nD Cert.ReferenceSfwdIdeal.τ).loc Cert.ReferenceSfwdIdeal.main_arg0)
      ∧ r.2.mem ((c.tc : Thread Cert.ReferenceSfwdIdeal.nD Cert.ReferenceSfwdIdeal.τ).loc Cert.ReferenceSfwdIdeal.main_arg1) = m ((c.tc : Thread Cert.ReferenceSfwdIdeal.nD Cert.ReferenceSfwdIdeal.τ).loc Cert.ReferenceSfwdIdeal.main_arg1)
      ∧ r.2.mem ((c.tc : Thread Cert.ReferenceSfwdIdeal.nD Cert.ReferenceSfwdIdeal.τ).loc Cert.ReferenceSfwdIdeal.main_arg2) = m ((c.tc : Thread Cert.ReferenceSfwdIdeal.nD Cert.ReferenceSfwdIdeal.τ).loc Cert.ReferenceSfwdIdeal.main_arg2)
      ∧ r.2.mem ((c.tc : Thread Cert.ReferenceSfwdIdeal.nD Cert.ReferenceSfwdIdeal.τ).loc Cert.ReferenceSfwdIdeal.main_arg3) = m ((c.tc : Thread Cert.ReferenceSfwdIdeal.nD Cert.ReferenceSfwdIdeal.τ).loc Cert.ReferenceSfwdIdeal.main_arg3)
      ∧ r.2.mem ((c.tc : Thread Cert.ReferenceSfwdIdeal.nD Cert.ReferenceSfwdIdeal.τ).loc Cert.ReferenceSfwdIdeal.main_arg4) = m ((c.tc : Thread Cert.ReferenceSfwdIdeal.nD Cert.ReferenceSfwdIdeal.τ).loc Cert.ReferenceSfwdIdeal.main_arg4)
      ∧ r.2.mem ((c.tc : Thread Cert.ReferenceSfwdIdeal.nD Cert.ReferenceSfwdIdeal.τ).loc Cert.ReferenceSfwdIdeal.main_arg5) = m ((c.tc : Thread Cert.ReferenceSfwdIdeal.nD Cert.ReferenceSfwdIdeal.τ).loc Cert.ReferenceSfwdIdeal.main_arg5)
      ∧ r.2.mem ((c.tc : Thread Cert.ReferenceSfwdIdeal.nD Cert.ReferenceSfwdIdeal.τ).loc Cert.ReferenceSfwdIdeal.main_arg6) = m ((c.tc : Thread Cert.ReferenceSfwdIdeal.nD Cert.ReferenceSfwdIdeal.τ).loc Cert.ReferenceSfwdIdeal.main_arg6)
      ∧ r.2.mem ((c.tc : Thread Cert.ReferenceSfwdIdeal.nD Cert.ReferenceSfwdIdeal.τ).loc Cert.ReferenceSfwdIdeal.main_arg7) = m ((c.tc : Thread Cert.ReferenceSfwdIdeal.nD Cert.ReferenceSfwdIdeal.τ).loc Cert.ReferenceSfwdIdeal.main_arg7))
      ∧ r.2.sem = fun _ => 0)

def quiescent_KernelPfwd [hKernelPfwd : Cert.KernelPfwd.Facts] : Prop :=
  ∀ (m : (ℓ : Loc Cert.KernelPfwd.nD Cert.KernelPfwd.τ Cert.KernelPfwd.sig) → Buf (Elt Bits) ℓ) (g : Dev Cert.KernelPfwd.nD → PrngReg), Pre_KernelPfwd m →
    θ_run (Cert.KernelPfwd.defs (F := Bits)) (onTc (τ := Cert.KernelPfwd.τ) (Cert.KernelPfwd.main (F := Bits))) ⟨m, fun _ => 0, g⟩ (fun r => (∀ c : Dev Cert.KernelPfwd.nD,
      r.2.mem ((c.tc : Thread Cert.KernelPfwd.nD Cert.KernelPfwd.τ).loc Cert.KernelPfwd.main_arg0) = m ((c.tc : Thread Cert.KernelPfwd.nD Cert.KernelPfwd.τ).loc Cert.KernelPfwd.main_arg0)
      ∧ r.2.mem ((c.tc : Thread Cert.KernelPfwd.nD Cert.KernelPfwd.τ).loc Cert.KernelPfwd.main_arg1) = m ((c.tc : Thread Cert.KernelPfwd.nD Cert.KernelPfwd.τ).loc Cert.KernelPfwd.main_arg1)
      ∧ r.2.mem ((c.tc : Thread Cert.KernelPfwd.nD Cert.KernelPfwd.τ).loc Cert.KernelPfwd.main_arg2) = m ((c.tc : Thread Cert.KernelPfwd.nD Cert.KernelPfwd.τ).loc Cert.KernelPfwd.main_arg2)
      ∧ r.2.mem ((c.tc : Thread Cert.KernelPfwd.nD Cert.KernelPfwd.τ).loc Cert.KernelPfwd.main_arg3) = m ((c.tc : Thread Cert.KernelPfwd.nD Cert.KernelPfwd.τ).loc Cert.KernelPfwd.main_arg3)
      ∧ r.2.mem ((c.tc : Thread Cert.KernelPfwd.nD Cert.KernelPfwd.τ).loc Cert.KernelPfwd.main_arg4) = m ((c.tc : Thread Cert.KernelPfwd.nD Cert.KernelPfwd.τ).loc Cert.KernelPfwd.main_arg4)
      ∧ r.2.mem ((c.tc : Thread Cert.KernelPfwd.nD Cert.KernelPfwd.τ).loc Cert.KernelPfwd.main_arg5) = m ((c.tc : Thread Cert.KernelPfwd.nD Cert.KernelPfwd.τ).loc Cert.KernelPfwd.main_arg5)
      ∧ r.2.mem ((c.tc : Thread Cert.KernelPfwd.nD Cert.KernelPfwd.τ).loc Cert.KernelPfwd.main_arg6) = m ((c.tc : Thread Cert.KernelPfwd.nD Cert.KernelPfwd.τ).loc Cert.KernelPfwd.main_arg6)
      ∧ r.2.mem ((c.tc : Thread Cert.KernelPfwd.nD Cert.KernelPfwd.τ).loc Cert.KernelPfwd.main_arg7) = m ((c.tc : Thread Cert.KernelPfwd.nD Cert.KernelPfwd.τ).loc Cert.KernelPfwd.main_arg7)
      ∧ r.2.mem ((c.tc : Thread Cert.KernelPfwd.nD Cert.KernelPfwd.τ).loc Cert.KernelPfwd.main_arg8) = m ((c.tc : Thread Cert.KernelPfwd.nD Cert.KernelPfwd.τ).loc Cert.KernelPfwd.main_arg8)
      ∧ r.2.mem ((c.tc : Thread Cert.KernelPfwd.nD Cert.KernelPfwd.τ).loc Cert.KernelPfwd.main_arg9) = m ((c.tc : Thread Cert.KernelPfwd.nD Cert.KernelPfwd.τ).loc Cert.KernelPfwd.main_arg9)
      ∧ r.2.mem ((c.tc : Thread Cert.KernelPfwd.nD Cert.KernelPfwd.τ).loc Cert.KernelPfwd.main_arg10) = m ((c.tc : Thread Cert.KernelPfwd.nD Cert.KernelPfwd.τ).loc Cert.KernelPfwd.main_arg10)
      ∧ r.2.mem ((c.tc : Thread Cert.KernelPfwd.nD Cert.KernelPfwd.τ).loc Cert.KernelPfwd.main_arg11) = m ((c.tc : Thread Cert.KernelPfwd.nD Cert.KernelPfwd.τ).loc Cert.KernelPfwd.main_arg11)
      ∧ r.2.mem ((c.tc : Thread Cert.KernelPfwd.nD Cert.KernelPfwd.τ).loc Cert.KernelPfwd.main_arg12) = m ((c.tc : Thread Cert.KernelPfwd.nD Cert.KernelPfwd.τ).loc Cert.KernelPfwd.main_arg12))
      ∧ r.2.sem = fun _ => 0)

def quiescent_KernelPfwdIdeal [hKernelPfwdIdeal : Cert.KernelPfwdIdeal.Facts] : Prop :=
  ∀ (m : (ℓ : Loc Cert.KernelPfwdIdeal.nD Cert.KernelPfwdIdeal.τ Cert.KernelPfwdIdeal.sig) → Buf (Elt Ideal) ℓ) (g : Dev Cert.KernelPfwdIdeal.nD → PrngReg), Pre_KernelPfwdIdeal m →
    θ_run (Cert.KernelPfwdIdeal.defs (F := Ideal)) (onTc (τ := Cert.KernelPfwdIdeal.τ) (Cert.KernelPfwdIdeal.main (F := Ideal))) ⟨m, fun _ => 0, g⟩ (fun r => (∀ c : Dev Cert.KernelPfwdIdeal.nD,
      r.2.mem ((c.tc : Thread Cert.KernelPfwdIdeal.nD Cert.KernelPfwdIdeal.τ).loc Cert.KernelPfwdIdeal.main_arg0) = m ((c.tc : Thread Cert.KernelPfwdIdeal.nD Cert.KernelPfwdIdeal.τ).loc Cert.KernelPfwdIdeal.main_arg0)
      ∧ r.2.mem ((c.tc : Thread Cert.KernelPfwdIdeal.nD Cert.KernelPfwdIdeal.τ).loc Cert.KernelPfwdIdeal.main_arg1) = m ((c.tc : Thread Cert.KernelPfwdIdeal.nD Cert.KernelPfwdIdeal.τ).loc Cert.KernelPfwdIdeal.main_arg1)
      ∧ r.2.mem ((c.tc : Thread Cert.KernelPfwdIdeal.nD Cert.KernelPfwdIdeal.τ).loc Cert.KernelPfwdIdeal.main_arg2) = m ((c.tc : Thread Cert.KernelPfwdIdeal.nD Cert.KernelPfwdIdeal.τ).loc Cert.KernelPfwdIdeal.main_arg2)
      ∧ r.2.mem ((c.tc : Thread Cert.KernelPfwdIdeal.nD Cert.KernelPfwdIdeal.τ).loc Cert.KernelPfwdIdeal.main_arg3) = m ((c.tc : Thread Cert.KernelPfwdIdeal.nD Cert.KernelPfwdIdeal.τ).loc Cert.KernelPfwdIdeal.main_arg3)
      ∧ r.2.mem ((c.tc : Thread Cert.KernelPfwdIdeal.nD Cert.KernelPfwdIdeal.τ).loc Cert.KernelPfwdIdeal.main_arg4) = m ((c.tc : Thread Cert.KernelPfwdIdeal.nD Cert.KernelPfwdIdeal.τ).loc Cert.KernelPfwdIdeal.main_arg4)
      ∧ r.2.mem ((c.tc : Thread Cert.KernelPfwdIdeal.nD Cert.KernelPfwdIdeal.τ).loc Cert.KernelPfwdIdeal.main_arg5) = m ((c.tc : Thread Cert.KernelPfwdIdeal.nD Cert.KernelPfwdIdeal.τ).loc Cert.KernelPfwdIdeal.main_arg5)
      ∧ r.2.mem ((c.tc : Thread Cert.KernelPfwdIdeal.nD Cert.KernelPfwdIdeal.τ).loc Cert.KernelPfwdIdeal.main_arg6) = m ((c.tc : Thread Cert.KernelPfwdIdeal.nD Cert.KernelPfwdIdeal.τ).loc Cert.KernelPfwdIdeal.main_arg6)
      ∧ r.2.mem ((c.tc : Thread Cert.KernelPfwdIdeal.nD Cert.KernelPfwdIdeal.τ).loc Cert.KernelPfwdIdeal.main_arg7) = m ((c.tc : Thread Cert.KernelPfwdIdeal.nD Cert.KernelPfwdIdeal.τ).loc Cert.KernelPfwdIdeal.main_arg7)
      ∧ r.2.mem ((c.tc : Thread Cert.KernelPfwdIdeal.nD Cert.KernelPfwdIdeal.τ).loc Cert.KernelPfwdIdeal.main_arg8) = m ((c.tc : Thread Cert.KernelPfwdIdeal.nD Cert.KernelPfwdIdeal.τ).loc Cert.KernelPfwdIdeal.main_arg8)
      ∧ r.2.mem ((c.tc : Thread Cert.KernelPfwdIdeal.nD Cert.KernelPfwdIdeal.τ).loc Cert.KernelPfwdIdeal.main_arg9) = m ((c.tc : Thread Cert.KernelPfwdIdeal.nD Cert.KernelPfwdIdeal.τ).loc Cert.KernelPfwdIdeal.main_arg9)
      ∧ r.2.mem ((c.tc : Thread Cert.KernelPfwdIdeal.nD Cert.KernelPfwdIdeal.τ).loc Cert.KernelPfwdIdeal.main_arg10) = m ((c.tc : Thread Cert.KernelPfwdIdeal.nD Cert.KernelPfwdIdeal.τ).loc Cert.KernelPfwdIdeal.main_arg10)
      ∧ r.2.mem ((c.tc : Thread Cert.KernelPfwdIdeal.nD Cert.KernelPfwdIdeal.τ).loc Cert.KernelPfwdIdeal.main_arg11) = m ((c.tc : Thread Cert.KernelPfwdIdeal.nD Cert.KernelPfwdIdeal.τ).loc Cert.KernelPfwdIdeal.main_arg11)
      ∧ r.2.mem ((c.tc : Thread Cert.KernelPfwdIdeal.nD Cert.KernelPfwdIdeal.τ).loc Cert.KernelPfwdIdeal.main_arg12) = m ((c.tc : Thread Cert.KernelPfwdIdeal.nD Cert.KernelPfwdIdeal.τ).loc Cert.KernelPfwdIdeal.main_arg12))
      ∧ r.2.sem = fun _ => 0)

def quiescent_ReferencePfwdIdeal [hReferencePfwdIdeal : Cert.ReferencePfwdIdeal.Facts] : Prop :=
  ∀ (m : (ℓ : Loc Cert.ReferencePfwdIdeal.nD Cert.ReferencePfwdIdeal.τ Cert.ReferencePfwdIdeal.sig) → Buf (Elt Ideal) ℓ) (g : Dev Cert.ReferencePfwdIdeal.nD → PrngReg), Pre_ReferencePfwdIdeal m →
    θ_run (Cert.ReferencePfwdIdeal.defs (F := Ideal)) (onTc (τ := Cert.ReferencePfwdIdeal.τ) (Cert.ReferencePfwdIdeal.main (F := Ideal))) ⟨m, fun _ => 0, g⟩ (fun r => (∀ c : Dev Cert.ReferencePfwdIdeal.nD,
      r.2.mem ((c.tc : Thread Cert.ReferencePfwdIdeal.nD Cert.ReferencePfwdIdeal.τ).loc Cert.ReferencePfwdIdeal.main_arg0) = m ((c.tc : Thread Cert.ReferencePfwdIdeal.nD Cert.ReferencePfwdIdeal.τ).loc Cert.ReferencePfwdIdeal.main_arg0)
      ∧ r.2.mem ((c.tc : Thread Cert.ReferencePfwdIdeal.nD Cert.ReferencePfwdIdeal.τ).loc Cert.ReferencePfwdIdeal.main_arg1) = m ((c.tc : Thread Cert.ReferencePfwdIdeal.nD Cert.ReferencePfwdIdeal.τ).loc Cert.ReferencePfwdIdeal.main_arg1)
      ∧ r.2.mem ((c.tc : Thread Cert.ReferencePfwdIdeal.nD Cert.ReferencePfwdIdeal.τ).loc Cert.ReferencePfwdIdeal.main_arg2) = m ((c.tc : Thread Cert.ReferencePfwdIdeal.nD Cert.ReferencePfwdIdeal.τ).loc Cert.ReferencePfwdIdeal.main_arg2)
      ∧ r.2.mem ((c.tc : Thread Cert.ReferencePfwdIdeal.nD Cert.ReferencePfwdIdeal.τ).loc Cert.ReferencePfwdIdeal.main_arg3) = m ((c.tc : Thread Cert.ReferencePfwdIdeal.nD Cert.ReferencePfwdIdeal.τ).loc Cert.ReferencePfwdIdeal.main_arg3)
      ∧ r.2.mem ((c.tc : Thread Cert.ReferencePfwdIdeal.nD Cert.ReferencePfwdIdeal.τ).loc Cert.ReferencePfwdIdeal.main_arg4) = m ((c.tc : Thread Cert.ReferencePfwdIdeal.nD Cert.ReferencePfwdIdeal.τ).loc Cert.ReferencePfwdIdeal.main_arg4)
      ∧ r.2.mem ((c.tc : Thread Cert.ReferencePfwdIdeal.nD Cert.ReferencePfwdIdeal.τ).loc Cert.ReferencePfwdIdeal.main_arg5) = m ((c.tc : Thread Cert.ReferencePfwdIdeal.nD Cert.ReferencePfwdIdeal.τ).loc Cert.ReferencePfwdIdeal.main_arg5)
      ∧ r.2.mem ((c.tc : Thread Cert.ReferencePfwdIdeal.nD Cert.ReferencePfwdIdeal.τ).loc Cert.ReferencePfwdIdeal.main_arg6) = m ((c.tc : Thread Cert.ReferencePfwdIdeal.nD Cert.ReferencePfwdIdeal.τ).loc Cert.ReferencePfwdIdeal.main_arg6)
      ∧ r.2.mem ((c.tc : Thread Cert.ReferencePfwdIdeal.nD Cert.ReferencePfwdIdeal.τ).loc Cert.ReferencePfwdIdeal.main_arg7) = m ((c.tc : Thread Cert.ReferencePfwdIdeal.nD Cert.ReferencePfwdIdeal.τ).loc Cert.ReferencePfwdIdeal.main_arg7)
      ∧ r.2.mem ((c.tc : Thread Cert.ReferencePfwdIdeal.nD Cert.ReferencePfwdIdeal.τ).loc Cert.ReferencePfwdIdeal.main_arg8) = m ((c.tc : Thread Cert.ReferencePfwdIdeal.nD Cert.ReferencePfwdIdeal.τ).loc Cert.ReferencePfwdIdeal.main_arg8)
      ∧ r.2.mem ((c.tc : Thread Cert.ReferencePfwdIdeal.nD Cert.ReferencePfwdIdeal.τ).loc Cert.ReferencePfwdIdeal.main_arg9) = m ((c.tc : Thread Cert.ReferencePfwdIdeal.nD Cert.ReferencePfwdIdeal.τ).loc Cert.ReferencePfwdIdeal.main_arg9)
      ∧ r.2.mem ((c.tc : Thread Cert.ReferencePfwdIdeal.nD Cert.ReferencePfwdIdeal.τ).loc Cert.ReferencePfwdIdeal.main_arg10) = m ((c.tc : Thread Cert.ReferencePfwdIdeal.nD Cert.ReferencePfwdIdeal.τ).loc Cert.ReferencePfwdIdeal.main_arg10)
      ∧ r.2.mem ((c.tc : Thread Cert.ReferencePfwdIdeal.nD Cert.ReferencePfwdIdeal.τ).loc Cert.ReferencePfwdIdeal.main_arg11) = m ((c.tc : Thread Cert.ReferencePfwdIdeal.nD Cert.ReferencePfwdIdeal.τ).loc Cert.ReferencePfwdIdeal.main_arg11)
      ∧ r.2.mem ((c.tc : Thread Cert.ReferencePfwdIdeal.nD Cert.ReferencePfwdIdeal.τ).loc Cert.ReferencePfwdIdeal.main_arg12) = m ((c.tc : Thread Cert.ReferencePfwdIdeal.nD Cert.ReferencePfwdIdeal.τ).loc Cert.ReferencePfwdIdeal.main_arg12))
      ∧ r.2.sem = fun _ => 0)

def quiescent_KernelMfwd [hKernelMfwd : Cert.KernelMfwd.Facts] : Prop :=
  ∀ (m : (ℓ : Loc Cert.KernelMfwd.nD Cert.KernelMfwd.τ Cert.KernelMfwd.sig) → Buf (Elt Bits) ℓ) (g : Dev Cert.KernelMfwd.nD → PrngReg), Pre_KernelMfwd m →
    θ_run (Cert.KernelMfwd.defs (F := Bits)) (onTc (τ := Cert.KernelMfwd.τ) (Cert.KernelMfwd.main (F := Bits))) ⟨m, fun _ => 0, g⟩ (fun r => (∀ c : Dev Cert.KernelMfwd.nD,
      r.2.mem ((c.tc : Thread Cert.KernelMfwd.nD Cert.KernelMfwd.τ).loc Cert.KernelMfwd.main_arg0) = m ((c.tc : Thread Cert.KernelMfwd.nD Cert.KernelMfwd.τ).loc Cert.KernelMfwd.main_arg0)
      ∧ r.2.mem ((c.tc : Thread Cert.KernelMfwd.nD Cert.KernelMfwd.τ).loc Cert.KernelMfwd.main_arg1) = m ((c.tc : Thread Cert.KernelMfwd.nD Cert.KernelMfwd.τ).loc Cert.KernelMfwd.main_arg1)
      ∧ r.2.mem ((c.tc : Thread Cert.KernelMfwd.nD Cert.KernelMfwd.τ).loc Cert.KernelMfwd.main_arg2) = m ((c.tc : Thread Cert.KernelMfwd.nD Cert.KernelMfwd.τ).loc Cert.KernelMfwd.main_arg2)
      ∧ r.2.mem ((c.tc : Thread Cert.KernelMfwd.nD Cert.KernelMfwd.τ).loc Cert.KernelMfwd.main_arg3) = m ((c.tc : Thread Cert.KernelMfwd.nD Cert.KernelMfwd.τ).loc Cert.KernelMfwd.main_arg3))
      ∧ r.2.sem = fun _ => 0)

def quiescent_KernelMfwdIdeal [hKernelMfwdIdeal : Cert.KernelMfwdIdeal.Facts] : Prop :=
  ∀ (m : (ℓ : Loc Cert.KernelMfwdIdeal.nD Cert.KernelMfwdIdeal.τ Cert.KernelMfwdIdeal.sig) → Buf (Elt Ideal) ℓ) (g : Dev Cert.KernelMfwdIdeal.nD → PrngReg), Pre_KernelMfwdIdeal m →
    θ_run (Cert.KernelMfwdIdeal.defs (F := Ideal)) (onTc (τ := Cert.KernelMfwdIdeal.τ) (Cert.KernelMfwdIdeal.main (F := Ideal))) ⟨m, fun _ => 0, g⟩ (fun r => (∀ c : Dev Cert.KernelMfwdIdeal.nD,
      r.2.mem ((c.tc : Thread Cert.KernelMfwdIdeal.nD Cert.KernelMfwdIdeal.τ).loc Cert.KernelMfwdIdeal.main_arg0) = m ((c.tc : Thread Cert.KernelMfwdIdeal.nD Cert.KernelMfwdIdeal.τ).loc Cert.KernelMfwdIdeal.main_arg0)
      ∧ r.2.mem ((c.tc : Thread Cert.KernelMfwdIdeal.nD Cert.KernelMfwdIdeal.τ).loc Cert.KernelMfwdIdeal.main_arg1) = m ((c.tc : Thread Cert.KernelMfwdIdeal.nD Cert.KernelMfwdIdeal.τ).loc Cert.KernelMfwdIdeal.main_arg1)
      ∧ r.2.mem ((c.tc : Thread Cert.KernelMfwdIdeal.nD Cert.KernelMfwdIdeal.τ).loc Cert.KernelMfwdIdeal.main_arg2) = m ((c.tc : Thread Cert.KernelMfwdIdeal.nD Cert.KernelMfwdIdeal.τ).loc Cert.KernelMfwdIdeal.main_arg2)
      ∧ r.2.mem ((c.tc : Thread Cert.KernelMfwdIdeal.nD Cert.KernelMfwdIdeal.τ).loc Cert.KernelMfwdIdeal.main_arg3) = m ((c.tc : Thread Cert.KernelMfwdIdeal.nD Cert.KernelMfwdIdeal.τ).loc Cert.KernelMfwdIdeal.main_arg3))
      ∧ r.2.sem = fun _ => 0)

def quiescent_ReferenceMfwdIdeal [hReferenceMfwdIdeal : Cert.ReferenceMfwdIdeal.Facts] : Prop :=
  ∀ (m : (ℓ : Loc Cert.ReferenceMfwdIdeal.nD Cert.ReferenceMfwdIdeal.τ Cert.ReferenceMfwdIdeal.sig) → Buf (Elt Ideal) ℓ) (g : Dev Cert.ReferenceMfwdIdeal.nD → PrngReg), Pre_ReferenceMfwdIdeal m →
    θ_run (Cert.ReferenceMfwdIdeal.defs (F := Ideal)) (onTc (τ := Cert.ReferenceMfwdIdeal.τ) (Cert.ReferenceMfwdIdeal.main (F := Ideal))) ⟨m, fun _ => 0, g⟩ (fun r => (∀ c : Dev Cert.ReferenceMfwdIdeal.nD,
      r.2.mem ((c.tc : Thread Cert.ReferenceMfwdIdeal.nD Cert.ReferenceMfwdIdeal.τ).loc Cert.ReferenceMfwdIdeal.main_arg0) = m ((c.tc : Thread Cert.ReferenceMfwdIdeal.nD Cert.ReferenceMfwdIdeal.τ).loc Cert.ReferenceMfwdIdeal.main_arg0)
      ∧ r.2.mem ((c.tc : Thread Cert.ReferenceMfwdIdeal.nD Cert.ReferenceMfwdIdeal.τ).loc Cert.ReferenceMfwdIdeal.main_arg1) = m ((c.tc : Thread Cert.ReferenceMfwdIdeal.nD Cert.ReferenceMfwdIdeal.τ).loc Cert.ReferenceMfwdIdeal.main_arg1)
      ∧ r.2.mem ((c.tc : Thread Cert.ReferenceMfwdIdeal.nD Cert.ReferenceMfwdIdeal.τ).loc Cert.ReferenceMfwdIdeal.main_arg2) = m ((c.tc : Thread Cert.ReferenceMfwdIdeal.nD Cert.ReferenceMfwdIdeal.τ).loc Cert.ReferenceMfwdIdeal.main_arg2)
      ∧ r.2.mem ((c.tc : Thread Cert.ReferenceMfwdIdeal.nD Cert.ReferenceMfwdIdeal.τ).loc Cert.ReferenceMfwdIdeal.main_arg3) = m ((c.tc : Thread Cert.ReferenceMfwdIdeal.nD Cert.ReferenceMfwdIdeal.τ).loc Cert.ReferenceMfwdIdeal.main_arg3))
      ∧ r.2.sem = fun _ => 0)

def quiescent_KernelQfwd [hKernelQfwd : Cert.KernelQfwd.Facts] : Prop :=
  ∀ (m : (ℓ : Loc Cert.KernelQfwd.nD Cert.KernelQfwd.τ Cert.KernelQfwd.sig) → Buf (Elt Bits) ℓ) (g : Dev Cert.KernelQfwd.nD → PrngReg), Pre_KernelQfwd m →
    θ_run (Cert.KernelQfwd.defs (F := Bits)) (onTc (τ := Cert.KernelQfwd.τ) (Cert.KernelQfwd.main (F := Bits))) ⟨m, fun _ => 0, g⟩ (fun r => (∀ c : Dev Cert.KernelQfwd.nD,
      r.2.mem ((c.tc : Thread Cert.KernelQfwd.nD Cert.KernelQfwd.τ).loc Cert.KernelQfwd.main_arg0) = m ((c.tc : Thread Cert.KernelQfwd.nD Cert.KernelQfwd.τ).loc Cert.KernelQfwd.main_arg0)
      ∧ r.2.mem ((c.tc : Thread Cert.KernelQfwd.nD Cert.KernelQfwd.τ).loc Cert.KernelQfwd.main_arg1) = m ((c.tc : Thread Cert.KernelQfwd.nD Cert.KernelQfwd.τ).loc Cert.KernelQfwd.main_arg1)
      ∧ r.2.mem ((c.tc : Thread Cert.KernelQfwd.nD Cert.KernelQfwd.τ).loc Cert.KernelQfwd.main_arg2) = m ((c.tc : Thread Cert.KernelQfwd.nD Cert.KernelQfwd.τ).loc Cert.KernelQfwd.main_arg2)
      ∧ r.2.mem ((c.tc : Thread Cert.KernelQfwd.nD Cert.KernelQfwd.τ).loc Cert.KernelQfwd.main_arg3) = m ((c.tc : Thread Cert.KernelQfwd.nD Cert.KernelQfwd.τ).loc Cert.KernelQfwd.main_arg3)
      ∧ r.2.mem ((c.tc : Thread Cert.KernelQfwd.nD Cert.KernelQfwd.τ).loc Cert.KernelQfwd.main_arg4) = m ((c.tc : Thread Cert.KernelQfwd.nD Cert.KernelQfwd.τ).loc Cert.KernelQfwd.main_arg4)
      ∧ r.2.mem ((c.tc : Thread Cert.KernelQfwd.nD Cert.KernelQfwd.τ).loc Cert.KernelQfwd.main_arg5) = m ((c.tc : Thread Cert.KernelQfwd.nD Cert.KernelQfwd.τ).loc Cert.KernelQfwd.main_arg5)
      ∧ r.2.mem ((c.tc : Thread Cert.KernelQfwd.nD Cert.KernelQfwd.τ).loc Cert.KernelQfwd.main_arg6) = m ((c.tc : Thread Cert.KernelQfwd.nD Cert.KernelQfwd.τ).loc Cert.KernelQfwd.main_arg6)
      ∧ r.2.mem ((c.tc : Thread Cert.KernelQfwd.nD Cert.KernelQfwd.τ).loc Cert.KernelQfwd.main_arg7) = m ((c.tc : Thread Cert.KernelQfwd.nD Cert.KernelQfwd.τ).loc Cert.KernelQfwd.main_arg7)
      ∧ r.2.mem ((c.tc : Thread Cert.KernelQfwd.nD Cert.KernelQfwd.τ).loc Cert.KernelQfwd.main_arg8) = m ((c.tc : Thread Cert.KernelQfwd.nD Cert.KernelQfwd.τ).loc Cert.KernelQfwd.main_arg8))
      ∧ r.2.sem = fun _ => 0)

def quiescent_KernelQfwdIdeal [hKernelQfwdIdeal : Cert.KernelQfwdIdeal.Facts] : Prop :=
  ∀ (m : (ℓ : Loc Cert.KernelQfwdIdeal.nD Cert.KernelQfwdIdeal.τ Cert.KernelQfwdIdeal.sig) → Buf (Elt Ideal) ℓ) (g : Dev Cert.KernelQfwdIdeal.nD → PrngReg), Pre_KernelQfwdIdeal m →
    θ_run (Cert.KernelQfwdIdeal.defs (F := Ideal)) (onTc (τ := Cert.KernelQfwdIdeal.τ) (Cert.KernelQfwdIdeal.main (F := Ideal))) ⟨m, fun _ => 0, g⟩ (fun r => (∀ c : Dev Cert.KernelQfwdIdeal.nD,
      r.2.mem ((c.tc : Thread Cert.KernelQfwdIdeal.nD Cert.KernelQfwdIdeal.τ).loc Cert.KernelQfwdIdeal.main_arg0) = m ((c.tc : Thread Cert.KernelQfwdIdeal.nD Cert.KernelQfwdIdeal.τ).loc Cert.KernelQfwdIdeal.main_arg0)
      ∧ r.2.mem ((c.tc : Thread Cert.KernelQfwdIdeal.nD Cert.KernelQfwdIdeal.τ).loc Cert.KernelQfwdIdeal.main_arg1) = m ((c.tc : Thread Cert.KernelQfwdIdeal.nD Cert.KernelQfwdIdeal.τ).loc Cert.KernelQfwdIdeal.main_arg1)
      ∧ r.2.mem ((c.tc : Thread Cert.KernelQfwdIdeal.nD Cert.KernelQfwdIdeal.τ).loc Cert.KernelQfwdIdeal.main_arg2) = m ((c.tc : Thread Cert.KernelQfwdIdeal.nD Cert.KernelQfwdIdeal.τ).loc Cert.KernelQfwdIdeal.main_arg2)
      ∧ r.2.mem ((c.tc : Thread Cert.KernelQfwdIdeal.nD Cert.KernelQfwdIdeal.τ).loc Cert.KernelQfwdIdeal.main_arg3) = m ((c.tc : Thread Cert.KernelQfwdIdeal.nD Cert.KernelQfwdIdeal.τ).loc Cert.KernelQfwdIdeal.main_arg3)
      ∧ r.2.mem ((c.tc : Thread Cert.KernelQfwdIdeal.nD Cert.KernelQfwdIdeal.τ).loc Cert.KernelQfwdIdeal.main_arg4) = m ((c.tc : Thread Cert.KernelQfwdIdeal.nD Cert.KernelQfwdIdeal.τ).loc Cert.KernelQfwdIdeal.main_arg4)
      ∧ r.2.mem ((c.tc : Thread Cert.KernelQfwdIdeal.nD Cert.KernelQfwdIdeal.τ).loc Cert.KernelQfwdIdeal.main_arg5) = m ((c.tc : Thread Cert.KernelQfwdIdeal.nD Cert.KernelQfwdIdeal.τ).loc Cert.KernelQfwdIdeal.main_arg5)
      ∧ r.2.mem ((c.tc : Thread Cert.KernelQfwdIdeal.nD Cert.KernelQfwdIdeal.τ).loc Cert.KernelQfwdIdeal.main_arg6) = m ((c.tc : Thread Cert.KernelQfwdIdeal.nD Cert.KernelQfwdIdeal.τ).loc Cert.KernelQfwdIdeal.main_arg6)
      ∧ r.2.mem ((c.tc : Thread Cert.KernelQfwdIdeal.nD Cert.KernelQfwdIdeal.τ).loc Cert.KernelQfwdIdeal.main_arg7) = m ((c.tc : Thread Cert.KernelQfwdIdeal.nD Cert.KernelQfwdIdeal.τ).loc Cert.KernelQfwdIdeal.main_arg7)
      ∧ r.2.mem ((c.tc : Thread Cert.KernelQfwdIdeal.nD Cert.KernelQfwdIdeal.τ).loc Cert.KernelQfwdIdeal.main_arg8) = m ((c.tc : Thread Cert.KernelQfwdIdeal.nD Cert.KernelQfwdIdeal.τ).loc Cert.KernelQfwdIdeal.main_arg8))
      ∧ r.2.sem = fun _ => 0)

def quiescent_ReferenceQfwdIdeal [hReferenceQfwdIdeal : Cert.ReferenceQfwdIdeal.Facts] : Prop :=
  ∀ (m : (ℓ : Loc Cert.ReferenceQfwdIdeal.nD Cert.ReferenceQfwdIdeal.τ Cert.ReferenceQfwdIdeal.sig) → Buf (Elt Ideal) ℓ) (g : Dev Cert.ReferenceQfwdIdeal.nD → PrngReg), Pre_ReferenceQfwdIdeal m →
    θ_run (Cert.ReferenceQfwdIdeal.defs (F := Ideal)) (onTc (τ := Cert.ReferenceQfwdIdeal.τ) (Cert.ReferenceQfwdIdeal.main (F := Ideal))) ⟨m, fun _ => 0, g⟩ (fun r => (∀ c : Dev Cert.ReferenceQfwdIdeal.nD,
      r.2.mem ((c.tc : Thread Cert.ReferenceQfwdIdeal.nD Cert.ReferenceQfwdIdeal.τ).loc Cert.ReferenceQfwdIdeal.main_arg0) = m ((c.tc : Thread Cert.ReferenceQfwdIdeal.nD Cert.ReferenceQfwdIdeal.τ).loc Cert.ReferenceQfwdIdeal.main_arg0)
      ∧ r.2.mem ((c.tc : Thread Cert.ReferenceQfwdIdeal.nD Cert.ReferenceQfwdIdeal.τ).loc Cert.ReferenceQfwdIdeal.main_arg1) = m ((c.tc : Thread Cert.ReferenceQfwdIdeal.nD Cert.ReferenceQfwdIdeal.τ).loc Cert.ReferenceQfwdIdeal.main_arg1)
      ∧ r.2.mem ((c.tc : Thread Cert.ReferenceQfwdIdeal.nD Cert.ReferenceQfwdIdeal.τ).loc Cert.ReferenceQfwdIdeal.main_arg2) = m ((c.tc : Thread Cert.ReferenceQfwdIdeal.nD Cert.ReferenceQfwdIdeal.τ).loc Cert.ReferenceQfwdIdeal.main_arg2)
      ∧ r.2.mem ((c.tc : Thread Cert.ReferenceQfwdIdeal.nD Cert.ReferenceQfwdIdeal.τ).loc Cert.ReferenceQfwdIdeal.main_arg3) = m ((c.tc : Thread Cert.ReferenceQfwdIdeal.nD Cert.ReferenceQfwdIdeal.τ).loc Cert.ReferenceQfwdIdeal.main_arg3)
      ∧ r.2.mem ((c.tc : Thread Cert.ReferenceQfwdIdeal.nD Cert.ReferenceQfwdIdeal.τ).loc Cert.ReferenceQfwdIdeal.main_arg4) = m ((c.tc : Thread Cert.ReferenceQfwdIdeal.nD Cert.ReferenceQfwdIdeal.τ).loc Cert.ReferenceQfwdIdeal.main_arg4)
      ∧ r.2.mem ((c.tc : Thread Cert.ReferenceQfwdIdeal.nD Cert.ReferenceQfwdIdeal.τ).loc Cert.ReferenceQfwdIdeal.main_arg5) = m ((c.tc : Thread Cert.ReferenceQfwdIdeal.nD Cert.ReferenceQfwdIdeal.τ).loc Cert.ReferenceQfwdIdeal.main_arg5)
      ∧ r.2.mem ((c.tc : Thread Cert.ReferenceQfwdIdeal.nD Cert.ReferenceQfwdIdeal.τ).loc Cert.ReferenceQfwdIdeal.main_arg6) = m ((c.tc : Thread Cert.ReferenceQfwdIdeal.nD Cert.ReferenceQfwdIdeal.τ).loc Cert.ReferenceQfwdIdeal.main_arg6)
      ∧ r.2.mem ((c.tc : Thread Cert.ReferenceQfwdIdeal.nD Cert.ReferenceQfwdIdeal.τ).loc Cert.ReferenceQfwdIdeal.main_arg7) = m ((c.tc : Thread Cert.ReferenceQfwdIdeal.nD Cert.ReferenceQfwdIdeal.τ).loc Cert.ReferenceQfwdIdeal.main_arg7)
      ∧ r.2.mem ((c.tc : Thread Cert.ReferenceQfwdIdeal.nD Cert.ReferenceQfwdIdeal.τ).loc Cert.ReferenceQfwdIdeal.main_arg8) = m ((c.tc : Thread Cert.ReferenceQfwdIdeal.nD Cert.ReferenceQfwdIdeal.τ).loc Cert.ReferenceQfwdIdeal.main_arg8))
      ∧ r.2.sem = fun _ => 0)

def quiescent_KernelMmtn [hKernelMmtn : Cert.KernelMmtn.Facts] : Prop :=
  ∀ (m : (ℓ : Loc Cert.KernelMmtn.nD Cert.KernelMmtn.τ Cert.KernelMmtn.sig) → Buf (Elt Bits) ℓ) (g : Dev Cert.KernelMmtn.nD → PrngReg), Pre_KernelMmtn m →
    θ_run (Cert.KernelMmtn.defs (F := Bits)) (onTc (τ := Cert.KernelMmtn.τ) (Cert.KernelMmtn.main (F := Bits))) ⟨m, fun _ => 0, g⟩ (fun r => (∀ c : Dev Cert.KernelMmtn.nD,
      r.2.mem ((c.tc : Thread Cert.KernelMmtn.nD Cert.KernelMmtn.τ).loc Cert.KernelMmtn.main_arg0) = m ((c.tc : Thread Cert.KernelMmtn.nD Cert.KernelMmtn.τ).loc Cert.KernelMmtn.main_arg0)
      ∧ r.2.mem ((c.tc : Thread Cert.KernelMmtn.nD Cert.KernelMmtn.τ).loc Cert.KernelMmtn.main_arg1) = m ((c.tc : Thread Cert.KernelMmtn.nD Cert.KernelMmtn.τ).loc Cert.KernelMmtn.main_arg1))
      ∧ r.2.sem = fun _ => 0)

def quiescent_KernelMmtnIdeal [hKernelMmtnIdeal : Cert.KernelMmtnIdeal.Facts] : Prop :=
  ∀ (m : (ℓ : Loc Cert.KernelMmtnIdeal.nD Cert.KernelMmtnIdeal.τ Cert.KernelMmtnIdeal.sig) → Buf (Elt Ideal) ℓ) (g : Dev Cert.KernelMmtnIdeal.nD → PrngReg), Pre_KernelMmtnIdeal m →
    θ_run (Cert.KernelMmtnIdeal.defs (F := Ideal)) (onTc (τ := Cert.KernelMmtnIdeal.τ) (Cert.KernelMmtnIdeal.main (F := Ideal))) ⟨m, fun _ => 0, g⟩ (fun r => (∀ c : Dev Cert.KernelMmtnIdeal.nD,
      r.2.mem ((c.tc : Thread Cert.KernelMmtnIdeal.nD Cert.KernelMmtnIdeal.τ).loc Cert.KernelMmtnIdeal.main_arg0) = m ((c.tc : Thread Cert.KernelMmtnIdeal.nD Cert.KernelMmtnIdeal.τ).loc Cert.KernelMmtnIdeal.main_arg0)
      ∧ r.2.mem ((c.tc : Thread Cert.KernelMmtnIdeal.nD Cert.KernelMmtnIdeal.τ).loc Cert.KernelMmtnIdeal.main_arg1) = m ((c.tc : Thread Cert.KernelMmtnIdeal.nD Cert.KernelMmtnIdeal.τ).loc Cert.KernelMmtnIdeal.main_arg1))
      ∧ r.2.sem = fun _ => 0)

def quiescent_ReferenceMmtnIdeal [hReferenceMmtnIdeal : Cert.ReferenceMmtnIdeal.Facts] : Prop :=
  ∀ (m : (ℓ : Loc Cert.ReferenceMmtnIdeal.nD Cert.ReferenceMmtnIdeal.τ Cert.ReferenceMmtnIdeal.sig) → Buf (Elt Ideal) ℓ) (g : Dev Cert.ReferenceMmtnIdeal.nD → PrngReg), Pre_ReferenceMmtnIdeal m →
    θ_run (Cert.ReferenceMmtnIdeal.defs (F := Ideal)) (onTc (τ := Cert.ReferenceMmtnIdeal.τ) (Cert.ReferenceMmtnIdeal.main (F := Ideal))) ⟨m, fun _ => 0, g⟩ (fun r => (∀ c : Dev Cert.ReferenceMmtnIdeal.nD,
      r.2.mem ((c.tc : Thread Cert.ReferenceMmtnIdeal.nD Cert.ReferenceMmtnIdeal.τ).loc Cert.ReferenceMmtnIdeal.main_arg0) = m ((c.tc : Thread Cert.ReferenceMmtnIdeal.nD Cert.ReferenceMmtnIdeal.τ).loc Cert.ReferenceMmtnIdeal.main_arg0)
      ∧ r.2.mem ((c.tc : Thread Cert.ReferenceMmtnIdeal.nD Cert.ReferenceMmtnIdeal.τ).loc Cert.ReferenceMmtnIdeal.main_arg1) = m ((c.tc : Thread Cert.ReferenceMmtnIdeal.nD Cert.ReferenceMmtnIdeal.τ).loc Cert.ReferenceMmtnIdeal.main_arg1))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def preserves_KernelFinal_KernelFinalIdeal : Prop :=
  True

def algebraic_KernelFinalIdeal_ReferenceFinalIdeal_pre_finite_final [hKernelFinalIdeal : Cert.KernelFinalIdeal.Facts] [hReferenceFinalIdeal : Cert.ReferenceFinalIdeal.Facts] [hPre_finite_final : Cert.Pre_finite_final.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal_finite_final m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)) →
    ∃ (v0 : (c : Dev Cert.KernelFinalIdeal.nD) → Buf (Elt Ideal) ((c.tc : Thread Cert.KernelFinalIdeal.nD Cert.KernelFinalIdeal.τ).loc Cert.KernelFinalIdeal.main_v2_0)) (v1 : (c : Dev Cert.KernelFinalIdeal.nD) → Buf (Elt Ideal) ((c.tc : Thread Cert.KernelFinalIdeal.nD Cert.KernelFinalIdeal.τ).loc Cert.KernelFinalIdeal.main_v2_1)) (v2 : (c : Dev Cert.KernelFinalIdeal.nD) → Buf (Elt Ideal) ((c.tc : Thread Cert.KernelFinalIdeal.nD Cert.KernelFinalIdeal.τ).loc Cert.KernelFinalIdeal.main_v2_2)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v2_0) = v0 c
          ∧ r.2.mem ((c.tc : Thread Cert.KernelFinalIdeal.nD Cert.KernelFinalIdeal.τ).loc Cert.KernelFinalIdeal.main_v2_1) = v1 c
          ∧ r.2.mem ((c.tc : Thread Cert.KernelFinalIdeal.nD Cert.KernelFinalIdeal.τ).loc Cert.KernelFinalIdeal.main_v2_2) = v2 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v53) = v0 c
          ∧ r.2.mem ((c.tc : Thread Cert.ReferenceFinalIdeal.nD Cert.ReferenceFinalIdeal.τ).loc Cert.ReferenceFinalIdeal.main_v54) = v1 c
          ∧ r.2.mem ((c.tc : Thread Cert.ReferenceFinalIdeal.nD Cert.ReferenceFinalIdeal.τ).loc Cert.ReferenceFinalIdeal.main_v55) = v2 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)) →
    ∃ (v0 : (c : Dev Cert.KernelMemIdeal.nD) → Buf (Elt Ideal) ((c.tc : Thread Cert.KernelMemIdeal.nD Cert.KernelMemIdeal.τ).loc Cert.KernelMemIdeal.main_v4_0)) (v1 : (c : Dev Cert.KernelMemIdeal.nD) → Buf (Elt Ideal) ((c.tc : Thread Cert.KernelMemIdeal.nD Cert.KernelMemIdeal.τ).loc Cert.KernelMemIdeal.main_v4_1)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v4_0) = v0 c
          ∧ r.2.mem ((c.tc : Thread Cert.KernelMemIdeal.nD Cert.KernelMemIdeal.τ).loc Cert.KernelMemIdeal.main_v4_1) = v1 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v32) = v0 c
          ∧ r.2.mem ((c.tc : Thread Cert.ReferenceMemIdeal.nD Cert.ReferenceMemIdeal.τ).loc Cert.ReferenceMemIdeal.main_v33) = v1 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3))

def preserves_KernelIn_KernelInIdeal : Prop :=
  True

def algebraic_KernelInIdeal_ReferenceInIdeal_pre_finite_in [hKernelInIdeal : Cert.KernelInIdeal.Facts] [hReferenceInIdeal : Cert.ReferenceInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_in m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v26_0)) (v1 : (c : Dev Cert.KernelInIdeal.nD) → Buf (Elt Ideal) ((c.tc : Thread Cert.KernelInIdeal.nD Cert.KernelInIdeal.τ).loc Cert.KernelInIdeal.main_v26_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v26_0) = v0 c
          ∧ r.2.mem ((c.tc : Thread Cert.KernelInIdeal.nD Cert.KernelInIdeal.τ).loc Cert.KernelInIdeal.main_v26_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v38) = v0 c
          ∧ r.2.mem ((c.tc : Thread Cert.ReferenceInIdeal.nD Cert.ReferenceInIdeal.τ).loc Cert.ReferenceInIdeal.main_v39) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelMlp_KernelMlpIdeal : Prop :=
  True

def algebraic_KernelMlpIdeal_ReferenceMlpIdeal_pre_finite_mlp [hKernelMlpIdeal : Cert.KernelMlpIdeal.Facts] [hReferenceMlpIdeal : Cert.ReferenceMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal_finite_mlp m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)) →
    ∃ (v0 : (c : Dev Cert.KernelMlpIdeal.nD) → Buf (Elt Ideal) ((c.tc : Thread Cert.KernelMlpIdeal.nD Cert.KernelMlpIdeal.τ).loc Cert.KernelMlpIdeal.main_v5_0)) (v1 : (c : Dev Cert.KernelMlpIdeal.nD) → Buf (Elt Ideal) ((c.tc : Thread Cert.KernelMlpIdeal.nD Cert.KernelMlpIdeal.τ).loc Cert.KernelMlpIdeal.main_v5_1)) (v2 : (c : Dev Cert.KernelMlpIdeal.nD) → Buf (Elt Ideal) ((c.tc : Thread Cert.KernelMlpIdeal.nD Cert.KernelMlpIdeal.τ).loc Cert.KernelMlpIdeal.main_v5_2)) (v3 : (c : Dev Cert.KernelMlpIdeal.nD) → Buf (Elt Ideal) ((c.tc : Thread Cert.KernelMlpIdeal.nD Cert.KernelMlpIdeal.τ).loc Cert.KernelMlpIdeal.main_v5_3)) (v4 : (c : Dev Cert.KernelMlpIdeal.nD) → Buf (Elt Ideal) ((c.tc : Thread Cert.KernelMlpIdeal.nD Cert.KernelMlpIdeal.τ).loc Cert.KernelMlpIdeal.main_v5_4)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v5_0) = v0 c
          ∧ r.2.mem ((c.tc : Thread Cert.KernelMlpIdeal.nD Cert.KernelMlpIdeal.τ).loc Cert.KernelMlpIdeal.main_v5_1) = v1 c
          ∧ r.2.mem ((c.tc : Thread Cert.KernelMlpIdeal.nD Cert.KernelMlpIdeal.τ).loc Cert.KernelMlpIdeal.main_v5_2) = v2 c
          ∧ r.2.mem ((c.tc : Thread Cert.KernelMlpIdeal.nD Cert.KernelMlpIdeal.τ).loc Cert.KernelMlpIdeal.main_v5_3) = v3 c
          ∧ r.2.mem ((c.tc : Thread Cert.KernelMlpIdeal.nD Cert.KernelMlpIdeal.τ).loc Cert.KernelMlpIdeal.main_v5_4) = v4 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v52) = v0 c
          ∧ r.2.mem ((c.tc : Thread Cert.ReferenceMlpIdeal.nD Cert.ReferenceMlpIdeal.τ).loc Cert.ReferenceMlpIdeal.main_v81) = v1 c
          ∧ r.2.mem ((c.tc : Thread Cert.ReferenceMlpIdeal.nD Cert.ReferenceMlpIdeal.τ).loc Cert.ReferenceMlpIdeal.main_v82) = v2 c
          ∧ r.2.mem ((c.tc : Thread Cert.ReferenceMlpIdeal.nD Cert.ReferenceMlpIdeal.τ).loc Cert.ReferenceMlpIdeal.main_v83) = v3 c
          ∧ r.2.mem ((c.tc : Thread Cert.ReferenceMlpIdeal.nD Cert.ReferenceMlpIdeal.τ).loc Cert.ReferenceMlpIdeal.main_v84) = v4 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4))

def preserves_KernelXattn_KernelXattnIdeal : Prop :=
  True

def algebraic_KernelXattnIdeal_ReferenceXattnIdeal_pre_finite_xattn [hKernelXattnIdeal : Cert.KernelXattnIdeal.Facts] [hReferenceXattnIdeal : Cert.ReferenceXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg)
    (m' : (ℓ : Loc Cert.ReferenceXattnIdeal.nD Cert.ReferenceXattnIdeal.τ Cert.ReferenceXattnIdeal.sig) → Buf (Elt Ideal) ℓ) (g' : Dev Cert.ReferenceXattnIdeal.nD → PrngReg), Pre_KernelXattnIdeal_finite_xattn m →
    (∀ c : Dev Cert.KernelXattnIdeal.nD,
      m' ((c.tc : Thread Cert.ReferenceXattnIdeal.nD Cert.ReferenceXattnIdeal.τ).loc Cert.ReferenceXattnIdeal.main_arg0) = m ((c.tc : Thread Cert.KernelXattnIdeal.nD Cert.KernelXattnIdeal.τ).loc Cert.KernelXattnIdeal.main_arg0)
      ∧ m' ((c.tc : Thread Cert.ReferenceXattnIdeal.nD Cert.ReferenceXattnIdeal.τ).loc Cert.ReferenceXattnIdeal.main_arg1) = m ((c.tc : Thread Cert.KernelXattnIdeal.nD Cert.KernelXattnIdeal.τ).loc Cert.KernelXattnIdeal.main_arg1)
      ∧ m' ((c.tc : Thread Cert.ReferenceXattnIdeal.nD Cert.ReferenceXattnIdeal.τ).loc Cert.ReferenceXattnIdeal.main_arg2) = m ((c.tc : Thread Cert.KernelXattnIdeal.nD Cert.KernelXattnIdeal.τ).loc Cert.KernelXattnIdeal.main_arg2)
      ∧ m' ((c.tc : Thread Cert.ReferenceXattnIdeal.nD Cert.ReferenceXattnIdeal.τ).loc Cert.ReferenceXattnIdeal.main_arg3) = m ((c.tc : Thread Cert.KernelXattnIdeal.nD Cert.KernelXattnIdeal.τ).loc Cert.KernelXattnIdeal.main_arg3)
      ∧ m' ((c.tc : Thread Cert.ReferenceXattnIdeal.nD Cert.ReferenceXattnIdeal.τ).loc Cert.ReferenceXattnIdeal.main_arg4) = m ((c.tc : Thread Cert.KernelXattnIdeal.nD Cert.KernelXattnIdeal.τ).loc Cert.KernelXattnIdeal.main_arg4)
      ∧ m' ((c.tc : Thread Cert.ReferenceXattnIdeal.nD Cert.ReferenceXattnIdeal.τ).loc Cert.ReferenceXattnIdeal.main_arg5) = m ((c.tc : Thread Cert.KernelXattnIdeal.nD Cert.KernelXattnIdeal.τ).loc Cert.KernelXattnIdeal.main_arg5)) →
    ∃ (v0 : (c : Dev Cert.KernelXattnIdeal.nD) → Buf (Elt Ideal) ((c.tc : Thread Cert.KernelXattnIdeal.nD Cert.KernelXattnIdeal.τ).loc Cert.KernelXattnIdeal.main_v4_0)) (v1 : (c : Dev Cert.KernelXattnIdeal.nD) → Buf (Elt Ideal) ((c.tc : Thread Cert.KernelXattnIdeal.nD Cert.KernelXattnIdeal.τ).loc Cert.KernelXattnIdeal.main_v4_1)) (v2 : (c : Dev Cert.KernelXattnIdeal.nD) → Buf (Elt Ideal) ((c.tc : Thread Cert.KernelXattnIdeal.nD Cert.KernelXattnIdeal.τ).loc Cert.KernelXattnIdeal.main_v4_2)) (v3 : (c : Dev Cert.KernelXattnIdeal.nD) → Buf (Elt Ideal) ((c.tc : Thread Cert.KernelXattnIdeal.nD Cert.KernelXattnIdeal.τ).loc Cert.KernelXattnIdeal.main_v4_3)) (v4 : (c : Dev Cert.KernelXattnIdeal.nD) → Buf (Elt Ideal) ((c.tc : Thread Cert.KernelXattnIdeal.nD Cert.KernelXattnIdeal.τ).loc Cert.KernelXattnIdeal.main_v4_4)) (v5 : (c : Dev Cert.KernelXattnIdeal.nD) → Buf (Elt Ideal) ((c.tc : Thread Cert.KernelXattnIdeal.nD Cert.KernelXattnIdeal.τ).loc Cert.KernelXattnIdeal.main_v4_5)),
      θ_run (Cert.KernelXattnIdeal.defs (F := Ideal)) (onTc (τ := Cert.KernelXattnIdeal.τ) (Cert.KernelXattnIdeal.main (F := Ideal))) ⟨m, fun _ => 0, g⟩ (fun r => ∀ c : Dev Cert.KernelXattnIdeal.nD,
          r.2.mem ((c.tc : Thread Cert.KernelXattnIdeal.nD Cert.KernelXattnIdeal.τ).loc Cert.KernelXattnIdeal.main_v4_0) = v0 c
          ∧ r.2.mem ((c.tc : Thread Cert.KernelXattnIdeal.nD Cert.KernelXattnIdeal.τ).loc Cert.KernelXattnIdeal.main_v4_1) = v1 c
          ∧ r.2.mem ((c.tc : Thread Cert.KernelXattnIdeal.nD Cert.KernelXattnIdeal.τ).loc Cert.KernelXattnIdeal.main_v4_2) = v2 c
          ∧ r.2.mem ((c.tc : Thread Cert.KernelXattnIdeal.nD Cert.KernelXattnIdeal.τ).loc Cert.KernelXattnIdeal.main_v4_3) = v3 c
          ∧ r.2.mem ((c.tc : Thread Cert.KernelXattnIdeal.nD Cert.KernelXattnIdeal.τ).loc Cert.KernelXattnIdeal.main_v4_4) = v4 c
          ∧ r.2.mem ((c.tc : Thread Cert.KernelXattnIdeal.nD Cert.KernelXattnIdeal.τ).loc Cert.KernelXattnIdeal.main_v4_5) = v5 c
          ∧ r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
          ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
          ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2)
          ∧ r.2.mem ((c.tc : Thread Cert.KernelXattnIdeal.nD Cert.KernelXattnIdeal.τ).loc Cert.KernelXattnIdeal.main_arg3) = m ((c.tc : Thread Cert.KernelXattnIdeal.nD Cert.KernelXattnIdeal.τ).loc Cert.KernelXattnIdeal.main_arg3)
          ∧ r.2.mem ((c.tc : Thread Cert.KernelXattnIdeal.nD Cert.KernelXattnIdeal.τ).loc Cert.KernelXattnIdeal.main_arg4) = m ((c.tc : Thread Cert.KernelXattnIdeal.nD Cert.KernelXattnIdeal.τ).loc Cert.KernelXattnIdeal.main_arg4)
          ∧ r.2.mem ((c.tc : Thread Cert.KernelXattnIdeal.nD Cert.KernelXattnIdeal.τ).loc Cert.KernelXattnIdeal.main_arg5) = m ((c.tc : Thread Cert.KernelXattnIdeal.nD Cert.KernelXattnIdeal.τ).loc Cert.KernelXattnIdeal.main_arg5))
      ∧ θ_run (Cert.ReferenceXattnIdeal.defs (F := Ideal)) (onTc (τ := Cert.ReferenceXattnIdeal.τ) (Cert.ReferenceXattnIdeal.main (F := Ideal))) ⟨m', fun _ => 0, g'⟩ (fun r => ∀ c : Dev Cert.ReferenceXattnIdeal.nD,
          r.2.mem ((c.tc : Thread Cert.ReferenceXattnIdeal.nD Cert.ReferenceXattnIdeal.τ).loc Cert.ReferenceXattnIdeal.main_v108) = v0 c
          ∧ r.2.mem ((c.tc : Thread Cert.ReferenceXattnIdeal.nD Cert.ReferenceXattnIdeal.τ).loc Cert.ReferenceXattnIdeal.main_v213) = v1 c
          ∧ r.2.mem ((c.tc : Thread Cert.ReferenceXattnIdeal.nD Cert.ReferenceXattnIdeal.τ).loc Cert.ReferenceXattnIdeal.main_v214) = v2 c
          ∧ r.2.mem ((c.tc : Thread Cert.ReferenceXattnIdeal.nD Cert.ReferenceXattnIdeal.τ).loc Cert.ReferenceXattnIdeal.main_v215) = v3 c
          ∧ r.2.mem ((c.tc : Thread Cert.ReferenceXattnIdeal.nD Cert.ReferenceXattnIdeal.τ).loc Cert.ReferenceXattnIdeal.main_v86) = v4 c
          ∧ r.2.mem ((c.tc : Thread Cert.ReferenceXattnIdeal.nD Cert.ReferenceXattnIdeal.τ).loc Cert.ReferenceXattnIdeal.main_v216) = v5 c
          ∧ r.2.mem ((c.tc : Thread Cert.ReferenceXattnIdeal.nD Cert.ReferenceXattnIdeal.τ).loc Cert.ReferenceXattnIdeal.main_arg0) = m' ((c.tc : Thread Cert.ReferenceXattnIdeal.nD Cert.ReferenceXattnIdeal.τ).loc Cert.ReferenceXattnIdeal.main_arg0)
          ∧ r.2.mem ((c.tc : Thread Cert.ReferenceXattnIdeal.nD Cert.ReferenceXattnIdeal.τ).loc Cert.ReferenceXattnIdeal.main_arg1) = m' ((c.tc : Thread Cert.ReferenceXattnIdeal.nD Cert.ReferenceXattnIdeal.τ).loc Cert.ReferenceXattnIdeal.main_arg1)
          ∧ r.2.mem ((c.tc : Thread Cert.ReferenceXattnIdeal.nD Cert.ReferenceXattnIdeal.τ).loc Cert.ReferenceXattnIdeal.main_arg2) = m' ((c.tc : Thread Cert.ReferenceXattnIdeal.nD Cert.ReferenceXattnIdeal.τ).loc Cert.ReferenceXattnIdeal.main_arg2)
          ∧ r.2.mem ((c.tc : Thread Cert.ReferenceXattnIdeal.nD Cert.ReferenceXattnIdeal.τ).loc Cert.ReferenceXattnIdeal.main_arg3) = m' ((c.tc : Thread Cert.ReferenceXattnIdeal.nD Cert.ReferenceXattnIdeal.τ).loc Cert.ReferenceXattnIdeal.main_arg3)
          ∧ r.2.mem ((c.tc : Thread Cert.ReferenceXattnIdeal.nD Cert.ReferenceXattnIdeal.τ).loc Cert.ReferenceXattnIdeal.main_arg4) = m' ((c.tc : Thread Cert.ReferenceXattnIdeal.nD Cert.ReferenceXattnIdeal.τ).loc Cert.ReferenceXattnIdeal.main_arg4)
          ∧ r.2.mem ((c.tc : Thread Cert.ReferenceXattnIdeal.nD Cert.ReferenceXattnIdeal.τ).loc Cert.ReferenceXattnIdeal.main_arg5) = m' ((c.tc : Thread Cert.ReferenceXattnIdeal.nD Cert.ReferenceXattnIdeal.τ).loc Cert.ReferenceXattnIdeal.main_arg5))

def preserves_KernelPre_KernelPreIdeal : Prop :=
  True

def preserves_KernelXfwd_KernelXfwdIdeal : Prop :=
  True

def algebraic_KernelXfwdIdeal_ReferenceXfwdIdeal [hKernelXfwdIdeal : Cert.KernelXfwdIdeal.Facts] [hReferenceXfwdIdeal : Cert.ReferenceXfwdIdeal.Facts] : Prop :=
  ∀ (m : (ℓ : Loc Cert.KernelXfwdIdeal.nD Cert.KernelXfwdIdeal.τ Cert.KernelXfwdIdeal.sig) → Buf (Elt Ideal) ℓ) (g : Dev Cert.KernelXfwdIdeal.nD → PrngReg)
    (m' : (ℓ : Loc Cert.ReferenceXfwdIdeal.nD Cert.ReferenceXfwdIdeal.τ Cert.ReferenceXfwdIdeal.sig) → Buf (Elt Ideal) ℓ) (g' : Dev Cert.ReferenceXfwdIdeal.nD → PrngReg), Pre_KernelXfwdIdeal m →
    (∀ c : Dev Cert.KernelXfwdIdeal.nD,
      m' ((c.tc : Thread Cert.ReferenceXfwdIdeal.nD Cert.ReferenceXfwdIdeal.τ).loc Cert.ReferenceXfwdIdeal.main_arg0) = m ((c.tc : Thread Cert.KernelXfwdIdeal.nD Cert.KernelXfwdIdeal.τ).loc Cert.KernelXfwdIdeal.main_arg0)
      ∧ m' ((c.tc : Thread Cert.ReferenceXfwdIdeal.nD Cert.ReferenceXfwdIdeal.τ).loc Cert.ReferenceXfwdIdeal.main_arg1) = m ((c.tc : Thread Cert.KernelXfwdIdeal.nD Cert.KernelXfwdIdeal.τ).loc Cert.KernelXfwdIdeal.main_arg1)
      ∧ m' ((c.tc : Thread Cert.ReferenceXfwdIdeal.nD Cert.ReferenceXfwdIdeal.τ).loc Cert.ReferenceXfwdIdeal.main_arg2) = m ((c.tc : Thread Cert.KernelXfwdIdeal.nD Cert.KernelXfwdIdeal.τ).loc Cert.KernelXfwdIdeal.main_arg2)
      ∧ m' ((c.tc : Thread Cert.ReferenceXfwdIdeal.nD Cert.ReferenceXfwdIdeal.τ).loc Cert.ReferenceXfwdIdeal.main_arg3) = m ((c.tc : Thread Cert.KernelXfwdIdeal.nD Cert.KernelXfwdIdeal.τ).loc Cert.KernelXfwdIdeal.main_arg3)
      ∧ m' ((c.tc : Thread Cert.ReferenceXfwdIdeal.nD Cert.ReferenceXfwdIdeal.τ).loc Cert.ReferenceXfwdIdeal.main_arg4) = m ((c.tc : Thread Cert.KernelXfwdIdeal.nD Cert.KernelXfwdIdeal.τ).loc Cert.KernelXfwdIdeal.main_arg4)) →
    ∃ (v0 : (c : Dev Cert.KernelXfwdIdeal.nD) → Buf (Elt Ideal) ((c.tc : Thread Cert.KernelXfwdIdeal.nD Cert.KernelXfwdIdeal.τ).loc Cert.KernelXfwdIdeal.main_v4)),
      θ_run (Cert.KernelXfwdIdeal.defs (F := Ideal)) (onTc (τ := Cert.KernelXfwdIdeal.τ) (Cert.KernelXfwdIdeal.main (F := Ideal))) ⟨m, fun _ => 0, g⟩ (fun r => ∀ c : Dev Cert.KernelXfwdIdeal.nD,
          r.2.mem ((c.tc : Thread Cert.KernelXfwdIdeal.nD Cert.KernelXfwdIdeal.τ).loc Cert.KernelXfwdIdeal.main_v4) = v0 c
          ∧ r.2.mem ((c.tc : Thread Cert.KernelXfwdIdeal.nD Cert.KernelXfwdIdeal.τ).loc Cert.KernelXfwdIdeal.main_arg0) = m ((c.tc : Thread Cert.KernelXfwdIdeal.nD Cert.KernelXfwdIdeal.τ).loc Cert.KernelXfwdIdeal.main_arg0)
          ∧ r.2.mem ((c.tc : Thread Cert.KernelXfwdIdeal.nD Cert.KernelXfwdIdeal.τ).loc Cert.KernelXfwdIdeal.main_arg1) = m ((c.tc : Thread Cert.KernelXfwdIdeal.nD Cert.KernelXfwdIdeal.τ).loc Cert.KernelXfwdIdeal.main_arg1)
          ∧ r.2.mem ((c.tc : Thread Cert.KernelXfwdIdeal.nD Cert.KernelXfwdIdeal.τ).loc Cert.KernelXfwdIdeal.main_arg2) = m ((c.tc : Thread Cert.KernelXfwdIdeal.nD Cert.KernelXfwdIdeal.τ).loc Cert.KernelXfwdIdeal.main_arg2)
          ∧ r.2.mem ((c.tc : Thread Cert.KernelXfwdIdeal.nD Cert.KernelXfwdIdeal.τ).loc Cert.KernelXfwdIdeal.main_arg3) = m ((c.tc : Thread Cert.KernelXfwdIdeal.nD Cert.KernelXfwdIdeal.τ).loc Cert.KernelXfwdIdeal.main_arg3)
          ∧ r.2.mem ((c.tc : Thread Cert.KernelXfwdIdeal.nD Cert.KernelXfwdIdeal.τ).loc Cert.KernelXfwdIdeal.main_arg4) = m ((c.tc : Thread Cert.KernelXfwdIdeal.nD Cert.KernelXfwdIdeal.τ).loc Cert.KernelXfwdIdeal.main_arg4))
      ∧ θ_run (Cert.ReferenceXfwdIdeal.defs (F := Ideal)) (onTc (τ := Cert.ReferenceXfwdIdeal.τ) (Cert.ReferenceXfwdIdeal.main (F := Ideal))) ⟨m', fun _ => 0, g'⟩ (fun r => ∀ c : Dev Cert.ReferenceXfwdIdeal.nD,
          r.2.mem ((c.tc : Thread Cert.ReferenceXfwdIdeal.nD Cert.ReferenceXfwdIdeal.τ).loc Cert.ReferenceXfwdIdeal.main_v37) = v0 c
          ∧ r.2.mem ((c.tc : Thread Cert.ReferenceXfwdIdeal.nD Cert.ReferenceXfwdIdeal.τ).loc Cert.ReferenceXfwdIdeal.main_arg0) = m' ((c.tc : Thread Cert.ReferenceXfwdIdeal.nD Cert.ReferenceXfwdIdeal.τ).loc Cert.ReferenceXfwdIdeal.main_arg0)
          ∧ r.2.mem ((c.tc : Thread Cert.ReferenceXfwdIdeal.nD Cert.ReferenceXfwdIdeal.τ).loc Cert.ReferenceXfwdIdeal.main_arg1) = m' ((c.tc : Thread Cert.ReferenceXfwdIdeal.nD Cert.ReferenceXfwdIdeal.τ).loc Cert.ReferenceXfwdIdeal.main_arg1)
          ∧ r.2.mem ((c.tc : Thread Cert.ReferenceXfwdIdeal.nD Cert.ReferenceXfwdIdeal.τ).loc Cert.ReferenceXfwdIdeal.main_arg2) = m' ((c.tc : Thread Cert.ReferenceXfwdIdeal.nD Cert.ReferenceXfwdIdeal.τ).loc Cert.ReferenceXfwdIdeal.main_arg2)
          ∧ r.2.mem ((c.tc : Thread Cert.ReferenceXfwdIdeal.nD Cert.ReferenceXfwdIdeal.τ).loc Cert.ReferenceXfwdIdeal.main_arg3) = m' ((c.tc : Thread Cert.ReferenceXfwdIdeal.nD Cert.ReferenceXfwdIdeal.τ).loc Cert.ReferenceXfwdIdeal.main_arg3)
          ∧ r.2.mem ((c.tc : Thread Cert.ReferenceXfwdIdeal.nD Cert.ReferenceXfwdIdeal.τ).loc Cert.ReferenceXfwdIdeal.main_arg4) = m' ((c.tc : Thread Cert.ReferenceXfwdIdeal.nD Cert.ReferenceXfwdIdeal.τ).loc Cert.ReferenceXfwdIdeal.main_arg4))

def preserves_KernelSfwd_KernelSfwdIdeal : Prop :=
  True

def algebraic_KernelSfwdIdeal_ReferenceSfwdIdeal [hKernelSfwdIdeal : Cert.KernelSfwdIdeal.Facts] [hReferenceSfwdIdeal : Cert.ReferenceSfwdIdeal.Facts] : Prop :=
  ∀ (m : (ℓ : Loc Cert.KernelSfwdIdeal.nD Cert.KernelSfwdIdeal.τ Cert.KernelSfwdIdeal.sig) → Buf (Elt Ideal) ℓ) (g : Dev Cert.KernelSfwdIdeal.nD → PrngReg)
    (m' : (ℓ : Loc Cert.ReferenceSfwdIdeal.nD Cert.ReferenceSfwdIdeal.τ Cert.ReferenceSfwdIdeal.sig) → Buf (Elt Ideal) ℓ) (g' : Dev Cert.ReferenceSfwdIdeal.nD → PrngReg), Pre_KernelSfwdIdeal m →
    (∀ c : Dev Cert.KernelSfwdIdeal.nD,
      m' ((c.tc : Thread Cert.ReferenceSfwdIdeal.nD Cert.ReferenceSfwdIdeal.τ).loc Cert.ReferenceSfwdIdeal.main_arg0) = m ((c.tc : Thread Cert.KernelSfwdIdeal.nD Cert.KernelSfwdIdeal.τ).loc Cert.KernelSfwdIdeal.main_arg0)
      ∧ m' ((c.tc : Thread Cert.ReferenceSfwdIdeal.nD Cert.ReferenceSfwdIdeal.τ).loc Cert.ReferenceSfwdIdeal.main_arg1) = m ((c.tc : Thread Cert.KernelSfwdIdeal.nD Cert.KernelSfwdIdeal.τ).loc Cert.KernelSfwdIdeal.main_arg1)
      ∧ m' ((c.tc : Thread Cert.ReferenceSfwdIdeal.nD Cert.ReferenceSfwdIdeal.τ).loc Cert.ReferenceSfwdIdeal.main_arg2) = m ((c.tc : Thread Cert.KernelSfwdIdeal.nD Cert.KernelSfwdIdeal.τ).loc Cert.KernelSfwdIdeal.main_arg2)
      ∧ m' ((c.tc : Thread Cert.ReferenceSfwdIdeal.nD Cert.ReferenceSfwdIdeal.τ).loc Cert.ReferenceSfwdIdeal.main_arg3) = m ((c.tc : Thread Cert.KernelSfwdIdeal.nD Cert.KernelSfwdIdeal.τ).loc Cert.KernelSfwdIdeal.main_arg3)
      ∧ m' ((c.tc : Thread Cert.ReferenceSfwdIdeal.nD Cert.ReferenceSfwdIdeal.τ).loc Cert.ReferenceSfwdIdeal.main_arg4) = m ((c.tc : Thread Cert.KernelSfwdIdeal.nD Cert.KernelSfwdIdeal.τ).loc Cert.KernelSfwdIdeal.main_arg4)
      ∧ m' ((c.tc : Thread Cert.ReferenceSfwdIdeal.nD Cert.ReferenceSfwdIdeal.τ).loc Cert.ReferenceSfwdIdeal.main_arg5) = m ((c.tc : Thread Cert.KernelSfwdIdeal.nD Cert.KernelSfwdIdeal.τ).loc Cert.KernelSfwdIdeal.main_arg5)
      ∧ m' ((c.tc : Thread Cert.ReferenceSfwdIdeal.nD Cert.ReferenceSfwdIdeal.τ).loc Cert.ReferenceSfwdIdeal.main_arg6) = m ((c.tc : Thread Cert.KernelSfwdIdeal.nD Cert.KernelSfwdIdeal.τ).loc Cert.KernelSfwdIdeal.main_arg6)
      ∧ m' ((c.tc : Thread Cert.ReferenceSfwdIdeal.nD Cert.ReferenceSfwdIdeal.τ).loc Cert.ReferenceSfwdIdeal.main_arg7) = m ((c.tc : Thread Cert.KernelSfwdIdeal.nD Cert.KernelSfwdIdeal.τ).loc Cert.KernelSfwdIdeal.main_arg7)) →
    ∃ (v0 : (c : Dev Cert.KernelSfwdIdeal.nD) → Buf (Elt Ideal) ((c.tc : Thread Cert.KernelSfwdIdeal.nD Cert.KernelSfwdIdeal.τ).loc Cert.KernelSfwdIdeal.main_v76_0)) (v1 : (c : Dev Cert.KernelSfwdIdeal.nD) → Buf (Elt Ideal) ((c.tc : Thread Cert.KernelSfwdIdeal.nD Cert.KernelSfwdIdeal.τ).loc Cert.KernelSfwdIdeal.main_v76_1)) (v2 : (c : Dev Cert.KernelSfwdIdeal.nD) → Buf (Elt Ideal) ((c.tc : Thread Cert.KernelSfwdIdeal.nD Cert.KernelSfwdIdeal.τ).loc Cert.KernelSfwdIdeal.main_v76_2)) (v3 : (c : Dev Cert.KernelSfwdIdeal.nD) → Buf (Elt Ideal) ((c.tc : Thread Cert.KernelSfwdIdeal.nD Cert.KernelSfwdIdeal.τ).loc Cert.KernelSfwdIdeal.main_v76_3)),
      θ_run (Cert.KernelSfwdIdeal.defs (F := Ideal)) (onTc (τ := Cert.KernelSfwdIdeal.τ) (Cert.KernelSfwdIdeal.main (F := Ideal))) ⟨m, fun _ => 0, g⟩ (fun r => ∀ c : Dev Cert.KernelSfwdIdeal.nD,
          r.2.mem ((c.tc : Thread Cert.KernelSfwdIdeal.nD Cert.KernelSfwdIdeal.τ).loc Cert.KernelSfwdIdeal.main_v76_0) = v0 c
          ∧ r.2.mem ((c.tc : Thread Cert.KernelSfwdIdeal.nD Cert.KernelSfwdIdeal.τ).loc Cert.KernelSfwdIdeal.main_v76_1) = v1 c
          ∧ r.2.mem ((c.tc : Thread Cert.KernelSfwdIdeal.nD Cert.KernelSfwdIdeal.τ).loc Cert.KernelSfwdIdeal.main_v76_2) = v2 c
          ∧ r.2.mem ((c.tc : Thread Cert.KernelSfwdIdeal.nD Cert.KernelSfwdIdeal.τ).loc Cert.KernelSfwdIdeal.main_v76_3) = v3 c
          ∧ r.2.mem ((c.tc : Thread Cert.KernelSfwdIdeal.nD Cert.KernelSfwdIdeal.τ).loc Cert.KernelSfwdIdeal.main_arg0) = m ((c.tc : Thread Cert.KernelSfwdIdeal.nD Cert.KernelSfwdIdeal.τ).loc Cert.KernelSfwdIdeal.main_arg0)
          ∧ r.2.mem ((c.tc : Thread Cert.KernelSfwdIdeal.nD Cert.KernelSfwdIdeal.τ).loc Cert.KernelSfwdIdeal.main_arg1) = m ((c.tc : Thread Cert.KernelSfwdIdeal.nD Cert.KernelSfwdIdeal.τ).loc Cert.KernelSfwdIdeal.main_arg1)
          ∧ r.2.mem ((c.tc : Thread Cert.KernelSfwdIdeal.nD Cert.KernelSfwdIdeal.τ).loc Cert.KernelSfwdIdeal.main_arg2) = m ((c.tc : Thread Cert.KernelSfwdIdeal.nD Cert.KernelSfwdIdeal.τ).loc Cert.KernelSfwdIdeal.main_arg2)
          ∧ r.2.mem ((c.tc : Thread Cert.KernelSfwdIdeal.nD Cert.KernelSfwdIdeal.τ).loc Cert.KernelSfwdIdeal.main_arg3) = m ((c.tc : Thread Cert.KernelSfwdIdeal.nD Cert.KernelSfwdIdeal.τ).loc Cert.KernelSfwdIdeal.main_arg3)
          ∧ r.2.mem ((c.tc : Thread Cert.KernelSfwdIdeal.nD Cert.KernelSfwdIdeal.τ).loc Cert.KernelSfwdIdeal.main_arg4) = m ((c.tc : Thread Cert.KernelSfwdIdeal.nD Cert.KernelSfwdIdeal.τ).loc Cert.KernelSfwdIdeal.main_arg4)
          ∧ r.2.mem ((c.tc : Thread Cert.KernelSfwdIdeal.nD Cert.KernelSfwdIdeal.τ).loc Cert.KernelSfwdIdeal.main_arg5) = m ((c.tc : Thread Cert.KernelSfwdIdeal.nD Cert.KernelSfwdIdeal.τ).loc Cert.KernelSfwdIdeal.main_arg5)
          ∧ r.2.mem ((c.tc : Thread Cert.KernelSfwdIdeal.nD Cert.KernelSfwdIdeal.τ).loc Cert.KernelSfwdIdeal.main_arg6) = m ((c.tc : Thread Cert.KernelSfwdIdeal.nD Cert.KernelSfwdIdeal.τ).loc Cert.KernelSfwdIdeal.main_arg6)
          ∧ r.2.mem ((c.tc : Thread Cert.KernelSfwdIdeal.nD Cert.KernelSfwdIdeal.τ).loc Cert.KernelSfwdIdeal.main_arg7) = m ((c.tc : Thread Cert.KernelSfwdIdeal.nD Cert.KernelSfwdIdeal.τ).loc Cert.KernelSfwdIdeal.main_arg7))
      ∧ θ_run (Cert.ReferenceSfwdIdeal.defs (F := Ideal)) (onTc (τ := Cert.ReferenceSfwdIdeal.τ) (Cert.ReferenceSfwdIdeal.main (F := Ideal))) ⟨m', fun _ => 0, g'⟩ (fun r => ∀ c : Dev Cert.ReferenceSfwdIdeal.nD,
          r.2.mem ((c.tc : Thread Cert.ReferenceSfwdIdeal.nD Cert.ReferenceSfwdIdeal.τ).loc Cert.ReferenceSfwdIdeal.main_v56) = v0 c
          ∧ r.2.mem ((c.tc : Thread Cert.ReferenceSfwdIdeal.nD Cert.ReferenceSfwdIdeal.τ).loc Cert.ReferenceSfwdIdeal.main_v57) = v1 c
          ∧ r.2.mem ((c.tc : Thread Cert.ReferenceSfwdIdeal.nD Cert.ReferenceSfwdIdeal.τ).loc Cert.ReferenceSfwdIdeal.main_v58) = v2 c
          ∧ r.2.mem ((c.tc : Thread Cert.ReferenceSfwdIdeal.nD Cert.ReferenceSfwdIdeal.τ).loc Cert.ReferenceSfwdIdeal.main_v60) = v3 c
          ∧ r.2.mem ((c.tc : Thread Cert.ReferenceSfwdIdeal.nD Cert.ReferenceSfwdIdeal.τ).loc Cert.ReferenceSfwdIdeal.main_arg0) = m' ((c.tc : Thread Cert.ReferenceSfwdIdeal.nD Cert.ReferenceSfwdIdeal.τ).loc Cert.ReferenceSfwdIdeal.main_arg0)
          ∧ r.2.mem ((c.tc : Thread Cert.ReferenceSfwdIdeal.nD Cert.ReferenceSfwdIdeal.τ).loc Cert.ReferenceSfwdIdeal.main_arg1) = m' ((c.tc : Thread Cert.ReferenceSfwdIdeal.nD Cert.ReferenceSfwdIdeal.τ).loc Cert.ReferenceSfwdIdeal.main_arg1)
          ∧ r.2.mem ((c.tc : Thread Cert.ReferenceSfwdIdeal.nD Cert.ReferenceSfwdIdeal.τ).loc Cert.ReferenceSfwdIdeal.main_arg2) = m' ((c.tc : Thread Cert.ReferenceSfwdIdeal.nD Cert.ReferenceSfwdIdeal.τ).loc Cert.ReferenceSfwdIdeal.main_arg2)
          ∧ r.2.mem ((c.tc : Thread Cert.ReferenceSfwdIdeal.nD Cert.ReferenceSfwdIdeal.τ).loc Cert.ReferenceSfwdIdeal.main_arg3) = m' ((c.tc : Thread Cert.ReferenceSfwdIdeal.nD Cert.ReferenceSfwdIdeal.τ).loc Cert.ReferenceSfwdIdeal.main_arg3)
          ∧ r.2.mem ((c.tc : Thread Cert.ReferenceSfwdIdeal.nD Cert.ReferenceSfwdIdeal.τ).loc Cert.ReferenceSfwdIdeal.main_arg4) = m' ((c.tc : Thread Cert.ReferenceSfwdIdeal.nD Cert.ReferenceSfwdIdeal.τ).loc Cert.ReferenceSfwdIdeal.main_arg4)
          ∧ r.2.mem ((c.tc : Thread Cert.ReferenceSfwdIdeal.nD Cert.ReferenceSfwdIdeal.τ).loc Cert.ReferenceSfwdIdeal.main_arg5) = m' ((c.tc : Thread Cert.ReferenceSfwdIdeal.nD Cert.ReferenceSfwdIdeal.τ).loc Cert.ReferenceSfwdIdeal.main_arg5)
          ∧ r.2.mem ((c.tc : Thread Cert.ReferenceSfwdIdeal.nD Cert.ReferenceSfwdIdeal.τ).loc Cert.ReferenceSfwdIdeal.main_arg6) = m' ((c.tc : Thread Cert.ReferenceSfwdIdeal.nD Cert.ReferenceSfwdIdeal.τ).loc Cert.ReferenceSfwdIdeal.main_arg6)
          ∧ r.2.mem ((c.tc : Thread Cert.ReferenceSfwdIdeal.nD Cert.ReferenceSfwdIdeal.τ).loc Cert.ReferenceSfwdIdeal.main_arg7) = m' ((c.tc : Thread Cert.ReferenceSfwdIdeal.nD Cert.ReferenceSfwdIdeal.τ).loc Cert.ReferenceSfwdIdeal.main_arg7))

def preserves_KernelPfwd_KernelPfwdIdeal : Prop :=
  True

def algebraic_KernelPfwdIdeal_ReferencePfwdIdeal [hKernelPfwdIdeal : Cert.KernelPfwdIdeal.Facts] [hReferencePfwdIdeal : Cert.ReferencePfwdIdeal.Facts] : Prop :=
  ∀ (m : (ℓ : Loc Cert.KernelPfwdIdeal.nD Cert.KernelPfwdIdeal.τ Cert.KernelPfwdIdeal.sig) → Buf (Elt Ideal) ℓ) (g : Dev Cert.KernelPfwdIdeal.nD → PrngReg)
    (m' : (ℓ : Loc Cert.ReferencePfwdIdeal.nD Cert.ReferencePfwdIdeal.τ Cert.ReferencePfwdIdeal.sig) → Buf (Elt Ideal) ℓ) (g' : Dev Cert.ReferencePfwdIdeal.nD → PrngReg), Pre_KernelPfwdIdeal m →
    (∀ c : Dev Cert.KernelPfwdIdeal.nD,
      m' ((c.tc : Thread Cert.ReferencePfwdIdeal.nD Cert.ReferencePfwdIdeal.τ).loc Cert.ReferencePfwdIdeal.main_arg0) = m ((c.tc : Thread Cert.KernelPfwdIdeal.nD Cert.KernelPfwdIdeal.τ).loc Cert.KernelPfwdIdeal.main_arg0)
      ∧ m' ((c.tc : Thread Cert.ReferencePfwdIdeal.nD Cert.ReferencePfwdIdeal.τ).loc Cert.ReferencePfwdIdeal.main_arg1) = m ((c.tc : Thread Cert.KernelPfwdIdeal.nD Cert.KernelPfwdIdeal.τ).loc Cert.KernelPfwdIdeal.main_arg1)
      ∧ m' ((c.tc : Thread Cert.ReferencePfwdIdeal.nD Cert.ReferencePfwdIdeal.τ).loc Cert.ReferencePfwdIdeal.main_arg2) = m ((c.tc : Thread Cert.KernelPfwdIdeal.nD Cert.KernelPfwdIdeal.τ).loc Cert.KernelPfwdIdeal.main_arg2)
      ∧ m' ((c.tc : Thread Cert.ReferencePfwdIdeal.nD Cert.ReferencePfwdIdeal.τ).loc Cert.ReferencePfwdIdeal.main_arg3) = m ((c.tc : Thread Cert.KernelPfwdIdeal.nD Cert.KernelPfwdIdeal.τ).loc Cert.KernelPfwdIdeal.main_arg3)
      ∧ m' ((c.tc : Thread Cert.ReferencePfwdIdeal.nD Cert.ReferencePfwdIdeal.τ).loc Cert.ReferencePfwdIdeal.main_arg4) = m ((c.tc : Thread Cert.KernelPfwdIdeal.nD Cert.KernelPfwdIdeal.τ).loc Cert.KernelPfwdIdeal.main_arg4)
      ∧ m' ((c.tc : Thread Cert.ReferencePfwdIdeal.nD Cert.ReferencePfwdIdeal.τ).loc Cert.ReferencePfwdIdeal.main_arg5) = m ((c.tc : Thread Cert.KernelPfwdIdeal.nD Cert.KernelPfwdIdeal.τ).loc Cert.KernelPfwdIdeal.main_arg5)
      ∧ m' ((c.tc : Thread Cert.ReferencePfwdIdeal.nD Cert.ReferencePfwdIdeal.τ).loc Cert.ReferencePfwdIdeal.main_arg6) = m ((c.tc : Thread Cert.KernelPfwdIdeal.nD Cert.KernelPfwdIdeal.τ).loc Cert.KernelPfwdIdeal.main_arg6)
      ∧ m' ((c.tc : Thread Cert.ReferencePfwdIdeal.nD Cert.ReferencePfwdIdeal.τ).loc Cert.ReferencePfwdIdeal.main_arg7) = m ((c.tc : Thread Cert.KernelPfwdIdeal.nD Cert.KernelPfwdIdeal.τ).loc Cert.KernelPfwdIdeal.main_arg7)
      ∧ m' ((c.tc : Thread Cert.ReferencePfwdIdeal.nD Cert.ReferencePfwdIdeal.τ).loc Cert.ReferencePfwdIdeal.main_arg8) = m ((c.tc : Thread Cert.KernelPfwdIdeal.nD Cert.KernelPfwdIdeal.τ).loc Cert.KernelPfwdIdeal.main_arg8)
      ∧ m' ((c.tc : Thread Cert.ReferencePfwdIdeal.nD Cert.ReferencePfwdIdeal.τ).loc Cert.ReferencePfwdIdeal.main_arg9) = m ((c.tc : Thread Cert.KernelPfwdIdeal.nD Cert.KernelPfwdIdeal.τ).loc Cert.KernelPfwdIdeal.main_arg9)
      ∧ m' ((c.tc : Thread Cert.ReferencePfwdIdeal.nD Cert.ReferencePfwdIdeal.τ).loc Cert.ReferencePfwdIdeal.main_arg10) = m ((c.tc : Thread Cert.KernelPfwdIdeal.nD Cert.KernelPfwdIdeal.τ).loc Cert.KernelPfwdIdeal.main_arg10)
      ∧ m' ((c.tc : Thread Cert.ReferencePfwdIdeal.nD Cert.ReferencePfwdIdeal.τ).loc Cert.ReferencePfwdIdeal.main_arg11) = m ((c.tc : Thread Cert.KernelPfwdIdeal.nD Cert.KernelPfwdIdeal.τ).loc Cert.KernelPfwdIdeal.main_arg11)
      ∧ m' ((c.tc : Thread Cert.ReferencePfwdIdeal.nD Cert.ReferencePfwdIdeal.τ).loc Cert.ReferencePfwdIdeal.main_arg12) = m ((c.tc : Thread Cert.KernelPfwdIdeal.nD Cert.KernelPfwdIdeal.τ).loc Cert.KernelPfwdIdeal.main_arg12)) →
    ∃ (v0 : (c : Dev Cert.KernelPfwdIdeal.nD) → Buf (Elt Ideal) ((c.tc : Thread Cert.KernelPfwdIdeal.nD Cert.KernelPfwdIdeal.τ).loc Cert.KernelPfwdIdeal.main_v13)),
      θ_run (Cert.KernelPfwdIdeal.defs (F := Ideal)) (onTc (τ := Cert.KernelPfwdIdeal.τ) (Cert.KernelPfwdIdeal.main (F := Ideal))) ⟨m, fun _ => 0, g⟩ (fun r => ∀ c : Dev Cert.KernelPfwdIdeal.nD,
          r.2.mem ((c.tc : Thread Cert.KernelPfwdIdeal.nD Cert.KernelPfwdIdeal.τ).loc Cert.KernelPfwdIdeal.main_v13) = v0 c
          ∧ r.2.mem ((c.tc : Thread Cert.KernelPfwdIdeal.nD Cert.KernelPfwdIdeal.τ).loc Cert.KernelPfwdIdeal.main_arg0) = m ((c.tc : Thread Cert.KernelPfwdIdeal.nD Cert.KernelPfwdIdeal.τ).loc Cert.KernelPfwdIdeal.main_arg0)
          ∧ r.2.mem ((c.tc : Thread Cert.KernelPfwdIdeal.nD Cert.KernelPfwdIdeal.τ).loc Cert.KernelPfwdIdeal.main_arg1) = m ((c.tc : Thread Cert.KernelPfwdIdeal.nD Cert.KernelPfwdIdeal.τ).loc Cert.KernelPfwdIdeal.main_arg1)
          ∧ r.2.mem ((c.tc : Thread Cert.KernelPfwdIdeal.nD Cert.KernelPfwdIdeal.τ).loc Cert.KernelPfwdIdeal.main_arg2) = m ((c.tc : Thread Cert.KernelPfwdIdeal.nD Cert.KernelPfwdIdeal.τ).loc Cert.KernelPfwdIdeal.main_arg2)
          ∧ r.2.mem ((c.tc : Thread Cert.KernelPfwdIdeal.nD Cert.KernelPfwdIdeal.τ).loc Cert.KernelPfwdIdeal.main_arg3) = m ((c.tc : Thread Cert.KernelPfwdIdeal.nD Cert.KernelPfwdIdeal.τ).loc Cert.KernelPfwdIdeal.main_arg3)
          ∧ r.2.mem ((c.tc : Thread Cert.KernelPfwdIdeal.nD Cert.KernelPfwdIdeal.τ).loc Cert.KernelPfwdIdeal.main_arg4) = m ((c.tc : Thread Cert.KernelPfwdIdeal.nD Cert.KernelPfwdIdeal.τ).loc Cert.KernelPfwdIdeal.main_arg4)
          ∧ r.2.mem ((c.tc : Thread Cert.KernelPfwdIdeal.nD Cert.KernelPfwdIdeal.τ).loc Cert.KernelPfwdIdeal.main_arg5) = m ((c.tc : Thread Cert.KernelPfwdIdeal.nD Cert.KernelPfwdIdeal.τ).loc Cert.KernelPfwdIdeal.main_arg5)
          ∧ r.2.mem ((c.tc : Thread Cert.KernelPfwdIdeal.nD Cert.KernelPfwdIdeal.τ).loc Cert.KernelPfwdIdeal.main_arg6) = m ((c.tc : Thread Cert.KernelPfwdIdeal.nD Cert.KernelPfwdIdeal.τ).loc Cert.KernelPfwdIdeal.main_arg6)
          ∧ r.2.mem ((c.tc : Thread Cert.KernelPfwdIdeal.nD Cert.KernelPfwdIdeal.τ).loc Cert.KernelPfwdIdeal.main_arg7) = m ((c.tc : Thread Cert.KernelPfwdIdeal.nD Cert.KernelPfwdIdeal.τ).loc Cert.KernelPfwdIdeal.main_arg7)
          ∧ r.2.mem ((c.tc : Thread Cert.KernelPfwdIdeal.nD Cert.KernelPfwdIdeal.τ).loc Cert.KernelPfwdIdeal.main_arg8) = m ((c.tc : Thread Cert.KernelPfwdIdeal.nD Cert.KernelPfwdIdeal.τ).loc Cert.KernelPfwdIdeal.main_arg8)
          ∧ r.2.mem ((c.tc : Thread Cert.KernelPfwdIdeal.nD Cert.KernelPfwdIdeal.τ).loc Cert.KernelPfwdIdeal.main_arg9) = m ((c.tc : Thread Cert.KernelPfwdIdeal.nD Cert.KernelPfwdIdeal.τ).loc Cert.KernelPfwdIdeal.main_arg9)
          ∧ r.2.mem ((c.tc : Thread Cert.KernelPfwdIdeal.nD Cert.KernelPfwdIdeal.τ).loc Cert.KernelPfwdIdeal.main_arg10) = m ((c.tc : Thread Cert.KernelPfwdIdeal.nD Cert.KernelPfwdIdeal.τ).loc Cert.KernelPfwdIdeal.main_arg10)
          ∧ r.2.mem ((c.tc : Thread Cert.KernelPfwdIdeal.nD Cert.KernelPfwdIdeal.τ).loc Cert.KernelPfwdIdeal.main_arg11) = m ((c.tc : Thread Cert.KernelPfwdIdeal.nD Cert.KernelPfwdIdeal.τ).loc Cert.KernelPfwdIdeal.main_arg11)
          ∧ r.2.mem ((c.tc : Thread Cert.KernelPfwdIdeal.nD Cert.KernelPfwdIdeal.τ).loc Cert.KernelPfwdIdeal.main_arg12) = m ((c.tc : Thread Cert.KernelPfwdIdeal.nD Cert.KernelPfwdIdeal.τ).loc Cert.KernelPfwdIdeal.main_arg12))
      ∧ θ_run (Cert.ReferencePfwdIdeal.defs (F := Ideal)) (onTc (τ := Cert.ReferencePfwdIdeal.τ) (Cert.ReferencePfwdIdeal.main (F := Ideal))) ⟨m', fun _ => 0, g'⟩ (fun r => ∀ c : Dev Cert.ReferencePfwdIdeal.nD,
          r.2.mem ((c.tc : Thread Cert.ReferencePfwdIdeal.nD Cert.ReferencePfwdIdeal.τ).loc Cert.ReferencePfwdIdeal.main_v56) = v0 c
          ∧ r.2.mem ((c.tc : Thread Cert.ReferencePfwdIdeal.nD Cert.ReferencePfwdIdeal.τ).loc Cert.ReferencePfwdIdeal.main_arg0) = m' ((c.tc : Thread Cert.ReferencePfwdIdeal.nD Cert.ReferencePfwdIdeal.τ).loc Cert.ReferencePfwdIdeal.main_arg0)
          ∧ r.2.mem ((c.tc : Thread Cert.ReferencePfwdIdeal.nD Cert.ReferencePfwdIdeal.τ).loc Cert.ReferencePfwdIdeal.main_arg1) = m' ((c.tc : Thread Cert.ReferencePfwdIdeal.nD Cert.ReferencePfwdIdeal.τ).loc Cert.ReferencePfwdIdeal.main_arg1)
          ∧ r.2.mem ((c.tc : Thread Cert.ReferencePfwdIdeal.nD Cert.ReferencePfwdIdeal.τ).loc Cert.ReferencePfwdIdeal.main_arg2) = m' ((c.tc : Thread Cert.ReferencePfwdIdeal.nD Cert.ReferencePfwdIdeal.τ).loc Cert.ReferencePfwdIdeal.main_arg2)
          ∧ r.2.mem ((c.tc : Thread Cert.ReferencePfwdIdeal.nD Cert.ReferencePfwdIdeal.τ).loc Cert.ReferencePfwdIdeal.main_arg3) = m' ((c.tc : Thread Cert.ReferencePfwdIdeal.nD Cert.ReferencePfwdIdeal.τ).loc Cert.ReferencePfwdIdeal.main_arg3)
          ∧ r.2.mem ((c.tc : Thread Cert.ReferencePfwdIdeal.nD Cert.ReferencePfwdIdeal.τ).loc Cert.ReferencePfwdIdeal.main_arg4) = m' ((c.tc : Thread Cert.ReferencePfwdIdeal.nD Cert.ReferencePfwdIdeal.τ).loc Cert.ReferencePfwdIdeal.main_arg4)
          ∧ r.2.mem ((c.tc : Thread Cert.ReferencePfwdIdeal.nD Cert.ReferencePfwdIdeal.τ).loc Cert.ReferencePfwdIdeal.main_arg5) = m' ((c.tc : Thread Cert.ReferencePfwdIdeal.nD Cert.ReferencePfwdIdeal.τ).loc Cert.ReferencePfwdIdeal.main_arg5)
          ∧ r.2.mem ((c.tc : Thread Cert.ReferencePfwdIdeal.nD Cert.ReferencePfwdIdeal.τ).loc Cert.ReferencePfwdIdeal.main_arg6) = m' ((c.tc : Thread Cert.ReferencePfwdIdeal.nD Cert.ReferencePfwdIdeal.τ).loc Cert.ReferencePfwdIdeal.main_arg6)
          ∧ r.2.mem ((c.tc : Thread Cert.ReferencePfwdIdeal.nD Cert.ReferencePfwdIdeal.τ).loc Cert.ReferencePfwdIdeal.main_arg7) = m' ((c.tc : Thread Cert.ReferencePfwdIdeal.nD Cert.ReferencePfwdIdeal.τ).loc Cert.ReferencePfwdIdeal.main_arg7)
          ∧ r.2.mem ((c.tc : Thread Cert.ReferencePfwdIdeal.nD Cert.ReferencePfwdIdeal.τ).loc Cert.ReferencePfwdIdeal.main_arg8) = m' ((c.tc : Thread Cert.ReferencePfwdIdeal.nD Cert.ReferencePfwdIdeal.τ).loc Cert.ReferencePfwdIdeal.main_arg8)
          ∧ r.2.mem ((c.tc : Thread Cert.ReferencePfwdIdeal.nD Cert.ReferencePfwdIdeal.τ).loc Cert.ReferencePfwdIdeal.main_arg9) = m' ((c.tc : Thread Cert.ReferencePfwdIdeal.nD Cert.ReferencePfwdIdeal.τ).loc Cert.ReferencePfwdIdeal.main_arg9)
          ∧ r.2.mem ((c.tc : Thread Cert.ReferencePfwdIdeal.nD Cert.ReferencePfwdIdeal.τ).loc Cert.ReferencePfwdIdeal.main_arg10) = m' ((c.tc : Thread Cert.ReferencePfwdIdeal.nD Cert.ReferencePfwdIdeal.τ).loc Cert.ReferencePfwdIdeal.main_arg10)
          ∧ r.2.mem ((c.tc : Thread Cert.ReferencePfwdIdeal.nD Cert.ReferencePfwdIdeal.τ).loc Cert.ReferencePfwdIdeal.main_arg11) = m' ((c.tc : Thread Cert.ReferencePfwdIdeal.nD Cert.ReferencePfwdIdeal.τ).loc Cert.ReferencePfwdIdeal.main_arg11)
          ∧ r.2.mem ((c.tc : Thread Cert.ReferencePfwdIdeal.nD Cert.ReferencePfwdIdeal.τ).loc Cert.ReferencePfwdIdeal.main_arg12) = m' ((c.tc : Thread Cert.ReferencePfwdIdeal.nD Cert.ReferencePfwdIdeal.τ).loc Cert.ReferencePfwdIdeal.main_arg12))

def preserves_KernelMfwd_KernelMfwdIdeal : Prop :=
  True

def algebraic_KernelMfwdIdeal_ReferenceMfwdIdeal [hKernelMfwdIdeal : Cert.KernelMfwdIdeal.Facts] [hReferenceMfwdIdeal : Cert.ReferenceMfwdIdeal.Facts] : Prop :=
  ∀ (m : (ℓ : Loc Cert.KernelMfwdIdeal.nD Cert.KernelMfwdIdeal.τ Cert.KernelMfwdIdeal.sig) → Buf (Elt Ideal) ℓ) (g : Dev Cert.KernelMfwdIdeal.nD → PrngReg)
    (m' : (ℓ : Loc Cert.ReferenceMfwdIdeal.nD Cert.ReferenceMfwdIdeal.τ Cert.ReferenceMfwdIdeal.sig) → Buf (Elt Ideal) ℓ) (g' : Dev Cert.ReferenceMfwdIdeal.nD → PrngReg), Pre_KernelMfwdIdeal m →
    (∀ c : Dev Cert.KernelMfwdIdeal.nD,
      m' ((c.tc : Thread Cert.ReferenceMfwdIdeal.nD Cert.ReferenceMfwdIdeal.τ).loc Cert.ReferenceMfwdIdeal.main_arg0) = m ((c.tc : Thread Cert.KernelMfwdIdeal.nD Cert.KernelMfwdIdeal.τ).loc Cert.KernelMfwdIdeal.main_arg0)
      ∧ m' ((c.tc : Thread Cert.ReferenceMfwdIdeal.nD Cert.ReferenceMfwdIdeal.τ).loc Cert.ReferenceMfwdIdeal.main_arg1) = m ((c.tc : Thread Cert.KernelMfwdIdeal.nD Cert.KernelMfwdIdeal.τ).loc Cert.KernelMfwdIdeal.main_arg1)
      ∧ m' ((c.tc : Thread Cert.ReferenceMfwdIdeal.nD Cert.ReferenceMfwdIdeal.τ).loc Cert.ReferenceMfwdIdeal.main_arg2) = m ((c.tc : Thread Cert.KernelMfwdIdeal.nD Cert.KernelMfwdIdeal.τ).loc Cert.KernelMfwdIdeal.main_arg2)
      ∧ m' ((c.tc : Thread Cert.ReferenceMfwdIdeal.nD Cert.ReferenceMfwdIdeal.τ).loc Cert.ReferenceMfwdIdeal.main_arg3) = m ((c.tc : Thread Cert.KernelMfwdIdeal.nD Cert.KernelMfwdIdeal.τ).loc Cert.KernelMfwdIdeal.main_arg3)) →
    ∃ (v0 : (c : Dev Cert.KernelMfwdIdeal.nD) → Buf (Elt Ideal) ((c.tc : Thread Cert.KernelMfwdIdeal.nD Cert.KernelMfwdIdeal.τ).loc Cert.KernelMfwdIdeal.main_v5)),
      θ_run (Cert.KernelMfwdIdeal.defs (F := Ideal)) (onTc (τ := Cert.KernelMfwdIdeal.τ) (Cert.KernelMfwdIdeal.main (F := Ideal))) ⟨m, fun _ => 0, g⟩ (fun r => ∀ c : Dev Cert.KernelMfwdIdeal.nD,
          r.2.mem ((c.tc : Thread Cert.KernelMfwdIdeal.nD Cert.KernelMfwdIdeal.τ).loc Cert.KernelMfwdIdeal.main_v5) = v0 c
          ∧ r.2.mem ((c.tc : Thread Cert.KernelMfwdIdeal.nD Cert.KernelMfwdIdeal.τ).loc Cert.KernelMfwdIdeal.main_arg0) = m ((c.tc : Thread Cert.KernelMfwdIdeal.nD Cert.KernelMfwdIdeal.τ).loc Cert.KernelMfwdIdeal.main_arg0)
          ∧ r.2.mem ((c.tc : Thread Cert.KernelMfwdIdeal.nD Cert.KernelMfwdIdeal.τ).loc Cert.KernelMfwdIdeal.main_arg1) = m ((c.tc : Thread Cert.KernelMfwdIdeal.nD Cert.KernelMfwdIdeal.τ).loc Cert.KernelMfwdIdeal.main_arg1)
          ∧ r.2.mem ((c.tc : Thread Cert.KernelMfwdIdeal.nD Cert.KernelMfwdIdeal.τ).loc Cert.KernelMfwdIdeal.main_arg2) = m ((c.tc : Thread Cert.KernelMfwdIdeal.nD Cert.KernelMfwdIdeal.τ).loc Cert.KernelMfwdIdeal.main_arg2)
          ∧ r.2.mem ((c.tc : Thread Cert.KernelMfwdIdeal.nD Cert.KernelMfwdIdeal.τ).loc Cert.KernelMfwdIdeal.main_arg3) = m ((c.tc : Thread Cert.KernelMfwdIdeal.nD Cert.KernelMfwdIdeal.τ).loc Cert.KernelMfwdIdeal.main_arg3))
      ∧ θ_run (Cert.ReferenceMfwdIdeal.defs (F := Ideal)) (onTc (τ := Cert.ReferenceMfwdIdeal.τ) (Cert.ReferenceMfwdIdeal.main (F := Ideal))) ⟨m', fun _ => 0, g'⟩ (fun r => ∀ c : Dev Cert.ReferenceMfwdIdeal.nD,
          r.2.mem ((c.tc : Thread Cert.ReferenceMfwdIdeal.nD Cert.ReferenceMfwdIdeal.τ).loc Cert.ReferenceMfwdIdeal.main_v17) = v0 c
          ∧ r.2.mem ((c.tc : Thread Cert.ReferenceMfwdIdeal.nD Cert.ReferenceMfwdIdeal.τ).loc Cert.ReferenceMfwdIdeal.main_arg0) = m' ((c.tc : Thread Cert.ReferenceMfwdIdeal.nD Cert.ReferenceMfwdIdeal.τ).loc Cert.ReferenceMfwdIdeal.main_arg0)
          ∧ r.2.mem ((c.tc : Thread Cert.ReferenceMfwdIdeal.nD Cert.ReferenceMfwdIdeal.τ).loc Cert.ReferenceMfwdIdeal.main_arg1) = m' ((c.tc : Thread Cert.ReferenceMfwdIdeal.nD Cert.ReferenceMfwdIdeal.τ).loc Cert.ReferenceMfwdIdeal.main_arg1)
          ∧ r.2.mem ((c.tc : Thread Cert.ReferenceMfwdIdeal.nD Cert.ReferenceMfwdIdeal.τ).loc Cert.ReferenceMfwdIdeal.main_arg2) = m' ((c.tc : Thread Cert.ReferenceMfwdIdeal.nD Cert.ReferenceMfwdIdeal.τ).loc Cert.ReferenceMfwdIdeal.main_arg2)
          ∧ r.2.mem ((c.tc : Thread Cert.ReferenceMfwdIdeal.nD Cert.ReferenceMfwdIdeal.τ).loc Cert.ReferenceMfwdIdeal.main_arg3) = m' ((c.tc : Thread Cert.ReferenceMfwdIdeal.nD Cert.ReferenceMfwdIdeal.τ).loc Cert.ReferenceMfwdIdeal.main_arg3))

def preserves_KernelQfwd_KernelQfwdIdeal : Prop :=
  True

def algebraic_KernelQfwdIdeal_ReferenceQfwdIdeal [hKernelQfwdIdeal : Cert.KernelQfwdIdeal.Facts] [hReferenceQfwdIdeal : Cert.ReferenceQfwdIdeal.Facts] : Prop :=
  ∀ (m : (ℓ : Loc Cert.KernelQfwdIdeal.nD Cert.KernelQfwdIdeal.τ Cert.KernelQfwdIdeal.sig) → Buf (Elt Ideal) ℓ) (g : Dev Cert.KernelQfwdIdeal.nD → PrngReg)
    (m' : (ℓ : Loc Cert.ReferenceQfwdIdeal.nD Cert.ReferenceQfwdIdeal.τ Cert.ReferenceQfwdIdeal.sig) → Buf (Elt Ideal) ℓ) (g' : Dev Cert.ReferenceQfwdIdeal.nD → PrngReg), Pre_KernelQfwdIdeal m →
    (∀ c : Dev Cert.KernelQfwdIdeal.nD,
      m' ((c.tc : Thread Cert.ReferenceQfwdIdeal.nD Cert.ReferenceQfwdIdeal.τ).loc Cert.ReferenceQfwdIdeal.main_arg0) = m ((c.tc : Thread Cert.KernelQfwdIdeal.nD Cert.KernelQfwdIdeal.τ).loc Cert.KernelQfwdIdeal.main_arg0)
      ∧ m' ((c.tc : Thread Cert.ReferenceQfwdIdeal.nD Cert.ReferenceQfwdIdeal.τ).loc Cert.ReferenceQfwdIdeal.main_arg1) = m ((c.tc : Thread Cert.KernelQfwdIdeal.nD Cert.KernelQfwdIdeal.τ).loc Cert.KernelQfwdIdeal.main_arg1)
      ∧ m' ((c.tc : Thread Cert.ReferenceQfwdIdeal.nD Cert.ReferenceQfwdIdeal.τ).loc Cert.ReferenceQfwdIdeal.main_arg2) = m ((c.tc : Thread Cert.KernelQfwdIdeal.nD Cert.KernelQfwdIdeal.τ).loc Cert.KernelQfwdIdeal.main_arg2)
      ∧ m' ((c.tc : Thread Cert.ReferenceQfwdIdeal.nD Cert.ReferenceQfwdIdeal.τ).loc Cert.ReferenceQfwdIdeal.main_arg3) = m ((c.tc : Thread Cert.KernelQfwdIdeal.nD Cert.KernelQfwdIdeal.τ).loc Cert.KernelQfwdIdeal.main_arg3)
      ∧ m' ((c.tc : Thread Cert.ReferenceQfwdIdeal.nD Cert.ReferenceQfwdIdeal.τ).loc Cert.ReferenceQfwdIdeal.main_arg4) = m ((c.tc : Thread Cert.KernelQfwdIdeal.nD Cert.KernelQfwdIdeal.τ).loc Cert.KernelQfwdIdeal.main_arg4)
      ∧ m' ((c.tc : Thread Cert.ReferenceQfwdIdeal.nD Cert.ReferenceQfwdIdeal.τ).loc Cert.ReferenceQfwdIdeal.main_arg5) = m ((c.tc : Thread Cert.KernelQfwdIdeal.nD Cert.KernelQfwdIdeal.τ).loc Cert.KernelQfwdIdeal.main_arg5)
      ∧ m' ((c.tc : Thread Cert.ReferenceQfwdIdeal.nD Cert.ReferenceQfwdIdeal.τ).loc Cert.ReferenceQfwdIdeal.main_arg6) = m ((c.tc : Thread Cert.KernelQfwdIdeal.nD Cert.KernelQfwdIdeal.τ).loc Cert.KernelQfwdIdeal.main_arg6)
      ∧ m' ((c.tc : Thread Cert.ReferenceQfwdIdeal.nD Cert.ReferenceQfwdIdeal.τ).loc Cert.ReferenceQfwdIdeal.main_arg7) = m ((c.tc : Thread Cert.KernelQfwdIdeal.nD Cert.KernelQfwdIdeal.τ).loc Cert.KernelQfwdIdeal.main_arg7)
      ∧ m' ((c.tc : Thread Cert.ReferenceQfwdIdeal.nD Cert.ReferenceQfwdIdeal.τ).loc Cert.ReferenceQfwdIdeal.main_arg8) = m ((c.tc : Thread Cert.KernelQfwdIdeal.nD Cert.KernelQfwdIdeal.τ).loc Cert.KernelQfwdIdeal.main_arg8)) →
    ∃ (v0 : (c : Dev Cert.KernelQfwdIdeal.nD) → Buf (Elt Ideal) ((c.tc : Thread Cert.KernelQfwdIdeal.nD Cert.KernelQfwdIdeal.τ).loc Cert.KernelQfwdIdeal.main_v17_0)) (v1 : (c : Dev Cert.KernelQfwdIdeal.nD) → Buf (Elt Ideal) ((c.tc : Thread Cert.KernelQfwdIdeal.nD Cert.KernelQfwdIdeal.τ).loc Cert.KernelQfwdIdeal.main_v17_1)) (v2 : (c : Dev Cert.KernelQfwdIdeal.nD) → Buf (Elt Ideal) ((c.tc : Thread Cert.KernelQfwdIdeal.nD Cert.KernelQfwdIdeal.τ).loc Cert.KernelQfwdIdeal.main_v17_2)),
      θ_run (Cert.KernelQfwdIdeal.defs (F := Ideal)) (onTc (τ := Cert.KernelQfwdIdeal.τ) (Cert.KernelQfwdIdeal.main (F := Ideal))) ⟨m, fun _ => 0, g⟩ (fun r => ∀ c : Dev Cert.KernelQfwdIdeal.nD,
          r.2.mem ((c.tc : Thread Cert.KernelQfwdIdeal.nD Cert.KernelQfwdIdeal.τ).loc Cert.KernelQfwdIdeal.main_v17_0) = v0 c
          ∧ r.2.mem ((c.tc : Thread Cert.KernelQfwdIdeal.nD Cert.KernelQfwdIdeal.τ).loc Cert.KernelQfwdIdeal.main_v17_1) = v1 c
          ∧ r.2.mem ((c.tc : Thread Cert.KernelQfwdIdeal.nD Cert.KernelQfwdIdeal.τ).loc Cert.KernelQfwdIdeal.main_v17_2) = v2 c
          ∧ r.2.mem ((c.tc : Thread Cert.KernelQfwdIdeal.nD Cert.KernelQfwdIdeal.τ).loc Cert.KernelQfwdIdeal.main_arg0) = m ((c.tc : Thread Cert.KernelQfwdIdeal.nD Cert.KernelQfwdIdeal.τ).loc Cert.KernelQfwdIdeal.main_arg0)
          ∧ r.2.mem ((c.tc : Thread Cert.KernelQfwdIdeal.nD Cert.KernelQfwdIdeal.τ).loc Cert.KernelQfwdIdeal.main_arg1) = m ((c.tc : Thread Cert.KernelQfwdIdeal.nD Cert.KernelQfwdIdeal.τ).loc Cert.KernelQfwdIdeal.main_arg1)
          ∧ r.2.mem ((c.tc : Thread Cert.KernelQfwdIdeal.nD Cert.KernelQfwdIdeal.τ).loc Cert.KernelQfwdIdeal.main_arg2) = m ((c.tc : Thread Cert.KernelQfwdIdeal.nD Cert.KernelQfwdIdeal.τ).loc Cert.KernelQfwdIdeal.main_arg2)
          ∧ r.2.mem ((c.tc : Thread Cert.KernelQfwdIdeal.nD Cert.KernelQfwdIdeal.τ).loc Cert.KernelQfwdIdeal.main_arg3) = m ((c.tc : Thread Cert.KernelQfwdIdeal.nD Cert.KernelQfwdIdeal.τ).loc Cert.KernelQfwdIdeal.main_arg3)
          ∧ r.2.mem ((c.tc : Thread Cert.KernelQfwdIdeal.nD Cert.KernelQfwdIdeal.τ).loc Cert.KernelQfwdIdeal.main_arg4) = m ((c.tc : Thread Cert.KernelQfwdIdeal.nD Cert.KernelQfwdIdeal.τ).loc Cert.KernelQfwdIdeal.main_arg4)
          ∧ r.2.mem ((c.tc : Thread Cert.KernelQfwdIdeal.nD Cert.KernelQfwdIdeal.τ).loc Cert.KernelQfwdIdeal.main_arg5) = m ((c.tc : Thread Cert.KernelQfwdIdeal.nD Cert.KernelQfwdIdeal.τ).loc Cert.KernelQfwdIdeal.main_arg5)
          ∧ r.2.mem ((c.tc : Thread Cert.KernelQfwdIdeal.nD Cert.KernelQfwdIdeal.τ).loc Cert.KernelQfwdIdeal.main_arg6) = m ((c.tc : Thread Cert.KernelQfwdIdeal.nD Cert.KernelQfwdIdeal.τ).loc Cert.KernelQfwdIdeal.main_arg6)
          ∧ r.2.mem ((c.tc : Thread Cert.KernelQfwdIdeal.nD Cert.KernelQfwdIdeal.τ).loc Cert.KernelQfwdIdeal.main_arg7) = m ((c.tc : Thread Cert.KernelQfwdIdeal.nD Cert.KernelQfwdIdeal.τ).loc Cert.KernelQfwdIdeal.main_arg7)
          ∧ r.2.mem ((c.tc : Thread Cert.KernelQfwdIdeal.nD Cert.KernelQfwdIdeal.τ).loc Cert.KernelQfwdIdeal.main_arg8) = m ((c.tc : Thread Cert.KernelQfwdIdeal.nD Cert.KernelQfwdIdeal.τ).loc Cert.KernelQfwdIdeal.main_arg8))
      ∧ θ_run (Cert.ReferenceQfwdIdeal.defs (F := Ideal)) (onTc (τ := Cert.ReferenceQfwdIdeal.τ) (Cert.ReferenceQfwdIdeal.main (F := Ideal))) ⟨m', fun _ => 0, g'⟩ (fun r => ∀ c : Dev Cert.ReferenceQfwdIdeal.nD,
          r.2.mem ((c.tc : Thread Cert.ReferenceQfwdIdeal.nD Cert.ReferenceQfwdIdeal.τ).loc Cert.ReferenceQfwdIdeal.main_v67) = v0 c
          ∧ r.2.mem ((c.tc : Thread Cert.ReferenceQfwdIdeal.nD Cert.ReferenceQfwdIdeal.τ).loc Cert.ReferenceQfwdIdeal.main_v68) = v1 c
          ∧ r.2.mem ((c.tc : Thread Cert.ReferenceQfwdIdeal.nD Cert.ReferenceQfwdIdeal.τ).loc Cert.ReferenceQfwdIdeal.main_v66) = v2 c
          ∧ r.2.mem ((c.tc : Thread Cert.ReferenceQfwdIdeal.nD Cert.ReferenceQfwdIdeal.τ).loc Cert.ReferenceQfwdIdeal.main_arg0) = m' ((c.tc : Thread Cert.ReferenceQfwdIdeal.nD Cert.ReferenceQfwdIdeal.τ).loc Cert.ReferenceQfwdIdeal.main_arg0)
          ∧ r.2.mem ((c.tc : Thread Cert.ReferenceQfwdIdeal.nD Cert.ReferenceQfwdIdeal.τ).loc Cert.ReferenceQfwdIdeal.main_arg1) = m' ((c.tc : Thread Cert.ReferenceQfwdIdeal.nD Cert.ReferenceQfwdIdeal.τ).loc Cert.ReferenceQfwdIdeal.main_arg1)
          ∧ r.2.mem ((c.tc : Thread Cert.ReferenceQfwdIdeal.nD Cert.ReferenceQfwdIdeal.τ).loc Cert.ReferenceQfwdIdeal.main_arg2) = m' ((c.tc : Thread Cert.ReferenceQfwdIdeal.nD Cert.ReferenceQfwdIdeal.τ).loc Cert.ReferenceQfwdIdeal.main_arg2)
          ∧ r.2.mem ((c.tc : Thread Cert.ReferenceQfwdIdeal.nD Cert.ReferenceQfwdIdeal.τ).loc Cert.ReferenceQfwdIdeal.main_arg3) = m' ((c.tc : Thread Cert.ReferenceQfwdIdeal.nD Cert.ReferenceQfwdIdeal.τ).loc Cert.ReferenceQfwdIdeal.main_arg3)
          ∧ r.2.mem ((c.tc : Thread Cert.ReferenceQfwdIdeal.nD Cert.ReferenceQfwdIdeal.τ).loc Cert.ReferenceQfwdIdeal.main_arg4) = m' ((c.tc : Thread Cert.ReferenceQfwdIdeal.nD Cert.ReferenceQfwdIdeal.τ).loc Cert.ReferenceQfwdIdeal.main_arg4)
          ∧ r.2.mem ((c.tc : Thread Cert.ReferenceQfwdIdeal.nD Cert.ReferenceQfwdIdeal.τ).loc Cert.ReferenceQfwdIdeal.main_arg5) = m' ((c.tc : Thread Cert.ReferenceQfwdIdeal.nD Cert.ReferenceQfwdIdeal.τ).loc Cert.ReferenceQfwdIdeal.main_arg5)
          ∧ r.2.mem ((c.tc : Thread Cert.ReferenceQfwdIdeal.nD Cert.ReferenceQfwdIdeal.τ).loc Cert.ReferenceQfwdIdeal.main_arg6) = m' ((c.tc : Thread Cert.ReferenceQfwdIdeal.nD Cert.ReferenceQfwdIdeal.τ).loc Cert.ReferenceQfwdIdeal.main_arg6)
          ∧ r.2.mem ((c.tc : Thread Cert.ReferenceQfwdIdeal.nD Cert.ReferenceQfwdIdeal.τ).loc Cert.ReferenceQfwdIdeal.main_arg7) = m' ((c.tc : Thread Cert.ReferenceQfwdIdeal.nD Cert.ReferenceQfwdIdeal.τ).loc Cert.ReferenceQfwdIdeal.main_arg7)
          ∧ r.2.mem ((c.tc : Thread Cert.ReferenceQfwdIdeal.nD Cert.ReferenceQfwdIdeal.τ).loc Cert.ReferenceQfwdIdeal.main_arg8) = m' ((c.tc : Thread Cert.ReferenceQfwdIdeal.nD Cert.ReferenceQfwdIdeal.τ).loc Cert.ReferenceQfwdIdeal.main_arg8))

def preserves_KernelMmtn_KernelMmtnIdeal : Prop :=
  True

def algebraic_KernelMmtnIdeal_ReferenceMmtnIdeal [hKernelMmtnIdeal : Cert.KernelMmtnIdeal.Facts] [hReferenceMmtnIdeal : Cert.ReferenceMmtnIdeal.Facts] : Prop :=
  ∀ (m : (ℓ : Loc Cert.KernelMmtnIdeal.nD Cert.KernelMmtnIdeal.τ Cert.KernelMmtnIdeal.sig) → Buf (Elt Ideal) ℓ) (g : Dev Cert.KernelMmtnIdeal.nD → PrngReg)
    (m' : (ℓ : Loc Cert.ReferenceMmtnIdeal.nD Cert.ReferenceMmtnIdeal.τ Cert.ReferenceMmtnIdeal.sig) → Buf (Elt Ideal) ℓ) (g' : Dev Cert.ReferenceMmtnIdeal.nD → PrngReg), Pre_KernelMmtnIdeal m →
    (∀ c : Dev Cert.KernelMmtnIdeal.nD,
      m' ((c.tc : Thread Cert.ReferenceMmtnIdeal.nD Cert.ReferenceMmtnIdeal.τ).loc Cert.ReferenceMmtnIdeal.main_arg0) = m ((c.tc : Thread Cert.KernelMmtnIdeal.nD Cert.KernelMmtnIdeal.τ).loc Cert.KernelMmtnIdeal.main_arg0)
      ∧ m' ((c.tc : Thread Cert.ReferenceMmtnIdeal.nD Cert.ReferenceMmtnIdeal.τ).loc Cert.ReferenceMmtnIdeal.main_arg1) = m ((c.tc : Thread Cert.KernelMmtnIdeal.nD Cert.KernelMmtnIdeal.τ).loc Cert.KernelMmtnIdeal.main_arg1)) →
    ∃ (v0 : (c : Dev Cert.KernelMmtnIdeal.nD) → Buf (Elt Ideal) ((c.tc : Thread Cert.KernelMmtnIdeal.nD Cert.KernelMmtnIdeal.τ).loc Cert.KernelMmtnIdeal.main_v0)),
      θ_run (Cert.KernelMmtnIdeal.defs (F := Ideal)) (onTc (τ := Cert.KernelMmtnIdeal.τ) (Cert.KernelMmtnIdeal.main (F := Ideal))) ⟨m, fun _ => 0, g⟩ (fun r => ∀ c : Dev Cert.KernelMmtnIdeal.nD,
          r.2.mem ((c.tc : Thread Cert.KernelMmtnIdeal.nD Cert.KernelMmtnIdeal.τ).loc Cert.KernelMmtnIdeal.main_v0) = v0 c
          ∧ r.2.mem ((c.tc : Thread Cert.KernelMmtnIdeal.nD Cert.KernelMmtnIdeal.τ).loc Cert.KernelMmtnIdeal.main_arg0) = m ((c.tc : Thread Cert.KernelMmtnIdeal.nD Cert.KernelMmtnIdeal.τ).loc Cert.KernelMmtnIdeal.main_arg0)
          ∧ r.2.mem ((c.tc : Thread Cert.KernelMmtnIdeal.nD Cert.KernelMmtnIdeal.τ).loc Cert.KernelMmtnIdeal.main_arg1) = m ((c.tc : Thread Cert.KernelMmtnIdeal.nD Cert.KernelMmtnIdeal.τ).loc Cert.KernelMmtnIdeal.main_arg1))
      ∧ θ_run (Cert.ReferenceMmtnIdeal.defs (F := Ideal)) (onTc (τ := Cert.ReferenceMmtnIdeal.τ) (Cert.ReferenceMmtnIdeal.main (F := Ideal))) ⟨m', fun _ => 0, g'⟩ (fun r => ∀ c : Dev Cert.ReferenceMmtnIdeal.nD,
          r.2.mem ((c.tc : Thread Cert.ReferenceMmtnIdeal.nD Cert.ReferenceMmtnIdeal.τ).loc Cert.ReferenceMmtnIdeal.main_v3) = v0 c
          ∧ r.2.mem ((c.tc : Thread Cert.ReferenceMmtnIdeal.nD Cert.ReferenceMmtnIdeal.τ).loc Cert.ReferenceMmtnIdeal.main_arg0) = m' ((c.tc : Thread Cert.ReferenceMmtnIdeal.nD Cert.ReferenceMmtnIdeal.τ).loc Cert.ReferenceMmtnIdeal.main_arg0)
          ∧ r.2.mem ((c.tc : Thread Cert.ReferenceMmtnIdeal.nD Cert.ReferenceMmtnIdeal.τ).loc Cert.ReferenceMmtnIdeal.main_arg1) = m' ((c.tc : Thread Cert.ReferenceMmtnIdeal.nD Cert.ReferenceMmtnIdeal.τ).loc Cert.ReferenceMmtnIdeal.main_arg1))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v23) = v0 c
          ∧ r.2.mem ((c.tc : Thread Cert.ReferenceAdamIdeal.nD Cert.ReferenceAdamIdeal.τ).loc Cert.ReferenceAdamIdeal.main_v4) = v1 c
          ∧ r.2.mem ((c.tc : Thread Cert.ReferenceAdamIdeal.nD Cert.ReferenceAdamIdeal.τ).loc Cert.ReferenceAdamIdeal.main_v10) = v2 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def Claim : Prop :=
  ∃ (hKernelFinal : Cert.KernelFinal.Facts) (hKernelFinalIdeal : Cert.KernelFinalIdeal.Facts) (hReferenceFinalIdeal : Cert.ReferenceFinalIdeal.Facts) (hKernelMem : Cert.KernelMem.Facts) (hKernelMemIdeal : Cert.KernelMemIdeal.Facts) (hReferenceMemIdeal : Cert.ReferenceMemIdeal.Facts) (hKernelIn : Cert.KernelIn.Facts) (hKernelInIdeal : Cert.KernelInIdeal.Facts) (hReferenceInIdeal : Cert.ReferenceInIdeal.Facts) (hKernelMlp : Cert.KernelMlp.Facts) (hKernelMlpIdeal : Cert.KernelMlpIdeal.Facts) (hReferenceMlpIdeal : Cert.ReferenceMlpIdeal.Facts) (hKernelXattn : Cert.KernelXattn.Facts) (hKernelXattnIdeal : Cert.KernelXattnIdeal.Facts) (hReferenceXattnIdeal : Cert.ReferenceXattnIdeal.Facts) (hKernelPre : Cert.KernelPre.Facts) (hKernelPreIdeal : Cert.KernelPreIdeal.Facts) (hReferencePreIdeal : Cert.ReferencePreIdeal.Facts) (hKernelXfwd : Cert.KernelXfwd.Facts) (hKernelXfwdIdeal : Cert.KernelXfwdIdeal.Facts) (hReferenceXfwdIdeal : Cert.ReferenceXfwdIdeal.Facts) (hKernelSfwd : Cert.KernelSfwd.Facts) (hKernelSfwdIdeal : Cert.KernelSfwdIdeal.Facts) (hReferenceSfwdIdeal : Cert.ReferenceSfwdIdeal.Facts) (hKernelPfwd : Cert.KernelPfwd.Facts) (hKernelPfwdIdeal : Cert.KernelPfwdIdeal.Facts) (hReferencePfwdIdeal : Cert.ReferencePfwdIdeal.Facts) (hKernelMfwd : Cert.KernelMfwd.Facts) (hKernelMfwdIdeal : Cert.KernelMfwdIdeal.Facts) (hReferenceMfwdIdeal : Cert.ReferenceMfwdIdeal.Facts) (hKernelQfwd : Cert.KernelQfwd.Facts) (hKernelQfwdIdeal : Cert.KernelQfwdIdeal.Facts) (hReferenceQfwdIdeal : Cert.ReferenceQfwdIdeal.Facts) (hKernelMmtn : Cert.KernelMmtn.Facts) (hKernelMmtnIdeal : Cert.KernelMmtnIdeal.Facts) (hReferenceMmtnIdeal : Cert.ReferenceMmtnIdeal.Facts) (hKernelAdam : Cert.KernelAdam.Facts) (hKernelAdamIdeal : Cert.KernelAdamIdeal.Facts) (hReferenceAdamIdeal : Cert.ReferenceAdamIdeal.Facts) (hPre_finite_final : Cert.Pre_finite_final.Facts) (hPre_finite_in : Cert.Pre_finite_in.Facts) (hPre_finite_mlp : Cert.Pre_finite_mlp.Facts) (hPre_finite_xattn : Cert.Pre_finite_xattn.Facts),
    quiescent_KernelFinal (hKernelFinal := hKernelFinal)
    ∧ quiescent_KernelFinalIdeal (hKernelFinalIdeal := hKernelFinalIdeal)
    ∧ quiescent_KernelFinalIdeal_pre_finite_final (hKernelFinalIdeal := hKernelFinalIdeal) (hPre_finite_final := hPre_finite_final)
    ∧ quiescent_ReferenceFinalIdeal (hReferenceFinalIdeal := hReferenceFinalIdeal)
    ∧ quiescent_ReferenceFinalIdeal_pre_finite_final (hReferenceFinalIdeal := hReferenceFinalIdeal) (hPre_finite_final := hPre_finite_final)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelIn (hKernelIn := hKernelIn)
    ∧ quiescent_KernelInIdeal (hKernelInIdeal := hKernelInIdeal)
    ∧ quiescent_KernelInIdeal_pre_finite_in (hKernelInIdeal := hKernelInIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ quiescent_KernelMlp (hKernelMlp := hKernelMlp)
    ∧ quiescent_KernelMlpIdeal (hKernelMlpIdeal := hKernelMlpIdeal)
    ∧ quiescent_KernelMlpIdeal_pre_finite_mlp (hKernelMlpIdeal := hKernelMlpIdeal) (hPre_finite_mlp := hPre_finite_mlp)
    ∧ quiescent_ReferenceMlpIdeal (hReferenceMlpIdeal := hReferenceMlpIdeal)
    ∧ quiescent_ReferenceMlpIdeal_pre_finite_mlp (hReferenceMlpIdeal := hReferenceMlpIdeal) (hPre_finite_mlp := hPre_finite_mlp)
    ∧ quiescent_KernelXattn (hKernelXattn := hKernelXattn)
    ∧ quiescent_KernelXattnIdeal (hKernelXattnIdeal := hKernelXattnIdeal)
    ∧ quiescent_KernelXattnIdeal_pre_finite_xattn (hKernelXattnIdeal := hKernelXattnIdeal) (hPre_finite_xattn := hPre_finite_xattn)
    ∧ quiescent_ReferenceXattnIdeal (hReferenceXattnIdeal := hReferenceXattnIdeal)
    ∧ quiescent_ReferenceXattnIdeal_pre_finite_xattn (hReferenceXattnIdeal := hReferenceXattnIdeal) (hPre_finite_xattn := hPre_finite_xattn)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelXfwd (hKernelXfwd := hKernelXfwd)
    ∧ quiescent_KernelXfwdIdeal (hKernelXfwdIdeal := hKernelXfwdIdeal)
    ∧ quiescent_ReferenceXfwdIdeal (hReferenceXfwdIdeal := hReferenceXfwdIdeal)
    ∧ quiescent_KernelSfwd (hKernelSfwd := hKernelSfwd)
    ∧ quiescent_KernelSfwdIdeal (hKernelSfwdIdeal := hKernelSfwdIdeal)
    ∧ quiescent_ReferenceSfwdIdeal (hReferenceSfwdIdeal := hReferenceSfwdIdeal)
    ∧ quiescent_KernelPfwd (hKernelPfwd := hKernelPfwd)
    ∧ quiescent_KernelPfwdIdeal (hKernelPfwdIdeal := hKernelPfwdIdeal)
    ∧ quiescent_ReferencePfwdIdeal (hReferencePfwdIdeal := hReferencePfwdIdeal)
    ∧ quiescent_KernelMfwd (hKernelMfwd := hKernelMfwd)
    ∧ quiescent_KernelMfwdIdeal (hKernelMfwdIdeal := hKernelMfwdIdeal)
    ∧ quiescent_ReferenceMfwdIdeal (hReferenceMfwdIdeal := hReferenceMfwdIdeal)
    ∧ quiescent_KernelQfwd (hKernelQfwd := hKernelQfwd)
    ∧ quiescent_KernelQfwdIdeal (hKernelQfwdIdeal := hKernelQfwdIdeal)
    ∧ quiescent_ReferenceQfwdIdeal (hReferenceQfwdIdeal := hReferenceQfwdIdeal)
    ∧ quiescent_KernelMmtn (hKernelMmtn := hKernelMmtn)
    ∧ quiescent_KernelMmtnIdeal (hKernelMmtnIdeal := hKernelMmtnIdeal)
    ∧ quiescent_ReferenceMmtnIdeal (hReferenceMmtnIdeal := hReferenceMmtnIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ preserves_KernelFinal_KernelFinalIdeal
    ∧ algebraic_KernelFinalIdeal_ReferenceFinalIdeal_pre_finite_final (hKernelFinalIdeal := hKernelFinalIdeal) (hReferenceFinalIdeal := hReferenceFinalIdeal) (hPre_finite_final := hPre_finite_final)
    ∧ preserves_KernelMem_KernelMemIdeal
    ∧ algebraic_KernelMemIdeal_ReferenceMemIdeal (hKernelMemIdeal := hKernelMemIdeal) (hReferenceMemIdeal := hReferenceMemIdeal)
    ∧ preserves_KernelIn_KernelInIdeal
    ∧ algebraic_KernelInIdeal_ReferenceInIdeal_pre_finite_in (hKernelInIdeal := hKernelInIdeal) (hReferenceInIdeal := hReferenceInIdeal) (hPre_finite_in := hPre_finite_in)
    ∧ preserves_KernelMlp_KernelMlpIdeal
    ∧ algebraic_KernelMlpIdeal_ReferenceMlpIdeal_pre_finite_mlp (hKernelMlpIdeal := hKernelMlpIdeal) (hReferenceMlpIdeal := hReferenceMlpIdeal) (hPre_finite_mlp := hPre_finite_mlp)
    ∧ preserves_KernelXattn_KernelXattnIdeal
    ∧ algebraic_KernelXattnIdeal_ReferenceXattnIdeal_pre_finite_xattn (hKernelXattnIdeal := hKernelXattnIdeal) (hReferenceXattnIdeal := hReferenceXattnIdeal) (hPre_finite_xattn := hPre_finite_xattn)
    ∧ preserves_KernelPre_KernelPreIdeal
    ∧ preserves_KernelXfwd_KernelXfwdIdeal
    ∧ algebraic_KernelXfwdIdeal_ReferenceXfwdIdeal (hKernelXfwdIdeal := hKernelXfwdIdeal) (hReferenceXfwdIdeal := hReferenceXfwdIdeal)
    ∧ preserves_KernelSfwd_KernelSfwdIdeal
    ∧ algebraic_KernelSfwdIdeal_ReferenceSfwdIdeal (hKernelSfwdIdeal := hKernelSfwdIdeal) (hReferenceSfwdIdeal := hReferenceSfwdIdeal)
    ∧ preserves_KernelPfwd_KernelPfwdIdeal
    ∧ algebraic_KernelPfwdIdeal_ReferencePfwdIdeal (hKernelPfwdIdeal := hKernelPfwdIdeal) (hReferencePfwdIdeal := hReferencePfwdIdeal)
    ∧ preserves_KernelMfwd_KernelMfwdIdeal
    ∧ algebraic_KernelMfwdIdeal_ReferenceMfwdIdeal (hKernelMfwdIdeal := hKernelMfwdIdeal) (hReferenceMfwdIdeal := hReferenceMfwdIdeal)
    ∧ preserves_KernelQfwd_KernelQfwdIdeal
    ∧ algebraic_KernelQfwdIdeal_ReferenceQfwdIdeal (hKernelQfwdIdeal := hKernelQfwdIdeal) (hReferenceQfwdIdeal := hReferenceQfwdIdeal)
    ∧ preserves_KernelMmtn_KernelMmtnIdeal
    ∧ algebraic_KernelMmtnIdeal_ReferenceMmtnIdeal (hKernelMmtnIdeal := hKernelMmtnIdeal) (hReferenceMmtnIdeal := hReferenceMmtnIdeal)
    ∧ preserves_KernelAdam_KernelAdamIdeal
    ∧ algebraic_KernelAdamIdeal_ReferenceAdamIdeal (hKernelAdamIdeal := hKernelAdamIdeal) (hReferenceAdamIdeal := hReferenceAdamIdeal)
-- ==== Pre_finite_final.lean ====
abbrev S4096x1024 : Shape := ⟨2, ![4096, 1024]⟩
abbrev S1024 : Shape := ⟨1, ![1024]⟩
abbrev S1x4096x1024 : Shape := ⟨3, ![1, 4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn {F : FTy → Type} [FloatOps F] (main_arg0 : FVec F S4096x1024 .f32) (main_arg1 : FVec F S1024 .f32) (main_arg2 : FVec F S1x4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  main_v13
-- ==== Pre_finite_in.lean ====
abbrev S4096x11296 : Shape := ⟨2, ![4096, 11296]⟩
abbrev S1024x11296 : Shape := ⟨2, ![1024, 11296]⟩
abbrev S4096x1024 : Shape := ⟨2, ![4096, 1024]⟩
abbrev S1024 : Shape := ⟨1, ![1024]⟩
abbrev S_ : Shape := ⟨0, ![]⟩

class Facts : Prop where
  bcast_S_S4096x11296 : S_.BroadcastsInDim S4096x11296 (![] : Fin 0 → Fin S4096x11296.rank)
  reducesTo_S4096x11296_S_d0_1 : S4096x11296.ReducesTo [0, 1] S_
  h_S_ : 0 < S_.numel
  bcast_S_S1024x11296 : S_.BroadcastsInDim S1024x11296 (![] : Fin 0 → Fin S1024x11296.rank)
  reducesTo_S1024x11296_S_d0_1 : S1024x11296.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4096x11296 .f32) (main_arg1 : FVec F S1024x11296 .f32) (main_arg2 : FVec F S4096x1024 .f32) (main_arg3 : FVec F S1024 .f32) (main_arg4 : FVec F S4096x1024 .f32) : IVec S_ 1 :=
  let main_v0 : FVec F S4096x11296 .f32 := Host.absf main_arg0
  let main_cst : FVec F S_ .f32 := constant S_ .f32 0x7F800000#32
  let main_v1 : FVec F S4096x11296 .f32 := broadcastInDim S4096x11296 ![] bcast_S_S4096x11296 main_cst
  let main_v2 : IVec S4096x11296 1 := cmpf .olt main_v0 main_v1
  let main_c : IVec S_ 1 := constantI S_ 1 1#1
  let main_v3 : IVec S_ 1 := (fun x v => Host.reduce IntOp.andi x v reducesTo_S4096x11296_S_d0_1 h_S_) main_v2 main_c
  let main_v4 : FVec F S1024x11296 .f32 := Host.absf main_arg1
  let main_cst_0 : FVec F S_ .f32 := constant S_ .f32 0x7F800000#32
  let main_v5 : FVec F S1024x11296 .f32 := broadcastInDim S1024x11296 ![] bcast_S_S1024x11296 main_cst_0
  let main_v6 : IVec S1024x11296 1 := cmpf .olt main_v4 main_v5
  let main_c_1 : IVec S_ 1 := constantI S_ 1 1#1
  let main_v7 : IVec S_ 1 := (fun x v => Host.reduce IntOp.andi x v reducesTo_S1024x11296_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite_mlp.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024 .f32) (main_arg3 : FVec F S1024x4096 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Pre_finite_xattn.lean ====
abbrev S4096x1024 : Shape := ⟨2, ![4096, 1024]⟩
abbrev S1024 : Shape := ⟨1, ![1024]⟩
abbrev S1024x1024 : Shape := ⟨2, ![1024, 1024]⟩
abbrev S256x2048 : Shape := ⟨2, ![256, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_arg4 : FVec F S256x2048 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1024 .f32) (main_arg3 : FVec F S1024x1024 .f32) (main_arg4 : FVec F S256x2048 .f32) (main_arg5 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== KernelFinal.lean ====
abbrev S4096x1024 : Shape := ⟨2, ![4096, 1024]⟩
abbrev S1024 : Shape := ⟨1, ![1024]⟩
abbrev S1x4096x1024 : Shape := ⟨3, ![1, 4096, 1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x128, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceFinalIdeal.lean ====
abbrev S4096x1024 : Shape := ⟨2, ![4096, 1024]⟩
abbrev S1024 : Shape := ⟨1, ![1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S8x128 : Shape := ⟨2, ![8, 128]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096x1024, .f32⟩
  | .hbm, ⟨28, _⟩ => ⟨S1x4096x1024, .f32⟩
  | .hbm, ⟨29, _⟩ => ⟨S_, .f32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x4096x1024, .f32⟩
  | .hbm, ⟨52, _⟩ => ⟨S1x4096x1024, .f32⟩
  | .hbm, ⟨53, _⟩ => ⟨S_, .f32⟩
  | .hbm, ⟨54, _⟩ => ⟨S1024, .f32⟩
  | .hbm, ⟨55, _⟩ => ⟨S1x4096x1024, .f32⟩
  | .hbm, ⟨56, _⟩ => ⟨S_, .f32⟩
  | .hbm, ⟨57, _⟩ => ⟨S1x4096, .f32⟩
  | .hbm, ⟨58, _⟩ => ⟨S1x4096x1, .f32⟩
  | .hbm, ⟨59, _⟩ => ⟨S1x4096x1024, .f32⟩
  | .hbm, ⟨60, _⟩ => ⟨S1x4096x1024, .f32⟩
  | .hbm, ⟨61, _⟩ => ⟨S1x4096x1, .f32⟩
  | .hbm, ⟨62, _⟩ => ⟨S_, .f32⟩
  | .hbm, ⟨63, _⟩ => ⟨S1x4096x1, .f32⟩
  | .hbm, ⟨64, _⟩ => ⟨S1x4096x1, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S_, .f32⟩
  | .hbm, ⟨74, _⟩ => ⟨S4096x1024, .f32⟩
  | .hbm, ⟨75, _⟩ => ⟨S8x128, .f32⟩
  | .hbm, ⟨76, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== KernelMem.lean ====
abbrev S256x1024 : Shape := ⟨2, ![256, 1024]⟩
abbrev S1024 : Shape := ⟨1, ![1024]⟩
abbrev S256x2048 : Shape := ⟨2, ![256, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S8x1024 : Shape := ⟨2, ![8, 1024]⟩
abbrev S256 : Shape := ⟨1, ![256]⟩
abbrev S256x1 : Shape := ⟨2, ![256, 1]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x2048, .f32⟩
  | .hbm, ⟨3, _⟩ => ⟨S1024x2048, .f32⟩
  | .hbm, ⟨4, _⟩ => ⟨S1024x2048, .bf16⟩
  | .hbm, ⟨5, _⟩ => ⟨S1024x4x512, .bf16⟩
  | .hbm, ⟨6, _⟩ => ⟨S4x1024x512, .bf16⟩
  | .hbm, ⟨7, _⟩ => ⟨S1x1024, .f32⟩
  | .hbm, ⟨8, _⟩ => ⟨S256x1024, .bf16⟩
  | .hbm, ⟨9, _⟩ => ⟨S8x1024, .f32⟩
  | .local _ .vmem, ⟨0, _⟩ => ⟨S256x1024, .f32⟩
  | .local _ .vmem, ⟨1, _⟩ => ⟨S1x1024, .f32⟩
  | .local _ .vmem, ⟨2, _⟩ => ⟨S256x2048, .f32⟩
  | .local _ .vmem, ⟨3, _⟩ => ⟨S4x1024x512, .bf16⟩
  | .local _ .vmem, ⟨4, _⟩ => ⟨S256x1024, .bf16⟩
  | .local _ .vmem, ⟨5, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceMemIdeal.lean ====
abbrev S256x1024 : Shape := ⟨2, ![256, 1024]⟩
abbrev S1024 : Shape := ⟨1, ![1024]⟩
abbrev S256x2048 : Shape := ⟨2, ![256, 2048]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S8x1024 : Shape := ⟨2, ![8, 1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x2048, .f32⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x1024, .f32⟩
  | .hbm, ⟨40, _⟩ => ⟨S256x1024, .f32⟩
  | .hbm, ⟨41, _⟩ => ⟨S1x1024, .f32⟩
  | .hbm, ⟨42, _⟩ => ⟨S256x1024, .f32⟩
  | .hbm, ⟨43, _⟩ => ⟨S256x1024, .f32⟩
  | .hbm, ⟨44, _⟩ => ⟨S256x1024, .bf16⟩
  | .hbm, ⟨45, _⟩ => ⟨S8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== KernelIn.lean ====
abbrev S4096x11296 : Shape := ⟨2, ![4096, 11296]⟩
abbrev S1024x11296 : Shape := ⟨2, ![1024, 11296]⟩
abbrev S4096x1024 : Shape := ⟨2, ![4096, 1024]⟩
abbrev S1024 : Shape := ⟨1, ![1024]⟩
abbrev S11296x1024 : Shape := ⟨2, ![11296, 1024]⟩
abbrev S512x1024 : Shape := ⟨2, ![512, 1024]⟩
abbrev S32x1024 : Shape := ⟨2, ![32, 1024]⟩
abbrev S_ : Shape := ⟨0, ![]⟩
abbrev S992x1024 : Shape := ⟨2, ![992, 1024]⟩
abbrev S2048x1024 : Shape := ⟨2, ![2048, 1024]⟩
abbrev S1024x1024 : Shape := ⟨2, ![1024, 1024]⟩
abbrev S12288x1024 : Shape := ⟨2, ![12288, 1024]⟩
abbrev S11296x4096 : Shape := ⟨2, ![11296, 4096]⟩
abbrev S4096x4096 : Shape := ⟨2, ![4096, 4096]⟩
abbrev S512x4096 : Shape := ⟨2, ![512, 4096]⟩
abbrev S32x4096 : Shape := ⟨2, ![32, 4096]⟩
abbrev S992x4096 : Shape := ⟨2, ![992, 4096]⟩
abbrev S2048x4096 : Shape := ⟨2, ![2048, 4096]⟩
abbrev S1024x4096 : Shape := ⟨2, ![1024, 4096]⟩
abbrev S12288x4096 : Shape := ⟨2, ![12288, 4096]⟩
abbrev S4096x12288 : Shape := ⟨2, ![4096, 12288]⟩
abbrev S1x1024 : Shape := ⟨2, ![1, 1024]⟩
abbrev S8x1024 : Shape := ⟨2, ![8, 1024]⟩
abbrev S1024x1 : Shape := ⟨2, ![1024, 1]⟩

abbrev nBuf : Space → Nat
  | .hbm => 35
  | .vmem => 13
  | .smem => 0
  | _ => 0

abbrev bufTy : (tb : Table) → Fin (tcTables nBuf tb) → BufTy
  | .hbm, ⟨0, _⟩ => ⟨S4096x11296, .f32⟩
  | .hbm, ⟨1, _⟩ => ⟨S1024x11296, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x11296, .bf16⟩
  | .hbm, ⟨6, _⟩ => ⟨S11296x1024, .bf16⟩
  | .hbm, ⟨7, _⟩ => ⟨S4096x1024, .bf16⟩
  | .hbm, ⟨8, _⟩ => ⟨S512x1024, .bf16⟩
  | .hbm, ⟨9, _⟩ => ⟨S512x1024, .bf16⟩
  | .hbm, ⟨10, _⟩ => ⟨S32x1024, .bf16⟩
  | .hbm, ⟨11, _⟩ => ⟨S_, .bf16⟩
  | .hbm, ⟨12, _⟩ => ⟨S992x1024, .bf16⟩
  | .hbm, ⟨13, _⟩ => ⟨S2048x1024, .bf16⟩
  | .hbm, ⟨14, _⟩ => ⟨S2048x1024, .bf16⟩
  | .hbm, ⟨15, _⟩ => ⟨S1024x1024, .bf16⟩
  | .hbm, ⟨16, _⟩ => ⟨S1024x1024, .bf16⟩
  | .hbm, ⟨17, _⟩ => ⟨S12288x1024, .bf16⟩
  | .hbm, ⟨18, _⟩ => ⟨S4096x11296, .bf16⟩
  | .hbm, ⟨19, _⟩ => ⟨S11296x4096, .bf16⟩
  | .hbm, ⟨20, _⟩ => ⟨S4096x4096, .bf16⟩
  | .hbm, ⟨21, _⟩ => ⟨S512x4096, .bf16⟩
  | .hbm, ⟨22, _⟩ => ⟨S512x4096, .bf16⟩
  | .hbm, ⟨23, _⟩ => ⟨S32x4096, .bf16⟩
  | .hbm, ⟨24, _⟩ => ⟨S_, .bf16⟩
  | .hbm, ⟨25, _⟩ => ⟨S992x4096, .bf16⟩
  | .hbm, ⟨26, _⟩ => ⟨S2048x4096, .bf16⟩
  | .hbm, ⟨27, _⟩ => ⟨S2048x4096, .bf16⟩
  | .hbm, ⟨28, _⟩ => ⟨S1024x4096, .bf16⟩
  | .hbm, ⟨29, _⟩ => ⟨S1024x4096, .bf16⟩
  | .hbm, ⟨30, _⟩ => ⟨S12288x4096, .bf16⟩
  | .hbm, ⟨31, _⟩ => ⟨S4096x12288, .bf16⟩
  | .hbm, ⟨32, _⟩ => ⟨S1x1024, .f32⟩
  | .hbm, ⟨33, _⟩ => ⟨S4096x1024, .f32⟩
  | .hbm, ⟨34, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S4096x11296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 12], ![false, false]⟩

def k0_cond3 (i : grid0.Coords) : BitVec 1 :=
  let arg1 : BitVec 32 := BitVec.ofNat 32 (i 1).val
  let c11_i32 : BitVec 32 := 11#32
  let v18 : BitVec 1 := Scalar.cmpi .eq arg1 c11_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceInIdeal.lean ====
abbrev S4096x11296 : Shape := ⟨2, ![4096, 11296]⟩
abbrev S1024x11296 : Shape := ⟨2, ![1024, 11296]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x11296, .f32⟩
  | .hbm, ⟨1, _⟩ => ⟨S1024x11296, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x11296, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S8x1024, .f32⟩
  | _, _ => ⟨S4096x11296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelMlp.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S8x1024 : Shape := ⟨2, ![8, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x4096, .bf16⟩
  | .hbm, ⟨13, _⟩ => ⟨S4096x4096, .bf16⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_27 : BitVec 32 := 0#32
  let v36 : BitVec 1 := Scalar.cmpi .ne v35 c0_i32_27
  v36

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceMlpIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .i1⟩
  | .hbm, ⟨96, _⟩ => ⟨S_, .f32⟩
  | .hbm, ⟨97, _⟩ => ⟨S4096x4096, .f32⟩
  | .hbm, ⟨98, _⟩ => ⟨S4096x4096, .f32⟩
  | .hbm, ⟨99, _⟩ => ⟨S_, .f32⟩
  | .hbm, ⟨100, _⟩ => ⟨S4096x4096, .f32⟩
  | .hbm, ⟨101, _⟩ => ⟨S4096x4096, .f32⟩
  | .hbm, ⟨102, _⟩ => ⟨S4096x1024, .f32⟩
  | .hbm, ⟨103, _⟩ => ⟨S4096x4096, .f32⟩
  | .hbm, ⟨104, _⟩ => ⟨S4096x4096, .f32⟩
  | .hbm, ⟨105, _⟩ => ⟨S_, .f32⟩
  | .hbm, ⟨106, _⟩ => ⟨S4096x4096, .f32⟩
  | .hbm, ⟨107, _⟩ => ⟨S4096x4096, .f32⟩
  | .hbm, ⟨108, _⟩ => ⟨S_, .f32⟩
  | .hbm, ⟨109, _⟩ => ⟨S4096x4096, .f32⟩
  | .hbm, ⟨110, _⟩ => ⟨S4096x4096, .f32⟩
  | .hbm, ⟨111, _⟩ => ⟨S4096x4096, .f32⟩
  | .hbm, ⟨112, _⟩ => ⟨S4096x1024, .bf16⟩
  | .hbm, ⟨113, _⟩ => ⟨S4096x4096, .bf16⟩
  | .hbm, ⟨114, _⟩ => ⟨S4096x4096, .bf16⟩
  | .hbm, ⟨115, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_call2_cst : Ref sig .tc := ⟨.hbm, 108, rfl⟩
abbrev main_call2_v0 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== KernelXattn.lean ====
abbrev S4096x1024 : Shape := ⟨2, ![4096, 1024]⟩
abbrev S1024 : Shape := ⟨1, ![1024]⟩
abbrev S1024x1024 : Shape := ⟨2, ![1024, 1024]⟩
abbrev S256x2048 : Shape := ⟨2, ![256, 2048]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 16
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S256x2048, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S256x2048, .bf16⟩
  | .hbm, ⟨9, _⟩ => ⟨S1024x1024, .bf16⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S256x2048, .f32⟩
  | .hbm, ⟨15, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x2048, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2048, .f32⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceXattnIdeal.lean ====
abbrev S4096x1024 : Shape := ⟨2, ![4096, 1024]⟩
abbrev S1024 : Shape := ⟨1, ![1024]⟩
abbrev S1024x1024 : Shape := ⟨2, ![1024, 1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S8x1024 : Shape := ⟨2, ![8, 1024]⟩

abbrev nBuf : Space → Nat
  | .hbm => 267
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024x1024, .f32⟩
  | 4 => ⟨S256x2048, .f32⟩
  | 5 => ⟨S1024x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S256x1024, .f32⟩
  | 28 => ⟨S256x1024, .f32⟩
  | 29 => ⟨S4096x4x256, .f32⟩
  | 30 => ⟨S256x4x256, .f32⟩
  | 31 => ⟨S256x4x256, .f32⟩
  | 32 => ⟨S4x4096x256, .f32⟩
  | 33 => ⟨S_, .f32⟩
  | 34 => ⟨S4x4096x256, .f32⟩
  | 35 => ⟨S4x4096x256, .f32⟩
  | 36 => ⟨S_, .f32⟩
  | 37 => ⟨S4x4096, .f32⟩
  | 38 => ⟨S4x4096x1, .f32⟩
  | 39 => ⟨S4x4096x256, .f32⟩
  | 40 => ⟨S4x4096x256, .i1⟩
  | 41 => ⟨S4x4096x256, .f32⟩
  | 42 => ⟨S_, .f32⟩
  | 43 => ⟨S4x4096, .f32⟩
  | 44 => ⟨S_, .f32⟩
  | 45 => ⟨S4x4096, .f32⟩
  | 46 => ⟨S4x4096, .f32⟩
  | 47 => ⟨S_, .f32⟩
  | 48 => ⟨S4x4096, .f32⟩
  | 49 => ⟨S4x4096, .i1⟩
  | 50 => ⟨S_, .f32⟩
  | 51 => ⟨S4x4096, .f32⟩
  | 52 => ⟨S4x4096, .i1⟩
  | 53 => ⟨S_, .f32⟩
  | 54 => ⟨S4x4096, .f32⟩
  | 55 => ⟨S_, .f32⟩
  | 56 => ⟨S4x4096, .f32⟩
  | 57 => ⟨S_, .f32⟩
  | 58 => ⟨S4x4096, .f32⟩
  | 59 => ⟨S4x4096, .f32⟩
  | 60 => ⟨S4x4096, .f32⟩
  | 61 => ⟨S4x4096x1, .f32⟩
  | 62 => ⟨S4x4096x256, .f32⟩
  | 63 => ⟨S4x4096x256, .f32⟩
  | 64 => ⟨S4x4096x256, .f32⟩
  | 65 => ⟨S_, .f32⟩
  | 66 => ⟨S4x4096, .f32⟩
  | 67 => ⟨S4x4096x1, .f32⟩
  | 68 => ⟨S4x4096x256, .f32⟩
  | 69 => ⟨S4x4096x256, .f32⟩
  | 70 => ⟨S4x4096x1, .f32⟩
  | 71 => ⟨S_, .f32⟩
  | 72 => ⟨S4x4096x1, .f32⟩
  | 73 => ⟨S4x4096x1, .f32⟩
  | 74 => ⟨S4x256x4096, .f32⟩
  | 75 => ⟨S4096x4x256, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x4x256, .f32⟩
  | 82 => ⟨S4x256x4096, .f32⟩
  | 83 => ⟨S4x4096x256, .f32⟩
  | 84 => ⟨S4x256x256, .f32⟩
  | 85 => ⟨S256x4x256, .f32⟩
  | 86 => ⟨S4x4096x256, .f32⟩
  | 87 => ⟨S4x4096x256, .f32⟩
  | 88 => ⟨S4x4096x256, .f32⟩
  | 89 => ⟨S_, .f32⟩
  | 90 => ⟨S4x4096, .f32⟩
  | 91 => ⟨S4x4096x1, .f32⟩
  | 92 => ⟨S4x4096x1, .f32⟩
  | 93 => ⟨S4x4096x256, .f32⟩
  | 94 => ⟨S4x4096x256, .f32⟩
  | 95 => ⟨S_, .f32⟩
  | 96 => ⟨S4x4096, .f32⟩
  | 97 => ⟨S4x4096x256, .f32⟩
  | 98 => ⟨S4x4096x256, .f32⟩
  | 99 => ⟨S4x4096x256, .f32⟩
  | 100 => ⟨S_, .f32⟩
  | 101 => ⟨S4x4096x256, .f32⟩
  | 102 => ⟨S4x4096x256, .f32⟩
  | 103 => ⟨S4x256x256, .f32⟩
  | 104 => ⟨S256x4x256, .f32⟩
  | 105 => ⟨S4x4096x256, .f32⟩
  | 106 => ⟨S4096x4x256, .f32⟩
  | 107 => ⟨S256x1024, .f32⟩
  | 108 => ⟨S256x1024, .f32⟩
  | 109 => ⟨S4096x1024, .f32⟩
  | 110 => ⟨S256x2048, .f32⟩
  | 111 => ⟨S4096x1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S_, .f32⟩
  | 119 => ⟨S1024, .f32⟩
  | 120 => ⟨S4096x1024, .f32⟩
  | 121 => ⟨S_, .f32⟩
  | 122 => ⟨S4096, .f32⟩
  | 123 => ⟨S4096x1, .f32⟩
  | 124 => ⟨S4096x1024, .f32⟩
  | 125 => ⟨S4096x1024, .f32⟩
  | 126 => ⟨S4096x1024, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S_, .f32⟩
  | 4 => ⟨S4096, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S256x1024, .f32⟩
  | 28 => ⟨S256x1024, .f32⟩
  | 29 => ⟨S4096x4x256, .f32⟩
  | 30 => ⟨S256x4x256, .f32⟩
  | 31 => ⟨S256x4x256, .f32⟩
  | 32 => ⟨S4x4096x256, .f32⟩
  | 33 => ⟨S_, .f32⟩
  | 34 => ⟨S4x4096x256, .f32⟩
  | 35 => ⟨S4x4096x256, .f32⟩
  | 36 => ⟨S_, .f32⟩
  | 37 => ⟨S4x4096, .f32⟩
  | 38 => ⟨S4x4096x1, .f32⟩
  | 39 => ⟨S4x4096x256, .f32⟩
  | 40 => ⟨S4x4096x256, .i1⟩
  | 41 => ⟨S4x4096x256, .f32⟩
  | 42 => ⟨S_, .f32⟩
  | 43 => ⟨S4x4096, .f32⟩
  | 44 => ⟨S_, .f32⟩
  | 45 => ⟨S4x4096, .f32⟩
  | 46 => ⟨S4x4096, .f32⟩
  | 47 => ⟨S_, .f32⟩
  | 48 => ⟨S4x4096, .f32⟩
  | 49 => ⟨S4x4096, .i1⟩
  | 50 => ⟨S_, .f32⟩
  | 51 => ⟨S4x4096, .f32⟩
  | 52 => ⟨S4x4096, .i1⟩
  | 53 => ⟨S_, .f32⟩
  | 54 => ⟨S4x4096, .f32⟩
  | 55 => ⟨S_, .f32⟩
  | 56 => ⟨S4x4096, .f32⟩
  | 57 => ⟨S_, .f32⟩
  | 58 => ⟨S4x4096, .f32⟩
  | 59 => ⟨S4x4096, .f32⟩
  | 60 => ⟨S4x4096, .f32⟩
  | 61 => ⟨S4x4096x1, .f32⟩
  | 62 => ⟨S4x4096x256, .f32⟩
  | 63 => ⟨S4x4096x256, .f32⟩
  | 64 => ⟨S4x4096x256, .f32⟩
  | 65 => ⟨S_, .f32⟩
  | 66 => ⟨S4x4096, .f32⟩
  | 67 => ⟨S4x4096x1, .f32⟩
  | 68 => ⟨S4x4096x256, .f32⟩
  | 69 => ⟨S4x4096x256, .f32⟩
  | 70 => ⟨S4x4096x1, .f32⟩
  | 71 => ⟨S_, .f32⟩
  | 72 => ⟨S4x4096x1, .f32⟩
  | 73 => ⟨S4x4096x1, .f32⟩
  | 74 => ⟨S4x256x4096, .f32⟩
  | 75 => ⟨S4096x4x256, .f32⟩
  | 76 => ⟨S4096x1024, .f32⟩
  | 77 => ⟨S4096x1024, .f32⟩
  | 78 => ⟨S4096x1024, .f32⟩
  | 79 => ⟨S4096x4x256, .f32⟩
  | 80 => ⟨S4x256x4096, .f32⟩
  | 81 => ⟨S4x4096x256, .f32⟩
  | 82 => ⟨S4x256x256, .f32⟩
  | 83 => ⟨S256x4x256, .f32⟩
  | 84 => ⟨S4x4096x256, .f32⟩
  | 85 => ⟨S4x4096x256, .f32⟩
  | 86 => ⟨S4x4096x256, .f32⟩
  | 87 => ⟨S_, .f32⟩
  | 88 => ⟨S4x4096, .f32⟩
  | 89 => ⟨S4x4096x1, .f32⟩
  | 90 => ⟨S4x4096x1, .f32⟩
  | 91 => ⟨S4x4096x256, .f32⟩
  | 92 => ⟨S4x4096x256, .f32⟩
  | 93 => ⟨S_, .f32⟩
  | 94 => ⟨S4x4096, .f32⟩
  | 95 => ⟨S4x4096x256, .f32⟩
  | 96 => ⟨S4x4096x256, .f32⟩
  | 97 => ⟨S4x4096x256, .f32⟩
  | 98 => ⟨S_, .f32⟩
  | 99 => ⟨S4x4096x256, .f32⟩
  | 100 => ⟨S4x4096x256, .f32⟩
  | 101 => ⟨S4x256x256, .f32⟩
  | 102 => ⟨S256x4x256, .f32⟩
  | 103 => ⟨S4x4096x256, .f32⟩
  | 104 => ⟨S4096x4x256, .f32⟩
  | 105 => ⟨S256x1024, .f32⟩
  | 106 => ⟨S256x1024, .f32⟩
  | 107 => ⟨S4096x1024, .f32⟩
  | 108 => ⟨S256x2048, .f32⟩
  | 109 => ⟨S256x1024, .f32⟩
  | 110 => ⟨S256x1024, .f32⟩
  | 111 => ⟨S4096x4x256, .f32⟩
  | 112 => ⟨S256x4x256, .f32⟩
  | 113 => ⟨S256x4x256, .f32⟩
  | 114 => ⟨S4x4096x256, .f32⟩
  | 115 => ⟨S_, .f32⟩
  | 116 => ⟨S4x4096x256, .f32⟩
  | 117 => ⟨S4x4096x256, .f32⟩
  | 118 => ⟨S_, .f32⟩
  | 119 => ⟨S4x4096, .f32⟩
  | 120 => ⟨S_, .f32⟩
  | 121 => ⟨S4x4096, .f32⟩
  | 122 => ⟨S4x4096, .f32⟩
  | 123 => ⟨S4x4096x1, .f32⟩
  | 124 => ⟨S4x4096x256, .f32⟩
  | 125 => ⟨S4x4096x256, .f32⟩
  | 126 => ⟨S4x4096x256, .f32⟩
  | 127 => ⟨S_, .f32⟩
  | _ => ⟨S4096x1024, .f32⟩

abbrev hbmTy0_2 (i : Nat) : BufTy := match i % 128 with
  | 0 => ⟨S4x4096, .f32⟩
  | 1 => ⟨S4x4096x1, .f32⟩
  | 2 => ⟨S4x4096x256, .f32⟩
  | 3 => ⟨S4x4096x256, .f32⟩
  | 4 => ⟨S4x256x4096, .f32⟩
  | 5 => ⟨S4096x4x256, .f32⟩
  | 6 => ⟨S4096x1024, .f32⟩
  | 7 => ⟨S4096x1024, .bf16⟩
  | 8 => ⟨S4096x1024, .bf16⟩
  | 9 => ⟨S4096x1024, .bf16⟩
  | 10 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_20 : Ref sig .tc := ⟨.hbm, 128, rfl⟩
abbrev main_v101 : Ref sig .tc := ⟨.hbm, 129, rfl⟩
abbrev main_v102 : Ref sig .tc := ⟨.hbm, 130, rfl⟩
abbrev main_cst_21 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_22 : Ref sig .tc := ⟨.hbm, 139, rfl⟩
abbrev main_v110 : Ref sig .tc := ⟨.hbm, 140, rfl⟩
abbrev main_v111 : Ref sig .tc := ⟨.hbm, 141, rfl⟩
abbrev main_cst_23 : Ref sig .tc := ⟨.hbm, 142, rfl⟩
abbrev main_v112 : Ref sig .tc := ⟨.hbm, 143, rfl⟩
abbrev main_v113 : Ref sig .tc := ⟨.hbm, 144, rfl⟩
abbrev main_cst_24 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_25 : Ref sig .tc := ⟨.hbm, 161, rfl⟩
abbrev main_v129 : Ref sig .tc := ⟨.hbm, 162, rfl⟩
abbrev main_v130 : Ref sig .tc := ⟨.hbm, 163, rfl⟩
abbrev main_cst_26 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_27 : Ref sig .tc := ⟨.hbm, 170, rfl⟩
abbrev main_v136 : Ref sig .tc := ⟨.hbm, 171, rfl⟩
abbrev main_cst_28 : Ref sig .tc := ⟨.hbm, 172, rfl⟩
abbrev main_v137 : Ref sig .tc := ⟨.hbm, 173, rfl⟩
abbrev main_v138 : Ref sig .tc := ⟨.hbm, 174, rfl⟩
abbrev main_cst_29 : Ref sig .tc := ⟨.hbm, 175, rfl⟩
abbrev main_v139 : Ref sig .tc := ⟨.hbm, 176, rfl⟩
abbrev main_v140 : Ref sig .tc := ⟨.hbm, 177, rfl⟩
abbrev main_cst_30 : Ref sig .tc := ⟨.hbm, 178, rfl⟩
abbrev main_v141 : Ref sig .tc := ⟨.hbm, 179, rfl⟩
abbrev main_v142 : Ref sig .tc := ⟨.hbm, 180, rfl⟩
abbrev main_cst_31 : Ref sig .tc := ⟨.hbm, 181, rfl⟩
abbrev main_v143 : Ref sig .tc := ⟨.hbm, 182, rfl⟩
abbrev main_cst_32 : Ref sig .tc := ⟨.hbm, 183, rfl⟩
abbrev main_v144 : Ref sig .tc := ⟨.hbm, 184, rfl⟩
abbrev main_cst_33 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_34 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_35 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_36 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_37 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_cst_38 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_cst_39 : Ref sig .tc := ⟨.hbm, 243, rfl⟩
abbrev main_v197 : Ref sig .tc := ⟨.hbm, 244, rfl⟩
abbrev main_v198 : Ref sig .tc := ⟨.hbm, 245, rfl⟩
abbrev main_cst_40 : Ref sig .tc := ⟨.hbm, 246, rfl⟩
abbrev main_v199 : Ref sig .tc := ⟨.hbm, 247, rfl⟩
abbrev main_cst_41 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_cst_42 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩

abbrev nD : Nat := 1
abbrev τ : Topo := Topo.v7x

variable {F : FTy → Type} [FloatOps F]
-- ==== KernelPre.lean ====
abbrev S4096x4096 : Shape := ⟨2, ![4096, 4096]⟩
abbrev S4096x32 : Shape := ⟨2, ![4096, 32]⟩
abbrev S4x4096 : Shape := ⟨2, ![4, 4096]⟩
abbrev S4096 : Shape := ⟨1, ![4096]⟩
abbrev S32 : Shape := ⟨1, ![32]⟩
abbrev S4096x64 : Shape := ⟨2, ![4096, 64]⟩
abbrev S4096x2048 : Shape := ⟨2, ![4096, 2048]⟩
abbrev S4096x512 : Shape := ⟨2, ![4096, 512]⟩
abbrev S4096x12288 : Shape := ⟨2, ![4096, 12288]⟩
abbrev S_ : Shape := ⟨0, ![]⟩
abbrev S4096x1024 : Shape := ⟨2, ![4096, 1024]⟩
abbrev S4096x7136 : Shape := ⟨2, ![4096, 7136]⟩
abbrev S4096x128 : Shape := ⟨2, ![4096, 128]⟩
abbrev S128 : Shape := ⟨1, ![128]⟩
abbrev S1x128 : Shape := ⟨2, ![1, 128]⟩
abbrev S2048 : Shape := ⟨1, ![2048]⟩
abbrev S2048x1 : Shape := ⟨2, ![2048, 1]⟩
abbrev S2048x128 : Shape := ⟨2, ![2048, 128]⟩
abbrev S1x4096 : Shape := ⟨2, ![1, 4096]⟩
abbrev S32x4096 : Shape := ⟨2, ![32, 4096]⟩
abbrev S8x4096 : Shape := ⟨2, ![8, 4096]⟩
abbrev S8x128 : Shape := ⟨2, ![8, 128]⟩
abbrev S256x4096 : Shape := ⟨2, ![256, 4096]⟩
abbrev S256x1024 : Shape := ⟨2, ![256, 1024]⟩
abbrev S256x2048 : Shape := ⟨2, ![256, 2048]⟩
abbrev S8x2048 : Shape := ⟨2, ![8, 2048]⟩
abbrev S256x512 : Shape := ⟨2, ![256, 512]⟩
abbrev S256x128 : Shape := ⟨2, ![256, 128]⟩
abbrev S256x6144 : Shape := ⟨2, ![256, 6144]⟩
abbrev S264x128 : Shape := ⟨2, ![264, 128]⟩
abbrev S272x128 : Shape := ⟨2, ![272, 128]⟩
abbrev S256x896 : Shape := ⟨2, ![256, 896]⟩

abbrev nBuf : Space → Nat
  | .hbm => 56
  | .vmem => 35
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S4x4096, .f32⟩
  | .hbm, ⟨3, _⟩ => ⟨S4096, .f32⟩
  | .hbm, ⟨4, _⟩ => ⟨S32, .f32⟩
  | .hbm, ⟨5, _⟩ => ⟨S4096x64, .f32⟩
  | .hbm, ⟨6, _⟩ => ⟨S4096x64, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x512, .f32⟩
  | .hbm, ⟨11, _⟩ => ⟨S4096x512, .f32⟩
  | .hbm, ⟨12, _⟩ => ⟨S4096x12288, .bf16⟩
  | .hbm, ⟨13, _⟩ => ⟨S_, .f32⟩
  | .hbm, ⟨14, _⟩ => ⟨S4096x1024, .f32⟩
  | .hbm, ⟨15, _⟩ => ⟨S_, .f32⟩
  | .hbm, ⟨16, _⟩ => ⟨S4096x7136, .f32⟩
  | .hbm, ⟨17, _⟩ => ⟨S4096x12288, .f32⟩
  | .hbm, ⟨18, _⟩ => ⟨S4096x128, .f32⟩
  | .hbm, ⟨19, _⟩ => ⟨S4096x64, .f32⟩
  | .hbm, ⟨20, _⟩ => ⟨S4096x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S2048, .i32⟩
  | .hbm, ⟨26, _⟩ => ⟨S2048x1, .i32⟩
  | .hbm, ⟨27, _⟩ => ⟨S_, .i32⟩
  | .hbm, ⟨28, _⟩ => ⟨S_, .i32⟩
  | .hbm, ⟨29, _⟩ => ⟨S2048x1, .i32⟩
  | .hbm, ⟨30, _⟩ => ⟨S2048x1, .i32⟩
  | .hbm, ⟨31, _⟩ => ⟨S2048x1, .i32⟩
  | .hbm, ⟨32, _⟩ => ⟨S_, .i32⟩
  | .hbm, ⟨33, _⟩ => ⟨S2048x1, .i32⟩
  | .hbm, ⟨34, _⟩ => ⟨S2048x1, .i1⟩
  | .hbm, ⟨35, _⟩ => ⟨S2048x1, .i32⟩
  | .hbm, ⟨36, _⟩ => ⟨S2048x1, .i32⟩
  | .hbm, ⟨37, _⟩ => ⟨S_, .i32⟩
  | .hbm, ⟨38, _⟩ => ⟨S2048x1, .i32⟩
  | .hbm, ⟨39, _⟩ => ⟨S2048x1, .i1⟩
  | .hbm, ⟨40, _⟩ => ⟨S2048x1, .i1⟩
  | .hbm, ⟨41, _⟩ => ⟨S_, .i32⟩
  | .hbm, ⟨42, _⟩ => ⟨S2048x1, .i32⟩
  | .hbm, ⟨43, _⟩ => ⟨S2048x1, .i32⟩
  | .hbm, ⟨44, _⟩ => ⟨S2048x1, .i32⟩
  | .hbm, ⟨45, _⟩ => ⟨S128, .i32⟩
  | .hbm, ⟨46, _⟩ => ⟨S1x128, .i32⟩
  | .hbm, ⟨47, _⟩ => ⟨S2048x128, .i32⟩
  | .hbm, ⟨48, _⟩ => ⟨S2048x128, .i32⟩
  | .hbm, ⟨49, _⟩ => ⟨S2048x128, .i1⟩
  | .hbm, ⟨50, _⟩ => ⟨S2048x128, .bf16⟩
  | .hbm, ⟨51, _⟩ => ⟨S1x4096, .f32⟩
  | .hbm, ⟨52, _⟩ => ⟨S4096x12288, .bf16⟩
  | .hbm, ⟨53, _⟩ => ⟨S32x4096, .f32⟩
  | .hbm, ⟨54, _⟩ => ⟨S8x4096, .f32⟩
  | .hbm, ⟨55, _⟩ => ⟨S8x128, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S256x1024, .f32⟩
  | .local _ .vmem, ⟨7, _⟩ => ⟨S256x1024, .f32⟩
  | .local _ .vmem, ⟨8, _⟩ => ⟨S256x4096, .f32⟩
  | .local _ .vmem, ⟨9, _⟩ => ⟨S256x4096, .f32⟩
  | .local _ .vmem, ⟨10, _⟩ => ⟨S8x4096, .f32⟩
  | .local _ .vmem, ⟨11, _⟩ => ⟨S8x4096, .f32⟩
  | .local _ .vmem, ⟨12, _⟩ => ⟨S256x2048, .f32⟩
  | .local _ .vmem, ⟨13, _⟩ => ⟨S256x2048, .f32⟩
  | .local _ .vmem, ⟨14, _⟩ => ⟨S8x2048, .f32⟩
  | .local _ .vmem, ⟨15, _⟩ => ⟨S8x2048, .f32⟩
  | .local _ .vmem, ⟨16, _⟩ => ⟨S256x2048, .f32⟩
  | .local _ .vmem, ⟨17, _⟩ => ⟨S256x2048, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S4x4096, .f32⟩
  | .local _ .vmem, ⟨27, _⟩ => ⟨S1x4096, .f32⟩
  | .local _ .vmem, ⟨28, _⟩ => ⟨S1x128, .f32⟩
  | .local _ .vmem, ⟨29, _⟩ => ⟨S2048x128, .bf16⟩
  | .local _ .vmem, ⟨30, _⟩ => ⟨S256x6144, .bf16⟩
  | .local _ .vmem, ⟨31, _⟩ => ⟨S256x6144, .bf16⟩
  | .local _ .vmem, ⟨32, _⟩ => ⟨S32x4096, .f32⟩
  | .local _ .vmem, ⟨33, _⟩ => ⟨S8x4096, .f32⟩
  | .local _ .vmem, ⟨34, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18_0 : Ref sig .tc := ⟨.hbm, 52, rfl⟩
abbrev main_v18_1 : Ref sig .tc := ⟨.hbm, 53, rfl⟩
abbrev main_v18_2 : Ref sig .tc := ⟨.hbm, 54, rfl⟩
abbrev main_v18_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem17_1 : DmaSem sig := 31
abbrev cc0_sem18_0 : DmaSem sig := 32
abbrev cc0_sem19_0 : DmaSem sig := 33
abbrev cc0_sem20_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x6144 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S32x4096 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferencePreIdeal.lean ====
abbrev S4096x4096 : Shape := ⟨2, ![4096, 4096]⟩
abbrev S4096x32 : Shape := ⟨2, ![4096, 32]⟩
abbrev S4x4096 : Shape := ⟨2, ![4, 4096]⟩
abbrev S4096 : Shape := ⟨1, ![4096]⟩
abbrev S32 : Shape := ⟨1, ![32]⟩
abbrev S4096x64 : Shape := ⟨2, ![4096, 64]⟩
abbrev S4096x2048 : Shape := ⟨2, ![4096, 2048]⟩
abbrev S4096x512 : Shape := ⟨2, ![4096, 512]⟩
abbrev S4096x12288 : Shape := ⟨2, ![4096, 12288]⟩
abbrev S4096x1x64 : Shape := ⟨3, ![4096, 1, 64]⟩
abbrev S_ : Shape := ⟨0, ![]⟩
abbrev S4096x4x128 : Shape := ⟨3, ![4096, 4, 128]⟩
abbrev S4096x4x64 : Shape := ⟨3, ![4096, 4, 64]⟩
abbrev S3x4096 : Shape := ⟨2, ![3, 4096]⟩
abbrev S4099x4096 : Shape := ⟨2, ![4099, 4096]⟩
abbrev S1x4096 : Shape := ⟨2, ![1, 4096]⟩
abbrev S1x32 : Shape := ⟨2, ![1, 32]⟩
abbrev S4096x32x1 : Shape := ⟨3, ![4096, 32, 1]⟩
abbrev S4096x32x64 : Shape := ⟨3, ![4096, 32, 64]⟩
abbrev S4096x992 : Shape := ⟨2, ![4096, 992]⟩
abbrev S4096x6144 : Shape := ⟨2, ![4096, 6144]⟩
abbrev S4x1x4096 : Shape := ⟨3, ![4, 1, 4096]⟩
abbrev S4x8x4096 : Shape := ⟨3, ![4, 8, 4096]⟩
abbrev S32x4096 : Shape := ⟨2, ![32, 4096]⟩
abbrev S8x4096 : Shape := ⟨2, ![8, 4096]⟩
abbrev S96 : Shape := ⟨1, ![96]⟩
abbrev S128 : Shape := ⟨1, ![128]⟩
abbrev S8x128 : Shape := ⟨2, ![8, 128]⟩

abbrev nBuf : Space → Nat
  | .hbm => 289
  | .vmem => 0
  | .smem => 0
  | _ => 0

abbrev hbmTy0_0 (i : Nat) : BufTy := match i % 128 with
  | 0 => ⟨S4096x4096, .f32⟩
  | 1 => ⟨S4096x32, .f32⟩
  | 2 => ⟨S4x4096, .f32⟩
  | 3 => ⟨S4096, .f32⟩
  | 4 => ⟨S32, .f32⟩
  | 5 => ⟨S4096x64, .f32⟩
  | 6 => ⟨S4096x64, .f32⟩
  | 7 => ⟨S4096x4096, .f32⟩
  | 8 => ⟨S4096x2048, .f32⟩
  | 9 => ⟨S4096x2048, .f32⟩
  | 10 => ⟨S4096x512, .f32⟩
  | 11 => ⟨S4096x512, .f32⟩
  | 12 => ⟨S4096x12288, .bf16⟩
  | 13 => ⟨S4096x1x64, .f32⟩
  | 14 => ⟨S4096x1x64, .f32⟩
  | 15 => ⟨S_, .f32⟩
  | 16 => ⟨S4096x512, .f32⟩
  | 17 => ⟨S4096x4x128, .f32⟩
  | 18 => ⟨S4096x4x64, .f32⟩
  | 19 => ⟨S4096x4x64, .f32⟩
  | 20 => ⟨S4096x4x64, .f32⟩
  | 21 => ⟨S4096x4x64, .f32⟩
  | 22 => ⟨S4096x4x64, .f32⟩
  | 23 => ⟨S4096x4x64, .f32⟩
  | 24 => ⟨S4096x4x64, .f32⟩
  | 25 => ⟨S4096x4x64, .f32⟩
  | 26 => ⟨S4096x4x64, .f32⟩
  | 27 => ⟨S4096x4x64, .f32⟩
  | 28 => ⟨S4096x4x64, .f32⟩
  | 29 => ⟨S4096x4x64, .f32⟩
  | 30 => ⟨S4096x4x128, .f32⟩
  | 31 => ⟨S4096x4x128, .f32⟩
  | 32 => ⟨S4096x4x64, .f32⟩
  | 33 => ⟨S4096x4x64, .f32⟩
  | 34 => ⟨S4096x4x64, .f32⟩
  | 35 => ⟨S4096x4x64, .f32⟩
  | 36 => ⟨S4096x4x64, .f32⟩
  | 37 => ⟨S4096x4x64, .f32⟩
  | 38 => ⟨S4096x4x64, .f32⟩
  | 39 => ⟨S4096x4x64, .f32⟩
  | 40 => ⟨S4096x4x64, .f32⟩
  | 41 => ⟨S4096x4x64, .f32⟩
  | 42 => ⟨S4096x4x64, .f32⟩
  | 43 => ⟨S4096x4x64, .f32⟩
  | 44 => ⟨S4096x4x128, .f32⟩
  | 45 => ⟨S_, .f32⟩
  | 46 => ⟨S4096x4x128, .f32⟩
  | 47 => ⟨S4096x4x128, .f32⟩
  | 48 => ⟨S_, .f32⟩
  | 49 => ⟨S3x4096, .f32⟩
  | 50 => ⟨S4099x4096, .f32⟩
  | 51 => ⟨S_, .f32⟩
  | 52 => ⟨S3x4096, .f32⟩
  | 53 => ⟨S4096x4096, .f32⟩
  | 54 => ⟨S1x4096, .f32⟩
  | 55 => ⟨S4096, .f32⟩
  | 56 => ⟨S1x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S4096x4096, .f32⟩
  | 63 => ⟨S1x4096, .f32⟩
  | 64 => ⟨S4096, .f32⟩
  | 65 => ⟨S1x4096, .f32⟩
  | 66 => ⟨S4096x4096, .f32⟩
  | 67 => ⟨S4096x4096, .f32⟩
  | 68 => ⟨S4096x4096, .f32⟩
  | 69 => ⟨S4096x4096, .f32⟩
  | 70 => ⟨S1x4096, .f32⟩
  | 71 => ⟨S4096, .f32⟩
  | 72 => ⟨S1x4096, .f32⟩
  | 73 => ⟨S4096x4096, .f32⟩
  | 74 => ⟨S4096x4096, .f32⟩
  | 75 => ⟨S4096x4096, .f32⟩
  | 76 => ⟨S4096x4096, .f32⟩
  | 77 => ⟨S1x4096, .f32⟩
  | 78 => ⟨S4096, .f32⟩
  | 79 => ⟨S1x4096, .f32⟩
  | 80 => ⟨S4096x4096, .f32⟩
  | 81 => ⟨S4096x4096, .f32⟩
  | 82 => ⟨S4096x4096, .f32⟩
  | 83 => ⟨S1x4096, .f32⟩
  | 84 => ⟨S4096x4096, .f32⟩
  | 85 => ⟨S4096x4096, .f32⟩
  | 86 => ⟨S4096x4096, .f32⟩
  | 87 => ⟨S4096x4096, .f32⟩
  | 88 => ⟨S_, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S4096x4096, .f32⟩
  | 99 => ⟨S1x32, .f32⟩
  | 100 => ⟨S4096x32, .f32⟩
  | 101 => ⟨S4096x32, .f32⟩
  | 102 => ⟨S_, .f32⟩
  | 103 => ⟨S4096x32, .f32⟩
  | 104 => ⟨S4096x32, .f32⟩
  | 105 => ⟨S4096x32, .f32⟩
  | 106 => ⟨S4096x32, .f32⟩
  | 107 => ⟨S4096x32, .i1⟩
  | 108 => ⟨S4096x32, .f32⟩
  | 109 => ⟨S4096x32, .f32⟩
  | 110 => ⟨S4096x32, .f32⟩
  | 111 => ⟨S4096x32, .f32⟩
  | 112 => ⟨S4096x32, .f32⟩
  | 113 => ⟨S4096x32, .f32⟩
  | 114 => ⟨S4096x32, .f32⟩
  | 115 => ⟨S4096x32, .f32⟩
  | 116 => ⟨S_, .f32⟩
  | 117 => ⟨S4096x32, .f32⟩
  | 118 => ⟨S4096x32, .i1⟩
  | 119 => ⟨S_, .f32⟩
  | 120 => ⟨S4096x32, .f32⟩
  | 121 => ⟨S4096x32, .f32⟩
  | 122 => ⟨S_, .f32⟩
  | 123 => ⟨S4096x32, .f32⟩
  | 124 => ⟨S4096x32, .i1⟩
  | 125 => ⟨S_, .f32⟩
  | 126 => ⟨S4096x32, .f32⟩
  | 127 => ⟨S4096x32, .f32⟩
  | _ => ⟨S4096x4096, .f32⟩

abbrev hbmTy0_1 (i : Nat) : BufTy := match i % 128 with
  | 0 => ⟨S4096x32, .f32⟩
  | 1 => ⟨S4096x32, .f32⟩
  | 2 => ⟨S_, .f32⟩
  | 3 => ⟨S_, .f32⟩
  | 4 => ⟨S_, .i1⟩
  | 5 => ⟨S_, .f32⟩
  | 6 => ⟨S_, .f32⟩
  | 7 => ⟨S_, .f32⟩
  | 8 => ⟨S_, .f32⟩
  | 9 => ⟨S4096x32, .f32⟩
  | 10 => ⟨S4096x32, .i1⟩
  | 11 => ⟨S_, .f32⟩
  | 12 => ⟨S4096x32, .f32⟩
  | 13 => ⟨S4096x32, .f32⟩
  | 14 => ⟨S4096x32, .f32⟩
  | 15 => ⟨S4096x32, .f32⟩
  | 16 => ⟨S4096x32, .f32⟩
  | 17 => ⟨S_, .f32⟩
  | 18 => ⟨S4096x32, .f32⟩
  | 19 => ⟨S4096x32, .f32⟩
  | 20 => ⟨S4096x512, .f32⟩
  | 21 => ⟨S4096x512, .f32⟩
  | 22 => ⟨S4096x2048, .f32⟩
  | 23 => ⟨S4096x32x1, .f32⟩
  | 24 => ⟨S4096x32x64, .f32⟩
  | 25 => ⟨S4096x2048, .f32⟩
  | 26 => ⟨S4096x32x64, .f32⟩
  | 27 => ⟨S_, .f32⟩
  | 28 => ⟨S4096x32, .f32⟩
  | 29 => ⟨S4096x32x1, .f32⟩
  | 30 => ⟨S_, .f32⟩
  | 31 => ⟨S4096x32, .f32⟩
  | 32 => ⟨S_, .f32⟩
  | 33 => ⟨S4096x4096, .f32⟩
  | 34 => ⟨S4096x4096, .f32⟩
  | 35 => ⟨S4096x4x128, .f32⟩
  | 36 => ⟨S4096x4x128, .f32⟩
  | 37 => ⟨S4096x32, .f32⟩
  | 38 => ⟨S_, .f32⟩
  | 39 => ⟨S32, .f32⟩
  | 40 => ⟨S1x32, .f32⟩
  | 41 => ⟨S_, .f32⟩
  | 42 => ⟨S32, .f32⟩
  | 43 => ⟨S4096x4096, .f32⟩
  | 44 => ⟨S4096x4096, .f32⟩
  | 45 => ⟨S4096x4096, .f32⟩
  | 46 => ⟨S4096x4096, .f32⟩
  | 47 => ⟨S_, .f32⟩
  | 48 => ⟨S4096, .f32⟩
  | 49 => ⟨S1x4096, .f32⟩
  | 50 => ⟨S_, .f32⟩
  | 51 => ⟨S4096, .f32⟩
  | 52 => ⟨S4096x4096, .f32⟩
  | 53 => ⟨S_, .f32⟩
  | 54 => ⟨S4096, .f32⟩
  | 55 => ⟨S1x4096, .f32⟩
  | 56 => ⟨S4096x4096, .f32⟩
  | 57 => ⟨S4096x4096, .f32⟩
  | 58 => ⟨S_, .f32⟩
  | 59 => ⟨S4096, .f32⟩
  | 60 => ⟨S1x4096, .f32⟩
  | 61 => ⟨S_, .f32⟩
  | 62 => ⟨S4x4096, .f32⟩
  | 63 => ⟨S_, .f32⟩
  | 64 => ⟨S4099x4096, .f32⟩
  | 65 => ⟨S4096x4096, .f32⟩
  | 66 => ⟨S_, .f32⟩
  | 67 => ⟨S4096, .f32⟩
  | 68 => ⟨S1x4096, .f32⟩
  | 69 => ⟨S4096x4096, .f32⟩
  | 70 => ⟨S4096x4096, .f32⟩
  | 71 => ⟨S_, .f32⟩
  | 72 => ⟨S4096, .f32⟩
  | 73 => ⟨S1x4096, .f32⟩
  | 74 => ⟨S_, .f32⟩
  | 75 => ⟨S4x4096, .f32⟩
  | 76 => ⟨S4x4096, .f32⟩
  | 77 => ⟨S_, .f32⟩
  | 78 => ⟨S4099x4096, .f32⟩
  | 79 => ⟨S4099x4096, .f32⟩
  | 80 => ⟨S4096x4096, .f32⟩
  | 81 => ⟨S_, .f32⟩
  | 82 => ⟨S4096, .f32⟩
  | 83 => ⟨S1x4096, .f32⟩
  | 84 => ⟨S4096x4096, .f32⟩
  | 85 => ⟨S4096x4096, .f32⟩
  | 86 => ⟨S_, .f32⟩
  | 87 => ⟨S4096, .f32⟩
  | 88 => ⟨S1x4096, .f32⟩
  | 89 => ⟨S_, .f32⟩
  | 90 => ⟨S4x4096, .f32⟩
  | 91 => ⟨S4x4096, .f32⟩
  | 92 => ⟨S_, .f32⟩
  | 93 => ⟨S4099x4096, .f32⟩
  | 94 => ⟨S4099x4096, .f32⟩
  | 95 => ⟨S4096x4096, .f32⟩
  | 96 => ⟨S_, .f32⟩
  | 97 => ⟨S4096, .f32⟩
  | 98 => ⟨S1x4096, .f32⟩
  | 99 => ⟨S4096x4096, .f32⟩
  | 100 => ⟨S4096x4096, .f32⟩
  | 101 => ⟨S_, .f32⟩
  | 102 => ⟨S4096, .f32⟩
  | 103 => ⟨S1x4096, .f32⟩
  | 104 => ⟨S_, .f32⟩
  | 105 => ⟨S4x4096, .f32⟩
  | 106 => ⟨S4x4096, .f32⟩
  | 107 => ⟨S_, .f32⟩
  | 108 => ⟨S4099x4096, .f32⟩
  | 109 => ⟨S4099x4096, .f32⟩
  | 110 => ⟨S3x4096, .f32⟩
  | 111 => ⟨S4096x4096, .f32⟩
  | 112 => ⟨S_, .f32⟩
  | 113 => ⟨S4096x4x128, .f32⟩
  | 114 => ⟨S4096x4x128, .f32⟩
  | 115 => ⟨S4096x4x64, .f32⟩
  | 116 => ⟨S4096x4x64, .f32⟩
  | 117 => ⟨S4096x4x64, .f32⟩
  | 118 => ⟨S4096x4x64, .f32⟩
  | 119 => ⟨S4096x4x64, .f32⟩
  | 120 => ⟨S4096x4x64, .f32⟩
  | 121 => ⟨S4096x4x64, .f32⟩
  | 122 => ⟨S4096x4x64, .f32⟩
  | 123 => ⟨S4096x4x64, .f32⟩
  | 124 => ⟨S4096x4x64, .f32⟩
  | 125 => ⟨S4096x4x64, .f32⟩
  | 126 => ⟨S4096x4x64, .f32⟩
  | 127 => ⟨S4096x4x64, .f32⟩
  | _ => ⟨S4096x4096, .f32⟩

abbrev hbmTy0_2 (i : Nat) : BufTy := match i % 128 with
  | 0 => ⟨S4096x4x128, .f32⟩
  | 1 => ⟨S4096x512, .f32⟩
  | 2 => ⟨S4096x4x64, .f32⟩
  | 3 => ⟨S4096x4x64, .f32⟩
  | 4 => ⟨S4096x4x64, .f32⟩
  | 5 => ⟨S4096x4x64, .f32⟩
  | 6 => ⟨S4096x4x64, .f32⟩
  | 7 => ⟨S4096x4x64, .f32⟩
  | 8 => ⟨S4096x4x64, .f32⟩
  | 9 => ⟨S4096x4x64, .f32⟩
  | 10 => ⟨S4096x4x64, .f32⟩
  | 11 => ⟨S4096x4x64, .f32⟩
  | 12 => ⟨S4096x4x64, .f32⟩
  | 13 => ⟨S4096x4x64, .f32⟩
  | 14 => ⟨S4096x4x64, .f32⟩
  | 15 => ⟨S4096x4x128, .f32⟩
  | 16 => ⟨S4096x512, .f32⟩
  | 17 => ⟨S4096x4096, .bf16⟩
  | 18 => ⟨S4096x512, .bf16⟩
  | 19 => ⟨S4096x512, .bf16⟩
  | 20 => ⟨S4096x32, .bf16⟩
  | 21 => ⟨S_, .bf16⟩
  | 22 => ⟨S4096x992, .bf16⟩
  | 23 => ⟨S4096x6144, .bf16⟩
  | 24 => ⟨S4096x12288, .bf16⟩
  | 25 => ⟨S4x1x4096, .f32⟩
  | 26 => ⟨S4x8x4096, .f32⟩
  | 27 => ⟨S32x4096, .f32⟩
  | 28 => ⟨S8x4096, .f32⟩
  | 29 => ⟨S_, .f32⟩
  | 30 => ⟨S96, .f32⟩
  | 31 => ⟨S128, .f32⟩
  | 32 => ⟨S8x128, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_0 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_v68_2 : Ref sig .tc := ⟨.hbm, 93, rfl⟩
abbrev main_call0_cst_1 : Ref sig .tc := ⟨.hbm, 94, rfl⟩
abbrev main_call0_v6 : Ref sig .tc := ⟨.hbm, 95, rfl⟩
abbrev main_call0_v7 : Ref sig .tc := ⟨.hbm, 96, rfl⟩
abbrev main_v68_1 : Ref sig .tc := ⟨.hbm, 97, rfl⟩
abbrev main_v68_0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_v72_0 : Ref sig .tc := ⟨.hbm, 115, rfl⟩
abbrev main_call1_cst_0 : Ref sig .tc := ⟨.hbm, 116, rfl⟩
abbrev main_call1_v13 : Ref sig .tc := ⟨.hbm, 117, rfl⟩
abbrev main_call1_v14 : Ref sig .tc := ⟨.hbm, 118, rfl⟩
abbrev main_call1_cst_1 : Ref sig .tc := ⟨.hbm, 119, rfl⟩
abbrev main_call1_v15 : Ref sig .tc := ⟨.hbm, 120, rfl⟩
abbrev main_call1_v16 : Ref sig .tc := ⟨.hbm, 121, rfl⟩
abbrev main_call1_cst_2 : Ref sig .tc := ⟨.hbm, 122, rfl⟩
abbrev main_call1_v17 : Ref sig .tc := ⟨.hbm, 123, rfl⟩
abbrev main_call1_v18 : Ref sig .tc := ⟨.hbm, 124, rfl⟩
abbrev main_call1_cst_3 : Ref sig .tc := ⟨.hbm, 125, rfl⟩
abbrev main_call1_v19 : Ref sig .tc := ⟨.hbm, 126, rfl⟩
abbrev main_call1_v20 : Ref sig .tc := ⟨.hbm, 127, rfl⟩
abbrev main_call1_v21 : Ref sig .tc := ⟨.hbm, 128, rfl⟩
abbrev main_v72_1 : Ref sig .tc := ⟨.hbm, 129, rfl⟩
abbrev main_call1_cst_4 : Ref sig .tc := ⟨.hbm, 130, rfl⟩
abbrev main_call1_cst_5 : Ref sig .tc := ⟨.hbm, 131, rfl⟩
abbrev main_call1_v23 : Ref sig .tc := ⟨.hbm, 132, rfl⟩
abbrev main_call1_cst_6 : Ref sig .tc := ⟨.hbm, 133, rfl⟩
abbrev main_call1_cst_7 : Ref sig .tc := ⟨.hbm, 134, rfl⟩
abbrev main_call1_v24 : Ref sig .tc := ⟨.hbm, 135, rfl⟩
abbrev main_call1_cst_8 : Ref sig .tc := ⟨.hbm, 136, rfl⟩
abbrev main_call1_v25 : Ref sig .tc := ⟨.hbm, 137, rfl⟩
abbrev main_call1_v26 : Ref sig .tc := ⟨.hbm, 138, rfl⟩
abbrev main_call1_cst_9 : Ref sig .tc := ⟨.hbm, 139, rfl⟩
abbrev main_call1_v27 : Ref sig .tc := ⟨.hbm, 140, rfl⟩
abbrev main_call1_v28 : Ref sig .tc := ⟨.hbm, 141, rfl⟩
abbrev main_call1_v29 : Ref sig .tc := ⟨.hbm, 142, rfl⟩
abbrev main_call1_v30 : Ref sig .tc := ⟨.hbm, 143, rfl⟩
abbrev main_call1_v31 : Ref sig .tc := ⟨.hbm, 144, rfl⟩
abbrev main_call1_cst_10 : Ref sig .tc := ⟨.hbm, 145, rfl⟩
abbrev main_call1_v32 : Ref sig .tc := ⟨.hbm, 146, rfl⟩
abbrev main_v72_2 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_cst_4 : Ref sig .tc := ⟨.hbm, 155, rfl⟩
abbrev main_v80 : Ref sig .tc := ⟨.hbm, 156, rfl⟩
abbrev main_v81 : Ref sig .tc := ⟨.hbm, 157, rfl⟩
abbrev main_cst_5 : Ref sig .tc := ⟨.hbm, 158, rfl⟩
abbrev main_v82 : Ref sig .tc := ⟨.hbm, 159, rfl⟩
abbrev main_cst_6 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_cst_7 : Ref sig .tc := ⟨.hbm, 166, rfl⟩
abbrev main_v88 : Ref sig .tc := ⟨.hbm, 167, rfl⟩
abbrev main_v89 : Ref sig .tc := ⟨.hbm, 168, rfl⟩
abbrev main_cst_8 : Ref sig .tc := ⟨.hbm, 169, rfl⟩
abbrev main_v90 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_v91 : Ref sig .tc := ⟨.hbm, 174, rfl⟩
abbrev main_cst_9 : Ref sig .tc := ⟨.hbm, 175, rfl⟩
abbrev main_v92 : Ref sig .tc := ⟨.hbm, 176, rfl⟩
abbrev main_v93 : Ref sig .tc := ⟨.hbm, 177, rfl⟩
abbrev main_cst_10 : Ref sig .tc := ⟨.hbm, 178, rfl⟩
abbrev main_v94 : Ref sig .tc := ⟨.hbm, 179, rfl⟩
abbrev main_v95 : Ref sig .tc := ⟨.hbm, 180, rfl⟩
abbrev main_cst_11 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_cst_12 : Ref sig .tc := ⟨.hbm, 186, rfl⟩
abbrev main_v100 : Ref sig .tc := ⟨.hbm, 187, rfl⟩
abbrev main_v101 : Ref sig .tc := ⟨.hbm, 188, rfl⟩
abbrev main_cst_13 : Ref sig .tc := ⟨.hbm, 189, rfl⟩
abbrev main_v102 : Ref sig .tc := ⟨.hbm, 190, rfl⟩
abbrev main_cst_14 : Ref sig .tc := ⟨.hbm, 191, rfl⟩
abbrev main_v103 : Ref sig .tc := ⟨.hbm, 192, rfl⟩
abbrev main_v104 : Ref sig .tc := ⟨.hbm, 193, rfl⟩
abbrev main_cst_15 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_cst_16 : Ref sig .tc := ⟨.hbm, 199, rfl⟩
abbrev main_v109 : Ref sig .tc := ⟨.hbm, 200, rfl⟩
abbrev main_v110 : Ref sig .tc := ⟨.hbm, 201, rfl⟩
abbrev main_cst_17 : Ref sig .tc := ⟨.hbm, 202, rfl⟩
abbrev main_v111 : Ref sig .tc := ⟨.hbm, 203, rfl⟩
abbrev main_v112 : Ref sig .tc := ⟨.hbm, 204, rfl⟩
abbrev main_cst_18 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_cst_19 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_cst_20 : Ref sig .tc := ⟨.hbm, 214, rfl⟩
abbrev main_v120 : Ref sig .tc := ⟨.hbm, 215, rfl⟩
abbrev main_v121 : Ref sig .tc := ⟨.hbm, 216, rfl⟩
abbrev main_cst_21 : Ref sig .tc := ⟨.hbm, 217, rfl⟩
abbrev main_v122 : Ref sig .tc := ⟨.hbm, 218, rfl⟩
abbrev main_v123 : Ref sig .tc := ⟨.hbm, 219, rfl⟩
abbrev main_cst_22 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_cst_23 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_cst_24 : Ref sig .tc := ⟨.hbm, 229, rfl⟩
abbrev main_v131 : Ref sig .tc := ⟨.hbm, 230, rfl⟩
abbrev main_v132 : Ref sig .tc := ⟨.hbm, 231, rfl⟩
abbrev main_cst_25 : Ref sig .tc := ⟨.hbm, 232, rfl⟩
abbrev main_v133 : Ref sig .tc := ⟨.hbm, 233, rfl⟩
abbrev main_v134 : Ref sig .tc := ⟨.hbm, 234, rfl⟩
abbrev main_cst_26 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_cst_27 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_cst_28 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_cst_29 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩

abbrev nD : Nat := 1
abbrev τ : Topo := Topo.v7x

variable {F : FTy → Type} [FloatOps F]
-- ==== KernelXfwd.lean ====
abbrev S4096x1024 : Shape := ⟨2, ![4096, 1024]⟩
abbrev S1024 : Shape := ⟨1, ![1024]⟩
abbrev S1024x1024 : Shape := ⟨2, ![1024, 1024]⟩
abbrev S256x2048 : Shape := ⟨2, ![256, 2048]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S256x2048, .bf16⟩
  | .hbm, ⟨8, _⟩ => ⟨S1024x1024, .bf16⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceXfwdIdeal.lean ====
abbrev S4096x1024 : Shape := ⟨2, ![4096, 1024]⟩
abbrev S1024 : Shape := ⟨1, ![1024]⟩
abbrev S1024x1024 : Shape := ⟨2, ![1024, 1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S256x1024, .f32⟩
  | .hbm, ⟨23, _⟩ => ⟨S256x1024, .f32⟩
  | .hbm, ⟨24, _⟩ => ⟨S4096x4x256, .f32⟩
  | .hbm, ⟨25, _⟩ => ⟨S256x4x256, .f32⟩
  | .hbm, ⟨26, _⟩ => ⟨S256x4x256, .f32⟩
  | .hbm, ⟨27, _⟩ => ⟨S4x4096x256, .f32⟩
  | .hbm, ⟨28, _⟩ => ⟨S_, .f32⟩
  | .hbm, ⟨29, _⟩ => ⟨S4x4096x256, .f32⟩
  | .hbm, ⟨30, _⟩ => ⟨S4x4096x256, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x256x4096, .f32⟩
  | .hbm, ⟨46, _⟩ => ⟨S4096x4x256, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== KernelSfwd.lean ====
abbrev S4096x512 : Shape := ⟨2, ![4096, 512]⟩
abbrev S4096x1024 : Shape := ⟨2, ![4096, 1024]⟩
abbrev S4096x2048 : Shape := ⟨2, ![4096, 2048]⟩
abbrev S4096x32 : Shape := ⟨2, ![4096, 32]⟩
abbrev S32 : Shape := ⟨1, ![32]⟩
abbrev S_ : Shape := ⟨0, ![]⟩
abbrev S4096x10240 : Shape := ⟨2, ![4096, 10240]⟩
abbrev S4096x12288 : Shape := ⟨2, ![4096, 12288]⟩
abbrev S4096x4096 : Shape := ⟨2, ![4096, 4096]⟩
abbrev S4096x32x64 : Shape := ⟨3, ![4096, 32, 64]⟩
abbrev S32x64 : Shape := ⟨2, ![32, 64]⟩
abbrev S2048 : Shape := ⟨1, ![2048]⟩
abbrev S1x2048 : Shape := ⟨2, ![1, 2048]⟩
abbrev S64 : Shape := ⟨1, ![64]⟩
abbrev S4 : Shape := ⟨1, ![4]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S64x4x128 : Shape := ⟨3, ![64, 4, 128]⟩
abbrev S64x512 : Shape := ⟨2, ![64, 512]⟩
abbrev S4x128 : Shape := ⟨2, ![4, 128]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S256 : Shape := ⟨1, ![256]⟩
abbrev S64x256 : Shape := ⟨2, ![64, 256]⟩
abbrev S256x1 : Shape := ⟨2, ![256, 1]⟩
abbrev S256x256 : Shape := ⟨2, ![256, 256]⟩
abbrev S64x512x256 : Shape := ⟨3, ![64, 512, 256]⟩
abbrev S64x128x2048 : Shape := ⟨3, ![64, 128, 2048]⟩
abbrev S64x1024 : Shape := ⟨2, ![64, 1024]⟩
abbrev S64x4096 : Shape := ⟨2, ![64, 4096]⟩
abbrev S64x2048 : Shape := ⟨2, ![64, 2048]⟩
abbrev S1x512x256 : Shape := ⟨3, ![1, 512, 256]⟩
abbrev S1x128x2048 : Shape := ⟨3, ![1, 128, 2048]⟩
abbrev S128x2048 : Shape := ⟨2, ![128, 2048]⟩
abbrev S64x128 : Shape := ⟨2, ![64, 128]⟩
abbrev S128x256 : Shape := ⟨2, ![128, 256]⟩
abbrev S256x128 : Shape := ⟨2, ![256, 128]⟩

abbrev nBuf : Space → Nat
  | .hbm => 151
  | .vmem => 27
  | .smem => 0
  | _ => 0

abbrev hbmTy0_0 (i : Nat) : BufTy := match i % 128 with
  | 0 => ⟨S4096x512, .f32⟩
  | 1 => ⟨S4096x512, .f32⟩
  | 2 => ⟨S4096x1024, .f32⟩
  | 3 => ⟨S4096x2048, .f32⟩
  | 4 => ⟨S4096x1024, .f32⟩
  | 5 => ⟨S4096x1024, .f32⟩
  | 6 => ⟨S4096x32, .f32⟩
  | 7 => ⟨S32, .f32⟩
  | 8 => ⟨S_, .f32⟩
  | 9 => ⟨S4096x10240, .f32⟩
  | 10 => ⟨S_, .f32⟩
  | 11 => ⟨S4096x1024, .f32⟩
  | 12 => ⟨S4096x12288, .f32⟩
  | 13 => ⟨S4096x4096, .f32⟩
  | 14 => ⟨S4096x32x64, .f32⟩
  | 15 => ⟨S4096x2048, .f32⟩
  | 16 => ⟨S32x64, .f32⟩
  | 17 => ⟨S2048, .f32⟩
  | 18 => ⟨S1x2048, .f32⟩
  | 19 => ⟨S64, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S4, .f32⟩
  | 28 => ⟨S4, .f32⟩
  | 29 => ⟨S64x1, .f32⟩
  | 30 => ⟨S1x64, .f32⟩
  | 31 => ⟨S64x64, .f32⟩
  | 32 => ⟨S64x64, .f32⟩
  | 33 => ⟨S64x64, .f32⟩
  | 34 => ⟨S64x64, .f32⟩
  | 35 => ⟨S4x1x1, .f32⟩
  | 36 => ⟨S1x64x64, .f32⟩
  | 37 => ⟨S4x64x64, .f32⟩
  | 38 => ⟨S4x64x64, .f32⟩
  | 39 => ⟨S4x64x64, .f32⟩
  | 40 => ⟨S4x64x64, .f32⟩
  | 41 => ⟨S1x4, .f32⟩
  | 42 => ⟨S64x1, .f32⟩
  | 43 => ⟨S_, .f32⟩
  | 44 => ⟨S64x1, .f32⟩
  | 45 => ⟨S64x1, .f32⟩
  | 46 => ⟨S64x4, .f32⟩
  | 47 => ⟨S64x4, .f32⟩
  | 48 => ⟨S64x4, .f32⟩
  | 49 => ⟨S64x4, .f32⟩
  | 50 => ⟨S64x4x128, .f32⟩
  | 51 => ⟨S64x512, .f32⟩
  | 52 => ⟨S1x4, .f32⟩
  | 53 => ⟨S64x1, .f32⟩
  | 54 => ⟨S_, .f32⟩
  | 55 => ⟨S64x1, .f32⟩
  | 56 => ⟨S64x1, .f32⟩
  | 57 => ⟨S64x4, .f32⟩
  | 58 => ⟨S64x4, .f32⟩
  | 59 => ⟨S64x4, .f32⟩
  | 60 => ⟨S64x4, .f32⟩
  | 61 => ⟨S64x4x128, .f32⟩
  | 62 => ⟨S64x512, .f32⟩
  | 63 => ⟨S_, .f32⟩
  | 64 => ⟨S4, .f32⟩
  | 65 => ⟨S4, .f32⟩
  | 66 => ⟨S4, .f32⟩
  | 67 => ⟨S4x128, .f32⟩
  | 68 => ⟨S512, .f32⟩
  | 69 => ⟨S512x1, .f32⟩
  | 70 => ⟨S_, .f32⟩
  | 71 => ⟨S1x256, .f32⟩
  | 72 => ⟨S512x256, .f32⟩
  | 73 => ⟨S512x256, .f32⟩
  | 74 => ⟨S512x256, .f32⟩
  | 75 => ⟨S256, .i32⟩
  | 76 => ⟨S64, .i32⟩
  | 77 => ⟨S64x1, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S256, .i32⟩
  | 85 => ⟨S256, .i32⟩
  | 86 => ⟨S_, .i32⟩
  | 87 => ⟨S256, .i32⟩
  | 88 => ⟨S256, .i1⟩
  | 89 => ⟨S_, .i32⟩
  | 90 => ⟨S256, .i32⟩
  | 91 => ⟨S256, .i1⟩
  | 92 => ⟨S_, .i32⟩
  | 93 => ⟨S_, .i1⟩
  | 94 => ⟨S256, .i1⟩
  | 95 => ⟨S256, .i1⟩
  | 96 => ⟨S256, .i1⟩
  | 97 => ⟨S256, .i32⟩
  | 98 => ⟨S256, .i32⟩
  | 99 => ⟨S256, .i32⟩
  | 100 => ⟨S1x256, .i32⟩
  | 101 => ⟨S64x256, .i32⟩
  | 102 => ⟨S64x256, .i32⟩
  | 103 => ⟨S64x256, .i1⟩
  | 104 => ⟨S64x256, .f32⟩
  | 105 => ⟨S_, .i32⟩
  | 106 => ⟨S_, .i32⟩
  | 107 => ⟨S256, .i32⟩
  | 108 => ⟨S256, .i32⟩
  | 109 => ⟨S256, .i32⟩
  | 110 => ⟨S_, .i32⟩
  | 111 => ⟨S256, .i32⟩
  | 112 => ⟨S256, .i1⟩
  | 113 => ⟨S256, .i32⟩
  | 114 => ⟨S256, .i32⟩
  | 115 => ⟨S_, .i32⟩
  | 116 => ⟨S256, .i32⟩
  | 117 => ⟨S256, .i1⟩
  | 118 => ⟨S256, .i1⟩
  | 119 => ⟨S_, .i32⟩
  | 120 => ⟨S256, .i32⟩
  | 121 => ⟨S256, .i32⟩
  | 122 => ⟨S256, .i32⟩
  | 123 => ⟨S256x1, .i32⟩
  | 124 => ⟨S_, .i32⟩
  | 125 => ⟨S_, .i32⟩
  | 126 => ⟨S256, .i32⟩
  | 127 => ⟨S256, .i32⟩
  | _ => ⟨S4096x512, .f32⟩

abbrev hbmTy0_1 (i : Nat) : BufTy := match i % 128 with
  | 0 => ⟨S256, .i32⟩
  | 1 => ⟨S_, .i32⟩
  | 2 => ⟨S256, .i32⟩
  | 3 => ⟨S256, .i1⟩
  | 4 => ⟨S256, .i32⟩
  | 5 => ⟨S256, .i32⟩
  | 6 => ⟨S_, .i32⟩
  | 7 => ⟨S256, .i32⟩
  | 8 => ⟨S256, .i1⟩
  | 9 => ⟨S256, .i1⟩
  | 10 => ⟨S_, .i32⟩
  | 11 => ⟨S256, .i32⟩
  | 12 => ⟨S256, .i32⟩
  | 13 => ⟨S256, .i32⟩
  | 14 => ⟨S1x256, .i32⟩
  | 15 => ⟨S256x256, .i32⟩
  | 16 => ⟨S256x256, .i32⟩
  | 17 => ⟨S256x256, .i1⟩
  | 18 => ⟨S256x256, .f32⟩
  | 19 => ⟨S4096x1024, .f32⟩
  | 20 => ⟨S4096x2048, .f32⟩
  | 21 => ⟨S64x512x256, .f32⟩
  | 22 => ⟨S64x128x2048, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x4096, .f32⟩
  | .local _ .vmem, ⟨7, _⟩ => ⟨S64x4096, .f32⟩
  | .local _ .vmem, ⟨8, _⟩ => ⟨S64x2048, .f32⟩
  | .local _ .vmem, ⟨9, _⟩ => ⟨S64x2048, .f32⟩
  | .local _ .vmem, ⟨10, _⟩ => ⟨S1x2048, .f32⟩
  | .local _ .vmem, ⟨11, _⟩ => ⟨S4x64x64, .f32⟩
  | .local _ .vmem, ⟨12, _⟩ => ⟨S64x512, .f32⟩
  | .local _ .vmem, ⟨13, _⟩ => ⟨S64x512, .f32⟩
  | .local _ .vmem, ⟨14, _⟩ => ⟨S512x256, .f32⟩
  | .local _ .vmem, ⟨15, _⟩ => ⟨S64x256, .f32⟩
  | .local _ .vmem, ⟨16, _⟩ => ⟨S256x256, .f32⟩
  | .local _ .vmem, ⟨17, _⟩ => ⟨S64x1024, .f32⟩
  | .local _ .vmem, ⟨18, _⟩ => ⟨S64x1024, .f32⟩
  | .local _ .vmem, ⟨19, _⟩ => ⟨S64x2048, .f32⟩
  | .local _ .vmem, ⟨20, _⟩ => ⟨S64x2048, .f32⟩
  | .local _ .vmem, ⟨21, _⟩ => ⟨S1x512x256, .f32⟩
  | .local _ .vmem, ⟨22, _⟩ => ⟨S1x512x256, .f32⟩
  | .local _ .vmem, ⟨23, _⟩ => ⟨S1x128x2048, .f32⟩
  | .local _ .vmem, ⟨24, _⟩ => ⟨S1x128x2048, .f32⟩
  | .local _ .vmem, ⟨25, _⟩ => ⟨S512x256, .f32⟩
  | .local _ .vmem, ⟨26, _⟩ => ⟨S128x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_c_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_1 : Ref sig .tc := ⟨.hbm, 86, rfl⟩
abbrev main_call0_v5 : Ref sig .tc := ⟨.hbm, 87, rfl⟩
abbrev main_call0_v6 : Ref sig .tc := ⟨.hbm, 88, rfl⟩
abbrev main_call0_c_2 : Ref sig .tc := ⟨.hbm, 89, rfl⟩
abbrev main_call0_v7 : Ref sig .tc := ⟨.hbm, 90, rfl⟩
abbrev main_call0_v8 : Ref sig .tc := ⟨.hbm, 91, rfl⟩
abbrev main_call0_c_3 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_v12 : Ref sig .tc := ⟨.hbm, 96, rfl⟩
abbrev main_call0_v13 : Ref sig .tc := ⟨.hbm, 97, rfl⟩
abbrev main_call0_v14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_7 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_v7 : Ref sig .tc := ⟨.hbm, 113, rfl⟩
abbrev main_call1_v8 : Ref sig .tc := ⟨.hbm, 114, rfl⟩
abbrev main_call1_c : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_c_0 : Ref sig .tc := ⟨.hbm, 119, rfl⟩
abbrev main_call1_v12 : Ref sig .tc := ⟨.hbm, 120, rfl⟩
abbrev main_call1_v13 : Ref sig .tc := ⟨.hbm, 121, rfl⟩
abbrev main_v68 : Ref sig .tc := ⟨.hbm, 122, rfl⟩
abbrev main_v69 : Ref sig .tc := ⟨.hbm, 123, rfl⟩
abbrev main_c_8 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_c : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_0 : Ref sig .tc := ⟨.hbm, 138, rfl⟩
abbrev main_call2_v12 : Ref sig .tc := ⟨.hbm, 139, rfl⟩
abbrev main_call2_v13 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76_0 : Ref sig .tc := ⟨.hbm, 147, rfl⟩
abbrev main_v76_1 : Ref sig .tc := ⟨.hbm, 148, rfl⟩
abbrev main_v76_2 : Ref sig .tc := ⟨.hbm, 149, rfl⟩
abbrev main_v76_3 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceSfwdIdeal.lean ====
abbrev S4096x512 : Shape := ⟨2, ![4096, 512]⟩
abbrev S4096x1024 : Shape := ⟨2, ![4096, 1024]⟩
abbrev S4096x2048 : Shape := ⟨2, ![4096, 2048]⟩
abbrev S4096x32 : Shape := ⟨2, ![4096, 32]⟩
abbrev S32 : Shape := ⟨1, ![32]⟩
abbrev S64 : Shape := ⟨1, ![64]⟩
abbrev S4 : Shape := ⟨1, ![4]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S64x4x1 : Shape := ⟨3, ![64, 4, 1]⟩
abbrev S8x4 : Shape := ⟨2, ![8, 4]⟩
abbrev S4x128x256 : Shape := ⟨3, ![4, 128, 256]⟩
abbrev S8x4x64x128 : Shape := ⟨4, ![8, 4, 64, 128]⟩
abbrev S64x64x4x128 : Shape := ⟨4, ![64, 64, 4, 128]⟩
abbrev S64x64x4x256 : Shape := ⟨4, ![64, 64, 4, 256]⟩
abbrev S64x64x8x4x64 : Shape := ⟨5, ![64, 64, 8, 4, 64]⟩
abbrev S64x64x8x4 : Shape := ⟨4, ![64, 64, 8, 4]⟩
abbrev S64x64x8x128 : Shape := ⟨4, ![64, 64, 8, 128]⟩
abbrev S64x4x128x256 : Shape := ⟨4, ![64, 4, 128, 256]⟩
abbrev S64x8x4x64x128 : Shape := ⟨5, ![64, 8, 4, 64, 128]⟩
abbrev S1x64x4x128 : Shape := ⟨4, ![1, 64, 4, 128]⟩
abbrev S64x4x128 : Shape := ⟨3, ![64, 4, 128]⟩
abbrev S1x64x4x256 : Shape := ⟨4, ![1, 64, 4, 256]⟩
abbrev S64x4x256 : Shape := ⟨3, ![64, 4, 256]⟩
abbrev S1x64x8x4x64 : Shape := ⟨5, ![1, 64, 8, 4, 64]⟩
abbrev S64x8x4x64 : Shape := ⟨4, ![64, 8, 4, 64]⟩
abbrev S1x64x8x4 : Shape := ⟨4, ![1, 64, 8, 4]⟩
abbrev S64x8x4 : Shape := ⟨3, ![64, 8, 4]⟩
abbrev S1x64x8x128 : Shape := ⟨4, ![1, 64, 8, 128]⟩
abbrev S64x8x128 : Shape := ⟨3, ![64, 8, 128]⟩
abbrev S4x256x64 : Shape := ⟨3, ![4, 256, 64]⟩
abbrev S1x8x4 : Shape := ⟨3, ![1, 8, 4]⟩
abbrev S8x4x64 : Shape := ⟨3, ![8, 4, 64]⟩
abbrev S8x4x64x1 : Shape := ⟨4, ![8, 4, 64, 1]⟩
abbrev S8x4x1x64 : Shape := ⟨4, ![8, 4, 1, 64]⟩
abbrev S8x4x64x64 : Shape := ⟨4, ![8, 4, 64, 64]⟩
abbrev S8x64x64 : Shape := ⟨3, ![8, 64, 64]⟩
abbrev S64x8x4x1 : Shape := ⟨4, ![64, 8, 4, 1]⟩
abbrev S8x1x64x64 : Shape := ⟨4, ![8, 1, 64, 64]⟩
abbrev S8x4x1x1 : Shape := ⟨4, ![8, 4, 1, 1]⟩
abbrev S1x4x128x256 : Shape := ⟨4, ![1, 4, 128, 256]⟩
abbrev S1x8x4x64x128 : Shape := ⟨5, ![1, 8, 4, 64, 128]⟩
abbrev S64x512x256 : Shape := ⟨3, ![64, 512, 256]⟩
abbrev S64x128x8x4x64 : Shape := ⟨5, ![64, 128, 8, 4, 64]⟩
abbrev S64x128x2048 : Shape := ⟨3, ![64, 128, 2048]⟩

abbrev nBuf : Space → Nat
  | .hbm => 223
  | .vmem => 0
  | .smem => 0
  | _ => 0

abbrev hbmTy0_0 (i : Nat) : BufTy := match i % 128 with
  | 0 => ⟨S4096x512, .f32⟩
  | 1 => ⟨S4096x512, .f32⟩
  | 2 => ⟨S4096x1024, .f32⟩
  | 3 => ⟨S4096x2048, .f32⟩
  | 4 => ⟨S4096x1024, .f32⟩
  | 5 => ⟨S4096x1024, .f32⟩
  | 6 => ⟨S4096x32, .f32⟩
  | 7 => ⟨S32, .f32⟩
  | 8 => ⟨S64, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S4, .f32⟩
  | 17 => ⟨S4, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S64x64, .f32⟩
  | 24 => ⟨S4x1x1, .f32⟩
  | 25 => ⟨S1x64x64, .f32⟩
  | 26 => ⟨S4x64x64, .f32⟩
  | 27 => ⟨S4x64x64, .f32⟩
  | 28 => ⟨S4x64x64, .f32⟩
  | 29 => ⟨S4x64x64, .f32⟩
  | 30 => ⟨S1x4, .f32⟩
  | 31 => ⟨S64x1, .f32⟩
  | 32 => ⟨S_, .f32⟩
  | 33 => ⟨S64x1, .f32⟩
  | 34 => ⟨S64x1, .f32⟩
  | 35 => ⟨S64x4, .f32⟩
  | 36 => ⟨S64x4, .f32⟩
  | 37 => ⟨S64x4, .f32⟩
  | 38 => ⟨S64x4, .f32⟩
  | 39 => ⟨S64x4x1, .f32⟩
  | 40 => ⟨S1x4, .f32⟩
  | 41 => ⟨S64x1, .f32⟩
  | 42 => ⟨S_, .f32⟩
  | 43 => ⟨S64x1, .f32⟩
  | 44 => ⟨S64x1, .f32⟩
  | 45 => ⟨S64x4, .f32⟩
  | 46 => ⟨S64x4, .f32⟩
  | 47 => ⟨S64x4, .f32⟩
  | 48 => ⟨S64x4, .f32⟩
  | 49 => ⟨S64x4x1, .f32⟩
  | 50 => ⟨S_, .f32⟩
  | 51 => ⟨S4, .f32⟩
  | 52 => ⟨S4, .f32⟩
  | 53 => ⟨S4, .f32⟩
  | 54 => ⟨S8x4, .f32⟩
  | 55 => ⟨S_, .f32⟩
  | 56 => ⟨S4x128x256, .f32⟩
  | 57 => ⟨S_, .f32⟩
  | 58 => ⟨S8x4x64x128, .f32⟩
  | 59 => ⟨S64x64x4x128, .f32⟩
  | 60 => ⟨S64x64x4x128, .f32⟩
  | 61 => ⟨S64x64x4x256, .f32⟩
  | 62 => ⟨S64x64x8x4x64, .f32⟩
  | 63 => ⟨S64x64x8x4, .f32⟩
  | 64 => ⟨S64x64x8x128, .f32⟩
  | 65 => ⟨S64x64x8x128, .f32⟩
  | 66 => ⟨S_, .f32⟩
  | 67 => ⟨S64x64x4x256, .f32⟩
  | 68 => ⟨S_, .f32⟩
  | 69 => ⟨S64x64x8x4x64, .f32⟩
  | 70 => ⟨S_, .f32⟩
  | 71 => ⟨S64x4x128x256, .f32⟩
  | 72 => ⟨S_, .f32⟩
  | 73 => ⟨S64x8x4x64x128, .f32⟩
  | 74 => ⟨S_, .i32⟩
  | 75 => ⟨S64x64x4x128, .f32⟩
  | 76 => ⟨S64x64x4x128, .f32⟩
  | 77 => ⟨S64x64x4x256, .f32⟩
  | 78 => ⟨S64x64x8x4x64, .f32⟩
  | 79 => ⟨S64x64x8x4, .f32⟩
  | 80 => ⟨S64x64x8x128, .f32⟩
  | 81 => ⟨S64x64x8x128, .f32⟩
  | 82 => ⟨S4x64x64, .f32⟩
  | 83 => ⟨S64x4x1, .f32⟩
  | 84 => ⟨S4, .f32⟩
  | 85 => ⟨S64x4x1, .f32⟩
  | 86 => ⟨S8x4, .f32⟩
  | 87 => ⟨S_, .i32⟩
  | 88 => ⟨S4x128x256, .f32⟩
  | 89 => ⟨S8x4x64x128, .f32⟩
  | 90 => ⟨S64x64x4x256, .f32⟩
  | 91 => ⟨S64x64x8x4x64, .f32⟩
  | 92 => ⟨S64x4x128x256, .f32⟩
  | 93 => ⟨S64x8x4x64x128, .f32⟩
  | 94 => ⟨S_, .i32⟩
  | 95 => ⟨S_, .i1⟩
  | 96 => ⟨S_, .i32⟩
  | 97 => ⟨S_, .i32⟩
  | 98 => ⟨S_, .i32⟩
  | 99 => ⟨S1x64x4x128, .f32⟩
  | 100 => ⟨S64x4x128, .f32⟩
  | 101 => ⟨S_, .i32⟩
  | 102 => ⟨S_, .i32⟩
  | 103 => ⟨S_, .i32⟩
  | 104 => ⟨S1x64x4x128, .f32⟩
  | 105 => ⟨S64x4x128, .f32⟩
  | 106 => ⟨S_, .i32⟩
  | 107 => ⟨S_, .i32⟩
  | 108 => ⟨S_, .i32⟩
  | 109 => ⟨S1x64x4x256, .f32⟩
  | 110 => ⟨S64x4x256, .f32⟩
  | 111 => ⟨S_, .i32⟩
  | 112 => ⟨S_, .i32⟩
  | 113 => ⟨S_, .i32⟩
  | 114 => ⟨S_, .i32⟩
  | 115 => ⟨S1x64x8x4x64, .f32⟩
  | 116 => ⟨S64x8x4x64, .f32⟩
  | 117 => ⟨S_, .i32⟩
  | 118 => ⟨S_, .i32⟩
  | 119 => ⟨S_, .i32⟩
  | 120 => ⟨S1x64x8x4, .f32⟩
  | 121 => ⟨S64x8x4, .f32⟩
  | 122 => ⟨S_, .i32⟩
  | 123 => ⟨S_, .i32⟩
  | 124 => ⟨S_, .i32⟩
  | 125 => ⟨S1x64x8x128, .f32⟩
  | 126 => ⟨S64x8x128, .f32⟩
  | 127 => ⟨S_, .i32⟩
  | _ => ⟨S4096x512, .f32⟩

abbrev hbmTy0_1 (i : Nat) : BufTy := match i % 128 with
  | 0 => ⟨S_, .i32⟩
  | 1 => ⟨S_, .i32⟩
  | 2 => ⟨S1x64x8x128, .f32⟩
  | 3 => ⟨S64x8x128, .f32⟩
  | 4 => ⟨S4x64x64, .f32⟩
  | 5 => ⟨S4x64x64, .f32⟩
  | 6 => ⟨S4x256x64, .f32⟩
  | 7 => ⟨S64x4x256, .f32⟩
  | 8 => ⟨S64x4x128, .f32⟩
  | 9 => ⟨S64x4x128, .f32⟩
  | 10 => ⟨S4x256x64, .f32⟩
  | 11 => ⟨S64x4x256, .f32⟩
  | 12 => ⟨S64x4x256, .f32⟩
  | 13 => ⟨S4x1x1, .f32⟩
  | 14 => ⟨S4x128x256, .f32⟩
  | 15 => ⟨S4x128x256, .f32⟩
  | 16 => ⟨S64x4x128, .f32⟩
  | 17 => ⟨S64x4x128, .f32⟩
  | 18 => ⟨S4x128x256, .f32⟩
  | 19 => ⟨S4x128x256, .f32⟩
  | 20 => ⟨S1x8x4, .f32⟩
  | 21 => ⟨S64x8x4, .f32⟩
  | 22 => ⟨S64x8x4, .f32⟩
  | 23 => ⟨S_, .f32⟩
  | 24 => ⟨S_, .f32⟩
  | 25 => ⟨S64x8x4, .f32⟩
  | 26 => ⟨S8x4x64, .f32⟩
  | 27 => ⟨S8x4x64x1, .f32⟩
  | 28 => ⟨S8x4x1x64, .f32⟩
  | 29 => ⟨S8x4x64x64, .f32⟩
  | 30 => ⟨S8x4x64x64, .f32⟩
  | 31 => ⟨S8x4x64x64, .f32⟩
  | 32 => ⟨S8x4x64x64, .f32⟩
  | 33 => ⟨S8x4x64x64, .f32⟩
  | 34 => ⟨S8x4x64x64, .f32⟩
  | 35 => ⟨S8x64x64, .f32⟩
  | 36 => ⟨S64x8x4x1, .f32⟩
  | 37 => ⟨S64x8x4x64, .f32⟩
  | 38 => ⟨S64x8x4x64, .f32⟩
  | 39 => ⟨S8x1x64x64, .f32⟩
  | 40 => ⟨S8x4x64x64, .f32⟩
  | 41 => ⟨S8x4x64x64, .f32⟩
  | 42 => ⟨S8x4x64x64, .f32⟩
  | 43 => ⟨S64x8x4x64, .f32⟩
  | 44 => ⟨S8x4x64x64, .f32⟩
  | 45 => ⟨S64x8x4x64, .f32⟩
  | 46 => ⟨S64x8x4, .f32⟩
  | 47 => ⟨S64x8x4x1, .f32⟩
  | 48 => ⟨S64x8x4x64, .f32⟩
  | 49 => ⟨S64x8x4x64, .f32⟩
  | 50 => ⟨S64x8x4x64, .f32⟩
  | 51 => ⟨S1x8x4, .f32⟩
  | 52 => ⟨S8x4, .f32⟩
  | 53 => ⟨S8x4, .f32⟩
  | 54 => ⟨S8x4x1x1, .f32⟩
  | 55 => ⟨S8x4x64x128, .f32⟩
  | 56 => ⟨S8x4x64x128, .f32⟩
  | 57 => ⟨S1x8x4, .f32⟩
  | 58 => ⟨S64x8x4, .f32⟩
  | 59 => ⟨S64x8x4, .f32⟩
  | 60 => ⟨S64x8x4, .f32⟩
  | 61 => ⟨S64x8x4x1, .f32⟩
  | 62 => ⟨S64x8x4x64, .f32⟩
  | 63 => ⟨S64x8x4x64, .f32⟩
  | 64 => ⟨S8x4x64x128, .f32⟩
  | 65 => ⟨S8x4x64x128, .f32⟩
  | 66 => ⟨S1x64x4x256, .f32⟩
  | 67 => ⟨S_, .i32⟩
  | 68 => ⟨S_, .i32⟩
  | 69 => ⟨S_, .i32⟩
  | 70 => ⟨S64x64x4x256, .f32⟩
  | 71 => ⟨S1x64x8x4x64, .f32⟩
  | 72 => ⟨S_, .i32⟩
  | 73 => ⟨S_, .i32⟩
  | 74 => ⟨S_, .i32⟩
  | 75 => ⟨S_, .i32⟩
  | 76 => ⟨S64x64x8x4x64, .f32⟩
  | 77 => ⟨S1x4x128x256, .f32⟩
  | 78 => ⟨S_, .i32⟩
  | 79 => ⟨S_, .i32⟩
  | 80 => ⟨S_, .i32⟩
  | 81 => ⟨S64x4x128x256, .f32⟩
  | 82 => ⟨S1x8x4x64x128, .f32⟩
  | 83 => ⟨S_, .i32⟩
  | 84 => ⟨S_, .i32⟩
  | 85 => ⟨S_, .i32⟩
  | 86 => ⟨S_, .i32⟩
  | 87 => ⟨S64x8x4x64x128, .f32⟩
  | 88 => ⟨S_, .i32⟩
  | 89 => ⟨S_, .i32⟩
  | 90 => ⟨S4096x1024, .f32⟩
  | 91 => ⟨S4096x2048, .f32⟩
  | 92 => ⟨S64x512x256, .f32⟩
  | 93 => ⟨S64x128x8x4x64, .f32⟩
  | 94 => ⟨S64x128x2048, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_c : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_v55_3 : Ref sig .tc := ⟨.hbm, 78, rfl⟩
abbrev main_v55_4 : Ref sig .tc := ⟨.hbm, 79, rfl⟩
abbrev main_v55_5 : Ref sig .tc := ⟨.hbm, 80, rfl⟩
abbrev main_v55_6 : Ref sig .tc := ⟨.hbm, 81, rfl⟩
abbrev main_v55_7 : Ref sig .tc := ⟨.hbm, 82, rfl⟩
abbrev main_v55_8 : Ref sig .tc := ⟨.hbm, 83, rfl⟩
abbrev main_v55_9 : Ref sig .tc := ⟨.hbm, 84, rfl⟩
abbrev main_v55_10 : Ref sig .tc := ⟨.hbm, 85, rfl⟩
abbrev main_v55_11 : Ref sig .tc := ⟨.hbm, 86, rfl⟩
abbrev main_v55_12 : Ref sig .tc := ⟨.hbm, 87, rfl⟩
abbrev main_v55_13 : Ref sig .tc := ⟨.hbm, 88, rfl⟩
abbrev main_v55_14 : Ref sig .tc := ⟨.hbm, 89, rfl⟩
abbrev main_v55_15 : Ref sig .tc := ⟨.hbm, 90, rfl⟩
abbrev main_v55_16 : Ref sig .tc := ⟨.hbm, 91, rfl⟩
abbrev main_v55_17 : Ref sig .tc := ⟨.hbm, 92, rfl⟩
abbrev main_v55_18 : Ref sig .tc := ⟨.hbm, 93, rfl⟩
abbrev main_while0c_c_28 : Ref sig .tc := ⟨.hbm, 94, rfl⟩
abbrev main_while0c_v61 : Ref sig .tc := ⟨.hbm, 95, rfl⟩
abbrev main_while0b_call0_c : Ref sig .tc := ⟨.hbm, 96, rfl⟩
abbrev main_while0b_call0_c_0 : Ref sig .tc := ⟨.hbm, 97, rfl⟩
abbrev main_while0b_call0_c_1 : Ref sig .tc := ⟨.hbm, 98, rfl⟩
abbrev main_while0b_call0_v0 : Ref sig .tc := ⟨.hbm, 99, rfl⟩
abbrev main_while0b_v61 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_call1_v0 : Ref sig .tc := ⟨.hbm, 104, rfl⟩
abbrev main_while0b_v62 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_c_1 : Ref sig .tc := ⟨.hbm, 108, rfl⟩
abbrev main_while0b_call2_v0 : Ref sig .tc := ⟨.hbm, 109, rfl⟩
abbrev main_while0b_v63 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_c_2 : Ref sig .tc := ⟨.hbm, 114, rfl⟩
abbrev main_while0b_call3_v0 : Ref sig .tc := ⟨.hbm, 115, rfl⟩
abbrev main_while0b_v64 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_v0 : Ref sig .tc := ⟨.hbm, 120, rfl⟩
abbrev main_while0b_v65 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_c_1 : Ref sig .tc := ⟨.hbm, 124, rfl⟩
abbrev main_while0b_call5_v0 : Ref sig .tc := ⟨.hbm, 125, rfl⟩
abbrev main_while0b_v66 : Ref sig .tc := ⟨.hbm, 126, rfl⟩
abbrev main_while0b_call6_c : Ref sig .tc := ⟨.hbm, 127, rfl⟩
abbrev main_while0b_call6_c_0 : Ref sig .tc := ⟨.hbm, 128, rfl⟩
abbrev main_while0b_call6_c_1 : Ref sig .tc := ⟨.hbm, 129, rfl⟩
abbrev main_while0b_call6_v0 : Ref sig .tc := ⟨.hbm, 130, rfl⟩
abbrev main_while0b_v67 : Ref sig .tc := ⟨.hbm, 131, rfl⟩
abbrev main_while0b_v68 : Ref sig .tc := ⟨.hbm, 132, rfl⟩
abbrev main_while0b_v69 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_v78 : Ref sig .tc := ⟨.hbm, 142, rfl⟩
abbrev main_while0b_v79 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_v83 : Ref sig .tc := ⟨.hbm, 147, rfl⟩
abbrev main_while0b_v84 : Ref sig .tc := ⟨.hbm, 148, rfl⟩
abbrev main_while0b_v85 : Ref sig .tc := ⟨.hbm, 149, rfl⟩
abbrev main_while0b_v86 : Ref sig .tc := ⟨.hbm, 150, rfl⟩
abbrev main_while0b_call7_call0_cst : Ref sig .tc := ⟨.hbm, 151, rfl⟩
abbrev main_while0b_call7_call0_v0 : Ref sig .tc := ⟨.hbm, 152, rfl⟩
abbrev main_while0b_v87 : Ref sig .tc := ⟨.hbm, 153, rfl⟩
abbrev main_while0b_v88 : Ref sig .tc := ⟨.hbm, 154, rfl⟩
abbrev main_while0b_v89 : Ref sig .tc := ⟨.hbm, 155, rfl⟩
abbrev main_while0b_v90 : Ref sig .tc := ⟨.hbm, 156, rfl⟩
abbrev main_while0b_v91 : Ref sig .tc := ⟨.hbm, 157, rfl⟩
abbrev main_while0b_v92 : Ref sig .tc := ⟨.hbm, 158, rfl⟩
abbrev main_while0b_v93 : Ref sig .tc := ⟨.hbm, 159, rfl⟩
abbrev main_while0b_v94 : Ref sig .tc := ⟨.hbm, 160, rfl⟩
abbrev main_while0b_v95 : Ref sig .tc := ⟨.hbm, 161, rfl⟩
abbrev main_while0b_v96 : Ref sig .tc := ⟨.hbm, 162, rfl⟩
abbrev main_while0b_v97 : Ref sig .tc := ⟨.hbm, 163, rfl⟩
abbrev main_while0b_v98 : Ref sig .tc := ⟨.hbm, 164, rfl⟩
abbrev main_while0b_v99 : Ref sig .tc := ⟨.hbm, 165, rfl⟩
abbrev main_while0b_v100 : Ref sig .tc := ⟨.hbm, 166, rfl⟩
abbrev main_while0b_v101 : Ref sig .tc := ⟨.hbm, 167, rfl⟩
abbrev main_while0b_v102 : Ref sig .tc := ⟨.hbm, 168, rfl⟩
abbrev main_while0b_v103 : Ref sig .tc := ⟨.hbm, 169, rfl⟩
abbrev main_while0b_v104 : Ref sig .tc := ⟨.hbm, 170, rfl⟩
abbrev main_while0b_v105 : Ref sig .tc := ⟨.hbm, 171, rfl⟩
abbrev main_while0b_v106 : Ref sig .tc := ⟨.hbm, 172, rfl⟩
abbrev main_while0b_v107 : Ref sig .tc := ⟨.hbm, 173, rfl⟩
abbrev main_while0b_v108 : Ref sig .tc := ⟨.hbm, 174, rfl⟩
abbrev main_while0b_v109 : Ref sig .tc := ⟨.hbm, 175, rfl⟩
abbrev main_while0b_v110 : Ref sig .tc := ⟨.hbm, 176, rfl⟩
abbrev main_while0b_v111 : Ref sig .tc := ⟨.hbm, 177, rfl⟩
abbrev main_while0b_v112 : Ref sig .tc := ⟨.hbm, 178, rfl⟩
abbrev main_while0b_v113 : Ref sig .tc := ⟨.hbm, 179, rfl⟩
abbrev main_while0b_v114 : Ref sig .tc := ⟨.hbm, 180, rfl⟩
abbrev main_while0b_v115 : Ref sig .tc := ⟨.hbm, 181, rfl⟩
abbrev main_while0b_v116 : Ref sig .tc := ⟨.hbm, 182, rfl⟩
abbrev main_while0b_v117 : Ref sig .tc := ⟨.hbm, 183, rfl⟩
abbrev main_while0b_v118 : Ref sig .tc := ⟨.hbm, 184, rfl⟩
abbrev main_while0b_v119 : Ref sig .tc := ⟨.hbm, 185, rfl⟩
abbrev main_while0b_v120 : Ref sig .tc := ⟨.hbm, 186, rfl⟩
abbrev main_while0b_v121 : Ref sig .tc := ⟨.hbm, 187, rfl⟩
abbrev main_while0b_v122 : Ref sig .tc := ⟨.hbm, 188, rfl⟩
abbrev main_while0b_v123 : Ref sig .tc := ⟨.hbm, 189, rfl⟩
abbrev main_while0b_v124 : Ref sig .tc := ⟨.hbm, 190, rfl⟩
abbrev main_while0b_v125 : Ref sig .tc := ⟨.hbm, 191, rfl⟩
abbrev main_while0b_v126 : Ref sig .tc := ⟨.hbm, 192, rfl⟩
abbrev main_while0b_v127 : Ref sig .tc := ⟨.hbm, 193, rfl⟩
abbrev main_while0b_call8_v0 : Ref sig .tc := ⟨.hbm, 194, rfl⟩
abbrev main_while0b_call8_c : Ref sig .tc := ⟨.hbm, 195, rfl⟩
abbrev main_while0b_call8_c_0 : Ref sig .tc := ⟨.hbm, 196, rfl⟩
abbrev main_while0b_call8_c_1 : Ref sig .tc := ⟨.hbm, 197, rfl⟩
abbrev main_while0b_v128 : Ref sig .tc := ⟨.hbm, 198, rfl⟩
abbrev main_while0b_call9_v0 : Ref sig .tc := ⟨.hbm, 199, rfl⟩
abbrev main_while0b_call9_c : Ref sig .tc := ⟨.hbm, 200, rfl⟩
abbrev main_while0b_call9_c_0 : Ref sig .tc := ⟨.hbm, 201, rfl⟩
abbrev main_while0b_call9_c_1 : Ref sig .tc := ⟨.hbm, 202, rfl⟩
abbrev main_while0b_call9_c_2 : Ref sig .tc := ⟨.hbm, 203, rfl⟩
abbrev main_while0b_v129 : Ref sig .tc := ⟨.hbm, 204, rfl⟩
abbrev main_while0b_call10_v0 : Ref sig .tc := ⟨.hbm, 205, rfl⟩
abbrev main_while0b_call10_c : Ref sig .tc := ⟨.hbm, 206, rfl⟩
abbrev main_while0b_call10_c_0 : Ref sig .tc := ⟨.hbm, 207, rfl⟩
abbrev main_while0b_call10_c_1 : Ref sig .tc := ⟨.hbm, 208, rfl⟩
abbrev main_while0b_v130 : Ref sig .tc := ⟨.hbm, 209, rfl⟩
abbrev main_while0b_call11_v0 : Ref sig .tc := ⟨.hbm, 210, rfl⟩
abbrev main_while0b_call11_c : Ref sig .tc := ⟨.hbm, 211, rfl⟩
abbrev main_while0b_call11_c_0 : Ref sig .tc := ⟨.hbm, 212, rfl⟩
abbrev main_while0b_call11_c_1 : Ref sig .tc := ⟨.hbm, 213, rfl⟩
abbrev main_while0b_call11_c_2 : Ref sig .tc := ⟨.hbm, 214, rfl⟩
abbrev main_while0b_v131 : Ref sig .tc := ⟨.hbm, 215, rfl⟩
abbrev main_while0b_c_28 : Ref sig .tc := ⟨.hbm, 216, rfl⟩
abbrev main_while0b_v132 : Ref sig .tc := ⟨.hbm, 217, rfl⟩
abbrev main_v56 : Ref sig .tc := ⟨.hbm, 218, rfl⟩
abbrev main_v57 : Ref sig .tc := ⟨.hbm, 219, rfl⟩
abbrev main_v58 : Ref sig .tc := ⟨.hbm, 220, rfl⟩
abbrev main_v59 : Ref sig .tc := ⟨.hbm, 221, rfl⟩
abbrev main_v60 : Ref sig .tc := ⟨.hbm, 222, rfl⟩

abbrev nD : Nat := 1
abbrev τ : Topo := Topo.v7x

variable {F : FTy → Type} [FloatOps F]

abbrev main_while0_count : Scf.Loop 32 := ⟨0#32, 64#32, 1#32⟩
-- ==== KernelPfwd.lean ====
abbrev S4096x1024 : Shape := ⟨2, ![4096, 1024]⟩
abbrev S4096x2048 : Shape := ⟨2, ![4096, 2048]⟩
abbrev S2048 : Shape := ⟨1, ![2048]⟩
abbrev S32 : Shape := ⟨1, ![32]⟩
abbrev S1024x1024 : Shape := ⟨2, ![1024, 1024]⟩
abbrev S2048x1024 : Shape := ⟨2, ![2048, 1024]⟩
abbrev S_ : Shape := ⟨0, ![]⟩
abbrev S4096x4096 : Shape := ⟨2, ![4096, 4096]⟩
abbrev S4096x6144 : Shape := ⟨2, ![4096, 6144]⟩
abbrev S4096x12288 : Shape := ⟨2, ![4096, 12288]⟩
abbrev S32x64 : Shape := ⟨2, ![32, 64]⟩
abbrev S1x2048 : Shape := ⟨2, ![1, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 30
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048, .f32⟩
  | .hbm, ⟨8, _⟩ => ⟨S32, .f32⟩
  | .hbm, ⟨9, _⟩ => ⟨S2048, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S_, .f32⟩
  | .hbm, ⟨14, _⟩ => ⟨S4096x2048, .f32⟩
  | .hbm, ⟨15, _⟩ => ⟨S4096x4096, .f32⟩
  | .hbm, ⟨16, _⟩ => ⟨S_, .f32⟩
  | .hbm, ⟨17, _⟩ => ⟨S4096x6144, .f32⟩
  | .hbm, ⟨18, _⟩ => ⟨S_, .f32⟩
  | .hbm, ⟨19, _⟩ => ⟨S4096x1024, .f32⟩
  | .hbm, ⟨20, _⟩ => ⟨S4096x12288, .f32⟩
  | .hbm, ⟨21, _⟩ => ⟨S32x64, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1024x1024, .bf16⟩
  | .hbm, ⟨27, _⟩ => ⟨S2048x1024, .bf16⟩
  | .hbm, ⟨28, _⟩ => ⟨S1024x1024, .bf16⟩
  | .hbm, ⟨29, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1024x1024, .bf16⟩
  | .local _ .vmem, ⟨18, _⟩ => ⟨S2048x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferencePfwdIdeal.lean ====
abbrev S4096x1024 : Shape := ⟨2, ![4096, 1024]⟩
abbrev S4096x2048 : Shape := ⟨2, ![4096, 2048]⟩
abbrev S2048 : Shape := ⟨1, ![2048]⟩
abbrev S32 : Shape := ⟨1, ![32]⟩
abbrev S1024x1024 : Shape := ⟨2, ![1024, 1024]⟩
abbrev S2048x1024 : Shape := ⟨2, ![2048, 1024]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S4096x8x4x64 : Shape := ⟨4, ![4096, 8, 4, 64]⟩
abbrev S8x4x1 : Shape := ⟨3, ![8, 4, 1]⟩
abbrev S1x8x4x1 : Shape := ⟨4, ![1, 8, 4, 1]⟩
abbrev S4096x8x256 : Shape := ⟨3, ![4096, 8, 256]⟩
abbrev S4096x8 : Shape := ⟨2, ![4096, 8]⟩
abbrev S4096x8x1 : Shape := ⟨3, ![4096, 8, 1]⟩
abbrev S1x2048 : Shape := ⟨2, ![1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048, .f32⟩
  | .hbm, ⟨8, _⟩ => ⟨S32, .f32⟩
  | .hbm, ⟨9, _⟩ => ⟨S2048, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S4096x4x256, .f32⟩
  | .hbm, ⟨14, _⟩ => ⟨S4096x4x256, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S4096x4x256, .f32⟩
  | .hbm, ⟨26, _⟩ => ⟨S4096x4x256, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x8x4x64, .f32⟩
  | .hbm, ⟨39, _⟩ => ⟨S4096x8x4x64, .f32⟩
  | .hbm, ⟨40, _⟩ => ⟨S8x4x1, .f32⟩
  | .hbm, ⟨41, _⟩ => ⟨S1x8x4x1, .f32⟩
  | .hbm, ⟨42, _⟩ => ⟨S4096x8x4x64, .f32⟩
  | .hbm, ⟨43, _⟩ => ⟨S4096x8x4x64, .f32⟩
  | .hbm, ⟨44, _⟩ => ⟨S4096x8x4x64, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x8x256, .f32⟩
  | .hbm, ⟨57, _⟩ => ⟨S4096x8x256, .f32⟩
  | .hbm, ⟨58, _⟩ => ⟨S_, .f32⟩
  | .hbm, ⟨59, _⟩ => ⟨S4096x8, .f32⟩
  | .hbm, ⟨60, _⟩ => ⟨S4096x8x1, .f32⟩
  | .hbm, ⟨61, _⟩ => ⟨S_, .f32⟩
  | .hbm, ⟨62, _⟩ => ⟨S4096x8x1, .f32⟩
  | .hbm, ⟨63, _⟩ => ⟨S4096x8x1, .f32⟩
  | .hbm, ⟨64, _⟩ => ⟨S_, .f32⟩
  | .hbm, ⟨65, _⟩ => ⟨S4096x8x1, .f32⟩
  | .hbm, ⟨66, _⟩ => ⟨S4096x8x1, .f32⟩
  | .hbm, ⟨67, _⟩ => ⟨S4096x8x1, .f32⟩
  | .hbm, ⟨68, _⟩ => ⟨S4096x8x256, .f32⟩
  | .hbm, ⟨69, _⟩ => ⟨S4096x8x256, .f32⟩
  | .hbm, ⟨70, _⟩ => ⟨S4096x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S1x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_2 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_5 : Ref sig .tc := ⟨.hbm, 79, rfl⟩
abbrev main_v44 : Ref sig .tc := ⟨.hbm, 80, rfl⟩
abbrev main_v45 : Ref sig .tc := ⟨.hbm, 81, rfl⟩
abbrev main_cst_6 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩

abbrev nD : Nat := 1
abbrev τ : Topo := Topo.v7x

variable {F : FTy → Type} [FloatOps F]
-- ==== KernelMfwd.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S1x1024, .f32⟩
  | .hbm, ⟨8, _⟩ => ⟨S4096x1024, .bf16⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceMfwdIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== KernelQfwd.lean ====
abbrev S4096x4096 : Shape := ⟨2, ![4096, 4096]⟩
abbrev S4096x512 : Shape := ⟨2, ![4096, 512]⟩
abbrev S4096x32 : Shape := ⟨2, ![4096, 32]⟩
abbrev S4x4096 : Shape := ⟨2, ![4, 4096]⟩
abbrev S4096 : Shape := ⟨1, ![4096]⟩
abbrev S32 : Shape := ⟨1, ![32]⟩
abbrev S4096x64 : Shape := ⟨2, ![4096, 64]⟩
abbrev S_ : Shape := ⟨0, ![]⟩
abbrev S4096x7136 : Shape := ⟨2, ![4096, 7136]⟩
abbrev S4096x12288 : Shape := ⟨2, ![4096, 12288]⟩
abbrev S4096x128 : Shape := ⟨2, ![4096, 128]⟩
abbrev S128 : Shape := ⟨1, ![128]⟩
abbrev S1x128 : Shape := ⟨2, ![1, 128]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S1x4096 : Shape := ⟨2, ![1, 4096]⟩
abbrev S4096x2048 : Shape := ⟨2, ![4096, 2048]⟩
abbrev S256x4096 : Shape := ⟨2, ![256, 4096]⟩
abbrev S8x4096 : Shape := ⟨2, ![8, 4096]⟩
abbrev S256x512 : Shape := ⟨2, ![256, 512]⟩
abbrev S256x1024 : Shape := ⟨2, ![256, 1024]⟩
abbrev S256x128 : Shape := ⟨2, ![256, 128]⟩
abbrev S256x2048 : Shape := ⟨2, ![256, 2048]⟩
abbrev S8x128 : Shape := ⟨2, ![8, 128]⟩
abbrev S264x128 : Shape := ⟨2, ![264, 128]⟩

abbrev nBuf : Space → Nat
  | .hbm => 50
  | .vmem => 26
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .f32⟩
  | .hbm, ⟨3, _⟩ => ⟨S4096x32, .f32⟩
  | .hbm, ⟨4, _⟩ => ⟨S4x4096, .f32⟩
  | .hbm, ⟨5, _⟩ => ⟨S4096, .f32⟩
  | .hbm, ⟨6, _⟩ => ⟨S32, .f32⟩
  | .hbm, ⟨7, _⟩ => ⟨S4096x64, .f32⟩
  | .hbm, ⟨8, _⟩ => ⟨S4096x64, .f32⟩
  | .hbm, ⟨9, _⟩ => ⟨S_, .f32⟩
  | .hbm, ⟨10, _⟩ => ⟨S4096x7136, .f32⟩
  | .hbm, ⟨11, _⟩ => ⟨S4096x12288, .f32⟩
  | .hbm, ⟨12, _⟩ => ⟨S4096x128, .f32⟩
  | .hbm, ⟨13, _⟩ => ⟨S4096x64, .f32⟩
  | .hbm, ⟨14, _⟩ => ⟨S4096x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S128, .i32⟩
  | .hbm, ⟨20, _⟩ => ⟨S128x1, .i32⟩
  | .hbm, ⟨21, _⟩ => ⟨S2048, .i32⟩
  | .hbm, ⟨22, _⟩ => ⟨S1x2048, .i32⟩
  | .hbm, ⟨23, _⟩ => ⟨S_, .i32⟩
  | .hbm, ⟨24, _⟩ => ⟨S_, .i32⟩
  | .hbm, ⟨25, _⟩ => ⟨S1x2048, .i32⟩
  | .hbm, ⟨26, _⟩ => ⟨S1x2048, .i32⟩
  | .hbm, ⟨27, _⟩ => ⟨S1x2048, .i32⟩
  | .hbm, ⟨28, _⟩ => ⟨S_, .i32⟩
  | .hbm, ⟨29, _⟩ => ⟨S1x2048, .i32⟩
  | .hbm, ⟨30, _⟩ => ⟨S1x2048, .i1⟩
  | .hbm, ⟨31, _⟩ => ⟨S1x2048, .i32⟩
  | .hbm, ⟨32, _⟩ => ⟨S1x2048, .i32⟩
  | .hbm, ⟨33, _⟩ => ⟨S_, .i32⟩
  | .hbm, ⟨34, _⟩ => ⟨S1x2048, .i32⟩
  | .hbm, ⟨35, _⟩ => ⟨S1x2048, .i1⟩
  | .hbm, ⟨36, _⟩ => ⟨S1x2048, .i1⟩
  | .hbm, ⟨37, _⟩ => ⟨S_, .i32⟩
  | .hbm, ⟨38, _⟩ => ⟨S1x2048, .i32⟩
  | .hbm, ⟨39, _⟩ => ⟨S1x2048, .i32⟩
  | .hbm, ⟨40, _⟩ => ⟨S1x2048, .i32⟩
  | .hbm, ⟨41, _⟩ => ⟨S128x2048, .i32⟩
  | .hbm, ⟨42, _⟩ => ⟨S128x2048, .i32⟩
  | .hbm, ⟨43, _⟩ => ⟨S128x2048, .i1⟩
  | .hbm, ⟨44, _⟩ => ⟨S128x2048, .bf16⟩
  | .hbm, ⟨45, _⟩ => ⟨S1x4096, .f32⟩
  | .hbm, ⟨46, _⟩ => ⟨S4096x512, .f32⟩
  | .hbm, ⟨47, _⟩ => ⟨S4096x512, .f32⟩
  | .hbm, ⟨48, _⟩ => ⟨S4096x4096, .f32⟩
  | .hbm, ⟨49, _⟩ => ⟨S4096x2048, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S4x4096, .f32⟩
  | .local _ .vmem, ⟨15, _⟩ => ⟨S1x4096, .f32⟩
  | .local _ .vmem, ⟨16, _⟩ => ⟨S1x128, .f32⟩
  | .local _ .vmem, ⟨17, _⟩ => ⟨S128x2048, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x4096, .f32⟩
  | .local _ .vmem, ⟨23, _⟩ => ⟨S256x4096, .f32⟩
  | .local _ .vmem, ⟨24, _⟩ => ⟨S256x2048, .f32⟩
  | .local _ .vmem, ⟨25, _⟩ => ⟨S256x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17_0 : Ref sig .tc := ⟨.hbm, 46, rfl⟩
abbrev main_v17_1 : Ref sig .tc := ⟨.hbm, 47, rfl⟩
abbrev main_v17_2 : Ref sig .tc := ⟨.hbm, 48, rfl⟩
abbrev main_v17_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceQfwdIdeal.lean ====
abbrev S4096x4096 : Shape := ⟨2, ![4096, 4096]⟩
abbrev S4096x512 : Shape := ⟨2, ![4096, 512]⟩
abbrev S4096x32 : Shape := ⟨2, ![4096, 32]⟩
abbrev S4x4096 : Shape := ⟨2, ![4, 4096]⟩
abbrev S4096 : Shape := ⟨1, ![4096]⟩
abbrev S32 : Shape := ⟨1, ![32]⟩
abbrev S4096x64 : Shape := ⟨2, ![4096, 64]⟩
abbrev S4096x1x64 : Shape := ⟨3, ![4096, 1, 64]⟩
abbrev S4096x4x128 : Shape := ⟨3, ![4096, 4, 128]⟩
abbrev S4096x4x64 : Shape := ⟨3, ![4096, 4, 64]⟩
abbrev S_ : Shape := ⟨0, ![]⟩
abbrev S3x4096 : Shape := ⟨2, ![3, 4096]⟩
abbrev S4099x4096 : Shape := ⟨2, ![4099, 4096]⟩
abbrev S1x4096 : Shape := ⟨2, ![1, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .f32⟩
  | .hbm, ⟨3, _⟩ => ⟨S4096x32, .f32⟩
  | .hbm, ⟨4, _⟩ => ⟨S4x4096, .f32⟩
  | .hbm, ⟨5, _⟩ => ⟨S4096, .f32⟩
  | .hbm, ⟨6, _⟩ => ⟨S32, .f32⟩
  | .hbm, ⟨7, _⟩ => ⟨S4096x64, .f32⟩
  | .hbm, ⟨8, _⟩ => ⟨S4096x64, .f32⟩
  | .hbm, ⟨9, _⟩ => ⟨S4096x1x64, .f32⟩
  | .hbm, ⟨10, _⟩ => ⟨S4096x1x64, .f32⟩
  | .hbm, ⟨11, _⟩ => ⟨S4096x4x128, .f32⟩
  | .hbm, ⟨12, _⟩ => ⟨S4096x4x64, .f32⟩
  | .hbm, ⟨13, _⟩ => ⟨S4096x4x64, .f32⟩
  | .hbm, ⟨14, _⟩ => ⟨S4096x4x64, .f32⟩
  | .hbm, ⟨15, _⟩ => ⟨S4096x4x64, .f32⟩
  | .hbm, ⟨16, _⟩ => ⟨S4096x4x64, .f32⟩
  | .hbm, ⟨17, _⟩ => ⟨S4096x4x64, .f32⟩
  | .hbm, ⟨18, _⟩ => ⟨S4096x4x64, .f32⟩
  | .hbm, ⟨19, _⟩ => ⟨S4096x4x64, .f32⟩
  | .hbm, ⟨20, _⟩ => ⟨S4096x4x64, .f32⟩
  | .hbm, ⟨21, _⟩ => ⟨S4096x4x64, .f32⟩
  | .hbm, ⟨22, _⟩ => ⟨S4096x4x64, .f32⟩
  | .hbm, ⟨23, _⟩ => ⟨S4096x4x64, .f32⟩
  | .hbm, ⟨24, _⟩ => ⟨S4096x4x128, .f32⟩
  | .hbm, ⟨25, _⟩ => ⟨S4096x4x128, .f32⟩
  | .hbm, ⟨26, _⟩ => ⟨S4096x4x64, .f32⟩
  | .hbm, ⟨27, _⟩ => ⟨S4096x4x64, .f32⟩
  | .hbm, ⟨28, _⟩ => ⟨S4096x4x64, .f32⟩
  | .hbm, ⟨29, _⟩ => ⟨S4096x4x64, .f32⟩
  | .hbm, ⟨30, _⟩ => ⟨S4096x4x64, .f32⟩
  | .hbm, ⟨31, _⟩ => ⟨S4096x4x64, .f32⟩
  | .hbm, ⟨32, _⟩ => ⟨S4096x4x64, .f32⟩
  | .hbm, ⟨33, _⟩ => ⟨S4096x4x64, .f32⟩
  | .hbm, ⟨34, _⟩ => ⟨S4096x4x64, .f32⟩
  | .hbm, ⟨35, _⟩ => ⟨S4096x4x64, .f32⟩
  | .hbm, ⟨36, _⟩ => ⟨S4096x4x64, .f32⟩
  | .hbm, ⟨37, _⟩ => ⟨S4096x4x64, .f32⟩
  | .hbm, ⟨38, _⟩ => ⟨S4096x4x128, .f32⟩
  | .hbm, ⟨39, _⟩ => ⟨S_, .f32⟩
  | .hbm, ⟨40, _⟩ => ⟨S4096x4x128, .f32⟩
  | .hbm, ⟨41, _⟩ => ⟨S4096x4x128, .f32⟩
  | .hbm, ⟨42, _⟩ => ⟨S_, .f32⟩
  | .hbm, ⟨43, _⟩ => ⟨S3x4096, .f32⟩
  | .hbm, ⟨44, _⟩ => ⟨S4099x4096, .f32⟩
  | .hbm, ⟨45, _⟩ => ⟨S4096x4096, .f32⟩
  | .hbm, ⟨46, _⟩ => ⟨S1x4096, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S1x4096, .f32⟩
  | .hbm, ⟨56, _⟩ => ⟨S4096, .f32⟩
  | .hbm, ⟨57, _⟩ => ⟨S1x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S1x4096, .f32⟩
  | .hbm, ⟨63, _⟩ => ⟨S4096, .f32⟩
  | .hbm, ⟨64, _⟩ => ⟨S1x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S1x4096, .f32⟩
  | .hbm, ⟨70, _⟩ => ⟨S4096, .f32⟩
  | .hbm, ⟨71, _⟩ => ⟨S1x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S1x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S4096x512, .f32⟩
  | .hbm, ⟨88, _⟩ => ⟨S4096x512, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== KernelMmtn.lean ====
abbrev S4096x12288 : Shape := ⟨2, ![4096, 12288]⟩
abbrev S4096x1024 : Shape := ⟨2, ![4096, 1024]⟩
abbrev S12288x1024 : Shape := ⟨2, ![12288, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S12288x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmtnIdeal.lean ====
abbrev S4096x12288 : Shape := ⟨2, ![4096, 12288]⟩
abbrev S4096x1024 : Shape := ⟨2, ![4096, 1024]⟩
abbrev S12288x4096 : Shape := ⟨2, ![12288, 4096]⟩
abbrev S12288x1024 : Shape := ⟨2, ![12288, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S4096x12288, .f32⟩
  | .hbm, ⟨3, _⟩ => ⟨S12288x4096, .f32⟩
  | .hbm, ⟨4, _⟩ => ⟨S4096x1024, .f32⟩
  | .hbm, ⟨5, _⟩ => ⟨S12288x1024, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelAdam.lean ====
abbrev S4x2824x1024 : Shape := ⟨3, ![4, 2824, 1024]⟩
abbrev S1x2824x128 : Shape := ⟨3, ![1, 2824, 128]⟩

abbrev nBuf : Space → Nat
  | .hbm => 7
  | .vmem => 14
  | .smem => 0
  | _ => 0

abbrev bufTy : (tb : Table) → Fin (tcTables nBuf tb) → BufTy
  | .hbm, ⟨0, _⟩ => ⟨S4x2824x1024, .f32⟩
  | .hbm, ⟨1, _⟩ => ⟨S4x2824x1024, .f32⟩
  | .hbm, ⟨2, _⟩ => ⟨S4x2824x1024, .f32⟩
  | .hbm, ⟨3, _⟩ => ⟨S4x2824x1024, .f32⟩
  | .hbm, ⟨4, _⟩ => ⟨S4x2824x1024, .f32⟩
  | .hbm, ⟨5, _⟩ => ⟨S4x2824x1024, .f32⟩
  | .hbm, ⟨6, _⟩ => ⟨S4x2824x1024, .f32⟩
  | .local _ .vmem, ⟨0, _⟩ => ⟨S1x2824x128, .f32⟩
  | .local _ .vmem, ⟨1, _⟩ => ⟨S1x2824x128, .f32⟩
  | .local _ .vmem, ⟨2, _⟩ => ⟨S1x2824x128, .f32⟩
  | .local _ .vmem, ⟨3, _⟩ => ⟨S1x2824x128, .f32⟩
  | .local _ .vmem, ⟨4, _⟩ => ⟨S1x2824x128, .f32⟩
  | .local _ .vmem, ⟨5, _⟩ => ⟨S1x2824x128, .f32⟩
  | .local _ .vmem, ⟨6, _⟩ => ⟨S1x2824x128, .f32⟩
  | .local _ .vmem, ⟨7, _⟩ => ⟨S1x2824x128, .f32⟩
  | .local _ .vmem, ⟨8, _⟩ => ⟨S1x2824x128, .f32⟩
  | .local _ .vmem, ⟨9, _⟩ => ⟨S1x2824x128, .f32⟩
  | .local _ .vmem, ⟨10, _⟩ => ⟨S1x2824x128, .f32⟩
  | .local _ .vmem, ⟨11, _⟩ => ⟨S1x2824x128, .f32⟩
  | .local _ .vmem, ⟨12, _⟩ => ⟨S1x2824x128, .f32⟩
  | .local _ .vmem, ⟨13, _⟩ => ⟨S1x2824x128, .f32⟩
  | _, _ => ⟨S4x2824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

abbrev stage0_0 : Fin 2 → Memref sig .tc .vmem S1x2824x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2824x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2824x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2824x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2824x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2824x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2824x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamIdeal.lean ====
abbrev S4x2824x1024 : Shape := ⟨3, ![4, 2824, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2824x1024, .f32⟩
  | .hbm, ⟨1, _⟩ => ⟨S4x2824x1024, .f32⟩
  | .hbm, ⟨2, _⟩ => ⟨S4x2824x1024, .f32⟩
  | .hbm, ⟨3, _⟩ => ⟨S4x2824x1024, .f32⟩
  | .hbm, ⟨4, _⟩ => ⟨S_, .f32⟩
  | .hbm, ⟨5, _⟩ => ⟨S4x2824x1024, .f32⟩
  | .hbm, ⟨6, _⟩ => ⟨S4x2824x1024, .f32⟩
  | .hbm, ⟨7, _⟩ => ⟨S_, .f32⟩
  | .hbm, ⟨8, _⟩ => ⟨S4x2824x1024, .f32⟩
  | .hbm, ⟨9, _⟩ => ⟨S4x2824x1024, .f32⟩
  | .hbm, ⟨10, _⟩ => ⟨S4x2824x1024, .f32⟩
  | .hbm, ⟨11, _⟩ => ⟨S_, .f32⟩
  | .hbm, ⟨12, _⟩ => ⟨S4x2824x1024, .f32⟩
  | .hbm, ⟨13, _⟩ => ⟨S4x2824x1024, .f32⟩
  | .hbm, ⟨14, _⟩ => ⟨S4x2824x1024, .f32⟩
  | .hbm, ⟨15, _⟩ => ⟨S_, .f32⟩
  | .hbm, ⟨16, _⟩ => ⟨S4x2824x1024, .f32⟩
  | .hbm, ⟨17, _⟩ => ⟨S4x2824x1024, .f32⟩
  | .hbm, ⟨18, _⟩ => ⟨S4x2824x1024, .f32⟩
  | .hbm, ⟨19, _⟩ => ⟨S_, .f32⟩
  | .hbm, ⟨20, _⟩ => ⟨S4x2824x1024, .f32⟩
  | .hbm, ⟨21, _⟩ => ⟨S4x2824x1024, .f32⟩
  | .hbm, ⟨22, _⟩ => ⟨S_, .f32⟩
  | .hbm, ⟨23, _⟩ => ⟨S4x2824x1024, .f32⟩
  | .hbm, ⟨24, _⟩ => ⟨S4x2824x1024, .f32⟩
  | .hbm, ⟨25, _⟩ => ⟨S4x2824x1024, .f32⟩
  | .hbm, ⟨26, _⟩ => ⟨S_, .f32⟩
  | .hbm, ⟨27, _⟩ => ⟨S4x2824x1024, .f32⟩
  | .hbm, ⟨28, _⟩ => ⟨S4x2824x1024, .f32⟩
  | .hbm, ⟨29, _⟩ => ⟨S4x2824x1024, .f32⟩
  | .hbm, ⟨30, _⟩ => ⟨S_, .f32⟩
  | .hbm, ⟨31, _⟩ => ⟨S4x2824x1024, .f32⟩
  | .hbm, ⟨32, _⟩ => ⟨S4x2824x1024, .f32⟩
  | .hbm, ⟨33, _⟩ => ⟨S4x2824x1024, .f32⟩
  | .hbm, ⟨34, _⟩ => ⟨S_, .f32⟩
  | .hbm, ⟨35, _⟩ => ⟨S4x2824x1024, .f32⟩
  | .hbm, ⟨36, _⟩ => ⟨S4x2824x1024, .f32⟩
  | _, _ => ⟨S4x2824x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Adam.lean ====
/-
  The optimiser's step: the change of the weights and the two moments.
-/
module

public import proofs.«01_k».proof.Defs
public import proofs.«01_k».proof.Proof.Gen.KernelAdam
public import proofs.«01_k».proof.Proof.Gen.KernelAdam.Frame
public import proofs.«01_k».proof.Proof.Gen.KernelAdamIdeal
public import proofs.«01_k».proof.Proof.Gen.KernelAdamIdeal.Frame
public import proofs.«01_k».proof.Proof.Gen.KernelAdamIdeal.Value
public import proofs.«01_k».proof.Proof.Gen.ReferenceAdamIdeal
public import proofs.«01_k».proof.Proof.Gen.ReferenceAdamIdeal.Run
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Proof.Adam

theorem frame_k : Cert.quiescent_KernelAdam := fun m ρ _ => Cert.KernelAdam.Gen.frame m ρ
theorem frame_ki : Cert.quiescent_KernelAdamIdeal := fun m ρ _ => Cert.KernelAdamIdeal.Gen.frame m ρ
theorem frame_ri : Cert.quiescent_ReferenceAdamIdeal := fun m ρ _ =>
  (θ_run Cert.ReferenceAdamIdeal.defs _ _).mono (fun r h => ⟨fun c => (h c).2.2.2, sem_eq_zero_of_no_sems (by decide) r.2⟩)
    (Cert.ReferenceAdamIdeal.Value.run (F := Ideal) m ρ)

open Cert.KernelAdamIdeal Cert.KernelAdamIdeal.Value in
/-- The kernel's change and moments are the reference's, at every input. -/
theorem value : Cert.algebraic_KernelAdamIdeal_ReferenceAdamIdeal := by
  intro m g m' g' _ ha
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)),
    Cert.KernelAdamIdeal.Value.run m g,
    (θ_run _ _ _).mono (fun r h c => ?_) (Cert.ReferenceAdamIdeal.Value.run m' g')⟩
  obtain ⟨h4, h5, h6, hk⟩ := h c
  obtain ⟨e0, e1, e2, e3⟩ := ha c
  refine ⟨h4.trans ?_, h5.trans ?_, h6.trans ?_, hk⟩
  · rw [e0, e1, e2, e3]
    funext j
    idx_vars j
    pointwise
  · rw [e1, e2]
    funext j
    idx_vars j
    pointwise
  · rw [e1, e3]
    funext j
    idx_vars j
    pointwise

end Cert.Proof.Adam
-- ==== Proof.Norm.lean ====
/-
  Extended reals that are real: a finite array as the coercion of a real one, sums, quotients and constants of real
  values, and the row norm's reciprocal root over 1024 columns as both programs write it (the reciprocal root of the
  mean of the squares plus a small constant), with its value on a real row.
-/
module

public import Idealize.ShloMosaic.Lib.Pointwise
public import Idealize.ShloMosaic.Lib.ReduceAll
public import Idealize.ShloMosaic.Lib.IdealHost

@[expose] public section

noncomputable section

namespace Cert.Norm

open Idealize.ShloMosaic

/-! ## Real values among the extended reals -/

theorem coe_sum {ι : Type} (s : Finset ι) (f : ι → ℝ) : ∑ k ∈ s, ((f k : ℝ) : EReal) = ((∑ k ∈ s, f k : ℝ) : EReal) := by
  classical
  refine Finset.induction_on s (by simp) fun a t ha ih => ?_
  rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul, one_div, div_eq_mul_inv]

/-- An extended real whose absolute value is below infinity is real. -/
theorem coe_toReal_of_abs_lt {x : EReal} (h : max x (-x) < ⊤) : ((x.toReal : ℝ) : EReal) = x := by
  refine EReal.coe_toReal (fun e => ?_) (fun e => ?_)
  · subst e; simp at h
  · subst e; simp at h

theorem ofBits_inf : Ideal.ofBits .f32 0x7F800000#32 = (⊤ : EReal) := by simp [Ideal.ofBits, Ideal.ieee]

abbrev Sc : Shape := ⟨0, ![]⟩

/-- A comparison of an array's absolute values with infinity that holds everywhere: the array is real. -/
theorem exists_real {s : Shape} {axes : List (Fin s.rank)} (x : FVec Ideal s .f32) (hb : Sc.BroadcastsInDim s ![])
    (h : s.ReducesTo axes Sc) (hu : 0 < Sc.numel) (j : Sc.Idx)
    (e : Host.reduce IntOp.andi (cmpf .olt (Host.absf x) (broadcastInDim s ![] hb (constant Sc .f32 0x7F800000#32)))
      (constantI Sc 1 1#1) h hu j = 1#1) : ∃ r : s.Idx → ℝ, x = fun i => ((r i : ℝ) : EReal) := by
  refine ⟨fun i => (x i).toReal, funext fun i => (coe_toReal_of_abs_lt ?_).symm⟩
  haveI : Subsingleton Sc.Idx := ⟨fun a b => funext fun k => k.elim0⟩
  have hi := Host.reduce_andi_all _ _ h hu j e i
  have h1 : BitVec.ofBool (decide (max (x i) (-(x i)) < Ideal.ofBits .f32 0x7F800000#32)) = 1#1 := hi
  rw [ofBits_inf] at h1
  by_contra hc
  rw [decide_eq_false hc] at h1
  exact absurd h1 (by decide)

/-! ## A sum over two of three axes -/

theorem hostReduceAdd_lead {a b n : ℕ} (h : (⟨3, ![a, b, n]⟩ : Shape).ReducesTo [0, 1] ⟨1, ![n]⟩)
    (v : (⟨3, ![a, b, n]⟩ : Shape).Idx → EReal) (init : EReal) (k : Fin n) :
    Ideal.hostReduceAdd h v init (ix1 k) = init + ∑ p : Fin a, ∑ q : Fin b, v (ix3 p q k) := by
  unfold Ideal.hostReduceAdd
  refine congrArg (init + ·) ((Finset.sum_filter_eq_sum_of_fiber _ (fun c : Fin a × Fin b => ix3 c.1 c.2 k)
    (fun _ _ e => Prod.ext (congrFun e 0) (congrFun e 1)) (fun i => ⟨fun e => ⟨(i 0, i 1), ?_⟩, ?_⟩) v).trans ?_)
  · have e2 : i 2 = k := Fin.ext (congrArg Fin.val (congrFun e 0))
    funext d
    match d with
    | ⟨0, _⟩ => rfl
    | ⟨1, _⟩ => rfl
    | ⟨2, _⟩ => exact e2.symm
  · rintro ⟨c, rfl⟩
    funext d
    match d with
    | ⟨0, _⟩ => rfl
  · simp only [Fintype.sum_prod_type]

theorem hostReduceAdd_ends {a b n : ℕ} (h : (⟨3, ![a, n, b]⟩ : Shape).ReducesTo [0, 2] ⟨1, ![n]⟩)
    (v : (⟨3, ![a, n, b]⟩ : Shape).Idx → EReal) (init : EReal) (k : Fin n) :
    Ideal.hostReduceAdd h v init (ix1 k) = init + ∑ p : Fin a, ∑ q : Fin b, v (ix3 p k q) := by
  unfold Ideal.hostReduceAdd
  refine congrArg (init + ·) ((Finset.sum_filter_eq_sum_of_fiber _ (fun c : Fin a × Fin b => ix3 c.1 k c.2)
    (fun _ _ e => Prod.ext (congrFun e 0) (congrFun e 2)) (fun i => ⟨fun e => ⟨(i 0, i 2), ?_⟩, ?_⟩) v).trans ?_)
  · have e2 : i 1 = k := Fin.ext (congrArg Fin.val (congrFun e 0))
    funext d
    match d with
    | ⟨0, _⟩ => rfl
    | ⟨1, _⟩ => exact e2.symm
    | ⟨2, _⟩ => rfl
  · rintro ⟨c, rfl⟩
    funext d
    match d with
    | ⟨0, _⟩ => rfl
  · simp only [Fintype.sum_prod_type]

/-! ## Constants -/

theorem ofBits_1024 : Ideal.ofBits .f32 0x44800000#32 = ((1024 : ℝ) : EReal) := by
  simp [Ideal.ofBits, Ideal.ieee, -EReal.coe_mul]; norm_num

/-- The small constant added to the mean of the squares, a real. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

/-! ## The row norm -/

/-- The reciprocal root of a row of 1024 entries. -/
def rstd (x : Fin 1024 → EReal) : EReal :=
  Ideal.rsqrt (Ideal.div (∑ k, x k * x k) (Ideal.ofBits FTy.f32 1149239296#32) + Ideal.ofBits FTy.f32 897988541#32)

/-- The mean of the squares plus the small constant, of a real row. -/
def ms (x : Fin 1024 → ℝ) : ℝ := (∑ k, x k * x k) / 1024 + eps

theorem ms_pos (x : Fin 1024 → ℝ) : 0 < ms x := by
  have h : 0 ≤ ∑ k, x k * x k := Finset.sum_nonneg fun k _ => mul_self_nonneg _
  have := eps_pos
  unfold ms
  positivity

/-- The reciprocal root of a real row. -/
def rr (x : Fin 1024 → ℝ) : ℝ := (Real.sqrt (ms x))⁻¹

theorem rr_pos (x : Fin 1024 → ℝ) : 0 < rr x := inv_pos.mpr (Real.sqrt_pos.mpr (ms_pos x))

theorem rr_sq (x : Fin 1024 → ℝ) : rr x * rr x * ms x = 1 := by
  have h := Real.mul_self_sqrt (ms_pos x).le
  have h0 : Real.sqrt (ms x) ≠ 0 := (Real.sqrt_pos.mpr (ms_pos x)).ne'
  unfold rr
  field_simp
  nlinarith [h]

theorem ms_coe (x : Fin 1024 → ℝ) : Ideal.div (∑ k, (x k : EReal) * (x k : EReal)) (Ideal.ofBits FTy.f32 1149239296#32)
    + Ideal.ofBits FTy.f32 897988541#32 = ((ms x : ℝ) : EReal) := by
  have h1 : Ideal.ofBits FTy.f32 1149239296#32 = ((1024 : ℝ) : EReal) := ofBits_1024
  have h2 : Ideal.ofBits FTy.f32 897988541#32 = ((eps : ℝ) : EReal) := ofBits_eps
  simp only [h1, h2, ← EReal.coe_mul, coe_sum]
  rw [div_coe_coe _ _ (by norm_num), ← EReal.coe_add]
  rfl

theorem rsqrt_ms (x : Fin 1024 → ℝ) : Ideal.rsqrt ((ms x : ℝ) : EReal) = ((rr x : ℝ) : EReal) := by
  rw [Ideal.rsqrt_coe, if_neg (not_lt.mpr (ms_pos x).le), if_neg (ms_pos x).ne']
  rfl

theorem rstd_coe (x : Fin 1024 → ℝ) : rstd (fun k => (x k : EReal)) = ((rr x : ℝ) : EReal) := by
  unfold rstd
  rw [ms_coe, rsqrt_ms]

/-! ## Being real -/

/-- An extended real that is a real. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} {s : Finset ι} {f : ι → EReal} (h : ∀ k, IsReal (f k)) : IsReal (∑ k ∈ s, f k) := by
  choose g hg using h
  exact ⟨∑ k ∈ s, g k, by simp only [hg, coe_sum]⟩
theorem exists_real_fun {ι : Type} {f : ι → EReal} (h : ∀ k, IsReal (f k)) : ∃ g : ι → ℝ, f = fun k => ((g k : ℝ) : EReal) := by
  choose g hg using h
  exact ⟨g, funext hg⟩

/-- The same of a comparison that holds everywhere, entry by entry. -/
theorem isReal_of_all {s : Shape} {axes : List (Fin s.rank)} {x : FVec Ideal s .f32} {hb : Sc.BroadcastsInDim s ![]}
    {h : s.ReducesTo axes Sc} {hu : 0 < Sc.numel} {j : Sc.Idx}
    (e : Host.reduce IntOp.andi (cmpf .olt (Host.absf x) (broadcastInDim s ![] hb (constant Sc .f32 0x7F800000#32)))
      (constantI Sc 1 1#1) h hu j = 1#1) (i : s.Idx) : IsReal (x i) := by
  obtain ⟨r, rfl⟩ := exists_real x hb h hu j e
  exact ⟨r i, rfl⟩

theorem andi_one {s : Shape} {x y : IVec s 1} {j : s.Idx} (e : andi x y j = 1#1) : x j = 1#1 ∧ y j = 1#1 := by
  have h : ∀ a b : BitVec 1, IntOp.andi a b = 1#1 → a = 1#1 ∧ b = 1#1 := by decide
  exact h _ _ e

theorem IsReal.div {x : EReal} (hx : IsReal x) {y : ℝ} (hy : y ≠ 0) : IsReal (Ideal.div x (y : EReal)) := by
  obtain ⟨a, rfl⟩ := hx; exact ⟨a / y, div_coe_coe a y hy⟩
theorem IsReal.rstd {x : Fin 1024 → EReal} (hx : ∀ k, IsReal (x k)) : IsReal (Norm.rstd x) := by
  obtain ⟨g, rfl⟩ := exists_real_fun hx
  exact ⟨rr g, rstd_coe g⟩

/-! ## The gradient of the norm -/

theorem ofBits_half : Ideal.ofBits .f32 1056964608#32 = ((1 / 2 : ℝ) : EReal) := by
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num
theorem ofBits_inv_1024 : Ideal.ofBits .f32 981467136#32 = ((1 / 1024 : ℝ) : EReal) := by
  simp [Ideal.ofBits, Ideal.ieee, -EReal.coe_mul]; norm_num

theorem ofBits_neg_half : Ideal.ofBits .f32 3204448256#32 = ((-(1 / 2) : ℝ) : EReal) := by
  simp [Ideal.ofBits, Ideal.ieee, -EReal.coe_mul, -EReal.coe_neg]; norm_num

/-- The kernel's gradient of a row from the gradient `d` of the normed row. -/
def kbwd (x d : Fin 1024 → EReal) (b : Fin 1024) : EReal :=
  rstd x * (d b - x b * rstd x * Ideal.div (∑ j, d j * (x j * rstd x)) (Ideal.ofBits FTy.f32 1149239296#32))

/-- Half the gradient through the mean of the squares, of one entry `1` of the row, as the reference writes it. -/
def rmean (x d : Fin 1024 → EReal) : EReal :=
  Ideal.div ((∑ j, x j * d j) * (Ideal.ofBits FTy.f32 3204448256#32 *
    Ideal.div (rstd x) (Ideal.div (∑ k, x k * x k) (Ideal.ofBits FTy.f32 1149239296#32) + Ideal.ofBits FTy.f32 897988541#32)))
    (Ideal.ofBits FTy.f32 1149239296#32)

/-- The reference's gradient of a row. -/
def rbwd (x d : Fin 1024 → EReal) (b : Fin 1024) : EReal := d b * rstd x + x b * rmean x d + rmean x d * x b

theorem rbwd_eq_kbwd {x d : Fin 1024 → EReal} (hx : ∀ k, IsReal (x k)) (hd : ∀ k, IsReal (d k)) (b : Fin 1024) :
    rbwd x d b = kbwd x d b := by
  obtain ⟨x, rfl⟩ := exists_real_fun hx
  obtain ⟨d, rfl⟩ := exists_real_fun hd
  have h1 : Ideal.ofBits FTy.f32 1149239296#32 = ((1024 : ℝ) : EReal) := ofBits_1024
  unfold rbwd kbwd rmean
  rw [ms_coe]
  simp only [rstd_coe, ofBits_neg_half, h1, div_coe_coe _ _ (ms_pos x).ne', ← EReal.coe_mul, coe_sum,
    div_coe_coe _ _ (by norm_num : (1024 : ℝ) ≠ 0), ← EReal.coe_add, ← EReal.coe_sub]
  refine congrArg _ ?_
  have hr := rr_sq x
  have hm := (ms_pos x).ne'
  have e : (∑ j, d j * (x j * rr x)) = (∑ j, x j * d j) * rr x := by
    rw [Finset.sum_mul]; exact Finset.sum_congr rfl fun j _ => by ring
  have hq : rr x / ms x = rr x * rr x * rr x := by
    rw [div_eq_iff hm]; linear_combination (-(rr x)) * hr
  rw [e, hq]
  ring

end Cert.Norm
-- ==== Proof.Final.lean ====
/-
  The loss head: what the kernel's body leaves at a grid point, from the point's blocks.
-/
module

public import proofs.«01_k».proof.Defs
public import proofs.«01_k».proof.Proof.Norm
public import proofs.«01_k».proof.Proof.Gen.KernelFinal
public import proofs.«01_k».proof.Proof.Gen.KernelFinal.Frame
public import proofs.«01_k».proof.Proof.Gen.KernelFinalIdeal
public import proofs.«01_k».proof.Proof.Gen.KernelFinalIdeal.Frame
public import proofs.«01_k».proof.Proof.Gen.KernelFinalIdeal.Value
public import proofs.«01_k».proof.Proof.Gen.ReferenceFinalIdeal
public import proofs.«01_k».proof.Proof.Gen.ReferenceFinalIdeal.Run
public import proofs.«01_k».proof.Proof.Gen.Pre_finite_final
public import Idealize.ShloMosaic.Lib.Pointwise
public import Idealize.ShloMosaic.Lib.Tactic
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## What a row of the loss head gives -/

namespace Cert.Final

open Cert.Norm

/-- The normalised row. -/
def xh (x : Fin 1024 → EReal) (k : Fin 1024) : EReal := x k * rstd x
/-- The error of a row against its target. -/
def err (x g t : Fin 1024 → EReal) (k : Fin 1024) : EReal := xh x k * g k - t k
/-- The error over the width: the gradient of the normed row. -/
def dy (x g t : Fin 1024 → EReal) (k : Fin 1024) : EReal := err x g t k * Ideal.ofBits FTy.f32 981467136#32
/-- The gradient of the row. -/
def dx (x g t : Fin 1024 → EReal) (k : Fin 1024) : EReal :=
  rstd x * (dy x g t k * g k - xh x k * Ideal.div (∑ j, dy x g t j * g j * xh x j) (Ideal.ofBits FTy.f32 1149239296#32))
/-- The loss of a block of rows. -/
def loss {n : ℕ} (x : Fin n → Fin 1024 → EReal) (g : Fin 1024 → EReal) (t : Fin n → Fin 1024 → EReal) : EReal :=
  Ideal.div (Ideal.ofBits FTy.f32 1056964608#32 * ∑ r, ∑ k, err (x r) g (t r) k * err (x r) g (t r) k) (Ideal.ofBits FTy.f32 1149239296#32)
/-- The gradient of the gain, from a block of rows. -/
def dg {n : ℕ} (x : Fin n → Fin 1024 → EReal) (g : Fin 1024 → EReal) (t : Fin n → Fin 1024 → EReal) (k : Fin 1024) : EReal :=
  ∑ r, dy (x r) g (t r) k * xh (x r) k

/-- The gradient of the normed row as the reference writes it: half of twice the error over the width. -/
def rdy (x g t : Fin 1024 → EReal) (k : Fin 1024) : EReal :=
  Ideal.div (Ideal.ofBits FTy.f32 1056964608#32) (Ideal.ofBits FTy.f32 1149239296#32) * (Ideal.ofBits FTy.f32 1073741824#32 * err x g t k)
/-- The reference's loss. -/
def rloss (x : Fin 4096 → Fin 1024 → EReal) (g : Fin 1024 → EReal) (t : Fin 4096 → Fin 1024 → EReal) : EReal :=
  Ideal.ofBits FTy.f32 1056964608#32 * ∑ r, Ideal.div (∑ k, err (x r) g (t r) k * err (x r) g (t r) k) (Ideal.ofBits FTy.f32 1149239296#32)
/-- The reference's gradient of the gain. -/
def rdg (x : Fin 4096 → Fin 1024 → EReal) (g : Fin 1024 → EReal) (t : Fin 4096 → Fin 1024 → EReal) (k : Fin 1024) : EReal :=
  ∑ r, xh (x r) k * rdy (x r) g (t r) k

/-- Row `r` of tile `s`. -/
abbrev tile (s : Fin 8) (r : Fin 512) : Fin 4096 := ⟨512 * s.val + r.val, by omega⟩

theorem sum_tile {M : Type} [AddCommMonoid M] (f : Fin 4096 → M) : ∑ s, ∑ r, f (tile s r) = ∑ i, f i := by
  rw [Fin.sum_univ_tiles 8 512 rfl f]
  refine Finset.sum_congr rfl fun s _ => Finset.sum_congr rfl fun r _ => congrArg f (Fin.ext ?_)
  show 512 * s.val + r.val = s.val * 512 + r.val
  omega

section Real

variable {g : Fin 1024 → EReal} (hg : ∀ k, IsReal (g k))
include hg

theorem xh_real {x : Fin 1024 → EReal} (hx : ∀ k, IsReal (x k)) (k : Fin 1024) : IsReal (xh x k) := (hx k).mul (IsReal.rstd hx)
theorem err_real {x t : Fin 1024 → EReal} (hx : ∀ k, IsReal (x k)) (ht : ∀ k, IsReal (t k)) (k : Fin 1024) : IsReal (err x g t k) :=
  ((xh_real hg hx k).mul (hg k)).sub (ht k)

theorem dy_eq {x t : Fin 1024 → EReal} (hx : ∀ k, IsReal (x k)) (ht : ∀ k, IsReal (t k)) : dy x g t = rdy x g t := by
  funext k
  obtain ⟨e, he⟩ := err_real hg hx ht k
  unfold dy rdy
  have h1 : Ideal.ofBits FTy.f32 1149239296#32 = ((1024 : ℝ) : EReal) := ofBits_1024
  rw [he, ofBits_half, ofBits_two, ofBits_inv_1024, h1, div_coe_coe _ _ (by norm_num), ← EReal.coe_mul, ← EReal.coe_mul, ← EReal.coe_mul]
  exact congrArg _ (by ring)

theorem dy_real {x t : Fin 1024 → EReal} (hx : ∀ k, IsReal (x k)) (ht : ∀ k, IsReal (t k)) (k : Fin 1024) : IsReal (dy x g t k) := by
  unfold dy
  rw [ofBits_inv_1024]
  exact (err_real hg hx ht k).mul (.coe _)

/-- The gradient of a row: the reference's is the kernel's. -/
theorem dx_eq {x t : Fin 1024 → EReal} (hx : ∀ k, IsReal (x k)) (ht : ∀ k, IsReal (t k)) (b : Fin 1024) :
    rbwd x (fun k => rdy x g t k * g k) b = dx x g t b := by
  rw [← dy_eq hg hx ht, rbwd_eq_kbwd hx fun k => (dy_real hg hx ht k).mul (hg k)]
  rfl

variable {x t : Fin 4096 → Fin 1024 → EReal} (hx : ∀ r k, IsReal (x r k)) (ht : ∀ r k, IsReal (t r k))
include hx ht

theorem loss_eq : rloss x g t = ∑ s, loss (fun r => x (tile s r)) g (fun r => t (tile s r)) := by
  have h1 : Ideal.ofBits FTy.f32 1149239296#32 = ((1024 : ℝ) : EReal) := ofBits_1024
  have h : ∀ r k, IsReal (err (x r) g (t r) k) := fun r k => err_real hg (hx r) (ht r) k
  choose e he using h
  unfold rloss loss
  simp only [he, h1, ofBits_half, ← EReal.coe_mul, coe_sum, div_coe_coe _ _ (by norm_num : (1024 : ℝ) ≠ 0)]
  refine congrArg _ ?_
  rw [← sum_tile, Finset.mul_sum]
  refine Finset.sum_congr rfl fun s _ => ?_
  rw [Finset.mul_sum, Finset.mul_sum, Finset.sum_div]
  exact Finset.sum_congr rfl fun r _ => by ring

theorem dg_eq (k : Fin 1024) : rdg x g t k = ∑ s, dg (fun r => x (tile s r)) g (fun r => t (tile s r)) k := by
  unfold rdg dg
  rw [← sum_tile]
  refine Finset.sum_congr rfl fun s _ => Finset.sum_congr rfl fun r _ => ?_
  rw [mul_comm, ← dy_eq hg (hx _) (ht _)]

end Real

end Cert.Final

namespace Cert.KernelFinalIdeal.Body

open Cert.KernelFinalIdeal Cert.KernelFinalIdeal.Gen

theorem hz : (![0, 0] : Fin 2 → Nat) = fun _ => 0 := funext fun a => by fin_cases a <;> rfl

section Cases

variable {F : FTy → Type} [FloatOps F]
variable (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S8x128 .f32) (h5 : a5.IsWhole) (a6 : Memref sig .tc .vmem S8x1024 .f32) (h6 : a6.IsWhole)
  (x : Vec F S512x1024 .f32) (g : Vec F S1x1024 .f32) (t : Vec F S512x1024 .f32) (l : Vec F S8x128 .f32) (d : Vec F S8x1024 .f32)

theorem out_A3 (hc : cond0_0 i) : out0_A_3 c i a1 h1 a2 h2 a3 h3 a4 h4 a5 h5 a6 h6 hc x g t
    = k0_pay2 x (k0_pay5 x) (k0_pay9 x g t) g := by
  unfold out0_A_3
  rw [View.read_writes_eq_canon _ _ _ (cover0_A_3 c i a1 h1 a2 h2 a3 h3 a4 h4 a5 h5 a6 h6 hc x g t)]
  unfold kernelRun0_A
  dsimp only
  sl_unfold_words
  rw [View.canon_unit_zero hz]
  simp only [View.readAt_eq_ld, h1.read_unread, h2.read_unread, h3.read_unread, h5.read_unread, h6.read_unread,
    View.ld_unit_zero (S := S512x1024) hz, View.ld_unit_zero (S := S1x1024) hz, View.ld_unit_zero (S := S8x128) hz,
    View.ld_unit_zero (S := S8x1024) hz]

theorem out_A4 (hc : cond0_0 i) : out0_A_4 c i a1 h1 a2 h2 a3 h3 a4 h4 a5 h5 a6 h6 hc x g t
    = k0_pay8 x g t k0_pay3 := by
  unfold out0_A_4
  rw [View.read_writes_eq_canon _ _ _ (cover0_A_4 c i a1 h1 a2 h2 a3 h3 a4 h4 a5 h5 a6 h6 hc x g t)]
  unfold kernelRun0_A
  dsimp only
  sl_unfold_words
  rw [View.canon_cons_unit_zero (S := S8x128) hz, View.readCov_unit_zero (S := S8x128) _ hz]
  simp only [View.readAt_eq_ld, h1.read_unread, h2.read_unread, h3.read_unread, h5.read_unread, h6.read_unread,
    View.ld_unit_zero (S := S512x1024) hz, View.ld_unit_zero (S := S1x1024) hz, View.ld_unit_zero (S := S8x128) hz,
    View.ld_unit_zero (S := S8x1024) hz]

theorem out_A5 (hc : cond0_0 i) : out0_A_5 c i a1 h1 a2 h2 a3 h3 a4 h4 a5 h5 a6 h6 hc x g t
    = k0_pay1 (k0_pay6 x) (k0_pay9 x g t) k0_pay4 := by
  unfold out0_A_5
  rw [View.read_writes_eq_canon _ _ _ (cover0_A_5 c i a1 h1 a2 h2 a3 h3 a4 h4 a5 h5 a6 h6 hc x g t)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h5.read_unread, h6.read_unread,
    View.ld_unit_zero (S := S512x1024) hz, View.ld_unit_zero (S := S1x1024) hz, View.ld_unit_zero (S := S8x128) hz,
    View.ld_unit_zero (S := S8x1024) hz]

theorem out_B3 (hc : ¬cond0_0 i) : out0_B_3 c i a1 h1 a2 h2 a3 h3 a4 h4 a5 h5 a6 h6 hc x g t l d
    = k0_pay2 x (k0_pay5 x) (k0_pay9 x g t) g := by
  unfold out0_B_3
  rw [View.read_writes_eq_canon _ _ _ (cover0_B_3 c i a1 h1 a2 h2 a3 h3 a4 h4 a5 h5 a6 h6 hc x g t l d)]
  unfold kernelRun0_B
  dsimp only
  sl_unfold_words
  rw [View.canon_unit_zero hz]
  simp only [View.readAt_eq_ld, h1.read_unread, h2.read_unread, h3.read_unread, h5.read_unread, h6.read_unread,
    View.ld_unit_zero (S := S512x1024) hz, View.ld_unit_zero (S := S1x1024) hz, View.ld_unit_zero (S := S8x128) hz,
    View.ld_unit_zero (S := S8x1024) hz]

theorem out_B4 (hc : ¬cond0_0 i) : out0_B_4 c i a1 h1 a2 h2 a3 h3 a4 h4 a5 h5 a6 h6 hc x g t l d
    = k0_pay8 x g t l := by
  unfold out0_B_4
  rw [View.read_writes_eq_canon _ _ _ (cover0_B_4 c i a1 h1 a2 h2 a3 h3 a4 h4 a5 h5 a6 h6 hc x g t l d)]
  unfold kernelRun0_B
  dsimp only
  sl_unfold_words
  rw [View.canon_unit_zero hz]
  simp only [View.readAt_eq_ld, h1.read_unread, h2.read_unread, h3.read_unread, h5.read_unread, h6.read_unread,
    View.ld_unit_zero (S := S512x1024) hz, View.ld_unit_zero (S := S1x1024) hz, View.ld_unit_zero (S := S8x128) hz,
    View.ld_unit_zero (S := S8x1024) hz]

theorem out_B5 (hc : ¬cond0_0 i) : out0_B_5 c i a1 h1 a2 h2 a3 h3 a4 h4 a5 h5 a6 h6 hc x g t l d
    = k0_pay1 (k0_pay6 x) (k0_pay9 x g t) d := by
  unfold out0_B_5
  rw [View.read_writes_eq_canon _ _ _ (cover0_B_5 c i a1 h1 a2 h2 a3 h3 a4 h4 a5 h5 a6 h6 hc x g t l d)]
  unfold kernelRun0_B
  dsimp only
  sl_unfold_words
  rw [View.canon_unit_zero hz]
  simp only [View.readAt_eq_ld, h1.read_unread, h2.read_unread, h3.read_unread, h5.read_unread, h6.read_unread,
    View.ld_unit_zero (S := S512x1024) hz, View.ld_unit_zero (S := S1x1024) hz, View.ld_unit_zero (S := S8x128) hz,
    View.ld_unit_zero (S := S8x1024) hz]

end Cases

/-! ## The body's values at an index -/

section Values

open Cert.Final

variable (x : Vec Ideal S512x1024 .f32) (g : Vec Ideal S1x1024 .f32) (t : Vec Ideal S512x1024 .f32)
  (l : Vec Ideal S8x128 .f32) (d : Vec Ideal S8x1024 .f32)

abbrev rows (x : Vec Ideal S512x1024 .f32) : Fin 512 → Fin 1024 → EReal := fun r k => x (ix2 r k)
abbrev gain (g : Vec Ideal S1x1024 .f32) : Fin 1024 → EReal := fun k => g (ix2 0 k)

theorem pay8_apply (a : Fin 8) (b : Fin 128) : k0_pay8 (F := Ideal) x g t l (ix2 a b)
    = l (ix2 a b) + loss (rows x) (gain g) (rows t) := by
  pointwise [k0_pay8, k0_pay7, k0_pay6, k0_pay5]
  rfl

theorem pay1_apply (a : Fin 8) (b : Fin 1024) : k0_pay1 (F := Ideal) (k0_pay6 x) (k0_pay9 x g t) d (ix2 a b)
    = d (ix2 a b) + dg (rows x) (gain g) (rows t) b := by
  pointwise [k0_pay1, k0_pay9, k0_pay7, k0_pay6, k0_pay5]
  rfl

theorem pay2_apply (a : Fin 512) (b : Fin 1024) : k0_pay2 (F := Ideal) x (k0_pay5 x) (k0_pay9 x g t) g (ix2 a b)
    = dx (rows x a) (gain g) (rows t a) b := by
  pointwise [k0_pay2, k0_pay9, k0_pay7, k0_pay6, k0_pay5]
  rfl

theorem pay3_apply (a : Fin 8) (b : Fin 128) : k0_pay3 (F := Ideal) (ix2 a b) = 0 := by
  pointwise [k0_pay3]

theorem pay4_apply (a : Fin 8) (b : Fin 1024) : k0_pay4 (F := Ideal) (ix2 a b) = 0 := by
  pointwise [k0_pay4]

end Values

end Cert.KernelFinalIdeal.Body

/-! ## The three arrays after the run -/

namespace Cert.KernelFinalIdeal.Whole

open Cert.KernelFinalIdeal Cert.KernelFinalIdeal.Gen Cert.KernelFinalIdeal.Body Cert.Final

variable (m : (ℓ : Loc nD τ sig) → Buf (Elt Ideal) ℓ) (c : Dev nD)

abbrev xRow (r : Fin 4096) : Fin 1024 → EReal := fun k => m ((c : Thread nD τ).loc main_arg0) (ix2 r k)
abbrev gRow : Fin 1024 → EReal := fun k => m ((c : Thread nD τ).loc main_arg1) (ix1 k)
abbrev tRow (r : Fin 4096) : Fin 1024 → EReal := fun k => m ((c : Thread nD τ).loc main_arg2) (ix3 0 r k)

theorem V_v1 (b : Fin 1024) : (V m c main_v1 : Vec Ideal S1x1024 .f32) (ix2 0 b) = gRow m c b := by
  dsimp only [V, hostOps0]
  after_results_simp
  pointwise

theorem V_v0 (r : Fin 4096) (b : Fin 1024) : (V m c main_v0 : Vec Ideal S4096x1024 .f32) (ix2 r b) = tRow m c r b := by
  dsimp only [V, hostOps0]
  after_results_simp
  pointwise

abbrev pt (t : Fin cfg0.N) : Fin 8 := ⟨t.val, by have := t.isLt; have h : cfg0.N = 8 := N_0; omega⟩

theorem idx0 (t : Fin cfg0.N) : win0_0.index t 0 = t.val ∧ win0_0.index t 1 = 0 := by
  rcases fin_N0 t with rfl | rfl | rfl | rfl | rfl | rfl | rfl | rfl <;> decide
theorem idx2 (t : Fin cfg0.N) : win0_2.index t 0 = t.val ∧ win0_2.index t 1 = 0 := by
  rcases fin_N0 t with rfl | rfl | rfl | rfl | rfl | rfl | rfl | rfl <;> decide
theorem idx3 (t : Fin cfg0.N) : win0_3.index t 0 = t.val ∧ win0_3.index t 1 = 0 := by
  rcases fin_N0 t with rfl | rfl | rfl | rfl | rfl | rfl | rfl | rfl <;> decide
theorem idx1 (t : Fin cfg0.N) : win0_1.index t 0 = 0 ∧ win0_1.index t 1 = 0 := by
  rcases fin_N0 t with rfl | rfl | rfl | rfl | rfl | rfl | rfl | rfl <;> decide

theorem iblk0 (t : Fin cfg0.N) (r : Fin 512) (b : Fin 1024) :
    (iblk m c 0 t : Vec Ideal S512x1024 .f32) (ix2 r b) = xRow m c (tile (pt t) r) b := by
  unfold iblk
  rw [View.read_apply]
  show V m c main_arg0 _ = _
  rw [V_main_arg0]
  unfold xRow
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * b.val = b.val; rw [(idx0 t).2]; omega

theorem iblk1 (t : Fin cfg0.N) (b : Fin 1024) :
    (iblk m c 1 t : Vec Ideal S1x1024 .f32) (ix2 0 b) = gRow m c b := by
  refine Eq.trans ?_ (V_v1 m c b)
  unfold iblk
  rw [View.read_apply]
  show V m c main_v1 _ = V m c main_v1 _
  congr 1
  funext a
  apply Fin.ext
  match a with
  | ⟨0, _⟩ => show win0_1.index t 0 * 1 + 1 * 0 = 0; rw [(idx1 t).1]
  | ⟨1, _⟩ => show win0_1.index t 1 * 1024 + 1 * b.val = b.val; rw [(idx1 t).2]; omega

theorem iblk2 (t : Fin cfg0.N) (r : Fin 512) (b : Fin 1024) :
    (iblk m c 2 t : Vec Ideal S512x1024 .f32) (ix2 r b) = tRow m c (tile (pt t) r) b := by
  refine Eq.trans ?_ (V_v0 m c (tile (pt t) r) b)
  unfold iblk
  rw [View.read_apply]
  show V m c main_v0 _ = V m c main_v0 _
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * b.val = b.val; rw [(idx2 t).2]; omega

theorem rows0 (t : Fin cfg0.N) : rows (iblk m c 0 t) = fun r => xRow m c (tile (pt t) r) := by
  funext r b; exact iblk0 m c t r b
theorem gain1 (t : Fin cfg0.N) : gain (iblk m c 1 t) = gRow m c := by
  funext b; exact iblk1 m c t b
theorem rows2 (t : Fin cfg0.N) : rows (iblk m c 2 t) = fun r => tRow m c (tile (pt t) r) := by
  funext r b; exact iblk2 m c t r b

/-- The loss of tile `s`, and its gradient of the gain. -/
abbrev lossT (s : Fin 8) : EReal := loss (fun r => xRow m c (tile s r)) (gRow m c) (fun r => tRow m c (tile s r))
abbrev dgT (b : Fin 1024) (s : Fin 8) : EReal := dg (fun r => xRow m c (tile s r)) (gRow m c) (fun r => tRow m c (tile s r)) b

theorem outs3 (t : Fin cfg0.N) (r : Fin 512) (b : Fin 1024) :
    (outsAt0 m c t.val t.isLt).1 (ix2 r b) = dx (xRow m c (tile (pt t) r)) (gRow m c) (tRow m c (tile (pt t) r)) b := by
  by_cases h0 : t.val % 8 = 0
  · rw [outsAt0_A m c t h0]
    dsimp only
    rw [out_A3, pay2_apply, rows0, gain1, rows2]
  · rw [outsAt0_B m c t h0]
    dsimp only
    rw [out_B3, pay2_apply, rows0, gain1, rows2]

/-- Sums up to a point. -/
def upTo (f : Fin 8 → EReal) : (n : ℕ) → n < 8 → EReal
  | 0, _ => f 0
  | n + 1, h => upTo f n (by omega) + f ⟨n + 1, h⟩

theorem upTo_last (f : Fin 8 → EReal) : upTo f 7 (by omega) = ∑ s, f s := by
  rw [Fin.sum_univ_eight]; rfl

theorem outs45 (n : ℕ) (h : n < cfg0.N) (h8 : n < 8) :
    (∀ (a : Fin 8) (b : Fin 128), (outsAt0 m c n h).2.1 (ix2 a b) = upTo (lossT m c) n h8)
    ∧ (∀ (a : Fin 8) (b : Fin 1024), (outsAt0 m c n h).2.2 (ix2 a b) = upTo (dgT m c b) n h8) := by
  induction n with
  | zero =>
    rw [outsAt0_A m c ⟨0, h⟩ rfl]
    dsimp only
    refine ⟨fun a b => ?_, fun a b => ?_⟩
    · rw [out_A4, pay8_apply, pay3_apply, zero_add, rows0, gain1, rows2]; rfl
    · rw [out_A5, pay1_apply, pay4_apply, zero_add, rows0, gain1, rows2]; rfl
  | succ n ih =>
    obtain ⟨i4, i5⟩ := ih (by omega) (by omega)
    have hB : ¬(⟨n + 1, h⟩ : Fin cfg0.N).val % 8 = 0 := by dsimp only; omega
    rw [outsAt0_B m c ⟨n + 1, h⟩ hB]
    dsimp only
    refine ⟨fun a b => ?_, fun a b => ?_⟩
    · rw [out_B4, pay8_apply, rows0, gain1, rows2]; exact congrArg (· + _) (i4 a b)
    · rw [out_B5, pay1_apply, rows0, gain1, rows2]; exact congrArg (· + _) (i5 a b)

/-- The three result arrays. -/
def dxArr : FVec Ideal S4096x1024 .f32 := fun j => dx (xRow m c (j 0)) (gRow m c) (tRow m c (j 0)) (j 1)
def lossArr : FVec Ideal S8x128 .f32 := fun _ => ∑ s, lossT m c s
def dgArr : FVec Ideal S8x1024 .f32 := fun j => ∑ s, dgT m c (j 1) s

/-- A row tile of a result array of 4096 rows. -/
theorem read3 (G : FVec Ideal S4096x1024 .f32) (t : Fin cfg0.N) (r : Fin 512) (b : Fin 1024) :
    (((cfg0.win 3).blk t).view.read (Elt Ideal) G : Vec Ideal S512x1024 .f32) (ix2 r b) = G (ix2 (tile (pt t) r) b) := by
  rw [View.read_apply]
  show G _ = _
  congr 1
  funext a
  apply Fin.ext
  match a with
  | ⟨0, _⟩ => show win0_3.index t 0 * 512 + 1 * r.val = 512 * t.val + r.val; rw [(idx3 t).1]; omega
  | ⟨1, _⟩ => show win0_3.index t 1 * 1024 + 1 * b.val = b.val; rw [(idx3 t).2]; omega

theorem final3 : (dats m 0 c).arrAt 3 cfg0.N = dxArr m c := by
  refine (dats m 0 c).arrAt_eq_of_cover 3 (dxArr m c) (fun t hf => ?_) fun i => ?_
  · rw [Value.flushed3]
    refine (funext fun j => ?_ : (outsAt0 m c t.val t.isLt).1 = (((cfg0.win 3).blk t).view.read (Elt Ideal) (dxArr m c) : Vec Ideal S512x1024 .f32))
    idx_vars j
    rw [outs3, read3]
    rfl
  · have h0 : (i 0 : Nat) < 4096 := (i 0).isLt
    have h1 : (i 1 : Nat) < 1024 := (i 1).isLt
    have hN : cfg0.N = 8 := N_0
    have ht : (i 0 : Nat) / 512 < cfg0.N := by omega
    refine ⟨⟨(i 0 : Nat) / 512, ht⟩, flush0_3 _, ?_⟩
    show i ∈ ((View.whole main_v2_0).slice (win0_3.rect ⟨(i 0 : Nat) / 512, ht⟩)).set
    rw [View.set_slice_whole, Rect.mem_set_unit]
    intro a
    match a with
    | ⟨0, _⟩ =>
      show win0_3.index ⟨(i 0 : Nat) / 512, ht⟩ 0 * 512 ≤ (i 0 : Nat) ∧ (i 0 : Nat) < win0_3.index ⟨(i 0 : Nat) / 512, ht⟩ 0 * 512 + 512
      rw [(idx3 _).1]; dsimp only; omega
    | ⟨1, _⟩ =>
      show win0_3.index ⟨(i 0 : Nat) / 512, ht⟩ 1 * 1024 ≤ (i 1 : Nat) ∧ (i 1 : Nat) < win0_3.index ⟨(i 0 : Nat) / 512, ht⟩ 1 * 1024 + 1024
      rw [(idx3 _).2]; omega

/-- The two accumulated windows are written back after the last point, whole. -/
theorem last4 (t : Fin cfg0.N) (hf : (cfg0.win 4).flush t = true) : t = t0_7 := by
  have hN : cfg0.N = 8 := N_0
  have := (flush0_4 t).mp hf
  exact Fin.ext (by have := t.isLt; show t.val = 7; omega)
theorem last5 (t : Fin cfg0.N) (hf : (cfg0.win 5).flush t = true) : t = t0_7 := by
  have hN : cfg0.N = 8 := N_0
  have := (flush0_5 t).mp hf
  exact Fin.ext (by have := t.isLt; show t.val = 7; omega)

theorem final4 : (dats m 0 c).arrAt 4 cfg0.N = lossArr m c := by
  refine (dats m 0 c).arrAt_eq_of_cover 4 (lossArr m c) (fun t hf => ?_) fun i => ⟨t0_7, (flush0_4 t0_7).mpr rfl, ?_⟩
  · obtain rfl := last4 t hf
    have hz' : (fun a => win0_4.index t0_7 a * main_v2_1.ty.shape.size a) = fun _ => 0 := funext fun a => by fin_cases a <;> decide
    refine Eq.trans ?_ (Memref.read_access_unit_zero (Elt Ideal) main_v2_1 hz' (fun a => by rw [congrFun hz' a]; simp) (lossArr m c)).symm
    rw [Value.flushed4]
    funext j
    show (outsAt0 m c 7 t0_7.isLt).2.1 j = _
    refine (congrArg _ (show j = ix2 (j 0) (j 1) by idx_vars j; rfl)).trans (((outs45 m c 7 _ (by omega)).1 (j 0) (j 1)).trans ?_)
    exact upTo_last _
  · show i ∈ ((View.whole main_v2_1).slice (win0_4.rect t0_7)).set
    rw [View.set_slice_whole, Rect.mem_set_unit]
    intro a
    have h0 : (i 0 : Nat) < 8 := (i 0).isLt
    have h1 : (i 1 : Nat) < 128 := (i 1).isLt
    have e : ∀ a, win0_4.index t0_7 a = 0 := fun a => by fin_cases a <;> decide
    match a with
    | ⟨0, _⟩ => show win0_4.index t0_7 0 * 8 ≤ (i 0 : Nat) ∧ (i 0 : Nat) < win0_4.index t0_7 0 * 8 + 8; rw [e 0]; omega
    | ⟨1, _⟩ => show win0_4.index t0_7 1 * 128 ≤ (i 1 : Nat) ∧ (i 1 : Nat) < win0_4.index t0_7 1 * 128 + 128; rw [e 1]; omega

theorem final5 : (dats m 0 c).arrAt 5 cfg0.N = dgArr m c := by
  refine (dats m 0 c).arrAt_eq_of_cover 5 (dgArr m c) (fun t hf => ?_) fun i => ⟨t0_7, (flush0_5 t0_7).mpr rfl, ?_⟩
  · obtain rfl := last5 t hf
    have hz' : (fun a => win0_5.index t0_7 a * main_v2_2.ty.shape.size a) = fun _ => 0 := funext fun a => by fin_cases a <;> decide
    refine Eq.trans ?_ (Memref.read_access_unit_zero (Elt Ideal) main_v2_2 hz' (fun a => by rw [congrFun hz' a]; simp) (dgArr m c)).symm
    rw [Value.flushed5]
    funext j
    show (outsAt0 m c 7 t0_7.isLt).2.2 j = _
    refine (congrArg _ (show j = ix2 (j 0) (j 1) by idx_vars j; rfl)).trans (((outs45 m c 7 _ (by omega)).2 (j 0) (j 1)).trans ?_)
    exact upTo_last _
  · show i ∈ ((View.whole main_v2_2).slice (win0_5.rect t0_7)).set
    rw [View.set_slice_whole, Rect.mem_set_unit]
    intro a
    have h0 : (i 0 : Nat) < 8 := (i 0).isLt
    have h1 : (i 1 : Nat) < 1024 := (i 1).isLt
    have e : ∀ a, win0_5.index t0_7 a = 0 := fun a => by fin_cases a <;> decide
    match a with
    | ⟨0, _⟩ => show win0_5.index t0_7 0 * 8 ≤ (i 0 : Nat) ∧ (i 0 : Nat) < win0_5.index t0_7 0 * 8 + 8; rw [e 0]; omega
    | ⟨1, _⟩ => show win0_5.index t0_7 1 * 1024 ≤ (i 1 : Nat) ∧ (i 1 : Nat) < win0_5.index t0_7 1 * 1024 + 1024; rw [e 1]; omega

end Cert.KernelFinalIdeal.Whole

namespace Cert.Proof.Final

theorem frame_k : Cert.quiescent_KernelFinal := fun m ρ _ => Cert.KernelFinal.Gen.frame m ρ
theorem frame_ki : Cert.quiescent_KernelFinalIdeal := fun m ρ _ => Cert.KernelFinalIdeal.Gen.frame m ρ
theorem frame_kip : Cert.quiescent_KernelFinalIdeal_pre_finite_final := fun m ρ _ => Cert.KernelFinalIdeal.Gen.frame m ρ
theorem frame_ri : Cert.quiescent_ReferenceFinalIdeal := fun m ρ _ =>
  (θ_run Cert.ReferenceFinalIdeal.defs _ _).mono (fun r h => ⟨fun c => (h c).2.2.2, sem_eq_zero_of_no_sems (by decide) r.2⟩)
    (Cert.ReferenceFinalIdeal.Value.run (F := Ideal) m ρ)
theorem frame_rip : Cert.quiescent_ReferenceFinalIdeal_pre_finite_final := fun m ρ _ => frame_ri m ρ trivial

section Reference

open Cert.ReferenceFinalIdeal Cert.Final

variable (m : (ℓ : Loc nD τ sig) → Buf (Elt Ideal) ℓ) (c : Dev nD) (x : FVec Ideal S4096x1024 .f32) (g : FVec Ideal S1024 .f32)
  (t : FVec Ideal S1x4096x1024 .f32)

/-- The reference's gradient of a row, at an index. -/
theorem ref_dx (hx : m (c.tc.loc main_arg0) = x) (hg : m (c.tc.loc main_arg1) = g) (ht : m (c.tc.loc main_arg2) = t) (a : Fin 4096) (b : Fin 1024) :
    (Value.res_main_v53 m c : FVec Ideal S4096x1024 .f32) (ix2 a b)
      = Norm.rbwd (fun k => x (ix2 a k)) (fun k => rdy (fun k => x (ix2 a k)) (fun k => g (ix1 k)) (fun k => t (ix3 0 a k)) k * g (ix1 k)) b := by
  unfold Value.res_main_v53
  rw [hx, hg, ht]
  clear hx hg ht
  pointwise [Norm.hostReduceAdd_lead, Norm.hostReduceAdd_ends]
  simp only [Fin.sum_univ_one]
  rfl

end Reference

open Cert.Final in
/-- The three arguments are real arrays. -/
theorem real_of_pre (m : (ℓ : Loc Cert.KernelFinalIdeal.nD Cert.KernelFinalIdeal.τ Cert.KernelFinalIdeal.sig) → Buf (Elt Ideal) ℓ)
    (hp : Cert.Pre_KernelFinalIdeal_finite_final m) (c : Dev Cert.KernelFinalIdeal.nD) :
    (∀ r k, Norm.IsReal (Cert.KernelFinalIdeal.Whole.xRow m c r k)) ∧ (∀ k, Norm.IsReal (Cert.KernelFinalIdeal.Whole.gRow m c k))
    ∧ (∀ r k, Norm.IsReal (Cert.KernelFinalIdeal.Whole.tRow m c r k)) := by
  obtain ⟨h12, h3⟩ := Norm.andi_one (congrFun (hp c) (fun a => a.elim0))
  obtain ⟨h1, h2⟩ := Norm.andi_one h12
  exact ⟨fun r k => Norm.isReal_of_all h1 _, fun k => Norm.isReal_of_all h2 _, fun r k => Norm.isReal_of_all h3 _⟩

open Cert.KernelFinalIdeal.Whole in
/-- The kernel's three results are the reference's, at every finite input. -/
theorem value : Cert.algebraic_KernelFinalIdeal_ReferenceFinalIdeal_pre_finite_final := by
  intro m g m' g' hp ha
  refine ⟨fun c => dxArr m c, fun c => lossArr m c, fun c => dgArr m c,
    (θ_run _ _ _).mono (fun r h c => ?_) (Cert.KernelFinalIdeal.Value.run_blocks m g),
    (θ_run _ _ _).mono (fun r h c => ?_) (Cert.ReferenceFinalIdeal.Value.run m' g')⟩
  · obtain ⟨h3, h4, h5, hk⟩ := h c
    exact ⟨h3.trans (final3 m c), h4.trans (final4 m c), h5.trans (final5 m c), hk⟩
  · obtain ⟨h3, h4, h5, hk⟩ := h c
    obtain ⟨e0, e1, e2⟩ := ha c
    obtain ⟨rx, rg, rt⟩ := real_of_pre m hp c
    refine ⟨h3.trans ?_, h4.trans ?_, h5.trans ?_, hk⟩
    · clear h h3 h4 h5 hk ha
      funext j
      idx_vars j
      refine (ref_dx m' c _ _ _ e0 e1 e2 _ _).trans ?_
      exact Cert.Final.dx_eq rg (rx _) (rt _) _
    · rw [e0, e1, e2]
      clear h h3 h4 h5 e0 e1 e2 hk ha
      funext j
      idx_vars j
      pointwise
      rw [Fin.sum_univ_one]
      exact Cert.Final.loss_eq rg rx rt
    · rw [e0, e1, e2]
      clear h h3 h4 h5 e0 e1 e2 hk ha
      funext j
      idx_vars j
      pointwise [Norm.hostReduceAdd_lead, Norm.hostReduceAdd_ends]
      simp only [Fin.sum_univ_one]
      exact Cert.Final.dg_eq rg rx rt _

end Cert.Proof.Final
-- ==== Proof.In.lean ====
/-
  The mixer's norm and input projection: the gradients of the stream and of the norm's gain.
-/
module

public import proofs.«01_k».proof.Defs
public import proofs.«01_k».proof.Proof.Norm
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.Pre_finite_in
public import Idealize.ShloMosaic.Lib.Pointwise
public import Idealize.ShloMosaic.Lib.Tactic
public import Idealize.ShloMosaic.Lib.StableHlo.RunRead
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.In

open Cert.Norm

/-- The 11296 columns of the projection in the kernel's order: the inner stream, the two group projections, the step sizes,
    992 zeros, the gate, and the three parts of the attention. -/
def catOf (f : Fin 11296 → EReal) (p : Fin 12288) : EReal :=
  if h : p.val < 4096 then f ⟨5120 + p.val, by omega⟩
  else if h : p.val - 4096 < 512 then f ⟨p.val - 4096, by omega⟩
  else if h : p.val - 4096 - 512 < 512 then f ⟨512 + (p.val - 4096 - 512), by omega⟩
  else if h : p.val - 4096 - 512 - 512 < 32 then f ⟨9216 + (p.val - 4096 - 512 - 512), by omega⟩
  else if h : p.val - 4096 - 512 - 512 - 32 < 992 then 0
  else if h : p.val - 4096 - 512 - 512 - 32 - 992 < 2048 then f ⟨3072 + (p.val - 4096 - 512 - 512 - 32 - 992), by omega⟩
  else if h : p.val - 4096 - 512 - 512 - 32 - 992 - 2048 < 2048 then f ⟨9248 + (p.val - 4096 - 512 - 512 - 32 - 992 - 2048), by omega⟩
  else if h : p.val - 4096 - 512 - 512 - 32 - 992 - 2048 - 2048 < 1024 then f ⟨1024 + (p.val - 4096 - 512 - 512 - 32 - 992 - 2048 - 2048), by omega⟩
  else f ⟨2048 + (p.val - 4096 - 512 - 512 - 32 - 992 - 2048 - 2048 - 1024), by omega⟩

theorem dite_mul_dite {P : Prop} [Decidable P] (a a' : P → EReal) (b b' : ¬P → EReal) :
    (if h : P then a h else b h) * (if h : P then a' h else b' h) = if h : P then a h * a' h else b h * b' h := by
  by_cases h : P
  · rw [dif_pos h, dif_pos h, dif_pos h]
  · rw [dif_neg h, dif_neg h, dif_neg h]

theorem catOf_mul (f g : Fin 11296 → EReal) (p : Fin 12288) : catOf f p * catOf g p = catOf (fun q => f q * g q) p := by
  unfold catOf
  simp only [dite_mul_dite, zero_mul]

/-- The sum over a stretch of a function that agrees with another from another start. -/
theorem stretch (u F : ℕ → EReal) (s s' n : ℕ) (h : ∀ k < n, u (s + k) = F (s' + k)) :
    ∑ k ∈ Finset.range n, u (s + k) = ∑ k ∈ Finset.range n, F (s' + k) :=
  Finset.sum_congr rfl fun k hk => h k (Finset.mem_range.mp hk)

/-- The sum over the kernel's columns is the sum over the projection's: the added columns are zero. -/
theorem sum_catOf (f : Fin 11296 → EReal) : ∑ p, catOf f p = ∑ q, f q := by
  let F : ℕ → EReal := fun n => if h : n < 11296 then f ⟨n, h⟩ else 0
  let u : ℕ → EReal := fun n => if h : n < 12288 then catOf f ⟨n, h⟩ else 0
  have hF : ∑ q, f q = ∑ n ∈ Finset.range 11296, F n := by
    rw [Finset.sum_range]
    exact Finset.sum_congr rfl fun q _ => by simp only [F, q.isLt, dite_true]
  have hu : ∑ p, catOf f p = ∑ n ∈ Finset.range 12288, u n := by
    rw [Finset.sum_range]
    exact Finset.sum_congr rfl fun q _ => by simp only [u, q.isLt, dite_true]
  rw [hF, hu]
  have eu : Finset.range 12288 = Finset.range (4096 + 512 + 512 + 32 + 992 + 2048 + 2048 + 1024 + 1024) := rfl
  have eF : Finset.range 11296 = Finset.range (512 + 512 + 1024 + 1024 + 2048 + 4096 + 32 + 2048) := rfl
  rw [eu, eF]
  simp only [Finset.sum_range_add]
  have s0 : ∑ k ∈ Finset.range 4096, u k = ∑ k ∈ Finset.range 4096, F (512 + 512 + 1024 + 1024 + 2048 + k) :=
    Finset.sum_congr rfl fun k hk => by
      have hk := Finset.mem_range.mp hk
      simp only [u, F, catOf, show k < 12288 by omega, hk, dite_true]
      rw [dif_pos (by omega)]
  have s4 : ∑ k ∈ Finset.range 992, u (4096 + 512 + 512 + 32 + k) = 0 :=
    Finset.sum_eq_zero fun k hk => by
      have hk := Finset.mem_range.mp hk
      simp only [u, catOf]
      rw [dif_pos (by omega), dif_neg (by omega), dif_neg (by omega), dif_neg (by omega), dif_neg (by omega), dif_pos (by omega)]
  have s1 : ∑ k ∈ Finset.range 512, u (4096 + k) = ∑ k ∈ Finset.range 512, F k :=
    Finset.sum_congr rfl fun k hk => by
      have hk := Finset.mem_range.mp hk
      simp only [u, F, catOf]
      rw [dif_pos (by omega), dif_neg (by omega), dif_pos (by omega), dif_pos (by omega)]
      exact congrArg f (Fin.ext (by dsimp only; omega))
  rw [s0, s1, s4]
  rw [stretch u F (4096 + 512) 512 512 fun k hk => by
    simp only [u, F, catOf]
    rw [dif_pos (by omega), dif_neg (by omega), dif_neg (by omega), dif_pos (by omega), dif_pos (by omega)]
    exact congrArg f (Fin.ext (by dsimp only; omega))]
  rw [stretch u F (4096 + 512 + 512) (512 + 512 + 1024 + 1024 + 2048 + 4096) 32 fun k hk => by
    simp only [u, F, catOf]
    rw [dif_pos (by omega), dif_neg (by omega), dif_neg (by omega), dif_neg (by omega), dif_pos (by omega), dif_pos (by omega)]
    exact congrArg f (Fin.ext (by dsimp only; omega))]
  rw [stretch u F (4096 + 512 + 512 + 32 + 992) (512 + 512 + 1024 + 1024) 2048 fun k hk => by
    simp only [u, F, catOf]
    rw [dif_pos (by omega), dif_neg (by omega), dif_neg (by omega), dif_neg (by omega), dif_neg (by omega), dif_neg (by omega), dif_pos (by omega), dif_pos (by omega)]
    exact congrArg f (Fin.ext (by dsimp only; omega))]
  rw [stretch u F (4096 + 512 + 512 + 32 + 992 + 2048) (512 + 512 + 1024 + 1024 + 2048 + 4096 + 32) 2048 fun k hk => by
    simp only [u, F, catOf]
    rw [dif_pos (by omega), dif_neg (by omega), dif_neg (by omega), dif_neg (by omega), dif_neg (by omega), dif_neg (by omega), dif_neg (by omega), dif_pos (by omega), dif_pos (by omega)]
    exact congrArg f (Fin.ext (by dsimp only; omega))]
  rw [stretch u F (4096 + 512 + 512 + 32 + 992 + 2048 + 2048) (512 + 512) 1024 fun k hk => by
    simp only [u, F, catOf]
    rw [dif_pos (by omega), dif_neg (by omega), dif_neg (by omega), dif_neg (by omega), dif_neg (by omega), dif_neg (by omega), dif_neg (by omega), dif_neg (by omega), dif_pos (by omega), dif_pos (by omega)]
    exact congrArg f (Fin.ext (by dsimp only; omega))]
  rw [stretch u F (4096 + 512 + 512 + 32 + 992 + 2048 + 2048 + 1024) (512 + 512 + 1024) 1024 fun k hk => by
    simp only [u, F, catOf]
    rw [dif_pos (by omega), dif_neg (by omega), dif_neg (by omega), dif_neg (by omega), dif_neg (by omega), dif_neg (by omega), dif_neg (by omega), dif_neg (by omega), dif_neg (by omega), dif_pos (by omega)]
    exact congrArg f (Fin.ext (by dsimp only; omega))]
  ac_rfl

/-- The `k`-th stretch of 1024 positions. -/
def chunk (f : Fin 12288 → EReal) (k : ℕ) : EReal := if h : k < 12 then ∑ q : Fin 1024, f ⟨1024 * k + q.val, by omega⟩ else 0

theorem sum_chunk (f : Fin 12288 → EReal) : ∑ k ∈ Finset.range 12, chunk f k = ∑ p, f p := by
  rw [Fin.sum_univ_tiles 12 1024 rfl f, Finset.sum_range]
  refine Finset.sum_congr rfl fun k _ => ?_
  unfold chunk
  rw [dif_pos k.isLt]
  refine Finset.sum_congr rfl fun q _ => congrArg f (Fin.ext ?_)
  show 1024 * k.val + q.val = k.val * 1024 + q.val
  omega

end Cert.In

namespace Cert.KernelInIdeal.Body

open Cert.KernelInIdeal Cert.KernelInIdeal.Gen

theorem hz : (![0, 0] : Fin 2 → Nat) = fun _ => 0 := funext fun a => by fin_cases a <;> rfl

section Cases

variable {F : FTy → Type} [FloatOps F] (c : Dev nD) (i : grid0.Coords)
  (a2 : Memref sig .tc .vmem S1024x1024 .bf16) (h2 : a2.IsWhole) (a3 : Memref sig .tc .vmem S1024x1024 .bf16) (h3 : a3.IsWhole)
  (a4 : Memref sig .tc .vmem S1024x1024 .f32) (h4 : a4.IsWhole) (a5 : Memref sig .tc .vmem S1x1024 .f32) (h5 : a5.IsWhole)
  (a6 : Memref sig .tc .vmem S1024x1024 .f32) (h6 : a6.IsWhole) (a7 : Memref sig .tc .vmem S1024x1024 .f32) (h7 : a7.IsWhole)
  (a8 : Memref sig .tc .vmem S8x1024 .f32) (h8 : a8.IsWhole) (a9 : Memref sig .tc .vmem S1024x1024 .f32) (h9 : a9.IsWhole)
  (dp w : Vec F S1024x1024 .bf16) (x : Vec F S1024x1024 .f32) (g : Vec F S1x1024 .f32) (dr : Vec F S1024x1024 .f32)
  (o : Vec F S8x1024 .f32) (s : Vec F S1024x1024 .f32)

theorem sout_A (c0 : cond0_0 i) (c1 : cond0_1 i) (c2 : ¬cond0_2 i) :
    sout0_A_0 c i a2 h2 a3 h3 a4 h4 a5 h5 a6 h6 a7 h7 a8 h8 a9 h9 c0 c1 c2 dp w x g dr = k0_pay3 k0_pay1 dp w := by
  unfold sout0_A_0
  rw [View.read_writes_eq_canon _ _ _ (scover0_A_0 c i a2 h2 a3 h3 a4 h4 a5 h5 a6 h6 a7 h7 a8 h8 a9 h9 c0 c1 c2 dp w x g dr)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S1024x1024) hz]

theorem out6_A (c0 : cond0_0 i) (c1 : cond0_1 i) (c2 : ¬cond0_2 i) :
    out0_A_6 c i a2 h2 a3 h3 a4 h4 a5 h5 a6 h6 a7 h7 a8 h8 a9 h9 c0 c1 c2 dp w x g dr = k0_pay2 := by
  unfold out0_A_6
  rw [View.read_writes_eq_canon _ _ _ (cover0_A_6 c i a2 h2 a3 h3 a4 h4 a5 h5 a6 h6 a7 h7 a8 h8 a9 h9 c0 c1 c2 dp w x g dr)]
  unfold kernelRun0_A
  dsimp only
  sl_unfold_words
  rw [View.canon_unit_zero hz]

theorem sout_D (c0 : cond0_0 i) (c1 : ¬cond0_1 i) (c2 : ¬cond0_2 i) :
    sout0_D_0 c i a2 h2 a3 h3 a4 h4 a5 h5 a6 h6 a7 h7 a8 h8 a9 h9 c0 c1 c2 dp w x g dr = k0_pay3 k0_pay1 dp w := by
  unfold sout0_D_0
  rw [View.read_writes_eq_canon _ _ _ (scover0_D_0 c i a2 h2 a3 h3 a4 h4 a5 h5 a6 h6 a7 h7 a8 h8 a9 h9 c0 c1 c2 dp w x g dr)]
  unfold kernelRun0_D
  dsimp only
  sl_unfold_words
  rw [View.canon_cons_unit_zero (S := S1024x1024) hz, View.readCov_unit_zero (S := S1024x1024) _ hz]
  simp only [View.readAt_eq_ld, h2.read_unread, h3.read_unread, View.ld_unit_zero (S := S1024x1024) hz]

theorem sout_B (c0 : ¬cond0_0 i) (c1 : ¬cond0_1 i) (c2 : ¬cond0_2 i) :
    sout0_B_0 c i a2 h2 a3 h3 a4 h4 a5 h5 a6 h6 a7 h7 a8 h8 a9 h9 c0 c1 c2 dp w x g dr s = k0_pay3 s dp w := by
  unfold sout0_B_0
  rw [View.read_writes_eq_canon _ _ _ (scover0_B_0 c i a2 h2 a3 h3 a4 h4 a5 h5 a6 h6 a7 h7 a8 h8 a9 h9 c0 c1 c2 dp w x g dr s)]
  unfold kernelRun0_B
  dsimp only
  sl_unfold_words
  rw [View.canon_unit_zero hz]
  simp only [View.readAt_eq_ld, h2.read_unread, h3.read_unread, h9.read_unread, View.ld_unit_zero (S := S1024x1024) hz]

theorem sout_C (c0 : ¬cond0_0 i) (c1 : ¬cond0_1 i) (c2 : cond0_2 i) :
    sout0_C_0 c i a2 h2 a3 h3 a4 h4 a5 h5 a6 h6 a7 h7 a8 h8 a9 h9 c0 c1 c2 dp w x g dr o s = k0_pay3 s dp w := by
  unfold sout0_C_0
  rw [View.read_writes_eq_canon _ _ _ (scover0_C_0 c i a2 h2 a3 h3 a4 h4 a5 h5 a6 h6 a7 h7 a8 h8 a9 h9 c0 c1 c2 dp w x g dr o s)]
  unfold kernelRun0_C
  dsimp only
  sl_unfold_words
  rw [View.canon_unit_zero hz]
  simp only [View.readAt_eq_ld, h2.read_unread, h3.read_unread, h9.read_unread, View.ld_unit_zero (S := S1024x1024) hz]

theorem out5_C (c0 : ¬cond0_0 i) (c1 : ¬cond0_1 i) (c2 : cond0_2 i) :
    out0_C_5 c i a2 h2 a3 h3 a4 h4 a5 h5 a6 h6 a7 h7 a8 h8 a9 h9 c0 c1 c2 dp w x g dr o s = k0_pay6 x (k0_pay3 s dp w) dr g := by
  unfold out0_C_5
  rw [View.read_writes_eq_canon _ _ _ (cover0_C_5 c i a2 h2 a3 h3 a4 h4 a5 h5 a6 h6 a7 h7 a8 h8 a9 h9 c0 c1 c2 dp w x g dr o s)]
  unfold kernelRun0_C
  dsimp only
  sl_unfold_words
  rw [View.canon_unit_zero hz, View.readCov_unit_zero (S := S1024x1024) _ hz]
  simp only [View.readAt_eq_ld, h2.read_unread, h3.read_unread, h4.read_unread, h5.read_unread, h6.read_unread, h9.read_unread,
    View.ld_unit_zero (S := S1024x1024) hz, View.ld_unit_zero (S := S1x1024) hz]

theorem out6_C (c0 : ¬cond0_0 i) (c1 : ¬cond0_1 i) (c2 : cond0_2 i) :
    out0_C_6 c i a2 h2 a3 h3 a4 h4 a5 h5 a6 h6 a7 h7 a8 h8 a9 h9 c0 c1 c2 dp w x g dr o s = k0_pay5 x (k0_pay3 s dp w) o := by
  unfold out0_C_6
  rw [View.read_writes_eq_canon _ _ _ (cover0_C_6 c i a2 h2 a3 h3 a4 h4 a5 h5 a6 h6 a7 h7 a8 h8 a9 h9 c0 c1 c2 dp w x g dr o s)]
  unfold kernelRun0_C
  dsimp only
  sl_unfold_words
  rw [View.canon_unit_zero hz, View.readCov_unit_zero (S := S1024x1024) _ hz]
  simp only [View.readAt_eq_ld, h2.read_unread, h3.read_unread, h4.read_unread, h8.read_unread, h9.read_unread,
    View.ld_unit_zero (S := S1024x1024) hz, View.ld_unit_zero (S := S8x1024) hz]

theorem out6_D (c0 : cond0_0 i) (c1 : ¬cond0_1 i) (c2 : ¬cond0_2 i) :
    out0_D_6 c i a2 h2 a3 h3 a4 h4 a5 h5 a6 h6 a7 h7 a8 h8 a9 h9 c0 c1 c2 dp w x g dr o = o := rfl
theorem out6_B (c0 : ¬cond0_0 i) (c1 : ¬cond0_1 i) (c2 : ¬cond0_2 i) :
    out0_B_6 c i a2 h2 a3 h3 a4 h4 a5 h5 a6 h6 a7 h7 a8 h8 a9 h9 c0 c1 c2 dp w x g dr s o = o := rfl

end Cases

/-! ## The body's values at an index -/

section Values

open Cert.Norm

variable (x du dr s : Vec Ideal S1024x1024 .f32) (dp w : Vec Ideal S1024x1024 .bf16) (g : Vec Ideal S1x1024 .f32) (o : Vec Ideal S8x1024 .f32)

theorem pay1_apply (a b : Fin 1024) : k0_pay1 (F := Ideal) (ix2 a b) = 0 := by pointwise [k0_pay1]
theorem pay2_apply (a : Fin 8) (b : Fin 1024) : k0_pay2 (F := Ideal) (ix2 a b) = 0 := by pointwise [k0_pay2]
theorem pay3_apply (a b : Fin 1024) : k0_pay3 (F := Ideal) s dp w (ix2 a b)
    = s (ix2 a b) + ∑ q : Fin 1024, dp (ix2 a q) * w (ix2 q b) := by
  pointwise [k0_pay3]
theorem pay5_apply (a : Fin 8) (b : Fin 1024) : k0_pay5 (F := Ideal) x du o (ix2 a b)
    = o (ix2 a b) + ∑ r : Fin 1024, du (ix2 r b) * (x (ix2 r b) * rstd fun k => x (ix2 r k)) := by
  pointwise [k0_pay5, k0_pay4]
  rfl
theorem pay6_apply (a b : Fin 1024) : k0_pay6 (F := Ideal) x du dr g (ix2 a b)
    = dr (ix2 a b) + kbwd (fun k => x (ix2 a k)) (fun k => du (ix2 a k) * g (ix2 0 k)) b := by
  pointwise [k0_pay6, k0_pay4]
  rfl

end Values

end Cert.KernelInIdeal.Body

/-! ## The two arrays after the run -/

namespace Cert.KernelInIdeal.Whole

open Cert.KernelInIdeal Cert.KernelInIdeal.Gen Cert.KernelInIdeal.Body Cert.In Cert.Norm

/-- The columns of the projection in the kernel's order, with 992 zero columns after the 32 step sizes. -/
abbrev catRows (x : FVec Ideal S4096x11296 .f32) : FVec Ideal S4096x12288 .bf16 :=
  let t : FVec Ideal S11296x4096 .bf16 := transpose S11296x4096 [1, 0] (truncf .bf16 x bitsLt_bf16_f32) transposes_S4096x11296_S11296x4096_1_0
  transpose S4096x12288 [1, 0] (concatenate S12288x4096 0
    [⟨S4096x4096, extractStridedSlice S4096x4096 ![5120, 0] t slices_S11296x4096_S4096x4096_5120_0⟩,
      ⟨S512x4096, extractStridedSlice S512x4096 ![0, 0] t slices_S11296x4096_S512x4096_0_0⟩,
      ⟨S512x4096, extractStridedSlice S512x4096 ![512, 0] t slices_S11296x4096_S512x4096_512_0⟩,
      ⟨S32x4096, extractStridedSlice S32x4096 ![9216, 0] t slices_S11296x4096_S32x4096_9216_0⟩,
      ⟨S992x4096, broadcastInDim S992x4096 ![] bcast_S_S992x4096 (constant S_ FTy.bf16 0#16)⟩,
      ⟨S2048x4096, extractStridedSlice S2048x4096 ![3072, 0] t slices_S11296x4096_S2048x4096_3072_0⟩,
      ⟨S2048x4096, extractStridedSlice S2048x4096 ![9248, 0] t slices_S11296x4096_S2048x4096_9248_0⟩,
      ⟨S1024x4096, extractStridedSlice S1024x4096 ![1024, 0] t slices_S11296x4096_S1024x4096_1024_0⟩,
      ⟨S1024x4096, extractStridedSlice S1024x4096 ![2048, 0] t slices_S11296x4096_S1024x4096_2048_0⟩]
    concatenates_S4096x4096_S512x4096_S512x4096_S32x4096_S992x4096_S2048x4096_S2048x4096_S1024x4096_S1024x4096_S12288x4096_d0)
    transposes_S12288x4096_S4096x12288_1_0

/-- The projection's matrix, its columns in the kernel's order as rows. -/
abbrev catW (x : FVec Ideal S1024x11296 .f32) : FVec Ideal S12288x1024 .bf16 :=
  let t : FVec Ideal S11296x1024 .bf16 := transpose S11296x1024 [1, 0] (truncf .bf16 x bitsLt_bf16_f32) transposes_S1024x11296_S11296x1024_1_0
  concatenate S12288x1024 0
    [⟨S4096x1024, extractStridedSlice S4096x1024 ![5120, 0] t slices_S11296x1024_S4096x1024_5120_0⟩,
      ⟨S512x1024, extractStridedSlice S512x1024 ![0, 0] t slices_S11296x1024_S512x1024_0_0⟩,
      ⟨S512x1024, extractStridedSlice S512x1024 ![512, 0] t slices_S11296x1024_S512x1024_512_0⟩,
      ⟨S32x1024, extractStridedSlice S32x1024 ![9216, 0] t slices_S11296x1024_S32x1024_9216_0⟩,
      ⟨S992x1024, broadcastInDim S992x1024 ![] bcast_S_S992x1024 (constant S_ FTy.bf16 0#16)⟩,
      ⟨S2048x1024, extractStridedSlice S2048x1024 ![3072, 0] t slices_S11296x1024_S2048x1024_3072_0⟩,
      ⟨S2048x1024, extractStridedSlice S2048x1024 ![9248, 0] t slices_S11296x1024_S2048x1024_9248_0⟩,
      ⟨S1024x1024, extractStridedSlice S1024x1024 ![1024, 0] t slices_S11296x1024_S1024x1024_1024_0⟩,
      ⟨S1024x1024, extractStridedSlice S1024x1024 ![2048, 0] t slices_S11296x1024_S1024x1024_2048_0⟩]
    concatenates_S4096x1024_S512x1024_S512x1024_S32x1024_S992x1024_S2048x1024_S2048x1024_S1024x1024_S1024x1024_S12288x1024_d0

set_option maxRecDepth 200000 in
theorem catRows_apply (x : FVec Ideal S4096x11296 .f32) (r : Fin 4096) (p : Fin 12288) :
    catRows x (ix2 r p) = catOf (fun q => x (ix2 r q)) p := by
  unfold catRows
  dsimp only
  pointwise
  rfl

set_option maxRecDepth 200000 in
theorem catW_apply (x : FVec Ideal S1024x11296 .f32) (p : Fin 12288) (b : Fin 1024) :
    catW x (ix2 p b) = catOf (fun q => x (ix2 b q)) p := by
  unfold catW
  dsimp only
  pointwise
  rfl

variable (m : (ℓ : Loc nD τ sig) → Buf (Elt Ideal) ℓ) (c : Dev nD)

theorem V_v24 : V m c main_v24 = catRows (m ((c : Thread nD τ).loc main_arg0)) := by
  dsimp only [V, hostOps0]
  after_reads_simp
  rfl
theorem V_v11 : V m c main_v11 = catW (m ((c : Thread nD τ).loc main_arg1)) := by
  dsimp only [V, hostOps0]
  after_reads_simp
  rfl
theorem V_v25 (b : Fin 1024) : (V m c main_v25 : Vec Ideal S1x1024 .f32) (ix2 0 b) = m ((c : Thread nD τ).loc main_arg3) (ix1 b) := by
  dsimp only [V, hostOps0]
  after_reads_simp
  pointwise

abbrev dpRow (r : Fin 4096) : Fin 11296 → EReal := fun q => m ((c : Thread nD τ).loc main_arg0) (ix2 r q)
abbrev wRow (b : Fin 1024) : Fin 11296 → EReal := fun q => m ((c : Thread nD τ).loc main_arg1) (ix2 b q)
abbrev xRow (r : Fin 4096) : Fin 1024 → EReal := fun k => m ((c : Thread nD τ).loc main_arg2) (ix2 r k)
abbrev gRow : Fin 1024 → EReal := fun k => m ((c : Thread nD τ).loc main_arg3) (ix1 k)
abbrev rRow (r : Fin 4096) : Fin 1024 → EReal := fun k => m ((c : Thread nD τ).loc main_arg4) (ix2 r k)

/-- The products whose sum is the normed row's gradient. -/
def prods (r : Fin 4096) (b : Fin 1024) (p : Fin 12288) : EReal := catOf (fun q => dpRow m c r q * wRow m c b q) p
/-- The normed row's gradient. -/
def du (r : Fin 4096) (b : Fin 1024) : EReal := ∑ q, dpRow m c r q * wRow m c b q

theorem sum_prods (r : Fin 4096) (b : Fin 1024) : ∑ k ∈ Finset.range 12, chunk (prods m c r b) k = du m c r b := by
  rw [sum_chunk]; exact sum_catOf _

/-- Row `a` of the block of point `n`. -/
def row (n : ℕ) (hn : n < 48) (a : Fin 1024) : Fin 4096 := ⟨1024 * (n / 12) + a.val, by omega⟩

theorem lt48 (t : Fin cfg0.N) : t.val < 48 := by have := t.isLt; have h : cfg0.N = 48 := N_0; omega

theorem idx0 : ∀ t : Fin cfg0.N, win0_0.index t (0 : Fin 2) = t.val / 12 ∧ win0_0.index t (1 : Fin 2) = t.val % 12 :=
  (by decide +kernel : ∀ t : Fin grid0.N, _)
theorem idx1 : ∀ t : Fin cfg0.N, win0_1.index t (0 : Fin 2) = t.val % 12 ∧ win0_1.index t (1 : Fin 2) = 0 :=
  (by decide +kernel : ∀ t : Fin grid0.N, _)
theorem idx2 : ∀ t : Fin cfg0.N, win0_2.index t (0 : Fin 2) = t.val / 12 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val / 12 ∧ win0_4.index t (1 : Fin 2) = 0 :=
  (by decide +kernel : ∀ t : Fin grid0.N, _)

theorem iblk0 (t : Fin cfg0.N) (e q : Fin 1024) : (iblk m c 0 t : Vec Ideal S1024x1024 .bf16) (ix2 e q)
    = catOf (dpRow m c (row t.val (lt48 t) e)) ⟨1024 * (t.val % 12) + q.val, by omega⟩ := by
  refine Eq.trans ?_ (catRows_apply _ _ _)
  rw [← V_v24]
  unfold iblk
  rw [View.read_apply]
  show V m c main_v24 _ = V m c main_v24 _
  congr 1
  funext a
  apply Fin.ext
  match a with
  | ⟨0, _⟩ => show win0_0.index t 0 * 1024 + 1 * e.val = 1024 * (t.val / 12) + e.val; rw [(idx0 t).1]; omega
  | ⟨1, _⟩ => show win0_0.index t 1 * 1024 + 1 * q.val = 1024 * (t.val % 12) + q.val; rw [(idx0 t).2]; omega

theorem iblk1 (t : Fin cfg0.N) (q b : Fin 1024) : (iblk m c 1 t : Vec Ideal S1024x1024 .bf16) (ix2 q b)
    = catOf (wRow m c b) ⟨1024 * (t.val % 12) + q.val, by omega⟩ := by
  refine Eq.trans ?_ (catW_apply _ _ _)
  rw [← V_v11]
  unfold iblk
  rw [View.read_apply]
  show V m c main_v11 _ = V m c main_v11 _
  congr 1
  funext a
  apply Fin.ext
  match a with
  | ⟨0, _⟩ => show win0_1.index t 0 * 1024 + 1 * q.val = 1024 * (t.val % 12) + q.val; rw [(idx1 t).1]; omega
  | ⟨1, _⟩ => show win0_1.index t 1 * 1024 + 1 * b.val = b.val; rw [(idx1 t).2]; omega

theorem iblk2 (t : Fin cfg0.N) (e b : Fin 1024) : (iblk m c 2 t : Vec Ideal S1024x1024 .f32) (ix2 e b)
    = xRow m c (row t.val (lt48 t) e) b := by
  unfold iblk
  rw [View.read_apply]
  show V m c main_arg2 _ = _
  rw [V_main_arg2]
  unfold xRow
  congr 1
  funext a
  apply Fin.ext
  match a with
  | ⟨0, _⟩ => show win0_2.index t 0 * 1024 + 1 * e.val = 1024 * (t.val / 12) + e.val; rw [(idx2 t).1]; omega
  | ⟨1, _⟩ => show win0_2.index t 1 * 1024 + 1 * b.val = b.val; rw [(idx2 t).2]; omega

theorem iblk3 (t : Fin cfg0.N) (b : Fin 1024) : (iblk m c 3 t : Vec Ideal S1x1024 .f32) (ix2 0 b) = gRow m c b := by
  refine Eq.trans ?_ (V_v25 m c b)
  unfold iblk
  rw [View.read_apply]
  show V m c main_v25 _ = V m c main_v25 _
  congr 1
  funext a
  apply Fin.ext
  match a with
  | ⟨0, _⟩ => show win0_3.index t 0 * 1 + 1 * 0 = 0; rw [(idx3 t).1]
  | ⟨1, _⟩ => show win0_3.index t 1 * 1024 + 1 * b.val = b.val; rw [(idx3 t).2]; omega

theorem iblk4 (t : Fin cfg0.N) (e b : Fin 1024) : (iblk m c 4 t : Vec Ideal S1024x1024 .f32) (ix2 e b)
    = rRow m c (row t.val (lt48 t) e) b := by
  unfold iblk
  rw [View.read_apply]
  show V m c main_arg4 _ = _
  rw [V_main_arg4]
  unfold rRow
  congr 1
  funext a
  apply Fin.ext
  match a with
  | ⟨0, _⟩ => show win0_4.index t 0 * 1024 + 1 * e.val = 1024 * (t.val / 12) + e.val; rw [(idx4 t).1]; omega
  | ⟨1, _⟩ => show win0_4.index t 1 * 1024 + 1 * b.val = b.val; rw [(idx4 t).2]; omega

/-- What one point adds to the carried sum. -/
theorem step (t : Fin cfg0.N) (s : Vec Ideal S1024x1024 .f32) (a b : Fin 1024) :
    k0_pay3 (F := Ideal) s (iblk m c 0 t) (iblk m c 1 t) (ix2 a b)
      = s (ix2 a b) + chunk (prods m c (row t.val (lt48 t) a) b) (t.val % 12) := by
  rw [pay3_apply]
  refine congrArg _ ?_
  unfold chunk
  rw [dif_pos (by omega)]
  refine Finset.sum_congr rfl fun q _ => ?_
  rw [iblk0, iblk1, catOf_mul]
  rfl

/-- The gain's gradient from the rows of block `i`. -/
def dgT (b : Fin 1024) (i : ℕ) : EReal :=
  if h : i < 4 then ∑ r : Fin 1024, du m c ⟨1024 * i + r.val, by omega⟩ b
    * (xRow m c ⟨1024 * i + r.val, by omega⟩ b * rstd (xRow m c ⟨1024 * i + r.val, by omega⟩)) else 0

/-- The carried sum and the gain's gradient after each point. -/
theorem outs (n : ℕ) (h : n < cfg0.N) (h48 : n < 48) :
    (∀ a b : Fin 1024, (outsAt0 m c n h).2.2 (ix2 a b) = ∑ k ∈ Finset.range (n % 12 + 1), chunk (prods m c (row n h48 a) b) k)
    ∧ (∀ (a : Fin 8) (b : Fin 1024), (outsAt0 m c n h).2.1 (ix2 a b) = ∑ i ∈ Finset.range ((n + 1) / 12), dgT m c b i) := by
  induction n with
  | zero =>
    rw [outsAt0_A m c ⟨0, h⟩ rfl rfl (by dsimp only; omega)]
    dsimp only
    refine ⟨fun a b => ?_, fun a b => ?_⟩
    · rw [sout_A, step, pay1_apply, zero_add]
      exact (Finset.sum_range_one _).symm
    · rw [out6_A, pay2_apply]; rfl
  | succ n ih =>
    obtain ⟨i1, i2⟩ := ih (by omega) (by omega)
    by_cases h0 : (n + 1) % 12 = 0
    · rw [outsAt0_D m c ⟨n + 1, h⟩ h0 (by dsimp only; omega) (by dsimp only; omega)]
      dsimp only
      refine ⟨fun a b => ?_, fun a b => ?_⟩
      · rw [sout_D, step, pay1_apply, zero_add, h0]
        exact (Finset.sum_range_one (chunk (prods m c (row (n + 1) h48 a) b))).symm
      · rw [out6_D, show (n + 1 + 1) / 12 = (n + 1) / 12 by omega]
        exact i2 a b
    · have hs : ∀ a b : Fin 1024, (outsAt0 m c n (by omega)).2.2 (ix2 a b) + chunk (prods m c (row (n + 1) h48 a) b) ((n + 1) % 12)
          = ∑ k ∈ Finset.range ((n + 1) % 12 + 1), chunk (prods m c (row (n + 1) h48 a) b) k := fun a b => by
        rw [i1, Finset.sum_range_succ _ ((n + 1) % 12), show (n + 1) % 12 = n % 12 + 1 by omega,
          show row (n + 1) h48 a = row n (by omega) a from Fin.ext (by show 1024 * _ + _ = 1024 * _ + _; omega)]
      by_cases h2 : (n + 1) % 12 = 11
      · rw [outsAt0_C m c ⟨n + 1, h⟩ h0 (by dsimp only; omega) h2]
        dsimp only
        refine ⟨fun a b => ?_, fun a b => ?_⟩
        · rw [sout_C, step]; exact hs a b
        · rw [out6_C, pay5_apply, show (n + 1 + 1) / 12 = (n + 1) / 12 + 1 by omega, Finset.sum_range_succ]
          refine congrArg₂ (· + ·) (i2 a b) ?_
          unfold dgT
          rw [dif_pos (by omega)]
          refine Finset.sum_congr rfl fun r _ => ?_
          rw [step, show (fun k => (iblk m c 2 ⟨n + 1, h⟩ : Vec Ideal S1024x1024 .f32) (ix2 r k)) = _ from funext fun k => iblk2 m c _ r k, iblk2]
          refine congrArg (· * _) ((hs r b).trans ?_)
          rw [h2]
          exact sum_prods m c _ b
      · rw [outsAt0_B m c ⟨n + 1, h⟩ h0 (by dsimp only; omega) h2]
        dsimp only
        refine ⟨fun a b => ?_, fun a b => ?_⟩
        · rw [sout_B, step]; exact hs a b
        · rw [out6_B, show (n + 1 + 1) / 12 = (n + 1) / 12 by omega]; exact i2 a b

/-- The stream's gradient at the points that write it. -/
theorem outs5 (n : ℕ) (h : n < cfg0.N) (h48 : n < 48) (h11 : n % 12 = 11) (a b : Fin 1024) :
    (outsAt0 m c n h).1 (ix2 a b) = rRow m c (row n h48 a) b + kbwd (xRow m c (row n h48 a)) (fun k => du m c (row n h48 a) k * gRow m c k) b := by
  have e := outsAt0_C m c ⟨n, h⟩ (by dsimp only; omega) (by dsimp only; omega) h11
  have hs : ∀ b, k0_pay3 (F := Ideal) (outsAt0 m c (n - 1) (Nat.lt_of_le_of_lt (Nat.sub_le _ _) h)).2.2 (iblk m c 0 ⟨n, h⟩) (iblk m c 1 ⟨n, h⟩) (ix2 a b)
      = du m c (row n h48 a) b := fun b => by
    have hb := (outs m c n h h48).1 a b
    rw [h11, sum_prods] at hb
    refine Eq.trans ?_ hb
    rw [show outsAt0 m c n h = _ from e]
    dsimp only
    rw [sout_C]
  rw [show outsAt0 m c n h = _ from e]
  dsimp only
  rw [out5_C, pay6_apply, iblk4]
  simp only [hs, iblk2, iblk3]

/-- The two result arrays. -/
def dxArr : FVec Ideal S4096x1024 .f32 := fun j =>
  rRow m c (j 0) (j 1) + kbwd (xRow m c (j 0)) (fun k => du m c (j 0) k * gRow m c k) (j 1)
def dgArr : FVec Ideal S8x1024 .f32 := fun j => ∑ r, du m c r (j 1) * (xRow m c r (j 1) * rstd (xRow m c r))

theorem G5_eq : Value.G5 m c = dxArr m c := by
  funext j
  idx_vars j
  unfold Value.G5
  have hp : Value.pt5Of (ix2 j0 j1) = 12 * (j0.val / 1024) + 11 := by
    show 12 * (1 * (j0.val / 1024 - 0) + 1 * (j1.val / 1024 - 0)) + 11 = _; omega
  have h48 : Value.pt5Of (ix2 j0 j1) < 48 := by rw [hp]; omega
  have hN : cfg0.N = 48 := N_0
  rw [dif_pos (by omega)]
  have := outs5 m c (Value.pt5Of (ix2 j0 j1)) (by omega) h48 (by omega) ⟨j0.val % 1024, by omega⟩ j1
  rw [Value.outsAt0_sweep] at this
  have e : row (Value.pt5Of (ix2 j0 j1)) h48 ⟨j0.val % 1024, by omega⟩ = j0 := Fin.ext (by show 1024 * (_ / 12) + j0.val % 1024 = j0.val; rw [hp]; omega)
  rw [e] at this
  refine Eq.trans (congrArg _ ?_) this
  funext d
  match d with
  | ⟨0, _⟩ => rfl
  | ⟨1, _⟩ => exact Fin.ext (show j1.val % 1024 = j1.val by omega)

theorem G6_eq : Value.G6 m c = dgArr m c := by
  have hN : cfg0.N = 48 := N_0
  rw [Value.G6_last, ← Value.outsAt0_sweep m c 47 (by omega)]
  funext j
  refine (congrArg _ (show j = ix2 (j 0) (j 1) by idx_vars j; rfl)).trans (((outs m c 47 (by omega) (by omega)).2 (j 0) (j 1)).trans ?_)
  unfold dgArr
  rw [Fin.sum_univ_tiles 4 1024 rfl, Finset.sum_range]
  refine Finset.sum_congr rfl fun i _ => ?_
  unfold dgT
  rw [dif_pos i.isLt]
  refine Finset.sum_congr rfl fun r _ => ?_
  rw [show (⟨1024 * i.val + r.val, by omega⟩ : Fin 4096) = ⟨i.val * 1024 + r.val, by omega⟩ from Fin.ext (by dsimp only; omega)]

end Cert.KernelInIdeal.Whole

namespace Cert.Proof.In

theorem frame_k : Cert.quiescent_KernelIn := fun m ρ _ => Cert.KernelIn.Gen.frame m ρ
theorem frame_ki : Cert.quiescent_KernelInIdeal := fun m ρ _ => Cert.KernelInIdeal.Gen.frame m ρ
theorem frame_kip : Cert.quiescent_KernelInIdeal_pre_finite_in := fun m ρ _ => Cert.KernelInIdeal.Gen.frame m ρ
theorem frame_ri : Cert.quiescent_ReferenceInIdeal := fun m ρ _ =>
  (θ_run Cert.ReferenceInIdeal.defs _ _).mono (fun r h => ⟨fun c => (h c).2.2, sem_eq_zero_of_no_sems (by decide) r.2⟩)
    (Cert.ReferenceInIdeal.Value.run (F := Ideal) m ρ)
theorem frame_rip : Cert.quiescent_ReferenceInIdeal_pre_finite_in := fun m ρ _ => frame_ri m ρ trivial

section Reference

open Cert.ReferenceInIdeal

variable (m : (ℓ : Loc nD τ sig) → Buf (Elt Ideal) ℓ) (c : Dev nD) (p : FVec Ideal S4096x11296 .f32) (w : FVec Ideal S1024x11296 .f32)
  (x : FVec Ideal S4096x1024 .f32) (g : FVec Ideal S1024 .f32) (d : FVec Ideal S4096x1024 .f32)

/-- The reference's gradient of the stream, at an index. -/
theorem ref_dx (h0 : m (c.tc.loc main_arg0) = p) (h1 : m (c.tc.loc main_arg1) = w) (h2 : m (c.tc.loc main_arg2) = x)
    (h3 : m (c.tc.loc main_arg3) = g) (h4 : m (c.tc.loc main_arg4) = d) (a : Fin 4096) (b : Fin 1024) :
    (Value.res_main_v38 m c : FVec Ideal S4096x1024 .f32) (ix2 a b)
      = d (ix2 a b) + Norm.rbwd (fun k => x (ix2 a k)) (fun k => (∑ q, p (ix2 a q) * w (ix2 k q)) * g (ix1 k)) b := by
  unfold Value.res_main_v38
  rw [h0, h1, h2, h3, h4]
  clear h0 h1 h2 h3 h4
  pointwise
  simp only [Norm.rbwd, ← add_assoc, Fin.sum_univ_one]
  rfl

end Reference

open Cert.KernelInIdeal.Whole in
/-- The arguments that the claim needs real. -/
theorem real_of_pre (m : (ℓ : Loc Cert.KernelInIdeal.nD Cert.KernelInIdeal.τ Cert.KernelInIdeal.sig) → Buf (Elt Ideal) ℓ)
    (hp : Cert.Pre_KernelInIdeal_finite_in m) (c : Dev Cert.KernelInIdeal.nD) :
    (∀ r k, Norm.IsReal (xRow m c r k)) ∧ (∀ r k, Norm.IsReal (du m c r k * gRow m c k)) := by
  obtain ⟨h123, h4⟩ := Norm.andi_one (congrFun (hp c) (fun a => a.elim0))
  obtain ⟨h12, h3⟩ := Norm.andi_one h123
  obtain ⟨h1, h2⟩ := Norm.andi_one h12
  exact ⟨fun r k => Norm.isReal_of_all h3 _,
    fun r k => (Norm.IsReal.sum fun q => (Norm.isReal_of_all h1 _).mul (Norm.isReal_of_all h2 _)).mul (Norm.isReal_of_all h4 _)⟩

open Cert.KernelInIdeal.Whole in
/-- The kernel's two results are the reference's, at every finite input. -/
theorem value : Cert.algebraic_KernelInIdeal_ReferenceInIdeal_pre_finite_in := by
  intro m g m' g' hp ha
  refine ⟨fun c => dxArr m c, fun c => dgArr m c,
    (θ_run _ _ _).mono (fun r h c => ?_) (Cert.KernelInIdeal.Value.run m g),
    (θ_run _ _ _).mono (fun r h c => ?_) (Cert.ReferenceInIdeal.Value.run m' g')⟩
  · obtain ⟨h5, h6, hk⟩ := h c
    exact ⟨h5.trans (G5_eq m c), h6.trans (G6_eq m c), hk⟩
  · obtain ⟨h5, h6, hk⟩ := h c
    obtain ⟨e0, e1, e2, e3, e4⟩ := ha c
    obtain ⟨rx, rd⟩ := real_of_pre m hp c
    refine ⟨h5.trans ?_, h6.trans ?_, hk⟩
    · clear h h5 h6 hk ha
      funext j
      idx_vars j
      refine (ref_dx m' c _ _ _ _ _ e0 e1 e2 e3 e4 _ _).trans ?_
      exact congrArg _ (Norm.rbwd_eq_kbwd (rx _) (rd _) _)
    · rw [e0, e1, e2]
      clear h h5 h6 e0 e1 e2 e3 e4 hk ha
      funext j
      idx_vars j
      pointwise
      rw [Fin.sum_univ_one]
      exact Finset.sum_congr rfl fun r _ => mul_comm _ _

end Cert.Proof.In
-- ==== Proof.Mem.lean ====
/-
  The memory's norm and key/value projection, backward: the kernel's two results are the reference's at every index.
  One grid point, every window the whole array; the four column blocks of the key/value gradient against the four
  column blocks of the projection are the reference's one product of 2048 columns.
-/
module

public import proofs.«01_k».proof.Defs
public import proofs.«01_k».proof.Proof.Norm
public import proofs.«01_k».proof.Proof.Gen.KernelMem
public import proofs.«01_k».proof.Proof.Gen.KernelMem.Frame
public import proofs.«01_k».proof.Proof.Gen.KernelMemIdeal
public import proofs.«01_k».proof.Proof.Gen.KernelMemIdeal.Frame
public import proofs.«01_k».proof.Proof.Gen.KernelMemIdeal.Value
public import proofs.«01_k».proof.Proof.Gen.ReferenceMemIdeal
public import proofs.«01_k».proof.Proof.Gen.ReferenceMemIdeal.Run
public import Idealize.ShloMosaic.Lib.Pointwise
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelMemIdeal.Whole

open Cert.KernelMemIdeal Cert.KernelMemIdeal.Gen

/-- The projection's weights as the kernel takes them: four column blocks, the block index first. -/
abbrev wblocks (w : FVec Ideal S1024x2048 .f32) : FVec Ideal S4x1024x512 .bf16 :=
  transpose S4x1024x512 [1, 0, 2]
    (shapeCast S1024x4x512 (truncf .bf16 w bitsLt_bf16_f32) shapeCasts_S1024x2048_S1024x4x512)
    transposes_S1024x4x512_S4x1024x512_1_0_2

/-- The gain as the kernel takes it: one row. -/
abbrev grow (g : FVec Ideal S1024 .f32) : FVec Ideal S1x1024 .f32 := broadcastInDim S1x1024 ![1] bcast_S1024_S1x1024_1 g

theorem hz : (![0, 0] : Fin 2 → Nat) = fun _ => 0 := funext fun a => by fin_cases a <;> rfl

/-- The normalised memory at a row and a column. -/
def memn (x : FVec Ideal S256x1024 .f32) (g : FVec Ideal S1024 .f32) (r : Fin 256) (b : Fin 1024) : EReal :=
  x (ix2 r b) * Norm.rstd (fun k => x (ix2 r k)) * g (ix1 b)

/-- The gain's gradient at a column: the normalised memory's gradient times the normalised rows, summed over the rows. -/
def dgain (x : FVec Ideal S256x1024 .f32) (d : FVec Ideal S256x2048 .f32) (w : FVec Ideal S1024x2048 .f32) (b : Fin 1024) : EReal :=
  ∑ r : Fin 256, (x (ix2 r b) * Norm.rstd (fun k => x (ix2 r k))) * ∑ k : Fin 2048, d (ix2 r k) * w (ix2 b k)

/-- A sum over 2048 positions, in four stretches of 512. -/
theorem sum_four (f : Fin 2048 → EReal) : ∑ k, f k
    = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [Fin.sum_univ_two_halves 1536 512 rfl, Fin.sum_univ_two_halves 1024 512 rfl, Fin.sum_univ_two_halves 512 512 rfl]

/-- The gain's gradient as the body leaves it. -/
theorem out5_apply (x : FVec Ideal S256x1024 .f32) (g : FVec Ideal S1024 .f32) (d : FVec Ideal S256x2048 .f32)
    (w : FVec Ideal S1024x2048 .f32) (a : Fin 8) (b : Fin 1024) :
    out0_5 (F := Ideal) x (grow g) d (wblocks w) (ix2 a b) = dgain x d w b := by
  unfold out0_5
  rw [View.canon_unit_zero hz]
  pointwise [k0_pay1, k0_pay2, k0_pay4, k0_pay5, k0_pay6]
  refine Finset.sum_congr rfl fun r _ => ?_
  rw [mul_comm, sum_four]
  rfl

/-- The normalised memory as the body leaves it. -/
theorem out4_apply (x : FVec Ideal S256x1024 .f32) (g : FVec Ideal S1024 .f32) (d : FVec Ideal S256x2048 .f32)
    (w : FVec Ideal S1024x2048 .f32) (a : Fin 256) (b : Fin 1024) :
    out0_4 (F := Ideal) x (grow g) d (wblocks w) (ix2 a b) = memn x g a b := by
  unfold out0_4
  rw [View.canon_unit_zero hz]
  pointwise [k0_pay2, k0_pay3]
  rfl

variable (m : (ℓ : Loc nD τ sig) → Buf (Elt Ideal) ℓ) (ρ : Dev nD → PrngReg)

/-- What the region finds in the weights' array and in the gain's. -/
theorem V_v2 (c : Dev nD) : V m c main_v2 = wblocks (m ((c : Thread nD τ).loc main_arg3)) := by
  dsimp only [V, hostOps0]; after_results_simp <;> rfl

theorem V_v3 (c : Dev nD) : V m c main_v3 = grow (m ((c : Thread nD τ).loc main_arg1)) := by
  dsimp only [V, hostOps0]; after_results_simp <;> rfl

/-- The one point's blocks are the whole arrays. -/
theorem iblk0 (c : Dev nD) (t : Fin cfg0.N) : (iblk m c 0 t : Vec Ideal S256x1024 .f32) = m ((c : Thread nD τ).loc main_arg0) := by
  obtain rfl := fin_N0 t
  rw [← V_main_arg0 m c]
  exact Memref.read_access_unit_zero (Elt Ideal) main_arg0 (funext fun a => by fin_cases a <;> rfl) _ _

theorem iblk1 (c : Dev nD) (t : Fin cfg0.N) : (iblk m c 1 t : Vec Ideal S1x1024 .f32) = grow (m ((c : Thread nD τ).loc main_arg1)) := by
  obtain rfl := fin_N0 t
  rw [← V_v3 m c]
  exact Memref.read_access_unit_zero (Elt Ideal) main_v3 (funext fun a => by fin_cases a <;> rfl) _ _

theorem iblk2 (c : Dev nD) (t : Fin cfg0.N) : (iblk m c 2 t : Vec Ideal S256x2048 .f32) = m ((c : Thread nD τ).loc main_arg2) := by
  obtain rfl := fin_N0 t
  rw [← V_main_arg2 m c]
  exact Memref.read_access_unit_zero (Elt Ideal) main_arg2 (funext fun a => by fin_cases a <;> rfl) _ _

theorem iblk3 (c : Dev nD) (t : Fin cfg0.N) : (iblk m c 3 t : Vec Ideal S4x1024x512 .bf16) = wblocks (m ((c : Thread nD τ).loc main_arg3)) := by
  obtain rfl := fin_N0 t
  rw [← V_v2 m c]
  exact Memref.read_access_unit_zero (Elt Ideal) main_v2 (funext fun a => by fin_cases a <;> rfl) _ _

/-- The two result arrays after the run. -/
abbrev memnArr (x : FVec Ideal S256x1024 .f32) (g : FVec Ideal S1024 .f32) : FVec Ideal S256x1024 .bf16 := fun j => memn x g (j 0) (j 1)
abbrev dgArr (x : FVec Ideal S256x1024 .f32) (d : FVec Ideal S256x2048 .f32) (w : FVec Ideal S1024x2048 .f32) : FVec Ideal S8x1024 .f32 := fun j => dgain x d w (j 1)

theorem final4 (c : Dev nD) : (dats m 0 c).arrAt 4 cfg0.N
    = memnArr (m ((c : Thread nD τ).loc main_arg0)) (m ((c : Thread nD τ).loc main_arg1)) := by
  have h := Value.blocks4 m c t0_0 (flush0_4 _)
  rw [Value.flushed4, iblk0, iblk1, iblk2, iblk3] at h
  refine ((Memref.read_access_unit_zero (Elt Ideal) main_v4_0 (funext fun a => by fin_cases a <;> rfl) _ _).symm.trans h).trans ?_
  funext j
  exact (congrArg _ (by idx_vars j; rfl)).trans (out4_apply _ _ _ _ (j 0) (j 1))

theorem final5 (c : Dev nD) : (dats m 0 c).arrAt 5 cfg0.N
    = dgArr (m ((c : Thread nD τ).loc main_arg0)) (m ((c : Thread nD τ).loc main_arg2)) (m ((c : Thread nD τ).loc main_arg3)) := by
  have h := Value.blocks5 m c t0_0 (flush0_5 _)
  rw [Value.flushed5, iblk0, iblk1, iblk2, iblk3] at h
  refine ((Memref.read_access_unit_zero (Elt Ideal) main_v4_1 (funext fun a => by fin_cases a <;> rfl) _ _).symm.trans h).trans ?_
  funext j
  exact (congrArg _ (by idx_vars j; rfl)).trans (out5_apply _ _ _ _ (j 0) (j 1))

end Cert.KernelMemIdeal.Whole

namespace Cert.Proof.Mem

theorem frame_k : Cert.quiescent_KernelMem := fun m ρ _ => Cert.KernelMem.Gen.frame m ρ
theorem frame_ki : Cert.quiescent_KernelMemIdeal := fun m ρ _ => Cert.KernelMemIdeal.Gen.frame m ρ
theorem frame_ri : Cert.quiescent_ReferenceMemIdeal := fun m ρ _ =>
  (θ_run Cert.ReferenceMemIdeal.defs _ _).mono (fun r h => ⟨fun c => (h c).2.2, sem_eq_zero_of_no_sems (by decide) r.2⟩)
    (Cert.ReferenceMemIdeal.Value.run (F := Ideal) m ρ)

open Cert.KernelMemIdeal.Whole in
/-- The kernel's two results are the reference's, at every input. -/
theorem value : Cert.algebraic_KernelMemIdeal_ReferenceMemIdeal := by
  intro m g m' g' _ ha
  refine ⟨fun c => memnArr (m (c.tc.loc Cert.KernelMemIdeal.main_arg0)) (m (c.tc.loc Cert.KernelMemIdeal.main_arg1)),
    fun c => dgArr (m (c.tc.loc Cert.KernelMemIdeal.main_arg0)) (m (c.tc.loc Cert.KernelMemIdeal.main_arg2))
      (m (c.tc.loc Cert.KernelMemIdeal.main_arg3)),
    (θ_run _ _ _).mono (fun r h c => ?_) (Cert.KernelMemIdeal.Value.run_blocks m g),
    (θ_run _ _ _).mono (fun r h c => ?_) (Cert.ReferenceMemIdeal.Value.run m' g')⟩
  · obtain ⟨h4, h5, hk⟩ := h c
    exact ⟨h4.trans (final4 m c), h5.trans (final5 m c), hk⟩
  · obtain ⟨h4, h5, hk⟩ := h c
    obtain ⟨e0, e1, e2, e3⟩ := ha c
    refine ⟨h4.trans ?_, h5.trans ?_, hk⟩
    · rw [e0, e1]
      funext j
      idx_vars j
      pointwise
      rfl
    · rw [e0, e2, e3]
      funext j
      pointwise
      rw [Fin.sum_univ_one]
      rfl

end Cert.Proof.Mem
-- ==== Proof.Attn.lean ====
/-
  The softmax over 256 keys and the gradient through it, for four heads of 256 columns, over the extended reals.
-/
module

public import proofs.«01_k».proof.Proof.Norm
public import Idealize.ShloMosaic.Lib.Pointwise
public import Idealize.ShloMosaic.Lib.ReduceAll
public import Idealize.ShloMosaic.Lib.IdealHost

@[expose] public section

noncomputable section

namespace Cert.Attn

open Idealize.ShloMosaic Cert.Norm

/-- The greatest entry of a row. -/
def mx (s : Fin 256 → EReal) : EReal := Finset.univ.fold max (Ideal.ofBits FTy.f32 4286578688#32) s
/-- The exponentials of a row less its greatest entry, and their sum. -/
def ex (s : Fin 256 → EReal) (k : Fin 256) : EReal := Ideal.exp (s k - mx s)
def zz (s : Fin 256 → EReal) : EReal := ∑ k, ex s k
/-- The softmax of a row. -/
def sm (s : Fin 256 → EReal) (k : Fin 256) : EReal := Ideal.div (ex s k) (zz s)
/-- The scores' factor. -/
def c16 : EReal := Ideal.ofBits FTy.f32 1031798784#32
/-- The gradient of the scores before their factor, as the kernel writes it: from the weights `p` and their gradient `d`. -/
def ds (p d : Fin 256 → EReal) (k : Fin 256) : EReal := p k * (d k - ∑ j, d j * p j) * c16
/-- The same gradient as the reference writes it. -/
def dsR (s d : Fin 256 → EReal) (k : Fin 256) : EReal :=
  (Ideal.div (d k) (zz s) + -∑ j, d j * Ideal.div (Ideal.ofBits FTy.f32 1065353216#32) (zz s * zz s) * ex s j) * ex s k * c16

theorem ofBits_neg_inf : Ideal.ofBits FTy.f32 4286578688#32 = (⊥ : EReal) := by simp [Ideal.ofBits, Ideal.ieee]
theorem ofBits_one : Ideal.ofBits FTy.f32 1065353216#32 = ((1 : ℝ) : EReal) := by
  simp [Ideal.ofBits, Ideal.ieee, -EReal.coe_mul]; norm_num
theorem c16_real : IsReal c16 := by
  unfold c16
  exact ⟨1 / 16, by simp [Ideal.ofBits, Ideal.ieee, -EReal.coe_mul]; norm_num⟩

theorem fold_real {ι : Type} [DecidableEq ι] (f : ι → ℝ) (S : Finset ι) (h : S.Nonempty) :
    IsReal (S.fold max ⊥ fun k => ((f k : ℝ) : EReal)) := by
  induction h using Finset.Nonempty.cons_induction with
  | singleton a => exact ⟨f a, by simp⟩
  | cons a S ha hS ih =>
    obtain ⟨r, hr⟩ := ih
    rw [Finset.fold_cons, hr]
    rcases le_total (f a : EReal) (r : EReal) with h | h
    · exact ⟨r, max_eq_right h⟩
    · exact ⟨f a, max_eq_left h⟩

theorem mx_real {s : Fin 256 → EReal} (h : ∀ k, IsReal (s k)) : IsReal (mx s) := by
  obtain ⟨f, rfl⟩ := exists_real_fun h
  unfold mx
  rw [ofBits_neg_inf]
  exact fold_real f _ ⟨0, Finset.mem_univ _⟩

/-- The exponentials of a real row are positive reals. -/
theorem ex_coe {s : Fin 256 → EReal} (h : ∀ k, IsReal (s k)) : ∃ e : Fin 256 → ℝ, (∀ k, 0 < e k) ∧ ex s = fun k => ((e k : ℝ) : EReal) := by
  obtain ⟨m, hm⟩ := mx_real h
  obtain ⟨f, hf⟩ := exists_real_fun h
  refine ⟨fun k => Real.exp (f k - m), fun k => Real.exp_pos _, funext fun k => ?_⟩
  unfold ex
  rw [hm, hf, ← EReal.coe_sub]
  rfl

theorem sm_coe {s : Fin 256 → EReal} (h : ∀ k, IsReal (s k)) : ∃ e : Fin 256 → ℝ, 0 < ∑ k, e k ∧
    ex s = (fun k => ((e k : ℝ) : EReal)) ∧ zz s = ((∑ k, e k : ℝ) : EReal) ∧ sm s = fun k => ((e k / ∑ j, e j : ℝ) : EReal) := by
  obtain ⟨e, he, hs⟩ := ex_coe h
  have hp : 0 < ∑ k, e k := Finset.sum_pos (fun k _ => he k) ⟨0, Finset.mem_univ _⟩
  have hz : zz s = ((∑ k, e k : ℝ) : EReal) := by unfold zz; rw [hs, coe_sum]
  refine ⟨e, hp, hs, hz, funext fun k => ?_⟩
  unfold sm
  rw [hz, hs, div_coe_coe _ _ hp.ne']

theorem sm_real {s : Fin 256 → EReal} (h : ∀ k, IsReal (s k)) (k : Fin 256) : IsReal (sm s k) := by
  obtain ⟨e, -, -, -, hs⟩ := sm_coe h
  rw [hs]; exact ⟨_, rfl⟩

theorem ds_real {p d : Fin 256 → EReal} (hp : ∀ k, IsReal (p k)) (hd : ∀ k, IsReal (d k)) (k : Fin 256) : IsReal (ds p d k) :=
  ((hp k).mul ((hd k).sub (IsReal.sum fun j => (hd j).mul (hp j)))).mul c16_real

/-- The two ways to write the gradient of the scores agree at real scores. -/
theorem dsR_eq_ds {s d : Fin 256 → EReal} (h : ∀ k, IsReal (s k)) (hd : ∀ k, IsReal (d k)) (k : Fin 256) : dsR s d k = ds (sm s) d k := by
  obtain ⟨e, hp, hs, hz, hm⟩ := sm_coe h
  obtain ⟨d, rfl⟩ := exists_real_fun hd
  obtain ⟨cc, hc⟩ := c16_real
  unfold dsR ds
  rw [hm, hz, hs, hc, ofBits_one]
  set z := ∑ k, e k
  rw [← EReal.coe_mul, div_coe_coe _ _ hp.ne', div_coe_coe _ _ (mul_pos hp hp).ne']
  simp only [← EReal.coe_mul, coe_sum, ← EReal.coe_neg, ← EReal.coe_add, ← EReal.coe_sub]
  congr 1
  have e1 : ∑ j, d j * (1 / (z * z)) * e j = (∑ j, d j * (e j / z)) / z := by
    rw [Finset.sum_div]
    exact Finset.sum_congr rfl fun j _ => by field_simp
  rw [e1]
  field_simp
  ring

/-! ## The heads -/

/-- Column `e` of head `h`, among 1024 columns, among the keys' columns and among the values'. -/
def hd (h : Fin 4) (e : Fin 256) : Fin 1024 := ⟨256 * h.val + e.val, by omega⟩
def kd (h : Fin 4) (e : Fin 256) : Fin 2048 := ⟨256 * h.val + e.val, by omega⟩
def vd (h : Fin 4) (e : Fin 256) : Fin 2048 := ⟨1024 + 256 * h.val + e.val, by omega⟩
/-- Head and column within it of one of 1024 columns. -/
def ho (n : Fin 1024) : Fin 4 := ⟨n.val / 256, by omega⟩
def co (n : Fin 1024) : Fin 256 := ⟨n.val % 256, by omega⟩

theorem hd_ho (n : Fin 1024) : hd (ho n) (co n) = n := Fin.ext (Nat.div_add_mod _ _)
theorem ho_hd (h : Fin 4) (e : Fin 256) : ho (hd h e) = h := Fin.ext (by show (256 * h.val + e.val) / 256 = h.val; omega)
theorem co_hd (h : Fin 4) (e : Fin 256) : co (hd h e) = e := Fin.ext (by show (256 * h.val + e.val) % 256 = e.val; omega)

theorem hd_zero (e : Fin 256) : hd 0 e = ⟨e.val, by omega⟩ := Fin.ext (by show 256 * 0 + e.val = e.val; omega)
theorem kd_zero (e : Fin 256) : kd 0 e = ⟨e.val, by omega⟩ := Fin.ext (by show 256 * 0 + e.val = e.val; omega)

theorem hd_mul (h : Fin 4) (e : Fin 256) (p : h.val * 256 + e.val < 1024) : (⟨h.val * 256 + e.val, p⟩ : Fin 1024) = hd h e :=
  Fin.ext (by show h.val * 256 + e.val = 256 * h.val + e.val; omega)
theorem kd_mul (h : Fin 4) (e : Fin 256) (p : h.val * 256 + e.val < 2048) : (⟨h.val * 256 + e.val, p⟩ : Fin 2048) = kd h e :=
  Fin.ext (by show h.val * 256 + e.val = 256 * h.val + e.val; omega)
theorem vd_mul (h : Fin 4) (e : Fin 256) (p : 1024 + (h.val * 256 + e.val) < 2048) :
    (⟨1024 + (h.val * 256 + e.val), p⟩ : Fin 2048) = vd h e :=
  Fin.ext (by show 1024 + (h.val * 256 + e.val) = 1024 + 256 * h.val + e.val; omega)

/-- Four heads side by side, read at a column. -/
theorem cat4 (f : Fin 4 → Fin 256 → EReal) (n : Fin 1024) :
    (if h0 : n.val < 256 then f 0 ⟨n.val, h0⟩ else if h1 : n.val - 256 < 256 then f 1 ⟨n.val - 256, h1⟩
      else if h2 : n.val - 256 - 256 < 256 then f 2 ⟨n.val - 256 - 256, h2⟩ else f 3 ⟨n.val - 256 - 256 - 256, by omega⟩)
    = f (ho n) (co n) := by
  have e : ∀ (k : Fin 4) (j : Fin 256), n = hd k j → f k j = f (ho n) (co n) := fun k j h => by rw [h, ho_hd, co_hd]
  split_ifs with h0 h1 h2
  · exact e 0 _ (Fin.ext (by show n.val = 256 * 0 + n.val; omega))
  · exact e 1 _ (Fin.ext (by show n.val = 256 * 1 + (n.val - 256); omega))
  · exact e 2 _ (Fin.ext (by show n.val = 256 * 2 + (n.val - 256 - 256); omega))
  · exact e 3 _ (Fin.ext (by show n.val = 256 * 3 + (n.val - 256 - 256 - 256); omega))

/-- A row normed and scaled by the gain, and its queries. -/
def hr (x g : Fin 1024 → EReal) (j : Fin 1024) : EReal := x j * rstd x * g j
def qr (x g : Fin 1024 → EReal) (w : Fin 1024 → Fin 1024 → EReal) (n : Fin 1024) : EReal := ∑ j, hr x g j * w j n

variable (q u : Fin 1024 → EReal) (kv : Fin 256 → Fin 2048 → EReal)

/-- The scores of one row's head with every key. -/
def sc (h : Fin 4) (k : Fin 256) : EReal := (∑ j, q (hd h j) * kv k (kd h j)) * c16
/-- The gradient of the softmax's weights. -/
def dp (h : Fin 4) (k : Fin 256) : EReal := ∑ j, u (hd h j) * kv k (vd h j)
/-- The gradient of the scores, as the kernel and as the reference write it. -/
def dsc (h : Fin 4) : Fin 256 → EReal := ds (sm (sc q kv h)) (dp u kv h)
def dscR (h : Fin 4) : Fin 256 → EReal := dsR (sc q kv h) (dp u kv h)
/-- The attention's output, and the gradient of its queries from the gradient `f` of the scores. -/
def out (n : Fin 1024) : EReal := ∑ k, sm (sc q kv (ho n)) k * kv k (vd (ho n) (co n))
def dq (f : Fin 4 → Fin 256 → EReal) (n : Fin 1024) : EReal := ∑ k, f (ho n) k * kv k (kd (ho n) (co n))
/-- A row through the transpose of a matrix. -/
def back (f : Fin 1024 → EReal) (w : Fin 1024 → Fin 1024 → EReal) (j : Fin 1024) : EReal := ∑ n, f n * w j n

/-- One row's part of the gradient of the keys and values. -/
def kvT (m : Fin 256) (n : Fin 2048) : EReal :=
  if h : n.val < 1024 then dsc q u kv (ho ⟨n.val, h⟩) m * q ⟨n.val, h⟩
  else sm (sc q kv (ho ⟨n.val - 1024, by omega⟩)) m * u ⟨n.val - 1024, by omega⟩

theorem kvT_kd (m : Fin 256) (h : Fin 4) (e : Fin 256) : kvT q u kv m (kd h e) = dsc q u kv h m * q (hd h e) := by
  have hl : (kd h e).val < 1024 := by show 256 * h.val + e.val < 1024; omega
  unfold kvT
  rw [dif_pos hl, show (⟨(kd h e).val, hl⟩ : Fin 1024) = hd h e from rfl, ho_hd]
theorem kvT_vd (m : Fin 256) (h : Fin 4) (e : Fin 256) : kvT q u kv m (vd h e) = sm (sc q kv h) m * u (hd h e) := by
  have hl : ¬ (vd h e).val < 1024 := by show ¬ 1024 + 256 * h.val + e.val < 1024; omega
  unfold kvT
  rw [dif_neg hl]
  have e1 : (⟨(vd h e).val - 1024, by omega⟩ : Fin 1024) = hd h e :=
    Fin.ext (by show 1024 + 256 * h.val + e.val - 1024 = 256 * h.val + e.val; omega)
  rw [e1, ho_hd]

variable {q u kv}

theorem hr_real {x g : Fin 1024 → EReal} (hx : ∀ j, IsReal (x j)) (hg : ∀ j, IsReal (g j)) (j : Fin 1024) : IsReal (hr x g j) :=
  ((hx j).mul (IsReal.rstd hx)).mul (hg j)
theorem qr_real {x g : Fin 1024 → EReal} {w : Fin 1024 → Fin 1024 → EReal} (hx : ∀ j, IsReal (x j)) (hg : ∀ j, IsReal (g j))
    (hw : ∀ j n, IsReal (w j n)) (n : Fin 1024) : IsReal (qr x g w n) := IsReal.sum fun j => (hr_real hx hg j).mul (hw j n)
theorem back_real {f : Fin 1024 → EReal} {w : Fin 1024 → Fin 1024 → EReal} (hf : ∀ j, IsReal (f j))
    (hw : ∀ j n, IsReal (w j n)) (j : Fin 1024) : IsReal (back f w j) := IsReal.sum fun n => (hf n).mul (hw j n)
theorem dq_real {f : Fin 4 → Fin 256 → EReal} (hf : ∀ h k, IsReal (f h k)) (hk : ∀ k n, IsReal (kv k n)) (n : Fin 1024) :
    IsReal (dq kv f n) := IsReal.sum fun k => (hf _ k).mul (hk k _)

theorem sc_real (hq : ∀ j, IsReal (q j)) (hk : ∀ k n, IsReal (kv k n)) (h : Fin 4) (k : Fin 256) : IsReal (sc q kv h k) :=
  (IsReal.sum fun j => (hq _).mul (hk _ _)).mul c16_real
theorem dp_real (hu : ∀ j, IsReal (u j)) (hk : ∀ k n, IsReal (kv k n)) (h : Fin 4) (k : Fin 256) : IsReal (dp u kv h k) :=
  IsReal.sum fun j => (hu _).mul (hk _ _)
theorem dsc_real (hq : ∀ j, IsReal (q j)) (hu : ∀ j, IsReal (u j)) (hk : ∀ k n, IsReal (kv k n)) (h : Fin 4) (k : Fin 256) :
    IsReal (dsc q u kv h k) := ds_real (sm_real (sc_real hq hk h)) (dp_real hu hk h) k
theorem dscR_eq (hq : ∀ j, IsReal (q j)) (hu : ∀ j, IsReal (u j)) (hk : ∀ k n, IsReal (kv k n)) : dscR q u kv = dsc q u kv :=
  funext fun h => funext fun k => dsR_eq_ds (sc_real hq hk h) (dp_real hu hk h) k

end Cert.Attn
-- ==== Proof.Mfwd.lean ====
/-
  The feed forward block's forward pass.
-/
module

public import proofs.«01_k».proof.Defs
public import proofs.«01_k».proof.Proof.Attn
public import proofs.«01_k».proof.Proof.Gen.KernelMfwd
public import proofs.«01_k».proof.Proof.Gen.KernelMfwd.Frame
public import proofs.«01_k».proof.Proof.Gen.KernelMfwdIdeal
public import proofs.«01_k».proof.Proof.Gen.KernelMfwdIdeal.Frame
public import proofs.«01_k».proof.Proof.Gen.KernelMfwdIdeal.Value
public import proofs.«01_k».proof.Proof.Gen.ReferenceMfwdIdeal
public import proofs.«01_k».proof.Proof.Gen.ReferenceMfwdIdeal.Run
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## The sum over the hidden columns in four parts -/

namespace Cert.Mfwd

open Cert.Attn Cert.Norm

/-- A hidden value: the normed row times a column of the first weights, its positive part squared. -/
def hid (x g : Fin 1024 → EReal) (w : Fin 1024 → EReal) : EReal := max (∑ j, hr x g j * w j) 0 * max (∑ j, hr x g j * w j) 0

/-- The terms of one of the four blocks of columns, summed. -/
def part (f : Fin 4096 → EReal) (k : ℕ) : EReal := if h : k < 4 then ∑ q : Fin 1024, f ⟨1024 * k + q.val, by omega⟩ else 0

theorem sum_part (f : Fin 4096 → EReal) : ∑ k ∈ Finset.range 4, part f k = ∑ n, f n := by
  rw [Fin.sum_univ_tiles 4 1024 rfl f, Finset.sum_range]
  refine Finset.sum_congr rfl fun k _ => ?_
  unfold part
  rw [dif_pos k.isLt]
  exact Finset.sum_congr rfl fun q _ => congrArg f (Fin.ext (by show 1024 * k.val + q.val = k.val * 1024 + q.val; omega))

end Cert.Mfwd

/-! ## What a grid point leaves, by its place among the four -/

namespace Cert.KernelMfwdIdeal.Body

open Cert.KernelMfwdIdeal Cert.KernelMfwdIdeal.Gen Cert.Mfwd Cert.Attn Cert.Norm

theorem hz : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F] (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1x1024x1024 .bf16) (h4 : a4.IsWhole) (a5 : Memref sig .tc .vmem S1024x1024 .bf16) (h5 : a5.IsWhole)
  (a6 : Memref sig .tc .vmem S512x1024 .f32) (h6 : a6.IsWhole) (a7 : Memref sig .tc .vmem S512x1024 .bf16) (h7 : a7.IsWhole)
  (a8 : Memref sig .tc .vmem S512x1024 .f32) (h8 : a8.IsWhole)
  (x : Vec F S512x1024 .f32) (g : Vec F S1x1024 .f32) (w : Vec F S1x1024x1024 .bf16) (v : Vec F S1024x1024 .bf16)
  (n : Vec F S512x1024 .bf16) (s : Vec F S512x1024 .f32)

theorem norm_A (c0 : cond0_0 i) (c1 : ¬cond0_1 i) :
    sout0_A_0 c i a2 h2 a3 h3 a4 h4 a5 h5 a6 h6 a7 h7 a8 h8 c0 c1 x g w v = k0_pay1 x g := by
  unfold sout0_A_0
  rw [View.read_writes_eq_canon _ _ _ (scover0_A_0 c i a2 h2 a3 h3 a4 h4 a5 h5 a6 h6 a7 h7 a8 h8 c0 c1 x g w v)]
  unfold kernelRun0_A
  dsimp only
  sl_unfold_words
  rw [View.canon_unit_zero hz]
  simp only [View.readAt_eq_ld, h2.read_unread, h3.read_unread, h4.read_unread, h5.read_unread, h7.read_unread, h8.read_unread, View.ld_unit_zero (S := S512x1024) hz, View.ld_unit_zero (S := S1x1024) hz, View.ld_unit_zero (S := S1024x1024) hz, View.ld_unit_zero (S := S1x1024x1024) hz3]

theorem acc_A (c0 : cond0_0 i) (c1 : ¬cond0_1 i) :
    sout0_A_1 c i a2 h2 a3 h3 a4 h4 a5 h5 a6 h6 a7 h7 a8 h8 c0 c1 x g w v = k0_pay3 (k0_pay1 x g) w k0_pay2 v := by
  unfold sout0_A_1
  rw [View.read_writes_eq_canon _ _ _ (scover0_A_1 c i a2 h2 a3 h3 a4 h4 a5 h5 a6 h6 a7 h7 a8 h8 c0 c1 x g w v)]
  unfold kernelRun0_A
  dsimp only
  sl_unfold_words
  rw [View.canon_cons_unit_zero (S := S512x1024) hz]
  simp only [View.readCov_unit_zero (S := S512x1024) _ hz]
  simp only [View.readAt_eq_ld, h2.read_unread, h3.read_unread, h4.read_unread, h5.read_unread, h7.read_unread, h8.read_unread, View.ld_unit_zero (S := S512x1024) hz, View.ld_unit_zero (S := S1x1024) hz, View.ld_unit_zero (S := S1024x1024) hz, View.ld_unit_zero (S := S1x1024x1024) hz3]

theorem norm_B (c0 : ¬cond0_0 i) (c1 : ¬cond0_1 i) : sout0_B_0 c i a2 h2 a3 h3 a4 h4 a5 h5 a6 h6 a7 h7 a8 h8 c0 c1 x g w v n s = n := rfl
theorem norm_C (c0 : ¬cond0_0 i) (c1 : cond0_1 i) : sout0_C_0 c i a2 h2 a3 h3 a4 h4 a5 h5 a6 h6 a7 h7 a8 h8 c0 c1 x g w v n s = n := rfl

theorem acc_B (c0 : ¬cond0_0 i) (c1 : ¬cond0_1 i) :
    sout0_B_1 c i a2 h2 a3 h3 a4 h4 a5 h5 a6 h6 a7 h7 a8 h8 c0 c1 x g w v n s = k0_pay3 n w s v := by
  unfold sout0_B_1
  rw [View.read_writes_eq_canon _ _ _ (scover0_B_1 c i a2 h2 a3 h3 a4 h4 a5 h5 a6 h6 a7 h7 a8 h8 c0 c1 x g w v n s)]
  unfold kernelRun0_B
  dsimp only
  sl_unfold_words
  rw [View.canon_unit_zero hz]
  simp only [View.readAt_eq_ld, h2.read_unread, h3.read_unread, h4.read_unread, h5.read_unread, h7.read_unread, h8.read_unread, View.ld_unit_zero (S := S512x1024) hz, View.ld_unit_zero (S := S1x1024) hz, View.ld_unit_zero (S := S1024x1024) hz, View.ld_unit_zero (S := S1x1024x1024) hz3]

theorem acc_C (c0 : ¬cond0_0 i) (c1 : cond0_1 i) :
    sout0_C_1 c i a2 h2 a3 h3 a4 h4 a5 h5 a6 h6 a7 h7 a8 h8 c0 c1 x g w v n s = k0_pay3 n w s v := by
  unfold sout0_C_1
  rw [View.read_writes_eq_canon _ _ _ (scover0_C_1 c i a2 h2 a3 h3 a4 h4 a5 h5 a6 h6 a7 h7 a8 h8 c0 c1 x g w v n s)]
  unfold kernelRun0_C
  dsimp only
  sl_unfold_words
  rw [View.canon_unit_zero hz]
  simp only [View.readAt_eq_ld, h2.read_unread, h3.read_unread, h4.read_unread, h5.read_unread, h7.read_unread, h8.read_unread, View.ld_unit_zero (S := S512x1024) hz, View.ld_unit_zero (S := S1x1024) hz, View.ld_unit_zero (S := S1024x1024) hz, View.ld_unit_zero (S := S1x1024x1024) hz3]

theorem out_C (c0 : ¬cond0_0 i) (c1 : cond0_1 i) :
    out0_C_4 c i a2 h2 a3 h3 a4 h4 a5 h5 a6 h6 a7 h7 a8 h8 c0 c1 x g w v n s = k0_pay4 x (k0_pay3 n w s v) := by
  unfold out0_C_4
  rw [View.read_writes_eq_canon _ _ _ (cover0_C_4 c i a2 h2 a3 h3 a4 h4 a5 h5 a6 h6 a7 h7 a8 h8 c0 c1 x g w v n s)]
  unfold kernelRun0_C
  dsimp only
  sl_unfold_words
  rw [View.canon_unit_zero hz]
  simp only [View.readCov_unit_zero (S := S512x1024) _ hz]
  simp only [View.readAt_eq_ld, h2.read_unread, h3.read_unread, h4.read_unread, h5.read_unread, h7.read_unread, h8.read_unread, View.ld_unit_zero (S := S512x1024) hz, View.ld_unit_zero (S := S1x1024) hz, View.ld_unit_zero (S := S1024x1024) hz, View.ld_unit_zero (S := S1x1024x1024) hz3]

end Cases

section Values

variable (x s : Vec Ideal S512x1024 .f32) (g : Vec Ideal S1x1024 .f32) (w : Vec Ideal S1x1024x1024 .bf16) (v : Vec Ideal S1024x1024 .bf16)
  (n : Vec Ideal S512x1024 .bf16)

theorem pay1_apply (a : Fin 512) (b : Fin 1024) : k0_pay1 x g (ix2 a b) = hr (fun k => x (ix2 a k)) (fun k => g (ix2 0 k)) b := by
  pointwise [k0_pay1]
  rfl
theorem pay2_apply (a : Fin 512) (b : Fin 1024) : k0_pay2 (F := Ideal) (ix2 a b) = 0 := by pointwise [k0_pay2]
theorem pay3_apply (a : Fin 512) (b : Fin 1024) : k0_pay3 n w s v (ix2 a b) = s (ix2 a b)
    + ∑ q : Fin 1024, (max (∑ j, n (ix2 a j) * w (ix3 0 j q)) 0 * max (∑ j, n (ix2 a j) * w (ix3 0 j q)) 0) * v (ix2 q b) := by
  pointwise [k0_pay3]
theorem pay4_apply (a : Fin 512) (b : Fin 1024) : k0_pay4 x s (ix2 a b) = x (ix2 a b) + s (ix2 a b) := by pointwise [k0_pay4]

end Values

end Cert.KernelMfwdIdeal.Body

/-! ## The array after the run -/

namespace Cert.KernelMfwdIdeal.Whole

open Cert.KernelMfwdIdeal Cert.KernelMfwdIdeal.Gen Cert.KernelMfwdIdeal.Body Cert.Mfwd Cert.Attn Cert.Norm

variable (m : (ℓ : Loc nD τ sig) → Buf (Elt Ideal) ℓ) (c : Dev nD)

abbrev xR (r : Fin 4096) : Fin 1024 → EReal := fun k => m ((c : Thread nD τ).loc main_arg0) (ix2 r k)
abbrev gR : Fin 1024 → EReal := fun k => m ((c : Thread nD τ).loc main_arg1) (ix1 k)
/-- A column of the first weights; the second weights. -/
abbrev w1C (n : Fin 4096) : Fin 1024 → EReal := fun j => m ((c : Thread nD τ).loc main_arg2) (ix2 j n)
abbrev w2M : Fin 4096 → Fin 1024 → EReal := fun n b => m ((c : Thread nD τ).loc main_arg3) (ix2 n b)

/-- The terms of the second product. -/
def terms (r : Fin 4096) (b : Fin 1024) (n : Fin 4096) : EReal := hid (xR m c r) (gR m c) (w1C m c n) * w2M m c n b
/-- The block's result. -/
def res (x g : Fin 1024 → EReal) (w : Fin 4096 → Fin 1024 → EReal) (v : Fin 4096 → Fin 1024 → EReal) (b : Fin 1024) : EReal :=
  x b + ∑ n, hid x g (w n) * v n b
def resArr : FVec Ideal S4096x1024 .f32 := fun j => res (xR m c (j 0)) (gR m c) (w1C m c) (w2M m c) (j 1)

def tr (n : ℕ) (h : n < 32) (a : Fin 512) : Fin 4096 := ⟨512 * (n / 4) + a.val, by omega⟩
theorem lt32 (t : Fin cfg0.N) : t.val < 32 := by have := t.isLt; have h : cfg0.N = 32 := N_0; omega

theorem V_v3 (b : Fin 1024) : (V m c main_v3 : Vec Ideal S1x1024 .f32) (ix2 0 b) = gR m c b := by
  dsimp only [V, hostOps0]
  after_reads_simp
  pointwise
theorem V_v2 (k : Fin 4) (j q : Fin 1024) : (V m c main_v2 : Vec Ideal S4x1024x1024 .bf16) (ix3 k j q) = w1C m c ⟨1024 * k.val + q.val, by omega⟩ j := by
  dsimp only [V, hostOps0]
  after_reads_simp
  pointwise
  exact congrArg (m ((c : Thread nD τ).loc main_arg2)) (congrArg (ix2 j) (Fin.ext (by show k.val * 1024 + q.val = 1024 * k.val + q.val; omega)))
theorem V_v4 : V m c main_v4 = m ((c : Thread nD τ).loc main_arg3) := by
  dsimp only [V, hostOps0]
  after_reads_simp
  rfl

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val % 4 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val % 4 ∧ win0_3.index t (1 : Fin 2) = 0 :=
  (by decide +kernel : ∀ t : Fin grid0.N, _)

theorem iblk0 (t : Fin cfg0.N) (e : Fin 512) (b : Fin 1024) : (iblk m c 0 t : Vec Ideal S512x1024 .f32) (ix2 e b) = xR m c (tr t.val (lt32 t) e) b := by
  refine Eq.trans ?_ (congrFun (V_main_arg0 m c) (ix2 (tr t.val (lt32 t) e) b))
  unfold iblk
  rw [View.read_apply]
  show V m c main_arg0 _ = V m c main_arg0 _
  congr 1
  funext a
  apply Fin.ext
  match a with
  | ⟨0, _⟩ => show win0_0.index t 0 * 512 + 1 * e.val = 512 * (t.val / 4) + e.val; rw [(idx0 t).1]; omega
  | ⟨1, _⟩ => show win0_0.index t 1 * 1024 + 1 * b.val = b.val; rw [(idx0 t).2]; omega

theorem iblk1 (t : Fin cfg0.N) (b : Fin 1024) : (iblk m c 1 t : Vec Ideal S1x1024 .f32) (ix2 0 b) = gR m c b := by
  refine Eq.trans ?_ (V_v3 m c b)
  unfold iblk
  rw [View.read_apply]
  show V m c main_v3 _ = V m c main_v3 _
  congr 1
  funext a
  apply Fin.ext
  match a with
  | ⟨0, _⟩ => show win0_1.index t 0 * 1 + 1 * 0 = 0; rw [(idx1 t).1]
  | ⟨1, _⟩ => show win0_1.index t 1 * 1024 + 1 * b.val = b.val; rw [(idx1 t).2]; omega

theorem iblk2 (t : Fin cfg0.N) (j q : Fin 1024) : (iblk m c 2 t : Vec Ideal S1x1024x1024 .bf16) (ix3 0 j q)
    = w1C m c ⟨1024 * (t.val % 4) + q.val, by omega⟩ j := by
  refine Eq.trans ?_ (V_v2 m c ⟨t.val % 4, by omega⟩ j q)
  unfold iblk
  rw [View.read_apply]
  show V m c main_v2 _ = V m c main_v2 _
  congr 1
  funext a
  apply Fin.ext
  match a with
  | ⟨0, _⟩ => show win0_2.index t 0 * 1 + 1 * 0 = t.val % 4; rw [(idx2 t).1]; omega
  | ⟨1, _⟩ => show win0_2.index t 1 * 1024 + 1 * j.val = j.val; rw [(idx2 t).2.1]; omega
  | ⟨2, _⟩ => show win0_2.index t 2 * 1024 + 1 * q.val = q.val; rw [(idx2 t).2.2]; omega

theorem iblk3 (t : Fin cfg0.N) (q b : Fin 1024) : (iblk m c 3 t : Vec Ideal S1024x1024 .bf16) (ix2 q b)
    = w2M m c ⟨1024 * (t.val % 4) + q.val, by omega⟩ b := by
  refine Eq.trans ?_ (congrFun (V_v4 m c) (ix2 ⟨1024 * (t.val % 4) + q.val, by omega⟩ b))
  unfold iblk
  rw [View.read_apply]
  show V m c main_v4 _ = V m c main_v4 _
  congr 1
  funext a
  apply Fin.ext
  match a with
  | ⟨0, _⟩ => show win0_3.index t 0 * 1024 + 1 * q.val = 1024 * (t.val % 4) + q.val; rw [(idx3 t).1]; omega
  | ⟨1, _⟩ => show win0_3.index t 1 * 1024 + 1 * b.val = b.val; rw [(idx3 t).2]; omega

/-- One point adds the terms of its block of hidden columns, the row's norm being at hand. -/
theorem step (t : Fin cfg0.N) (n : Vec Ideal S512x1024 .bf16) (s : Vec Ideal S512x1024 .f32) (a : Fin 512) (b : Fin 1024)
    (hn : ∀ k, n (ix2 a k) = hr (xR m c (tr t.val (lt32 t) a)) (gR m c) k) :
    k0_pay3 (F := Ideal) n (iblk m c 2 t) s (iblk m c 3 t) (ix2 a b)
      = s (ix2 a b) + part (terms m c (tr t.val (lt32 t) a) b) (t.val % 4) := by
  rw [pay3_apply]
  refine congrArg _ ?_
  unfold part
  rw [dif_pos (by omega)]
  refine Finset.sum_congr rfl fun q _ => ?_
  simp only [hn]
  unfold terms hid
  refine congrArg₂ (· * ·) ?_ (iblk3 m c t q b)
  have e : (∑ j, hr (xR m c (tr t.val (lt32 t) a)) (gR m c) j * (iblk m c 2 t : Vec Ideal S1x1024x1024 .bf16) (ix3 0 j q))
      = ∑ j, hr (xR m c (tr t.val (lt32 t) a)) (gR m c) j * w1C m c ⟨1024 * (t.val % 4) + q.val, by omega⟩ j :=
    Finset.sum_congr rfl fun j _ => congrArg (_ * ·) (iblk2 m c t j q)
  exact congrArg (fun z => max z 0 * max z 0) e

theorem pay1_row (t : Fin cfg0.N) (a : Fin 512) (k : Fin 1024) :
    k0_pay1 (F := Ideal) (iblk m c 0 t) (iblk m c 1 t) (ix2 a k) = hr (xR m c (tr t.val (lt32 t) a)) (gR m c) k := by
  rw [pay1_apply, show (fun k => (iblk m c 0 t : Vec Ideal S512x1024 .f32) (ix2 a k)) = xR m c (tr t.val (lt32 t) a) from funext fun k => iblk0 m c t a k,
    show (fun k => (iblk m c 1 t : Vec Ideal S1x1024 .f32) (ix2 0 k)) = gR m c from funext fun k => iblk1 m c t k]

/-- The normed rows and the carried sum after each point. -/
theorem outs (n : ℕ) (h : n < cfg0.N) (h32 : n < 32) :
    (∀ (a : Fin 512) (k : Fin 1024), (outsAt0 m c n h).2.1 (ix2 a k) = hr (xR m c (tr n h32 a)) (gR m c) k)
    ∧ (∀ (a : Fin 512) (b : Fin 1024), (outsAt0 m c n h).2.2 (ix2 a b) = ∑ k ∈ Finset.range (n % 4 + 1), part (terms m c (tr n h32 a) b) k) := by
  have first : ∀ (n : ℕ) (h : n < cfg0.N) (h32 : n < 32) (h0 : n % 4 = 0),
      (∀ (a : Fin 512) (k : Fin 1024), (outsAt0 m c n h).2.1 (ix2 a k) = hr (xR m c (tr n h32 a)) (gR m c) k)
      ∧ (∀ (a : Fin 512) (b : Fin 1024), (outsAt0 m c n h).2.2 (ix2 a b) = ∑ k ∈ Finset.range (n % 4 + 1), part (terms m c (tr n h32 a) b) k) := by
    intro n h h32 h0
    rw [outsAt0_A m c ⟨n, h⟩ h0 (by dsimp only; omega)]
    dsimp only
    refine ⟨fun a k => ?_, fun a b => ?_⟩
    · rw [norm_A]; exact pay1_row m c ⟨n, h⟩ a k
    · rw [acc_A, step m c ⟨n, h⟩ _ _ a b (fun k => pay1_row m c ⟨n, h⟩ a k), pay2_apply, zero_add, h0]
      exact (Finset.sum_range_one (part (terms m c (tr n h32 a) b))).symm
  induction n with
  | zero => exact first 0 h h32 rfl
  | succ n ih =>
    obtain ⟨i1, i2⟩ := ih (by omega) (by omega)
    by_cases h0 : (n + 1) % 4 = 0
    · exact first (n + 1) h h32 h0
    · have et : ∀ a, tr n (by omega) a = tr (n + 1) h32 a := fun a => Fin.ext (by show 512 * _ + _ = 512 * _ + _; omega)
      have hn : ∀ (a : Fin 512) (k : Fin 1024), (outsAt0 m c n (by omega)).2.1 (ix2 a k) = hr (xR m c (tr (n + 1) h32 a)) (gR m c) k :=
        fun a k => (i1 a k).trans (by rw [et])
      have hs : ∀ (a : Fin 512) (b : Fin 1024), (outsAt0 m c n (by omega)).2.2 (ix2 a b) + part (terms m c (tr (n + 1) h32 a) b) ((n + 1) % 4)
          = ∑ k ∈ Finset.range ((n + 1) % 4 + 1), part (terms m c (tr (n + 1) h32 a) b) k := fun a b => by
        rw [i2, Finset.sum_range_succ _ ((n + 1) % 4), show (n + 1) % 4 = n % 4 + 1 by omega, et]
      by_cases h2 : (n + 1) % 4 = 3
      · rw [outsAt0_C m c ⟨n + 1, h⟩ h0 h2]
        dsimp only
        refine ⟨fun a k => ?_, fun a b => ?_⟩
        · rw [norm_C]; exact hn a k
        · rw [acc_C]; exact (step m c ⟨n + 1, h⟩ _ _ a b (hn a)).trans (hs a b)
      · rw [outsAt0_B m c ⟨n + 1, h⟩ h0 h2]
        dsimp only
        refine ⟨fun a k => ?_, fun a b => ?_⟩
        · rw [norm_B]; exact hn a k
        · rw [acc_B]; exact (step m c ⟨n + 1, h⟩ _ _ a b (hn a)).trans (hs a b)

/-- The block's result at the points that write it. -/
theorem outs4 (n : ℕ) (h : n < cfg0.N) (h32 : n < 32) (h3 : n % 4 = 3) (a : Fin 512) (b : Fin 1024) :
    (outsAt0 m c n h).1 (ix2 a b) = res (xR m c (tr n h32 a)) (gR m c) (w1C m c) (w2M m c) b := by
  have e := outsAt0_C m c ⟨n, h⟩ (by dsimp only; omega) h3
  have hb := (outs m c n h h32).2 a b
  rw [h3, sum_part, show outsAt0 m c n h = _ from e] at hb
  dsimp only at hb
  rw [acc_C] at hb
  rw [show outsAt0 m c n h = _ from e]
  dsimp only
  rw [out_C, pay4_apply, iblk0]
  exact congrArg _ hb

theorem G4_eq : Value.G4 m c = resArr m c := by
  funext j
  idx_vars j
  unfold Value.G4
  have hp : Value.pt4Of (ix2 j0 j1) = 4 * (j0.val / 512) + 3 := by
    show 4 * (1 * (j0.val / 512 - 0) + 1 * (j1.val / 1024 - 0)) + 3 = _; omega
  have h32 : Value.pt4Of (ix2 j0 j1) < 32 := by rw [hp]; omega
  have hN : cfg0.N = 32 := N_0
  rw [dif_pos (by omega)]
  have := outs4 m c (Value.pt4Of (ix2 j0 j1)) (by omega) h32 (by omega) ⟨j0.val % 512, by omega⟩ j1
  rw [Value.outsAt0_sweep] at this
  have e : tr (Value.pt4Of (ix2 j0 j1)) h32 ⟨j0.val % 512, by omega⟩ = j0 := Fin.ext (by show 512 * (_ / 4) + j0.val % 512 = j0.val; rw [hp]; omega)
  rw [e] at this
  refine Eq.trans (congrArg _ ?_) this
  funext d
  match d with
  | ⟨0, _⟩ => rfl
  | ⟨1, _⟩ => exact Fin.ext (show j1.val % 1024 = j1.val by omega)

end Cert.KernelMfwdIdeal.Whole

namespace Cert.Proof.Mfwd

theorem frame_k : Cert.quiescent_KernelMfwd := fun m ρ _ => Cert.KernelMfwd.Gen.frame m ρ
theorem frame_ki : Cert.quiescent_KernelMfwdIdeal := fun m ρ _ => Cert.KernelMfwdIdeal.Gen.frame m ρ
theorem frame_ri : Cert.quiescent_ReferenceMfwdIdeal := fun m ρ _ =>
  (θ_run Cert.ReferenceMfwdIdeal.defs _ _).mono (fun r h => ⟨fun c => (h c).2, sem_eq_zero_of_no_sems (by decide) r.2⟩)
    (Cert.ReferenceMfwdIdeal.Value.run (F := Ideal) m ρ)

open Cert.KernelMfwdIdeal.Whole in
/-- The kernel's result is the reference's, at every input. -/
theorem value : Cert.algebraic_KernelMfwdIdeal_ReferenceMfwdIdeal := by
  intro m g m' g' _ ha
  refine ⟨fun c => resArr m c, (θ_run _ _ _).mono (fun r h c => ?_) (Cert.KernelMfwdIdeal.Value.run m g),
    (θ_run _ _ _).mono (fun r h c => ?_) (Cert.ReferenceMfwdIdeal.Value.run m' g')⟩
  · obtain ⟨h4, hk⟩ := h c
    exact ⟨h4.trans (G4_eq m c), hk⟩
  · obtain ⟨h4, hk⟩ := h c
    obtain ⟨e0, e1, e2, e3⟩ := ha c
    refine ⟨h4.trans ?_, hk⟩
    funext j
    idx_vars j
    rw [e0, e1, e2, e3]
    pointwise
    rfl

end Cert.Proof.Mfwd
-- ==== Proof.MlpBody.lean ====
/-
  The body of `_mlp_bwd`, run once for each way its three conditions fall: what it finds in its buffers and what it
  leaves there. The statements hold at any float type, so one run serves the program and its idealization.
-/
module

public import proofs.«01_k».proof.Proof.Gen.KernelMlpIdeal
public import proofs.«01_k».proof.Proof.Gen.KernelMlpIdeal.Frame
public import proofs.«01_k».proof.Proof.Gen.KernelMlpIdeal.Skeleton
public import Idealize.ShloMosaic.Lib.Pointwise
public import Idealize.ShloMosaic.Lib.Tactic
public import Idealize.ShloMosaic.Lib.Quiescent
public import Idealize.ShloMosaic.Adequacy
public import Idealize.ShloMosaic.Init

@[expose] public section

set_option maxRecDepth 16384

noncomputable section

namespace Cert.Proof.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMlpIdeal Cert.KernelMlpIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- A buffer whose last store covers it holds what that store put there. -/
theorem read_full {sp : Space} {S : Shape} {e : EltTy} (v : View sig .tc sp S e) (f : v.ty.Contents (Elt F))
    {off : Fin S.rank → Nat} (h : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon _ _ _ (fun y => ⟨_, List.mem_cons_self, ?_⟩), View.canon_cons_unit_zero h]
  subst h
  exact (LoadRect.mem_set _).mpr fun a => ⟨y a, (y a).isLt, by simp [Rect.unit]⟩

section Body

variable (c : Dev nD) (i : grid0.Coords)
  (a2 : Memref sig .tc .vmem S512x1024 .f32) (h2 : a2.IsWhole)
  (a3 : Memref sig .tc .vmem S512x1024 .f32) (h3 : a3.IsWhole)
  (a4 : Memref sig .tc .vmem S1x1024 .f32) (h4 : a4.IsWhole)
  (a5 : Memref sig .tc .vmem S1x1024x1024 .bf16) (h5 : a5.IsWhole)
  (a6 : Memref sig .tc .vmem S1024x1024 .bf16) (h6 : a6.IsWhole)
  (a7 : Memref sig .tc .vmem S512x1024 .f32) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S8x1024 .f32) (h11 : a11.IsWhole)
  (a12 : Memref sig .tc .vmem S512x1024 .bf16) (h12 : a12.IsWhole)
  (a13 : Memref sig .tc .vmem S512x1024 .bf16) (h13 : a13.IsWhole)
  (a14 : Memref sig .tc .vmem S512x1024 .f32) (h14 : a14.IsWhole)

/-- The thirteen buffers of the body, each whole at the contents named. -/
def Held (c : Dev nD) (a2 : Memref sig .tc .vmem S512x1024 .f32) (a3 : Memref sig .tc .vmem S512x1024 .f32) (a4 : Memref sig .tc .vmem S1x1024 .f32) (a5 : Memref sig .tc .vmem S1x1024x1024 .bf16) (a6 : Memref sig .tc .vmem S1024x1024 .bf16) (a7 : Memref sig .tc .vmem S512x1024 .f32) (a8 : Memref sig .tc .vmem S512x1024 .bf16) (a9 : Memref sig .tc .vmem S512x1024 .bf16) (a10 : Memref sig .tc .vmem S512x1024 .bf16) (a11 : Memref sig .tc .vmem S8x1024 .f32) (a12 : Memref sig .tc .vmem S512x1024 .bf16) (a13 : Memref sig .tc .vmem S512x1024 .bf16) (a14 : Memref sig .tc .vmem S512x1024 .f32)
    (x : Vec F S512x1024 .f32) (dy : Vec F S512x1024 .f32) (g : Vec F S1x1024 .f32) (u : Vec F S1x1024x1024 .bf16) (w : Vec F S1024x1024 .bf16) (dx : Vec F S512x1024 .f32) (hb : Vec F S512x1024 .bf16) (rb : Vec F S512x1024 .bf16) (db : Vec F S512x1024 .bf16) (dg : Vec F S8x1024 .f32) (hs : Vec F S512x1024 .bf16) (ds : Vec F S512x1024 .bf16) (ac : Vec F S512x1024 .f32) : sProp 𝕄 :=
  iprop(owns (c : Thread nD τ) a2 fullShare x
    ∗ owns (c : Thread nD τ) a3 fullShare dy
    ∗ owns (c : Thread nD τ) a4 fullShare g
    ∗ owns (c : Thread nD τ) a5 fullShare u
    ∗ owns (c : Thread nD τ) a6 fullShare w
    ∗ owns (c : Thread nD τ) a7 fullShare dx
    ∗ owns (c : Thread nD τ) a8 fullShare hb
    ∗ owns (c : Thread nD τ) a9 fullShare rb
    ∗ owns (c : Thread nD τ) a10 fullShare db
    ∗ owns (c : Thread nD τ) a11 fullShare dg
    ∗ owns (c : Thread nD τ) a12 fullShare hs
    ∗ owns (c : Thread nD τ) a13 fullShare ds
    ∗ owns (c : Thread nD τ) a14 fullShare ac)

set_option maxHeartbeats 4000000 in
/-- At the first point: the row block is entered and the gain gradient cleared. -/
theorem body_first (c1 : k0_cond1 i = 1#1) (c2 : k0_cond2 i = 1#1) (c3 : ¬k0_cond3 i = 1#1)
    (x : Vec F S512x1024 .f32) (dy : Vec F S512x1024 .f32) (g : Vec F S1x1024 .f32) (u : Vec F S1x1024x1024 .bf16) (w : Vec F S1024x1024 .bf16) (dx : Vec F S512x1024 .f32) (hb : Vec F S512x1024 .bf16) (rb : Vec F S512x1024 .bf16) (db : Vec F S512x1024 .bf16) (dg : Vec F S8x1024 .f32) (hs : Vec F S512x1024 .bf16) (ds : Vec F S512x1024 .bf16) (ac : Vec F S512x1024 .f32)
    (E : Set ℕ) (K : PUnit → sProp 𝕄) :
    iprop(Held c a2 a3 a4 a5 a6 a7 a8 a9 a10 a11 a12 a13 a14 x dy g u w dx hb rb db dg hs ds ac
        ∗ (Held c a2 a3 a4 a5 a6 a7 a8 a9 a10 a11 a12 a13 a14 x dy g u w dx (k0_pay5 x g) (k0_pay10 (k0_pay5 x g) u) (k0_pay11 (k0_pay5 x g) u (k0_pay6 dy) w) k0_pay8 (k0_pay5 x g) (k0_pay6 dy) (k0_pay1 (k0_pay11 (k0_pay5 x g) u (k0_pay6 dy) w) k0_pay7 u) -∗ K ⟨⟩))
      ⊢ wp frame (wpE (defs₀ (F := F)) Variants.none c none) E (cc0_mlp_bwd i a2 h2 a3 h3 a4 h4 a5 h5 a6 h6 a7 h7 a8 h8 a9 h9 a10 h10 a11 h11 a12 h12 a13 h13 a14 h14) K := by
  simp only [cc0_mlp_bwd_eq_skeleton]; unfold cc0_mlp_bwd_skel
  simp only [k0_part1_eq_skeleton, k0_part2_eq_skeleton]
  unfold Held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  sl_exec (disch := first | sl_exact c1 | sl_exact c2 | sl_exact c3)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H9]
  · iexists _; isplitr; swap; · iexact H9
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H10]
  · iexists _; isplitr; swap; · iexact H10
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H11]
  · iexists _; isplitr; swap; · iexact H11
    ipureintro
    sl_unfold_words
    rw [read_full _ _ zero2]
  isplitl [H12]
  · iexists _; isplitr; swap; · iexact H12
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H13]
  · iexists _; isplitr; swap; · iexact H13
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  iexists _; isplitr; swap; · iexact H14
  ipureintro
  sl_unfold_words
  rw [read_full _ _ zero2]
  simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
    h2.read_unread, h3.read_unread, h4.read_unread, h5.read_unread, h6.read_unread, h7.read_unread, h8.read_unread, h9.read_unread, h10.read_unread, h11.read_unread, h12.read_unread, h13.read_unread, h14.read_unread]

set_option maxHeartbeats 4000000 in
/-- At the first column block of a later row block. -/
theorem body_enter (c1 : k0_cond1 i = 1#1) (c2 : ¬k0_cond2 i = 1#1) (c3 : ¬k0_cond3 i = 1#1)
    (x : Vec F S512x1024 .f32) (dy : Vec F S512x1024 .f32) (g : Vec F S1x1024 .f32) (u : Vec F S1x1024x1024 .bf16) (w : Vec F S1024x1024 .bf16) (dx : Vec F S512x1024 .f32) (hb : Vec F S512x1024 .bf16) (rb : Vec F S512x1024 .bf16) (db : Vec F S512x1024 .bf16) (dg : Vec F S8x1024 .f32) (hs : Vec F S512x1024 .bf16) (ds : Vec F S512x1024 .bf16) (ac : Vec F S512x1024 .f32)
    (E : Set ℕ) (K : PUnit → sProp 𝕄) :
    iprop(Held c a2 a3 a4 a5 a6 a7 a8 a9 a10 a11 a12 a13 a14 x dy g u w dx hb rb db dg hs ds ac
        ∗ (Held c a2 a3 a4 a5 a6 a7 a8 a9 a10 a11 a12 a13 a14 x dy g u w dx (k0_pay5 x g) (k0_pay10 (k0_pay5 x g) u) (k0_pay11 (k0_pay5 x g) u (k0_pay6 dy) w) dg (k0_pay5 x g) (k0_pay6 dy) (k0_pay1 (k0_pay11 (k0_pay5 x g) u (k0_pay6 dy) w) k0_pay7 u) -∗ K ⟨⟩))
      ⊢ wp frame (wpE (defs₀ (F := F)) Variants.none c none) E (cc0_mlp_bwd i a2 h2 a3 h3 a4 h4 a5 h5 a6 h6 a7 h7 a8 h8 a9 h9 a10 h10 a11 h11 a12 h12 a13 h13 a14 h14) K := by
  simp only [cc0_mlp_bwd_eq_skeleton]; unfold cc0_mlp_bwd_skel
  simp only [k0_part1_eq_skeleton, k0_part2_eq_skeleton]
  unfold Held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  sl_exec (disch := first | sl_exact c1 | sl_exact c2 | sl_exact c3)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H9]
  · iexists _; isplitr; swap; · iexact H9
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H10]
  · iexists _; isplitr; swap; · iexact H10
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H11]
  · iexists _; isplitr; swap; · iexact H11
    ipureintro; exact h11.read_unread _
  isplitl [H12]
  · iexists _; isplitr; swap; · iexact H12
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H13]
  · iexists _; isplitr; swap; · iexact H13
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  iexists _; isplitr; swap; · iexact H14
  ipureintro
  sl_unfold_words
  rw [read_full _ _ zero2]
  simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
    h2.read_unread, h3.read_unread, h4.read_unread, h5.read_unread, h6.read_unread, h7.read_unread, h8.read_unread, h9.read_unread, h10.read_unread, h11.read_unread, h12.read_unread, h13.read_unread, h14.read_unread]

set_option maxHeartbeats 4000000 in
/-- At a column block between the first and the last. -/
theorem body_inner (c1 : ¬k0_cond1 i = 1#1) (c2 : ¬k0_cond2 i = 1#1) (c3 : ¬k0_cond3 i = 1#1)
    (x : Vec F S512x1024 .f32) (dy : Vec F S512x1024 .f32) (g : Vec F S1x1024 .f32) (u : Vec F S1x1024x1024 .bf16) (w : Vec F S1024x1024 .bf16) (dx : Vec F S512x1024 .f32) (hb : Vec F S512x1024 .bf16) (rb : Vec F S512x1024 .bf16) (db : Vec F S512x1024 .bf16) (dg : Vec F S8x1024 .f32) (hs : Vec F S512x1024 .bf16) (ds : Vec F S512x1024 .bf16) (ac : Vec F S512x1024 .f32)
    (E : Set ℕ) (K : PUnit → sProp 𝕄) :
    iprop(Held c a2 a3 a4 a5 a6 a7 a8 a9 a10 a11 a12 a13 a14 x dy g u w dx hb rb db dg hs ds ac
        ∗ (Held c a2 a3 a4 a5 a6 a7 a8 a9 a10 a11 a12 a13 a14 x dy g u w dx hb (k0_pay10 hs u) (k0_pay11 hs u ds w) dg hs ds (k0_pay1 (k0_pay11 hs u ds w) ac u) -∗ K ⟨⟩))
      ⊢ wp frame (wpE (defs₀ (F := F)) Variants.none c none) E (cc0_mlp_bwd i a2 h2 a3 h3 a4 h4 a5 h5 a6 h6 a7 h7 a8 h8 a9 h9 a10 h10 a11 h11 a12 h12 a13 h13 a14 h14) K := by
  simp only [cc0_mlp_bwd_eq_skeleton]; unfold cc0_mlp_bwd_skel
  simp only [k0_part1_eq_skeleton, k0_part2_eq_skeleton]
  unfold Held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  sl_exec (disch := first | sl_exact c1 | sl_exact c2 | sl_exact c3)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H10]
  · iexists _; isplitr; swap; · iexact H10
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H11]
  · iexists _; isplitr; swap; · iexact H11
    ipureintro; exact h11.read_unread _
  isplitl [H12]
  · iexists _; isplitr; swap; · iexact H12
    ipureintro; exact h12.read_unread _
  isplitl [H13]
  · iexists _; isplitr; swap; · iexact H13
    ipureintro; exact h13.read_unread _
  iexists _; isplitr; swap; · iexact H14
  ipureintro
  sl_unfold_words
  rw [read_full _ _ zero2]
  simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
    h2.read_unread, h3.read_unread, h4.read_unread, h5.read_unread, h6.read_unread, h7.read_unread, h8.read_unread, h9.read_unread, h10.read_unread, h11.read_unread, h12.read_unread, h13.read_unread, h14.read_unread]

set_option maxHeartbeats 4000000 in
/-- At the last column block: the row block is left. -/
theorem body_leave (c1 : ¬k0_cond1 i = 1#1) (c2 : ¬k0_cond2 i = 1#1) (c3 : k0_cond3 i = 1#1)
    (x : Vec F S512x1024 .f32) (dy : Vec F S512x1024 .f32) (g : Vec F S1x1024 .f32) (u : Vec F S1x1024x1024 .bf16) (w : Vec F S1024x1024 .bf16) (dx : Vec F S512x1024 .f32) (hb : Vec F S512x1024 .bf16) (rb : Vec F S512x1024 .bf16) (db : Vec F S512x1024 .bf16) (dg : Vec F S8x1024 .f32) (hs : Vec F S512x1024 .bf16) (ds : Vec F S512x1024 .bf16) (ac : Vec F S512x1024 .f32)
    (E : Set ℕ) (K : PUnit → sProp 𝕄) :
    iprop(Held c a2 a3 a4 a5 a6 a7 a8 a9 a10 a11 a12 a13 a14 x dy g u w dx hb rb db dg hs ds ac
        ∗ (Held c a2 a3 a4 a5 a6 a7 a8 a9 a10 a11 a12 a13 a14 x dy g u w (k0_pay4 x (k0_pay1 (k0_pay11 hs u ds w) ac u) dy g) hb (k0_pay10 hs u) (k0_pay11 hs u ds w) (k0_pay3 x (k0_pay1 (k0_pay11 hs u ds w) ac u) dg) hs ds (k0_pay1 (k0_pay11 hs u ds w) ac u) -∗ K ⟨⟩))
      ⊢ wp frame (wpE (defs₀ (F := F)) Variants.none c none) E (cc0_mlp_bwd i a2 h2 a3 h3 a4 h4 a5 h5 a6 h6 a7 h7 a8 h8 a9 h9 a10 h10 a11 h11 a12 h12 a13 h13 a14 h14) K := by
  simp only [cc0_mlp_bwd_eq_skeleton]; unfold cc0_mlp_bwd_skel
  simp only [k0_part1_eq_skeleton, k0_part2_eq_skeleton]
  unfold Held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  sl_exec (disch := first | sl_exact c1 | sl_exact c2 | sl_exact c3)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H8]
  · iexists _; isplitr; swap; · iexact H8
    ipureintro; exact h8.read_unread _
  isplitl [H9]
  · iexists _; isplitr; swap; · iexact H9
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H10]
  · iexists _; isplitr; swap; · iexact H10
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H11]
  · iexists _; isplitr; swap; · iexact H11
    ipureintro
    sl_unfold_words
    rw [read_full _ _ zero2]
    simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
      h2.read_unread, h3.read_unread, h4.read_unread, h5.read_unread, h6.read_unread, h7.read_unread, h8.read_unread, h9.read_unread, h10.read_unread, h11.read_unread, h12.read_unread, h13.read_unread, h14.read_unread]
  isplitl [H12]
  · iexists _; isplitr; swap; · iexact H12
    ipureintro; exact h12.read_unread _
  isplitl [H13]
  · iexists _; isplitr; swap; · iexact H13
    ipureintro; exact h13.read_unread _
  iexists _; isplitr; swap; · iexact H14
  ipureintro
  sl_unfold_words
  rw [read_full _ _ zero2]
  simp only [View.readCov_unit_zero (S := S512x1024) _ zero2, View.readAt_eq_ld, View.ld_unit_zero (S := S512x1024) zero2, View.ld_unit_zero (S := S1x1024) zero2,
      View.ld_unit_zero (S := S8x1024) zero2, View.ld_unit_zero (S := S1024x1024) zero2, View.ld_unit_zero (S := S1x1024x1024) zero3,
    h2.read_unread, h3.read_unread, h4.read_unread, h5.read_unread, h6.read_unread, h7.read_unread, h8.read_unread, h9.read_unread, h10.read_unread, h11.read_unread, h12.read_unread, h13.read_unread, h14.read_unread]

end Body

end Cert.Proof.Mlp

end
-- ==== Proof.MlpFrame.lean ====
/-
  The run of `_mlp_bwd`: what every buffer holds after each grid point, the body's obligation point by point, the launch,
  and the frame claims of the program and of its idealization.
-/
module

public import proofs.«01_k».proof.Proof.MlpBody
public import proofs.«01_k».proof.Proof.Gen.KernelMlp
public import proofs.«01_k».proof.Proof.Gen.KernelMlp.Frame
public import Idealize.ShloMosaic.Lib.Claim
public import Idealize.ShloMosaic.Lib.Pipeline.TableIdle
public import Idealize.ShloMosaic.Lib.Pipeline.FrameBody

@[expose] public section

set_option maxRecDepth 16384

noncomputable section

namespace Cert.Proof.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMlpIdeal Cert.KernelMlpIdeal.Gen

variable {F : FTy → Type} [FloatOps F]

local notation "𝕄" => MT nD τ sig Unit (Elt F) ℕ (UR sig nD τ) ℕ

/-! ### The three conditions, by the grid point -/

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond2_iff : ∀ t : Fin cfg0.N, k0_cond2 (grid0.coords t) = 1#1 ↔ t.val = 0 :=
  (by decide +kernel : ∀ t : Fin grid0.N, k0_cond2 (grid0.coords t) = 1#1 ↔ t.val = 0)
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-! ### Where the windows are idle, written back, and fresh -/

theorem idle5 : ∀ t : Fin cfg0.N, ¬t.val % 4 = 3 → cfg0.idle 5 (grid0.coords t) = true := by decide +kernel
theorem live5 : ∀ t : Fin cfg0.N, t.val % 4 = 3 → cfg0.idle 5 (grid0.coords t) = false := by decide +kernel
theorem keep5 : ∀ t : Fin cfg0.N, ¬t.val % 4 = 3 → (cfg0.win 5).flush t = false := by decide +kernel
theorem live6 : ∀ t : Fin cfg0.N, t.val % 4 = 0 → cfg0.idle 6 (grid0.coords t) = false := by decide +kernel
theorem idle6 : ∀ t : Fin cfg0.N, ¬t.val % 4 = 0 → cfg0.idle 6 (grid0.coords t) = true := by decide +kernel
theorem keep6 : ∀ t : Fin cfg0.N, ¬t.val % 4 = 3 → (cfg0.win 6).flush t = false := by decide +kernel
theorem back6 : ∀ t : Fin cfg0.N, t.val % 4 = 3 → (cfg0.win 6).flush t = true := by decide +kernel
theorem held6 : ∀ t : Fin cfg0.N, ¬t.val % 4 = 0 → cfg0.fresh 6 t.val = false := by decide +kernel
theorem live9 : ∀ t : Fin cfg0.N, (t.val = 0 ∨ t.val % 4 = 3) → cfg0.idle 9 (grid0.coords t) = false := by decide +kernel
theorem idle9 : ∀ t : Fin cfg0.N, ¬(t.val = 0 ∨ t.val % 4 = 3) → cfg0.idle 9 (grid0.coords t) = true := by decide +kernel
theorem keep9 : ∀ t : Fin cfg0.N, ¬t.val % 4 = 3 → (cfg0.win 9).flush t = false := by decide +kernel
theorem held9 : ∀ t : Fin cfg0.N, ¬t.val = 0 → cfg0.fresh 9 t.val = false := by decide +kernel

variable (m : (ℓ : Loc nD τ sig) → Buf (Elt F) ℓ) (ρ : Dev nD → PrngReg)

/-! ### What the buffers hold after each point -/

/-- What is carried from point to point: the normalized rows, the output gradient's rows, the accumulator of the gradient
    of the normalized rows, and the gain's gradient. -/
structure St (F : FTy → Type) [FloatOps F] where
  hs : Vec F S512x1024 .bf16
  ds : Vec F S512x1024 .bf16
  ac : Vec F S512x1024 .f32
  dg : Vec F S8x1024 .f32

/-- A later column block. -/
def inner (c : Dev nD) (t : Fin cfg0.N) (p : St F) : St F :=
  ⟨p.hs, p.ds, k0_pay1 (k0_pay11 p.hs (iblk m c 3 t) p.ds (iblk m c 4 t)) p.ac (iblk m c 3 t), p.dg⟩

/-- The first column block of a row block. -/
def enter (c : Dev nD) (t : Fin cfg0.N) (dg : Vec F S8x1024 .f32) : St F :=
  inner m c t ⟨k0_pay5 (iblk m c 0 t) (iblk m c 2 t), k0_pay6 (iblk m c 1 t), k0_pay7, dg⟩

/-- The last column block of a row block. -/
def leave (c : Dev nD) (t : Fin cfg0.N) (p : St F) : St F :=
  { inner m c t p with dg := k0_pay3 (iblk m c 0 t) (inner m c t p).ac p.dg }

/-- The carried state after the body at each point. -/
def stAt (c : Dev nD) : (n : ℕ) → n < cfg0.N → St F
  | 0, hn => enter m c ⟨0, hn⟩ k0_pay8
  | n + 1, hn =>
    if (n + 1) % 4 = 0 then enter m c ⟨n + 1, hn⟩ (stAt c n (Nat.lt_of_succ_lt hn)).dg
    else if (n + 1) % 4 = 3 then leave m c ⟨n + 1, hn⟩ (stAt c n (Nat.lt_of_succ_lt hn))
    else inner m c ⟨n + 1, hn⟩ (stAt c n (Nat.lt_of_succ_lt hn))

/-- The carried state before a point other than the first. -/
abbrev prev (c : Dev nD) (t : Fin cfg0.N) : St F := stAt m c (t.val - 1) (Nat.lt_of_le_of_lt (Nat.sub_le _ _) t.isLt)

theorem stAt_first (c : Dev nD) (t : Fin cfg0.N) (h : t.val = 0) : stAt m c t.val t.isLt = enter m c t k0_pay8 := by
  obtain ⟨n, hn⟩ := t
  cases n with
  | zero => rfl
  | succ n => exact absurd h (Nat.succ_ne_zero n)

theorem stAt_enter (c : Dev nD) (t : Fin cfg0.N) (hz : ¬t.val = 0) (h : t.val % 4 = 0) :
    stAt m c t.val t.isLt = enter m c t (prev m c t).dg := by
  obtain ⟨n, hn⟩ := t
  cases n with
  | zero => exact absurd rfl hz
  | succ n => exact if_pos h

theorem stAt_inner (c : Dev nD) (t : Fin cfg0.N) (h0 : ¬t.val % 4 = 0) (h3 : ¬t.val % 4 = 3) :
    stAt m c t.val t.isLt = inner m c t (prev m c t) := by
  obtain ⟨n, hn⟩ := t
  cases n with
  | zero => exact absurd rfl h0
  | succ n => exact (if_neg h0).trans (if_neg h3)

theorem stAt_leave (c : Dev nD) (t : Fin cfg0.N) (h3 : t.val % 4 = 3) :
    stAt m c t.val t.isLt = leave m c t (prev m c t) := by
  obtain ⟨n, hn⟩ := t
  cases n with
  | zero => exact absurd (show (0 : ℕ) % 4 = 3 from h3) (by decide)
  | succ n => exact (if_neg (fun h : (n + 1) % 4 = 0 => by have : (n + 1) % 4 = 3 := h3; omega)).trans (if_pos h3)

/-! ### The pipeline's data -/

abbrev sc0 : Memref sig .tc .vmem S512x1024 .bf16 := Memref.whole cc0_scratch0
abbrev sc1 : Memref sig .tc .vmem S512x1024 .bf16 := Memref.whole cc0_scratch1
abbrev sc2 : Memref sig .tc .vmem S512x1024 .f32 := Memref.whole cc0_scratch2

/-- What the launch hands over, the scratch buffers owned at some contents. -/
theorem launch_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- The scratch buffers at a carried state, and the generator's register. -/
def Carried (c : Dev nD) (s : St F) : sProp 𝕄 :=
  iprop(iprop(owns (c : Thread nD τ) sc0 fullShare s.hs ∗ owns (c : Thread nD τ) sc1 fullShare s.ds
    ∗ owns (c : Thread nD τ) sc2 fullShare s.ac) ∗ (∃ r, prngReg c r))

/-- The invariant between points. -/
def Inv (c : Dev nD) : (n : ℕ) → n ≤ cfg0.N → sProp 𝕄
  | 0, _ => Pipeline.ΦA spec0 c
  | n + 1, hn => Carried c (stAt m c n hn)

theorem Inv_zero (c : Dev nD) (n : ℕ) (h : n ≤ cfg0.N) (hz : n = 0) : Inv m c n h = Pipeline.ΦA spec0 c := by
  subst hz; rfl

theorem Inv_pos (c : Dev nD) (n : ℕ) (h : n ≤ cfg0.N) (hz : ¬n = 0) :
    Inv m c n h = Carried c (stAt m c (n - 1) (by omega)) := by
  cases n with
  | zero => exact absurd rfl hz
  | succ n => rfl

/-- The pipeline's data: the arrays as the region finds them, and what the body leaves in every window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (iblk m c 0 t) (stAt m c t.val t.isLt).ac (iblk m c 1 t) (iblk m c 2 t)
    | ⟨6, _⟩ => (stAt m c t.val t.isLt).hs
    | ⟨7, _⟩ => k0_pay10 (stAt m c t.val t.isLt).hs (iblk m c 3 t)
    | ⟨8, _⟩ => k0_pay11 (stAt m c t.val t.isLt).hs (iblk m c 3 t) (stAt m c t.val t.isLt).ds (iblk m c 4 t)
    | ⟨9, _⟩ => (stAt m c t.val t.isLt).dg
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay4 (iblk m c 0 t) (stAt m c t.val t.isLt).ac (iblk m c 1 t) (iblk m c 2 t) := by dsimp only [dats]
theorem after6 (c : Dev nD) (t : Fin cfg0.N) : (dats m 0 c).after 6 t = (stAt m c t.val t.isLt).hs := by dsimp only [dats]
theorem after7 (c : Dev nD) (t : Fin cfg0.N) : (dats m 0 c).after 7 t = k0_pay10 (stAt m c t.val t.isLt).hs (iblk m c 3 t) := by dsimp only [dats]
theorem after8 (c : Dev nD) (t : Fin cfg0.N) : (dats m 0 c).after 8 t = k0_pay11 (stAt m c t.val t.isLt).hs (iblk m c 3 t) (stAt m c t.val t.isLt).ds (iblk m c 4 t) := by dsimp only [dats]
theorem after9 (c : Dev nD) (t : Fin cfg0.N) : (dats m 0 c).after 9 t = (stAt m c t.val t.isLt).dg := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The normalized rows stay in their window's buffer through the later column blocks. -/
theorem before6 (c : Dev nD) (t : Fin cfg0.N) (h0 : ¬t.val % 4 = 0) (d) :
    (dats m 0 c).before 6 t d = (prev m c t).hs := by
  rw [Dat.before_out_traj _ 6 rfl (fun _ _ => rfl) (fun t hz hi _ => ?_) t.val t rfl d,
    if_neg (by rw [held6 t h0]; exact Bool.false_ne_true)]
  · dsimp only [dats]
  · rw [after6, after6]
    have h0 : ¬t.val % 4 = 0 := fun h => by rw [live6 t h] at hi; exact absurd hi Bool.false_ne_true
    by_cases h3 : t.val % 4 = 3
    · rw [stAt_leave m c t h3]; rfl
    · rw [stAt_inner m c t h0 h3]; rfl

/-- The gain's gradient stays in its window's buffer from the first point on. -/
theorem before9 (c : Dev nD) (t : Fin cfg0.N) (hz : ¬t.val = 0) (d) :
    (dats m 0 c).before 9 t d = (prev m c t).dg := by
  rw [Dat.before_out_traj _ 9 rfl (fun _ _ => rfl) (fun t hz hi _ => ?_) t.val t rfl d,
    if_neg (by rw [held9 t hz]; exact Bool.false_ne_true)]
  · dsimp only [dats]
  · rw [after9, after9]
    have h3 : ¬t.val % 4 = 3 := fun h => by rw [live9 t (.inr h)] at hi; exact absurd hi Bool.false_ne_true
    by_cases h0 : t.val % 4 = 0
    · rw [stAt_enter m c t hz h0]; rfl
    · rw [stAt_inner m c t h0 h3]; rfl

/-! ### The body's obligation -/

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1x1024x1024 .bf16 := win0_3.stage (cfg0.slots t 3)
abbrev ms4 (t : Fin cfg0.N) : Memref sig .tc .vmem S1024x1024 .bf16 := win0_4.stage (cfg0.slots t 4)
abbrev ms5 (t : Fin cfg0.N) : Memref sig .tc .vmem S512x1024 .f32 := win0_5.stage (cfg0.slots t 5)
abbrev ms6 (t : Fin cfg0.N) : Memref sig .tc .vmem S512x1024 .bf16 := win0_6.stage (cfg0.slots t 6)
abbrev ms7 (t : Fin cfg0.N) : Memref sig .tc .vmem S512x1024 .bf16 := win0_7.stage (cfg0.slots t 7)
abbrev ms8 (t : Fin cfg0.N) : Memref sig .tc .vmem S512x1024 .bf16 := win0_8.stage (cfg0.slots t 8)
abbrev ms9 (t : Fin cfg0.N) : Memref sig .tc .vmem S8x1024 .f32 := win0_9.stage (cfg0.slots t 9)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]
theorem leaves4 (c : Dev nD) (t : Fin cfg0.N) : (dats m 0 c).leavesExact 4 t = owns (c : Thread nD τ) (ms4 t) fullShare (iblk m c 4 t) := by
  rw [← after4]
theorem leaves7 (c : Dev nD) (t : Fin cfg0.N) : (dats m 0 c).leavesExact 7 t = owns (c : Thread nD τ) (ms7 t) fullShare (k0_pay10 (stAt m c t.val t.isLt).hs (iblk m c 3 t)) := by
  rw [← after7]
theorem leaves8 (c : Dev nD) (t : Fin cfg0.N) : (dats m 0 c).leavesExact 8 t = owns (c : Thread nD τ) (ms8 t) fullShare (k0_pay11 (stAt m c t.val t.isLt).hs (iblk m c 3 t) (stAt m c t.val t.isLt).ds (iblk m c 4 t)) := by
  rw [← after8]
theorem leaves5 (c : Dev nD) (t : Fin cfg0.N) (h : t.val % 4 = 3) : (dats m 0 c).leavesExact 5 t = owns (c : Thread nD τ) (ms5 t) fullShare (k0_pay4 (iblk m c 0 t) (stAt m c t.val t.isLt).ac (iblk m c 1 t) (iblk m c 2 t)) := by
  rw [← after5]; unfold Dat.leavesExact; rw [live5 t h]
theorem leaves6 (c : Dev nD) (t : Fin cfg0.N) (h : t.val % 4 = 0) : (dats m 0 c).leavesExact 6 t = owns (c : Thread nD τ) (ms6 t) fullShare ((stAt m c t.val t.isLt).hs) := by
  rw [← after6]; unfold Dat.leavesExact; rw [live6 t h]
theorem leaves9 (c : Dev nD) (t : Fin cfg0.N) (h : t.val = 0 ∨ t.val % 4 = 3) : (dats m 0 c).leavesExact 9 t = owns (c : Thread nD τ) (ms9 t) fullShare ((stAt m c t.val t.isLt).dg) := by
  rw [← after9]; unfold Dat.leavesExact; rw [live9 t h]
theorem leaves6_last (c : Dev nD) (t : Fin cfg0.N) (h : t.val % 4 = 3) : (dats m 0 c).leavesExact 6 t = owns (c : Thread nD τ) (ms6 t) fullShare ((stAt m c t.val t.isLt).hs) := by
  rw [← after6]; unfold Dat.leavesExact; rw [idle6 t (by omega), back6 t h]

set_option maxHeartbeats 4000000 in
theorem sound_first (c : Dev nD) (t : Fin cfg0.N) (hz : t.val = 0) :
    bodyPre m c t ⊢ wp frame (wpE (defs₀ (F := F)) Variants.none c none) Set.univ (bodyAt0 t) (fun _ => bodyPost m c t) := by
  have h0 : t.val % 4 = 0 := by omega
  have h3 : ¬t.val % 4 = 3 := by omega
  unfold bodyPre bodyPost bodyAt0
  simp only [before0, before1, before2, before3, before4]
  rw [show (dats m 0 c).owesAt () t.succ = (dats m 0 c).owesAt () t.castSucc from rfl,
    show (dats m 0 c).Φ t.succ = Carried c (stAt m c t.val t.isLt) from rfl,
    Inv_castSucc m c t, Inv_zero m c _ _ hz, launch_eq]
  rw [leaves0, leaves1, leaves2, leaves3, leaves4, leaves7, leaves8, Dat.leavesExact_idle (dats m 0 c) 5 t (idle5 t h3) (keep5 t h3), leaves6 m c t h0, leaves9 m c t (.inl hz)]
  rw [stAt_first m c t hz]
  unfold Carried enter inner
  dsimp only
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_first c (grid0.coords t) _ _ _ _ _ _ _ _ _ _ _ _ _ _ _ _ _ _ _ _ _ _ _ _ _ _ ((cond1_iff t).mpr h0) ((cond2_iff t).mpr hz) (fun h => h3 ((cond3_iff t).mp h)) (iblk m c 0 t) (iblk m c 1 t) (iblk m c 2 t) (iblk m c 3 t) (iblk m c 4 t) _ _ _ _ _ _ _ _ Set.univ _)
  unfold Held
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexact H9

set_option maxHeartbeats 4000000 in
theorem sound_enter (c : Dev nD) (t : Fin cfg0.N) (hz : ¬t.val = 0) (h0 : t.val % 4 = 0) :
    bodyPre m c t ⊢ wp frame (wpE (defs₀ (F := F)) Variants.none c none) Set.univ (bodyAt0 t) (fun _ => bodyPost m c t) := by
  have h3 : ¬t.val % 4 = 3 := by omega
  unfold bodyPre bodyPost bodyAt0
  simp only [before0, before1, before2, before3, before4]
  rw [show (dats m 0 c).owesAt () t.succ = (dats m 0 c).owesAt () t.castSucc from rfl,
    show (dats m 0 c).Φ t.succ = Carried c (stAt m c t.val t.isLt) from rfl,
    Inv_castSucc m c t, Inv_pos m c _ _ hz]
  rw [leaves0, leaves1, leaves2, leaves3, leaves4, leaves7, leaves8, Dat.leavesExact_idle (dats m 0 c) 5 t (idle5 t h3) (keep5 t h3), leaves6 m c t h0, Dat.leavesExact_idle (dats m 0 c) 9 t (idle9 t (fun h => h.elim hz h3)) (keep9 t h3)]
  rw [stAt_enter m c t hz h0]
  unfold Carried enter inner
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_enter c (grid0.coords t) _ _ _ _ _ _ _ _ _ _ _ _ _ _ _ _ _ _ _ _ _ _ _ _ _ _ ((cond1_iff t).mpr h0) (fun h => hz ((cond2_iff t).mp h)) (fun h => h3 ((cond3_iff t).mp h)) (iblk m c 0 t) (iblk m c 1 t) (iblk m c 2 t) (iblk m c 3 t) (iblk m c 4 t) _ _ _ _ _ _ _ _ Set.univ _)
  unfold Held
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexists _; iexact H9

set_option maxHeartbeats 4000000 in
theorem sound_inner (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  have hz : ¬t.val = 0 := by omega
  unfold bodyPre bodyPost bodyAt0
  simp only [before0, before1, before2, before3, before4]
  rw [show (dats m 0 c).owesAt () t.succ = (dats m 0 c).owesAt () t.castSucc from rfl,
    show (dats m 0 c).Φ t.succ = Carried c (stAt m c t.val t.isLt) from rfl,
    Inv_castSucc m c t, Inv_pos m c _ _ hz]
  rw [leaves0, leaves1, leaves2, leaves3, leaves4, leaves7, leaves8, Dat.leavesExact_idle (dats m 0 c) 5 t (idle5 t h3) (keep5 t h3), Dat.leavesExact_idle (dats m 0 c) 6 t (idle6 t h0) (keep6 t h3), Dat.leavesExact_idle (dats m 0 c) 9 t (idle9 t (fun h => h.elim hz h3)) (keep9 t h3)]
  rw [stAt_inner m c t h0 h3]
  unfold Carried inner
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_inner c (grid0.coords t) _ _ _ _ _ _ _ _ _ _ _ _ _ _ _ _ _ _ _ _ _ _ _ _ _ _ (fun h => h0 ((cond1_iff t).mp h)) (fun h => hz ((cond2_iff t).mp h)) (fun h => h3 ((cond3_iff t).mp h)) (iblk m c 0 t) (iblk m c 1 t) (iblk m c 2 t) (iblk m c 3 t) (iblk m c 4 t) _ _ _ _ _ _ _ _ Set.univ _)
  unfold Held
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  iexists _; iexact H9

set_option maxHeartbeats 4000000 in
theorem sound_leave (c : Dev nD) (t : Fin cfg0.N) (h3 : t.val % 4 = 3) :
    bodyPre m c t ⊢ wp frame (wpE (defs₀ (F := F)) Variants.none c none) Set.univ (bodyAt0 t) (fun _ => bodyPost m c t) := by
  have hz : ¬t.val = 0 := by omega
  have h0 : ¬t.val % 4 = 0 := by omega
  unfold bodyPre bodyPost bodyAt0
  simp only [before0, before1, before2, before3, before4, before6 m c t h0, before9 m c t hz]
  rw [show (dats m 0 c).owesAt () t.succ = (dats m 0 c).owesAt () t.castSucc from rfl,
    show (dats m 0 c).Φ t.succ = Carried c (stAt m c t.val t.isLt) from rfl,
    Inv_castSucc m c t, Inv_pos m c _ _ hz]
  rw [leaves0, leaves1, leaves2, leaves3, leaves4, leaves7, leaves8, leaves5 m c t h3, leaves6_last m c t h3, leaves9 m c t (.inr h3)]
  rw [stAt_leave m c t h3]
  unfold Carried leave inner
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_leave c (grid0.coords t) _ _ _ _ _ _ _ _ _ _ _ _ _ _ _ _ _ _ _ _ _ _ _ _ _ _ (fun h => h0 ((cond1_iff t).mp h)) (fun h => hz ((cond2_iff t).mp h)) ((cond3_iff t).mpr h3) (iblk m c 0 t) (iblk m c 1 t) (iblk m c 2 t) (iblk m c 3 t) (iblk m c 4 t) _ _ _ _ _ _ _ _ Set.univ _)
  unfold Held
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  by_cases h0 : t.val % 4 = 0
  · exact sound_enter m c t hz h0
  by_cases h3 : t.val % 4 = 3
  · exact sound_leave m c t h3
  · exact sound_inner m c t h0 h3

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem opens (c : Dev nD) : Pipeline.ΦA spec0 c ⊢ (dats m 0 c).Φ 0 := by
  rw [show (dats m 0 c).Φ 0 = Inv m c 0 (Nat.zero_le _) from rfl, Inv_zero m c 0 _ rfl]

theorem closes (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 32 := N_0; omega), launch_eq]
  unfold Carried
  iintro ⟨⟨H0, H1, H2⟩, Hg⟩
  isplitl [H0 H1 H2]
  · isplitl [H0]; · iexists _; iexact H0
    isplitl [H1]; · iexists _; iexact H1
    iexists _; iexact H2
  iexact Hg

/-! ### The run and the frames -/

set_option backward.isDefEq.respectTransparency.types false in
/-- The launch: every final state has every array at what the data say, and every semaphore counter at zero. -/
theorem runs : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := opens m) (hout := closes m)

theorem runs_post : θ_run defs (onTc (τ := τ) (main (F := F))) (s₀ m ρ) (Pipeline.FramePost cfgs (dats m) 0 (V m)) :=
  (θ_run defs _ _).mono (fun _ h => h.1) (runs m ρ)

/-- The argument arrays end unchanged and every semaphore counter ends at zero, at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (runs_post m ρ)) ((θ_run defs _ _).mono (fun _ h => h.2) (runs m ρ))

end Cert.Proof.Mlp

end
-- ==== Proof.MlpValue.lean ====
/-
  The five arrays of `_mlp_bwd` after the run, read on the extended reals.
-/
module

public import proofs.«01_k».proof.Proof.MlpFrame
public import proofs.«01_k».proof.Proof.Norm
public import proofs.«01_k».proof.Proof.Attn
public import Idealize.ShloMosaic.Lib.Pointwise
public import Idealize.ShloMosaic.Lib.StableHlo.RunRead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mlp

open Cert.Norm Cert.Attn

/-! ### One row of the block -/

abbrev W1 := Fin 1024 → Fin 4096 → EReal
abbrev W2 := Fin 4096 → Fin 1024 → EReal

/-- A row's entries after the first product and its rectification. -/
def act (h : Fin 1024 → EReal) (w : W1) (n : Fin 4096) : EReal := max (∑ k, h k * w k n) 0
/-- The gradient of the first product's entries. -/
def grad (h d : Fin 1024 → EReal) (w : W1) (v : W2) (n : Fin 4096) : EReal :=
  (∑ k, d k * v n k) * Ideal.ofBits FTy.f32 1073741824#32 * act h w n
/-- The gradient of the normed entries. -/
def dh (h d : Fin 1024 → EReal) (w : W1) (v : W2) (b : Fin 1024) : EReal := ∑ n, grad h d w v n * w b n

end Cert.Mlp

namespace Cert.Proof.Mlp

open Cert.KernelMlpIdeal Cert.KernelMlpIdeal.Gen Cert.Norm Cert.Attn Cert.Mlp

section Payloads

abbrev row (x : Vec Ideal S512x1024 .f32) (a : Fin 512) : Fin 1024 → EReal := fun k => x (ix2 a k)
abbrev gain (g : Vec Ideal S1x1024 .f32) : Fin 1024 → EReal := fun k => g (ix2 0 k)

variable (x dy ac : Vec Ideal S512x1024 .f32) (g : Vec Ideal S1x1024 .f32) (u : Vec Ideal S1x1024x1024 .bf16) (w : Vec Ideal S1024x1024 .bf16)
  (h d : Vec Ideal S512x1024 .bf16) (dg : Vec Ideal S8x1024 .f32)

theorem pay5_apply (a : Fin 512) (b : Fin 1024) : k0_pay5 x g (ix2 a b) = hr (row x a) (gain g) b := by
  pointwise [k0_pay5]
  rfl
theorem pay6_apply (a : Fin 512) (b : Fin 1024) : k0_pay6 dy (ix2 a b) = dy (ix2 a b) := by
  pointwise [k0_pay6]
theorem pay7_apply (a : Fin 512) (b : Fin 1024) : (k0_pay7 (F := Ideal)) (ix2 a b) = 0 := by
  pointwise [k0_pay7]
theorem pay8_apply (a : Fin 8) (b : Fin 1024) : (k0_pay8 (F := Ideal)) (ix2 a b) = 0 := by
  pointwise [k0_pay8]
theorem pay10_apply (a : Fin 512) (b : Fin 1024) :
    k0_pay10 h u (ix2 a b) = max (∑ k, h (ix2 a k) * u (ix3 0 k b)) 0 * max (∑ k, h (ix2 a k) * u (ix3 0 k b)) 0 := by
  pointwise [k0_pay10, k0_pay9]
theorem pay11_apply (a : Fin 512) (b : Fin 1024) :
    k0_pay11 h u d w (ix2 a b)
      = (∑ k, d (ix2 a k) * w (ix2 b k)) * Ideal.ofBits FTy.f32 1073741824#32 * max (∑ k, h (ix2 a k) * u (ix3 0 k b)) 0 := by
  pointwise [k0_pay11, k0_pay9]
theorem pay1_apply (a : Fin 512) (b : Fin 1024) :
    k0_pay1 h ac u (ix2 a b) = ac (ix2 a b) + ∑ n, h (ix2 a n) * u (ix3 0 b n) := by
  pointwise [k0_pay1]
theorem pay3_apply (a : Fin 8) (b : Fin 1024) :
    k0_pay3 x ac dg (ix2 a b) = dg (ix2 a b) + ∑ r, ac (ix2 r b) * (x (ix2 r b) * rstd (row x r)) := by
  pointwise [k0_pay3, k0_pay2]
  rfl
theorem pay4_apply (a : Fin 512) (b : Fin 1024) :
    k0_pay4 x ac dy g (ix2 a b) = dy (ix2 a b) + kbwd (row x a) (fun k => ac (ix2 a k) * gain g k) b := by
  pointwise [k0_pay4, k0_pay2]
  rfl

end Payloads

/-! ### The arrays the run is compared with -/

variable (m : (ℓ : Loc nD τ sig) → Buf (Elt Ideal) ℓ) (c : Dev nD)

abbrev xR (r : Fin 4096) : Fin 1024 → EReal := fun k => m ((c : Thread nD τ).loc main_arg0) (ix2 r k)
abbrev dR (r : Fin 4096) : Fin 1024 → EReal := fun k => m ((c : Thread nD τ).loc main_arg1) (ix2 r k)
abbrev gR : Fin 1024 → EReal := fun k => m ((c : Thread nD τ).loc main_arg2) (ix1 k)
abbrev w1M : W1 := fun k n => m ((c : Thread nD τ).loc main_arg3) (ix2 k n)
abbrev w2M : W2 := fun n k => m ((c : Thread nD τ).loc main_arg4) (ix2 n k)

/-- A row normed, its rectified entries, the gradient of the first product's entries and of the normed entries. -/
def hA (r : Fin 4096) : Fin 1024 → EReal := hr (xR m c r) (gR m c)
def aA (r : Fin 4096) : Fin 4096 → EReal := act (hA m c r) (w1M m c)
def daA (r : Fin 4096) : Fin 4096 → EReal := grad (hA m c r) (dR m c r) (w1M m c) (w2M m c)
def dhA (r : Fin 4096) : Fin 1024 → EReal := dh (hA m c r) (dR m c r) (w1M m c) (w2M m c)

def dxArr : FVec Ideal S4096x1024 .f32 := fun j =>
  dR m c (j 0) (j 1) + kbwd (xR m c (j 0)) (fun k => dhA m c (j 0) k * gR m c k) (j 1)
def hArr : FVec Ideal S4096x1024 .bf16 := fun j => hA m c (j 0) (j 1)
def rArr : FVec Ideal S4096x4096 .bf16 := fun j => aA m c (j 0) (j 1) * aA m c (j 0) (j 1)
def daArr : FVec Ideal S4096x4096 .bf16 := fun j => daA m c (j 0) (j 1)
/-- One row's part of the gain's gradient. -/
def dgR (b : Fin 1024) (r : Fin 4096) : EReal := dhA m c r b * (xR m c r b * rstd (xR m c r))
def dgArr : FVec Ideal S8x1024 .f32 := fun j => ∑ r, dgR m c (j 1) r

/-! ### Tiles -/

/-- Row `a` of row block `i`, and column `n` of column block `j`. -/
def tr (i : ℕ) (h : i < 8) (a : Fin 512) : Fin 4096 := ⟨512 * i + a.val, by omega⟩
def tc (j : ℕ) (h : j < 4) (n : Fin 1024) : Fin 4096 := ⟨1024 * j + n.val, by omega⟩
theorem lt32 (t : Fin cfg0.N) : t.val < 32 := by have := t.isLt; have h : cfg0.N = 32 := N_0; omega
theorem ri (t : Fin cfg0.N) : t.val / 4 < 8 := by have := lt32 t; omega
theorem cj (t : Fin cfg0.N) : t.val % 4 < 4 := Nat.mod_lt _ (by decide)

/-- The sum over row block `i` of a function of the rows, and over column block `j` of a function of the columns. -/
def rsum (f : Fin 4096 → EReal) (i : ℕ) : EReal := if h : i < 8 then ∑ a, f (tr i h a) else 0
def csum (f : Fin 4096 → EReal) (j : ℕ) : EReal := if h : j < 4 then ∑ n, f (tc j h n) else 0
theorem sum_rsum (f : Fin 4096 → EReal) : ∑ i ∈ Finset.range 8, rsum f i = ∑ r, f r := by
  rw [Fin.sum_univ_tiles 8 512 rfl f, Finset.sum_range]
  refine Finset.sum_congr rfl fun i _ => ?_
  unfold rsum
  rw [dif_pos i.isLt]
  exact Finset.sum_congr rfl fun a _ => congrArg f (Fin.ext (by show 512 * i.val + a.val = i.val * 512 + a.val; omega))
theorem sum_csum (f : Fin 4096 → EReal) : ∑ i ∈ Finset.range 4, csum f i = ∑ r, f r := by
  rw [Fin.sum_univ_tiles 4 1024 rfl f, Finset.sum_range]
  refine Finset.sum_congr rfl fun i _ => ?_
  unfold csum
  rw [dif_pos i.isLt]
  exact Finset.sum_congr rfl fun a _ => congrArg f (Fin.ext (by show 1024 * i.val + a.val = i.val * 1024 + a.val; omega))

/-! ### The blocks the body reads -/

theorem V_v4 (b : Fin 1024) : (V m c main_v4 : Vec Ideal S1x1024 .f32) (ix2 0 b) = gR m c b := by
  dsimp only [V, hostOps0]
  after_reads_simp
  pointwise
theorem V_v2 (j : Fin 4) (k n : Fin 1024) : (V m c main_v2 : Vec Ideal S4x1024x1024 .bf16) (ix3 j k n) = w1M m c k (tc j.val j.isLt n) := by
  dsimp only [V, hostOps0]
  after_reads_simp
  pointwise
  exact congrArg (w1M m c k) (Fin.ext (by show _ = 1024 * j.val + n.val; simp; omega))
theorem V_v3 : V m c main_v3 = m ((c : Thread nD τ).loc main_arg4) := by
  dsimp only [V, hostOps0]
  after_reads_simp
  rfl

theorem idx0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem idx1 : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 3) = t.val % 4 ∧ win0_3.index t (1 : Fin 3) = 0 ∧ win0_3.index t (2 : Fin 3) = 0 :=
  (by decide +kernel : ∀ t : Fin grid0.N, win0_3.index t (0 : Fin 3) = t.val % 4 ∧ win0_3.index t (1 : Fin 3) = 0 ∧ win0_3.index t (2 : Fin 3) = 0)
theorem idx4 : ∀ t : Fin cfg0.N, win0_4.index t (0 : Fin 2) = t.val % 4 ∧ win0_4.index t (1 : Fin 2) = 0 :=
  (by decide +kernel : ∀ t : Fin grid0.N, win0_4.index t (0 : Fin 2) = t.val % 4 ∧ win0_4.index t (1 : Fin 2) = 0)
theorem idx5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)
theorem idx6 : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)
theorem idx7 : ∀ t : Fin cfg0.N, win0_7.index t (0 : Fin 2) = t.val / 4 ∧ win0_7.index t (1 : Fin 2) = t.val % 4 :=
  (by decide +kernel : ∀ t : Fin grid0.N, win0_7.index t (0 : Fin 2) = t.val / 4 ∧ win0_7.index t (1 : Fin 2) = t.val % 4)
theorem idx8 : ∀ t : Fin cfg0.N, win0_8.index t (0 : Fin 2) = t.val / 4 ∧ win0_8.index t (1 : Fin 2) = t.val % 4 :=
  (by decide +kernel : ∀ t : Fin grid0.N, win0_8.index t (0 : Fin 2) = t.val / 4 ∧ win0_8.index t (1 : Fin 2) = t.val % 4)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem x_row (t : Fin cfg0.N) (a : Fin 512) : row (iblk m c 0 t) a = xR m c (tr (t.val / 4) (ri t) a) := by
  funext b
  refine Eq.trans ?_ (congrFun (V_main_arg0 m c) (ix2 (tr (t.val / 4) (ri t) a) b))
  dsimp only [row]
  unfold iblk
  rw [View.read_apply]
  show V m c main_arg0 _ = V m c main_arg0 _
  congr 1
  funext e
  apply Fin.ext
  match e with
  | ⟨0, _⟩ => show win0_0.index t 0 * 512 + 1 * a.val = 512 * (t.val / 4) + a.val; rw [(idx0 t).1]; omega
  | ⟨1, _⟩ => show win0_0.index t 1 * 1024 + 1 * b.val = b.val; rw [(idx0 t).2]; omega
theorem d_row (t : Fin cfg0.N) (a : Fin 512) : row (iblk m c 1 t) a = dR m c (tr (t.val / 4) (ri t) a) := by
  funext b
  refine Eq.trans ?_ (congrFun (V_main_arg1 m c) (ix2 (tr (t.val / 4) (ri t) a) b))
  dsimp only [row]
  unfold iblk
  rw [View.read_apply]
  show V m c main_arg1 _ = V m c main_arg1 _
  congr 1
  funext e
  apply Fin.ext
  match e with
  | ⟨0, _⟩ => show win0_1.index t 0 * 512 + 1 * a.val = 512 * (t.val / 4) + a.val; rw [(idx1 t).1]; omega
  | ⟨1, _⟩ => show win0_1.index t 1 * 1024 + 1 * b.val = b.val; rw [(idx1 t).2]; omega
theorem g_row (t : Fin cfg0.N) : gain (iblk m c 2 t) = gR m c := by
  funext b
  refine Eq.trans ?_ (V_v4 m c b)
  dsimp only [gain]
  unfold iblk
  rw [View.read_apply]
  show V m c main_v4 _ = V m c main_v4 _
  congr 1
  funext a
  apply Fin.ext
  match a with
  | ⟨0, _⟩ => show win0_2.index t 0 * 1 + 1 * 0 = 0; rw [(idx2 t).1]
  | ⟨1, _⟩ => show win0_2.index t 1 * 1024 + 1 * b.val = b.val; rw [(idx2 t).2]; omega
theorem u_blk (t : Fin cfg0.N) (k n : Fin 1024) :
    (iblk m c 3 t : Vec Ideal S1x1024x1024 .bf16) (ix3 0 k n) = w1M m c k (tc (t.val % 4) (cj t) n) := by
  refine Eq.trans ?_ (V_v2 m c ⟨t.val % 4, cj t⟩ k n)
  unfold iblk
  rw [View.read_apply]
  show V m c main_v2 _ = V m c main_v2 _
  congr 1
  funext a
  apply Fin.ext
  match a with
  | ⟨0, _⟩ => show win0_3.index t 0 * 1 + 1 * 0 = t.val % 4; rw [(idx3 t).1]; omega
  | ⟨1, _⟩ => show win0_3.index t 1 * 1024 + 1 * k.val = k.val; rw [(idx3 t).2.1]; omega
  | ⟨2, _⟩ => show win0_3.index t 2 * 1024 + 1 * n.val = n.val; rw [(idx3 t).2.2]; omega
theorem w_blk (t : Fin cfg0.N) (n k : Fin 1024) :
    (iblk m c 4 t : Vec Ideal S1024x1024 .bf16) (ix2 n k) = w2M m c (tc (t.val % 4) (cj t) n) k := by
  refine Eq.trans ?_ (congrFun (V_v3 m c) (ix2 (tc (t.val % 4) (cj t) n) k))
  unfold iblk
  rw [View.read_apply]
  show V m c main_v3 _ = V m c main_v3 _
  congr 1
  funext a
  apply Fin.ext
  match a with
  | ⟨0, _⟩ => show win0_4.index t 0 * 1024 + 1 * n.val = 1024 * (t.val % 4) + n.val; rw [(idx4 t).1]; omega
  | ⟨1, _⟩ => show win0_4.index t 1 * 1024 + 1 * k.val = k.val; rw [(idx4 t).2]; omega

/-! ### The carried state -/

/-- The two kept blocks hold the rows of the point's row block. -/
def Rows (t : Fin cfg0.N) (p : St Ideal) : Prop :=
  ∀ (a : Fin 512) (k : Fin 1024), p.hs (ix2 a k) = hA m c (tr (t.val / 4) (ri t) a) k ∧ p.ds (ix2 a k) = dR m c (tr (t.val / 4) (ri t) a) k

variable {m c}

theorem b7 {t : Fin cfg0.N} {p : St Ideal} (hp : Rows m c t p) (a : Fin 512) (n : Fin 1024) :
    k0_pay10 p.hs (iblk m c 3 t) (ix2 a n) = rArr m c (ix2 (tr (t.val / 4) (ri t) a) (tc (t.val % 4) (cj t) n)) := by
  rw [pay10_apply]
  simp only [(hp a _).1, u_blk]
  rfl
theorem b8 {t : Fin cfg0.N} {p : St Ideal} (hp : Rows m c t p) (a : Fin 512) (n : Fin 1024) :
    k0_pay11 p.hs (iblk m c 3 t) p.ds (iblk m c 4 t) (ix2 a n) = daA m c (tr (t.val / 4) (ri t) a) (tc (t.val % 4) (cj t) n) := by
  rw [pay11_apply]
  simp only [(hp a _).1, (hp a _).2, u_blk, w_blk]
  rfl
/-- The part of a normed entry's gradient from one column of the first product. -/
abbrev part (m : (ℓ : Loc nD τ sig) → Buf (Elt Ideal) ℓ) (c : Dev nD) (r : Fin 4096) (b : Fin 1024) (n : Fin 4096) : EReal :=
  daA m c r n * w1M m c b n
theorem inner_ac {t : Fin cfg0.N} {p : St Ideal} (hp : Rows m c t p) (a : Fin 512) (b : Fin 1024) :
    (inner m c t p).ac (ix2 a b) = p.ac (ix2 a b) + csum (part m c (tr (t.val / 4) (ri t) a) b) (t.val % 4) := by
  refine (pay1_apply _ _ _ a b).trans ?_
  unfold csum
  rw [dif_pos (cj t)]
  exact congrArg (p.ac (ix2 a b) + ·) (Finset.sum_congr rfl fun n _ => by rw [b8 hp, u_blk])
theorem enter_rows (t : Fin cfg0.N) (dg : Vec Ideal S8x1024 .f32) : Rows m c t (enter m c t dg) := fun a k =>
  ⟨(pay5_apply _ _ a k).trans (by rw [x_row, g_row]; rfl), (pay6_apply _ a k).trans (congrFun (d_row m c t a) k)⟩
theorem leave_dg {t : Fin cfg0.N} {p : St Ideal} (h3 : t.val % 4 = 3)
    (hac : ∀ a b, (inner m c t p).ac (ix2 a b) = ∑ j ∈ Finset.range 4, csum (part m c (tr (t.val / 4) (ri t) a) b) j) (e : Fin 8) (b : Fin 1024) :
    (leave m c t p).dg (ix2 e b) = p.dg (ix2 e b) + rsum (dgR m c b) (t.val / 4) := by
  refine (pay3_apply _ _ _ e b).trans ?_
  unfold rsum
  rw [dif_pos (ri t)]
  refine congrArg (p.dg (ix2 e b) + ·) (Finset.sum_congr rfl fun r _ => ?_)
  rw [hac, sum_csum, x_row, show (iblk m c 0 t : Vec Ideal S512x1024 .f32) (ix2 r b) = _ from congrFun (x_row m c t r) b]
  rfl

/-- What the carried state is after a point. -/
structure Good (t : Fin cfg0.N) (s : St Ideal) : Prop where
  rows : Rows m c t s
  ac : ∀ a b, s.ac (ix2 a b) = ∑ j ∈ Finset.range (t.val % 4 + 1), csum (part m c (tr (t.val / 4) (ri t) a) b) j
  dg : ∀ e b, s.dg (ix2 e b) = ∑ i ∈ Finset.range ((t.val + 1) / 4), rsum (dgR m c b) i

theorem enter_good (t : Fin cfg0.N) (h0 : t.val % 4 = 0) (dg : Vec Ideal S8x1024 .f32)
    (hdg : ∀ e b, dg (ix2 e b) = ∑ i ∈ Finset.range (t.val / 4), rsum (dgR m c b) i) : Good (m := m) (c := c) t (enter m c t dg) where
  rows := enter_rows t dg
  ac a b := by
    refine (inner_ac (p := ⟨k0_pay5 (iblk m c 0 t) (iblk m c 2 t), k0_pay6 (iblk m c 1 t), k0_pay7 (F := Ideal), dg⟩) (enter_rows t dg) a b).trans ?_
    rw [h0, Finset.sum_range_one]
    exact (congrArg (· + _) (pay7_apply a b)).trans (zero_add _)
  dg e b := (hdg e b).trans (by rw [show (t.val + 1) / 4 = t.val / 4 by omega])

theorem inner_good (t t' : Fin cfg0.N) (ht : t.val = t'.val + 1) (h0 : ¬t.val % 4 = 0) {p : St Ideal} (hp : Good (m := m) (c := c) t' p) :
    Rows m c t p ∧ ∀ a b, (inner m c t p).ac (ix2 a b) = ∑ j ∈ Finset.range (t.val % 4 + 1), csum (part m c (tr (t.val / 4) (ri t) a) b) j := by
  have e : ∀ a, tr (t'.val / 4) (ri t') a = tr (t.val / 4) (ri t) a := fun a => Fin.ext (by
    show 512 * (t'.val / 4) + a.val = 512 * (t.val / 4) + a.val; rw [show t'.val / 4 = t.val / 4 by omega])
  have hr : Rows m c t p := fun a k => by rw [← e]; exact hp.rows a k
  refine ⟨hr, fun a b => ?_⟩
  rw [inner_ac hr, hp.ac, e, show t'.val % 4 + 1 = t.val % 4 by omega, ← Finset.sum_range_succ]

theorem good (n : ℕ) (h : n < cfg0.N) : Good (m := m) (c := c) ⟨n, h⟩ (stAt m c n h) := by
  induction n with
  | zero => exact enter_good ⟨0, h⟩ rfl _ fun e b => (pay8_apply e b).trans ((Finset.sum_range_zero (rsum (dgR m c b))).symm.trans (congrArg (fun n => ∑ i ∈ Finset.range n, rsum (dgR m c b) i) (Nat.zero_div 4).symm))
  | succ n ih =>
    have hp := ih (by omega)
    by_cases h0 : (n + 1) % 4 = 0
    · rw [stAt_enter m c ⟨n + 1, h⟩ (Nat.succ_ne_zero n) h0]
      exact enter_good ⟨n + 1, h⟩ h0 _ fun e b => hp.dg e b
    · obtain ⟨hr, ha⟩ := inner_good ⟨n + 1, h⟩ ⟨n, by omega⟩ rfl h0 hp
      by_cases h3 : (n + 1) % 4 = 3
      · rw [stAt_leave m c ⟨n + 1, h⟩ h3]
        refine ⟨hr, ha, fun e b => ?_⟩
        have h3' : (⟨n + 1, h⟩ : Fin cfg0.N).val % 4 = 3 := h3
        refine (leave_dg h3' (fun a b => (ha a b).trans (by rw [h3'])) e b).trans ?_
        refine (congrArg (· + _) (hp.dg e b)).trans ?_
        show ∑ i ∈ Finset.range ((n + 1) / 4), rsum (dgR m c b) i + rsum (dgR m c b) ((n + 1) / 4) = ∑ i ∈ Finset.range ((n + 1 + 1) / 4), rsum (dgR m c b) i
        rw [show (n + 1 + 1) / 4 = (n + 1) / 4 + 1 by omega, Finset.sum_range_succ]
      · rw [stAt_inner m c ⟨n + 1, h⟩ h0 h3]
        refine ⟨hr, ha, fun e b => ?_⟩
        refine (hp.dg e b).trans ?_
        show ∑ i ∈ Finset.range ((n + 1) / 4), _ = ∑ i ∈ Finset.range ((n + 1 + 1) / 4), _
        rw [show (n + 1 + 1) / 4 = (n + 1) / 4 by omega]

variable (m c)

/-! ### The arrays after the run -/

theorem read5 (G : FVec Ideal S4096x1024 .f32) (t : Fin cfg0.N) (r : Fin 512) (b : Fin 1024) :
    (((cfg0.win 5).blk t).view.read (Elt Ideal) G : Vec Ideal S512x1024 .f32) (ix2 r b) = G (ix2 (tr (t.val / 4) (ri t) r) b) := by
  rw [View.read_apply]
  show G _ = _
  congr 1
  funext a
  apply Fin.ext
  match a with
  | ⟨0, _⟩ => show win0_5.index t 0 * 512 + 1 * r.val = 512 * (t.val / 4) + r.val; rw [(idx5 t).1]; omega
  | ⟨1, _⟩ => show win0_5.index t 1 * 1024 + 1 * b.val = b.val; rw [(idx5 t).2]; omega

theorem final5 : (dats m 0 c).arrAt 5 cfg0.N = dxArr m c := by
  refine (dats m 0 c).arrAt_eq_of_cover 5 (dxArr m c) (fun t hf => ?_) fun i => ?_
  · show (cfg0.win 5).cut (grid0.coords t) ((dats m 0 c).after 5 t) = _
    rw [after5]
    refine (funext fun j => ?_ : (k0_pay4 (iblk m c 0 t) (stAt m c t.val t.isLt).ac (iblk m c 1 t) (iblk m c 2 t) : Vec Ideal S512x1024 .f32) = (((cfg0.win 5).blk t).view.read (Elt Ideal) (dxArr m c) : Vec Ideal S512x1024 .f32))
    idx_vars j
    rw [read5]
    have hg := good (m := m) (c := c) t.val t.isLt
    have h3 : t.val % 4 = 3 := (flush0_5 t).mp hf
    refine (pay4_apply _ _ _ _ j0 j1).trans ?_
    have hac (k : Fin 1024) : (stAt m c t.val t.isLt).ac (ix2 j0 k) = dhA m c (tr (t.val / 4) (ri t) j0) k :=
      (hg.ac j0 k).trans ((congrArg (fun n => ∑ j ∈ Finset.range (n + 1), csum (part m c (tr (t.val / 4) (ri t) j0) k) j) h3).trans (sum_csum _))
    rw [x_row]
    exact congrArg₂ (· + ·) (congrFun (d_row m c t j0) j1)
      (congrArg (fun f => kbwd _ f j1) (funext fun k => congrArg₂ (· * ·) (hac k) (congrFun (g_row m c t) k)))
  · have h0 : (i 0 : Nat) < 4096 := (i 0).isLt
    have h1 : (i 1 : Nat) < 1024 := (i 1).isLt
    have hN : cfg0.N = 32 := N_0
    have ht : 4 * ((i 0 : Nat) / 512) + 3 < cfg0.N := by omega
    refine ⟨⟨4 * ((i 0 : Nat) / 512) + 3, ht⟩, (flush0_5 _).mpr (by show (4 * ((i 0 : Nat) / 512) + 3) % 4 = 3; omega), ?_⟩
    show i ∈ ((View.whole main_v5_0).slice (win0_5.rect ⟨4 * ((i 0 : Nat) / 512) + 3, ht⟩)).set
    rw [View.set_slice_whole, Rect.mem_set_unit]
    intro a
    match a with
    | ⟨0, _⟩ =>
      show win0_5.index ⟨4 * ((i 0 : Nat) / 512) + 3, ht⟩ 0 * 512 ≤ (i 0 : Nat) ∧ (i 0 : Nat) < win0_5.index ⟨4 * ((i 0 : Nat) / 512) + 3, ht⟩ 0 * 512 + 512
      rw [(idx5 _).1]; dsimp only; omega
    | ⟨1, _⟩ =>
      show win0_5.index ⟨4 * ((i 0 : Nat) / 512) + 3, ht⟩ 1 * 1024 ≤ (i 1 : Nat) ∧ (i 1 : Nat) < win0_5.index ⟨4 * ((i 0 : Nat) / 512) + 3, ht⟩ 1 * 1024 + 1024
      rw [(idx5 _).2]; omega

theorem read6 (G : FVec Ideal S4096x1024 .bf16) (t : Fin cfg0.N) (r : Fin 512) (b : Fin 1024) :
    (((cfg0.win 6).blk t).view.read (Elt Ideal) G : Vec Ideal S512x1024 .bf16) (ix2 r b) = G (ix2 (tr (t.val / 4) (ri t) r) b) := by
  rw [View.read_apply]
  show G _ = _
  congr 1
  funext a
  apply Fin.ext
  match a with
  | ⟨0, _⟩ => show win0_6.index t 0 * 512 + 1 * r.val = 512 * (t.val / 4) + r.val; rw [(idx6 t).1]; omega
  | ⟨1, _⟩ => show win0_6.index t 1 * 1024 + 1 * b.val = b.val; rw [(idx6 t).2]; omega

theorem final6 : (dats m 0 c).arrAt 6 cfg0.N = hArr m c := by
  refine (dats m 0 c).arrAt_eq_of_cover 6 (hArr m c) (fun t hf => ?_) fun i => ?_
  · show (cfg0.win 6).cut (grid0.coords t) ((dats m 0 c).after 6 t) = _
    rw [after6]
    refine (funext fun j => ?_ : ((stAt m c t.val t.isLt).hs : Vec Ideal S512x1024 .bf16) = (((cfg0.win 6).blk t).view.read (Elt Ideal) (hArr m c) : Vec Ideal S512x1024 .bf16))
    idx_vars j
    rw [read6]
    have hg := good (m := m) (c := c) t.val t.isLt
    exact (hg.rows j0 j1).1
  · have h0 : (i 0 : Nat) < 4096 := (i 0).isLt
    have h1 : (i 1 : Nat) < 1024 := (i 1).isLt
    have hN : cfg0.N = 32 := N_0
    have ht : 4 * ((i 0 : Nat) / 512) + 3 < cfg0.N := by omega
    refine ⟨⟨4 * ((i 0 : Nat) / 512) + 3, ht⟩, (flush0_6 _).mpr (by show (4 * ((i 0 : Nat) / 512) + 3) % 4 = 3; omega), ?_⟩
    show i ∈ ((View.whole main_v5_1).slice (win0_6.rect ⟨4 * ((i 0 : Nat) / 512) + 3, ht⟩)).set
    rw [View.set_slice_whole, Rect.mem_set_unit]
    intro a
    match a with
    | ⟨0, _⟩ =>
      show win0_6.index ⟨4 * ((i 0 : Nat) / 512) + 3, ht⟩ 0 * 512 ≤ (i 0 : Nat) ∧ (i 0 : Nat) < win0_6.index ⟨4 * ((i 0 : Nat) / 512) + 3, ht⟩ 0 * 512 + 512
      rw [(idx6 _).1]; dsimp only; omega
    | ⟨1, _⟩ =>
      show win0_6.index ⟨4 * ((i 0 : Nat) / 512) + 3, ht⟩ 1 * 1024 ≤ (i 1 : Nat) ∧ (i 1 : Nat) < win0_6.index ⟨4 * ((i 0 : Nat) / 512) + 3, ht⟩ 1 * 1024 + 1024
      rw [(idx6 _).2]; omega

theorem read7 (G : FVec Ideal S4096x4096 .bf16) (t : Fin cfg0.N) (r : Fin 512) (b : Fin 1024) :
    (((cfg0.win 7).blk t).view.read (Elt Ideal) G : Vec Ideal S512x1024 .bf16) (ix2 r b) = G (ix2 (tr (t.val / 4) (ri t) r) (tc (t.val % 4) (cj t) b)) := by
  rw [View.read_apply]
  show G _ = _
  congr 1
  funext a
  apply Fin.ext
  match a with
  | ⟨0, _⟩ => show win0_7.index t 0 * 512 + 1 * r.val = 512 * (t.val / 4) + r.val; rw [(idx7 t).1]; omega
  | ⟨1, _⟩ => show win0_7.index t 1 * 1024 + 1 * b.val = 1024 * (t.val % 4) + b.val; rw [(idx7 t).2]; omega

theorem final7 : (dats m 0 c).arrAt 7 cfg0.N = rArr m c := by
  refine (dats m 0 c).arrAt_eq_of_cover 7 (rArr m c) (fun t hf => ?_) fun i => ?_
  · show (cfg0.win 7).cut (grid0.coords t) ((dats m 0 c).after 7 t) = _
    rw [after7]
    refine (funext fun j => ?_ : (k0_pay10 (stAt m c t.val t.isLt).hs (iblk m c 3 t) : Vec Ideal S512x1024 .bf16) = (((cfg0.win 7).blk t).view.read (Elt Ideal) (rArr m c) : Vec Ideal S512x1024 .bf16))
    idx_vars j
    rw [read7]
    have hg := good (m := m) (c := c) t.val t.isLt
    exact b7 hg.rows j0 j1
  · have h0 : (i 0 : Nat) < 4096 := (i 0).isLt
    have h1 : (i 1 : Nat) < 4096 := (i 1).isLt
    have hN : cfg0.N = 32 := N_0
    have ht : 4 * ((i 0 : Nat) / 512) + (i 1 : Nat) / 1024 < cfg0.N := by omega
    refine ⟨⟨4 * ((i 0 : Nat) / 512) + (i 1 : Nat) / 1024, ht⟩, flush0_7 _, ?_⟩
    show i ∈ ((View.whole main_v5_2).slice (win0_7.rect ⟨4 * ((i 0 : Nat) / 512) + (i 1 : Nat) / 1024, ht⟩)).set
    rw [View.set_slice_whole, Rect.mem_set_unit]
    intro a
    match a with
    | ⟨0, _⟩ =>
      show win0_7.index ⟨4 * ((i 0 : Nat) / 512) + (i 1 : Nat) / 1024, ht⟩ 0 * 512 ≤ (i 0 : Nat) ∧ (i 0 : Nat) < win0_7.index ⟨4 * ((i 0 : Nat) / 512) + (i 1 : Nat) / 1024, ht⟩ 0 * 512 + 512
      rw [(idx7 _).1]; dsimp only; omega
    | ⟨1, _⟩ =>
      show win0_7.index ⟨4 * ((i 0 : Nat) / 512) + (i 1 : Nat) / 1024, ht⟩ 1 * 1024 ≤ (i 1 : Nat) ∧ (i 1 : Nat) < win0_7.index ⟨4 * ((i 0 : Nat) / 512) + (i 1 : Nat) / 1024, ht⟩ 1 * 1024 + 1024
      rw [(idx7 _).2]; dsimp only; omega

theorem read8 (G : FVec Ideal S4096x4096 .bf16) (t : Fin cfg0.N) (r : Fin 512) (b : Fin 1024) :
    (((cfg0.win 8).blk t).view.read (Elt Ideal) G : Vec Ideal S512x1024 .bf16) (ix2 r b) = G (ix2 (tr (t.val / 4) (ri t) r) (tc (t.val % 4) (cj t) b)) := by
  rw [View.read_apply]
  show G _ = _
  congr 1
  funext a
  apply Fin.ext
  match a with
  | ⟨0, _⟩ => show win0_8.index t 0 * 512 + 1 * r.val = 512 * (t.val / 4) + r.val; rw [(idx8 t).1]; omega
  | ⟨1, _⟩ => show win0_8.index t 1 * 1024 + 1 * b.val = 1024 * (t.val % 4) + b.val; rw [(idx8 t).2]; omega

theorem final8 : (dats m 0 c).arrAt 8 cfg0.N = daArr m c := by
  refine (dats m 0 c).arrAt_eq_of_cover 8 (daArr m c) (fun t hf => ?_) fun i => ?_
  · show (cfg0.win 8).cut (grid0.coords t) ((dats m 0 c).after 8 t) = _
    rw [after8]
    refine (funext fun j => ?_ : (k0_pay11 (stAt m c t.val t.isLt).hs (iblk m c 3 t) (stAt m c t.val t.isLt).ds (iblk m c 4 t) : Vec Ideal S512x1024 .bf16) = (((cfg0.win 8).blk t).view.read (Elt Ideal) (daArr m c) : Vec Ideal S512x1024 .bf16))
    idx_vars j
    rw [read8]
    have hg := good (m := m) (c := c) t.val t.isLt
    exact b8 hg.rows j0 j1
  · have h0 : (i 0 : Nat) < 4096 := (i 0).isLt
    have h1 : (i 1 : Nat) < 4096 := (i 1).isLt
    have hN : cfg0.N = 32 := N_0
    have ht : 4 * ((i 0 : Nat) / 512) + (i 1 : Nat) / 1024 < cfg0.N := by omega
    refine ⟨⟨4 * ((i 0 : Nat) / 512) + (i 1 : Nat) / 1024, ht⟩, flush0_8 _, ?_⟩
    show i ∈ ((View.whole main_v5_3).slice (win0_8.rect ⟨4 * ((i 0 : Nat) / 512) + (i 1 : Nat) / 1024, ht⟩)).set
    rw [View.set_slice_whole, Rect.mem_set_unit]
    intro a
    match a with
    | ⟨0, _⟩ =>
      show win0_8.index ⟨4 * ((i 0 : Nat) / 512) + (i 1 : Nat) / 1024, ht⟩ 0 * 512 ≤ (i 0 : Nat) ∧ (i 0 : Nat) < win0_8.index ⟨4 * ((i 0 : Nat) / 512) + (i 1 : Nat) / 1024, ht⟩ 0 * 512 + 512
      rw [(idx8 _).1]; dsimp only; omega
    | ⟨1, _⟩ =>
      show win0_8.index ⟨4 * ((i 0 : Nat) / 512) + (i 1 : Nat) / 1024, ht⟩ 1 * 1024 ≤ (i 1 : Nat) ∧ (i 1 : Nat) < win0_8.index ⟨4 * ((i 0 : Nat) / 512) + (i 1 : Nat) / 1024, ht⟩ 1 * 1024 + 1024
      rw [(idx8 _).2]; dsimp only; omega

/-- The last point. -/
abbrev t0_31 : Fin cfg0.N := ⟨31, by have h : cfg0.N = 32 := N_0; omega⟩

/-- The accumulated window is written back after the last point, whole. -/
theorem last9 (t : Fin cfg0.N) (hf : (cfg0.win 9).flush t = true) : t = t0_31 := by
  have := (flush0_9 t).mp hf
  exact Fin.ext (by have := lt32 t; show t.val = 31; omega)

theorem final9 : (dats m 0 c).arrAt 9 cfg0.N = dgArr m c := by
  refine (dats m 0 c).arrAt_eq_of_cover 9 (dgArr m c) (fun t hf => ?_) fun i => ⟨t0_31, (flush0_9 t0_31).mpr rfl, ?_⟩
  · obtain rfl := last9 t hf
    have hz' : (fun a => win0_9.index t0_31 a * main_v5_4.ty.shape.size a) = fun _ => 0 := funext fun a => by fin_cases a <;> decide
    refine Eq.trans ?_ (Memref.read_access_unit_zero (Elt Ideal) main_v5_4 hz' (fun a => by rw [congrFun hz' a]; simp) (dgArr m c)).symm
    show (cfg0.win 9).cut (grid0.coords t0_31) ((dats m 0 c).after 9 t0_31) = _
    rw [after9]
    funext j
    show (stAt m c 31 t0_31.isLt).dg j = _
    refine (congrArg _ (show j = ix2 (j 0) (j 1) by idx_vars j; rfl)).trans (((good 31 t0_31.isLt).dg (j 0) (j 1)).trans ?_)
    exact sum_rsum _
  · show i ∈ ((View.whole main_v5_4).slice (win0_9.rect t0_31)).set
    rw [View.set_slice_whole, Rect.mem_set_unit]
    intro a
    have h0 : (i 0 : Nat) < 8 := (i 0).isLt
    have h1 : (i 1 : Nat) < 1024 := (i 1).isLt
    have e : ∀ a, win0_9.index t0_31 a = 0 := fun a => by fin_cases a <;> decide
    match a with
    | ⟨0, _⟩ => show win0_9.index t0_31 0 * 8 ≤ (i 0 : Nat) ∧ (i 0 : Nat) < win0_9.index t0_31 0 * 8 + 8; rw [e 0]; omega
    | ⟨1, _⟩ => show win0_9.index t0_31 1 * 1024 ≤ (i 1 : Nat) ∧ (i 1 : Nat) < win0_9.index t0_31 1 * 1024 + 1024; rw [e 1]; omega

end Cert.Proof.Mlp
-- ==== Proof.Mlp.lean ====
/-
  The gradients of the squared-ReLU MLP block: its frames and its value.
-/
module

public import proofs.«01_k».proof.Defs
public import proofs.«01_k».proof.Proof.Norm
public import proofs.«01_k».proof.Proof.MlpFrame
public import proofs.«01_k».proof.Proof.MlpValue
public import proofs.«01_k».proof.Proof.Gen.KernelMlp
public import proofs.«01_k».proof.Proof.Gen.KernelMlp.Frame
public import proofs.«01_k».proof.Proof.Gen.KernelMlpIdeal
public import proofs.«01_k».proof.Proof.Gen.KernelMlpIdeal.Frame
public import proofs.«01_k».proof.Proof.Gen.KernelMlpIdeal.Skeleton
public import proofs.«01_k».proof.Proof.Gen.ReferenceMlpIdeal
public import proofs.«01_k».proof.Proof.Gen.ReferenceMlpIdeal.Run
public import proofs.«01_k».proof.Proof.Gen.Pre_finite_mlp
public import Idealize.ShloMosaic.Lib.Pointwise
public import Idealize.ShloMosaic.Lib.Tactic
public import Idealize.ShloMosaic.Lib.StableHlo.RunRead
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Proof.Mlp

/-- The program and its idealization are one text, so that a run of the one is a run of the other. -/
theorem same_run (s : _) (Q : _) :
    θ_run (Cert.KernelMlp.defs (F := Bits)) (onTc (τ := Cert.KernelMlp.τ) (Cert.KernelMlp.main (F := Bits))) s Q
      = θ_run (Cert.KernelMlpIdeal.defs (F := Bits)) (onTc (τ := Cert.KernelMlpIdeal.τ) (Cert.KernelMlpIdeal.main (F := Bits))) s Q := by
  sl_kernel_rfl

theorem frame_k : Cert.quiescent_KernelMlp := fun m ρ _ => (same_run _ _).mpr (frame (F := Bits) m ρ)
theorem frame_ki : Cert.quiescent_KernelMlpIdeal := fun m ρ _ => frame m ρ
theorem frame_kip : Cert.quiescent_KernelMlpIdeal_pre_finite_mlp := fun m ρ _ => frame m ρ
theorem frame_ri : Cert.quiescent_ReferenceMlpIdeal := fun m ρ _ =>
  (θ_run Cert.ReferenceMlpIdeal.defs _ _).mono (fun _ h => ⟨fun c => (h c).2.2.2.2.2, sem_eq_zero_of_no_sems (by decide) _⟩) (Cert.ReferenceMlpIdeal.Value.run (F := Ideal) m ρ)
theorem frame_rip : Cert.quiescent_ReferenceMlpIdeal_pre_finite_mlp := fun m ρ _ => frame_ri m ρ trivial

/-- The gradient of the first product's entries as the reference writes it: where the rectified entry is positive. -/
def gradR (a e : EReal) : EReal := if 0 < a then e * (Ideal.ofBits FTy.f32 1073741824#32 * max a 0) else 0
theorem gradR_eq (a e : EReal) : gradR a e = e * Ideal.ofBits FTy.f32 1073741824#32 * max a 0 := by
  unfold gradR
  split_ifs with h
  · exact (mul_assoc _ _ _).symm
  · rw [max_eq_right (not_lt.mp h), mul_zero]

/-- The gradient of the normed entries of a row, so written. -/
def dhR (h d : Fin 1024 → EReal) (w : Cert.Mlp.W1) (v : Cert.Mlp.W2) (b : Fin 1024) : EReal :=
  ∑ n, gradR (∑ k, h k * w k n) (∑ k, d k * v n k) * w b n
theorem dhR_eq (h d : Fin 1024 → EReal) (w : Cert.Mlp.W1) (v : Cert.Mlp.W2) : dhR h d w v = Cert.Mlp.dh h d w v := by
  funext b
  exact Finset.sum_congr rfl fun n _ => congrArg (· * w b n) (gradR_eq _ _)
theorem dh_real {h d : Fin 1024 → EReal} {w : Cert.Mlp.W1} {v : Cert.Mlp.W2} (hh : ∀ k, Norm.IsReal (h k)) (hd : ∀ k, Norm.IsReal (d k))
    (hw : ∀ k n, Norm.IsReal (w k n)) (hv : ∀ n k, Norm.IsReal (v n k)) (b : Fin 1024) : Norm.IsReal (Cert.Mlp.dh h d w v b) :=
  .sum fun n => (((Norm.IsReal.sum fun k => (hd k).mul (hv n k)).mul ⟨2, Norm.ofBits_two⟩).mul (by
    obtain ⟨r, hr⟩ : Norm.IsReal (∑ k, h k * w k n) := .sum fun k => (hh k).mul (hw k n)
    exact ⟨max r 0, by unfold Cert.Mlp.act; rw [hr]; exact (EReal.coe_strictMono.monotone.map_max (a := r) (b := 0)).symm⟩)).mul (hw b n)

section Reference

open Cert.ReferenceMlpIdeal

variable (m : (ℓ : Loc nD τ sig) → Buf (Elt Ideal) ℓ) (c : Dev nD) (x d : FVec Ideal S4096x1024 .f32) (g : FVec Ideal S1024 .f32)
  (w : FVec Ideal S1024x4096 .f32) (v : FVec Ideal S4096x1024 .f32)

theorem ref_dx (hx : m (c.tc.loc main_arg0) = x) (hd : m (c.tc.loc main_arg1) = d) (hg : m (c.tc.loc main_arg2) = g)
    (hw : m (c.tc.loc main_arg3) = w) (hv : m (c.tc.loc main_arg4) = v) (a : Fin 4096) (b : Fin 1024) :
    (Value.res_main_v52 m c : FVec Ideal S4096x1024 .f32) (ix2 a b)
      = ((d (ix2 a b) + dhR (Attn.hr (fun k => x (ix2 a k)) fun k => g (ix1 k)) (fun k => d (ix2 a k)) (fun k n => w (ix2 k n)) (fun n k => v (ix2 n k)) b
            * g (ix1 b) * Norm.rstd (fun k => x (ix2 a k)))
          + x (ix2 a b) * Norm.rmean (fun k => x (ix2 a k)) (fun k => dhR (Attn.hr (fun k => x (ix2 a k)) fun k => g (ix1 k)) (fun k => d (ix2 a k))
              (fun k n => w (ix2 k n)) (fun n k => v (ix2 n k)) k * g (ix1 k)))
        + Norm.rmean (fun k => x (ix2 a k)) (fun k => dhR (Attn.hr (fun k => x (ix2 a k)) fun k => g (ix1 k)) (fun k => d (ix2 a k))
              (fun k n => w (ix2 k n)) (fun n k => v (ix2 n k)) k * g (ix1 k)) * x (ix2 a b) := by
  unfold Value.res_main_v52
  rw [hx, hd, hg, hw, hv]
  clear hx hd hg hw hv
  pointwise [Norm.hostReduceAdd_lead, Norm.hostReduceAdd_ends]
  simp only [Fin.sum_univ_one]
  rfl

end Reference

/-- The five arguments are real arrays. -/
theorem real_of_pre (m : (ℓ : Loc Cert.KernelMlpIdeal.nD Cert.KernelMlpIdeal.τ Cert.KernelMlpIdeal.sig) → Buf (Elt Ideal) ℓ)
    (hp : Cert.Pre_KernelMlpIdeal_finite_mlp m) (c : Dev Cert.KernelMlpIdeal.nD) :
    (∀ r k, Norm.IsReal (xR m c r k)) ∧ (∀ r k, Norm.IsReal (dR m c r k)) ∧ (∀ k, Norm.IsReal (gR m c k))
    ∧ (∀ r k, Norm.IsReal (w1M m c r k)) ∧ (∀ r k, Norm.IsReal (w2M m c r k)) := by
  obtain ⟨h14, h5⟩ := Norm.andi_one (congrFun (hp c) (fun a => a.elim0))
  obtain ⟨h13, h4⟩ := Norm.andi_one h14
  obtain ⟨h12, h3⟩ := Norm.andi_one h13
  obtain ⟨h1, h2⟩ := Norm.andi_one h12
  exact ⟨fun r k => Norm.isReal_of_all h1 _, fun r k => Norm.isReal_of_all h2 _, fun k => Norm.isReal_of_all h3 _,
    fun r k => Norm.isReal_of_all h4 _, fun r k => Norm.isReal_of_all h5 _⟩

/-- The kernel's run, its results named. -/
theorem blocks (m : (ℓ : Loc Cert.KernelMlpIdeal.nD Cert.KernelMlpIdeal.τ Cert.KernelMlpIdeal.sig) → Buf (Elt Ideal) ℓ) (ρ : Dev Cert.KernelMlpIdeal.nD → PrngReg) :
    θ_run Cert.KernelMlpIdeal.defs (onTc (τ := Cert.KernelMlpIdeal.τ) (Cert.KernelMlpIdeal.main (F := Ideal))) ⟨m, fun _ => 0, ρ⟩
      (fun r => (∀ c : Dev Cert.KernelMlpIdeal.nD,
        r.2.mem (c.tc.loc Cert.KernelMlpIdeal.main_v5_0) = dxArr m c ∧ r.2.mem (c.tc.loc Cert.KernelMlpIdeal.main_v5_1) = hArr m c
        ∧ r.2.mem (c.tc.loc Cert.KernelMlpIdeal.main_v5_2) = rArr m c ∧ r.2.mem (c.tc.loc Cert.KernelMlpIdeal.main_v5_3) = daArr m c
        ∧ r.2.mem (c.tc.loc Cert.KernelMlpIdeal.main_v5_4) = dgArr m c)) :=
  (θ_run Cert.KernelMlpIdeal.defs _ _).mono (fun r h c => ⟨((h c).1 5).trans (final5 m c), ((h c).1 6).trans (final6 m c), ((h c).1 7).trans (final7 m c),
    ((h c).1 8).trans (final8 m c), ((h c).1 9).trans (final9 m c)⟩) (runs_post m ρ)

/-- The kernel's five results are the reference's, at every finite input. -/
theorem value : Cert.algebraic_KernelMlpIdeal_ReferenceMlpIdeal_pre_finite_mlp := by
  intro m g m' g' hp ha
  refine ⟨fun c => dxArr m c, fun c => hArr m c, fun c => rArr m c, fun c => daArr m c, fun c => dgArr m c,
    (θ_run _ _ _).mono (fun r h c => ?_) (θ_run_and (blocks m g) (frame m g)),
    (θ_run _ _ _).mono (fun r h c => ?_) (Cert.ReferenceMlpIdeal.Value.run m' g')⟩
  · obtain ⟨h5, h6, h7, h8, h9⟩ := h.1 c
    exact ⟨h5, h6, h7, h8, h9, h.2.1 c⟩
  · obtain ⟨h5, h6, h7, h8, h9, hk⟩ := h c
    obtain ⟨e0, e1, e2, e3, e4⟩ := ha c
    obtain ⟨fx, fd, fg, fw, fv⟩ := real_of_pre m hp c
    refine ⟨h5.trans ?_, h6.trans ?_, h7.trans ?_, h8.trans ?_, h9.trans ?_, hk⟩
    · clear h h5 h6 h7 h8 h9 hk ha
      funext j
      idx_vars j
      refine (ref_dx m' c _ _ _ _ _ e0 e1 e2 e3 e4 _ _).trans ?_
      rw [dhR_eq]
      have hd' (b : Fin 1024) : Norm.IsReal (dhA m c j0 b * gR m c b) :=
        (dh_real (fun k => Attn.hr_real (fx j0) fg k) (fd j0) fw fv b).mul (fg b)
      refine Eq.trans ?_ (congrArg (dR m c j0 j1 + ·) (Norm.rbwd_eq_kbwd (fx j0) hd' j1))
      rw [Norm.rbwd, ← add_assoc, ← add_assoc]
      rfl
    all_goals
      rw [e0]
      try rw [e1]
      try rw [e2]
      try rw [e3]
      try rw [e4]
      clear h h5 h6 h7 h8 h9 e0 e1 e2 e3 e4 hk ha
      funext j
      idx_vars j
    · pointwise
      rfl
    · pointwise
      rfl
    · pointwise
      exact gradR_eq _ _
    · pointwise [Norm.hostReduceAdd_lead, Norm.hostReduceAdd_ends]
      simp only [Fin.sum_univ_one]
      refine Finset.sum_congr rfl fun r _ => ?_
      refine (mul_comm _ _).trans (congrArg (· * _) ?_)
      exact congrFun (dhR_eq (hA m c r) (dR m c r) (w1M m c) (w2M m c)) j1

end Cert.Proof.Mlp
-- ==== Proof.Mmtn.lean ====
/-
  A weight's gradient as a plain product.
-/
module

public import proofs.«01_k».proof.Defs
public import proofs.«01_k».proof.Proof.Gen.KernelMmtn
public import proofs.«01_k».proof.Proof.Gen.KernelMmtn.Frame
public import proofs.«01_k».proof.Proof.Gen.KernelMmtnIdeal
public import proofs.«01_k».proof.Proof.Gen.KernelMmtnIdeal.Frame
public import proofs.«01_k».proof.Proof.Gen.KernelMmtnIdeal.Value
public import proofs.«01_k».proof.Proof.Gen.ReferenceMmtnIdeal
public import proofs.«01_k».proof.Proof.Gen.ReferenceMmtnIdeal.Run
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## The two points of a block -/

namespace Cert.KernelMmtnIdeal.Body

open Cert.KernelMmtnIdeal Cert.KernelMmtnIdeal.Gen

theorem hz : (![0, 0] : Fin 2 → Nat) = fun _ => 0 := funext fun a => by fin_cases a <;> rfl

section Cases

variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

theorem acc_A (c0 : cond0_0 i) (c1 : ¬cond0_1 i) : sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S1024x1024) hz]
  simp only [View.readCov_unit_zero (S := S1024x1024) _ hz]
  simp only [View.readAt_eq_ld, h3.read_unread, h4.read_unread, h6.read_unread, View.ld_unit_zero (S := S2048x1024) hz, View.ld_unit_zero (S := S1024x1024) hz]

theorem out_B (c0 : ¬cond0_0 i) (c1 : cond0_1 i) : out0_B_2 c i a3 h3 a4 h4 a5 h5 a6 h6 c0 c1 x y s = k0_pay2 s x y := by
  unfold out0_B_2
  rw [View.read_writes_eq_canon _ _ _ (cover0_B_2 c i a3 h3 a4 h4 a5 h5 a6 h6 c0 c1 x y s)]
  unfold kernelRun0_B
  dsimp only
  sl_unfold_words
  rw [View.canon_unit_zero hz]
  simp only [View.readCov_unit_zero (S := S1024x1024) _ hz]
  simp only [View.readAt_eq_ld, h3.read_unread, h4.read_unread, h6.read_unread, View.ld_unit_zero (S := S2048x1024) hz, View.ld_unit_zero (S := S1024x1024) hz]

end Cases

variable (s : Vec Ideal S1024x1024 .f32) (x y : Vec Ideal S2048x1024 .bf16)

theorem pay1_apply (a b : Fin 1024) : k0_pay1 (F := Ideal) (ix2 a b) = 0 := by pointwise [k0_pay1]
theorem pay2_apply (a b : Fin 1024) : k0_pay2 s x y (ix2 a b) = s (ix2 a b) + ∑ q : Fin 2048, x (ix2 q a) * y (ix2 q b) := by
  pointwise [k0_pay2]

end Cert.KernelMmtnIdeal.Body

/-! ## The array after the run -/

namespace Cert.KernelMmtnIdeal.Whole

open Cert.KernelMmtnIdeal Cert.KernelMmtnIdeal.Gen Cert.KernelMmtnIdeal.Body

variable (m : (ℓ : Loc nD τ sig) → Buf (Elt Ideal) ℓ) (c : Dev nD)

abbrev aC (n : Fin 12288) : Fin 4096 → EReal := fun k => m ((c : Thread nD τ).loc main_arg0) (ix2 k n)
abbrev bC (b : Fin 1024) : Fin 4096 → EReal := fun k => m ((c : Thread nD τ).loc main_arg1) (ix2 k b)
def resArr : FVec Ideal S12288x1024 .f32 := fun j => ∑ k, aC m c (j 0) k * bC m c (j 1) k

def tc (n : ℕ) (h : n < 24) (a : Fin 1024) : Fin 12288 := ⟨1024 * (n / 2) + a.val, by omega⟩
theorem lt24 (t : Fin cfg0.N) : t.val < 24 := by have := t.isLt; have h : cfg0.N = 24 := N_0; omega

theorem idx0 : ∀ t : Fin cfg0.N, win0_0.index t (0 : Fin 2) = t.val % 2 ∧ win0_0.index t (1 : Fin 2) = t.val / 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)

theorem iblk0 (t : Fin cfg0.N) (q : Fin 2048) (a : Fin 1024) : (iblk m c 0 t : Vec Ideal S2048x1024 .bf16) (ix2 q a)
    = aC m c (tc t.val (lt24 t) a) ⟨2048 * (t.val % 2) + q.val, by omega⟩ := by
  refine Eq.trans ?_ (congrFun (V_main_arg0 m c) (ix2 ⟨2048 * (t.val % 2) + q.val, by omega⟩ (tc t.val (lt24 t) a)))
  unfold iblk
  rw [View.read_apply]
  show V m c main_arg0 _ = V m c main_arg0 _
  congr 1
  funext d
  apply Fin.ext
  match d with
  | ⟨0, _⟩ => show win0_0.index t 0 * 2048 + 1 * q.val = 2048 * (t.val % 2) + q.val; rw [(idx0 t).1]; omega
  | ⟨1, _⟩ => show win0_0.index t 1 * 1024 + 1 * a.val = 1024 * (t.val / 2) + a.val; rw [(idx0 t).2]; omega

theorem iblk1 (t : Fin cfg0.N) (q : Fin 2048) (b : Fin 1024) : (iblk m c 1 t : Vec Ideal S2048x1024 .bf16) (ix2 q b)
    = bC m c b ⟨2048 * (t.val % 2) + q.val, by omega⟩ := by
  refine Eq.trans ?_ (congrFun (V_main_arg1 m c) (ix2 ⟨2048 * (t.val % 2) + q.val, by omega⟩ b))
  unfold iblk
  rw [View.read_apply]
  show V m c main_arg1 _ = V m c main_arg1 _
  congr 1
  funext d
  apply Fin.ext
  match d with
  | ⟨0, _⟩ => show win0_1.index t 0 * 2048 + 1 * q.val = 2048 * (t.val % 2) + q.val; rw [(idx1 t).1]; omega
  | ⟨1, _⟩ => show win0_1.index t 1 * 1024 + 1 * b.val = b.val; rw [(idx1 t).2]; omega

/-- The terms of one half of the rows. -/
abbrev half (n : Fin 12288) (b : Fin 1024) (k : Fin 2) : EReal :=
  ∑ q : Fin 2048, aC m c n ⟨2048 * k.val + q.val, by omega⟩ * bC m c b ⟨2048 * k.val + q.val, by omega⟩

/-- One point adds the terms of its half. -/
theorem step (t : Fin cfg0.N) (s : Vec Ideal S1024x1024 .f32) (a b : Fin 1024) :
    k0_pay2 (F := Ideal) s (iblk m c 0 t) (iblk m c 1 t) (ix2 a b)
      = s (ix2 a b) + half m c (tc t.val (lt24 t) a) b ⟨t.val % 2, by omega⟩ := by
  rw [pay2_apply]
  exact congrArg _ (Finset.sum_congr rfl fun q _ => congrArg₂ (· * ·) (iblk0 m c t q a) (iblk1 m c t q b))

/-- The two halves are the whole sum. -/
theorem halves (n : Fin 12288) (b : Fin 1024) : half m c n b 0 + half m c n b 1 = ∑ k, aC m c n k * bC m c b k := by
  rw [Fin.sum_univ_tiles 2 2048 rfl, Fin.sum_univ_two]
  refine congrArg₂ (· + ·) ?_ ?_
  all_goals exact Finset.sum_congr rfl fun q _ => rfl

/-- The result at the points that write it. -/
theorem outs (n : ℕ) (h : n < cfg0.N) (h24 : n < 24) (h1 : n % 2 = 1) (a b : Fin 1024) :
    (outsAt0 m c n h).1 (ix2 a b) = resArr m c (ix2 (tc n h24 a) b) := by
  have hp : (⟨n - 1, by omega⟩ : Fin cfg0.N).val % 2 = 0 := by show (n - 1) % 2 = 0; omega
  have eA := outsAt0_A m c ⟨n - 1, by omega⟩ hp (by omega)
  have eB := outsAt0_B m c ⟨n, h⟩ (by dsimp only; omega) h1
  rw [show outsAt0 m c n h = _ from eB]
  dsimp only
  rw [out_B, step, show outsAt0 m c (n - 1) _ = _ from eA]
  dsimp only
  rw [acc_A, step, pay1_apply, zero_add]
  refine Eq.trans ?_ (halves m c (tc n h24 a) b)
  refine congrArg₂ (· + ·) ?_ ?_
  · exact congrArg₂ (half m c · b ·) (Fin.ext (by show 1024 * ((n - 1) / 2) + a.val = 1024 * (n / 2) + a.val; omega)) (Fin.ext hp)
  · exact congrArg (half m c (tc n h24 a) b) (Fin.ext h1)

theorem G2_eq : Value.G2 m c = resArr m c := by
  funext j
  idx_vars j
  unfold Value.G2
  have hp : Value.pt2Of (ix2 j0 j1) = 2 * (j0.val / 1024) + 1 := by
    show 2 * (1 * (j0.val / 1024 - 0) + 1 * (j1.val / 1024 - 0)) + 1 = _; omega
  have h24 : Value.pt2Of (ix2 j0 j1) < 24 := by rw [hp]; omega
  have hN : cfg0.N = 24 := N_0
  rw [dif_pos (by omega)]
  have := outs m c (Value.pt2Of (ix2 j0 j1)) (by omega) h24 (by omega) ⟨j0.val % 1024, by omega⟩ j1
  rw [Value.outsAt0_sweep] at this
  have e : tc (Value.pt2Of (ix2 j0 j1)) h24 ⟨j0.val % 1024, by omega⟩ = j0 := Fin.ext (by show 1024 * (_ / 2) + j0.val % 1024 = j0.val; rw [hp]; omega)
  rw [e] at this
  refine Eq.trans (congrArg _ ?_) this
  funext d
  match d with
  | ⟨0, _⟩ => rfl
  | ⟨1, _⟩ => exact Fin.ext (show j1.val % 1024 = j1.val by omega)

end Cert.KernelMmtnIdeal.Whole

namespace Cert.Proof.Mmtn

theorem frame_k : Cert.quiescent_KernelMmtn := fun m ρ _ => Cert.KernelMmtn.Gen.frame m ρ
theorem frame_ki : Cert.quiescent_KernelMmtnIdeal := fun m ρ _ => Cert.KernelMmtnIdeal.Gen.frame m ρ
theorem frame_ri : Cert.quiescent_ReferenceMmtnIdeal := fun m ρ _ =>
  (θ_run Cert.ReferenceMmtnIdeal.defs _ _).mono (fun r h => ⟨fun c => (h c).2, sem_eq_zero_of_no_sems (by decide) r.2⟩)
    (Cert.ReferenceMmtnIdeal.Value.run (F := Ideal) m ρ)

open Cert.KernelMmtnIdeal.Whole in
/-- The kernel's product is the reference's, at every input. -/
theorem value : Cert.algebraic_KernelMmtnIdeal_ReferenceMmtnIdeal := by
  intro m g m' g' _ ha
  refine ⟨fun c => resArr m c, (θ_run _ _ _).mono (fun r h c => ?_) (Cert.KernelMmtnIdeal.Value.run m g),
    (θ_run _ _ _).mono (fun r h c => ?_) (Cert.ReferenceMmtnIdeal.Value.run m' g')⟩
  · obtain ⟨h2, hk⟩ := h c
    exact ⟨h2.trans (G2_eq m c), hk⟩
  · obtain ⟨h2, hk⟩ := h c
    obtain ⟨e0, e1⟩ := ha c
    refine ⟨h2.trans ?_, hk⟩
    funext j
    idx_vars j
    rw [e0, e1]
    pointwise
    rfl

end Cert.Proof.Mmtn
-- ==== Proof.PfwdBody.lean ====
/-
  What one grid point of the step after the scan stores, at an index.
-/
module

public import proofs.«01_k».proof.Defs
public import proofs.«01_k».proof.Proof.Gen.KernelPfwdIdeal
public import proofs.«01_k».proof.Proof.Gen.KernelPfwdIdeal.Frame
public import Idealize.ShloMosaic.Lib.Pointwise
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem

/-! ## The mathematics of a row -/

namespace Cert.Pfwd

/-- The logistic function, as both programs divide it out. -/
def sg (x : EReal) : EReal := Ideal.div 1 (1 + Ideal.exp (-x))
/-- A group of 256 columns: one over the root of its mean square. -/
def rs (f : Fin 256 → EReal) : EReal :=
  Ideal.rsqrt (Ideal.div (∑ k, f k * f k) (Ideal.ofBits FTy.f32 1132462080#32) + Ideal.ofBits FTy.f32 897988541#32)

/-- Column `e` of group `h`, among 1024 and among 2048 columns, and back. -/
def hc (h : Fin 4) (e : Fin 256) : Fin 1024 := ⟨256 * h.val + e.val, by omega⟩
def kc (h : Fin 8) (e : Fin 256) : Fin 2048 := ⟨256 * h.val + e.val, by omega⟩
def h4 (n : Fin 1024) : Fin 4 := ⟨n.val / 256, by omega⟩
def e4 (n : Fin 1024) : Fin 256 := ⟨n.val % 256, by omega⟩
def h8 (n : Fin 2048) : Fin 8 := ⟨n.val / 256, by omega⟩
def e8 (n : Fin 2048) : Fin 256 := ⟨n.val % 256, by omega⟩

theorem hc_eq (n : Fin 1024) : hc (h4 n) (e4 n) = n := Fin.ext (Nat.div_add_mod _ _)
theorem kc_eq (n : Fin 2048) : kc (h8 n) (e8 n) = n := Fin.ext (Nat.div_add_mod _ _)
theorem hc_zero (e : Fin 256) : hc 0 e = ⟨e.val, by omega⟩ := Fin.ext (by show 256 * 0 + e.val = e.val; omega)
theorem h4_hc (h : Fin 4) (e : Fin 256) : h4 (hc h e) = h := Fin.ext (by show (256 * h.val + e.val) / 256 = h.val; omega)
theorem e4_hc (h : Fin 4) (e : Fin 256) : e4 (hc h e) = e := Fin.ext (by show (256 * h.val + e.val) % 256 = e.val; omega)
theorem h8_kc (h : Fin 8) (e : Fin 256) : h8 (kc h e) = h := Fin.ext (by show (256 * h.val + e.val) / 256 = h.val; omega)
theorem e8_kc (h : Fin 8) (e : Fin 256) : e8 (kc h e) = e := Fin.ext (by show (256 * h.val + e.val) % 256 = e.val; omega)

/-- Four groups side by side, read at a column. -/
theorem side4 (f : Fin 4 → Fin 256 → EReal) (n : Fin 1024) :
    (if h0 : n.val < 256 then f 0 ⟨n.val, h0⟩ else if h1 : n.val - 256 < 256 then f 1 ⟨n.val - 256, h1⟩
      else if h2 : n.val - 256 - 256 < 256 then f 2 ⟨n.val - 256 - 256, h2⟩ else f 3 ⟨n.val - 256 - 256 - 256, by omega⟩)
    = f (h4 n) (e4 n) := by
  have e : ∀ (k : Fin 4) (j : Fin 256), n = hc k j → f k j = f (h4 n) (e4 n) := fun k j h => by rw [h, h4_hc, e4_hc]
  split_ifs with h0 h1 h2
  · exact e 0 _ (Fin.ext (by show n.val = 256 * 0 + n.val; omega))
  · exact e 1 _ (Fin.ext (by show n.val = 256 * 1 + (n.val - 256); omega))
  · exact e 2 _ (Fin.ext (by show n.val = 256 * 2 + (n.val - 256 - 256); omega))
  · exact e 3 _ (Fin.ext (by show n.val = 256 * 3 + (n.val - 256 - 256 - 256); omega))

/-- Eight groups side by side, read at a column. -/
theorem side8 (f : Fin 8 → Fin 256 → EReal) (n : Fin 2048) :
    (if h0 : n.val < 256 then f 0 ⟨n.val, h0⟩ else if h1 : n.val - 256 < 256 then f 1 ⟨n.val - 256, h1⟩
      else if h2 : n.val - 256 - 256 < 256 then f 2 ⟨n.val - 256 - 256, h2⟩
      else if h3 : n.val - 256 - 256 - 256 < 256 then f 3 ⟨n.val - 256 - 256 - 256, h3⟩
      else if h4 : n.val - 256 - 256 - 256 - 256 < 256 then f 4 ⟨n.val - 256 - 256 - 256 - 256, h4⟩
      else if h5 : n.val - 256 - 256 - 256 - 256 - 256 < 256 then f 5 ⟨n.val - 256 - 256 - 256 - 256 - 256, h5⟩
      else if h6 : n.val - 256 - 256 - 256 - 256 - 256 - 256 < 256 then f 6 ⟨n.val - 256 - 256 - 256 - 256 - 256 - 256, h6⟩
      else f 7 ⟨n.val - 256 - 256 - 256 - 256 - 256 - 256 - 256, by omega⟩)
    = f (h8 n) (e8 n) := by
  have e : ∀ (k : Fin 8) (j : Fin 256), n = kc k j → f k j = f (h8 n) (e8 n) := fun k j h => by rw [h, h8_kc, e8_kc]
  split_ifs with h0 h1 h2 h3 h4 h5 h6
  · exact e 0 _ (Fin.ext (by show n.val = 256 * 0 + n.val; omega))
  · exact e 1 _ (Fin.ext (by show n.val = 256 * 1 + (n.val - 256); omega))
  · exact e 2 _ (Fin.ext (by show n.val = 256 * 2 + (n.val - 256 - 256); omega))
  · exact e 3 _ (Fin.ext (by show n.val = 256 * 3 + (n.val - 256 - 256 - 256); omega))
  · exact e 4 _ (Fin.ext (by show n.val = 256 * 4 + (n.val - 256 - 256 - 256 - 256); omega))
  · exact e 5 _ (Fin.ext (by show n.val = 256 * 5 + (n.val - 256 - 256 - 256 - 256 - 256); omega))
  · exact e 6 _ (Fin.ext (by show n.val = 256 * 6 + (n.val - 256 - 256 - 256 - 256 - 256 - 256); omega))
  · exact e 7 _ (Fin.ext (by show n.val = 256 * 7 + (n.val - 256 - 256 - 256 - 256 - 256 - 256 - 256); omega))

/-- The retention branch: the heads normed one by one, gated. -/
def ret (y g : Fin 1024 → EReal) (n : Fin 1024) : EReal := y n * rs (fun k => y (hc (h4 n) k)) * (g n * sg (g n))
/-- The state space branch with the skip, gated; then the groups normed one by one. -/
def skip (ys xs d z : Fin 2048 → EReal) (n : Fin 2048) : EReal := (ys n + xs n * d n) * (z n * sg (z n))
def ssm (p sn : Fin 2048 → EReal) (n : Fin 2048) : EReal := p n * rs (fun k => p (kc (h8 n) k)) * sn n
def lo (n : Fin 1024) : Fin 2048 := ⟨n.val, by omega⟩
def up (n : Fin 1024) : Fin 2048 := ⟨1024 + n.val, by omega⟩
/-- The two branches projected and mixed by their gates. -/
def mix (r : Fin 1024 → EReal) (s gt bg : Fin 2048 → EReal) (wr : Fin 1024 → Fin 1024 → EReal) (ws : Fin 2048 → Fin 1024 → EReal) (n : Fin 1024) : EReal :=
  sg (gt (lo n) + bg (lo n)) * ∑ j, r j * wr j n + sg (gt (up n) + bg (up n)) * ∑ j, s j * ws j n

end Cert.Pfwd

namespace Cert.KernelPfwdIdeal.Body

open Cert.KernelPfwdIdeal Cert.KernelPfwdIdeal.Gen Cert.Pfwd

theorem hz : (![0, 0] : Fin 2 → Nat) = fun _ => 0 := funext fun a => by fin_cases a <;> rfl

variable (x y g : Vec Ideal S256x1024 .f32) (ys xs z gt : Vec Ideal S256x2048 .f32) (p : FVec Ideal S256x2048 .f32) (bg d sn : Vec Ideal S1x2048 .f32)
  (wr wo : Vec Ideal S1024x1024 .bf16) (ws : Vec Ideal S2048x1024 .bf16)
  (s0 s1 s2 s3 s4 s5 : FVec Ideal S256x256 .f32) (r0 r1 r2 r3 r4 r5 : FVec Ideal S256x1 .f32)

abbrev row (q : FVec Ideal S256x1024 .f32) (a : Fin 256) : Fin 1024 → EReal := fun j => q (ix2 a j)
abbrev wide (q : FVec Ideal S256x2048 .f32) (a : Fin 256) : Fin 2048 → EReal := fun j => q (ix2 a j)
abbrev one (q : FVec Ideal S1x2048 .f32) : Fin 2048 → EReal := fun j => q (ix2 0 j)
abbrev mat (w : FVec Ideal S1024x1024 .bf16) : Fin 1024 → Fin 1024 → EReal := fun m n => w (ix2 m n)
abbrev tall (w : FVec Ideal S2048x1024 .bf16) : Fin 2048 → Fin 1024 → EReal := fun m n => w (ix2 m n)
abbrev sq (q : FVec Ideal S256x256 .f32) (a : Fin 256) : Fin 256 → EReal := fun j => q (ix2 a j)

theorem pay2_eq : k0_pay2 (F := Ideal) xs = xs := by funext j; idx_vars j; pointwise [k0_pay2]
theorem pay3_eq : k0_pay3 (F := Ideal) xs = xs := by funext j; idx_vars j; pointwise [k0_pay3]
theorem pay4_eq : k0_pay4 (F := Ideal) xs = xs := by funext j; idx_vars j; pointwise [k0_pay4]
theorem pay5_eq : k0_pay5 (F := Ideal) bg = bg := by funext j; idx_vars j; pointwise [k0_pay5]
theorem pay6_eq : k0_pay6 (F := Ideal) bg = bg := by funext j; idx_vars j; pointwise [k0_pay6]
theorem pay7_eq : k0_pay7 (F := Ideal) bg = bg := by funext j; idx_vars j; pointwise [k0_pay7]
theorem pay8_apply (a : Fin 256) (b : Fin 1024) : k0_pay8 g (ix2 a b) = g (ix2 a b) * sg (g (ix2 a b)) := by
  pointwise [k0_pay8]
  rw [zero_sub]
  rfl
theorem pay14_apply (a : Fin 256) (b : Fin 2048) : k0_pay14 ys xs z d (ix2 a b) = skip (wide ys a) (wide xs a) (one d) (wide z a) b := by
  pointwise [k0_pay14]
  rw [zero_sub]
  rfl
theorem pay27_apply (a : Fin 256) (b : Fin 2048) : k0_pay27 (F := Ideal) gt bg (ix2 a b) = Ideal.exp (-(gt (ix2 a b) + bg (ix2 0 b))) := by
  pointwise [k0_pay27]
  rw [zero_sub]
theorem pay10_apply (a : Fin 256) : k0_pay10 y (ix2 a 0) = rs (fun k => row y a (hc 0 k)) := by
  pointwise [k0_pay10, k0_pay9]
  simp only [row, hc_zero]
  rfl
theorem ys0 (a e : Fin 256) : k0_pay9 y (ix2 a e) = row y a (hc 0 e) := by
  pointwise [k0_pay9]
  simp only [row, hc_zero]
theorem ys1 (a e : Fin 256) : k0_pay11 y (ix2 a e) = row y a (hc 1 e) := by
  pointwise [k0_pay11]
  rfl
theorem yr1 (a : Fin 256) : Ideal.rsqrt (Ideal.div (∑ k, k0_pay12 y (ix2 a k)) (Ideal.ofBits FTy.f32 1132462080#32) + Ideal.ofBits FTy.f32 897988541#32)
    = rs (fun k => row y a (hc 1 k)) := by
  pointwise [k0_pay12, k0_pay11]
  rfl
theorem ys3 (a e : Fin 256) : y (ix2 a ⟨768 + e.val, by omega⟩) = row y a (hc 3 e) := rfl
theorem pay13_apply (a : Fin 256) (b : Fin 1024) : k0_pay13 y (k0_pay8 g) (k0_pay9 y) (k0_pay10 y) (k0_pay11 y) (k0_pay12 y) (ix2 a b)
    = ret (row y a) (row g a) b := by
  pointwise [k0_pay13]
  rw [pay8_apply]
  refine congrArg (· * (g (ix2 a b) * sg (g (ix2 a b))))
    ((Eq.trans ?_ (side4 (fun h e => row y a (hc h e) * rs (fun k => row y a (hc h k))) b)).trans (by rw [hc_eq]))
  refine dite_congr rfl (fun h0 => congrArg₂ (· * ·) (ys0 y a ⟨b.val, h0⟩) (pay10_apply y a)) fun _ =>
    dite_congr rfl (fun h1 => congrArg₂ (· * ·) (ys1 y a ⟨b.val - 256, h1⟩) (yr1 y a)) fun _ => dite_congr rfl (fun _ => rfl) fun _ => ?_
  refine congrArg₂ (· * ·) (ys3 y a ⟨b.val - 256 - 256 - 256, by omega⟩) ?_
  exact congrArg rs (funext fun k => ys3 y a k)
theorem pay16_apply (a : Fin 256) : k0_pay16 s0 (ix2 a 0) = rs (sq s0 a) := by
  pointwise [k0_pay16]
  rfl
theorem pay26_apply (a : Fin 256) (b : Fin 2048) : k0_pay26 sn p s0 r0 s1 r1 s2 r2 s3 r3 s4 r4 s5 (ix2 a b)
    = (![fun e => s0 (ix2 a e) * r0 (ix2 a 0), fun e => s1 (ix2 a e) * r1 (ix2 a 0), fun e => s2 (ix2 a e) * r2 (ix2 a 0),
      fun e => s3 (ix2 a e) * r3 (ix2 a 0), fun e => s4 (ix2 a e) * r4 (ix2 a 0), fun e => s5 (ix2 a e) * rs (sq s5 a),
      fun e => wide p a (kc 6 e) * rs (fun k => wide p a (kc 6 k)), fun e => wide p a (kc 7 e) * rs (fun k => wide p a (kc 7 k))] (h8 b)) (e8 b)
      * one sn b := by
  pointwise [k0_pay26]
  refine congrArg (· * sn (ix2 0 b)) (Eq.trans ?_
    (side8 (![fun e => s0 (ix2 a e) * r0 (ix2 a 0), fun e => s1 (ix2 a e) * r1 (ix2 a 0), fun e => s2 (ix2 a e) * r2 (ix2 a 0),
      fun e => s3 (ix2 a e) * r3 (ix2 a 0), fun e => s4 (ix2 a e) * r4 (ix2 a 0), fun e => s5 (ix2 a e) * rs (sq s5 a),
      fun e => wide p a (kc 6 e) * rs (fun k => wide p a (kc 6 k)), fun e => wide p a (kc 7 e) * rs (fun k => wide p a (kc 7 k))]) b))
  exact dite_congr rfl (fun _ => rfl) fun _ => dite_congr rfl (fun _ => rfl) fun _ => dite_congr rfl (fun _ => rfl) fun _ =>
    dite_congr rfl (fun _ => rfl) fun _ => dite_congr rfl (fun _ => rfl) fun _ => dite_congr rfl (fun _ => rfl) fun _ =>
    dite_congr rfl (fun _ => rfl) fun _ => rfl
theorem sl17 (a e : Fin 256) : k0_pay17 p (ix2 a e) = wide p a (kc 1 e) := by
  pointwise [k0_pay17]
  rfl
theorem sl19 (a e : Fin 256) : k0_pay19 p (ix2 a e) = wide p a (kc 2 e) := by
  pointwise [k0_pay19]
  rfl
theorem sl21 (a e : Fin 256) : k0_pay21 p (ix2 a e) = wide p a (kc 3 e) := by
  pointwise [k0_pay21]
  rfl
theorem sl23 (a e : Fin 256) : k0_pay23 p (ix2 a e) = wide p a (kc 4 e) := by
  pointwise [k0_pay23]
  rfl
theorem sl25 (a e : Fin 256) : k0_pay25 p (ix2 a e) = wide p a (kc 5 e) := by
  pointwise [k0_pay25]
  rfl
theorem rt18 (a : Fin 256) : k0_pay18 p (ix2 a 0) = rs (fun k => wide p a (kc 1 k)) := by
  pointwise [k0_pay18, k0_pay17]
  rfl
theorem rt20 (a : Fin 256) : k0_pay20 p (ix2 a 0) = rs (fun k => wide p a (kc 2 k)) := by
  pointwise [k0_pay20, k0_pay19]
  rfl
theorem rt22 (a : Fin 256) : k0_pay22 p (ix2 a 0) = rs (fun k => wide p a (kc 3 k)) := by
  pointwise [k0_pay22, k0_pay21]
  rfl
theorem rt24 (a : Fin 256) : k0_pay24 p (ix2 a 0) = rs (fun k => wide p a (kc 4 k)) := by
  pointwise [k0_pay24, k0_pay23]
  rfl
theorem pay15_eq : k0_pay15 ys xs z d = extractStridedSlice S256x256 ![0, 0] (k0_pay14 ys xs z d) slices_S256x2048_o0_0_S256x256 := rfl
theorem sl15 (a e : Fin 256) : k0_pay15 ys xs z d (ix2 a e) = wide (k0_pay14 ys xs z d) a (kc 0 e) := by
  rw [pay15_eq]
  pointwise
  exact congrArg (k0_pay14 ys xs z d) (congrArg (ix2 a) (Fin.ext (by show e.val = 256 * 0 + e.val; omega)))

/-- The state space branch at an index, from the branch before its norm. -/
theorem ssm_apply (hs : ∀ a e, s0 (ix2 a e) = wide p a (kc 0 e)) (a : Fin 256) (b : Fin 2048) :
    k0_pay26 sn p s0 (k0_pay16 s0) (k0_pay17 p) (k0_pay18 p) (k0_pay19 p) (k0_pay20 p) (k0_pay21 p) (k0_pay22 p) (k0_pay23 p) (k0_pay24 p)
      (k0_pay25 p) (ix2 a b) = ssm (wide p a) (one sn) b := by
  rw [pay26_apply]
  refine congrArg (· * one sn b) ?_
  have hq : sq s0 a = fun k => wide p a (kc 0 k) := funext (hs a)
  have hq5 : sq (k0_pay25 p) a = fun k => wide p a (kc 5 k) := funext (sl25 p a)
  have key : ∀ (h : Fin 8) (e : Fin 256), (![fun e => s0 (ix2 a e) * k0_pay16 s0 (ix2 a 0), fun e => k0_pay17 p (ix2 a e) * k0_pay18 p (ix2 a 0),
      fun e => k0_pay19 p (ix2 a e) * k0_pay20 p (ix2 a 0), fun e => k0_pay21 p (ix2 a e) * k0_pay22 p (ix2 a 0),
      fun e => k0_pay23 p (ix2 a e) * k0_pay24 p (ix2 a 0), fun e => k0_pay25 p (ix2 a e) * rs (sq (k0_pay25 p) a),
      fun e => wide p a (kc 6 e) * rs (fun k => wide p a (kc 6 k)), fun e => wide p a (kc 7 e) * rs (fun k => wide p a (kc 7 k))] h) e
      = wide p a (kc h e) * rs (fun k => wide p a (kc h k)) := by
    intro h e
    match h with
    | 0 => show s0 (ix2 a e) * k0_pay16 s0 (ix2 a 0) = _; rw [hs, pay16_apply, hq]
    | 1 => show k0_pay17 p (ix2 a e) * k0_pay18 p (ix2 a 0) = _; rw [sl17, rt18]
    | 2 => show k0_pay19 p (ix2 a e) * k0_pay20 p (ix2 a 0) = _; rw [sl19, rt20]
    | 3 => show k0_pay21 p (ix2 a e) * k0_pay22 p (ix2 a 0) = _; rw [sl21, rt22]
    | 4 => show k0_pay23 p (ix2 a e) * k0_pay24 p (ix2 a 0) = _; rw [sl23, rt24]
    | 5 => show k0_pay25 p (ix2 a e) * rs (sq (k0_pay25 p) a) = _; rw [sl25, hq5]
    | 6 => rfl
    | 7 => rfl
  exact (key _ _).trans (by rw [kc_eq])

/-- The mix of the branches and its product with the output weights, from the gates' exponentials. -/
theorem pay1_apply (A : FVec Ideal S256x1024 .f32) (B E : FVec Ideal S256x2048 .f32) (a : Fin 256) (b : Fin 1024) :
    k0_pay1 A B E wr ws x wo (ix2 a b) = x (ix2 a b) + ∑ n, (Ideal.div 1 (1 + E (ix2 a (lo n)))
      * ∑ j, row A a j * mat wr j n + Ideal.div 1 (1 + E (ix2 a (up n)))
      * ∑ j, wide B a j * tall ws j n) * mat wo n b := by
  pointwise [k0_pay1]
  rfl

/-- The block's result at an index. -/
theorem out_apply (a : Fin 256) (b : Fin 1024) : out0_13 x y ys xs g z gt bg d sn wr ws wo (ix2 a b)
    = x (ix2 a b) + ∑ n, mix (ret (row y a) (row g a)) (ssm (skip (wide ys a) (wide xs a) (one d) (wide z a)) (one sn)) (wide gt a) (one bg)
        (mat wr) (tall ws) n * mat wo n b := by
  unfold out0_13
  rw [View.canon_unit_zero hz]
  simp only [k0_pay28, k0_pay29, k0_pay30, k0_pay31, k0_pay32, View.ld_unit_zero (S := S256x1024) hz, View.ld_unit_zero (S := S1024x1024) hz,
    View.ld_unit_zero (S := S256x2048) hz, View.ld_unit_zero (S := S1x2048) hz, View.ld_unit_zero (S := S2048x1024) hz,
    pay2_eq, pay3_eq, pay4_eq, pay5_eq, pay6_eq, pay7_eq]
  rw [pay1_apply]
  refine congrArg (x (ix2 a b) + ·) (Finset.sum_congr rfl fun n _ => congrArg (· * mat wo n b) ?_)
  have hr : row (k0_pay13 y (k0_pay8 g) (k0_pay9 y) (k0_pay10 y) (k0_pay11 y) (k0_pay12 y)) a = ret (row y a) (row g a) :=
    funext fun n => pay13_apply y g a n
  have hp : wide (k0_pay14 ys xs z d) a = skip (wide ys a) (wide xs a) (one d) (wide z a) := funext fun n => pay14_apply ys xs z d a n
  have hs : wide (k0_pay26 sn (k0_pay14 ys xs z d) (k0_pay15 ys xs z d) (k0_pay16 (k0_pay15 ys xs z d)) (k0_pay17 (k0_pay14 ys xs z d))
      (k0_pay18 (k0_pay14 ys xs z d)) (k0_pay19 (k0_pay14 ys xs z d)) (k0_pay20 (k0_pay14 ys xs z d)) (k0_pay21 (k0_pay14 ys xs z d))
      (k0_pay22 (k0_pay14 ys xs z d)) (k0_pay23 (k0_pay14 ys xs z d)) (k0_pay24 (k0_pay14 ys xs z d)) (k0_pay25 (k0_pay14 ys xs z d))) a
      = ssm (skip (wide ys a) (wide xs a) (one d) (wide z a)) (one sn) :=
    funext fun n => (ssm_apply (k0_pay14 ys xs z d) sn (k0_pay15 ys xs z d) (sl15 ys xs z d) a n).trans (by rw [hp])
  rw [hr, hs, pay27_apply, pay27_apply]
  rfl

end Cert.KernelPfwdIdeal.Body
-- ==== Proof.Pfwd.lean ====
/-
  The forward pass's step after the scan, as a whole: norms, gates and output projection.
-/
module

public import proofs.«01_k».proof.Defs
public import proofs.«01_k».proof.Proof.PfwdBody
public import proofs.«01_k».proof.Proof.Gen.KernelPfwd
public import proofs.«01_k».proof.Proof.Gen.KernelPfwd.Frame
public import proofs.«01_k».proof.Proof.Gen.KernelPfwdIdeal
public import proofs.«01_k».proof.Proof.Gen.KernelPfwdIdeal.Frame
public import proofs.«01_k».proof.Proof.Gen.KernelPfwdIdeal.Value
public import proofs.«01_k».proof.Proof.Gen.ReferencePfwdIdeal
public import proofs.«01_k».proof.Proof.Gen.ReferencePfwdIdeal.Run
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## The array after the run -/

namespace Cert.KernelPfwdIdeal.Whole

open Cert.KernelPfwdIdeal Cert.KernelPfwdIdeal.Gen Cert.KernelPfwdIdeal.Body Cert.Pfwd

variable (m : (ℓ : Loc nD τ sig) → Buf (Elt Ideal) ℓ) (c : Dev nD)

abbrev xR (r : Fin 4096) : Fin 1024 → EReal := fun k => m ((c : Thread nD τ).loc main_arg0) (ix2 r k)
abbrev yR (r : Fin 4096) : Fin 1024 → EReal := fun k => m ((c : Thread nD τ).loc main_arg1) (ix2 r k)
abbrev ysR (r : Fin 4096) : Fin 2048 → EReal := fun k => m ((c : Thread nD τ).loc main_arg2) (ix2 r k)
abbrev xsR (r : Fin 4096) : Fin 2048 → EReal := fun k => m ((c : Thread nD τ).loc main_arg3) (ix2 r k)
abbrev gR (r : Fin 4096) : Fin 1024 → EReal := fun k => m ((c : Thread nD τ).loc main_arg4) (ix2 r k)
abbrev zR (r : Fin 4096) : Fin 2048 → EReal := fun k => m ((c : Thread nD τ).loc main_arg5) (ix2 r k)
abbrev gtR (r : Fin 4096) : Fin 2048 → EReal := fun k => m ((c : Thread nD τ).loc main_arg6) (ix2 r k)
abbrev bgR : Fin 2048 → EReal := fun k => m ((c : Thread nD τ).loc main_arg7) (ix1 k)
/-- The skip's weights, one for 64 columns. -/
abbrev dR : Fin 2048 → EReal := fun k => m ((c : Thread nD τ).loc main_arg8) (ix1 ⟨k.val / 64, by omega⟩)
abbrev snR : Fin 2048 → EReal := fun k => m ((c : Thread nD τ).loc main_arg9) (ix1 k)
abbrev wrM : Fin 1024 → Fin 1024 → EReal := fun j n => m ((c : Thread nD τ).loc main_arg10) (ix2 j n)
abbrev wsM : Fin 2048 → Fin 1024 → EReal := fun j n => m ((c : Thread nD τ).loc main_arg11) (ix2 j n)
abbrev woM : Fin 1024 → Fin 1024 → EReal := fun j n => m ((c : Thread nD τ).loc main_arg12) (ix2 j n)

/-- The step's result: a row plus the mixed branches times the output weights. -/
def res (x y : Fin 1024 → EReal) (ys xs : Fin 2048 → EReal) (g : Fin 1024 → EReal) (z gt bg d sn : Fin 2048 → EReal)
    (wr : Fin 1024 → Fin 1024 → EReal) (ws : Fin 2048 → Fin 1024 → EReal) (wo : Fin 1024 → Fin 1024 → EReal) (b : Fin 1024) : EReal :=
  x b + ∑ n, mix (ret y g) (ssm (skip ys xs d z) sn) gt bg wr ws n * wo n b
def resArr : FVec Ideal S4096x1024 .f32 := fun j => res (xR m c (j 0)) (yR m c (j 0)) (ysR m c (j 0)) (xsR m c (j 0)) (gR m c (j 0)) (zR m c (j 0))
  (gtR m c (j 0)) (bgR m c) (dR m c) (snR m c) (wrM m c) (wsM m c) (woM m c) (j 1)

/-- Row `a` of tile `t`. -/
def tr (t : ℕ) (h : t < 16) (a : Fin 256) : Fin 4096 := ⟨256 * t + a.val, by omega⟩
theorem lt16 (t : Fin cfg0.N) : t.val < 16 := by have := t.isLt; have h : cfg0.N = 16 := N_0; omega

/-! ### What the arrays hold that the kernel packs on the host -/

/-- The values of the tokens, with as many zero columns after them. -/
abbrev catX (a : FVec Ideal S4096x2048 .f32) : FVec Ideal S4096x4096 .f32 :=
  concatenate S4096x4096 1 [⟨S4096x2048, a⟩, ⟨S4096x2048, broadcastInDim S4096x2048 ![] bcast_S_S4096x2048 (constant S_ FTy.f32 0#32)⟩]
    concatenates_S4096x2048_S4096x2048_S4096x4096_d1
/-- The gating columns at their places in the packed projection. -/
abbrev catP (z gt : FVec Ideal S4096x2048 .f32) (g : FVec Ideal S4096x1024 .f32) : FVec Ideal S4096x12288 .f32 :=
  concatenate S4096x12288 1 [⟨S4096x6144, broadcastInDim S4096x6144 ![] bcast_S_S4096x6144 (constant S_ FTy.f32 0#32)⟩, ⟨S4096x2048, z⟩, ⟨S4096x2048, gt⟩,
    ⟨S4096x1024, broadcastInDim S4096x1024 ![] bcast_S_S4096x1024 (constant S_ FTy.f32 0#32)⟩, ⟨S4096x1024, g⟩]
    concatenates_S4096x6144_S4096x2048_S4096x2048_S4096x1024_S4096x1024_S4096x12288_d1
theorem catX_apply (a : FVec Ideal S4096x2048 .f32) (r : Fin 4096) (b : Fin 2048) : catX a (ix2 r ⟨b.val, by omega⟩) = a (ix2 r b) := by
  unfold catX
  pointwise
theorem catP_z (z gt : FVec Ideal S4096x2048 .f32) (g : FVec Ideal S4096x1024 .f32) (r : Fin 4096) (b : Fin 2048) :
    catP z gt g (ix2 r ⟨6144 + b.val, by omega⟩) = z (ix2 r b) := by
  unfold catP
  pointwise
theorem catP_gt (z gt : FVec Ideal S4096x2048 .f32) (g : FVec Ideal S4096x1024 .f32) (r : Fin 4096) (b : Fin 2048) :
    catP z gt g (ix2 r ⟨8192 + b.val, by omega⟩) = gt (ix2 r b) := by
  unfold catP
  pointwise
  rw [dif_neg (by omega), dif_neg (by omega), dif_pos (by omega)]
  exact congrArg gt (congrArg (ix2 r) (Fin.ext (by show 8192 + b.val - 6144 - 2048 = b.val; omega)))
theorem catP_g (z gt : FVec Ideal S4096x2048 .f32) (g : FVec Ideal S4096x1024 .f32) (r : Fin 4096) (b : Fin 1024) :
    catP z gt g (ix2 r ⟨11264 + b.val, by omega⟩) = g (ix2 r b) := by
  unfold catP
  pointwise
  rw [dif_neg (by omega), dif_neg (by omega), dif_neg (by omega), dif_neg (by omega)]
  exact congrArg g (congrArg (ix2 r) (Fin.ext (by show 11264 + b.val - 6144 - 2048 - 2048 - 1024 = b.val; omega)))

theorem V_v1 : V m c main_v1 = catX (m ((c : Thread nD τ).loc main_arg3)) := by
  dsimp only [V, hostOps0]
  after_reads_simp
  rfl
theorem V_v4 : V m c main_v4 = catP (m ((c : Thread nD τ).loc main_arg5)) (m ((c : Thread nD τ).loc main_arg6)) (m ((c : Thread nD τ).loc main_arg4)) := by
  dsimp only [V, hostOps0]
  after_reads_simp
  rfl
theorem V_v8 (b : Fin 2048) : (V m c main_v8 : Vec Ideal S1x2048 .f32) (ix2 0 b) = bgR m c b := by
  dsimp only [V, hostOps0]
  after_reads_simp
  pointwise
theorem V_v7 (b : Fin 2048) : (V m c main_v7 : Vec Ideal S1x2048 .f32) (ix2 0 b) = dR m c b := by
  dsimp only [V, hostOps0]
  after_reads_simp
  pointwise
theorem V_v9 (b : Fin 2048) : (V m c main_v9 : Vec Ideal S1x2048 .f32) (ix2 0 b) = snR m c b := by
  dsimp only [V, hostOps0]
  after_reads_simp
  pointwise
theorem V_v10 : V m c main_v10 = m ((c : Thread nD τ).loc main_arg10) := by
  dsimp only [V, hostOps0]
  after_reads_simp
  rfl
theorem V_v11 : V m c main_v11 = m ((c : Thread nD τ).loc main_arg11) := by
  dsimp only [V, hostOps0]
  after_reads_simp
  rfl
theorem V_v12 : V m c main_v12 = m ((c : Thread nD τ).loc main_arg12) := by
  dsimp only [V, hostOps0]
  after_reads_simp
  rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 11 :=
  (by decide +kernel : ∀ t : Fin grid0.N, _)
theorem idx5 : ∀ t : Fin cfg0.N, win0_5.index t (0 : Fin 2) = t.val ∧ win0_5.index t (1 : Fin 2) = 3 :=
  (by decide +kernel : ∀ t : Fin grid0.N, _)
theorem idx6 : ∀ t : Fin cfg0.N, win0_6.index t (0 : Fin 2) = t.val ∧ win0_6.index t (1 : Fin 2) = 4 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

theorem x_row (t : Fin cfg0.N) (e : Fin 256) : row (iblk m c 0 t) e = xR m c (tr t.val (lt16 t) e) := by
  funext b
  refine Eq.trans ?_ (congrFun (V_main_arg0 m c) (ix2 (tr t.val (lt16 t) e) b))
  dsimp only [row]
  unfold iblk
  rw [View.read_apply]
  show V m c main_arg0 _ = V m c main_arg0 _
  congr 1
  funext a
  apply Fin.ext
  match a with
  | ⟨0, _⟩ => show win0_0.index t 0 * 256 + 1 * e.val = 256 * t.val + e.val; rw [(idx0 t).1]; omega
  | ⟨1, _⟩ => show win0_0.index t 1 * 1024 + 1 * b.val = b.val; rw [(idx0 t).2]; omega

theorem y_row (t : Fin cfg0.N) (e : Fin 256) : row (iblk m c 1 t) e = yR m c (tr t.val (lt16 t) e) := by
  funext b
  refine Eq.trans ?_ (congrFun (V_main_arg1 m c) (ix2 (tr t.val (lt16 t) e) b))
  dsimp only [row]
  unfold iblk
  rw [View.read_apply]
  show V m c main_arg1 _ = V m c main_arg1 _
  congr 1
  funext a
  apply Fin.ext
  match a with
  | ⟨0, _⟩ => show win0_1.index t 0 * 256 + 1 * e.val = 256 * t.val + e.val; rw [(idx1 t).1]; omega
  | ⟨1, _⟩ => show win0_1.index t 1 * 1024 + 1 * b.val = b.val; rw [(idx1 t).2]; omega

theorem ys_row (t : Fin cfg0.N) (e : Fin 256) : wide (iblk m c 2 t) e = ysR m c (tr t.val (lt16 t) e) := by
  funext b
  refine Eq.trans ?_ (congrFun (V_main_arg2 m c) (ix2 (tr t.val (lt16 t) e) b))
  dsimp only [wide]
  unfold iblk
  rw [View.read_apply]
  show V m c main_arg2 _ = V m c main_arg2 _
  congr 1
  funext a
  apply Fin.ext
  match a with
  | ⟨0, _⟩ => show win0_2.index t 0 * 256 + 1 * e.val = 256 * t.val + e.val; rw [(idx2 t).1]; omega
  | ⟨1, _⟩ => show win0_2.index t 1 * 2048 + 1 * b.val = b.val; rw [(idx2 t).2]; omega

theorem xs_row (t : Fin cfg0.N) (e : Fin 256) : wide (iblk m c 3 t) e = xsR m c (tr t.val (lt16 t) e) := by
  funext b
  refine Eq.trans ?_ ((congrFun (V_v1 m c) _).trans (catX_apply _ (tr t.val (lt16 t) e) b))
  dsimp only [wide]
  unfold iblk
  rw [View.read_apply]
  show V m c main_v1 _ = V m c main_v1 _
  congr 1
  funext a
  apply Fin.ext
  match a with
  | ⟨0, _⟩ => show win0_3.index t 0 * 256 + 1 * e.val = 256 * t.val + e.val; rw [(idx3 t).1]; omega
  | ⟨1, _⟩ => show win0_3.index t 1 * 2048 + 1 * b.val = b.val; rw [(idx3 t).2]; omega

theorem g_row (t : Fin cfg0.N) (e : Fin 256) : row (iblk m c 4 t) e = gR m c (tr t.val (lt16 t) e) := by
  funext b
  refine Eq.trans ?_ ((congrFun (V_v4 m c) _).trans (catP_g _ _ _ (tr t.val (lt16 t) e) b))
  dsimp only [row]
  unfold iblk
  rw [View.read_apply]
  show V m c main_v4 _ = V m c main_v4 _
  congr 1
  funext a
  apply Fin.ext
  match a with
  | ⟨0, _⟩ => show win0_4.index t 0 * 256 + 1 * e.val = 256 * t.val + e.val; rw [(idx4 t).1]; omega
  | ⟨1, _⟩ => show win0_4.index t 1 * 1024 + 1 * b.val = 11264 + b.val; rw [(idx4 t).2]; omega

theorem z_row (t : Fin cfg0.N) (e : Fin 256) : wide (iblk m c 5 t) e = zR m c (tr t.val (lt16 t) e) := by
  funext b
  refine Eq.trans ?_ ((congrFun (V_v4 m c) _).trans (catP_z _ _ _ (tr t.val (lt16 t) e) b))
  dsimp only [wide]
  unfold iblk
  rw [View.read_apply]
  show V m c main_v4 _ = V m c main_v4 _
  congr 1
  funext a
  apply Fin.ext
  match a with
  | ⟨0, _⟩ => show win0_5.index t 0 * 256 + 1 * e.val = 256 * t.val + e.val; rw [(idx5 t).1]; omega
  | ⟨1, _⟩ => show win0_5.index t 1 * 2048 + 1 * b.val = 6144 + b.val; rw [(idx5 t).2]; omega

theorem gt_row (t : Fin cfg0.N) (e : Fin 256) : wide (iblk m c 6 t) e = gtR m c (tr t.val (lt16 t) e) := by
  funext b
  refine Eq.trans ?_ ((congrFun (V_v4 m c) _).trans (catP_gt _ _ _ (tr t.val (lt16 t) e) b))
  dsimp only [wide]
  unfold iblk
  rw [View.read_apply]
  show V m c main_v4 _ = V m c main_v4 _
  congr 1
  funext a
  apply Fin.ext
  match a with
  | ⟨0, _⟩ => show win0_6.index t 0 * 256 + 1 * e.val = 256 * t.val + e.val; rw [(idx6 t).1]; omega
  | ⟨1, _⟩ => show win0_6.index t 1 * 2048 + 1 * b.val = 8192 + b.val; rw [(idx6 t).2]; omega

theorem bg_row (t : Fin cfg0.N) : one (iblk m c 7 t) = bgR m c := by
  funext b
  refine Eq.trans ?_ (V_v8 m c b)
  dsimp only [one]
  unfold iblk
  rw [View.read_apply]
  show V m c main_v8 _ = V m c main_v8 _
  congr 1
  funext a
  apply Fin.ext
  match a with
  | ⟨0, _⟩ => show win0_7.index t 0 * 1 + 1 * 0 = 0; rw [(idx7 t).1]
  | ⟨1, _⟩ => show win0_7.index t 1 * 2048 + 1 * b.val = b.val; rw [(idx7 t).2]; omega

theorem d_row (t : Fin cfg0.N) : one (iblk m c 8 t) = dR m c := by
  funext b
  refine Eq.trans ?_ (V_v7 m c b)
  dsimp only [one]
  unfold iblk
  rw [View.read_apply]
  show V m c main_v7 _ = V m c main_v7 _
  congr 1
  funext a
  apply Fin.ext
  match a with
  | ⟨0, _⟩ => show win0_8.index t 0 * 1 + 1 * 0 = 0; rw [(idx8 t).1]
  | ⟨1, _⟩ => show win0_8.index t 1 * 2048 + 1 * b.val = b.val; rw [(idx8 t).2]; omega

theorem sn_row (t : Fin cfg0.N) : one (iblk m c 9 t) = snR m c := by
  funext b
  refine Eq.trans ?_ (V_v9 m c b)
  dsimp only [one]
  unfold iblk
  rw [View.read_apply]
  show V m c main_v9 _ = V m c main_v9 _
  congr 1
  funext a
  apply Fin.ext
  match a with
  | ⟨0, _⟩ => show win0_9.index t 0 * 1 + 1 * 0 = 0; rw [(idx9 t).1]
  | ⟨1, _⟩ => show win0_9.index t 1 * 2048 + 1 * b.val = b.val; rw [(idx9 t).2]; omega

theorem wr_mat (t : Fin cfg0.N) : mat (iblk m c 10 t) = wrM m c := by
  funext e b
  refine Eq.trans ?_ (congrFun (V_v10 m c) (ix2 e b))
  dsimp only [mat]
  unfold iblk
  rw [View.read_apply]
  show V m c main_v10 _ = V m c main_v10 _
  congr 1
  funext a
  apply Fin.ext
  match a with
  | ⟨0, _⟩ => show win0_10.index t 0 * 1024 + 1 * e.val = e.val; rw [(idx10 t).1]; omega
  | ⟨1, _⟩ => show win0_10.index t 1 * 1024 + 1 * b.val = b.val; rw [(idx10 t).2]; omega

theorem ws_mat (t : Fin cfg0.N) : tall (iblk m c 11 t) = wsM m c := by
  funext e b
  refine Eq.trans ?_ (congrFun (V_v11 m c) (ix2 e b))
  dsimp only [tall]
  unfold iblk
  rw [View.read_apply]
  show V m c main_v11 _ = V m c main_v11 _
  congr 1
  funext a
  apply Fin.ext
  match a with
  | ⟨0, _⟩ => show win0_11.index t 0 * 2048 + 1 * e.val = e.val; rw [(idx11 t).1]; omega
  | ⟨1, _⟩ => show win0_11.index t 1 * 1024 + 1 * b.val = b.val; rw [(idx11 t).2]; omega

theorem wo_mat (t : Fin cfg0.N) : mat (iblk m c 12 t) = woM m c := by
  funext e b
  refine Eq.trans ?_ (congrFun (V_v12 m c) (ix2 e b))
  dsimp only [mat]
  unfold iblk
  rw [View.read_apply]
  show V m c main_v12 _ = V m c main_v12 _
  congr 1
  funext a
  apply Fin.ext
  match a with
  | ⟨0, _⟩ => show win0_12.index t 0 * 1024 + 1 * e.val = e.val; rw [(idx12 t).1]; omega
  | ⟨1, _⟩ => show win0_12.index t 1 * 1024 + 1 * b.val = b.val; rw [(idx12 t).2]; omega

theorem point (t : Fin cfg0.N) (a : Fin 256) (b : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 a b) = resArr m c (ix2 (tr t.val (lt16 t) a) b) := by
  refine (out_apply (iblk m c 0 t) (iblk m c 1 t) (iblk m c 4 t) (iblk m c 2 t) (iblk m c 3 t) (iblk m c 5 t) (iblk m c 6 t) (iblk m c 7 t) (iblk m c 8 t) (iblk m c 9 t) (iblk m c 10 t) (iblk m c 12 t) (iblk m c 11 t) a b).trans ?_
  rw [y_row, ys_row, xs_row, g_row, z_row, gt_row, bg_row, d_row, sn_row, wr_mat, ws_mat, wo_mat]
  exact congrArg (· + _) (congrFun (x_row m c t a) b)

theorem read13 (G : FVec Ideal S4096x1024 .f32) (t : Fin cfg0.N) (r : Fin 256) (b : Fin 1024) :
    (((cfg0.win 13).blk t).view.read (Elt Ideal) G : Vec Ideal S256x1024 .f32) (ix2 r b) = G (ix2 (tr t.val (lt16 t) r) b) := by
  rw [View.read_apply]
  show G _ = _
  congr 1
  funext a
  apply Fin.ext
  match a with
  | ⟨0, _⟩ => show win0_13.index t 0 * 256 + 1 * r.val = 256 * t.val + r.val; rw [(idx13 t).1]; omega
  | ⟨1, _⟩ => show win0_13.index t 1 * 1024 + 1 * b.val = b.val; rw [(idx13 t).2]; omega

theorem final13 : (dats m 0 c).arrAt 13 cfg0.N = resArr m c := by
  refine (dats m 0 c).arrAt_eq_of_cover 13 (resArr m c) (fun t hf => ?_) fun i => ?_
  · rw [Value.flushed13]
    refine (funext fun j => ?_ : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      = (((cfg0.win 13).blk t).view.read (Elt Ideal) (resArr m c) : Vec Ideal S256x1024 .f32))
    idx_vars j
    rw [read13]
    exact point m c t j0 j1
  · have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_13 _, ?_⟩
    show i ∈ ((View.whole main_v13).slice (win0_13.rect ⟨(i 0 : Nat) / 256, ht⟩)).set
    rw [View.set_slice_whole, Rect.mem_set_unit]
    intro a
    match a with
    | ⟨0, _⟩ =>
      show win0_13.index ⟨(i 0 : Nat) / 256, ht⟩ 0 * 256 ≤ (i 0 : Nat) ∧ (i 0 : Nat) < win0_13.index ⟨(i 0 : Nat) / 256, ht⟩ 0 * 256 + 256
      rw [(idx13 _).1]; dsimp only; omega
    | ⟨1, _⟩ =>
      show win0_13.index ⟨(i 0 : Nat) / 256, ht⟩ 1 * 1024 ≤ (i 1 : Nat) ∧ (i 1 : Nat) < win0_13.index ⟨(i 0 : Nat) / 256, ht⟩ 1 * 1024 + 1024
      rw [(idx13 _).2]; omega

end Cert.KernelPfwdIdeal.Whole

namespace Cert.Proof.Pfwd

theorem frame_k : Cert.quiescent_KernelPfwd := fun m ρ _ => Cert.KernelPfwd.Gen.frame m ρ
theorem frame_ki : Cert.quiescent_KernelPfwdIdeal := fun m ρ _ => Cert.KernelPfwdIdeal.Gen.frame m ρ
theorem frame_ri : Cert.quiescent_ReferencePfwdIdeal := fun m ρ _ =>
  (θ_run Cert.ReferencePfwdIdeal.defs _ _).mono (fun r h => ⟨fun c => (h c).2, sem_eq_zero_of_no_sems (by decide) r.2⟩)
    (Cert.ReferencePfwdIdeal.Value.run (F := Ideal) m ρ)

section Reference

open Cert.ReferencePfwdIdeal Cert.Pfwd Idealize.ShloMosaic.StableHlo

theorem col4 (n : Fin 1024) (k : Fin 256) (p : n.val / 256 * 256 + k.val < 1024) : (⟨n.val / 256 * 256 + k.val, p⟩ : Fin 1024) = hc (h4 n) k :=
  Fin.ext (by show n.val / 256 * 256 + k.val = 256 * (n.val / 256) + k.val; omega)
theorem col8 (n : Fin 2048) (k : Fin 256) (p : n.val / 256 * 256 + k.val < 2048) : (⟨n.val / 256 * 256 + k.val, p⟩ : Fin 2048) = kc (h8 n) k :=
  Fin.ext (by show n.val / 256 * 256 + k.val = 256 * (n.val / 256) + k.val; omega)

theorem colk (n : Fin 2048) (k : Fin 256) (p : (n.val / 256 * 256 + k.val) / 256 * 256 + (n.val / 256 * 256 + k.val) / 64 % 4 * 64 + (n.val / 256 * 256 + k.val) % 64 < 2048) :
    (⟨(n.val / 256 * 256 + k.val) / 256 * 256 + (n.val / 256 * 256 + k.val) / 64 % 4 * 64 + (n.val / 256 * 256 + k.val) % 64, p⟩ : Fin 2048) = kc (h8 n) k :=
  Fin.ext (by show (n.val / 256 * 256 + k.val) / 256 * 256 + (n.val / 256 * 256 + k.val) / 64 % 4 * 64 + (n.val / 256 * 256 + k.val) % 64 = 256 * (n.val / 256) + k.val; omega)
theorem cold (n : Fin 2048) (p : n.val / 256 * 4 + n.val / 64 % 4 < 32) :
    (⟨n.val / 256 * 4 + n.val / 64 % 4, p⟩ : Fin 32) = ⟨n.val / 64, by omega⟩ :=
  Fin.ext (by show n.val / 256 * 4 + n.val / 64 % 4 = n.val / 64; omega)
theorem coldk (n : Fin 2048) (k : Fin 256) (p : (n.val / 256 * 256 + k.val) / 256 * 4 + (n.val / 256 * 256 + k.val) / 64 % 4 < 32) :
    (⟨(n.val / 256 * 256 + k.val) / 256 * 4 + (n.val / 256 * 256 + k.val) / 64 % 4, p⟩ : Fin 32) = ⟨(kc (h8 n) k).val / 64, by omega⟩ :=
  Fin.ext (by show (n.val / 256 * 256 + k.val) / 256 * 4 + (n.val / 256 * 256 + k.val) / 64 % 4 = (256 * (n.val / 256) + k.val) / 64; omega)

/-- The reference's result at an index. -/
theorem res_apply (m : (ℓ : Loc nD τ sig) → Buf (Elt Ideal) ℓ) (c : Dev nD) (a : Fin 4096) (b : Fin 1024) :
    (Value.res_main_v56 m c : FVec Ideal S4096x1024 .f32) (ix2 a b)
      = Cert.KernelPfwdIdeal.Whole.res (fun k => m ((c.tc : Thread nD τ).loc main_arg0) (ix2 a k)) (fun k => m ((c.tc : Thread nD τ).loc main_arg1) (ix2 a k)) (fun k => m ((c.tc : Thread nD τ).loc main_arg2) (ix2 a k)) (fun k => m ((c.tc : Thread nD τ).loc main_arg3) (ix2 a k)) (fun k => m ((c.tc : Thread nD τ).loc main_arg4) (ix2 a k)) (fun k => m ((c.tc : Thread nD τ).loc main_arg5) (ix2 a k)) (fun k => m ((c.tc : Thread nD τ).loc main_arg6) (ix2 a k))
        (fun k => m ((c.tc : Thread nD τ).loc main_arg7) (ix1 k)) (fun k => m ((c.tc : Thread nD τ).loc main_arg8) (ix1 ⟨k.val / 64, by omega⟩)) (fun k => m ((c.tc : Thread nD τ).loc main_arg9) (ix1 k))
        (fun j n => m ((c.tc : Thread nD τ).loc main_arg10) (ix2 j n)) (fun j n => m ((c.tc : Thread nD τ).loc main_arg11) (ix2 j n)) (fun j n => m ((c.tc : Thread nD τ).loc main_arg12) (ix2 j n)) b := by
  unfold Value.res_main_v56
  pointwise
  simp only [col4, col8, colk, cold, coldk]
  rfl

end Reference

open Cert.KernelPfwdIdeal.Whole Cert.Pfwd in
/-- The kernel's result is the reference's, at every input. -/
theorem value : Cert.algebraic_KernelPfwdIdeal_ReferencePfwdIdeal := by
  intro m g m' g' _ ha
  refine ⟨fun c => resArr m c, (θ_run _ _ _).mono (fun r h c => ?_) (Cert.KernelPfwdIdeal.Value.run_blocks m g),
    (θ_run _ _ _).mono (fun r h c => ?_) (Cert.ReferencePfwdIdeal.Value.run m' g')⟩
  · obtain ⟨h5, hk⟩ := h c
    exact ⟨h5.trans (final13 m c), hk⟩
  · obtain ⟨h5, hk⟩ := h c
    obtain ⟨e0, e1, e2, e3, e4, e5, e6, e7, e8, e9, e10, e11, e12⟩ := ha c
    refine ⟨h5.trans ?_, hk⟩
    funext j
    idx_vars j
    rw [res_apply, e0, e1, e2, e3, e4, e5, e6, e7, e8, e9, e10, e11, e12]
    rfl

end Cert.Proof.Pfwd
-- ==== Proof.Pre.lean ====
/-
  The gradient of the convolution, step sizes and rotations: the frames of its three programs.
-/
module

public import proofs.«01_k».proof.Defs
public import proofs.«01_k».proof.Proof.Gen.KernelPre
public import proofs.«01_k».proof.Proof.Gen.KernelPre.Frame
public import proofs.«01_k».proof.Proof.Gen.KernelPreIdeal.Frame
public import proofs.«01_k».proof.Proof.Gen.KernelPreIdeal.Value
public import proofs.«01_k».proof.Proof.Gen.ReferencePreIdeal
public import proofs.«01_k».proof.Proof.Gen.ReferencePreIdeal.Run
public import Idealize.ShloMosaic.Lib.Pointwise
public import Idealize.ShloMosaic.Lib.Tactic
public import Idealize.ShloMosaic.Lib.StableHlo.RunRead
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Proof.Pre

theorem frame_k : Cert.quiescent_KernelPre := fun m ρ _ => Cert.KernelPre.Gen.frame m ρ
theorem frame_ki : Cert.quiescent_KernelPreIdeal := fun m ρ _ => Cert.KernelPreIdeal.Gen.frame m ρ
theorem frame_ri : Cert.quiescent_ReferencePreIdeal := fun m ρ _ =>
  (θ_run Cert.ReferencePreIdeal.defs _ _).mono (fun r h => ⟨fun c => (h c).2.2.2.2, sem_eq_zero_of_no_sems (by decide) r.2⟩)
    (Cert.ReferencePreIdeal.Value.run (F := Ideal) m ρ)

end Cert.Proof.Pre

end
-- ==== Proof.QfwdBody.lean ====
/-
  One grid point of the forward step before the scan: what it stores, at an index.
-/
module

public import proofs.«01_k».proof.Defs
public import proofs.«01_k».proof.Proof.Gen.KernelQfwdIdeal
public import proofs.«01_k».proof.Proof.Gen.KernelQfwdIdeal.Frame
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384

noncomputable section

open Idealize.ShloMosaic Idealize.ShloMosaic.TcCoe Idealize.SL.Sem

namespace Cert.KernelQfwdIdeal.Body

open Cert.KernelQfwdIdeal Cert.KernelQfwdIdeal.Gen

section Strip

variable (i : grid0.Coords) (p : Vec Ideal S8x128 .f32) (x : Vec Ideal S256x128 .f32) (cb w3 w0 w1 w2 : Vec Ideal S1x128 .f32)

/-- The convolution's value and its SiLU on 128 columns. -/
def strip : FVec Ideal S256x128 .f32 :=
  k0_pay5 (k0_pay2 i p x cb w3 w0 w1 w2) (k0_pay3 i p x cb w3 w0 w1 w2) (k0_pay4 (F := Ideal))

/-- The input's column with the last eight rows of the tile before on top (zeros on top of the first tile). -/
def above (e : Fin 128) (r : Fin 264) : EReal :=
  if h : r.val < 8 then (if 0 < (i 0).val then p (ix2 ⟨r.val, h⟩ e) else 0) else x (ix2 ⟨r.val - 8, by omega⟩ e)

/-- The convolution of a row from its value and the three values before it. -/
def conv (b w3 w0 w1 w2 x3 x0 x1 x2 : EReal) : EReal := b + w3 * x3 + w0 * x0 + w1 * x1 + w2 * x2
def silu (x : EReal) : EReal := x * Ideal.div 1 (1 + Ideal.exp (-x))

theorem sel (n : ℕ) (h : n < 16) (u v : EReal) :
    Scalar.select (Scalar.cmpi .sgt (BitVec.ofNat 32 n) 0#32) u v = if 0 < n then u else v := by
  interval_cases n <;> rfl
theorem above_congr (e : Fin 128) {n n' : ℕ} (h : n < 264) (h' : n' < 264) (hn : n = n') : above i p x e ⟨n, h⟩ = above i p x e ⟨n', h'⟩ := by
  subst hn
  rfl
theorem above_spell (e : Fin 128) (n : ℕ) (h : n < 264) : (if h : n < 8 then
      Scalar.select (Scalar.cmpi .sgt (BitVec.ofNat 32 (i 0).val) 0#32) (p (ix2 ⟨n, h⟩ e)) 0
    else x (ix2 ⟨n - 8, by omega⟩ e)) = above i p x e ⟨n, h⟩ := by
  unfold above
  exact dite_congr rfl (fun _ => sel _ (i 0).isLt _ _) fun _ => rfl

theorem pre_apply (a : Fin 256) (e : Fin 128) : k0_pay2 i p x cb w3 w0 w1 w2 (ix2 a e)
    = conv (cb (ix2 0 e)) (w3 (ix2 0 e)) (w0 (ix2 0 e)) (w1 (ix2 0 e)) (w2 (ix2 0 e)) (above i p x e ⟨a.val + 8, by omega⟩)
      (above i p x e ⟨a.val + 5, by omega⟩) (above i p x e ⟨a.val + 6, by omega⟩) (above i p x e ⟨a.val + 7, by omega⟩) := by
  have h8 : above i p x e ⟨a.val + 8, by omega⟩ = x (ix2 a e) := by
    unfold above
    rw [dif_neg (by simp)]
    exact congrArg x (congrArg (ix2 · e) (Fin.ext (by show a.val + 8 - 8 = a.val; omega)))
  have ha := a.isLt
  rw [h8, above_congr i p x e _ (by omega : (8 + a.val + 264 - 3) % 264 < 264) (by omega : a.val + 5 = (8 + a.val + 264 - 3) % 264),
    above_congr i p x e _ (by omega : (8 + a.val + 264 - 2) % 264 < 264) (by omega : a.val + 6 = (8 + a.val + 264 - 2) % 264),
    above_congr i p x e _ (by omega : (8 + a.val + 264 - 1) % 264 < 264) (by omega : a.val + 7 = (8 + a.val + 264 - 1) % 264),
    ← above_spell i p x e, ← above_spell i p x e, ← above_spell i p x e]
  pointwise [k0_pay2]
  rfl

theorem strip_apply (a : Fin 256) (e : Fin 128) : strip i p x cb w3 w0 w1 w2 (ix2 a e) = silu (k0_pay2 i p x cb w3 w0 w1 w2 (ix2 a e)) := by
  pointwise [strip, k0_pay5, k0_pay3, k0_pay4]
  try rw [zero_sub]
  rfl

end Strip

section Out

variable (i : grid0.Coords) (x0 : Vec Ideal S256x4096 .f32) (x1 : Vec Ideal S8x4096 .f32) (x2 x3 : Vec Ideal S256x512 .f32)
  (x4 : Vec Ideal S256x1024 .f32) (x5 x6 : Vec Ideal S256x128 .f32) (x7 : Vec Ideal S4x4096 .f32) (x8 : Vec Ideal S1x4096 .f32)
  (x9 : Vec Ideal S1x128 .f32) (x10 : Vec Ideal S128x2048 .bf16)

abbrev cx (k : Fin 32) : Rect S256x4096 := Rect.unit (s := S256x4096) ![0, 128 * k.val] S256x128.size (by intro a; fin_cases a <;> simp [S256x4096, S256x128] <;> omega)
abbrev cp (k : Fin 32) : Rect S8x4096 := Rect.unit (s := S8x4096) ![0, 128 * k.val] S8x128.size (by intro a; fin_cases a <;> simp [S8x4096, S8x128] <;> omega)
abbrev cb (k : Fin 32) : Rect S1x4096 := Rect.unit (s := S1x4096) ![0, 128 * k.val] S1x128.size (by intro a; fin_cases a <;> simp [S1x4096, S1x128] <;> omega)
abbrev cw (r : Fin 4) (k : Fin 32) : Rect S4x4096 := Rect.unit (s := S4x4096) ![r.val, 128 * k.val] S1x128.size (by intro a; fin_cases a <;> simp [S4x4096, S1x128] <;> omega)

def piece (k : Fin 32) : FVec Ideal S256x128 .f32 :=
  strip i (View.ld x1 (cp k)) (View.ld x0 (cx k)) (View.ld x8 (cb k)) (View.ld x7 (cw 3 k)) (View.ld x7 (cw 0 k)) (View.ld x7 (cw 1 k))
    (View.ld x7 (cw 2 k))

theorem out13_eq : out0_13 i x0 x1 x2 x3 x4 x5 x6 x7 x8 x9 x10
    = View.canon (List.ofFn fun k : Fin 32 => (⟨cx k.rev, piece i x0 x1 x7 x8 k.rev⟩ : View.Piece (Elt Ideal) S256x4096 .f32)) := by
  unfold out0_13
  rfl

/-- The place of column `e` of strip `k`. -/
def col (k : Fin 32) (e : Fin 128) : Fin 4096 := ⟨128 * k.val + e.val, by omega⟩
theorem at_col (x : Vec Ideal S256x4096 .f32) (k : Fin 32) (a : Fin 256) (e : Fin 128) : View.ld x (cx k) (ix2 a e) = x (ix2 a (col k e)) := by
  show x _ = x _
  congr 1
  funext d
  apply Fin.ext
  match d with
  | ⟨0, _⟩ => show 0 + 1 * a.val = a.val; omega
  | ⟨1, _⟩ => show 128 * k.val + 1 * e.val = 128 * k.val + e.val; omega
theorem at_above (x : Vec Ideal S8x4096 .f32) (k : Fin 32) (a : Fin 8) (e : Fin 128) : View.ld x (cp k) (ix2 a e) = x (ix2 a (col k e)) := by
  show x _ = x _
  congr 1
  funext d
  apply Fin.ext
  match d with
  | ⟨0, _⟩ => show 0 + 1 * a.val = a.val; omega
  | ⟨1, _⟩ => show 128 * k.val + 1 * e.val = 128 * k.val + e.val; omega
theorem at_bias (x : Vec Ideal S1x4096 .f32) (k : Fin 32) (e : Fin 128) : View.ld x (cb k) (ix2 0 e) = x (ix2 0 (col k e)) := by
  show x _ = x _
  congr 1
  funext d
  apply Fin.ext
  match d with
  | ⟨0, _⟩ => rfl
  | ⟨1, _⟩ => show 128 * k.val + 1 * e.val = 128 * k.val + e.val; omega
theorem at_weight (x : Vec Ideal S4x4096 .f32) (r : Fin 4) (k : Fin 32) (e : Fin 128) : View.ld x (cw r k) (ix2 0 e) = x (ix2 r (col k e)) := by
  show x _ = x _
  congr 1
  funext d
  apply Fin.ext
  match d with
  | ⟨0, _⟩ => show r.val + 1 * 0 = r.val; omega
  | ⟨1, _⟩ => show 128 * k.val + 1 * e.val = 128 * k.val + e.val; omega

theorem piece_apply (k : Fin 32) (a : Fin 256) (e : Fin 128) : piece i x0 x1 x7 x8 k (ix2 a e)
    = silu (conv (x8 (ix2 0 (col k e))) (x7 (ix2 3 (col k e))) (x7 (ix2 0 (col k e))) (x7 (ix2 1 (col k e))) (x7 (ix2 2 (col k e)))
      (above i (View.ld x1 (cp k)) (View.ld x0 (cx k)) e ⟨a.val + 8, by omega⟩)
      (above i (View.ld x1 (cp k)) (View.ld x0 (cx k)) e ⟨a.val + 5, by omega⟩)
      (above i (View.ld x1 (cp k)) (View.ld x0 (cx k)) e ⟨a.val + 6, by omega⟩)
      (above i (View.ld x1 (cp k)) (View.ld x0 (cx k)) e ⟨a.val + 7, by omega⟩)) := by
  unfold piece
  rw [strip_apply, pre_apply, at_bias, at_weight, at_weight, at_weight, at_weight]

theorem out13_apply (k : Fin 32) (a : Fin 256) (e : Fin 128) :
    out0_13 i x0 x1 x2 x3 x4 x5 x6 x7 x8 x9 x10 (ix2 a (col k e)) = piece i x0 x1 x7 x8 k (ix2 a e) := by
  rw [out13_eq]
  refine View.canon_ofFn_unit_eq_of_forall (Val := Elt Ideal) (S := S256x4096) (e := .f32) (fun k : Fin 32 => ![0, 128 * k.rev.val]) S256x128.size _ (fun k => piece i x0 x1 x7 x8 k.rev)
    (ix2 a (col k e)) _ ⟨k.rev, fun d => ?_⟩ fun n x hx => ?_
  · rw [Fin.rev_rev]
    match d with
    | ⟨0, _⟩ => exact ⟨Nat.zero_le _, by show a.val < 0 + 256; omega⟩
    | ⟨1, _⟩ => exact ⟨by show 128 * k.val ≤ 128 * k.val + e.val; omega, by show 128 * k.val + e.val < 128 * k.val + 128; omega⟩
  · have h0 : a.val = 0 + (x 0).val := hx 0
    have h1 : 128 * k.val + e.val = 128 * n.rev.val + (x 1).val := hx 1
    have hx1 : (x 1).val < 128 := (x 1).isLt
    have hk : n.rev = k := Fin.ext (by omega)
    show piece i x0 x1 x7 x8 n.rev x = _
    rw [hk] at h1 ⊢
    refine congrArg _ (funext fun d => Fin.ext ?_)
    match d with
    | ⟨0, _⟩ => show (x 0).val = a.val; omega
    | ⟨1, _⟩ => show (x 1).val = e.val; omega

/-! ### The rotary embeddings -/

abbrev hx (h : Fin 4) : Rect S256x512 := Rect.unit (s := S256x512) ![0, 128 * h.val] S256x128.size (by intro a; fin_cases a <;> simp [S256x512, S256x128] <;> omega)

theorem out11_eq : out0_11 i x0 x1 x2 x3 x4 x5 x6 x7 x8 x9 x10
    = View.canon (List.ofFn fun k : Fin 4 => (⟨hx k.rev, k0_pay111 (View.ld x5 r0_224) (View.ld x6 r0_224) (View.ld x2 (hx k.rev))⟩
      : View.Piece (Elt Ideal) S256x512 .f32)) := by
  unfold out0_11
  rfl
theorem out12_eq : out0_12 i x0 x1 x2 x3 x4 x5 x6 x7 x8 x9 x10
    = View.canon (List.ofFn fun k : Fin 4 => (⟨hx k.rev, k0_pay112 (View.ld x5 r0_224) (View.ld x6 r0_224) (View.ld x3 (hx k.rev))⟩
      : View.Piece (Elt Ideal) S256x512 .f32)) := by
  unfold out0_12
  rfl
theorem hz : (![0, 0] : Fin 2 → Nat) = fun _ => 0 := funext fun a => by fin_cases a <;> rfl

/-- The place of column `e` of head `h`. -/
def hcol (h : Fin 4) (e : Fin 128) : Fin 512 := ⟨128 * h.val + e.val, by omega⟩
theorem at_head (x : Vec Ideal S256x512 .f32) (h : Fin 4) (a : Fin 256) (e : Fin 128) : View.ld x (hx h) (ix2 a e) = x (ix2 a (hcol h e)) := by
  show x _ = x _
  congr 1
  funext d
  apply Fin.ext
  match d with
  | ⟨0, _⟩ => show 0 + 1 * a.val = a.val; omega
  | ⟨1, _⟩ => show 128 * h.val + 1 * e.val = 128 * h.val + e.val; omega
theorem read_head (P : Fin 4 → FVec Ideal S256x128 .f32) (h : Fin 4) (a : Fin 256) (e : Fin 128) :
    View.canon (List.ofFn fun k : Fin 4 => (⟨hx k.rev, P k.rev⟩ : View.Piece (Elt Ideal) S256x512 .f32)) (ix2 a (hcol h e)) = P h (ix2 a e) := by
  refine View.canon_ofFn_unit_eq_of_forall (Val := Elt Ideal) (S := S256x512) (e := .f32) (fun k : Fin 4 => ![0, 128 * k.rev.val]) S256x128.size _ (fun k => P k.rev)
    (ix2 a (hcol h e)) _ ⟨h.rev, fun d => ?_⟩ fun n x hx => ?_
  · rw [Fin.rev_rev]
    match d with
    | ⟨0, _⟩ => exact ⟨Nat.zero_le _, by show a.val < 0 + 256; omega⟩
    | ⟨1, _⟩ => exact ⟨by show 128 * h.val ≤ 128 * h.val + e.val; omega, by show 128 * h.val + e.val < 128 * h.val + 128; omega⟩
  · have h0 : a.val = 0 + (x 0).val := hx 0
    have h1 : 128 * h.val + e.val = 128 * n.rev.val + (x 1).val := hx 1
    have hx1 : (x 1).val < 128 := (x 1).isLt
    have hk : n.rev = h := Fin.ext (by omega)
    show P n.rev x = _
    rw [hk] at h1 ⊢
    refine congrArg _ (funext fun d => Fin.ext ?_)
    match d with
    | ⟨0, _⟩ => show (x 0).val = a.val; omega
    | ⟨1, _⟩ => show (x 1).val = e.val; omega

theorem out11_apply (h : Fin 4) (a : Fin 256) (e : Fin 128) : out0_11 i x0 x1 x2 x3 x4 x5 x6 x7 x8 x9 x10 (ix2 a (hcol h e))
    = x2 (ix2 a (hcol h e)) * x5 (ix2 a e) + x2 (ix2 a (hcol h ⟨(e.val + 128 - 64) % 128, by omega⟩)) * x6 (ix2 a e) := by
  rw [out11_eq, read_head fun k => k0_pay111 (View.ld x5 r0_224) (View.ld x6 r0_224) (View.ld x2 (hx k))]
  simp only [View.ld_unit_zero (S := S256x128) hz, ← at_head]
  pointwise [k0_pay111, k0_pay109, k0_pay110]
theorem out12_apply (h : Fin 4) (a : Fin 256) (e : Fin 128) : out0_12 i x0 x1 x2 x3 x4 x5 x6 x7 x8 x9 x10 (ix2 a (hcol h e))
    = (x3 (ix2 a (hcol h e)) * x5 (ix2 a e) + x3 (ix2 a (hcol h ⟨(e.val + 128 - 64) % 128, by omega⟩)) * x6 (ix2 a e))
      * Ideal.ofBits .f32 0x3DB504F3#32 := by
  rw [out12_eq, read_head fun k => k0_pay112 (View.ld x5 r0_224) (View.ld x6 r0_224) (View.ld x3 (hx k))]
  simp only [View.ld_unit_zero (S := S256x128) hz, ← at_head]
  pointwise [k0_pay112, k0_pay109, k0_pay110]

end Out

end Cert.KernelQfwdIdeal.Body
-- ==== Proof.Qfwd.lean ====
/-
  The forward pass's step before the scan, as a whole: causal convolution with its SiLU, and rotary embeddings.
-/
module

public import proofs.«01_k».proof.Defs
public import proofs.«01_k».proof.Proof.QfwdBody
public import proofs.«01_k».proof.Proof.Gen.KernelQfwd
public import proofs.«01_k».proof.Proof.Gen.KernelQfwd.Frame
public import proofs.«01_k».proof.Proof.Gen.KernelQfwdIdeal
public import proofs.«01_k».proof.Proof.Gen.KernelQfwdIdeal.Frame
public import proofs.«01_k».proof.Proof.Gen.KernelQfwdIdeal.Value
public import proofs.«01_k».proof.Proof.Gen.ReferenceQfwdIdeal
public import proofs.«01_k».proof.Proof.Gen.ReferenceQfwdIdeal.Run
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## The step's mathematics -/

namespace Cert.Qfwd

open Cert.KernelQfwdIdeal.Body

/-- Row `n` of the input with three rows of zeros on top. -/
def padded (X : Fin 4096 → Fin 4096 → EReal) (n : ℕ) (b : Fin 4096) : EReal := if h : 3 ≤ n ∧ n - 3 < 4096 then X ⟨n - 3, h.2⟩ b else 0
/-- The causal convolution with its SiLU. -/
def conved (X : Fin 4096 → Fin 4096 → EReal) (W : Fin 4 → Fin 4096 → EReal) (B : Fin 4096 → EReal) (r b : Fin 4096) : EReal :=
  silu (conv (B b) (W 3 b) (W 0 b) (W 1 b) (W 2 b) (padded X (r.val + 3) b) (padded X r.val b) (padded X (r.val + 1) b) (padded X (r.val + 2) b))
/-- A row's rotary embedding, head by head. -/
def rot (q : Fin 512 → EReal) (cs sn : Fin 64 → EReal) (b : Fin 512) : EReal :=
  if h : b.val % 128 < 64 then q b * cs ⟨b.val % 128, h⟩ - q ⟨b.val + 64, by omega⟩ * sn ⟨b.val % 128, h⟩
  else q ⟨b.val - 64, by omega⟩ * sn ⟨b.val % 128 - 64, by omega⟩ + q b * cs ⟨b.val % 128 - 64, by omega⟩

/-- The cosines twice, and the sines with the first half's signs changed. -/
def cosAt (cs : Fin 64 → EReal) (e : Fin 128) : EReal := if h : e.val < 64 then cs ⟨e.val, h⟩ else cs ⟨e.val - 64, by omega⟩
def sinAt (sn : Fin 64 → EReal) (e : Fin 128) : EReal := if h : e.val < 64 then -sn ⟨e.val, h⟩ else sn ⟨e.val - 64, by omega⟩

/-- A head's embedding as one rotation of its columns by half their number. -/
theorem rot_eq (q : Fin 512 → EReal) (cs sn : Fin 64 → EReal) (h : Fin 4) (e : Fin 128) :
    q (hcol h e) * cosAt cs e + q (hcol h ⟨(e.val + 128 - 64) % 128, by omega⟩) * sinAt sn e = rot q cs sn (hcol h e) := by
  have hm : (hcol h e).val % 128 = e.val := by show (128 * h.val + e.val) % 128 = e.val; omega
  unfold rot cosAt sinAt
  by_cases he : e.val < 64
  · rw [dif_pos he, dif_pos he, dif_pos (by omega), mul_neg, ← sub_eq_add_neg]
    simp only [hm]
    refine congrArg (_ - q · * _) (Fin.ext ?_)
    show 128 * h.val + (e.val + 128 - 64) % 128 = 128 * h.val + e.val + 64
    omega
  · rw [dif_neg he, dif_neg he, dif_neg (by omega), add_comm]
    simp only [hm]
    refine congrArg (q · * _ + _) (Fin.ext ?_)
    show 128 * h.val + (e.val + 128 - 64) % 128 = 128 * h.val + e.val - 64
    omega

/-- The same with every place spelt from the head's number. -/
theorem rot_spell (q : Fin 512 → EReal) (cs sn : Fin 64 → EReal) (b : Fin 512) :
    (if h : b.val % 128 < 64 then q b * cs ⟨b.val % 128, h⟩ - q ⟨b.val / 128 * 128 + (64 + b.val % 128), by omega⟩ * sn ⟨b.val % 128, h⟩
      else q ⟨b.val / 128 * 128 + (b.val % 128 - 64), by omega⟩ * sn ⟨b.val % 128 - 64, by omega⟩
        + q ⟨b.val / 128 * 128 + (64 + (b.val % 128 - 64)), by omega⟩ * cs ⟨b.val % 128 - 64, by omega⟩) = rot q cs sn b := by
  have hb : b.val < 512 := b.isLt
  unfold rot
  refine dite_congr rfl (fun h => ?_) fun h => ?_
  · exact congrArg (q b * _ - q · * _) (Fin.ext (by show b.val / 128 * 128 + (64 + b.val % 128) = b.val + 64; omega))
  · rw [show (⟨b.val / 128 * 128 + (64 + (b.val % 128 - 64)), by omega⟩ : Fin 512) = b from Fin.ext (by show b.val / 128 * 128 + _ = b.val; omega)]
    exact congrArg (q · * _ + _) (Fin.ext (by show b.val / 128 * 128 + (b.val % 128 - 64) = b.val - 64; omega))
theorem padded_spell (X : Fin 4096 → Fin 4096 → EReal) (n : ℕ) (hn : n < 4099) (k : Fin 4096) :
    (if h : n < 3 then 0 else X ⟨n - 3, by omega⟩ k) = padded X n k := by
  unfold padded
  by_cases h : n < 3
  · rw [dif_pos h, dif_neg (by omega)]
  · rw [dif_neg h, dif_pos ⟨by omega, by omega⟩]
/-- The convolution's terms in the order of the rows. -/
theorem conv_order (b w3 w0 w1 w2 x3 x0 x1 x2 : EReal) : x0 * w0 + x1 * w1 + x2 * w2 + x3 * w3 + b = conv b w3 w0 w1 w2 x3 x0 x1 x2 := by
  unfold conv
  rw [mul_comm x0, mul_comm x1, mul_comm x2, mul_comm x3]
  abel

end Cert.Qfwd

/-! ## The arrays after the run -/

namespace Cert.KernelQfwdIdeal.Whole

open Cert.KernelQfwdIdeal Cert.KernelQfwdIdeal.Gen Cert.KernelQfwdIdeal.Body Cert.Qfwd

variable (m : (ℓ : Loc nD τ sig) → Buf (Elt Ideal) ℓ) (c : Dev nD)

abbrev xM : Fin 4096 → Fin 4096 → EReal := fun r k => m ((c : Thread nD τ).loc main_arg0) (ix2 r k)
abbrev qR (r : Fin 4096) : Fin 512 → EReal := fun k => m ((c : Thread nD τ).loc main_arg1) (ix2 r k)
abbrev kR (r : Fin 4096) : Fin 512 → EReal := fun k => m ((c : Thread nD τ).loc main_arg2) (ix2 r k)
abbrev wM : Fin 4 → Fin 4096 → EReal := fun r k => m ((c : Thread nD τ).loc main_arg4) (ix2 r k)
abbrev bR : Fin 4096 → EReal := fun k => m ((c : Thread nD τ).loc main_arg5) (ix1 k)
abbrev cR (r : Fin 4096) : Fin 64 → EReal := fun k => m ((c : Thread nD τ).loc main_arg7) (ix2 r k)
abbrev sR (r : Fin 4096) : Fin 64 → EReal := fun k => m ((c : Thread nD τ).loc main_arg8) (ix2 r k)

def resQ : FVec Ideal S4096x512 .f32 := fun j => rot (qR m c (j 0)) (cR m c (j 0)) (sR m c (j 0)) (j 1)
def resK : FVec Ideal S4096x512 .f32 := fun j => rot (kR m c (j 0)) (cR m c (j 0)) (sR m c (j 0)) (j 1) * Ideal.ofBits .f32 0x3DB504F3#32
def resX : FVec Ideal S4096x4096 .f32 := fun j => conved (xM m c) (wM m c) (bR m c) (j 0) (j 1)

/-- Row `a` of tile `t`. -/
def tr (t : ℕ) (h : t < 16) (a : Fin 256) : Fin 4096 := ⟨256 * t + a.val, by omega⟩
theorem lt16 (t : Fin cfg0.N) : t.val < 16 := by have := t.isLt; have h : cfg0.N = 16 := N_0; omega

/-! ### What the arrays hold that the kernel packs on the host -/

/-- The projection's columns packed side by side. -/
abbrev catP (x : FVec Ideal S4096x4096 .f32) (q k : FVec Ideal S4096x512 .f32) (d : FVec Ideal S4096x32 .f32) : FVec Ideal S4096x12288 .f32 :=
  concatenate S4096x12288 1 [⟨S4096x4096, x⟩, ⟨S4096x512, q⟩, ⟨S4096x512, k⟩, ⟨S4096x32, d⟩,
    ⟨S4096x7136, broadcastInDim S4096x7136 ![] bcast_S_S4096x7136 (constant S_ FTy.f32 0#32)⟩]
    concatenates_S4096x4096_S4096x512_S4096x512_S4096x32_S4096x7136_S4096x12288_d1
abbrev catC (a b : FVec Ideal S4096x64 .f32) : FVec Ideal S4096x128 .f32 :=
  concatenate S4096x128 1 [⟨S4096x64, a⟩, ⟨S4096x64, b⟩] concatenates_S4096x64_S4096x64_S4096x128_d1
theorem catP_x (x : FVec Ideal S4096x4096 .f32) (q k : FVec Ideal S4096x512 .f32) (d : FVec Ideal S4096x32 .f32) (r b : Fin 4096) :
    catP x q k d (ix2 r ⟨b.val, by omega⟩) = x (ix2 r b) := by
  unfold catP
  pointwise
theorem catP_q (x : FVec Ideal S4096x4096 .f32) (q k : FVec Ideal S4096x512 .f32) (d : FVec Ideal S4096x32 .f32) (r : Fin 4096) (b : Fin 512) :
    catP x q k d (ix2 r ⟨4096 + b.val, by omega⟩) = q (ix2 r b) := by
  unfold catP
  pointwise
theorem catP_k (x : FVec Ideal S4096x4096 .f32) (q k : FVec Ideal S4096x512 .f32) (d : FVec Ideal S4096x32 .f32) (r : Fin 4096) (b : Fin 512) :
    catP x q k d (ix2 r ⟨4608 + b.val, by omega⟩) = k (ix2 r b) := by
  unfold catP
  pointwise
  rw [dif_neg (by omega), dif_neg (by omega), dif_pos (by omega)]
  exact congrArg k (congrArg (ix2 r) (Fin.ext (by show 4608 + b.val - 4096 - 512 = b.val; omega)))
theorem catC_cos (a : FVec Ideal S4096x64 .f32) (r : Fin 4096) (e : Fin 128) : catC a a (ix2 r e) = cosAt (fun k => a (ix2 r k)) e := by
  unfold catC
  pointwise
  rfl
theorem catC_sin (a : FVec Ideal S4096x64 .f32) (r : Fin 4096) (e : Fin 128) : catC (Host.negf a) a (ix2 r e) = sinAt (fun k => a (ix2 r k)) e := by
  unfold catC
  pointwise
  rfl

theorem V_v1 : V m c main_v1 = catP (m ((c : Thread nD τ).loc main_arg0)) (m ((c : Thread nD τ).loc main_arg1)) (m ((c : Thread nD τ).loc main_arg2)) (m ((c : Thread nD τ).loc main_arg3)) := by
  dsimp only [V, hostOps0, hostOps0_1, hostOps0_2, hostOps0_3, hostOps0_4, List.flatten_cons, List.flatten_nil, List.append_nil, List.cons_append, List.nil_append]
  after_reads_simp
  rfl
theorem V_v2 : V m c main_v2 = catC (m ((c : Thread nD τ).loc main_arg7)) (m ((c : Thread nD τ).loc main_arg7)) := by
  dsimp only [V, hostOps0, hostOps0_1, hostOps0_2, hostOps0_3, hostOps0_4, List.flatten_cons, List.flatten_nil, List.append_nil, List.cons_append, List.nil_append]
  after_reads_simp
  rfl
theorem V_v4 : V m c main_v4 = catC (Host.negf (m ((c : Thread nD τ).loc main_arg8))) (m ((c : Thread nD τ).loc main_arg8)) := by
  dsimp only [V, hostOps0, hostOps0_1, hostOps0_2, hostOps0_3, hostOps0_4, List.flatten_cons, List.flatten_nil, List.append_nil, List.cons_append, List.nil_append]
  after_reads_simp
  rfl
theorem V_v16 (b : Fin 4096) : (V m c main_v16 : Vec Ideal S1x4096 .f32) (ix2 0 b) = bR m c b := by
  dsimp only [V, hostOps0, hostOps0_1, hostOps0_2, hostOps0_3, hostOps0_4, List.flatten_cons, List.flatten_nil, List.append_nil, List.cons_append, List.nil_append]
  after_reads_simp
  pointwise

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 32 * t.val - 1 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 8 :=
  (by decide +kernel : ∀ t : Fin grid0.N, _)
theorem idx3 : ∀ t : Fin cfg0.N, win0_3.index t (0 : Fin 2) = t.val ∧ win0_3.index t (1 : Fin 2) = 9 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem coord : ∀ t : Fin cfg0.N, (grid0.coords t 0).val = t.val := (by decide +kernel : ∀ t : Fin grid0.N, _)

theorem x_at (t : Fin cfg0.N) (a : Fin 256) (b : Fin 4096) : (iblk m c 0 t : Vec Ideal S256x4096 .f32) (ix2 a b) = xM m c (tr t.val (lt16 t) a) b := by
  refine Eq.trans ?_ ((congrFun (V_v1 m c) (ix2 (tr t.val (lt16 t) a) ⟨b.val, by omega⟩)).trans (catP_x _ _ _ _ _ b))
  unfold iblk
  rw [View.read_apply]
  show V m c main_v1 _ = V m c main_v1 _
  congr 1
  funext d
  apply Fin.ext
  match d with
  | ⟨0, _⟩ => show win0_0.index t 0 * 256 + 1 * a.val = 256 * t.val + a.val; rw [(idx0 t).1]; omega
  | ⟨1, _⟩ => show win0_0.index t 1 * 4096 + 1 * b.val = b.val; rw [(idx0 t).2]; omega

theorem above_at (t : Fin cfg0.N) (h : 0 < t.val) (a : Fin 8) (b : Fin 4096) : (iblk m c 1 t : Vec Ideal S8x4096 .f32) (ix2 a b)
    = xM m c ⟨256 * t.val - 8 + a.val, by have := lt16 t; omega⟩ b := by
  refine Eq.trans ?_ ((congrFun (V_v1 m c) (ix2 ⟨256 * t.val - 8 + a.val, by have := lt16 t; omega⟩ ⟨b.val, by omega⟩)).trans (catP_x _ _ _ _ _ b))
  unfold iblk
  rw [View.read_apply]
  show V m c main_v1 _ = V m c main_v1 _
  congr 1
  funext d
  apply Fin.ext
  match d with
  | ⟨0, _⟩ => show win0_1.index t 0 * 8 + 1 * a.val = 256 * t.val - 8 + a.val; rw [(idx1 t).1]; omega
  | ⟨1, _⟩ => show win0_1.index t 1 * 4096 + 1 * b.val = b.val; rw [(idx1 t).2]; omega

theorem q_at (t : Fin cfg0.N) (a : Fin 256) (b : Fin 512) : (iblk m c 2 t : Vec Ideal S256x512 .f32) (ix2 a b) = qR m c (tr t.val (lt16 t) a) b := by
  refine Eq.trans ?_ ((congrFun (V_v1 m c) (ix2 (tr t.val (lt16 t) a) ⟨4096 + b.val, by omega⟩)).trans (catP_q _ _ _ _ _ b))
  unfold iblk
  rw [View.read_apply]
  show V m c main_v1 _ = V m c main_v1 _
  congr 1
  funext d
  apply Fin.ext
  match d with
  | ⟨0, _⟩ => show win0_2.index t 0 * 256 + 1 * a.val = 256 * t.val + a.val; rw [(idx2 t).1]; omega
  | ⟨1, _⟩ => show win0_2.index t 1 * 512 + 1 * b.val = 4096 + b.val; rw [(idx2 t).2]; omega

theorem k_at (t : Fin cfg0.N) (a : Fin 256) (b : Fin 512) : (iblk m c 3 t : Vec Ideal S256x512 .f32) (ix2 a b) = kR m c (tr t.val (lt16 t) a) b := by
  refine Eq.trans ?_ ((congrFun (V_v1 m c) (ix2 (tr t.val (lt16 t) a) ⟨4608 + b.val, by omega⟩)).trans (catP_k _ _ _ _ _ b))
  unfold iblk
  rw [View.read_apply]
  show V m c main_v1 _ = V m c main_v1 _
  congr 1
  funext d
  apply Fin.ext
  match d with
  | ⟨0, _⟩ => show win0_3.index t 0 * 256 + 1 * a.val = 256 * t.val + a.val; rw [(idx3 t).1]; omega
  | ⟨1, _⟩ => show win0_3.index t 1 * 512 + 1 * b.val = 4608 + b.val; rw [(idx3 t).2]; omega

theorem cos_at (t : Fin cfg0.N) (a : Fin 256) (e : Fin 128) : (iblk m c 5 t : Vec Ideal S256x128 .f32) (ix2 a e) = cosAt (cR m c (tr t.val (lt16 t) a)) e := by
  refine Eq.trans ?_ ((congrFun (V_v2 m c) (ix2 (tr t.val (lt16 t) a) e)).trans (catC_cos _ _ e))
  unfold iblk
  rw [View.read_apply]
  show V m c main_v2 _ = V m c main_v2 _
  congr 1
  funext d
  apply Fin.ext
  match d with
  | ⟨0, _⟩ => show win0_5.index t 0 * 256 + 1 * a.val = 256 * t.val + a.val; rw [(idx5 t).1]; omega
  | ⟨1, _⟩ => show win0_5.index t 1 * 128 + 1 * e.val = e.val; rw [(idx5 t).2]; omega

theorem sin_at (t : Fin cfg0.N) (a : Fin 256) (e : Fin 128) : (iblk m c 6 t : Vec Ideal S256x128 .f32) (ix2 a e) = sinAt (sR m c (tr t.val (lt16 t) a)) e := by
  refine Eq.trans ?_ ((congrFun (V_v4 m c) (ix2 (tr t.val (lt16 t) a) e)).trans (catC_sin _ _ e))
  unfold iblk
  rw [View.read_apply]
  show V m c main_v4 _ = V m c main_v4 _
  congr 1
  funext d
  apply Fin.ext
  match d with
  | ⟨0, _⟩ => show win0_6.index t 0 * 256 + 1 * a.val = 256 * t.val + a.val; rw [(idx6 t).1]; omega
  | ⟨1, _⟩ => show win0_6.index t 1 * 128 + 1 * e.val = e.val; rw [(idx6 t).2]; omega

theorem w_at (t : Fin cfg0.N) (a : Fin 4) (b : Fin 4096) : (iblk m c 7 t : Vec Ideal S4x4096 .f32) (ix2 a b) = wM m c a b := by
  refine Eq.trans ?_ (congrFun (V_main_arg4 m c) (ix2 a b))
  unfold iblk
  rw [View.read_apply]
  show V m c main_arg4 _ = V m c main_arg4 _
  congr 1
  funext d
  apply Fin.ext
  match d with
  | ⟨0, _⟩ => show win0_7.index t 0 * 4 + 1 * a.val = a.val; rw [(idx7 t).1]; omega
  | ⟨1, _⟩ => show win0_7.index t 1 * 4096 + 1 * b.val = b.val; rw [(idx7 t).2]; omega

theorem b_at (t : Fin cfg0.N) (b : Fin 4096) : (iblk m c 8 t : Vec Ideal S1x4096 .f32) (ix2 0 b) = bR m c b := by
  refine Eq.trans ?_ (V_v16 m c b)
  unfold iblk
  rw [View.read_apply]
  show V m c main_v16 _ = V m c main_v16 _
  congr 1
  funext d
  apply Fin.ext
  match d with
  | ⟨0, _⟩ => show win0_8.index t 0 * 1 + 1 * 0 = 0; rw [(idx8 t).1]
  | ⟨1, _⟩ => show win0_8.index t 1 * 4096 + 1 * b.val = b.val; rw [(idx8 t).2]; omega

/-- The rows a tile's convolution reads are the padded input's. -/
theorem above_eq (t : Fin cfg0.N) (k : Fin 32) (e : Fin 128) (n : ℕ) (hn : n < 264) (h5 : 5 ≤ n) (n' : ℕ) (hn' : n' = 256 * t.val + n - 5) :
    above (grid0.coords t) (View.ld (iblk m c 1 t : Vec Ideal S8x4096 .f32) (cp k)) (View.ld (iblk m c 0 t : Vec Ideal S256x4096 .f32) (cx k)) e ⟨n, hn⟩
      = padded (xM m c) n' (col k e) := by
  subst hn'
  have ht := lt16 t
  unfold above padded
  rw [coord]
  by_cases h8 : n < 8
  · rw [dif_pos h8]
    by_cases h0 : 0 < t.val
    · rw [if_pos h0, dif_pos ⟨by omega, by omega⟩, at_above, above_at m c t h0]
      exact congrArg (xM m c · (col k e)) (Fin.ext (by show 256 * t.val - 8 + n = 256 * t.val + n - 5 - 3; omega))
    · rw [if_neg h0, dif_neg (by omega)]
  · rw [dif_neg h8, dif_pos ⟨by omega, by omega⟩, at_col, x_at]
    exact congrArg (xM m c · (col k e)) (Fin.ext (by show 256 * t.val + (n - 8) = 256 * t.val + n - 5 - 3; omega))

/-- The inputs of the body at a point. -/
abbrev o11 (t : Fin cfg0.N) : Vec Ideal S256x512 .f32 := out0_11 (grid0.coords t) (iblk m c 0 t) (iblk m c 1 t) (iblk m c 2 t) (iblk m c 3 t) (iblk m c 4 t)
  (iblk m c 5 t) (iblk m c 6 t) (iblk m c 7 t) (iblk m c 8 t) (iblk m c 9 t) (iblk m c 10 t)
abbrev o12 (t : Fin cfg0.N) : Vec Ideal S256x512 .f32 := out0_12 (grid0.coords t) (iblk m c 0 t) (iblk m c 1 t) (iblk m c 2 t) (iblk m c 3 t) (iblk m c 4 t)
  (iblk m c 5 t) (iblk m c 6 t) (iblk m c 7 t) (iblk m c 8 t) (iblk m c 9 t) (iblk m c 10 t)
abbrev o13 (t : Fin cfg0.N) : Vec Ideal S256x4096 .f32 := out0_13 (grid0.coords t) (iblk m c 0 t) (iblk m c 1 t) (iblk m c 2 t) (iblk m c 3 t) (iblk m c 4 t)
  (iblk m c 5 t) (iblk m c 6 t) (iblk m c 7 t) (iblk m c 8 t) (iblk m c 9 t) (iblk m c 10 t)

theorem hcol_split (b : Fin 512) : b = hcol ⟨b.val / 128, by omega⟩ ⟨b.val % 128, by omega⟩ :=
  Fin.ext (by show b.val = 128 * (b.val / 128) + b.val % 128; omega)
theorem col_split (b : Fin 4096) : b = col ⟨b.val / 128, by omega⟩ ⟨b.val % 128, by omega⟩ :=
  Fin.ext (by show b.val = 128 * (b.val / 128) + b.val % 128; omega)

theorem point11 (t : Fin cfg0.N) (a : Fin 256) (b : Fin 512) : o11 m c t (ix2 a b) = resQ m c (ix2 (tr t.val (lt16 t) a) b) := by
  rw [hcol_split b]
  refine (out11_apply _ _ _ _ _ _ _ _ _ _ _ _ _ a _).trans ?_
  rw [q_at, q_at, cos_at, sin_at, rot_eq]
  rfl
theorem point12 (t : Fin cfg0.N) (a : Fin 256) (b : Fin 512) : o12 m c t (ix2 a b) = resK m c (ix2 (tr t.val (lt16 t) a) b) := by
  rw [hcol_split b]
  refine (out12_apply _ _ _ _ _ _ _ _ _ _ _ _ _ a _).trans ?_
  rw [k_at, k_at, cos_at, sin_at, rot_eq]
  rfl
theorem piece_eq (t : Fin cfg0.N) (k : Fin 32) (a : Fin 256) (e : Fin 128) :
    piece (grid0.coords t) (iblk m c 0 t) (iblk m c 1 t) (iblk m c 7 t) (iblk m c 8 t) k (ix2 a e)
      = conved (xM m c) (wM m c) (bR m c) (tr t.val (lt16 t) a) (col k e) := by
  have e3 := above_eq m c t k e (a.val + 8) (by omega) (by omega) ((tr t.val (lt16 t) a).val + 3) (by show 256 * t.val + a.val + 3 = _; omega)
  have e0 := above_eq m c t k e (a.val + 5) (by omega) (by omega) (tr t.val (lt16 t) a).val (by show 256 * t.val + a.val = _; omega)
  have e1 := above_eq m c t k e (a.val + 6) (by omega) (by omega) ((tr t.val (lt16 t) a).val + 1) (by show 256 * t.val + a.val + 1 = _; omega)
  have e2 := above_eq m c t k e (a.val + 7) (by omega) (by omega) ((tr t.val (lt16 t) a).val + 2) (by show 256 * t.val + a.val + 2 = _; omega)
  refine (piece_apply _ _ _ _ _ k a e).trans ?_
  rw [b_at, w_at, w_at, w_at, w_at]
  unfold conved conv
  rw [← e3, ← e0, ← e1, ← e2]
  rfl
theorem point13 (t : Fin cfg0.N) (a : Fin 256) (b : Fin 4096) : o13 m c t (ix2 a b) = resX m c (ix2 (tr t.val (lt16 t) a) b) := by
  rw [col_split b]
  exact (out13_apply _ _ _ _ _ _ _ _ _ _ _ _ _ a _).trans (piece_eq m c t _ a _)

theorem read11 (G : FVec Ideal S4096x512 .f32) (t : Fin cfg0.N) (r : Fin 256) (b : Fin 512) :
    (((cfg0.win 11).blk t).view.read (Elt Ideal) G : Vec Ideal S256x512 .f32) (ix2 r b) = G (ix2 (tr t.val (lt16 t) r) b) := by
  rw [View.read_apply]
  show G _ = _
  congr 1
  funext a
  apply Fin.ext
  match a with
  | ⟨0, _⟩ => show win0_11.index t 0 * 256 + 1 * r.val = 256 * t.val + r.val; rw [(idx11 t).1]; omega
  | ⟨1, _⟩ => show win0_11.index t 1 * 512 + 1 * b.val = b.val; rw [(idx11 t).2]; omega

theorem final11 : (dats m 0 c).arrAt 11 cfg0.N = resQ m c := by
  refine (dats m 0 c).arrAt_eq_of_cover 11 (resQ m c) (fun t hf => ?_) fun i => ?_
  · rw [Value.flushed11]
    refine (funext fun j => ?_ : o11 m c t = (((cfg0.win 11).blk t).view.read (Elt Ideal) (resQ m c) : Vec Ideal S256x512 .f32))
    idx_vars j
    rw [read11]
    exact point11 m c t j0 j1
  · have h0 : (i 0 : Nat) < 4096 := (i 0).isLt
    have h1 : (i 1 : Nat) < 512 := (i 1).isLt
    have hN : cfg0.N = 16 := N_0
    have ht : (i 0 : Nat) / 256 < cfg0.N := by omega
    refine ⟨⟨(i 0 : Nat) / 256, ht⟩, flush0_11 _, ?_⟩
    show i ∈ ((View.whole main_v17_0).slice (win0_11.rect ⟨(i 0 : Nat) / 256, ht⟩)).set
    rw [View.set_slice_whole, Rect.mem_set_unit]
    intro a
    match a with
    | ⟨0, _⟩ =>
      show win0_11.index ⟨(i 0 : Nat) / 256, ht⟩ 0 * 256 ≤ (i 0 : Nat) ∧ (i 0 : Nat) < win0_11.index ⟨(i 0 : Nat) / 256, ht⟩ 0 * 256 + 256
      rw [(idx11 _).1]; dsimp only; omega
    | ⟨1, _⟩ =>
      show win0_11.index ⟨(i 0 : Nat) / 256, ht⟩ 1 * 512 ≤ (i 1 : Nat) ∧ (i 1 : Nat) < win0_11.index ⟨(i 0 : Nat) / 256, ht⟩ 1 * 512 + 512
      rw [(idx11 _).2]; omega

theorem read12 (G : FVec Ideal S4096x512 .f32) (t : Fin cfg0.N) (r : Fin 256) (b : Fin 512) :
    (((cfg0.win 12).blk t).view.read (Elt Ideal) G : Vec Ideal S256x512 .f32) (ix2 r b) = G (ix2 (tr t.val (lt16 t) r) b) := by
  rw [View.read_apply]
  show G _ = _
  congr 1
  funext a
  apply Fin.ext
  match a with
  | ⟨0, _⟩ => show win0_12.index t 0 * 256 + 1 * r.val = 256 * t.val + r.val; rw [(idx12 t).1]; omega
  | ⟨1, _⟩ => show win0_12.index t 1 * 512 + 1 * b.val = b.val; rw [(idx12 t).2]; omega

theorem final12 : (dats m 0 c).arrAt 12 cfg0.N = resK m c := by
  refine (dats m 0 c).arrAt_eq_of_cover 12 (resK m c) (fun t hf => ?_) fun i => ?_
  · rw [Value.flushed12]
    refine (funext fun j => ?_ : o12 m c t = (((cfg0.win 12).blk t).view.read (Elt Ideal) (resK m c) : Vec Ideal S256x512 .f32))
    idx_vars j
    rw [read12]
    exact point12 m c t j0 j1
  · have h0 : (i 0 : Nat) < 4096 := (i 0).isLt
    have h1 : (i 1 : Nat) < 512 := (i 1).isLt
    have hN : cfg0.N = 16 := N_0
    have ht : (i 0 : Nat) / 256 < cfg0.N := by omega
    refine ⟨⟨(i 0 : Nat) / 256, ht⟩, flush0_12 _, ?_⟩
    show i ∈ ((View.whole main_v17_1).slice (win0_12.rect ⟨(i 0 : Nat) / 256, ht⟩)).set
    rw [View.set_slice_whole, Rect.mem_set_unit]
    intro a
    match a with
    | ⟨0, _⟩ =>
      show win0_12.index ⟨(i 0 : Nat) / 256, ht⟩ 0 * 256 ≤ (i 0 : Nat) ∧ (i 0 : Nat) < win0_12.index ⟨(i 0 : Nat) / 256, ht⟩ 0 * 256 + 256
      rw [(idx12 _).1]; dsimp only; omega
    | ⟨1, _⟩ =>
      show win0_12.index ⟨(i 0 : Nat) / 256, ht⟩ 1 * 512 ≤ (i 1 : Nat) ∧ (i 1 : Nat) < win0_12.index ⟨(i 0 : Nat) / 256, ht⟩ 1 * 512 + 512
      rw [(idx12 _).2]; omega

theorem read13 (G : FVec Ideal S4096x4096 .f32) (t : Fin cfg0.N) (r : Fin 256) (b : Fin 4096) :
    (((cfg0.win 13).blk t).view.read (Elt Ideal) G : Vec Ideal S256x4096 .f32) (ix2 r b) = G (ix2 (tr t.val (lt16 t) r) b) := by
  rw [View.read_apply]
  show G _ = _
  congr 1
  funext a
  apply Fin.ext
  match a with
  | ⟨0, _⟩ => show win0_13.index t 0 * 256 + 1 * r.val = 256 * t.val + r.val; rw [(idx13 t).1]; omega
  | ⟨1, _⟩ => show win0_13.index t 1 * 4096 + 1 * b.val = b.val; rw [(idx13 t).2]; omega

theorem final13 : (dats m 0 c).arrAt 13 cfg0.N = resX m c := by
  refine (dats m 0 c).arrAt_eq_of_cover 13 (resX m c) (fun t hf => ?_) fun i => ?_
  · rw [Value.flushed13]
    refine (funext fun j => ?_ : o13 m c t = (((cfg0.win 13).blk t).view.read (Elt Ideal) (resX m c) : Vec Ideal S256x4096 .f32))
    idx_vars j
    rw [read13]
    exact point13 m c t j0 j1
  · have h0 : (i 0 : Nat) < 4096 := (i 0).isLt
    have h1 : (i 1 : Nat) < 4096 := (i 1).isLt
    have hN : cfg0.N = 16 := N_0
    have ht : (i 0 : Nat) / 256 < cfg0.N := by omega
    refine ⟨⟨(i 0 : Nat) / 256, ht⟩, flush0_13 _, ?_⟩
    show i ∈ ((View.whole main_v17_2).slice (win0_13.rect ⟨(i 0 : Nat) / 256, ht⟩)).set
    rw [View.set_slice_whole, Rect.mem_set_unit]
    intro a
    match a with
    | ⟨0, _⟩ =>
      show win0_13.index ⟨(i 0 : Nat) / 256, ht⟩ 0 * 256 ≤ (i 0 : Nat) ∧ (i 0 : Nat) < win0_13.index ⟨(i 0 : Nat) / 256, ht⟩ 0 * 256 + 256
      rw [(idx13 _).1]; dsimp only; omega
    | ⟨1, _⟩ =>
      show win0_13.index ⟨(i 0 : Nat) / 256, ht⟩ 1 * 4096 ≤ (i 1 : Nat) ∧ (i 1 : Nat) < win0_13.index ⟨(i 0 : Nat) / 256, ht⟩ 1 * 4096 + 4096
      rw [(idx13 _).2]; omega

end Cert.KernelQfwdIdeal.Whole

namespace Cert.Proof.Qfwd

theorem frame_k : Cert.quiescent_KernelQfwd := fun m ρ _ => Cert.KernelQfwd.Gen.frame m ρ
theorem frame_ki : Cert.quiescent_KernelQfwdIdeal := fun m ρ _ => Cert.KernelQfwdIdeal.Gen.frame m ρ
theorem frame_ri : Cert.quiescent_ReferenceQfwdIdeal := fun m ρ _ =>
  (θ_run Cert.ReferenceQfwdIdeal.defs _ _).mono (fun r h => ⟨fun c => (h c).2.2.2, sem_eq_zero_of_no_sems (by decide) r.2⟩)
    (Cert.ReferenceQfwdIdeal.Value.run (F := Ideal) m ρ)

section Reference

open Cert.ReferenceQfwdIdeal Cert.Qfwd

variable (m : (ℓ : Loc nD τ sig) → Buf (Elt Ideal) ℓ) (c : Dev nD) (x : FVec Ideal S4096x4096 .f32) (w : FVec Ideal S4x4096 .f32)
  (b : FVec Ideal S4096 .f32)

/-- The reference's convolution, at an index. -/
theorem ref_x (hx : m (c.tc.loc main_arg0) = x) (hw : m (c.tc.loc main_arg4) = w) (hb : m (c.tc.loc main_arg5) = b) (r k : Fin 4096) :
    (Value.res_main_v66 m c : FVec Ideal S4096x4096 .f32) (ix2 r k)
      = conved (fun r k => x (ix2 r k)) (fun r k => w (ix2 r k)) (fun k => b (ix1 k)) r k := by
  unfold Value.res_main_v66
  rw [hx, hw, hb]
  clear hx hw hb
  have h3 : padded (fun r k => x (ix2 r k)) (r.val + 3) k = x (ix2 r k) := (padded_spell _ (r.val + 3) (by omega) k).symm.trans (dif_neg (by omega))
  unfold conved
  rw [← conv_order, h3, Nat.add_comm r.val 1, Nat.add_comm r.val 2, ← padded_spell _ r.val (by omega) k,
    ← padded_spell _ (1 + r.val) (by omega) k, ← padded_spell _ (2 + r.val) (by omega) k]
  pointwise
  rfl

end Reference

open Cert.KernelQfwdIdeal.Whole Cert.Qfwd in
/-- The kernel's results are the reference's, at every input. -/
theorem value : Cert.algebraic_KernelQfwdIdeal_ReferenceQfwdIdeal := by
  intro m g m' g' hp ha
  refine ⟨fun c => resQ m c, fun c => resK m c, fun c => resX m c,
    (θ_run _ _ _).mono (fun r h c => ?_) (Cert.KernelQfwdIdeal.Value.run_blocks m g),
    (θ_run _ _ _).mono (fun r h c => ?_) (Cert.ReferenceQfwdIdeal.Value.run m' g')⟩
  · obtain ⟨h3, h4, h5, _, hk⟩ := h c
    exact ⟨h3.trans (final11 m c), h4.trans (final12 m c), h5.trans (final13 m c), hk⟩
  · obtain ⟨h3, h4, h5, hk⟩ := h c
    obtain ⟨e0, e1, e2, e3, e4, e5, e6, e7, e8⟩ := ha c
    refine ⟨h3.trans ?_, h4.trans ?_, h5.trans ?_, hk⟩
    · rw [e1, e7, e8]
      clear h h3 h4 h5 e0 e1 e2 e3 e4 e5 e6 e7 e8 hk ha
      funext j
      idx_vars j
      pointwise
      exact rot_spell (fun k => m (c.tc.loc Cert.KernelQfwdIdeal.main_arg1) (ix2 j0 k)) (fun k => m (c.tc.loc Cert.KernelQfwdIdeal.main_arg7) (ix2 j0 k))
        (fun k => m (c.tc.loc Cert.KernelQfwdIdeal.main_arg8) (ix2 j0 k)) j1
    · rw [e2, e7, e8]
      clear h h3 h4 h5 e0 e1 e2 e3 e4 e5 e6 e7 e8 hk ha
      funext j
      idx_vars j
      pointwise
      exact congrArg (· * _) (rot_spell (fun k => m (c.tc.loc Cert.KernelQfwdIdeal.main_arg2) (ix2 j0 k)) (fun k => m (c.tc.loc Cert.KernelQfwdIdeal.main_arg7) (ix2 j0 k))
        (fun k => m (c.tc.loc Cert.KernelQfwdIdeal.main_arg8) (ix2 j0 k)) j1)
    · clear h h3 h4 h5 hk ha
      funext j
      idx_vars j
      exact ref_x m' c _ _ _ e0 e4 e5 _ _

end Cert.Proof.Qfwd
-- ==== Proof.ScanMath.lean ====
/-
  Sums of the first entries of a column, by doubling windows and by a sliding window; and the sums over four blocks of 64 of
  which all but one are zero.
-/
module

public import Mathlib.Data.EReal.Operations
public import Idealize.ShloMosaic.PureOps.Ideal
public import Idealize.ShloMosaic.Lib.Pointwise
public import Idealize.ShloMosaic.Lib.IdealHost

@[expose] public section

noncomputable section

namespace Cert.Scan

open Idealize.ShloMosaic

/-- The sum of the entries up to `l`, and of the last `s` of them. -/
def cumS (w : Fin 64 → EReal) (l : Fin 64) : EReal := ∑ m : Fin 64, if m.val ≤ l.val then w m else 0
def win (w : Fin 64 → EReal) (s : ℕ) (l : Fin 64) : EReal :=
  ∑ m : Fin 64, if m.val ≤ l.val ∧ l.val < m.val + s then w m else 0

theorem win_one (w : Fin 64 → EReal) (l : Fin 64) : win w 1 l = w l := by
  unfold win
  rw [Finset.sum_eq_single l]
  · rw [if_pos ⟨le_refl _, by omega⟩]
  · intro m _ hm
    rw [if_neg]
    intro h
    exact hm (Fin.ext (by omega))
  · intro h; exact absurd (Finset.mem_univ l) h

theorem win_double (w : Fin 64 → EReal) (s : ℕ) (l : Fin 64) :
    win w s l + (if h : s ≤ l.val then win w s ⟨l.val - s, by omega⟩ else 0) = win w (s + s) l := by
  unfold win
  by_cases h : s ≤ l.val
  · rw [dif_pos h, ← Finset.sum_add_distrib]
    refine Finset.sum_congr rfl fun m _ => ?_
    by_cases h1 : m.val ≤ l.val ∧ l.val < m.val + s
    · rw [if_pos h1, if_neg (by show ¬(m.val ≤ l.val - s ∧ l.val - s < m.val + s); omega), if_pos (by omega), add_zero]
    · rw [if_neg h1, zero_add]
      by_cases h2 : m.val ≤ l.val - s ∧ l.val - s < m.val + s
      · rw [if_pos h2, if_pos (by omega)]
      · rw [if_neg h2, if_neg (by omega)]
  · rw [dif_neg h, add_zero]
    refine Finset.sum_congr rfl fun m _ => ?_
    by_cases h1 : m.val ≤ l.val ∧ l.val < m.val + s
    · rw [if_pos h1, if_pos (by omega)]
    · rw [if_neg h1, if_neg (by omega)]

theorem win_full (w : Fin 64 → EReal) (l : Fin 64) : win w 64 l = cumS w l := by
  unfold win cumS
  refine Finset.sum_congr rfl fun m _ => ?_
  by_cases h : m.val ≤ l.val
  · rw [if_pos h, if_pos ⟨h, by omega⟩]
  · rw [if_neg h, if_neg (fun k => h k.1)]

/-- A left fold that adds a value at each entry of a list. -/
theorem foldl_add {ι : Type} (g : ι → EReal) : ∀ (L : List ι) (r : EReal), L.foldl (fun r n => r + g n) r = r + (L.map g).sum
  | [], r => by simp
  | n :: L, r => by rw [List.foldl_cons, foldl_add g L, List.map_cons, List.sum_cons, add_assoc]

/-- The window of 64 that ends at `l`. -/
theorem slide (w : Fin 64 → EReal) (l : Fin 64) :
    (∑ n : Fin 64, if h : 63 ≤ l.val + n.val ∧ l.val + n.val - 63 < 64 then w ⟨l.val + n.val - 63, h.2⟩ else 0) = cumS w l := by
  unfold cumS
  rw [← Finset.sum_filter_add_sum_filter_not Finset.univ (fun n : Fin 64 => 63 ≤ l.val + n.val),
    ← Finset.sum_filter_add_sum_filter_not Finset.univ (fun m : Fin 64 => m.val ≤ l.val) (fun m => if m.val ≤ l.val then w m else 0)]
  congr 1
  · refine Finset.sum_bij' (fun n hn => ⟨l.val + n.val - 63, by have := (Finset.mem_filter.mp hn).2; omega⟩)
      (fun m hm => ⟨m.val + 63 - l.val, by have := (Finset.mem_filter.mp hm).2; omega⟩) ?_ ?_ ?_ ?_ ?_
    · intro n hn
      have := (Finset.mem_filter.mp hn).2
      exact Finset.mem_filter.mpr ⟨Finset.mem_univ _, by show l.val + n.val - 63 ≤ l.val; omega⟩
    · intro m hm
      have := (Finset.mem_filter.mp hm).2
      exact Finset.mem_filter.mpr ⟨Finset.mem_univ _, by show 63 ≤ l.val + (m.val + 63 - l.val); omega⟩
    · intro n hn
      have := (Finset.mem_filter.mp hn).2
      exact Fin.ext (by show l.val + n.val - 63 + 63 - l.val = n.val; omega)
    · intro m hm
      have := (Finset.mem_filter.mp hm).2
      exact Fin.ext (by show l.val + (m.val + 63 - l.val) - 63 = m.val; omega)
    · intro n hn
      have := (Finset.mem_filter.mp hn).2
      rw [dif_pos ⟨this, by omega⟩, if_pos (by show l.val + n.val - 63 ≤ l.val; omega)]
  · rw [Finset.sum_eq_zero, Finset.sum_eq_zero]
    · intro m hm; rw [if_neg (Finset.mem_filter.mp hm).2]
    · intro n hn; rw [dif_neg (fun h => (Finset.mem_filter.mp hn).2 h.1)]

/-- A sum over four blocks of 64 that is zero outside of block `h`. -/
theorem sum_block (f : Fin 256 → EReal) (h : Fin 4) (h0 : ∀ k : Fin 256, k.val / 64 ≠ h.val → f k = 0) :
    (∑ k, f k) = ∑ m : Fin 64, f ⟨64 * h.val + m.val, by omega⟩ := by
  symm
  refine Finset.sum_of_injOn (fun m : Fin 64 => (⟨64 * h.val + m.val, by omega⟩ : Fin 256)) ?_ ?_ ?_ ?_
  · intro a _ b _ e
    exact Fin.ext (by have := congrArg Fin.val e; simp only at this; omega)
  · intro a _; exact Finset.mem_coe.mpr (Finset.mem_univ _)
  · intro k _ hk
    refine h0 k fun e => hk ?_
    exact ⟨⟨k.val - 64 * h.val, by omega⟩, Finset.mem_coe.mpr (Finset.mem_univ _), Fin.ext (by show 64 * h.val + (k.val - 64 * h.val) = k.val; omega)⟩
  · intro a _; rfl

/-- The head of a group's column. -/
def q4 (e : Fin 256) : Fin 4 := ⟨e.val / 64, by omega⟩

/-- A row of retention's result in one chunk: the decayed scores on the values, and the decayed queries on the state before. -/
def retY (q k : Fin 64 → Fin 128 → EReal) (v : Fin 64 → EReal) (mask : Fin 64 → Fin 64 → EReal) (qd : Fin 64 → Fin 128 → EReal)
    (s : Fin 128 → EReal) (l : Fin 64) : EReal :=
  (∑ m, (∑ n, q l n * k m n) * mask l m * v m) + ∑ n, q l n * qd l n * s n

/-- An entry of retention's state after one chunk. -/
def retS (k v kd : Fin 64 → EReal) (s d : EReal) : EReal := s * d + ∑ m, k m * kd m * v m

/-- A row of the state-space recurrence's result in one chunk, with the running sums `C` of its log decays. -/
def ssdY (c b : Fin 64 → Fin 128 → EReal) (C x dt : Fin 64 → EReal) (h : Fin 128 → EReal) (l : Fin 64) : EReal :=
  (∑ m, (∑ n, c l n * b m n) * Ideal.exp (-(FloatOps.absf (F := Ideal) (φ := .f32) (C l - C m))) * (x m * dt m))
    + (∑ n, c l n * h n) * Ideal.exp (C l)

/-- An entry of the state-space recurrence's state after one chunk. -/
def ssdH (b C x dt : Fin 64 → EReal) (h : EReal) : EReal :=
  h * Ideal.exp (C 63) + ∑ m, b m * (x m * dt m * Ideal.exp (C 63 - C m))

/-! The decays of retention's four heads. -/

def idxE (n : ℕ) : EReal := FloatOps.sitofp (F := Ideal) .f32 (BitVec.ofNat 32 n)
def lgE (h : ℕ) : EReal :=
  Ideal.log1p (-Ideal.pow (Ideal.ofBits .f32 1073741824#32) (Ideal.ofBits .f32 3231711232#32 - idxE h))
def maskE (h : ℕ) (l k : Fin 64) : EReal := Ideal.exp (lgE h * FloatOps.absf (F := Ideal) (φ := .f32) (idxE l.val - idxE k.val))
def qdE (h : ℕ) (l : Fin 64) : EReal := Ideal.exp (lgE h * (idxE l.val + 1))
def kdE (h : ℕ) (l : Fin 64) : EReal := Ideal.exp (lgE h * (Ideal.ofBits .f32 1115422720#32 - idxE l.val))
def cdE (h : ℕ) : EReal := Ideal.exp (lgE h * Ideal.ofBits .f32 1115684864#32)

/-! The columns of the heads and groups. -/

/-- The query columns of the head of a value column. -/
def qi (j : Fin 1024) (n : Fin 128) : Fin 512 := ⟨128 * (j.val / 256) + n.val, by omega⟩
def hd (j : Fin 1024) : Fin 4 := ⟨j.val / 256, by omega⟩
def ei (j : Fin 1024) : Fin 256 := ⟨j.val % 256, by omega⟩
/-- The value column of a state's row and column. -/
def vi (r : Fin 512) (e : Fin 256) : Fin 1024 := ⟨256 * (r.val / 128) + e.val, by omega⟩
def hh (j : Fin 2048) : Fin 32 := ⟨j.val / 64, by omega⟩
/-- The column of a group's vectors. -/
def gi (j : Fin 2048) (n : Fin 128) : Fin 1024 := ⟨128 * (j.val / 256) + n.val, by omega⟩

/-! The whole recurrences: the states at a chunk's entry, and the rows of a chunk. -/

def row (t : ℕ) (l : Fin 64) : Fin 4096 := ⟨(64 * t + l.val) % 4096, Nat.mod_lt _ (by omega)⟩

section Spec

variable (q k : Fin 4096 → Fin 512 → EReal) (v : Fin 4096 → Fin 1024 → EReal) (x : Fin 4096 → Fin 2048 → EReal)
  (b c : Fin 4096 → Fin 1024 → EReal) (dt : Fin 4096 → Fin 32 → EReal) (a : Fin 32 → EReal)

/-- Retention's state at the entry of chunk `t`. -/
def St : ℕ → Fin 512 → Fin 256 → EReal
  | 0 => fun _ _ => 0
  | t + 1 => fun r e => retS (fun m => k (row t m) r) (fun m => v (row t m) (vi r e)) (kdE (r.val / 128)) (St t r e) (cdE (r.val / 128))

/-- The running sums of a head's log decays in chunk `t`. -/
def Ct (t : ℕ) (j : Fin 2048) : Fin 64 → EReal := cumS fun m => dt (row t m) (hh j) * a (hh j)

/-- The state-space recurrence's state at the entry of chunk `t`. -/
def Ht : ℕ → Fin 128 → Fin 2048 → EReal
  | 0 => fun _ _ => 0
  | t + 1 => fun n j => ssdH (fun m => b (row t m) (gi j n)) (Ct dt a t j) (fun m => x (row t m) j) (fun m => dt (row t m) (hh j)) (Ht t n j)

/-- Row `l` of chunk `t` of retention's result. -/
def Yr (t : ℕ) (l : Fin 64) (j : Fin 1024) : EReal :=
  retY (fun l n => q (row t l) (qi j n)) (fun m n => k (row t m) (qi j n)) (fun m => v (row t m) j) (maskE (j.val / 256))
    (fun l _ => qdE (j.val / 256) l) (fun n => St k v t (qi j n) (ei j)) l

/-- Row `l` of chunk `t` of the state-space recurrence's result. -/
def Ys (t : ℕ) (l : Fin 64) (j : Fin 2048) : EReal :=
  ssdY (fun l n => c (row t l) (gi j n)) (fun m n => b (row t m) (gi j n)) (Ct dt a t j) (fun m => x (row t m) j)
    (fun m => dt (row t m) (hh j)) (fun n => Ht x b dt a t n j) l

end Spec

end Cert.Scan

end
-- ==== Proof.ScanBody.lean ====
/-
  The recurrence's kernel, one chunk: what it computes for a head and for a group of heads, at an index.
-/
module

public import proofs.«01_k».proof.Proof.ScanMath
public import proofs.«01_k».proof.Proof.Gen.KernelSfwdIdeal.Skeleton
public import Idealize.ShloMosaic.Lib.Pointwise

@[expose] public section

set_option maxRecDepth 16384

noncomputable section

open Idealize.ShloMosaic Idealize.ShloMosaic.TcCoe Idealize.SL.Sem

namespace Cert.KernelSfwdIdeal.Body

open Cert.KernelSfwdIdeal Cert.KernelSfwdIdeal.Gen Cert.Scan

section Head

variable (q k : FVec Ideal S64x128 .f32) (v : FVec Ideal S64x256 .f32) (s d : FVec Ideal S128x256 .f32) (mask : FVec Ideal S64x64 .f32)
  (qd kd : FVec Ideal S64x128 .f32)

theorem retY_apply (l : Fin 64) (e : Fin 256) : k0_pay33 q k v s mask qd (ix2 l e)
    = (∑ m : Fin 64, (∑ n : Fin 128, q (ix2 l n) * k (ix2 m n)) * mask (ix2 l m) * v (ix2 m e))
      + ∑ n : Fin 128, q (ix2 l n) * qd (ix2 l n) * s (ix2 n e) := by
  pointwise [k0_pay33]

theorem retS_apply (n : Fin 128) (e : Fin 256) : k0_pay34 k v s kd d (ix2 n e)
    = s (ix2 n e) * d (ix2 n e) + ∑ m : Fin 64, k (ix2 m n) * kd (ix2 m n) * v (ix2 m e) := by
  pointwise [k0_pay34]

end Head

section Group

variable (eye xs dt : FVec Ideal S64x256 .f32) (blk : FVec Ideal S256x256 .f32) (ax : FVec Ideal S1x256 .f32) (b c : FVec Ideal S64x128 .f32)
  (h : FVec Ideal S128x256 .f32)

/-- One doubling of the windows' length. -/
abbrev roll (s : BitVec 32) (v : FVec Ideal S64x256 .f32) : FVec Ideal S64x256 .f32 :=
  addf v (select (cmpi .sge (iota .tc S64x256 32 [0] iota_S64x256_d0_w32) (broadcast S64x256 s))
    (dynamicRotate 0 s none v rotates_S64x256_d0) (broadcast S64x256 (Scalar.ofBits .f32 0x00000000#32)))

/-- The entry `s` rows above, where there is one. -/
theorem roll_apply (s : BitVec 32) (n : ℕ) (hn : n ≤ 64) (hs : ∀ l : Fin 64, IntOp.cmpi .sge (BitVec.ofNat 32 l.val) s = if n ≤ l.val then 1#1 else 0#1)
    (hsn : s.toNat % 64 = n % 64) (h64 : n < 64) (v : FVec Ideal S64x256 .f32) (l : Fin 64) (j : Fin 256) : roll s v (ix2 l j)
    = v (ix2 l j) + (if h : n ≤ l.val then v (ix2 ⟨l.val - n, by omega⟩ j) else 0) := by
  pointwise [hs]
  by_cases h : n ≤ l.val
  · rw [if_pos h, dif_pos h]
    refine congrArg (v (ix2 l j) + ·) (Eq.trans ?_ (congrArg (fun i => v (ix2 i j)) (Fin.ext ?_ : (⟨(l.val + 64 - s.toNat % 64) % 64, Nat.mod_lt _ (by omega)⟩ : Fin 64) = _)))
    · rfl
    · show (l.val + 64 - s.toNat % 64) % 64 = l.val - n
      omega
  · rw [if_neg h, dif_neg h]
    rfl

/-- The running sums of a group. -/
def gCum : FVec Ideal S64x256 .f32 :=
  k0_pay44 (k0_pay41 dt ax) k0_pay42 (k0_pay43 dt ax) (Scalar.ofBits .f32 0x00000000#32)
def gY : FVec Ideal S64x256 .f32 :=
  k0_pay46 eye blk xs dt b c h (k0_pay41 dt ax) k0_pay42 (k0_pay43 dt ax) (Scalar.ofBits .f32 0x00000000#32)
def gH : FVec Ideal S128x256 .f32 :=
  k0_pay47 xs dt b h (k0_pay41 dt ax) k0_pay42 (k0_pay43 dt ax) (Scalar.ofBits .f32 0x00000000#32)

theorem gCum_eq : gCum dt ax = roll 32#32 (roll 16#32 (roll 8#32 (roll 4#32 (roll 2#32 (roll 1#32
    (mulf dt (broadcastTo S64x256 (shapeCast S1x256 ax shapeCasts_S1x256_S1x256) broadcasts_S1x256_S64x256)))))) ) := rfl

theorem gCum_apply (l : Fin 64) (j : Fin 256) : gCum dt ax (ix2 l j) = cumS (fun m => dt (ix2 m j) * ax (ix2 0 j)) l := by
  have h0 : ∀ m : Fin 64, mulf dt (broadcastTo S64x256 (shapeCast S1x256 ax shapeCasts_S1x256_S1x256) broadcasts_S1x256_S64x256) (ix2 m j)
      = win (fun m => dt (ix2 m j) * ax (ix2 0 j)) 1 m := by
    intro m; rw [win_one]; pointwise []
  have up : ∀ (s : BitVec 32) (n : ℕ) (hs : ∀ l : Fin 64, IntOp.cmpi .sge (BitVec.ofNat 32 l.val) s = if n ≤ l.val then 1#1 else 0#1)
      (hsn : s.toNat % 64 = n % 64) (h64 : n < 64) (v : FVec Ideal S64x256 .f32) (w : Fin 64 → EReal)
      (hv : ∀ m : Fin 64, v (ix2 m j) = win w n m) (m : Fin 64), roll s v (ix2 m j) = win w (n + n) m := by
    intro s n hs hsn h64 v w hv m
    rw [roll_apply s n (by omega) hs hsn h64, ← win_double, hv]
    refine congrArg (win w n m + ·) ?_
    by_cases h : n ≤ m.val
    · rw [dif_pos h, dif_pos h, hv]
    · rw [dif_neg h, dif_neg h]
  rw [gCum_eq, ← win_full]
  refine up 32#32 32 (by decide) rfl (by omega) _ _ (up 16#32 16 (by decide) rfl (by omega) _ _ (up 8#32 8 (by decide) rfl (by omega) _ _
    (up 4#32 4 (by decide) rfl (by omega) _ _ (up 2#32 2 (by decide) rfl (by omega) _ _ (up 1#32 1 (by decide) rfl (by omega) _ _ h0))))) l

/-- A column laid four times below itself. -/
theorem tile (f : Fin 64 → EReal) (x : Fin 256) :
    (if h : x.val < 64 then f ⟨x.val, h⟩
      else if h : x.val - 64 < 64 then f ⟨x.val - 64, h⟩
      else if h : x.val - 64 - 64 < 64 then f ⟨x.val - 64 - 64, h⟩
      else f ⟨x.val - 64 - 64 - 64, by omega⟩) = f ⟨x.val % 64, Nat.mod_lt _ (by omega)⟩ := by
  split_ifs <;> exact congrArg f (Fin.ext (by simp only; omega))

theorem pay46_apply (u w : FVec Ideal S64x256 .f32) (m : IVec S64x256 1) (z : Ideal .f32) (C : FVec Ideal S64x256 .f32)
    (hC : k0_pay44 u m w z = C) (l : Fin 64) (j : Fin 256) :
    k0_pay46 eye blk xs dt b c h u m w z (ix2 l j)
    = (∑ x : Fin 256, (∑ n : Fin 128, c (ix2 l n) * b (ix2 ⟨x.val % 64, Nat.mod_lt _ (by omega)⟩ n))
        * Ideal.exp (0 - FloatOps.absf (F := Ideal) (φ := .f32) (C (ix2 l x) - ∑ i : Fin 64, if Ideal.ofBits .f32 0x3F000000#32 < eye (ix2 i x) then C (ix2 i x) else 0))
        * (xs (ix2 ⟨x.val % 64, Nat.mod_lt _ (by omega)⟩ j) * dt (ix2 ⟨x.val % 64, Nat.mod_lt _ (by omega)⟩ j) * blk (ix2 x j)))
      + (∑ n : Fin 128, c (ix2 l n) * h (ix2 n j)) * Ideal.exp (C (ix2 l j)) := by
  pointwise [k0_pay46, k0_pay45, hC]
  refine congrArg (· + _) (Finset.sum_congr rfl fun x _ => congrArg₂ (· * ·) (congrArg (· * _) (Finset.sum_congr rfl fun n _ => congrArg (_ * ·) ?_))
    (congrArg (· * _) ?_))
  · exact tile (fun m => b (ix2 m n)) x
  · exact tile (fun m => xs (ix2 m j) * dt (ix2 m j)) x

theorem pay47_apply (u w : FVec Ideal S64x256 .f32) (m : IVec S64x256 1) (z : Ideal .f32) (C : FVec Ideal S64x256 .f32)
    (hC : k0_pay44 u m w z = C) (n : Fin 128) (j : Fin 256) :
    k0_pay47 xs dt b h u m w z (ix2 n j) = h (ix2 n j) * Ideal.exp (C (ix2 63 j))
      + ∑ m : Fin 64, b (ix2 m n) * (xs (ix2 m j) * dt (ix2 m j) * Ideal.exp (C (ix2 63 j) - C (ix2 m j))) := by
  pointwise [k0_pay47, k0_pay45, hC]

variable (D : Fin 64 → Fin 4 → EReal) (A : Fin 4 → EReal)
  (heye : ∀ (i : Fin 64) (x : Fin 256), eye (ix2 i x) = if i.val = x.val % 64 then 1 else 0)
  (hblk : ∀ x j : Fin 256, blk (ix2 x j) = if x.val / 64 = j.val / 64 then 1 else 0)
  (hdt : ∀ (m : Fin 64) (e : Fin 256), dt (ix2 m e) = D m (q4 e))
  (hax : ∀ e : Fin 256, ax (ix2 0 e) = A (q4 e))

include hdt hax in
theorem gCum_head (l : Fin 64) (j : Fin 256) :
    gCum dt ax (ix2 l j) = cumS (fun m => D m (q4 j) * A (q4 j)) l := by
  rw [gCum_apply, hax]
  simp only [hdt]

theorem half_lt_one : Ideal.ofBits .f32 0x3F000000#32 < (1 : EReal) := by
  have : Ideal.ofBits .f32 0x3F000000#32 = ((1 / 2 : ℝ) : EReal) := by
    simp [Ideal.ofBits, Ideal.ieee, -EReal.coe_mul]; norm_num
  rw [this, ← EReal.coe_one, EReal.coe_lt_coe_iff]; norm_num
theorem half_not_lt_zero : ¬ Ideal.ofBits .f32 0x3F000000#32 < (0 : EReal) := by
  have : Ideal.ofBits .f32 0x3F000000#32 = ((1 / 2 : ℝ) : EReal) := by
    simp [Ideal.ofBits, Ideal.ieee, -EReal.coe_mul]; norm_num
  rw [this, ← EReal.coe_zero, EReal.coe_lt_coe_iff]; norm_num

include heye in
/-- The column sum under the repeated identity picks one row. -/
theorem pick (C : FVec Ideal S64x256 .f32) (x : Fin 256) :
    (∑ i : Fin 64, if Ideal.ofBits .f32 0x3F000000#32 < eye (ix2 i x) then C (ix2 i x) else 0)
    = C (ix2 ⟨x.val % 64, Nat.mod_lt _ (by omega)⟩ x) := by
  rw [Finset.sum_eq_single (⟨x.val % 64, Nat.mod_lt _ (by omega)⟩ : Fin 64)]
  · rw [heye, if_pos rfl, if_pos half_lt_one]
  · intro i _ hi
    rw [heye, if_neg (fun e => hi (Fin.ext e)), if_neg half_not_lt_zero]
  · intro h; exact absurd (Finset.mem_univ _) h

include heye hblk hdt hax in
/-- A group's result at an index. -/
theorem gY_apply (l : Fin 64) (j : Fin 256) : gY eye xs dt blk ax b c h (ix2 l j)
    = ssdY (fun l n => c (ix2 l n)) (fun m n => b (ix2 m n)) (cumS (fun m => D m (q4 j) * A (q4 j)))
        (fun m => xs (ix2 m j)) (fun m => D m (q4 j)) (fun n => h (ix2 n j)) l := by
  have e := gCum_head dt ax D A hdt hax
  refine (pay46_apply eye xs dt blk b c h _ _ _ _ _ (rfl : _ = gCum dt ax) l j).trans ?_
  unfold ssdY
  simp only [pick eye heye (gCum dt ax)]
  simp only [hblk, hdt, e]
  refine congrArg (· + _) ((sum_block _ (q4 j) ?_).trans (Finset.sum_congr rfl fun m _ => ?_))
  · intro k hk
    rw [if_neg (show ¬ k.val / 64 = j.val / 64 from hk), mul_zero, mul_zero]
  · have h1 : (64 * (q4 j).val + m.val) / 64 = j.val / 64 := by show (64 * (j.val / 64) + m.val) / 64 = j.val / 64; omega
    have h2 : (64 * (q4 j).val + m.val) % 64 = m.val := by omega
    have h3 : ∀ hk, q4 (⟨64 * (q4 j).val + m.val, hk⟩ : Fin 256) = q4 j := fun _ => Fin.ext h1
    simp only [h1, h2, h3, if_true, mul_one, zero_sub]

include hdt hax in
/-- A group's state afterwards at an index. -/
theorem gH_apply (n : Fin 128) (j : Fin 256) : gH xs dt ax b h (ix2 n j)
    = ssdH (fun m => b (ix2 m n)) (cumS (fun m => D m (q4 j) * A (q4 j)))
        (fun m => xs (ix2 m j)) (fun m => D m (q4 j)) (h (ix2 n j)) := by
  have e := gCum_head dt ax D A hdt hax
  refine (pay47_apply xs dt b h _ _ _ _ _ (rfl : _ = gCum dt ax) n j).trans ?_
  unfold ssdH
  simp only [hdt, e]

end Group

end Cert.KernelSfwdIdeal.Body
end
-- ==== Proof.ScanKer.lean ====
/-
  The recurrence's kernel, one grid point.
-/
module

public import proofs.«01_k».proof.Defs
public import proofs.«01_k».proof.Proof.ScanBody
public import proofs.«01_k».proof.Proof.Gen.KernelSfwdIdeal.Frame
public import Idealize.ShloMosaic.Lib.Pointwise
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem

namespace Cert.KernelSfwdIdeal.Body

open Cert.KernelSfwdIdeal Cert.KernelSfwdIdeal.Gen Cert.Scan

section Pieces

def xi (j : Fin 2048) : Fin 4096 := ⟨j.val, by omega⟩
def bi (j : Fin 2048) (n : Fin 128) : Fin 4096 := ⟨2048 + 128 * (j.val / 256) + n.val, by omega⟩
def ci (j : Fin 2048) (n : Fin 128) : Fin 4096 := ⟨3072 + 128 * (j.val / 256) + n.val, by omega⟩

variable (x0 x1 : Vec Ideal S64x512 .f32) (x2 : Vec Ideal S64x1024 .f32) (x3 : Vec Ideal S64x4096 .f32) (x4 : Vec Ideal S64x2048 .f32)
  (x5 : Vec Ideal S1x2048 .f32) (x6 : Vec Ideal S4x64x64 .f32) (x7 x8 : Vec Ideal S64x512 .f32) (x9 : Vec Ideal S512x256 .f32)
  (x10 : Vec Ideal S64x256 .f32) (x11 : Vec Ideal S256x256 .f32) (s : Vec Ideal S512x256 .f32) (u : Vec Ideal S128x2048 .f32)
  (D : Fin 64 → Fin 32 → EReal) (A : Fin 32 → EReal)

/-- What one grid point writes: retention's rows, retention's state, the recurrence's rows and its state. -/
def bYR (l : Fin 64) (j : Fin 1024) : EReal :=
  retY (fun l n => x0 (ix2 l (qi j n))) (fun m n => x1 (ix2 m (qi j n))) (fun m => x2 (ix2 m j)) (fun l m => x6 (ix3 (hd j) l m))
    (fun l n => x7 (ix2 l (qi j n))) (fun n => s (ix2 (qi j n) (ei j))) l
def bSR (r : Fin 512) (e : Fin 256) : EReal :=
  retS (fun m => x1 (ix2 m r)) (fun m => x2 (ix2 m (vi r e))) (fun m => x8 (ix2 m r)) (s (ix2 r e)) (x9 (ix2 r e))
def bYS (l : Fin 64) (j : Fin 2048) : EReal :=
  ssdY (fun l n => x3 (ix2 l (ci j n))) (fun m n => x3 (ix2 m (bi j n))) (cumS fun m => D m (hh j) * A (hh j))
    (fun m => x3 (ix2 m (xi j))) (fun m => D m (hh j)) (fun n => u (ix2 n j)) l
def bHS (n : Fin 128) (j : Fin 2048) : EReal :=
  ssdH (fun m => x3 (ix2 m (bi j n))) (cumS fun m => D m (hh j) * A (hh j)) (fun m => x3 (ix2 m (xi j))) (fun m => D m (hh j)) (u (ix2 n j))

def gYR : Vec Ideal S64x1024 .f32 := fun y => bYR x0 x1 x2 x6 x7 s (y 0) (y 1)
def gSR : Vec Ideal S512x256 .f32 := fun y => bSR x1 x2 x8 x9 s (y 0) (y 1)
def gYS : Vec Ideal S64x2048 .f32 := fun y => bYS x3 u D A (y 0) (y 1)
def gHS : Vec Ideal S128x2048 .f32 := fun y => bHS x3 u D A (y 0) (y 1)

theorem ld2 {A B a b : ℕ} (X : Vec Ideal ⟨2, ![A, B]⟩ .f32) (o p : ℕ) (inb : ∀ d, (![o, p] : Fin 2 → ℕ) d + (![a, b] : Fin 2 → ℕ) d ≤ (![A, B] : Fin 2 → ℕ) d)
    (i : Fin a) (j : Fin b) (i' : Fin A) (j' : Fin B) (hi : i'.val = o + i.val) (hj : j'.val = p + j.val) :
    View.ld X (Rect.unit (s := ⟨2, ![A, B]⟩) ![o, p] ![a, b] inb) (ix2 i j) = X (ix2 i' j') := by
  rw [View.ld_unit]
  refine congrArg X (funext fun d => Fin.ext ?_)
  match d with
  | 0 => exact hi.symm
  | 1 => exact hj.symm

theorem pay29_eq (v : Vec Ideal S64x256 .f32) : k0_pay29 v = v := by funext j; idx_vars j; pointwise [k0_pay29]
theorem pay31_eq (v : Vec Ideal S64x128 .f32) : k0_pay31 v = v := by funext j; idx_vars j; pointwise [k0_pay31]
theorem pay32_eq (v : Vec Ideal S64x128 .f32) : k0_pay32 v = v := by funext j; idx_vars j; pointwise [k0_pay32]

/-- A head's value column, and its state row. -/
def vj (h : Fin 4) (e : Fin 256) : Fin 1024 := ⟨256 * h.val + e.val, by omega⟩
def sr (h : Fin 4) (n : Fin 128) : Fin 512 := ⟨128 * h.val + n.val, by omega⟩

variable (h : Fin 4) (g : Fin 8)

theorem qi_eq (n : Fin 128) (e : Fin 256) (j : Fin 1024) (hj : j.val = 256 * h.val + e.val) : (qi j n).val = 128 * h.val + n.val := by
  show 128 * (j.val / 256) + n.val = _
  omega

theorem head_y (i1 i2 i3 i4 i5 i6) (w : S64x256.Idx) :
    k0_pay33 (F := Ideal) (View.ld x0 (Rect.unit (s := S64x512) ![0, 128 * h.val] ![64, 128] i1)) (View.ld x1 (Rect.unit (s := S64x512) ![0, 128 * h.val] ![64, 128] i2))
      (k0_pay29 (View.ld x2 (Rect.unit (s := S64x1024) ![0, 256 * h.val] ![64, 256] i3))) (View.ld s (Rect.unit (s := S512x256) ![128 * h.val, 0] ![128, 256] i4))
      (k0_pay30 (View.ld x6 (Rect.unit (s := S4x64x64) ![h.val, 0, 0] ![1, 64, 64] i5))) (k0_pay31 (View.ld x7 (Rect.unit (s := S64x512) ![0, 128 * h.val] ![64, 128] i6))) w
    = gYR x0 x1 x2 x6 x7 s ((Rect.unit (s := S64x1024) ![0, 256 * h.val] ![64, 256] i3).emb w) := by
  idx_vars w
  refine (retY_apply _ _ _ _ _ _ w0 w1).trans ?_
  have hl : (((Rect.unit (s := S64x1024) ![0, 256 * h.val] ![64, 256] i3).emb (ix2 w0 w1)) 0 : Fin 64) = w0 := Fin.ext (by show 0 + 1 * w0.val = w0.val; omega)
  have hj : (((Rect.unit (s := S64x1024) ![0, 256 * h.val] ![64, 256] i3).emb (ix2 w0 w1)) 1 : Fin 1024) = vj h w1 :=
    Fin.ext (by show 256 * h.val + 1 * w1.val = 256 * h.val + w1.val; omega)
  show _ = bYR x0 x1 x2 x6 x7 s (((Rect.unit (s := S64x1024) ![0, 256 * h.val] ![64, 256] i3).emb (ix2 w0 w1)) 0) (((Rect.unit (s := S64x1024) ![0, 256 * h.val] ![64, 256] i3).emb (ix2 w0 w1)) 1)
  rw [hl, hj]
  have hq := fun n => qi_eq h n w1 (vj h w1) rfl
  unfold bYR retY
  refine congrArg₂ (· + ·) (Finset.sum_congr rfl fun m _ => congrArg₂ (· * ·) (congrArg₂ (· * ·) (Finset.sum_congr rfl fun n _ => congrArg₂ (· * ·) ?_ ?_) ?_) ?_)
    (Finset.sum_congr rfl fun n _ => congrArg₂ (· * ·) (congrArg₂ (· * ·) ?_ ?_) ?_)
  · exact ld2 x0 _ _ _ _ _ _ _ (Nat.zero_add _).symm (hq n)
  · exact ld2 x1 _ _ _ _ _ _ _ (Nat.zero_add _).symm (hq n)
  · unfold k0_pay30
    rw [View.ld_unit]
    pointwise []
    exact congrArg (fun k => x6 (ix3 k w0 m)) (Fin.ext (by show h.val = (256 * h.val + w1.val) / 256; omega))
  · rw [pay29_eq]
    exact ld2 x2 _ _ _ _ _ _ _ (Nat.zero_add _).symm rfl
  · exact ld2 x0 _ _ _ _ _ _ _ (Nat.zero_add _).symm (hq n)
  · rw [pay31_eq]
    exact ld2 x7 _ _ _ _ _ _ _ (Nat.zero_add _).symm (hq n)
  · exact ld2 s _ _ _ _ _ _ _ (hq n) (by show (256 * h.val + w1.val) % 256 = 0 + w1.val; omega)

theorem head_s (i1 i2 i3 i4 i5) (w : S128x256.Idx) :
    k0_pay34 (F := Ideal) (View.ld x1 (Rect.unit (s := S64x512) ![0, 128 * h.val] ![64, 128] i1)) (k0_pay29 (View.ld x2 (Rect.unit (s := S64x1024) ![0, 256 * h.val] ![64, 256] i2)))
      (View.ld s (Rect.unit (s := S512x256) ![128 * h.val, 0] ![128, 256] i3)) (k0_pay32 (View.ld x8 (Rect.unit (s := S64x512) ![0, 128 * h.val] ![64, 128] i4)))
      (View.ld x9 (Rect.unit (s := S512x256) ![128 * h.val, 0] ![128, 256] i5)) w
    = gSR x1 x2 x8 x9 s ((Rect.unit (s := S512x256) ![128 * h.val, 0] ![128, 256] i3).emb w) := by
  idx_vars w
  refine (retS_apply _ _ _ _ _ w0 w1).trans ?_
  have hl : (((Rect.unit (s := S512x256) ![128 * h.val, 0] ![128, 256] i3).emb (ix2 w0 w1)) 0 : Fin 512) = sr h w0 :=
    Fin.ext (by show 128 * h.val + 1 * w0.val = 128 * h.val + w0.val; omega)
  have hj : (((Rect.unit (s := S512x256) ![128 * h.val, 0] ![128, 256] i3).emb (ix2 w0 w1)) 1 : Fin 256) = w1 :=
    Fin.ext (by show 0 + 1 * w1.val = w1.val; omega)
  show _ = bSR x1 x2 x8 x9 s (((Rect.unit (s := S512x256) ![128 * h.val, 0] ![128, 256] i3).emb (ix2 w0 w1)) 0) (((Rect.unit (s := S512x256) ![128 * h.val, 0] ![128, 256] i3).emb (ix2 w0 w1)) 1)
  rw [hl, hj]
  unfold bSR retS
  refine congrArg₂ (· + ·) (congrArg₂ (· * ·) ?_ ?_) (Finset.sum_congr rfl fun m _ => congrArg₂ (· * ·) (congrArg₂ (· * ·) ?_ ?_) ?_)
  · exact ld2 s _ _ _ _ _ _ _ rfl (Nat.zero_add _).symm
  · exact ld2 x9 _ _ _ _ _ _ _ rfl (Nat.zero_add _).symm
  · exact ld2 x1 _ _ _ _ _ _ _ (Nat.zero_add _).symm rfl
  · rw [pay32_eq]
    exact ld2 x8 _ _ _ _ _ _ _ (Nat.zero_add _).symm rfl
  · rw [pay29_eq]
    refine ld2 x2 _ _ _ _ _ _ _ (Nat.zero_add _).symm ?_
    show 256 * ((128 * h.val + w0.val) / 128) + w1.val = 256 * h.val + w1.val
    omega

/-- The column of a group's column. -/
def gj (g : Fin 8) (e : Fin 256) : Fin 2048 := ⟨256 * g.val + e.val, by omega⟩
def gh (g : Fin 8) (k : Fin 4) : Fin 32 := ⟨4 * g.val + k.val, by omega⟩
theorem hh_gj (e : Fin 256) : hh (gj g e) = gh g (q4 e) :=
  Fin.ext (by show (256 * g.val + e.val) / 64 = 4 * g.val + e.val / 64; omega)

variable (heye : ∀ (i : Fin 64) (x : Fin 256), x10 (ix2 i x) = if i.val = x.val % 64 then 1 else 0)
  (hblk : ∀ x j : Fin 256, x11 (ix2 x j) = if x.val / 64 = j.val / 64 then 1 else 0)
  (hdt : ∀ (m : Fin 64) (e : Fin 2048), x4 (ix2 m e) = D m (hh e)) (hax : ∀ e : Fin 2048, x5 (ix2 0 e) = A (hh e))

include heye hblk hdt hax in
theorem group_y (i1 i2 i3 i4 i5 i6) (w : S64x256.Idx) :
    gY x10 (View.ld x3 (Rect.unit (s := S64x4096) ![0, 256 * g.val] ![64, 256] i1)) (View.ld x4 (Rect.unit (s := S64x2048) ![0, 256 * g.val] ![64, 256] i2)) x11
      (View.ld x5 (Rect.unit (s := S1x2048) ![0, 256 * g.val] ![1, 256] i3)) (View.ld x3 (Rect.unit (s := S64x4096) ![0, 2048 + 128 * g.val] ![64, 128] i4))
      (View.ld x3 (Rect.unit (s := S64x4096) ![0, 3072 + 128 * g.val] ![64, 128] i5)) (View.ld u (Rect.unit (s := S128x2048) ![0, 256 * g.val] ![128, 256] i6)) w
    = gYS x3 u D A ((Rect.unit (s := S64x2048) ![0, 256 * g.val] ![64, 256] i2).emb w) := by
  idx_vars w
  refine (gY_apply _ _ _ _ _ _ _ _ (fun m k => D m (gh g k)) (fun k => A (gh g k)) heye hblk ?_ ?_ w0 w1).trans ?_
  · intro m e
    exact (ld2 x4 _ _ _ m e m (gj g e) (Nat.zero_add _).symm rfl).trans ((hdt _ _).trans (congrArg (D m) (hh_gj g e)))
  · intro e
    exact (ld2 x5 _ _ _ 0 e 0 (gj g e) rfl rfl).trans ((hax _).trans (congrArg A (hh_gj g e)))
  have hl : (((Rect.unit (s := S64x2048) ![0, 256 * g.val] ![64, 256] i2).emb (ix2 w0 w1)) 0 : Fin 64) = w0 := Fin.ext (by show 0 + 1 * w0.val = w0.val; omega)
  have hj : (((Rect.unit (s := S64x2048) ![0, 256 * g.val] ![64, 256] i2).emb (ix2 w0 w1)) 1 : Fin 2048) = gj g w1 :=
    Fin.ext (by show 256 * g.val + 1 * w1.val = 256 * g.val + w1.val; omega)
  show _ = bYS x3 u D A (((Rect.unit (s := S64x2048) ![0, 256 * g.val] ![64, 256] i2).emb (ix2 w0 w1)) 0) (((Rect.unit (s := S64x2048) ![0, 256 * g.val] ![64, 256] i2).emb (ix2 w0 w1)) 1)
  rw [hl, hj]
  unfold bYS
  rw [hh_gj]
  congr 1
  · exact funext fun l => funext fun n => ld2 x3 _ _ _ _ _ _ _ (Nat.zero_add _).symm (by show 3072 + 128 * ((256 * g.val + w1.val) / 256) + n.val = _; omega)
  · exact funext fun l => funext fun n => ld2 x3 _ _ _ _ _ _ _ (Nat.zero_add _).symm (by show 2048 + 128 * ((256 * g.val + w1.val) / 256) + n.val = _; omega)
  · exact funext fun m => ld2 x3 _ _ _ _ _ _ _ (Nat.zero_add _).symm rfl
  · exact funext fun n => ld2 u _ _ _ _ _ _ _ (Nat.zero_add _).symm rfl

include hdt hax in
theorem group_h (i1 i2 i3 i4 i6) (w : S128x256.Idx) :
    gH (View.ld x3 (Rect.unit (s := S64x4096) ![0, 256 * g.val] ![64, 256] i1)) (View.ld x4 (Rect.unit (s := S64x2048) ![0, 256 * g.val] ![64, 256] i2))
      (View.ld x5 (Rect.unit (s := S1x2048) ![0, 256 * g.val] ![1, 256] i3)) (View.ld x3 (Rect.unit (s := S64x4096) ![0, 2048 + 128 * g.val] ![64, 128] i4))
      (View.ld u (Rect.unit (s := S128x2048) ![0, 256 * g.val] ![128, 256] i6)) w
    = gHS x3 u D A ((Rect.unit (s := S128x2048) ![0, 256 * g.val] ![128, 256] i6).emb w) := by
  idx_vars w
  refine (gH_apply _ _ _ _ _ (fun m k => D m (gh g k)) (fun k => A (gh g k)) ?_ ?_ w0 w1).trans ?_
  · intro m e
    exact (ld2 x4 _ _ _ m e m (gj g e) (Nat.zero_add _).symm rfl).trans ((hdt _ _).trans (congrArg (D m) (hh_gj g e)))
  · intro e
    exact (ld2 x5 _ _ _ 0 e 0 (gj g e) rfl rfl).trans ((hax _).trans (congrArg A (hh_gj g e)))
  have hl : (((Rect.unit (s := S128x2048) ![0, 256 * g.val] ![128, 256] i6).emb (ix2 w0 w1)) 0 : Fin 128) = w0 := Fin.ext (by show 0 + 1 * w0.val = w0.val; omega)
  have hj : (((Rect.unit (s := S128x2048) ![0, 256 * g.val] ![128, 256] i6).emb (ix2 w0 w1)) 1 : Fin 2048) = gj g w1 :=
    Fin.ext (by show 256 * g.val + 1 * w1.val = 256 * g.val + w1.val; omega)
  show _ = bHS x3 u D A (((Rect.unit (s := S128x2048) ![0, 256 * g.val] ![128, 256] i6).emb (ix2 w0 w1)) 0) (((Rect.unit (s := S128x2048) ![0, 256 * g.val] ![128, 256] i6).emb (ix2 w0 w1)) 1)
  rw [hl, hj]
  unfold bHS
  rw [hh_gj]
  congr 1
  · exact funext fun l => ld2 x3 _ _ _ _ _ _ _ (Nat.zero_add _).symm (by show 2048 + 128 * ((256 * g.val + w1.val) / 256) + w0.val = _; omega)
  · exact funext fun m => ld2 x3 _ _ _ _ _ _ _ (Nat.zero_add _).symm rfl
  · exact ld2 u _ _ _ _ _ _ _ (Nat.zero_add _).symm rfl

end Pieces

end Cert.KernelSfwdIdeal.Body
end
-- ==== Proof.ScanCase.lean ====
/-
  The recurrence's kernel, one grid point: what its runs leave in the four results and in the two carried buffers.
-/
module

public import proofs.«01_k».proof.Defs
public import proofs.«01_k».proof.Proof.ScanKer
public import proofs.«01_k».proof.Proof.Gen.KernelSfwdIdeal.Frame
public import Idealize.ShloMosaic.Lib.Pointwise
public import Idealize.ShloMosaic.Lib.Tactic
public import Idealize.ShloMosaic.Lib.Pipeline.ReadBack

@[expose] public section

set_option maxRecDepth 16384

noncomputable section

open Idealize.ShloMosaic Idealize.ShloMosaic.TcCoe Idealize.SL.Sem

namespace Cert.KernelSfwdIdeal.Body

open Cert.KernelSfwdIdeal Cert.KernelSfwdIdeal.Gen Cert.Scan

section Lists

theorem canon4 {s : Shape} (G : s.Idx → Elt Ideal .f32) (p3 p2 p1 p0 f : View.Piece (Elt Ideal) s .f32) (h : View.PiecesOf G [p3, p2, p1, p0]) (y : s.Idx)
    (hc : ∃ p ∈ [p3, p2, p1, p0], y ∈ p.1.set) : View.canon [p3, p2, p1, p0, f] y = G y :=
  View.canon_append_of_piecesOf G [f] [p3, p2, p1, p0] h y hc
theorem canon8 {s : Shape} (G : s.Idx → Elt Ideal .f32) (p7 p6 p5 p4 p3 p2 p1 p0 f : View.Piece (Elt Ideal) s .f32)
    (h : View.PiecesOf G [p7, p6, p5, p4, p3, p2, p1, p0]) (y : s.Idx)
    (hc : ∃ p ∈ [p7, p6, p5, p4, p3, p2, p1, p0], y ∈ p.1.set) : View.canon [p7, p6, p5, p4, p3, p2, p1, p0, f] y = G y :=
  View.canon_append_of_piecesOf G [f] [p7, p6, p5, p4, p3, p2, p1, p0] h y hc

theorem pay48_eq (v : FVec Ideal S128x256 .f32) : k0_pay48 v = v := by funext j; idx_vars j; pointwise [k0_pay48]
theorem pay35_eq (v : Vec Ideal S64x256 .f32) : k0_pay35 v = v := by funext j; idx_vars j; pointwise [k0_pay35]
theorem pay36_eq (v : Vec Ideal S256x256 .f32) : k0_pay36 v = v := by funext j; idx_vars j; pointwise [k0_pay36]
theorem pay37_eq (v : Vec Ideal S64x256 .f32) : k0_pay37 v = v := by funext j; idx_vars j; pointwise [k0_pay37]
theorem pay38_eq (v : Vec Ideal S64x256 .f32) : k0_pay38 v = v := by funext j; idx_vars j; pointwise [k0_pay38]
theorem pay39_eq (v : Vec Ideal S64x128 .f32) : k0_pay39 v = v := by funext j; idx_vars j; pointwise [k0_pay39]
theorem pay40_eq (v : Vec Ideal S64x128 .f32) : k0_pay40 v = v := by funext j; idx_vars j; pointwise [k0_pay40]

theorem group_y_of (x3 : Vec Ideal S64x4096 .f32) (x4 : Vec Ideal S64x2048 .f32) (x5 : Vec Ideal S1x2048 .f32) (x10 : Vec Ideal S64x256 .f32) (x11 : Vec Ideal S256x256 .f32)
    (u : Vec Ideal S128x2048 .f32) (D : Fin 64 → Fin 32 → EReal) (A : Fin 32 → EReal)
    (heye : ∀ (i : Fin 64) (x : Fin 256), x10 (ix2 i x) = if i.val = x.val % 64 then 1 else 0)
    (hblk : ∀ x j : Fin 256, x11 (ix2 x j) = if x.val / 64 = j.val / 64 then 1 else 0)
    (hdt : ∀ (m : Fin 64) (e : Fin 2048), x4 (ix2 m e) = D m (hh e)) (hax : ∀ e : Fin 2048, x5 (ix2 0 e) = A (hh e))
    (g : Fin 8) (o p q : ℕ) (ho : o = 256 * g.val) (hp : p = 2048 + 128 * g.val) (hq : q = 3072 + 128 * g.val) (P : FVec Ideal S64x256 .f32) (i1 i2 i3 i4 i5 i6 i7 i8)
    (hP : P = gY (k0_pay35 (View.ld x10 (Rect.unit (s := S64x256) ![0, 0] ![64, 256] i7))) (k0_pay37 (View.ld x3 (Rect.unit (s := S64x4096) ![0, o] ![64, 256] i1))) (k0_pay38 (View.ld x4 (Rect.unit (s := S64x2048) ![0, o] ![64, 256] i2))) (k0_pay36 (View.ld x11 (Rect.unit (s := S256x256) ![0, 0] ![256, 256] i8)))
      (View.ld x5 (Rect.unit (s := S1x2048) ![0, o] ![1, 256] i3)) (k0_pay39 (View.ld x3 (Rect.unit (s := S64x4096) ![0, p] ![64, 128] i4)))
      (k0_pay40 (View.ld x3 (Rect.unit (s := S64x4096) ![0, q] ![64, 128] i5))) (View.ld u (Rect.unit (s := S128x2048) ![0, o] ![128, 256] i6))) (w : S64x256.Idx) :
    P w = gYS x3 u D A ((Rect.unit (s := S64x2048) ![0, o] ![64, 256] i2).emb w) := by
  subst ho hp hq hP
  rw [pay35_eq, pay36_eq, pay37_eq, pay38_eq, pay39_eq, pay40_eq, View.ld_unit_zero (S := S64x256) (by funext a; match a with | 0 => rfl | 1 => rfl),
    View.ld_unit_zero (S := S256x256) (by funext a; match a with | 0 => rfl | 1 => rfl)]
  exact group_y x3 x4 x5 x10 x11 u D A g heye hblk hdt hax i1 i2 i3 i4 i5 i6 w

theorem group_h_of (x3 : Vec Ideal S64x4096 .f32) (x4 : Vec Ideal S64x2048 .f32) (x5 : Vec Ideal S1x2048 .f32)
    (u : Vec Ideal S128x2048 .f32) (D : Fin 64 → Fin 32 → EReal) (A : Fin 32 → EReal)
    (hdt : ∀ (m : Fin 64) (e : Fin 2048), x4 (ix2 m e) = D m (hh e)) (hax : ∀ e : Fin 2048, x5 (ix2 0 e) = A (hh e))
    (g : Fin 8) (o p : ℕ) (ho : o = 256 * g.val) (hp : p = 2048 + 128 * g.val) (P : FVec Ideal S128x256 .f32) (i1 i2 i3 i4 i6)
    (hP : P = k0_pay48 (gH (k0_pay37 (View.ld x3 (Rect.unit (s := S64x4096) ![0, o] ![64, 256] i1))) (k0_pay38 (View.ld x4 (Rect.unit (s := S64x2048) ![0, o] ![64, 256] i2)))
      (View.ld x5 (Rect.unit (s := S1x2048) ![0, o] ![1, 256] i3)) (k0_pay39 (View.ld x3 (Rect.unit (s := S64x4096) ![0, p] ![64, 128] i4)))
      (View.ld u (Rect.unit (s := S128x2048) ![0, o] ![128, 256] i6)))) (w : S128x256.Idx) :
    P w = gHS x3 u D A ((Rect.unit (s := S128x2048) ![0, o] ![128, 256] i6).emb w) := by
  subst ho hp hP
  rw [pay48_eq, pay37_eq, pay38_eq, pay39_eq]
  exact group_h x3 x4 x5 u D A g hdt hax i1 i2 i3 i4 i6 w

end Lists

section Cases

variable (c : Dev nD) (i : grid0.Coords)
  (a1 : Memref sig .tc .vmem S64x512 .f32) (h1 : a1.IsWhole) (a2 : Memref sig .tc .vmem S64x512 .f32) (h2 : a2.IsWhole) (a3 : Memref sig .tc .vmem S64x1024 .f32) (h3 : a3.IsWhole) (a4 : Memref sig .tc .vmem S64x4096 .f32) (h4 : a4.IsWhole) (a5 : Memref sig .tc .vmem S64x2048 .f32) (h5 : a5.IsWhole) (a6 : Memref sig .tc .vmem S1x2048 .f32) (h6 : a6.IsWhole) (a7 : Memref sig .tc .vmem S4x64x64 .f32) (h7 : a7.IsWhole) (a8 : Memref sig .tc .vmem S64x512 .f32) (h8 : a8.IsWhole) (a9 : Memref sig .tc .vmem S64x512 .f32) (h9 : a9.IsWhole) (a10 : Memref sig .tc .vmem S512x256 .f32) (h10 : a10.IsWhole) (a11 : Memref sig .tc .vmem S64x256 .f32) (h11 : a11.IsWhole) (a12 : Memref sig .tc .vmem S256x256 .f32) (h12 : a12.IsWhole) (a13 : Memref sig .tc .vmem S64x1024 .f32) (h13 : a13.IsWhole) (a14 : Memref sig .tc .vmem S64x2048 .f32) (h14 : a14.IsWhole) (a15 : Memref sig .tc .vmem S1x512x256 .f32) (h15 : a15.IsWhole) (a16 : Memref sig .tc .vmem S1x128x2048 .f32) (h16 : a16.IsWhole) (a17 : Memref sig .tc .vmem S512x256 .f32) (h17 : a17.IsWhole) (a18 : Memref sig .tc .vmem S128x2048 .f32) (h18 : a18.IsWhole)
  (x0 : Vec Ideal S64x512 .f32) (x1 : Vec Ideal S64x512 .f32) (x2 : Vec Ideal S64x1024 .f32) (x3 : Vec Ideal S64x4096 .f32) (x4 : Vec Ideal S64x2048 .f32) (x5 : Vec Ideal S1x2048 .f32) (x6 : Vec Ideal S4x64x64 .f32) (x7 : Vec Ideal S64x512 .f32) (x8 : Vec Ideal S64x512 .f32) (x9 : Vec Ideal S512x256 .f32) (x10 : Vec Ideal S64x256 .f32) (x11 : Vec Ideal S256x256 .f32) (xs0 : Vec Ideal S512x256 .f32) (xs1 : Vec Ideal S128x2048 .f32)

variable (D : Fin 64 → Fin 32 → EReal) (A : Fin 32 → EReal)
  (heye : ∀ (i : Fin 64) (x : Fin 256), x10 (ix2 i x) = if i.val = x.val % 64 then 1 else 0)
  (hblk : ∀ x j : Fin 256, x11 (ix2 x j) = if x.val / 64 = j.val / 64 then 1 else 0)
  (hdt : ∀ (m : Fin 64) (e : Fin 2048), x4 (ix2 m e) = D m (hh e)) (hax : ∀ e : Fin 2048, x5 (ix2 0 e) = A (hh e))

theorem B12 (hc : ¬cond0_0 i) : out0_B_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1 = gYR x0 x1 x2 x6 x7 xs0 := by
  funext y
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  refine View.canon_apply_of_pieces (gYR x0 x1 x2 x6 x7 xs0) _ (View.PiecesOf.mem ?_) y (View.cover_of_tiledL (s := S64x1024) _ ![64, 256] (by sl_kernel_rfl) y)
  exact ⟨head_y x0 x1 x2 x6 x7 xs0 3 _ _ _ _ _ _, head_y x0 x1 x2 x6 x7 xs0 2 _ _ _ _ _ _, head_y x0 x1 x2 x6 x7 xs0 1 _ _ _ _ _ _, head_y x0 x1 x2 x6 x7 xs0 0 _ _ _ _ _ _, trivial⟩

theorem Bs0 (hc : ¬cond0_0 i) : sout0_B_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1 = gSR x1 x2 x8 x9 xs0 := by
  funext y
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  refine View.canon_apply_of_pieces (gSR x1 x2 x8 x9 xs0) _ (View.PiecesOf.mem ?_) y (View.cover_of_tiledL (s := S512x256) _ ![128, 256] (by sl_kernel_rfl) y)
  exact ⟨head_s x1 x2 x8 x9 xs0 3 _ _ _ _ _, head_s x1 x2 x8 x9 xs0 2 _ _ _ _ _, head_s x1 x2 x8 x9 xs0 1 _ _ _ _ _, head_s x1 x2 x8 x9 xs0 0 _ _ _ _ _, trivial⟩

include heye hblk hdt hax in
theorem B13 (hc : ¬cond0_0 i) : out0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1 = gYS x3 xs1 D A := by
  funext y
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  refine View.canon_apply_of_pieces (gYS x3 xs1 D A) _ (View.PiecesOf.mem ?_) y (View.cover_of_tiledL (s := S64x2048) _ ![64, 256] (by sl_kernel_rfl) y)
  refine ⟨group_y_of x3 x4 x5 x10 x11 xs1 D A heye hblk hdt hax 7 1792 2944 3968 rfl rfl rfl _ (by decide) (by decide) (by decide) (by decide) (by decide) (by decide) (by decide) (by decide) ?_, group_y_of x3 x4 x5 x10 x11 xs1 D A heye hblk hdt hax 6 1536 2816 3840 rfl rfl rfl _ (by decide) (by decide) (by decide) (by decide) (by decide) (by decide) (by decide) (by decide) ?_, group_y_of x3 x4 x5 x10 x11 xs1 D A heye hblk hdt hax 5 1280 2688 3712 rfl rfl rfl _ (by decide) (by decide) (by decide) (by decide) (by decide) (by decide) (by decide) (by decide) ?_, group_y_of x3 x4 x5 x10 x11 xs1 D A heye hblk hdt hax 4 1024 2560 3584 rfl rfl rfl _ (by decide) (by decide) (by decide) (by decide) (by decide) (by decide) (by decide) (by decide) ?_, group_y_of x3 x4 x5 x10 x11 xs1 D A heye hblk hdt hax 3 768 2432 3456 rfl rfl rfl _ (by decide) (by decide) (by decide) (by decide) (by decide) (by decide) (by decide) (by decide) ?_, group_y_of x3 x4 x5 x10 x11 xs1 D A heye hblk hdt hax 2 512 2304 3328 rfl rfl rfl _ (by decide) (by decide) (by decide) (by decide) (by decide) (by decide) (by decide) (by decide) ?_, group_y_of x3 x4 x5 x10 x11 xs1 D A heye hblk hdt hax 1 256 2176 3200 rfl rfl rfl _ (by decide) (by decide) (by decide) (by decide) (by decide) (by decide) (by decide) (by decide) ?_, group_y_of x3 x4 x5 x10 x11 xs1 D A heye hblk hdt hax 0 0 2048 3072 rfl rfl rfl _ (by decide) (by decide) (by decide) (by decide) (by decide) (by decide) (by decide) (by decide) ?_, trivial⟩
  all_goals simp only [gY, gH, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]

include hdt hax in
theorem Bs1 (hc : ¬cond0_0 i) : sout0_B_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1 = gHS x3 xs1 D A := by
  funext y
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  refine View.canon_apply_of_pieces (gHS x3 xs1 D A) _ (View.PiecesOf.mem ?_) y (View.cover_of_tiledL (s := S128x2048) _ ![128, 256] (by sl_kernel_rfl) y)
  refine ⟨group_h_of x3 x4 x5 xs1 D A hdt hax 7 1792 2944 rfl rfl _ (by decide) (by decide) (by decide) (by decide) (by decide) ?_, group_h_of x3 x4 x5 xs1 D A hdt hax 6 1536 2816 rfl rfl _ (by decide) (by decide) (by decide) (by decide) (by decide) ?_, group_h_of x3 x4 x5 xs1 D A hdt hax 5 1280 2688 rfl rfl _ (by decide) (by decide) (by decide) (by decide) (by decide) ?_, group_h_of x3 x4 x5 xs1 D A hdt hax 4 1024 2560 rfl rfl _ (by decide) (by decide) (by decide) (by decide) (by decide) ?_, group_h_of x3 x4 x5 xs1 D A hdt hax 3 768 2432 rfl rfl _ (by decide) (by decide) (by decide) (by decide) (by decide) ?_, group_h_of x3 x4 x5 xs1 D A hdt hax 2 512 2304 rfl rfl _ (by decide) (by decide) (by decide) (by decide) (by decide) ?_, group_h_of x3 x4 x5 xs1 D A hdt hax 1 256 2176 rfl rfl _ (by decide) (by decide) (by decide) (by decide) (by decide) ?_, group_h_of x3 x4 x5 xs1 D A hdt hax 0 0 2048 rfl rfl _ (by decide) (by decide) (by decide) (by decide) (by decide) ?_, trivial⟩
  all_goals simp only [gY, gH, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]

theorem B14 (hc : ¬cond0_0 i) (n : Fin 512) (e : Fin 256) : out0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1 (ix3 0 n e) = xs0 (ix2 n e) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  rw [View.canon_unit_zero (by funext a; match a with | 0 => rfl | 1 => rfl | 2 => rfl)]
  rw [View.ld_unit_zero (S := S512x256) (by funext a; match a with | 0 => rfl | 1 => rfl)]
  pointwise [k0_pay4]

theorem B15 (hc : ¬cond0_0 i) (n : Fin 128) (e : Fin 2048) : out0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1 (ix3 0 n e) = xs1 (ix2 n e) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  rw [View.canon_unit_zero (by funext a; match a with | 0 => rfl | 1 => rfl | 2 => rfl)]
  rw [View.ld_unit_zero (S := S128x2048) (by funext a; match a with | 0 => rfl | 1 => rfl)]
  pointwise [k0_pay5]

theorem A12 (hc : cond0_0 i) : out0_A_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 = gYR x0 x1 x2 x6 x7 (k0_pay2 (F := Ideal)) := by
  funext y
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  simp (decide := true) only [↓View.readCov_skip, View.readCov_fill]
  refine View.canon_apply_of_pieces (gYR x0 x1 x2 x6 x7 (k0_pay2 (F := Ideal))) _ (View.PiecesOf.mem ?_) y (View.cover_of_tiledL (s := S64x1024) _ ![64, 256] (by sl_kernel_rfl) y)
  exact ⟨head_y x0 x1 x2 x6 x7 (k0_pay2 (F := Ideal)) 3 _ _ _ _ _ _, head_y x0 x1 x2 x6 x7 (k0_pay2 (F := Ideal)) 2 _ _ _ _ _ _, head_y x0 x1 x2 x6 x7 (k0_pay2 (F := Ideal)) 1 _ _ _ _ _ _, head_y x0 x1 x2 x6 x7 (k0_pay2 (F := Ideal)) 0 _ _ _ _ _ _, trivial⟩

theorem As0 (hc : cond0_0 i) : sout0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 = gSR x1 x2 x8 x9 (k0_pay2 (F := Ideal)) := by
  funext y
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  simp (decide := true) only [↓View.readCov_skip, View.readCov_fill]
  refine canon4 _ _ _ _ _ _ ?_ y (View.cover_of_tiledL (s := S512x256) _ ![128, 256] (by sl_kernel_rfl) y)
  exact ⟨head_s x1 x2 x8 x9 (k0_pay2 (F := Ideal)) 3 _ _ _ _ _, head_s x1 x2 x8 x9 (k0_pay2 (F := Ideal)) 2 _ _ _ _ _, head_s x1 x2 x8 x9 (k0_pay2 (F := Ideal)) 1 _ _ _ _ _, head_s x1 x2 x8 x9 (k0_pay2 (F := Ideal)) 0 _ _ _ _ _, trivial⟩

set_option maxHeartbeats 2000000 in
include heye hblk hdt hax in
theorem A13 (hc : cond0_0 i) : out0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 = gYS x3 (k0_pay3 (F := Ideal)) D A := by
  funext y
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  simp (decide := true) only [↓View.readCov_skip, View.readCov_fill]
  refine View.canon_apply_of_pieces (gYS x3 (k0_pay3 (F := Ideal)) D A) _ (View.PiecesOf.mem ?_) y (View.cover_of_tiledL (s := S64x2048) _ ![64, 256] (by sl_kernel_rfl) y)
  refine ⟨group_y_of x3 x4 x5 x10 x11 (k0_pay3 (F := Ideal)) D A heye hblk hdt hax 7 1792 2944 3968 rfl rfl rfl _ (by decide) (by decide) (by decide) (by decide) (by decide) (by decide) (by decide) (by decide) ?_, group_y_of x3 x4 x5 x10 x11 (k0_pay3 (F := Ideal)) D A heye hblk hdt hax 6 1536 2816 3840 rfl rfl rfl _ (by decide) (by decide) (by decide) (by decide) (by decide) (by decide) (by decide) (by decide) ?_, group_y_of x3 x4 x5 x10 x11 (k0_pay3 (F := Ideal)) D A heye hblk hdt hax 5 1280 2688 3712 rfl rfl rfl _ (by decide) (by decide) (by decide) (by decide) (by decide) (by decide) (by decide) (by decide) ?_, group_y_of x3 x4 x5 x10 x11 (k0_pay3 (F := Ideal)) D A heye hblk hdt hax 4 1024 2560 3584 rfl rfl rfl _ (by decide) (by decide) (by decide) (by decide) (by decide) (by decide) (by decide) (by decide) ?_, group_y_of x3 x4 x5 x10 x11 (k0_pay3 (F := Ideal)) D A heye hblk hdt hax 3 768 2432 3456 rfl rfl rfl _ (by decide) (by decide) (by decide) (by decide) (by decide) (by decide) (by decide) (by decide) ?_, group_y_of x3 x4 x5 x10 x11 (k0_pay3 (F := Ideal)) D A heye hblk hdt hax 2 512 2304 3328 rfl rfl rfl _ (by decide) (by decide) (by decide) (by decide) (by decide) (by decide) (by decide) (by decide) ?_, group_y_of x3 x4 x5 x10 x11 (k0_pay3 (F := Ideal)) D A heye hblk hdt hax 1 256 2176 3200 rfl rfl rfl _ (by decide) (by decide) (by decide) (by decide) (by decide) (by decide) (by decide) (by decide) ?_, group_y_of x3 x4 x5 x10 x11 (k0_pay3 (F := Ideal)) D A heye hblk hdt hax 0 0 2048 3072 rfl rfl rfl _ (by decide) (by decide) (by decide) (by decide) (by decide) (by decide) (by decide) (by decide) ?_, trivial⟩
  all_goals simp only [gY, gH, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]

set_option maxHeartbeats 2000000 in
include hdt hax in
theorem As1 (hc : cond0_0 i) : sout0_A_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 = gHS x3 (k0_pay3 (F := Ideal)) D A := by
  funext y
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  simp (decide := true) only [↓View.readCov_skip, View.readCov_fill]
  refine canon8 _ _ _ _ _ _ _ _ _ _ ?_ y (View.cover_of_tiledL (s := S128x2048) _ ![128, 256] (by sl_kernel_rfl) y)
  refine ⟨group_h_of x3 x4 x5 (k0_pay3 (F := Ideal)) D A hdt hax 7 1792 2944 rfl rfl _ (by decide) (by decide) (by decide) (by decide) (by decide) ?_, group_h_of x3 x4 x5 (k0_pay3 (F := Ideal)) D A hdt hax 6 1536 2816 rfl rfl _ (by decide) (by decide) (by decide) (by decide) (by decide) ?_, group_h_of x3 x4 x5 (k0_pay3 (F := Ideal)) D A hdt hax 5 1280 2688 rfl rfl _ (by decide) (by decide) (by decide) (by decide) (by decide) ?_, group_h_of x3 x4 x5 (k0_pay3 (F := Ideal)) D A hdt hax 4 1024 2560 rfl rfl _ (by decide) (by decide) (by decide) (by decide) (by decide) ?_, group_h_of x3 x4 x5 (k0_pay3 (F := Ideal)) D A hdt hax 3 768 2432 rfl rfl _ (by decide) (by decide) (by decide) (by decide) (by decide) ?_, group_h_of x3 x4 x5 (k0_pay3 (F := Ideal)) D A hdt hax 2 512 2304 rfl rfl _ (by decide) (by decide) (by decide) (by decide) (by decide) ?_, group_h_of x3 x4 x5 (k0_pay3 (F := Ideal)) D A hdt hax 1 256 2176 rfl rfl _ (by decide) (by decide) (by decide) (by decide) (by decide) ?_, group_h_of x3 x4 x5 (k0_pay3 (F := Ideal)) D A hdt hax 0 0 2048 rfl rfl _ (by decide) (by decide) (by decide) (by decide) (by decide) ?_, trivial⟩
  all_goals simp only [gY, gH, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]

theorem A14 (hc : cond0_0 i) (n : Fin 512) (e : Fin 256) : out0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 (ix3 0 n e) = (k0_pay2 (F := Ideal)) (ix2 n e) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  simp (decide := true) only [↓View.readCov_skip, View.readCov_fill]
  rw [View.canon_unit_zero (by funext a; match a with | 0 => rfl | 1 => rfl | 2 => rfl)]
  rw [View.ld_unit_zero (S := S512x256) (by funext a; match a with | 0 => rfl | 1 => rfl)]
  pointwise [k0_pay4]

theorem A15 (hc : cond0_0 i) (n : Fin 128) (e : Fin 2048) : out0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 (ix3 0 n e) = (k0_pay3 (F := Ideal)) (ix2 n e) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h17.read_unread, h18.read_unread]
  simp (decide := true) only [↓View.readCov_skip, View.readCov_fill]
  rw [View.canon_unit_zero (by funext a; match a with | 0 => rfl | 1 => rfl | 2 => rfl)]
  rw [View.ld_unit_zero (S := S128x2048) (by funext a; match a with | 0 => rfl | 1 => rfl)]
  pointwise [k0_pay5]

end Cases

end Cert.KernelSfwdIdeal.Body
end
-- ==== Proof.ScanHost.lean ====
/-
  The recurrence's kernel: the arrays its launch reads, at an index.
-/
module

public import proofs.«01_k».proof.Defs
public import proofs.«01_k».proof.Proof.ScanCase
public import proofs.«01_k».proof.Proof.Gen.KernelSfwdIdeal
public import proofs.«01_k».proof.Proof.Gen.KernelSfwdIdeal.Frame
public import proofs.«01_k».proof.Proof.Gen.KernelSfwdIdeal.Value
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelSfwdIdeal.Whole

open Cert.KernelSfwdIdeal Cert.KernelSfwdIdeal.Gen Cert.KernelSfwdIdeal.Body Cert.Scan

variable (m : (ℓ : Loc nD τ sig) → Buf (Elt Ideal) ℓ) (c : Dev nD)

theorem V_v2 (r : Fin 4096) (j : Fin 1024) : (V m c main_v2 : Vec Ideal S4096x12288 .f32) (ix2 r ⟨10240 + j.val, by omega⟩)
    = (m ((c : Thread nD τ).loc main_arg2) : Vec Ideal S4096x1024 .f32) (ix2 r j) := by
  dsimp only [V, hostOps0]
  after_reads_simp
  pointwise
theorem V_v3 (r : Fin 4096) (j : Fin 4096) : (V m c main_v3 : Vec Ideal S4096x4096 .f32) (ix2 r j)
    = (if h : j.val < 2048 then (m ((c : Thread nD τ).loc main_arg3) : Vec Ideal S4096x2048 .f32) (ix2 r ⟨j.val, h⟩)
      else if h : j.val - 2048 < 1024 then (m ((c : Thread nD τ).loc main_arg4) : Vec Ideal S4096x1024 .f32) (ix2 r ⟨j.val - 2048, h⟩)
      else (m ((c : Thread nD τ).loc main_arg5) : Vec Ideal S4096x1024 .f32) (ix2 r ⟨j.val - 2048 - 1024, by omega⟩) : EReal) := by
  dsimp only [V, hostOps0]
  after_reads_simp
  pointwise
theorem V_v5 (r : Fin 4096) (j : Fin 2048) : (V m c main_v5 : Vec Ideal S4096x2048 .f32) (ix2 r j)
    = (m ((c : Thread nD τ).loc main_arg6) : Vec Ideal S4096x32 .f32) (ix2 r (hh j)) := by
  dsimp only [V, hostOps0]
  after_reads_simp
  pointwise
  rfl
theorem V_v8 (j : Fin 2048) : (V m c main_v8 : Vec Ideal S1x2048 .f32) (ix2 0 j)
    = (m ((c : Thread nD τ).loc main_arg7) : Vec Ideal S32 .f32) (ix1 (hh j)) := by
  dsimp only [V, hostOps0]
  after_reads_simp
  pointwise
  rfl
theorem V_v28 (h : Fin 4) (l k : Fin 64) : (V m c main_v28 : Vec Ideal S4x64x64 .f32) (ix3 h l k) = maskE h.val l k := by
  dsimp only [V, hostOps0]
  after_reads_simp
  pointwise
  rfl
theorem V_v38 (l : Fin 64) (j : Fin 512) : (V m c main_v38 : Vec Ideal S64x512 .f32) (ix2 l j) = qdE (j.val / 128) l := by
  dsimp only [V, hostOps0]
  after_reads_simp
  pointwise
  rfl
theorem V_v48 (l : Fin 64) (j : Fin 512) : (V m c main_v48 : Vec Ideal S64x512 .f32) (ix2 l j) = kdE (j.val / 128) l := by
  dsimp only [V, hostOps0]
  after_reads_simp
  pointwise
  rfl
theorem V_v58 (l : Fin 512) (j : Fin 256) : (V m c main_v58 : Vec Ideal S512x256 .f32) (ix2 l j) = cdE (l.val / 128) := by
  dsimp only [V, hostOps0]
  after_reads_simp
  pointwise
  rfl

/-! The two tables of zeros and ones, from whole-number remainders and quotients. -/

def d64 : IVec S_ 32 := select (cmpi .eq (constantI S_ 32 64#32) (constantI S_ 32 0#32)) (constantI S_ 32 1#32) (constantI S_ 32 64#32)
def bc {w : ℕ} (x : IVec S_ w) : IVec S256 w := broadcastInDim S256 ![] bcast_S_S256 x
def rm (d : IVec S_ 32) : IVec S256 32 := Host.remsi (iotaInDim S256 32 0) (bc d)
def md : IVec S256 32 :=
  select (andi (cmpi .ne (cmpi .slt (rm d64) (bc (constantI S_ 32 0#32))) (bc (cmpi .slt d64 (constantI S_ 32 0#32)))) (cmpi .ne (rm d64) (bc (constantI S_ 32 0#32))))
    (addi (rm d64) (bc d64)) (rm d64)
def qt : IVec S256 32 := Host.divsi (iotaInDim S256 32 0) (bc (constantI S_ 32 64#32))
def dv : IVec S256 32 :=
  select (andi (cmpi .ne (signi (iotaInDim S256 32 0)) (bc (signi (constantI S_ 32 64#32)))) (cmpi .ne (rm (constantI S_ 32 64#32)) (bc (constantI S_ 32 0#32))))
    (subi qt (bc (constantI S_ 32 1#32))) qt

theorem md_apply : ∀ j : Fin 256, md (ix1 j) = BitVec.ofNat 32 (j.val % 64) := by
  intro j
  pointwise [md, d64, bc, rm]
  revert j
  decide +kernel
theorem dv_apply : ∀ j : Fin 256, dv (ix1 j) = BitVec.ofNat 32 (j.val / 64) := by
  intro j
  pointwise [dv, qt, bc, rm]
  revert j
  decide +kernel

/-- The comparison of two small whole numbers, as a number. -/
theorem eq_num (a b : ℕ) (ha : a < 256) (hb : b < 256) :
    FloatOps.uitofp (F := Ideal) .f32 (IntOp.cmpi .eq (BitVec.ofNat 32 a) (BitVec.ofNat 32 b)) = (if a = b then 1 else 0 : EReal) := by
  by_cases h : a = b
  · subst h
    rw [if_pos rfl]
    have : IntOp.cmpi .eq (BitVec.ofNat 32 a) (BitVec.ofNat 32 a) = 1#1 := by simp [IntOp.cmpi]
    rw [this]
    show (((1#1 : BitVec 1).toNat : ℝ) : EReal) = 1
    simp
  · rw [if_neg h]
    have hn : BitVec.ofNat 32 a ≠ BitVec.ofNat 32 b := fun e => h (by
      have := congrArg BitVec.toNat e
      simp only [BitVec.toNat_ofNat] at this
      omega)
    have : IntOp.cmpi .eq (BitVec.ofNat 32 a) (BitVec.ofNat 32 b) = 0#1 := by
      have hf : (BitVec.ofNat 32 a == BitVec.ofNat 32 b) = false := beq_false_of_ne hn
      simp [IntOp.cmpi, hf]
    rw [this]
    show (((0#1 : BitVec 1).toNat : ℝ) : EReal) = 0
    simp

theorem V_v67 (i : Fin 64) (x : Fin 256) : (V m c main_v67 : Vec Ideal S64x256 .f32) (ix2 i x) = (if i.val = x.val % 64 then 1 else 0 : EReal) := by
  have e : V m c main_v67 = (uitofp .f32 (cmpi .eq (broadcastInDim S64x256 ![0, 1] bcast_S64x1_S64x256_0_1 (broadcastInDim S64x1 ![0] bcast_S64_S64x1_0 (iotaInDim S64 32 0)))
      (broadcastInDim S64x256 ![0, 1] bcast_S1x256_S64x256_0_1 (broadcastInDim S1x256 ![1] bcast_S256_S1x256_1 md))) : FVec Ideal S64x256 .f32) := by
    dsimp only [V, hostOps0]
    after_reads_simp
    rfl
  rw [e]
  pointwise [md_apply]
  exact eq_num _ _ (by omega) (by omega)
theorem V_v75 (i x : Fin 256) : (V m c main_v75 : Vec Ideal S256x256 .f32) (ix2 i x) = (if i.val / 64 = x.val / 64 then 1 else 0 : EReal) := by
  have e : V m c main_v75 = (uitofp .f32 (cmpi .eq (broadcastInDim S256x256 ![0, 1] bcast_S256x1_S256x256_0_1 (broadcastInDim S256x1 ![0] bcast_S256_S256x1_0 dv))
      (broadcastInDim S256x256 ![0, 1] bcast_S1x256_S256x256_0_1 (broadcastInDim S1x256 ![1] bcast_S256_S1x256_1 dv))) : FVec Ideal S256x256 .f32) := by
    dsimp only [V, hostOps0]
    after_reads_simp
    rfl
  rw [e]
  pointwise [dv_apply]
  exact eq_num _ _ (by omega) (by omega)

end Cert.KernelSfwdIdeal.Whole
end
-- ==== Proof.ScanGrid.lean ====
/-
  The recurrence's kernel: a grid point's blocks, and what every grid point leaves.
-/
module

public import proofs.«01_k».proof.Defs
public import proofs.«01_k».proof.Proof.ScanHost
public import proofs.«01_k».proof.Proof.Gen.KernelSfwdIdeal
public import proofs.«01_k».proof.Proof.Gen.KernelSfwdIdeal.Frame
public import proofs.«01_k».proof.Proof.Gen.KernelSfwdIdeal.Value
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelSfwdIdeal.Body

open Cert.KernelSfwdIdeal Cert.KernelSfwdIdeal.Gen Cert.Scan

section Step

variable (q k : Fin 4096 → Fin 512 → EReal) (v : Fin 4096 → Fin 1024 → EReal) (x : Fin 4096 → Fin 2048 → EReal)
  (b c : Fin 4096 → Fin 1024 → EReal) (dt : Fin 4096 → Fin 32 → EReal) (a : Fin 32 → EReal) (t : ℕ)

/-- The two states at the entry of chunk `t`, as the arrays the kernel carries. -/
def stA : Vec Ideal S512x256 .f32 := fun y => St k v t (y 0) (y 1)
def htA : Vec Ideal S128x2048 .f32 := fun y => Ht x b dt a t (y 0) (y 1)

variable (x0 x1 : Vec Ideal S64x512 .f32) (x2 : Vec Ideal S64x1024 .f32) (x3 : Vec Ideal S64x4096 .f32)
  (x6 : Vec Ideal S4x64x64 .f32) (x7 x8 : Vec Ideal S64x512 .f32) (x9 : Vec Ideal S512x256 .f32)
  (h0 : ∀ l e, x0 (ix2 l e) = q (row t l) e) (h1 : ∀ l e, x1 (ix2 l e) = k (row t l) e) (h2 : ∀ l e, x2 (ix2 l e) = v (row t l) e)
  (hx : ∀ l j, x3 (ix2 l (xi j)) = x (row t l) j) (hb : ∀ l j n, x3 (ix2 l (bi j n)) = b (row t l) (gi j n))
  (hc : ∀ l j n, x3 (ix2 l (ci j n)) = c (row t l) (gi j n))
  (h6 : ∀ h l m, x6 (ix3 h l m) = maskE h.val l m) (h7 : ∀ l j, x7 (ix2 l j) = qdE (j.val / 128) l)
  (h8 : ∀ l j, x8 (ix2 l j) = kdE (j.val / 128) l) (h9 : ∀ r e, x9 (ix2 r e) = cdE (r.val / 128))

theorem qi_head (j : Fin 1024) (n : Fin 128) : (qi j n).val / 128 = j.val / 256 := by
  show (128 * (j.val / 256) + n.val) / 128 = j.val / 256
  omega

include h0 h1 h2 h6 h7 in
theorem gYR_step (y : S64x1024.Idx) : gYR x0 x1 x2 x6 x7 (stA k v t) y = Yr q k v t (y 0) (y 1) := by
  idx_vars y
  show bYR x0 x1 x2 x6 x7 (stA k v t) y0 y1 = Yr q k v t y0 y1
  unfold bYR Yr
  simp only [h0, h1, h2, h6, h7, qi_head]
  rfl

include h1 h2 h8 h9 in
theorem gSR_step : gSR x1 x2 x8 x9 (stA k v t) = stA k v (t + 1) := by
  funext y
  idx_vars y
  show bSR x1 x2 x8 x9 (stA k v t) y0 y1 = St k v (t + 1) y0 y1
  unfold bSR St
  simp only [h1, h2, h8, h9]
  rfl

include hx hb hc in
theorem gYS_step (y : S64x2048.Idx) : gYS x3 (htA x b dt a t) (fun l e => dt (row t l) e) a y = Ys x b c dt a t (y 0) (y 1) := by
  idx_vars y
  show bYS x3 (htA x b dt a t) (fun l e => dt (row t l) e) a y0 y1 = Ys x b c dt a t y0 y1
  unfold bYS Ys
  simp only [hx, hb, hc]
  rfl

include hx hb in
theorem gHS_step : gHS x3 (htA x b dt a t) (fun l e => dt (row t l) e) a = htA x b dt a (t + 1) := by
  funext y
  idx_vars y
  show bHS x3 (htA x b dt a t) (fun l e => dt (row t l) e) a y0 y1 = Ht x b dt a (t + 1) y0 y1
  unfold bHS Ht
  simp only [hx, hb]
  rfl

end Step

theorem pay2_zero (k : Fin 4096 → Fin 512 → EReal) (v : Fin 4096 → Fin 1024 → EReal) : k0_pay2 (F := Ideal) = stA k v 0 := by
  funext y
  idx_vars y
  pointwise [k0_pay2]
  rfl
theorem pay3_zero (x : Fin 4096 → Fin 2048 → EReal) (b : Fin 4096 → Fin 1024 → EReal) (dt : Fin 4096 → Fin 32 → EReal) (a : Fin 32 → EReal) :
    k0_pay3 (F := Ideal) = htA x b dt a 0 := by
  funext y
  idx_vars y
  pointwise [k0_pay3]
  rfl

end Cert.KernelSfwdIdeal.Body

namespace Cert.KernelSfwdIdeal.Whole

open Cert.KernelSfwdIdeal Cert.KernelSfwdIdeal.Gen Cert.KernelSfwdIdeal.Body Cert.Scan

section Blocks

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 10 :=
  (by decide +kernel : ∀ t : Fin grid0.N, win0_2.index t (0 : Fin 2) = t.val ∧ win0_2.index t (1 : Fin 2) = 10)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- The arguments at an index. -/
def qA : Fin 4096 → Fin 512 → EReal := fun r e => (m ((c : Thread nD τ).loc main_arg0) : Vec Ideal S4096x512 .f32) (ix2 r e)
def kA : Fin 4096 → Fin 512 → EReal := fun r e => (m ((c : Thread nD τ).loc main_arg1) : Vec Ideal S4096x512 .f32) (ix2 r e)
def vA : Fin 4096 → Fin 1024 → EReal := fun r e => (m ((c : Thread nD τ).loc main_arg2) : Vec Ideal S4096x1024 .f32) (ix2 r e)
def xA : Fin 4096 → Fin 2048 → EReal := fun r e => (m ((c : Thread nD τ).loc main_arg3) : Vec Ideal S4096x2048 .f32) (ix2 r e)
def bA : Fin 4096 → Fin 1024 → EReal := fun r e => (m ((c : Thread nD τ).loc main_arg4) : Vec Ideal S4096x1024 .f32) (ix2 r e)
def cA : Fin 4096 → Fin 1024 → EReal := fun r e => (m ((c : Thread nD τ).loc main_arg5) : Vec Ideal S4096x1024 .f32) (ix2 r e)
def dtA : Fin 4096 → Fin 32 → EReal := fun r e => (m ((c : Thread nD τ).loc main_arg6) : Vec Ideal S4096x32 .f32) (ix2 r e)
def aA : Fin 32 → EReal := fun e => (m ((c : Thread nD τ).loc main_arg7) : Vec Ideal S32 .f32) (ix1 e)

theorem lt64 (t : Fin cfg0.N) : t.val < 64 := lt_of_lt_of_eq t.isLt (show cfg0.N = 64 from N_0)
theorem row_val (t : Fin cfg0.N) (l : Fin 64) : (row t.val l).val = 64 * t.val + l.val := Nat.mod_eq_of_lt (by have := lt64 t; omega)

theorem b0 (t : Fin cfg0.N) (l : Fin 64) (e : Fin 512) : (iblk m c 0 t : Vec Ideal S64x512 .f32) (ix2 l e) = qA m c (row t.val l) e := by
  refine Eq.trans ?_ (congrFun (V_main_arg0 m c) (ix2 (row t.val l) e))
  unfold iblk
  rw [View.read_apply]
  show V m c main_arg0 _ = V m c main_arg0 _
  congr 1
  funext a
  apply Fin.ext
  match a with
  | ⟨0, _⟩ => show win0_0.index t 0 * 64 + 1 * (l).val = (row t.val l).val; rw [row_val, (idx0 t).1]; omega
  | ⟨1, _⟩ => show win0_0.index t 1 * 512 + 1 * (e).val = e.val; rw [(idx0 t).2]; omega
theorem b1 (t : Fin cfg0.N) (l : Fin 64) (e : Fin 512) : (iblk m c 1 t : Vec Ideal S64x512 .f32) (ix2 l e) = kA m c (row t.val l) e := by
  refine Eq.trans ?_ (congrFun (V_main_arg1 m c) (ix2 (row t.val l) e))
  unfold iblk
  rw [View.read_apply]
  show V m c main_arg1 _ = V m c main_arg1 _
  congr 1
  funext a
  apply Fin.ext
  match a with
  | ⟨0, _⟩ => show win0_1.index t 0 * 64 + 1 * (l).val = (row t.val l).val; rw [row_val, (idx1 t).1]; omega
  | ⟨1, _⟩ => show win0_1.index t 1 * 512 + 1 * (e).val = e.val; rw [(idx1 t).2]; omega
theorem b2 (t : Fin cfg0.N) (l : Fin 64) (e : Fin 1024) : (iblk m c 2 t : Vec Ideal S64x1024 .f32) (ix2 l e) = vA m c (row t.val l) e := by
  refine Eq.trans ?_ (V_v2 m c (row t.val l) e)
  unfold iblk
  rw [View.read_apply]
  show V m c main_v2 _ = V m c main_v2 _
  congr 1
  funext a
  apply Fin.ext
  match a with
  | ⟨0, _⟩ => show win0_2.index t 0 * 64 + 1 * (l).val = (row t.val l).val; rw [row_val, (idx2 t).1]; omega
  | ⟨1, _⟩ => show win0_2.index t 1 * 1024 + 1 * (e).val = 10240 + e.val; rw [(idx2 t).2]; omega
theorem b3 (t : Fin cfg0.N) (l : Fin 64) (e : Fin 4096) : (iblk m c 3 t : Vec Ideal S64x4096 .f32) (ix2 l e) = (V m c main_v3 : Vec Ideal S4096x4096 .f32) (ix2 (row t.val l) e) := by
  refine Eq.trans ?_ (rfl)
  unfold iblk
  rw [View.read_apply]
  show V m c main_v3 _ = V m c main_v3 _
  congr 1
  funext a
  apply Fin.ext
  match a with
  | ⟨0, _⟩ => show win0_3.index t 0 * 64 + 1 * (l).val = (row t.val l).val; rw [row_val, (idx3 t).1]; omega
  | ⟨1, _⟩ => show win0_3.index t 1 * 4096 + 1 * (e).val = e.val; rw [(idx3 t).2]; omega
theorem b4 (t : Fin cfg0.N) (l : Fin 64) (e : Fin 2048) : (iblk m c 4 t : Vec Ideal S64x2048 .f32) (ix2 l e) = dtA m c (row t.val l) (hh e) := by
  refine Eq.trans ?_ (V_v5 m c (row t.val l) e)
  unfold iblk
  rw [View.read_apply]
  show V m c main_v5 _ = V m c main_v5 _
  congr 1
  funext a
  apply Fin.ext
  match a with
  | ⟨0, _⟩ => show win0_4.index t 0 * 64 + 1 * (l).val = (row t.val l).val; rw [row_val, (idx4 t).1]; omega
  | ⟨1, _⟩ => show win0_4.index t 1 * 2048 + 1 * (e).val = e.val; rw [(idx4 t).2]; omega
theorem b5 (t : Fin cfg0.N) (e : Fin 2048) : (iblk m c 5 t : Vec Ideal S1x2048 .f32) (ix2 0 e) = aA m c (hh e) := by
  refine Eq.trans ?_ (V_v8 m c e)
  unfold iblk
  rw [View.read_apply]
  show V m c main_v8 _ = V m c main_v8 _
  congr 1
  funext a
  apply Fin.ext
  match a with
  | ⟨0, _⟩ => show win0_5.index t 0 * 1 + 1 * ((0 : Fin 1)).val = (0 : Fin 1).val; rw [(idx5 t).1]; omega
  | ⟨1, _⟩ => show win0_5.index t 1 * 2048 + 1 * (e).val = e.val; rw [(idx5 t).2]; omega
theorem b6 (t : Fin cfg0.N) (h : Fin 4) (l n : Fin 64) : (iblk m c 6 t : Vec Ideal S4x64x64 .f32) (ix3 h l n) = maskE h.val l n := by
  refine Eq.trans ?_ (V_v28 m c h l n)
  unfold iblk
  rw [View.read_apply]
  show V m c main_v28 _ = V m c main_v28 _
  congr 1
  funext a
  apply Fin.ext
  match a with
  | ⟨0, _⟩ => show win0_6.index t 0 * 4 + 1 * (h).val = h.val; rw [(idx6 t).1]; omega
  | ⟨1, _⟩ => show win0_6.index t 1 * 64 + 1 * (l).val = l.val; rw [(idx6 t).2.1]; omega
  | ⟨2, _⟩ => show win0_6.index t 2 * 64 + 1 * (n).val = n.val; rw [(idx6 t).2.2]; omega
theorem b7 (t : Fin cfg0.N) (l : Fin 64) (e : Fin 512) : (iblk m c 7 t : Vec Ideal S64x512 .f32) (ix2 l e) = qdE (e.val / 128) l := by
  refine Eq.trans ?_ (V_v38 m c l e)
  unfold iblk
  rw [View.read_apply]
  show V m c main_v38 _ = V m c main_v38 _
  congr 1
  funext a
  apply Fin.ext
  match a with
  | ⟨0, _⟩ => show win0_7.index t 0 * 64 + 1 * (l).val = l.val; rw [(idx7 t).1]; omega
  | ⟨1, _⟩ => show win0_7.index t 1 * 512 + 1 * (e).val = e.val; rw [(idx7 t).2]; omega
theorem b8 (t : Fin cfg0.N) (l : Fin 64) (e : Fin 512) : (iblk m c 8 t : Vec Ideal S64x512 .f32) (ix2 l e) = kdE (e.val / 128) l := by
  refine Eq.trans ?_ (V_v48 m c l e)
  unfold iblk
  rw [View.read_apply]
  show V m c main_v48 _ = V m c main_v48 _
  congr 1
  funext a
  apply Fin.ext
  match a with
  | ⟨0, _⟩ => show win0_8.index t 0 * 64 + 1 * (l).val = l.val; rw [(idx8 t).1]; omega
  | ⟨1, _⟩ => show win0_8.index t 1 * 512 + 1 * (e).val = e.val; rw [(idx8 t).2]; omega
theorem b9 (t : Fin cfg0.N) (l : Fin 512) (e : Fin 256) : (iblk m c 9 t : Vec Ideal S512x256 .f32) (ix2 l e) = cdE (l.val / 128) := by
  refine Eq.trans ?_ (V_v58 m c l e)
  unfold iblk
  rw [View.read_apply]
  show V m c main_v58 _ = V m c main_v58 _
  congr 1
  funext a
  apply Fin.ext
  match a with
  | ⟨0, _⟩ => show win0_9.index t 0 * 512 + 1 * (l).val = l.val; rw [(idx9 t).1]; omega
  | ⟨1, _⟩ => show win0_9.index t 1 * 256 + 1 * (e).val = e.val; rw [(idx9 t).2]; omega
theorem b10 (t : Fin cfg0.N) (l : Fin 64) (e : Fin 256) : (iblk m c 10 t : Vec Ideal S64x256 .f32) (ix2 l e) = (if l.val = e.val % 64 then 1 else 0 : EReal) := by
  refine Eq.trans ?_ (V_v67 m c l e)
  unfold iblk
  rw [View.read_apply]
  show V m c main_v67 _ = V m c main_v67 _
  congr 1
  funext a
  apply Fin.ext
  match a with
  | ⟨0, _⟩ => show win0_10.index t 0 * 64 + 1 * (l).val = l.val; rw [(idx10 t).1]; omega
  | ⟨1, _⟩ => show win0_10.index t 1 * 256 + 1 * (e).val = e.val; rw [(idx10 t).2]; omega
theorem b11 (t : Fin cfg0.N) (l : Fin 256) (e : Fin 256) : (iblk m c 11 t : Vec Ideal S256x256 .f32) (ix2 l e) = (if l.val / 64 = e.val / 64 then 1 else 0 : EReal) := by
  refine Eq.trans ?_ (V_v75 m c l e)
  unfold iblk
  rw [View.read_apply]
  show V m c main_v75 _ = V m c main_v75 _
  congr 1
  funext a
  apply Fin.ext
  match a with
  | ⟨0, _⟩ => show win0_11.index t 0 * 256 + 1 * (l).val = l.val; rw [(idx11 t).1]; omega
  | ⟨1, _⟩ => show win0_11.index t 1 * 256 + 1 * (e).val = e.val; rw [(idx11 t).2]; omega

theorem b3x (t : Fin cfg0.N) (l : Fin 64) (j : Fin 2048) : (iblk m c 3 t : Vec Ideal S64x4096 .f32) (ix2 l (xi j)) = xA m c (row t.val l) j :=
  (b3 m c t l (xi j)).trans ((V_v3 m c (row t.val l) (xi j)).trans (dif_pos j.isLt))
theorem b3b (t : Fin cfg0.N) (l : Fin 64) (j : Fin 2048) (n : Fin 128) :
    (iblk m c 3 t : Vec Ideal S64x4096 .f32) (ix2 l (bi j n)) = bA m c (row t.val l) (gi j n) := by
  have hj : ¬(bi j n).val < 2048 := by show ¬(2048 + 128 * (j.val / 256) + n.val < 2048); omega
  have hk : (bi j n).val - 2048 < 1024 := by show 2048 + 128 * (j.val / 256) + n.val - 2048 < 1024; omega
  refine (b3 m c t l (bi j n)).trans ((V_v3 m c (row t.val l) (bi j n)).trans ((dif_neg hj).trans ((dif_pos hk).trans ?_)))
  exact congrArg (bA m c (row t.val l)) (Fin.ext (by show 2048 + 128 * (j.val / 256) + n.val - 2048 = 128 * (j.val / 256) + n.val; omega))
theorem b3c (t : Fin cfg0.N) (l : Fin 64) (j : Fin 2048) (n : Fin 128) :
    (iblk m c 3 t : Vec Ideal S64x4096 .f32) (ix2 l (ci j n)) = cA m c (row t.val l) (gi j n) := by
  have hj : ¬(ci j n).val < 2048 := by show ¬(3072 + 128 * (j.val / 256) + n.val < 2048); omega
  have hk : ¬(ci j n).val - 2048 < 1024 := by show ¬(3072 + 128 * (j.val / 256) + n.val - 2048 < 1024); omega
  refine (b3 m c t l (ci j n)).trans ((V_v3 m c (row t.val l) (ci j n)).trans ((dif_neg hj).trans ((dif_neg hk).trans ?_)))
  exact congrArg (cA m c (row t.val l)) (Fin.ext (by show 3072 + 128 * (j.val / 256) + n.val - 2048 - 1024 = 128 * (j.val / 256) + n.val; omega))

end Blocks

end Cert.KernelSfwdIdeal.Whole

end
-- ==== Proof.ScanFold.lean ====
/-
  The recurrence's kernel: what the grid's fold leaves in the result arrays.
-/
module

public import proofs.«01_k».proof.Defs
public import proofs.«01_k».proof.Proof.ScanGrid
public import proofs.«01_k».proof.Proof.Gen.KernelSfwdIdeal
public import proofs.«01_k».proof.Proof.Gen.KernelSfwdIdeal.Frame
public import proofs.«01_k».proof.Proof.Gen.KernelSfwdIdeal.Value
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelSfwdIdeal.Whole

open Cert.KernelSfwdIdeal Cert.KernelSfwdIdeal.Gen Cert.KernelSfwdIdeal.Body Cert.KernelSfwdIdeal.Value Cert.Scan

section Fold

variable (m : (ℓ : Loc nD τ sig) → Buf (Elt Ideal) ℓ) (c : Dev nD)

abbrev Carry := Vec Ideal S64x1024 .f32 × Vec Ideal S64x2048 .f32 × Vec Ideal S1x512x256 .f32 × Vec Ideal S1x128x2048 .f32 × Vec Ideal S512x256 .f32 × Vec Ideal S128x2048 .f32

def sA (t : ℕ) : Vec Ideal S512x256 .f32 := stA (kA m c) (vA m c) t
def hA (t : ℕ) : Vec Ideal S128x2048 .f32 := htA (xA m c) (bA m c) (dtA m c) (aA m c) t
def yrA (t : ℕ) : Fin 64 → Fin 1024 → EReal := Yr (qA m c) (kA m c) (vA m c) t
def ysA (t : ℕ) : Fin 64 → Fin 2048 → EReal := Ys (xA m c) (bA m c) (cA m c) (dtA m c) (aA m c) t

/-- What point `t` leaves: the results' rows, the states at its entry, and the states it carries on. -/
def Inv (t : ℕ) (o : Carry) : Prop :=
  (∀ y, o.1 y = yrA m c t (y 0) (y 1)) ∧ (∀ y, o.2.1 y = ysA m c t (y 0) (y 1)) ∧ (∀ r e, o.2.2.1 (ix3 0 r e) = sA m c t (ix2 r e))
    ∧ (∀ n j, o.2.2.2.1 (ix3 0 n j) = hA m c t (ix2 n j)) ∧ o.2.2.2.2.1 = sA m c (t + 1) ∧ o.2.2.2.2.2 = hA m c (t + 1)

variable (t : Fin cfg0.N)

theorem yr_of : ∀ y, gYR (iblk m c 0 t) (iblk m c 1 t) (iblk m c 2 t) (iblk m c 6 t) (iblk m c 7 t) (sA m c t.val) y = yrA m c t.val (y 0) (y 1) :=
  gYR_step (qA m c) (kA m c) (vA m c) t.val _ _ _ _ _ (b0 m c t) (b1 m c t) (b2 m c t) (b6 m c t) (b7 m c t)
theorem sr_of : gSR (iblk m c 1 t) (iblk m c 2 t) (iblk m c 8 t) (iblk m c 9 t) (sA m c t.val) = sA m c (t.val + 1) :=
  gSR_step (kA m c) (vA m c) t.val _ _ _ _ (b1 m c t) (b2 m c t) (b8 m c t) (b9 m c t)
theorem ys_of : ∀ y, gYS (iblk m c 3 t) (hA m c t.val) (fun l e => dtA m c (row t.val l) e) (aA m c) y = ysA m c t.val (y 0) (y 1) :=
  gYS_step (xA m c) (bA m c) (cA m c) (dtA m c) (aA m c) t.val _ (b3x m c t) (b3b m c t) (b3c m c t)
theorem hs_of : gHS (iblk m c 3 t) (hA m c t.val) (fun l e => dtA m c (row t.val l) e) (aA m c) = hA m c (t.val + 1) :=
  gHS_step (xA m c) (bA m c) (dtA m c) (aA m c) t.val _ (b3x m c t) (b3b m c t)

/-- The six components of what point `t` leaves, from states equal to those at the chunk's entry. -/
theorem inv_mk (s : Vec Ideal S512x256 .f32) (u : Vec Ideal S128x2048 .f32) (hs : s = sA m c t.val) (hu : u = hA m c t.val) (o1 o2 o3 o4 o5 o6)
    (e1 : o1 = gYR (iblk m c 0 t) (iblk m c 1 t) (iblk m c 2 t) (iblk m c 6 t) (iblk m c 7 t) s)
    (e2 : o2 = gYS (iblk m c 3 t) u (fun l e => dtA m c (row t.val l) e) (aA m c))
    (e3 : ∀ r e, o3 (ix3 0 r e) = s (ix2 r e)) (e4 : ∀ r e, o4 (ix3 0 r e) = u (ix2 r e))
    (e5 : o5 = gSR (iblk m c 1 t) (iblk m c 2 t) (iblk m c 8 t) (iblk m c 9 t) s)
    (e6 : o6 = gHS (iblk m c 3 t) u (fun l e => dtA m c (row t.val l) e) (aA m c)) : Inv m c t.val (o1, o2, o3, o4, o5, o6) := by
  subst hs hu e1 e2 e5 e6
  exact ⟨yr_of m c t, ys_of m c t, e3, e4, sr_of m c t, hs_of m c t⟩

theorem stepB (h0 : ¬t.val % 64 = 0) (acc : Carry) (hs : acc.2.2.2.2.1 = sA m c t.val) (hh : acc.2.2.2.2.2 = hA m c t.val) : Inv m c t.val (stAt0 m c t.val t.isLt acc) := by
  rw [stAt0_B m c t acc h0]
  exact inv_mk m c t _ _ hs hh _ _ _ _ _ _
    (B12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2 (fun h => h0 ((hcond0_0 t).mp h)))
    (B13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2 (fun l e => dtA m c (row t.val l) e) (aA m c) (b10 m c t) (b11 m c t) (b4 m c t) (b5 m c t) (fun h => h0 ((hcond0_0 t).mp h)))
    (B14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2 (fun h => h0 ((hcond0_0 t).mp h)))
    (B15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2 (fun h => h0 ((hcond0_0 t).mp h)))
    (Bs0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2 (fun h => h0 ((hcond0_0 t).mp h)))
    (Bs1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2 (fun l e => dtA m c (row t.val l) e) (aA m c) (b4 m c t) (b5 m c t) (fun h => h0 ((hcond0_0 t).mp h)))

theorem stepA (h0 : t.val % 64 = 0) (acc : Carry) (ht : t.val = 0) : Inv m c t.val (stAt0 m c t.val t.isLt acc) := by
  have hs : k0_pay2 (F := Ideal) = sA m c t.val := by rw [ht]; exact pay2_zero (kA m c) (vA m c)
  have hh : k0_pay3 (F := Ideal) = hA m c t.val := by rw [ht]; exact pay3_zero (xA m c) (bA m c) (dtA m c) (aA m c)
  rw [stAt0_A m c t acc h0]
  exact inv_mk m c t _ _ hs hh _ _ _ _ _ _
    (A12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0))
    (A13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun l e => dtA m c (row t.val l) e) (aA m c) (b10 m c t) (b11 m c t) (b4 m c t) (b5 m c t) ((hcond0_0 t).mpr h0))
    (A14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0))
    (A15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0))
    (As0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0))
    (As1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun l e => dtA m c (row t.val l) e) (aA m c) (b4 m c t) (b5 m c t) ((hcond0_0 t).mpr h0))

theorem inv_all : ∀ (n : ℕ) (hn : n < cfg0.N), Inv m c n (outsAt0 m c n hn)
  | 0, hn => by
    rw [outsAt0_zero]
    exact stepA m c ⟨0, hn⟩ (Nat.zero_mod _) _ rfl
  | n + 1, hn => by
    have ih := inv_all n (Nat.lt_of_succ_lt hn)
    rw [outsAt0_succ]
    exact stepB m c ⟨n + 1, hn⟩ (by have := lt_of_lt_of_eq hn (show cfg0.N = 64 from N_0); show ¬(n + 1) % 64 = 0; omega) _ ih.2.2.2.2.1 ih.2.2.2.2.2

theorem lt_N (n : ℕ) (h : n < 64) : n < cfg0.N := lt_of_lt_of_eq h (show 64 = cfg0.N from N_0.symm)

theorem fold_inv (n n' : ℕ) (h : n < cfg0.N) (h') (e : n' = n) :
    Inv m c n (Pipeline.accAt (fun n h => stAt0 m c n h junk0) (stAt0 m c) 0 n' h') := by
  subst e
  exact outsAt0_sweep m c n' h ▸ inv_all m c n' h

/-- A row's chunk and its place in the chunk. -/
def lo (r : Fin 4096) : Fin 64 := ⟨r.val % 64, by omega⟩

theorem G12_eq (r : Fin 4096) (j : Fin 1024) : (G12 m c : Vec Ideal S4096x1024 .f32) (ix2 r j) = yrA m c (r.val / 64) (lo r) j := by
  have hp : pt12Of (ix2 r j) = r.val / 64 := by show 1 * (r.val / 64 - 0) + 1 * (j.val / 1024 - 0) = r.val / 64; omega
  have hlt : r.val / 64 < cfg0.N := lt_N _ (by omega)
  refine (dif_pos (hp ▸ hlt)).trans (((fold_inv m c (r.val / 64) _ hlt _ hp).1 _).trans ?_)
  exact congrArg (yrA m c (r.val / 64) (lo r)) (Fin.ext (by show j.val % 1024 = j.val; omega))
theorem G13_eq (r : Fin 4096) (j : Fin 2048) : (G13 m c : Vec Ideal S4096x2048 .f32) (ix2 r j) = ysA m c (r.val / 64) (lo r) j := by
  have hp : pt13Of (ix2 r j) = r.val / 64 := by show 1 * (r.val / 64 - 0) + 1 * (j.val / 2048 - 0) = r.val / 64; omega
  have hlt : r.val / 64 < cfg0.N := lt_N _ (by omega)
  refine (dif_pos (hp ▸ hlt)).trans (((fold_inv m c (r.val / 64) _ hlt _ hp).2.1 _).trans ?_)
  exact congrArg (ysA m c (r.val / 64) (lo r)) (Fin.ext (by show j.val % 2048 = j.val; omega))
theorem G14_eq (t : Fin 64) (r : Fin 512) (e : Fin 256) : (G14 m c : Vec Ideal S64x512x256 .f32) (ix3 t r e) = sA m c t.val (ix2 r e) := by
  have hp : pt14Of (ix3 t r e) = t.val := by show 1 * (t.val / 1 - 0) + 1 * (r.val / 512 - 0) + 1 * (e.val / 256 - 0) = t.val; omega
  have hl : loc14Of (ix3 t r e) = ix3 0 r e := by
    funext a
    apply Fin.ext
    match a with
    | ⟨0, _⟩ => show t.val % 1 = 0; omega
    | ⟨1, _⟩ => show r.val % 512 = r.val; omega
    | ⟨2, _⟩ => show e.val % 256 = e.val; omega
  have hlt : t.val < cfg0.N := lt_N _ t.isLt
  exact (dif_pos (hp ▸ hlt)).trans ((congrArg _ hl).trans ((fold_inv m c t.val _ hlt _ hp).2.2.1 r e))
theorem G15_eq (t : Fin 64) (r : Fin 128) (e : Fin 2048) : (G15 m c : Vec Ideal S64x128x2048 .f32) (ix3 t r e) = hA m c t.val (ix2 r e) := by
  have hp : pt15Of (ix3 t r e) = t.val := by show 1 * (t.val / 1 - 0) + 1 * (r.val / 128 - 0) + 1 * (e.val / 2048 - 0) = t.val; omega
  have hl : loc15Of (ix3 t r e) = ix3 0 r e := by
    funext a
    apply Fin.ext
    match a with
    | ⟨0, _⟩ => show t.val % 1 = 0; omega
    | ⟨1, _⟩ => show r.val % 128 = r.val; omega
    | ⟨2, _⟩ => show e.val % 2048 = e.val; omega
  have hlt : t.val < cfg0.N := lt_N _ t.isLt
  exact (dif_pos (hp ▸ hlt)).trans ((congrArg _ hl).trans ((fold_inv m c t.val _ hlt _ hp).2.2.2.1 r e))

end Fold

end Cert.KernelSfwdIdeal.Whole

end
-- ==== Proof.ScanRef.lean ====
/-
  The recurrence as the reference writes it, one chunk: its values at an index.
-/
module

public import proofs.«01_k».proof.Proof.ScanMath
public import proofs.«01_k».proof.Proof.Gen.ReferenceSfwdIdeal
public import Idealize.ShloMosaic.Lib.Pointwise

@[expose] public section

set_option maxRecDepth 16384

noncomputable section

open Idealize.ShloMosaic Idealize.ShloMosaic.TcCoe Idealize.SL.Sem

namespace Cert.ReferenceSfwdIdeal.Body

open Cert.ReferenceSfwdIdeal Cert.ReferenceSfwdIdeal.Gen Cert.Scan

/-- The positions of a window of 64 rows. -/
def winIdx : Fin 64 ≃ (⟨3, ![64, 1, 1]⟩ : Shape).Idx where
  toFun n := ix3 n 0 0
  invFun i := i 0
  left_inv n := rfl
  right_inv i := by
    funext a
    match a with
    | ⟨0, _⟩ => rfl
    | ⟨1, _⟩ => exact Subsingleton.elim (α := Fin 1) _ _
    | ⟨2, _⟩ => exact Subsingleton.elim (α := Fin 1) _ _

theorem cum_apply (x : FVec Ideal S64x8x4 .f32) (z : FVec Ideal S_ .f32) (hz : z (Shape.Idx.first h_S_) = 0)
    (l : Fin 64) (g : Fin 8) (i : Fin 4) :
    Host.reduceWindowAdd ![64, 1, 1] ![1, 1, 1] ![63, 0, 0] ![0, 0, 0] x z reduceWindows_S64x8x4_S64x8x4_w64s1p63_0_w1s1p0_0_w1s1p0_0 h_S_ (ix3 l g i)
    = cumS (fun m => x (ix3 m g i)) l := by
  show Host.reduceWindow (· + ·) ![64, 1, 1] ![1, 1, 1] ![63, 0, 0] ![0, 0, 0] x (fun _ : (⟨0, ![]⟩ : Shape).Idx => z (Shape.Idx.first h_S_)) reduceWindows_S64x8x4_S64x8x4_w64s1p63_0_w1s1p0_0_w1s1p0_0 (by decide) (ix3 l g i) = _
  rw [hz]
  unfold Host.reduceWindow
  dsimp only
  refine (foldl_add (ι := Fin (⟨3, ![64, 1, 1]⟩ : Shape).numel) _ _ _).trans ?_
  rw [zero_add, ← Fin.sum_univ_def, ← slide]
  refine ((Equiv.sum_comp (winIdx.trans (⟨3, ![64, 1, 1]⟩ : Shape).rowMajor) _).symm).trans (Finset.sum_congr rfl fun n _ => ?_)
  have e : (⟨3, ![64, 1, 1]⟩ : Shape).rowMajor.symm ((winIdx.trans (⟨3, ![64, 1, 1]⟩ : Shape).rowMajor) n) = ix3 n 0 0 :=
    Equiv.symm_apply_apply _ _
  have hp : ∀ a : Fin 3, (((ix3 l g i : S64x8x4.Idx) a).val * (![1, 1, 1] : Fin 3 → ℕ) a + ((⟨3, ![64, 1, 1]⟩ : Shape).rowMajor.symm ((winIdx.trans (⟨3, ![64, 1, 1]⟩ : Shape).rowMajor) n) a).val)
      = (![l.val + n.val, g.val, i.val] : Fin 3 → ℕ) a := by
    intro a
    rw [e]
    match a with
    | ⟨0, _⟩ => exact congrArg (· + n.val) (Nat.mul_one _)
    | ⟨1, _⟩ => exact Nat.mul_one _
    | ⟨2, _⟩ => exact Nat.mul_one _
  by_cases h : 63 ≤ l.val + n.val ∧ l.val + n.val - 63 < 64
  · rw [dif_pos h]
    refine (dif_pos ?_).trans (congrArg x (funext fun a => Fin.ext ?_))
    · intro a
      match a with
      | ⟨0, _⟩ => exact (hp 0).symm ▸ h
      | ⟨1, _⟩ => exact (hp 1).symm ▸ ⟨Nat.zero_le _, g.isLt⟩
      | ⟨2, _⟩ => exact (hp 2).symm ▸ ⟨Nat.zero_le _, i.isLt⟩
    · match a with
      | ⟨0, _⟩ => exact congrArg (· - 63) (hp 0)
      | ⟨1, _⟩ => exact congrArg (· - 0) (hp 1)
      | ⟨2, _⟩ => exact congrArg (· - 0) (hp 2)
  · rw [dif_neg h]
    refine dif_neg fun k => h ?_
    exact ⟨Eq.mp (congrArg (fun y => 63 ≤ y) (hp 0)) (k 0).1, Eq.mp (congrArg (fun y => y - 63 < 64) (hp 0)) (k 0).2⟩

section Steps

variable (q k : FVec Ideal S64x4x128 .f32) (v : FVec Ideal S64x4x256 .f32) (mask : FVec Ideal S4x64x64 .f32) (s : FVec Ideal S4x128x256 .f32)
  (qd kd : FVec Ideal S64x4x1 .f32) (dec : FVec Ideal S4 .f32)

theorem rY1 (w : FVec Ideal S4x64x64 .f32) (l : Fin 64) (h : Fin 4) (e : Fin 256) :
    transpose S64x4x256 [2, 0, 1] (Host.dotGeneral dot_S64x4x256_S4x64x64_S4x256x64_0_2_2_1_1_0 none v w) transposes_S4x256x64_S64x4x256_2_0_1 (ix3 l h e)
    = ∑ m : Fin 64, v (ix3 m h e) * w (ix3 h l m) := by
  pointwise []

theorem rY2 (l m : Fin 64) (h : Fin 4) :
    mulf (Host.dotGeneral dot_S64x4x128_S64x4x128_S4x64x64_2_2_0_0_1_1 none q k) mask (ix3 h l m)
    = (∑ n : Fin 128, q (ix3 l h n) * k (ix3 m h n)) * mask (ix3 h l m) := by
  pointwise []

theorem rY3 (l : Fin 64) (h : Fin 4) (e : Fin 256) :
    transpose S64x4x256 [2, 0, 1] (Host.dotGeneral dot_S4x128x256_S64x4x128_S4x256x64_1_2_2_0_0_1 none s (mulf q (broadcastInDim S64x4x128 ![0, 1, 2] bcast_S64x4x1_S64x4x128_0_1_2 qd))) transposes_S4x256x64_S64x4x256_2_0_1 (ix3 l h e)
    = ∑ n : Fin 128, s (ix3 h n e) * (q (ix3 l h n) * qd (ix3 l h 0)) := by
  pointwise []

theorem rS (h : Fin 4) (n : Fin 128) (e : Fin 256) :
    addf (mulf s (broadcastInDim S4x128x256 ![0, 1, 2] bcast_S4x1x1_S4x128x256_0_1_2 (broadcastInDim S4x1x1 ![0] bcast_S4_S4x1x1_0 dec))) (Host.dotGeneral dot_S64x4x128_S64x4x256_S4x128x256_0_0_2_2_1_1 none (mulf k (broadcastInDim S64x4x128 ![0, 1, 2] bcast_S64x4x1_S64x4x128_0_1_2 kd)) v) (ix3 h n e)
    = s (ix3 h n e) * dec (ix1 h) + ∑ m : Fin 64, k (ix3 m h n) * kd (ix3 m h 0) * v (ix3 m h e) := by
  pointwise []

variable (xb xs : FVec Ideal S64x8x4x64 .f32) (dt cum : FVec Ideal S64x8x4 .f32) (b c : FVec Ideal S64x8x128 .f32) (hs : FVec Ideal S8x4x64x128 .f32)
  (ct : FVec Ideal S8x4x64 .f32) (last : FVec Ideal S8x4 .f32)

theorem rX (l : Fin 64) (g : Fin 8) (i : Fin 4) (p : Fin 64) :
    mulf xs (broadcastInDim S64x8x4x64 ![0, 1, 2, 3] bcast_S64x8x4x1_S64x8x4x64_0_1_2_3 (broadcastInDim S64x8x4x1 ![0, 1, 2] bcast_S64x8x4_S64x8x4x1_0_1_2 dt)) (ix4 l g i p)
    = xs (ix4 l g i p) * dt (ix3 l g i) := by
  pointwise []

theorem rY4 (w : FVec Ideal S8x4x64x64 .f32) (l : Fin 64) (g : Fin 8) (i : Fin 4) (p : Fin 64) :
    transpose S64x8x4x64 [3, 0, 1, 2] (Host.dotGeneral dot_S64x8x4x64_S8x4x64x64_S8x4x64x64_0_3_3_2_12_01 none xb w) transposes_S8x4x64x64_S64x8x4x64_3_0_1_2 (ix4 l g i p)
    = ∑ m : Fin 64, xb (ix4 m g i p) * w (ix4 g i l m) := by
  pointwise []

theorem rY5 (l m : Fin 64) (g : Fin 8) (i : Fin 4) :
    broadcastInDim S8x4x64x64 ![0, 1, 2, 3] bcast_S8x1x64x64_S8x4x64x64_0_1_2_3 (broadcastInDim S8x1x64x64 ![0, 2, 3] bcast_S8x64x64_S8x1x64x64_0_2_3 (Host.dotGeneral dot_S64x8x128_S64x8x128_S8x64x64_2_2_0_0_1_1 none c b : FVec Ideal S8x64x64 .f32)) (ix4 g i l m)
    = ∑ n : Fin 128, c (ix3 l g n) * b (ix3 m g n) := by
  pointwise []

theorem rY6 (l m : Fin 64) (g : Fin 8) (i : Fin 4) :
    Host.exp (Host.negf (Host.absf (subf (broadcastInDim S8x4x64x64 ![0, 1, 2, 3] bcast_S8x4x64x1_S8x4x64x64_0_1_2_3 (broadcastInDim S8x4x64x1 ![0, 1, 2] bcast_S8x4x64_S8x4x64x1_0_1_2 ct)) (broadcastInDim S8x4x64x64 ![0, 1, 2, 3] bcast_S8x4x1x64_S8x4x64x64_0_1_2_3 (broadcastInDim S8x4x1x64 ![0, 1, 3] bcast_S8x4x64_S8x4x1x64_0_1_3 ct))))) (ix4 g i l m)
    = Ideal.exp (- FloatOps.absf (F := Ideal) (φ := .f32) (ct (ix3 g i l) - ct (ix3 g i m))) := by
  pointwise []

theorem rY7 (l : Fin 64) (g : Fin 8) (i : Fin 4) (p : Fin 64) :
    mulf (transpose S64x8x4x64 [3, 0, 1, 2] (Host.dotGeneral dot_S8x4x64x128_S64x8x128_S8x4x64x64_3_2_12_0_0_1 none hs c) transposes_S8x4x64x64_S64x8x4x64_3_0_1_2) (broadcastInDim S64x8x4x64 ![0, 1, 2, 3] bcast_S64x8x4x1_S64x8x4x64_0_1_2_3 (broadcastInDim S64x8x4x1 ![0, 1, 2] bcast_S64x8x4_S64x8x4x1_0_1_2 (Host.exp cum))) (ix4 l g i p)
    = (∑ n : Fin 128, hs (ix4 g i p n) * c (ix3 l g n)) * Ideal.exp (cum (ix3 l g i)) := by
  pointwise []

theorem rH1 (g : Fin 8) (i : Fin 4) (p : Fin 64) (n : Fin 128) :
    mulf hs (broadcastInDim S8x4x64x128 ![0, 1, 2, 3] bcast_S8x4x1x1_S8x4x64x128_0_1_2_3 (broadcastInDim S8x4x1x1 ![0, 1] bcast_S8x4_S8x4x1x1_0_1 (Host.exp last))) (ix4 g i p n)
    = hs (ix4 g i p n) * Ideal.exp (last (ix2 g i)) := by
  pointwise []

theorem rH2 (g : Fin 8) (i : Fin 4) (p : Fin 64) (n : Fin 128) :
    (Host.dotGeneral dot_S64x8x4x64_S64x8x128_S8x4x64x128_0_0_23_2_1_1 none xb b : FVec Ideal S8x4x64x128 .f32) (ix4 g i p n)
    = ∑ m : Fin 64, xb (ix4 m g i p) * b (ix3 m g n) := by
  pointwise []

theorem rH3 (m : Fin 64) (g : Fin 8) (i : Fin 4) (p : Fin 64) :
    mulf xb (broadcastInDim S64x8x4x64 ![0, 1, 2, 3] bcast_S64x8x4x1_S64x8x4x64_0_1_2_3 (broadcastInDim S64x8x4x1 ![0, 1, 2] bcast_S64x8x4_S64x8x4x1_0_1_2 (Host.exp (subf (broadcastInDim S64x8x4 ![0, 1, 2] bcast_S1x8x4_S64x8x4_0_1_2 (broadcastInDim S1x8x4 ![1, 2] bcast_S8x4_S1x8x4_1_2 last)) cum)))) (ix4 m g i p)
    = xb (ix4 m g i p) * Ideal.exp (last (ix2 g i) - cum (ix3 m g i)) := by
  pointwise []

theorem rL (g : Fin 8) (i : Fin 4) :
    shapeCast S8x4 (extractStridedSlice S1x8x4 ![63, 0, 0] cum slices_S64x8x4_S1x8x4_63_0_0) shapeCasts_S1x8x4_S8x4 (ix2 g i) = cum (ix3 63 g i) := by
  pointwise []

theorem rT (g : Fin 8) (i : Fin 4) (l : Fin 64) : transpose S8x4x64 [1, 2, 0] cum transposes_S64x8x4_S8x4x64_1_2_0 (ix3 g i l) = cum (ix3 l g i) := by
  pointwise []

theorem rW (a : FVec Ideal S8x4 .f32) (l : Fin 64) (g : Fin 8) (i : Fin 4) :
    mulf dt (broadcastInDim S64x8x4 ![0, 1, 2] bcast_S1x8x4_S64x8x4_0_1_2 (broadcastInDim S1x8x4 ![1, 2] bcast_S8x4_S1x8x4_1_2 a)) (ix3 l g i)
    = dt (ix3 l g i) * a (ix2 g i) := by
  pointwise []

end Steps

section Chunks

variable {α : Type} {A B C D : ℕ} (k : Fin 64)

/-! Reading chunk `k` of an array, and writing it. -/

theorem ds4 (x : (⟨4, ![64, A, B, C]⟩ : Shape).Idx → α) (st : Fin 4 → Int) (h0 : st 0 = (k.val : Int)) (h1 : st 1 = 0) (h2 : st 2 = 0) (h3 : st 3 = 0)
    (hs : (⟨4, ![64, A, B, C]⟩ : Shape).Slices (fun _ => 0) (⟨4, ![1, A, B, C]⟩ : Shape)) (z : Fin 1) (a : Fin A) (b : Fin B) (c : Fin C) :
    Host.dynamicSlice (⟨4, ![1, A, B, C]⟩ : Shape) x st hs (ix4 z a b c) = x (ix4 k a b c) := by
  rw [Host.dynamicSlice_apply]
  refine congrArg x (funext fun q => Fin.ext ?_)
  have hk := k.isLt
  match q with
  | ⟨0, _⟩ => exact (congrArg₂ (· + ·) (Host.clampedStart_of_le hs.1 st 0 k.val h0 (by show k.val + 1 ≤ 64; omega)) (by show z.val = 0; omega)).trans (Nat.add_zero _)
  | ⟨1, _⟩ => exact (congrArg (· + a.val) (Host.clampedStart_of_le hs.1 st 1 0 h1 (by show 0 + A ≤ A; omega))).trans (Nat.zero_add _)
  | ⟨2, _⟩ => exact (congrArg (· + b.val) (Host.clampedStart_of_le hs.1 st 2 0 h2 (by show 0 + B ≤ B; omega))).trans (Nat.zero_add _)
  | ⟨3, _⟩ => exact (congrArg (· + c.val) (Host.clampedStart_of_le hs.1 st 3 0 h3 (by show 0 + C ≤ C; omega))).trans (Nat.zero_add _)

theorem du4 (x : (⟨4, ![64, A, B, C]⟩ : Shape).Idx → α) (u : (⟨4, ![1, A, B, C]⟩ : Shape).Idx → α) (st : Fin 4 → Int) (h0 : st 0 = (k.val : Int)) (h1 : st 1 = 0) (h2 : st 2 = 0) (h3 : st 3 = 0)
    (hs : (⟨4, ![64, A, B, C]⟩ : Shape).Slices (fun _ => 0) (⟨4, ![1, A, B, C]⟩ : Shape)) (t : Fin 64) (a : Fin A) (b : Fin B) (c : Fin C) :
    Host.dynamicUpdateSlice x u st hs (ix4 t a b c) = if t = k then u (ix4 0 a b c) else x (ix4 t a b c) := by
  have hk := k.isLt
  have e0 : Host.clampedStart (⟨4, ![64, A, B, C]⟩ : Shape) (⟨4, ![1, A, B, C]⟩ : Shape) hs.1 st 0 = k.val := Host.clampedStart_of_le hs.1 st 0 k.val h0 (by show k.val + 1 ≤ 64; omega)
  have e1 : Host.clampedStart (⟨4, ![64, A, B, C]⟩ : Shape) (⟨4, ![1, A, B, C]⟩ : Shape) hs.1 st 1 = 0 := Host.clampedStart_of_le hs.1 st 1 0 h1 (by show 0 + A ≤ A; omega)
  have e2 : Host.clampedStart (⟨4, ![64, A, B, C]⟩ : Shape) (⟨4, ![1, A, B, C]⟩ : Shape) hs.1 st 2 = 0 := Host.clampedStart_of_le hs.1 st 2 0 h2 (by show 0 + B ≤ B; omega)
  have e3 : Host.clampedStart (⟨4, ![64, A, B, C]⟩ : Shape) (⟨4, ![1, A, B, C]⟩ : Shape) hs.1 st 3 = 0 := Host.clampedStart_of_le hs.1 st 3 0 h3 (by show 0 + C ≤ C; omega)
  rw [Host.dynamicUpdateSlice_apply]
  by_cases h : t = k
  · rw [if_pos h]
    refine (dif_pos ?_).trans (congrArg u (funext fun q => Fin.ext ?_))
    · intro q
      match q with
      | ⟨0, _⟩ => exact ⟨(e0.trans (congrArg Fin.val h.symm)).le, Nat.lt_of_lt_of_eq (Nat.lt_succ_self t.val) (congrArg (· + 1) ((congrArg Fin.val h).trans e0.symm))⟩
      | ⟨1, _⟩ => exact ⟨e1.le.trans (Nat.zero_le _), Nat.lt_of_lt_of_eq a.isLt ((Nat.zero_add _).symm.trans (congrArg (· + A) e1.symm))⟩
      | ⟨2, _⟩ => exact ⟨e2.le.trans (Nat.zero_le _), Nat.lt_of_lt_of_eq b.isLt ((Nat.zero_add _).symm.trans (congrArg (· + B) e2.symm))⟩
      | ⟨3, _⟩ => exact ⟨e3.le.trans (Nat.zero_le _), Nat.lt_of_lt_of_eq c.isLt ((Nat.zero_add _).symm.trans (congrArg (· + C) e3.symm))⟩
    · match q with
      | ⟨0, _⟩ => exact Nat.sub_eq_zero_of_le ((congrArg Fin.val h).trans e0.symm).le
      | ⟨1, _⟩ => exact congrArg (a.val - ·) e1
      | ⟨2, _⟩ => exact congrArg (b.val - ·) e2
      | ⟨3, _⟩ => exact congrArg (c.val - ·) e3
  · rw [if_neg h]
    refine dif_neg fun w => h (Fin.ext ?_)
    have w0 : Host.clampedStart (⟨4, ![64, A, B, C]⟩ : Shape) (⟨4, ![1, A, B, C]⟩ : Shape) hs.1 st 0 ≤ t.val ∧ t.val < Host.clampedStart (⟨4, ![64, A, B, C]⟩ : Shape) (⟨4, ![1, A, B, C]⟩ : Shape) hs.1 st 0 + 1 := w 0
    rw [e0] at w0
    omega

theorem ds5 (x : (⟨5, ![64, A, B, C, D]⟩ : Shape).Idx → α) (st : Fin 5 → Int) (h0 : st 0 = (k.val : Int)) (h1 : st 1 = 0) (h2 : st 2 = 0) (h3 : st 3 = 0) (h4 : st 4 = 0)
    (hs : (⟨5, ![64, A, B, C, D]⟩ : Shape).Slices (fun _ => 0) (⟨5, ![1, A, B, C, D]⟩ : Shape)) (z : Fin 1) (a : Fin A) (b : Fin B) (c : Fin C) (d : Fin D) :
    Host.dynamicSlice (⟨5, ![1, A, B, C, D]⟩ : Shape) x st hs (ix5 z a b c d) = x (ix5 k a b c d) := by
  rw [Host.dynamicSlice_apply]
  refine congrArg x (funext fun q => Fin.ext ?_)
  have hk := k.isLt
  match q with
  | ⟨0, _⟩ => exact (congrArg₂ (· + ·) (Host.clampedStart_of_le hs.1 st 0 k.val h0 (by show k.val + 1 ≤ 64; omega)) (by show z.val = 0; omega)).trans (Nat.add_zero _)
  | ⟨1, _⟩ => exact (congrArg (· + a.val) (Host.clampedStart_of_le hs.1 st 1 0 h1 (by show 0 + A ≤ A; omega))).trans (Nat.zero_add _)
  | ⟨2, _⟩ => exact (congrArg (· + b.val) (Host.clampedStart_of_le hs.1 st 2 0 h2 (by show 0 + B ≤ B; omega))).trans (Nat.zero_add _)
  | ⟨3, _⟩ => exact (congrArg (· + c.val) (Host.clampedStart_of_le hs.1 st 3 0 h3 (by show 0 + C ≤ C; omega))).trans (Nat.zero_add _)
  | ⟨4, _⟩ => exact (congrArg (· + d.val) (Host.clampedStart_of_le hs.1 st 4 0 h4 (by show 0 + D ≤ D; omega))).trans (Nat.zero_add _)

theorem du5 (x : (⟨5, ![64, A, B, C, D]⟩ : Shape).Idx → α) (u : (⟨5, ![1, A, B, C, D]⟩ : Shape).Idx → α) (st : Fin 5 → Int) (h0 : st 0 = (k.val : Int)) (h1 : st 1 = 0) (h2 : st 2 = 0) (h3 : st 3 = 0) (h4 : st 4 = 0)
    (hs : (⟨5, ![64, A, B, C, D]⟩ : Shape).Slices (fun _ => 0) (⟨5, ![1, A, B, C, D]⟩ : Shape)) (t : Fin 64) (a : Fin A) (b : Fin B) (c : Fin C) (d : Fin D) :
    Host.dynamicUpdateSlice x u st hs (ix5 t a b c d) = if t = k then u (ix5 0 a b c d) else x (ix5 t a b c d) := by
  have hk := k.isLt
  have e0 : Host.clampedStart (⟨5, ![64, A, B, C, D]⟩ : Shape) (⟨5, ![1, A, B, C, D]⟩ : Shape) hs.1 st 0 = k.val := Host.clampedStart_of_le hs.1 st 0 k.val h0 (by show k.val + 1 ≤ 64; omega)
  have e1 : Host.clampedStart (⟨5, ![64, A, B, C, D]⟩ : Shape) (⟨5, ![1, A, B, C, D]⟩ : Shape) hs.1 st 1 = 0 := Host.clampedStart_of_le hs.1 st 1 0 h1 (by show 0 + A ≤ A; omega)
  have e2 : Host.clampedStart (⟨5, ![64, A, B, C, D]⟩ : Shape) (⟨5, ![1, A, B, C, D]⟩ : Shape) hs.1 st 2 = 0 := Host.clampedStart_of_le hs.1 st 2 0 h2 (by show 0 + B ≤ B; omega)
  have e3 : Host.clampedStart (⟨5, ![64, A, B, C, D]⟩ : Shape) (⟨5, ![1, A, B, C, D]⟩ : Shape) hs.1 st 3 = 0 := Host.clampedStart_of_le hs.1 st 3 0 h3 (by show 0 + C ≤ C; omega)
  have e4 : Host.clampedStart (⟨5, ![64, A, B, C, D]⟩ : Shape) (⟨5, ![1, A, B, C, D]⟩ : Shape) hs.1 st 4 = 0 := Host.clampedStart_of_le hs.1 st 4 0 h4 (by show 0 + D ≤ D; omega)
  rw [Host.dynamicUpdateSlice_apply]
  by_cases h : t = k
  · rw [if_pos h]
    refine (dif_pos ?_).trans (congrArg u (funext fun q => Fin.ext ?_))
    · intro q
      match q with
      | ⟨0, _⟩ => exact ⟨(e0.trans (congrArg Fin.val h.symm)).le, Nat.lt_of_lt_of_eq (Nat.lt_succ_self t.val) (congrArg (· + 1) ((congrArg Fin.val h).trans e0.symm))⟩
      | ⟨1, _⟩ => exact ⟨e1.le.trans (Nat.zero_le _), Nat.lt_of_lt_of_eq a.isLt ((Nat.zero_add _).symm.trans (congrArg (· + A) e1.symm))⟩
      | ⟨2, _⟩ => exact ⟨e2.le.trans (Nat.zero_le _), Nat.lt_of_lt_of_eq b.isLt ((Nat.zero_add _).symm.trans (congrArg (· + B) e2.symm))⟩
      | ⟨3, _⟩ => exact ⟨e3.le.trans (Nat.zero_le _), Nat.lt_of_lt_of_eq c.isLt ((Nat.zero_add _).symm.trans (congrArg (· + C) e3.symm))⟩
      | ⟨4, _⟩ => exact ⟨e4.le.trans (Nat.zero_le _), Nat.lt_of_lt_of_eq d.isLt ((Nat.zero_add _).symm.trans (congrArg (· + D) e4.symm))⟩
    · match q with
      | ⟨0, _⟩ => exact Nat.sub_eq_zero_of_le ((congrArg Fin.val h).trans e0.symm).le
      | ⟨1, _⟩ => exact congrArg (a.val - ·) e1
      | ⟨2, _⟩ => exact congrArg (b.val - ·) e2
      | ⟨3, _⟩ => exact congrArg (c.val - ·) e3
      | ⟨4, _⟩ => exact congrArg (d.val - ·) e4
  · rw [if_neg h]
    refine dif_neg fun w => h (Fin.ext ?_)
    have w0 : Host.clampedStart (⟨5, ![64, A, B, C, D]⟩ : Shape) (⟨5, ![1, A, B, C, D]⟩ : Shape) hs.1 st 0 ≤ t.val ∧ t.val < Host.clampedStart (⟨5, ![64, A, B, C, D]⟩ : Shape) (⟨5, ![1, A, B, C, D]⟩ : Shape) hs.1 st 0 + 1 := w 0
    rw [e0] at w0
    omega

end Chunks

end Cert.ReferenceSfwdIdeal.Body
end
-- ==== Proof.ScanTrip.lean ====
/-
  The recurrence's reference: what one trip of its loop makes of the carried buffers.
-/
module

public import proofs.«01_k».proof.Defs
public import proofs.«01_k».proof.Proof.ScanRef
public import proofs.«01_k».proof.Proof.Gen.ReferenceSfwdIdeal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceSfwdIdeal.Body

open Cert.ReferenceSfwdIdeal Cert.ReferenceSfwdIdeal.Value Cert.Scan

/-! Columns by head. -/

def qc (h : Fin 4) (n : Fin 128) : Fin 512 := ⟨128 * h.val + n.val, by omega⟩
def vc (h : Fin 4) (e : Fin 256) : Fin 1024 := ⟨256 * h.val + e.val, by omega⟩
def jc (g : Fin 8) (i : Fin 4) (p : Fin 64) : Fin 2048 := ⟨256 * g.val + 64 * i.val + p.val, by omega⟩
def gc (g : Fin 8) (n : Fin 128) : Fin 1024 := ⟨128 * g.val + n.val, by omega⟩
def hc (g : Fin 8) (i : Fin 4) : Fin 32 := ⟨4 * g.val + i.val, by omega⟩

theorem vi_qc (h : Fin 4) (n : Fin 128) (e : Fin 256) : vi (qc h n) e = vc h e := Fin.ext (by show 256 * ((128 * h.val + n.val) / 128) + e.val = 256 * h.val + e.val; omega)
theorem qc_head (h : Fin 4) (n : Fin 128) : (qc h n).val / 128 = h.val := by show (128 * h.val + n.val) / 128 = h.val; omega
theorem qi_vc (h : Fin 4) (e : Fin 256) (n : Fin 128) : qi (vc h e) n = qc h n := Fin.ext (by show 128 * ((256 * h.val + e.val) / 256) + n.val = 128 * h.val + n.val; omega)
theorem ei_vc (h : Fin 4) (e : Fin 256) : ei (vc h e) = e := Fin.ext (by show (256 * h.val + e.val) % 256 = e.val; omega)
theorem vc_head (h : Fin 4) (e : Fin 256) : (vc h e).val / 256 = h.val := by show (256 * h.val + e.val) / 256 = h.val; omega
theorem gi_jc (g : Fin 8) (i : Fin 4) (p : Fin 64) (n : Fin 128) : gi (jc g i p) n = gc g n :=
  Fin.ext (by show 128 * ((256 * g.val + 64 * i.val + p.val) / 256) + n.val = 128 * g.val + n.val; omega)
theorem hh_jc (g : Fin 8) (i : Fin 4) (p : Fin 64) : hh (jc g i p) = hc g i :=
  Fin.ext (by show (256 * g.val + 64 * i.val + p.val) / 64 = 4 * g.val + i.val; omega)

/-! The carried buffers. -/

section Buffers

variable (V : Valuation τ sig (Elt Ideal))

def B0 : FVec Ideal S64x64x4x128 .f32 := V (Proc.devRef .tc main_v55_0)
def B1 : FVec Ideal S64x64x4x128 .f32 := V (Proc.devRef .tc main_v55_1)
def B2 : FVec Ideal S64x64x4x256 .f32 := V (Proc.devRef .tc main_v55_2)
def B3 : FVec Ideal S64x64x8x4x64 .f32 := V (Proc.devRef .tc main_v55_3)
def B4 : FVec Ideal S64x64x8x4 .f32 := V (Proc.devRef .tc main_v55_4)
def B5 : FVec Ideal S64x64x8x128 .f32 := V (Proc.devRef .tc main_v55_5)
def B6 : FVec Ideal S64x64x8x128 .f32 := V (Proc.devRef .tc main_v55_6)
def B7 : FVec Ideal S4x64x64 .f32 := V (Proc.devRef .tc main_v55_7)
def B8 : FVec Ideal S64x4x1 .f32 := V (Proc.devRef .tc main_v55_8)
def B9 : FVec Ideal S4 .f32 := V (Proc.devRef .tc main_v55_9)
def B10 : FVec Ideal S64x4x1 .f32 := V (Proc.devRef .tc main_v55_10)
def B11 : FVec Ideal S8x4 .f32 := V (Proc.devRef .tc main_v55_11)
def B13 : FVec Ideal S4x128x256 .f32 := V (Proc.devRef .tc main_v55_13)
def B14 : FVec Ideal S8x4x64x128 .f32 := V (Proc.devRef .tc main_v55_14)
def B15 : FVec Ideal S64x64x4x256 .f32 := V (Proc.devRef .tc main_v55_15)
def B16 : FVec Ideal S64x64x8x4x64 .f32 := V (Proc.devRef .tc main_v55_16)
def B17 : FVec Ideal S64x4x128x256 .f32 := V (Proc.devRef .tc main_v55_17)
def B18 : FVec Ideal S64x8x4x64x128 .f32 := V (Proc.devRef .tc main_v55_18)

end Buffers

section Trip

variable (V : Valuation τ sig (Elt Ideal)) (k : Fin 64) (hk : V (Proc.devRef .tc main_v55_12) = fun _ => BitVec.ofNat 32 k.val)

theorem num_int : ∀ k : Fin 64, (BitVec.ofNat 32 k.val).toInt = (k.val : Int) := by decide +kernel

theorem c644128 (x : FVec Ideal S1x64x4x128 .f32) (hh) (l : Fin 64) (h : Fin 4) (n : Fin 128) : shapeCast S64x4x128 x hh (ix3 l h n) = x (ix4 0 l h n) := by pointwise []
theorem c644256 (x : FVec Ideal S1x64x4x256 .f32) (hh) (l : Fin 64) (h : Fin 4) (n : Fin 256) : shapeCast S64x4x256 x hh (ix3 l h n) = x (ix4 0 l h n) := by pointwise []
theorem c6484 (x : FVec Ideal S1x64x8x4 .f32) (hh) (l : Fin 64) (h : Fin 8) (n : Fin 4) : shapeCast S64x8x4 x hh (ix3 l h n) = x (ix4 0 l h n) := by pointwise []
theorem c648128 (x : FVec Ideal S1x64x8x128 .f32) (hh) (l : Fin 64) (h : Fin 8) (n : Fin 128) : shapeCast S64x8x128 x hh (ix3 l h n) = x (ix4 0 l h n) := by pointwise []
theorem cx (x : FVec Ideal S1x64x8x4x64 .f32) (hh) (l : Fin 64) (g : Fin 8) (i : Fin 4) (p : Fin 64) : shapeCast S64x8x4x64 x hh (ix4 l g i p) = x (ix5 0 l g i p) := by pointwise []

include hk in
theorem q61 (l : Fin 64) (h : Fin 4) (n : Fin 128) : (res_main_while0b_v61 V : FVec Ideal S64x4x128 .f32) (ix3 l h n)
    = B0 V (ix4 k l h n) := by
  unfold res_main_while0b_v61
  refine (c644128 _ _ l h n).trans ?_
  refine ds4 k _ _ ?_ ?_ ?_ ?_ _ 0 l h n
  · show BitVec.toInt (V (Proc.devRef .tc main_v55_12) _) = _
    rw [hk]; exact num_int k
  all_goals rfl
include hk in
theorem k62 (l : Fin 64) (h : Fin 4) (n : Fin 128) : (res_main_while0b_v62 V : FVec Ideal S64x4x128 .f32) (ix3 l h n)
    = B1 V (ix4 k l h n) := by
  unfold res_main_while0b_v62
  refine (c644128 _ _ l h n).trans ?_
  refine ds4 k _ _ ?_ ?_ ?_ ?_ _ 0 l h n
  · show BitVec.toInt (V (Proc.devRef .tc main_v55_12) _) = _
    rw [hk]; exact num_int k
  all_goals rfl
include hk in
theorem v63 (l : Fin 64) (h : Fin 4) (n : Fin 256) : (res_main_while0b_v63 V : FVec Ideal S64x4x256 .f32) (ix3 l h n)
    = B2 V (ix4 k l h n) := by
  unfold res_main_while0b_v63
  refine (c644256 _ _ l h n).trans ?_
  refine ds4 k _ _ ?_ ?_ ?_ ?_ _ 0 l h n
  · show BitVec.toInt (V (Proc.devRef .tc main_v55_12) _) = _
    rw [hk]; exact num_int k
  all_goals rfl
include hk in
theorem dt65 (l : Fin 64) (h : Fin 8) (n : Fin 4) : (res_main_while0b_v65 V : FVec Ideal S64x8x4 .f32) (ix3 l h n)
    = B4 V (ix4 k l h n) := by
  unfold res_main_while0b_v65
  refine (c6484 _ _ l h n).trans ?_
  refine ds4 k _ _ ?_ ?_ ?_ ?_ _ 0 l h n
  · show BitVec.toInt (V (Proc.devRef .tc main_v55_12) _) = _
    rw [hk]; exact num_int k
  all_goals rfl
include hk in
theorem b66 (l : Fin 64) (h : Fin 8) (n : Fin 128) : (res_main_while0b_v66 V : FVec Ideal S64x8x128 .f32) (ix3 l h n)
    = B5 V (ix4 k l h n) := by
  unfold res_main_while0b_v66
  refine (c648128 _ _ l h n).trans ?_
  refine ds4 k _ _ ?_ ?_ ?_ ?_ _ 0 l h n
  · show BitVec.toInt (V (Proc.devRef .tc main_v55_12) _) = _
    rw [hk]; exact num_int k
  all_goals rfl
include hk in
theorem c67 (l : Fin 64) (h : Fin 8) (n : Fin 128) : (res_main_while0b_v67 V : FVec Ideal S64x8x128 .f32) (ix3 l h n)
    = B6 V (ix4 k l h n) := by
  unfold res_main_while0b_v67
  refine (c648128 _ _ l h n).trans ?_
  refine ds4 k _ _ ?_ ?_ ?_ ?_ _ 0 l h n
  · show BitVec.toInt (V (Proc.devRef .tc main_v55_12) _) = _
    rw [hk]; exact num_int k
  all_goals rfl
include hk in
theorem x100 (l : Fin 64) (g : Fin 8) (i : Fin 4) (p : Fin 64) : (res_main_while0b_v100 V : FVec Ideal S64x8x4x64 .f32) (ix4 l g i p)
    = B3 V (ix5 k l g i p) * B4 V (ix4 k l g i) := by
  unfold res_main_while0b_v100
  refine (rX _ _ l g i p).trans ?_
  rw [dt65 V k hk l g i]
  congr 1
  refine (cx _ _ l g i p).trans ?_
  refine ds5 k _ _ ?_ ?_ ?_ ?_ ?_ _ 0 l g i p
  · show BitVec.toInt (V (Proc.devRef .tc main_v55_12) _) = _
    rw [hk]; exact num_int k
  all_goals rfl
include hk in
theorem c87 (l : Fin 64) (g : Fin 8) (i : Fin 4) : (res_main_while0b_v87 V : FVec Ideal S64x8x4 .f32) (ix3 l g i)
    = cumS (fun m => B4 V (ix4 k m g i) * B11 V (ix2 g i)) l := by
  unfold res_main_while0b_v87
  refine (cum_apply _ _ (by pointwise []) l g i).trans ?_
  refine congrArg (fun f => cumS f l) (funext fun m => ?_)
  refine (rW _ _ m g i).trans ?_
  exact congrArg (· * B11 V (ix2 g i)) (dt65 V k hk m g i)

end Trip

end Cert.ReferenceSfwdIdeal.Body

end
-- ==== Proof.ScanLoop.lean ====
/-
  The recurrence's reference: the carried buffers after every trip of its loop.
-/
module

public import proofs.«01_k».proof.Defs
public import proofs.«01_k».proof.Proof.ScanTrip
public import proofs.«01_k».proof.Proof.Gen.ReferenceSfwdIdeal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceSfwdIdeal.Body

open Cert.ReferenceSfwdIdeal Cert.ReferenceSfwdIdeal.Gen Cert.ReferenceSfwdIdeal.Value Cert.Scan

theorem mul2 {a b c d : EReal} (h : a = c) (h' : b = d) : a * b = c * d := h ▸ h' ▸ rfl
theorem add2 {a b c d : EReal} (h : a = c) (h' : b = d) : a + b = c + d := h ▸ h' ▸ rfl
theorem sub2 {a b c d : EReal} (h : a = c) (h' : b = d) : a - b = c - d := h ▸ h' ▸ rfl

section Loop

variable (q k : Fin 4096 → Fin 512 → EReal) (v : Fin 4096 → Fin 1024 → EReal) (x : Fin 4096 → Fin 2048 → EReal)
  (b c : Fin 4096 → Fin 1024 → EReal) (dt : Fin 4096 → Fin 32 → EReal) (a : Fin 32 → EReal) (V : Valuation τ sig (Elt Ideal))

/-- The buffers no trip changes: the arguments cut into chunks and heads, and the decays. -/
structure Con : Prop where
  e0 : ∀ (t l : Fin 64) (h : Fin 4) (n : Fin 128), B0 V (ix4 t l h n) = q (row t.val l) (qc h n)
  e1 : ∀ (t l : Fin 64) (h : Fin 4) (n : Fin 128), B1 V (ix4 t l h n) = k (row t.val l) (qc h n)
  e2 : ∀ (t l : Fin 64) (h : Fin 4) (e : Fin 256), B2 V (ix4 t l h e) = v (row t.val l) (vc h e)
  e3 : ∀ (t l : Fin 64) (g : Fin 8) (i : Fin 4) (p : Fin 64), B3 V (ix5 t l g i p) = x (row t.val l) (jc g i p)
  e4 : ∀ (t l : Fin 64) (g : Fin 8) (i : Fin 4), B4 V (ix4 t l g i) = dt (row t.val l) (hc g i)
  e5 : ∀ (t l : Fin 64) (g : Fin 8) (n : Fin 128), B5 V (ix4 t l g n) = b (row t.val l) (gc g n)
  e6 : ∀ (t l : Fin 64) (g : Fin 8) (n : Fin 128), B6 V (ix4 t l g n) = c (row t.val l) (gc g n)
  e7 : ∀ (h : Fin 4) (l m : Fin 64), B7 V (ix3 h l m) = maskE h.val l m
  e8 : ∀ (l : Fin 64) (h : Fin 4), B8 V (ix3 l h 0) = qdE h.val l
  e9 : ∀ h : Fin 4, B9 V (ix1 h) = cdE h.val
  e10 : ∀ (l : Fin 64) (h : Fin 4), B10 V (ix3 l h 0) = kdE h.val l
  e11 : ∀ (g : Fin 8) (i : Fin 4), B11 V (ix2 g i) = a (hc g i)

/-- The buffers after `t` trips. -/
structure At (t : ℕ) : Prop where
  con : Con q k v x b c dt a V
  ctr : V (Proc.devRef .tc main_v55_12) = fun _ => BitVec.ofNat 32 t
  s : ∀ (h : Fin 4) (n : Fin 128) (e : Fin 256), B13 V (ix3 h n e) = St k v t (qc h n) e
  h : ∀ (g : Fin 8) (i : Fin 4) (p : Fin 64) (n : Fin 128), B14 V (ix4 g i p n) = Ht x b dt a t n (jc g i p)
  yr : ∀ r : Fin 64, r.val < t → ∀ (l : Fin 64) (h : Fin 4) (e : Fin 256), B15 V (ix4 r l h e) = Yr q k v r.val l (vc h e)
  ys : ∀ r : Fin 64, r.val < t → ∀ (l : Fin 64) (g : Fin 8) (i : Fin 4) (p : Fin 64), B16 V (ix5 r l g i p) = Ys x b c dt a r.val l (jc g i p)
  sr : ∀ r : Fin 64, r.val < t → ∀ (h : Fin 4) (n : Fin 128) (e : Fin 256), B17 V (ix4 r h n e) = St k v r.val (qc h n) e
  hs : ∀ r : Fin 64, r.val < t → ∀ (g : Fin 8) (i : Fin 4) (p : Fin 64) (n : Fin 128), B18 V (ix5 r g i p n) = Ht x b dt a r.val n (jc g i p)

variable {q k v x b c dt a V} (r : Fin 64) (A : At q k v x b c dt a V r.val)

include A in
theorem cum_eq (l : Fin 64) (g : Fin 8) (i : Fin 4) (p : Fin 64) : (res_main_while0b_v87 V : FVec Ideal S64x8x4 .f32) (ix3 l g i) = Ct dt a r.val (jc g i p) l := by
  refine (c87 V r A.ctr l g i).trans ?_
  unfold Ct
  simp only [A.con.e4, A.con.e11, hh_jc]
include A in
theorem last_eq (g : Fin 8) (i : Fin 4) (p : Fin 64) : (res_main_while0b_v114 V : FVec Ideal S8x4 .f32) (ix2 g i) = Ct dt a r.val (jc g i p) 63 := by
  unfold res_main_while0b_v114
  exact (rL _ g i).trans (cum_eq r A 63 g i p)
include A in
theorem x_eq (l : Fin 64) (g : Fin 8) (i : Fin 4) (p : Fin 64) : (res_main_while0b_v100 V : FVec Ideal S64x8x4x64 .f32) (ix4 l g i p)
    = x (row r.val l) (jc g i p) * dt (row r.val l) (hc g i) := by
  refine (x100 V r A.ctr l g i p).trans ?_
  rw [A.con.e3, A.con.e4]

include A in
theorem step_s (h : Fin 4) (n : Fin 128) (e : Fin 256) : (step_main_v55_13 V : FVec Ideal S4x128x256 .f32) (ix3 h n e) = St k v (r.val + 1) (qc h n) e := by
  unfold step_main_v55_13
  refine (rS _ _ _ _ _ h n e).trans ?_
  show _ = retS (fun m => k (row r.val m) (qc h n)) (fun m => v (row r.val m) (vi (qc h n) e)) (kdE ((qc h n).val / 128)) (St k v r.val (qc h n) e) (cdE ((qc h n).val / 128))
  unfold retS
  rw [vi_qc, qc_head]
  exact add2 (mul2 (A.s h n e) (A.con.e9 h)) (Finset.sum_congr rfl fun m _ =>
    mul2 (mul2 ((k62 V r A.ctr m h n).trans (A.con.e1 r m h n)) (A.con.e10 m h)) ((v63 V r A.ctr m h e).trans (A.con.e2 r m h e)))

include A in
theorem step_h (g : Fin 8) (i : Fin 4) (p : Fin 64) (n : Fin 128) : (step_main_v55_14 V : FVec Ideal S8x4x64x128 .f32) (ix4 g i p n) = Ht x b dt a (r.val + 1) n (jc g i p) := by
  unfold step_main_v55_14
  show (_ : EReal) + _ = ssdH (fun m => b (row r.val m) (gi (jc g i p) n)) (Ct dt a r.val (jc g i p)) (fun m => x (row r.val m) (jc g i p))
    (fun m => dt (row r.val m) (hh (jc g i p))) (Ht x b dt a r.val n (jc g i p))
  unfold ssdH
  rw [gi_jc, hh_jc]
  refine add2 ((rH1 _ _ g i p n).trans ?_) ((rH2 _ _ g i p n).trans (Finset.sum_congr rfl fun m _ => ?_))
  · exact mul2 (A.h g i p n) (congrArg Ideal.exp (last_eq r A g i p))
  · refine (mul2 ((rH3 _ _ _ m g i p).trans (mul2 (x_eq r A m g i p)
      (congrArg Ideal.exp (sub2 (last_eq r A g i p) (cum_eq r A m g i p))))) ((b66 V r A.ctr m g n).trans (A.con.e5 r m g n))).trans (mul_comm _ _)

/-- Retention's rows in one trip. -/
def yrNew (V : Valuation τ sig (Elt Ideal)) : FVec Ideal S64x4x256 .f32 :=
  addf (transpose S64x4x256 [2, 0, 1] (Host.dotGeneral (φ₁ := .f32) (φ₂ := .f32) dot_S64x4x256_S4x64x64_S4x256x64_0_2_2_1_1_0 none (res_main_while0b_v63 V : FVec Ideal S64x4x256 .f32) (mulf (Host.dotGeneral (φ₁ := .f32) (φ₂ := .f32) dot_S64x4x128_S64x4x128_S4x64x64_2_2_0_0_1_1 none (res_main_while0b_v61 V : FVec Ideal S64x4x128 .f32) (res_main_while0b_v62 V : FVec Ideal S64x4x128 .f32)) (B7 V))) transposes_S4x256x64_S64x4x256_2_0_1) (transpose S64x4x256 [2, 0, 1] (Host.dotGeneral (φ₁ := .f32) (φ₂ := .f32) dot_S4x128x256_S64x4x128_S4x256x64_1_2_2_0_0_1 none (B13 V) (mulf (res_main_while0b_v61 V : FVec Ideal S64x4x128 .f32) (broadcastInDim S64x4x128 ![0, 1, 2] bcast_S64x4x1_S64x4x128_0_1_2 (B8 V)))) transposes_S4x256x64_S64x4x256_2_0_1)

include A in
theorem yr_eq (l : Fin 64) (h : Fin 4) (e : Fin 256) : yrNew V (ix3 l h e) = Yr q k v r.val l (vc h e) := by
  unfold yrNew Yr retY
  show (_ : EReal) + _ = _
  refine add2 ((rY1 _ _ l h e).trans (Finset.sum_congr rfl fun m _ => ?_)) ((rY3 _ _ _ l h e).trans (Finset.sum_congr rfl fun n _ => ?_))
  · refine (mul2 ((v63 V r A.ctr m h e).trans (A.con.e2 r m h e)) ((rY2 _ _ _ l m h).trans (mul2 (Finset.sum_congr rfl fun n _ =>
      mul2 ((q61 V r A.ctr l h n).trans (A.con.e0 r l h n)) ((k62 V r A.ctr m h n).trans (A.con.e1 r m h n))) (A.con.e7 h l m)))).trans ?_
    simp only [qi_vc, vc_head]
    exact mul_comm _ _
  · refine (mul2 (A.s h n e) (mul2 ((q61 V r A.ctr l h n).trans (A.con.e0 r l h n)) (A.con.e8 l h))).trans ?_
    simp only [qi_vc, vc_head, ei_vc]
    exact mul_comm _ _

/-- The state-space recurrence's rows in one trip. -/
def ysNew (V : Valuation τ sig (Elt Ideal)) : FVec Ideal S64x8x4x64 .f32 :=
  addf (transpose S64x8x4x64 [3, 0, 1, 2] (Host.dotGeneral (φ₁ := .f32) (φ₂ := .f32) dot_S64x8x4x64_S8x4x64x64_S8x4x64x64_0_3_3_2_12_01 none (res_main_while0b_v100 V : FVec Ideal S64x8x4x64 .f32) (mulf (broadcastInDim S8x4x64x64 ![0, 1, 2, 3] bcast_S8x1x64x64_S8x4x64x64_0_1_2_3 (broadcastInDim S8x1x64x64 ![0, 2, 3] bcast_S8x64x64_S8x1x64x64_0_2_3 (Host.dotGeneral (φ₁ := .f32) (φ₂ := .f32) dot_S64x8x128_S64x8x128_S8x64x64_2_2_0_0_1_1 none (res_main_while0b_v67 V : FVec Ideal S64x8x128 .f32) (res_main_while0b_v66 V : FVec Ideal S64x8x128 .f32)))) (Host.exp (Host.negf (Host.absf (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v88 V : FVec Ideal S8x4x64 .f32))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v88 V : FVec Ideal S8x4x64 .f32))))))))) transposes_S8x4x64x64_S64x8x4x64_3_0_1_2) (mulf (transpose S64x8x4x64 [3, 0, 1, 2] (Host.dotGeneral (φ₁ := .f32) (φ₂ := .f32) dot_S8x4x64x128_S64x8x128_S8x4x64x64_3_2_12_0_0_1 none (B14 V) (res_main_while0b_v67 V : FVec Ideal S64x8x128 .f32)) transposes_S8x4x64x64_S64x8x4x64_3_0_1_2) (broadcastInDim S64x8x4x64 ![0, 1, 2, 3] bcast_S64x8x4x1_S64x8x4x64_0_1_2_3 (broadcastInDim S64x8x4x1 ![0, 1, 2] bcast_S64x8x4_S64x8x4x1_0_1_2 (Host.exp (res_main_while0b_v87 V : FVec Ideal S64x8x4 .f32)))))

include A in
theorem ct_eq (g : Fin 8) (i : Fin 4) (l p : Fin 64) : (res_main_while0b_v88 V : FVec Ideal S8x4x64 .f32) (ix3 g i l) = Ct dt a r.val (jc g i p) l := by
  unfold res_main_while0b_v88
  exact (rT _ g i l).trans (cum_eq r A l g i p)

include A in
theorem cc_eq (l : Fin 64) (g : Fin 8) (n : Fin 128) : (res_main_while0b_v67 V : FVec Ideal S64x8x128 .f32) (ix3 l g n) = c (row r.val l) (gc g n) :=
  (c67 V r A.ctr l g n).trans (A.con.e6 r l g n)
include A in
theorem bb_eq (l : Fin 64) (g : Fin 8) (n : Fin 128) : (res_main_while0b_v66 V : FVec Ideal S64x8x128 .f32) (ix3 l g n) = b (row r.val l) (gc g n) :=
  (b66 V r A.ctr l g n).trans (A.con.e5 r l g n)

include A in
theorem ys_eq (l : Fin 64) (g : Fin 8) (i : Fin 4) (p : Fin 64) : ysNew V (ix4 l g i p) = Ys x b c dt a r.val l (jc g i p) := by
  unfold ysNew Ys ssdY
  simp only [gi_jc, hh_jc]
  show (_ : EReal) + _ = _
  refine add2 ((rY4 _ _ l g i p).trans (Finset.sum_congr rfl fun m _ => ?_)) ((rY7 _ _ _ l g i p).trans (mul2 (Finset.sum_congr rfl fun n _ => ?_) (congrArg Ideal.exp (cum_eq r A l g i p))))
  · refine (mul2 (x_eq r A m g i p) (mul2 ((rY5 _ _ l m g i).trans (Finset.sum_congr rfl fun n _ => mul2 (cc_eq r A l g n) (bb_eq r A m g n)))
      ((rY6 _ l m g i).trans (congrArg (fun z : EReal => Ideal.exp (-FloatOps.absf (F := Ideal) (φ := .f32) z)) (sub2 (ct_eq r A g i l p) (ct_eq r A g i m p)))))).trans ?_
    exact mul_comm _ _
  · exact (mul2 (A.h g i p n) (cc_eq r A l g n)).trans (mul_comm _ _)

end Loop

end Cert.ReferenceSfwdIdeal.Body

end
-- ==== Proof.ScanEnd.lean ====
/-
  The recurrence's reference: its loop from the entry to its results.
-/
module

public import proofs.«01_k».proof.Defs
public import proofs.«01_k».proof.Proof.ScanLoop
public import proofs.«01_k».proof.Proof.Gen.ReferenceSfwdIdeal.Run
public import Idealize.ShloMosaic.Lib.Pointwise
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem

namespace Cert.ReferenceSfwdIdeal.Body

open Cert.ReferenceSfwdIdeal Cert.ReferenceSfwdIdeal.Gen Cert.ReferenceSfwdIdeal.Value Cert.Scan

section Whole

variable {q k : Fin 4096 → Fin 512 → EReal} {v : Fin 4096 → Fin 1024 → EReal} {x : Fin 4096 → Fin 2048 → EReal}
  {b c : Fin 4096 → Fin 1024 → EReal} {dt : Fin 4096 → Fin 32 → EReal} {a : Fin 32 → EReal} {V : Valuation τ sig (Elt Ideal)}

theorem keep0 (V : Valuation τ sig (Elt Ideal)) : B0 (STEP V) = B0 V := STEP_main_v55_0 V
theorem keep1 (V : Valuation τ sig (Elt Ideal)) : B1 (STEP V) = B1 V := STEP_main_v55_1 V
theorem keep2 (V : Valuation τ sig (Elt Ideal)) : B2 (STEP V) = B2 V := STEP_main_v55_2 V
theorem keep3 (V : Valuation τ sig (Elt Ideal)) : B3 (STEP V) = B3 V := STEP_main_v55_3 V
theorem keep4 (V : Valuation τ sig (Elt Ideal)) : B4 (STEP V) = B4 V := STEP_main_v55_4 V
theorem keep5 (V : Valuation τ sig (Elt Ideal)) : B5 (STEP V) = B5 V := STEP_main_v55_5 V
theorem keep6 (V : Valuation τ sig (Elt Ideal)) : B6 (STEP V) = B6 V := STEP_main_v55_6 V
theorem keep7 (V : Valuation τ sig (Elt Ideal)) : B7 (STEP V) = B7 V := STEP_main_v55_7 V
theorem keep8 (V : Valuation τ sig (Elt Ideal)) : B8 (STEP V) = B8 V := STEP_main_v55_8 V
theorem keep9 (V : Valuation τ sig (Elt Ideal)) : B9 (STEP V) = B9 V := STEP_main_v55_9 V
theorem keep10 (V : Valuation τ sig (Elt Ideal)) : B10 (STEP V) = B10 V := STEP_main_v55_10 V
theorem keep11 (V : Valuation τ sig (Elt Ideal)) : B11 (STEP V) = B11 V := STEP_main_v55_11 V

theorem con_step (C : Con q k v x b c dt a V) : Con q k v x b c dt a (STEP V) where
  e0 := by rw [keep0]; exact C.e0
  e1 := by rw [keep1]; exact C.e1
  e2 := by rw [keep2]; exact C.e2
  e3 := by rw [keep3]; exact C.e3
  e4 := by rw [keep4]; exact C.e4
  e5 := by rw [keep5]; exact C.e5
  e6 := by rw [keep6]; exact C.e6
  e7 := by rw [keep7]; exact C.e7
  e8 := by rw [keep8]; exact C.e8
  e9 := by rw [keep9]; exact C.e9
  e10 := by rw [keep10]; exact C.e10
  e11 := by rw [keep11]; exact C.e11

theorem one_or {A : ℕ} (l : Fin A) : l.val = if A = 1 then 0 else l.val := by
  split
  · have := l.isLt; omega
  · rfl

theorem bc4 {A B C : ℕ} (u : (⟨3, ![A, B, C]⟩ : Shape).Idx → EReal) (h) (l : Fin A) (m : Fin B) (n : Fin C) :
    broadcastInDim (⟨4, ![1, A, B, C]⟩ : Shape) ![1, 2, 3] h u (ix4 0 l m n) = u (ix3 l m n) := by
  refine broadcastInDim_apply _ _ _ _ _ fun d => ?_
  match d with
  | ⟨0, _⟩ => exact one_or l
  | ⟨1, _⟩ => exact one_or m
  | ⟨2, _⟩ => exact one_or n

theorem bc5 {A B C D : ℕ} (u : (⟨4, ![A, B, C, D]⟩ : Shape).Idx → EReal) (h) (l : Fin A) (m : Fin B) (n : Fin C) (p : Fin D) :
    broadcastInDim (⟨5, ![1, A, B, C, D]⟩ : Shape) ![1, 2, 3, 4] h u (ix5 0 l m n p) = u (ix4 l m n p) := by
  refine broadcastInDim_apply _ _ _ _ _ fun d => ?_
  match d with
  | ⟨0, _⟩ => exact one_or l
  | ⟨1, _⟩ => exact one_or m
  | ⟨2, _⟩ => exact one_or n
  | ⟨3, _⟩ => exact one_or p

theorem ctr_step (t : ℕ) : addi (fun _ => BitVec.ofNat 32 t : IVec S_ 32) (constantI S_ 32 1#32) = fun _ => BitVec.ofNat 32 (t + 1) := by
  funext i
  show BitVec.ofNat 32 t + 1#32 = BitVec.ofNat 32 (t + 1)
  exact (BitVec.ofNat_add t 1).symm

theorem s_row (r : Fin 64) (A : At q k v x b c dt a V r.val) (t : Fin 64) (h : Fin 4) (n : Fin 128) (e : Fin 256) :
    B17 (STEP V) (ix4 t h n e) = if t = r then St k v r.val (qc h n) e else B17 V (ix4 t h n e) := by
  refine (congrFun (STEP_main_v55_17 V) _).trans ?_
  unfold step_main_v55_17
  refine (du4 r _ _ _ ?_ ?_ ?_ ?_ _ t h n e).trans ?_
  · show BitVec.toInt (V (Proc.devRef .tc main_v55_12) _) = _
    rw [A.ctr]; exact num_int r
  · rfl
  · rfl
  · rfl
  · rw [bc4]
    exact if_congr Iff.rfl (A.s h n e) rfl

theorem h_row (r : Fin 64) (A : At q k v x b c dt a V r.val) (t : Fin 64) (g : Fin 8) (i : Fin 4) (p : Fin 64) (n : Fin 128) :
    B18 (STEP V) (ix5 t g i p n) = if t = r then Ht x b dt a r.val n (jc g i p) else B18 V (ix5 t g i p n) := by
  refine (congrFun (STEP_main_v55_18 V) _).trans ?_
  unfold step_main_v55_18
  refine (du5 r _ _ _ ?_ ?_ ?_ ?_ ?_ _ t g i p n).trans ?_
  · show BitVec.toInt (V (Proc.devRef .tc main_v55_12) _) = _
    rw [A.ctr]; exact num_int r
  · rfl
  · rfl
  · rfl
  · rfl
  · rw [bc5]
    exact if_congr Iff.rfl (A.h g i p n) rfl

theorem yr_row (r : Fin 64) (A : At q k v x b c dt a V r.val) (t l : Fin 64) (h : Fin 4) (e : Fin 256) :
    B15 (STEP V) (ix4 t l h e) = if t = r then Yr q k v r.val l (vc h e) else B15 V (ix4 t l h e) := by
  refine (congrFun (STEP_main_v55_15 V) _).trans ?_
  unfold step_main_v55_15
  refine (du4 r _ _ _ ?_ ?_ ?_ ?_ _ t l h e).trans ?_
  · show BitVec.toInt (V (Proc.devRef .tc main_v55_12) _) = _
    rw [A.ctr]; exact num_int r
  · rfl
  · rfl
  · rfl
  · rw [bc4]
    exact if_congr Iff.rfl (yr_eq r A l h e) rfl

theorem ys_row (r : Fin 64) (A : At q k v x b c dt a V r.val) (t l : Fin 64) (g : Fin 8) (i : Fin 4) (p : Fin 64) :
    B16 (STEP V) (ix5 t l g i p) = if t = r then Ys x b c dt a r.val l (jc g i p) else B16 V (ix5 t l g i p) := by
  refine (congrFun (STEP_main_v55_16 V) _).trans ?_
  unfold step_main_v55_16
  refine (du5 r _ _ _ ?_ ?_ ?_ ?_ ?_ _ t l g i p).trans ?_
  · show BitVec.toInt (V (Proc.devRef .tc main_v55_12) _) = _
    rw [A.ctr]; exact num_int r
  · rfl
  · rfl
  · rfl
  · rfl
  · rw [bc5]
    exact if_congr Iff.rfl (ys_eq r A l g i p) rfl

theorem row_lt {α : Type} {r : Fin 64} {u w : α} {z : Fin 64 → α} (t : Fin 64) (ht : t.val < r.val + 1) (h : u = if t = r then z r else w)
    (old : t.val < r.val → w = z t) : u = z t := by
  rcases Nat.lt_or_eq_of_le (Nat.le_of_lt_succ ht) with g | g
  · rw [h, if_neg (fun e => (Nat.ne_of_lt g) (congrArg Fin.val e)), old g]
  · obtain rfl : t = r := Fin.ext g
    rw [h, if_pos rfl]

/-- One trip of the loop. -/
theorem at_step (r : Fin 64) (A : At q k v x b c dt a V r.val) : At q k v x b c dt a (STEP V) (r.val + 1) where
  con := con_step A.con
  ctr := by
    refine (STEP_main_v55_12 V).trans ?_
    unfold step_main_v55_12
    rw [A.ctr]
    exact ctr_step r.val
  s h n e := (congrFun (STEP_main_v55_13 V) _).trans (step_s r A h n e)
  h g i p n := (congrFun (STEP_main_v55_14 V) _).trans (step_h r A g i p n)
  yr t ht l h e := row_lt (z := fun t => Yr q k v t.val l (vc h e)) t ht (yr_row r A t l h e) (fun g => A.yr t g l h e)
  ys t ht l g i p := row_lt (z := fun t => Ys x b c dt a t.val l (jc g i p)) t ht (ys_row r A t l g i p) (fun e => A.ys t e l g i p)
  sr t ht h n e := row_lt (z := fun t => St k v t.val (qc h n) e) t ht (s_row r A t h n e) (fun g => A.sr t g h n e)
  hs t ht g i p n := row_lt (z := fun t => Ht x b dt a t.val n (jc g i p)) t ht (h_row r A t g i p n) (fun e => A.hs t e g i p n)

theorem at_iter (A : At q k v x b c dt a V 0) : ∀ n : ℕ, n ≤ 64 → At q k v x b c dt a (STEP^[n] V) n
  | 0, _ => A
  | n + 1, h => by
    rw [Function.iterate_succ_apply']
    exact at_step ⟨n, h⟩ (at_iter A n (Nat.le_of_succ_le h))

end Whole

end Cert.ReferenceSfwdIdeal.Body

end
-- ==== Proof.ScanEntry.lean ====
/-
  The recurrence's reference: the buffers its loop starts from.
-/
module

public import proofs.«01_k».proof.Defs
public import proofs.«01_k».proof.Proof.ScanEnd
public import proofs.«01_k».proof.Proof.Gen.ReferenceSfwdIdeal.Run
public import Idealize.ShloMosaic.Lib.Pointwise
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem

namespace Cert.ReferenceSfwdIdeal.Body

open Cert.ReferenceSfwdIdeal Cert.ReferenceSfwdIdeal.Gen Cert.ReferenceSfwdIdeal.Value Cert.Scan

open Idealize.ShloMosaic.StableHlo Idealize.ShloMosaic.Pipeline

variable (m : (ℓ : Loc nD τ sig) → Buf (Elt Ideal) ℓ) (c : Dev nD)

/-! The arguments as functions of row and column. -/
def qA (r : Fin 4096) (e : Fin 512) : EReal := (m ((c.tc : Thread nD τ).loc main_arg0) : Vec Ideal S4096x512 .f32) (ix2 r e)
def kA (r : Fin 4096) (e : Fin 512) : EReal := (m ((c.tc : Thread nD τ).loc main_arg1) : Vec Ideal S4096x512 .f32) (ix2 r e)
def vA (r : Fin 4096) (e : Fin 1024) : EReal := (m ((c.tc : Thread nD τ).loc main_arg2) : Vec Ideal S4096x1024 .f32) (ix2 r e)
def xA (r : Fin 4096) (e : Fin 2048) : EReal := (m ((c.tc : Thread nD τ).loc main_arg3) : Vec Ideal S4096x2048 .f32) (ix2 r e)
def bA (r : Fin 4096) (e : Fin 1024) : EReal := (m ((c.tc : Thread nD τ).loc main_arg4) : Vec Ideal S4096x1024 .f32) (ix2 r e)
def cA (r : Fin 4096) (e : Fin 1024) : EReal := (m ((c.tc : Thread nD τ).loc main_arg5) : Vec Ideal S4096x1024 .f32) (ix2 r e)
def dtA (r : Fin 4096) (e : Fin 32) : EReal := (m ((c.tc : Thread nD τ).loc main_arg6) : Vec Ideal S4096x32 .f32) (ix2 r e)
def aA (e : Fin 32) : EReal := (m ((c.tc : Thread nD τ).loc main_arg7) : Vec Ideal S32 .f32) (ix1 e)

theorem at2 {A B : ℕ} (f : (⟨2, ![A, B]⟩ : Shape).Idx → EReal) {i i' : Fin A} {j j' : Fin B} (hi : i.val = i'.val) (hj : j.val = j'.val) :
    f (ix2 i j) = f (ix2 i' j') := by rw [Fin.ext hi, Fin.ext hj]
theorem at1 {A : ℕ} (f : (⟨1, ![A]⟩ : Shape).Idx → EReal) {i i' : Fin A} (hi : i.val = i'.val) : f (ix1 i) = f (ix1 i') := by rw [Fin.ext hi]

theorem row_num (t l : Fin 64) : row t.val l = ⟨64 * t.val + l.val, by omega⟩ := Fin.ext (Nat.mod_eq_of_lt (by omega))

theorem en0 (t l : Fin 64) (h : Fin 4) (n : Fin 128) : B0 (entryContents preI m c) (ix4 t l h n) = qA m c (row t.val l) (qc h n) := by
  unfold B0
  simp only [entryContents, afterL_cons, afterL_nil]
  after_reads_simp
  unfold qA
  rw [row_num]
  dsimp only [id_eq]
  pointwise
  exact at2 _ (congrArg (· + l.val) (Nat.mul_comm t.val 64)) (congrArg (· + n.val) (Nat.mul_comm h.val 128))

theorem en1 (t l : Fin 64) (h : Fin 4) (n : Fin 128) : B1 (entryContents preI m c) (ix4 t l h n) = kA m c (row t.val l) (qc h n) := by
  unfold B1
  simp only [entryContents, afterL_cons, afterL_nil]
  after_reads_simp
  unfold kA
  rw [row_num]
  dsimp only [id_eq]
  pointwise
  exact at2 _ (congrArg (· + l.val) (Nat.mul_comm t.val 64)) (congrArg (· + n.val) (Nat.mul_comm h.val 128))

theorem en2 (t l : Fin 64) (h : Fin 4) (e : Fin 256) : B2 (entryContents preI m c) (ix4 t l h e) = vA m c (row t.val l) (vc h e) := by
  unfold B2
  simp only [entryContents, afterL_cons, afterL_nil]
  after_reads_simp
  unfold vA
  rw [row_num]
  dsimp only [id_eq]
  pointwise
  exact at2 _ (congrArg (· + l.val) (Nat.mul_comm t.val 64)) (congrArg (· + e.val) (Nat.mul_comm h.val 256))

theorem en3 (t l : Fin 64) (g : Fin 8) (i : Fin 4) (p : Fin 64) : B3 (entryContents preI m c) (ix5 t l g i p) = xA m c (row t.val l) (jc g i p) := by
  unfold B3
  simp only [entryContents, afterL_cons, afterL_nil]
  after_reads_simp
  unfold xA
  rw [row_num]
  dsimp only [id_eq]
  pointwise
  exact at2 _ (congrArg (· + l.val) (Nat.mul_comm t.val 64)) (by show g.val * 256 + i.val * 64 + p.val = 256 * g.val + 64 * i.val + p.val; omega)

theorem en4 (t l : Fin 64) (g : Fin 8) (i : Fin 4) : B4 (entryContents preI m c) (ix4 t l g i) = dtA m c (row t.val l) (hc g i) := by
  unfold B4
  simp only [entryContents, afterL_cons, afterL_nil]
  after_reads_simp
  unfold dtA
  rw [row_num]
  dsimp only [id_eq]
  pointwise
  exact at2 _ (congrArg (· + l.val) (Nat.mul_comm t.val 64)) (congrArg (· + i.val) (Nat.mul_comm g.val 4))

theorem en5 (t l : Fin 64) (g : Fin 8) (n : Fin 128) : B5 (entryContents preI m c) (ix4 t l g n) = bA m c (row t.val l) (gc g n) := by
  unfold B5
  simp only [entryContents, afterL_cons, afterL_nil]
  after_reads_simp
  unfold bA
  rw [row_num]
  dsimp only [id_eq]
  pointwise
  exact at2 _ (congrArg (· + l.val) (Nat.mul_comm t.val 64)) (congrArg (· + n.val) (Nat.mul_comm g.val 128))

theorem en6 (t l : Fin 64) (g : Fin 8) (n : Fin 128) : B6 (entryContents preI m c) (ix4 t l g n) = cA m c (row t.val l) (gc g n) := by
  unfold B6
  simp only [entryContents, afterL_cons, afterL_nil]
  after_reads_simp
  unfold cA
  rw [row_num]
  dsimp only [id_eq]
  pointwise
  exact at2 _ (congrArg (· + l.val) (Nat.mul_comm t.val 64)) (congrArg (· + n.val) (Nat.mul_comm g.val 128))

theorem en7 (h : Fin 4) (l n : Fin 64) : B7 (entryContents preI m c) (ix3 h l n) = maskE h.val l n := by
  unfold B7
  simp only [entryContents, afterL_cons, afterL_nil]
  after_reads_simp
  dsimp only [id_eq]
  pointwise
  rfl

theorem en8 (l : Fin 64) (h : Fin 4) : B8 (entryContents preI m c) (ix3 l h 0) = qdE h.val l := by
  unfold B8
  simp only [entryContents, afterL_cons, afterL_nil]
  after_reads_simp
  dsimp only [id_eq]
  pointwise
  rfl

theorem en9 (h : Fin 4) : B9 (entryContents preI m c) (ix1 h) = cdE h.val := by
  unfold B9
  simp only [entryContents, afterL_cons, afterL_nil]
  after_reads_simp
  dsimp only [id_eq]
  pointwise
  rfl

theorem en10 (l : Fin 64) (h : Fin 4) : B10 (entryContents preI m c) (ix3 l h 0) = kdE h.val l := by
  unfold B10
  simp only [entryContents, afterL_cons, afterL_nil]
  after_reads_simp
  dsimp only [id_eq]
  pointwise
  rfl

theorem en11 (g : Fin 8) (i : Fin 4) : B11 (entryContents preI m c) (ix2 g i) = aA m c (hc g i) := by
  unfold B11
  simp only [entryContents, afterL_cons, afterL_nil]
  after_reads_simp
  unfold aA
  dsimp only [id_eq]
  pointwise
  exact at1 _ (congrArg (· + i.val) (Nat.mul_comm g.val 4))

theorem en13 (h : Fin 4) (n : Fin 128) (e : Fin 256) : B13 (entryContents preI m c) (ix3 h n e) = 0 := by
  unfold B13
  simp only [entryContents, afterL_cons, afterL_nil]
  after_reads_simp
  dsimp only [id_eq]
  pointwise

theorem en14 (g : Fin 8) (i : Fin 4) (p : Fin 64) (n : Fin 128) : B14 (entryContents preI m c) (ix4 g i p n) = 0 := by
  unfold B14
  simp only [entryContents, afterL_cons, afterL_nil]
  after_reads_simp
  dsimp only [id_eq]
  pointwise

theorem at_entry : At (qA m c) (kA m c) (vA m c) (xA m c) (bA m c) (cA m c) (dtA m c) (aA m c) (entryContents preI m c) 0 where
  con := ⟨en0 m c, en1 m c, en2 m c, en3 m c, en4 m c, en5 m c, en6 m c, en7 m c, en8 m c, en9 m c, en10 m c, en11 m c⟩
  ctr := ctr_entry m c
  s h n e := (en13 m c h n e).trans rfl
  h g i p n := (en14 m c g i p n).trans rfl
  yr r h := absurd h (Nat.not_lt_zero _)
  ys r h := absurd h (Nat.not_lt_zero _)
  sr r h := absurd h (Nat.not_lt_zero _)
  hs r h := absurd h (Nat.not_lt_zero _)

/-- The buffers after the last trip. -/
def last : Valuation τ sig (Elt Ideal) := STEP^[64] (entryContents preI m c)

theorem at_last : At (qA m c) (kA m c) (vA m c) (xA m c) (bA m c) (cA m c) (dtA m c) (aA m c) (last m c) 64 := at_iter (at_entry m c) 64 le_rfl

/-! The results at an index. -/

def lo (r : Fin 4096) : Fin 64 := ⟨r.val % 64, Nat.mod_lt _ (by omega)⟩
def ti (r : Fin 4096) : Fin 64 := ⟨r.val / 64, by omega⟩

theorem o56 (r : Fin 4096) (j : Fin 1024) : (out_main_v56 (last m c) : Vec Ideal S4096x1024 .f32) (ix2 r j)
    = Yr (qA m c) (kA m c) (vA m c) (r.val / 64) (lo r) j := by
  refine Eq.trans ?_ (((at_last m c).yr (ti r) (ti r).isLt (lo r) ⟨j.val / 256, by omega⟩ ⟨j.val % 256, by omega⟩).trans
    (congrArg (Yr _ _ _ _ _) (Fin.ext (by show 256 * (j.val / 256) + j.val % 256 = j.val; omega))))
  unfold out_main_v56
  pointwise
  rfl
theorem o57 (r : Fin 4096) (j : Fin 2048) : (out_main_v57 (last m c) : Vec Ideal S4096x2048 .f32) (ix2 r j)
    = Ys (xA m c) (bA m c) (cA m c) (dtA m c) (aA m c) (r.val / 64) (lo r) j := by
  refine Eq.trans ?_ (((at_last m c).ys (ti r) (ti r).isLt (lo r) ⟨j.val / 256, by omega⟩ ⟨j.val / 64 % 4, by omega⟩ ⟨j.val % 64, by omega⟩).trans
    (congrArg (Ys _ _ _ _ _ _ _) (Fin.ext (by show 256 * (j.val / 256) + 64 * (j.val / 64 % 4) + j.val % 64 = j.val; omega))))
  unfold out_main_v57
  pointwise
  rfl
theorem o58 (t : Fin 64) (r : Fin 512) (e : Fin 256) : (out_main_v58 (last m c) : Vec Ideal S64x512x256 .f32) (ix3 t r e)
    = St (kA m c) (vA m c) t.val r e := by
  refine Eq.trans ?_ (((at_last m c).sr t t.isLt ⟨r.val / 128, by omega⟩ ⟨r.val % 128, by omega⟩ e).trans
    (congrArg (fun r => St _ _ _ r e) (Fin.ext (by show 128 * (r.val / 128) + r.val % 128 = r.val; omega))))
  unfold out_main_v58
  pointwise
  rfl
theorem o60 (t : Fin 64) (n : Fin 128) (j : Fin 2048) : (out_main_v60 (last m c) : Vec Ideal S64x128x2048 .f32) (ix3 t n j)
    = Ht (xA m c) (bA m c) (dtA m c) (aA m c) t.val n j := by
  refine Eq.trans ?_ (((at_last m c).hs t t.isLt ⟨j.val / 256, by omega⟩ ⟨j.val / 64 % 4, by omega⟩ ⟨j.val % 64, by omega⟩ n).trans
    (congrArg (Ht _ _ _ _ _ _) (Fin.ext (by show 256 * (j.val / 256) + 64 * (j.val / 64 % 4) + j.val % 64 = j.val; omega))))
  unfold out_main_v60
  pointwise
  rfl

end Cert.ReferenceSfwdIdeal.Body

end
-- ==== Proof.Sfwd.lean ====
/-
  The recurrence of both branches.
-/
module

public import proofs.«01_k».proof.Defs
public import proofs.«01_k».proof.Proof.Norm
public import proofs.«01_k».proof.Proof.Gen.KernelSfwd
public import proofs.«01_k».proof.Proof.Gen.KernelSfwd.Frame
public import proofs.«01_k».proof.Proof.Gen.KernelSfwdIdeal
public import proofs.«01_k».proof.Proof.Gen.KernelSfwdIdeal.Frame
public import proofs.«01_k».proof.Proof.Gen.KernelSfwdIdeal.Value
public import proofs.«01_k».proof.Proof.Gen.ReferenceSfwdIdeal
public import proofs.«01_k».proof.Proof.Gen.ReferenceSfwdIdeal.Run
public import proofs.«01_k».proof.Proof.ScanFold
public import proofs.«01_k».proof.Proof.ScanEntry
public import Idealize.ShloMosaic.Lib.Pointwise
public import Idealize.ShloMosaic.Lib.Tactic
public import Idealize.ShloMosaic.Lib.StableHlo.RunRead
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Proof.Sfwd

theorem frame_k : Cert.quiescent_KernelSfwd := fun m ρ _ => Cert.KernelSfwd.Gen.frame m ρ
theorem frame_ki : Cert.quiescent_KernelSfwdIdeal := fun m ρ _ => Cert.KernelSfwdIdeal.Gen.frame m ρ
theorem frame_ri : Cert.quiescent_ReferenceSfwdIdeal := fun m ρ _ =>
  (θ_run Cert.ReferenceSfwdIdeal.defs _ _).mono (fun r h => ⟨fun c => (h c).2.2.2.2, sem_eq_zero_of_no_sems (by decide) r.2⟩)
    (Cert.ReferenceSfwdIdeal.Value.run (F := Ideal) m ρ)

open Cert.KernelSfwdIdeal.Whole Cert.KernelSfwdIdeal.Body Cert.Scan

section Args

variable (m : (ℓ : Loc Cert.KernelSfwdIdeal.nD Cert.KernelSfwdIdeal.τ Cert.KernelSfwdIdeal.sig) → Buf (Elt Ideal) ℓ)
  (m' : (ℓ : Loc Cert.ReferenceSfwdIdeal.nD Cert.ReferenceSfwdIdeal.τ Cert.ReferenceSfwdIdeal.sig) → Buf (Elt Ideal) ℓ) (c : Dev Cert.KernelSfwdIdeal.nD)

/-- Both programs start from the same eight arrays. -/
structure Same : Prop where
  q : Cert.ReferenceSfwdIdeal.Body.qA m' c = qA m c
  k : Cert.ReferenceSfwdIdeal.Body.kA m' c = kA m c
  v : Cert.ReferenceSfwdIdeal.Body.vA m' c = vA m c
  x : Cert.ReferenceSfwdIdeal.Body.xA m' c = xA m c
  b : Cert.ReferenceSfwdIdeal.Body.bA m' c = bA m c
  cc : Cert.ReferenceSfwdIdeal.Body.cA m' c = cA m c
  dt : Cert.ReferenceSfwdIdeal.Body.dtA m' c = dtA m c
  a : Cert.ReferenceSfwdIdeal.Body.aA m' c = aA m c

variable {m m' c} (S : Same m m' c)

include S in
theorem r56 : Cert.ReferenceSfwdIdeal.Value.out_main_v56 (Cert.ReferenceSfwdIdeal.Body.last m' c) = Cert.KernelSfwdIdeal.Value.G12 m c := by
  funext i
  idx_vars i
  refine (Cert.ReferenceSfwdIdeal.Body.o56 m' c i0 i1).trans (Eq.trans ?_ (G12_eq m c i0 i1).symm)
  rw [S.q, S.k, S.v]
  rfl
include S in
theorem r57 : Cert.ReferenceSfwdIdeal.Value.out_main_v57 (Cert.ReferenceSfwdIdeal.Body.last m' c) = Cert.KernelSfwdIdeal.Value.G13 m c := by
  funext i
  idx_vars i
  refine (Cert.ReferenceSfwdIdeal.Body.o57 m' c i0 i1).trans (Eq.trans ?_ (G13_eq m c i0 i1).symm)
  rw [S.x, S.b, S.cc, S.dt, S.a]
  rfl
include S in
theorem r58 : Cert.ReferenceSfwdIdeal.Value.out_main_v58 (Cert.ReferenceSfwdIdeal.Body.last m' c) = Cert.KernelSfwdIdeal.Value.G14 m c := by
  funext i
  idx_vars i
  refine (Cert.ReferenceSfwdIdeal.Body.o58 m' c i0 i1 i2).trans (Eq.trans ?_ (G14_eq m c i0 i1 i2).symm)
  rw [S.k, S.v]
  rfl
include S in
theorem r60 : Cert.ReferenceSfwdIdeal.Value.out_main_v60 (Cert.ReferenceSfwdIdeal.Body.last m' c) = Cert.KernelSfwdIdeal.Value.G15 m c := by
  funext i
  idx_vars i
  refine (Cert.ReferenceSfwdIdeal.Body.o60 m' c i0 i1 i2).trans (Eq.trans ?_ (G15_eq m c i0 i1 i2).symm)
  rw [S.x, S.b, S.dt, S.a]
  rfl

end Args

/-- The recurrence's kernel leaves the reference's four results, at every input. -/
theorem value : Cert.algebraic_KernelSfwdIdeal_ReferenceSfwdIdeal := by
  intro m g m' g' _ ha
  refine ⟨fun c => Cert.KernelSfwdIdeal.Value.G12 m c, fun c => Cert.KernelSfwdIdeal.Value.G13 m c, fun c => Cert.KernelSfwdIdeal.Value.G14 m c,
    fun c => Cert.KernelSfwdIdeal.Value.G15 m c, (θ_run _ _ _).mono (fun r h c => h c) (Cert.KernelSfwdIdeal.Value.run m g),
    (θ_run _ _ _).mono (fun r h c => ?_) (Cert.ReferenceSfwdIdeal.Value.run m' g')⟩
  obtain ⟨h0, h1, h2, h3, hk⟩ := h c
  obtain ⟨e0, e1, e2, e3, e4, e5, e6, e7⟩ := ha c
  have S : Same m m' c := ⟨funext fun r => funext fun e => congrFun e0 (ix2 r e), funext fun r => funext fun e => congrFun e1 (ix2 r e),
    funext fun r => funext fun e => congrFun e2 (ix2 r e), funext fun r => funext fun e => congrFun e3 (ix2 r e),
    funext fun r => funext fun e => congrFun e4 (ix2 r e), funext fun r => funext fun e => congrFun e5 (ix2 r e),
    funext fun r => funext fun e => congrFun e6 (ix2 r e), funext fun e => congrFun e7 (ix1 e)⟩
  exact ⟨h0.trans (r56 S), h1.trans (r57 S), h2.trans (r58 S), h3.trans (r60 S), hk⟩

end Cert.Proof.Sfwd

end
-- ==== Proof.XattnBody.lean ====
/-
  The cross attention block's kernel, one grid point: what it stores, at an index.
-/
module

public import proofs.«01_k».proof.Defs
public import proofs.«01_k».proof.Proof.Attn
public import proofs.«01_k».proof.Proof.Gen.KernelXattn
public import proofs.«01_k».proof.Proof.Gen.KernelXattnIdeal
public import proofs.«01_k».proof.Proof.Gen.KernelXattnIdeal.Frame
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelXattnIdeal.Body

open Cert.KernelXattnIdeal Cert.KernelXattnIdeal.Gen

theorem hz : (![0, 0] : Fin 2 → Nat) = fun _ => 0 := funext fun a => by fin_cases a <;> rfl

section Values

open Cert.Norm Cert.Attn

variable (x d : Vec Ideal S256x1024 .f32) (g : Vec Ideal S1x1024 .f32) (wq : Vec Ideal S1024x1024 .bf16) (kv : Vec Ideal S256x2048 .bf16)
  (wo : Vec Ideal S1024x1024 .bf16) (o8 : Vec Ideal S8x1024 .f32)
  (q u : FVec Ideal S256x1024 .f32) (k : FVec Ideal S256x2048 .bf16) (p s q0 q1 q2 q3 : FVec Ideal S256x256 .f32) (o : Vec Ideal S256x256 .f32)

/-- Rows of a block of queries, of the gain, of a tile of scores, and the matrices of keys and values and of weights. -/
abbrev row (q : FVec Ideal S256x1024 .f32) (a : Fin 256) : Fin 1024 → EReal := fun j => q (ix2 a j)
abbrev gain (g : Vec Ideal S1x1024 .f32) : Fin 1024 → EReal := fun j => g (ix2 0 j)
abbrev tile (p : FVec Ideal S256x256 .f32) (a : Fin 256) : Fin 256 → EReal := fun j => p (ix2 a j)
abbrev kvm (k : FVec Ideal S256x2048 .bf16) : Fin 256 → Fin 2048 → EReal := fun m n => k (ix2 m n)
abbrev mat (w : FVec Ideal S1024x1024 .bf16) : Fin 1024 → Fin 1024 → EReal := fun m n => w (ix2 m n)

theorem pay5_apply (j : S256x2048.Idx) : k0_pay5 (F := Ideal) j = 0 := by idx_vars j; pointwise [k0_pay5]
theorem pay6_apply (a : Fin 8) (b : Fin 1024) : k0_pay6 (F := Ideal) (ix2 a b) = 0 := by pointwise [k0_pay6]
theorem pay7_eq : k0_pay7 (F := Ideal) kv = kv := by
  funext j; idx_vars j; pointwise [k0_pay7]
theorem pay27_eq : k0_pay27 (F := Ideal) o = o := by
  funext j; idx_vars j; pointwise [k0_pay27]
theorem pay9_apply (a : Fin 256) (b : Fin 1024) : k0_pay9 x g (ix2 a b) = hr (row x a) (gain g) b := by
  pointwise [k0_pay9, k0_pay8]
  rfl
theorem pay10_apply (a : Fin 256) (b : Fin 1024) : k0_pay10 x g wq (ix2 a b) = qr (row x a) (gain g) (mat wq) b := by
  pointwise [k0_pay10, k0_pay9, k0_pay8]
  rfl
theorem pay22_apply (a : Fin 256) (b : Fin 1024) : k0_pay22 d wo (ix2 a b) = back (row d a) (mat wo) b := by
  pointwise [k0_pay22]
  rfl

theorem pay11_apply (a b : Fin 256) : k0_pay11 x kv g wq (ix2 a b) = ex (sc (row (k0_pay10 x g wq) a) (kvm kv) 0) b := by
  have hs : sc (row (k0_pay10 x g wq) a) (kvm kv) 0
      = fun k => (∑ j : Fin 256, k0_pay10 x g wq (ix2 a ⟨j.val, by omega⟩) * kv (ix2 k ⟨j.val, by omega⟩)) * c16 :=
    funext fun k => by simp only [sc, hd_zero, kd_zero]
  rw [hs]
  pointwise [k0_pay11, k0_pay7]
  rfl
theorem pay12_apply (a : Fin 256) : k0_pay12 x kv g wq (ix2 a 0) = zz (sc (row (k0_pay10 x g wq) a) (kvm kv) 0) := by
  pointwise [k0_pay12]
  simp only [pay11_apply, zz]
theorem pay13_apply (a b : Fin 256) : k0_pay13 (k0_pay11 x kv g wq) (k0_pay12 x kv g wq) (ix2 a b)
    = sm (sc (row (k0_pay10 x g wq) a) (kvm kv) 0) b := by
  pointwise [k0_pay13]
  rw [pay11_apply, pay12_apply, sm]
theorem pay15_apply (a b : Fin 256) : k0_pay15 k q (ix2 a b) = sm (sc (row q a) (kvm k) 1) b := by
  pointwise [k0_pay15]
  rfl
theorem pay17_apply (a b : Fin 256) : k0_pay17 k q (ix2 a b) = sm (sc (row q a) (kvm k) 2) b := by
  pointwise [k0_pay17]
  rfl
theorem pay20_apply (a b : Fin 256) : k0_pay20 (k0_pay19 k q) (ix2 a b) = sm (sc (row q a) (kvm k) 3) b := by
  pointwise [k0_pay20, k0_pay19]
  rfl

theorem pay24_apply (a b : Fin 256) : k0_pay24 d k p wo (ix2 a b) = ds (tile p a) (dp (row (k0_pay22 d wo) a) (kvm k) 0) b := by
  pointwise [k0_pay24, k0_pay23]
  simp only [ds, dp, hd_zero, mul_comm (p _)]
  rfl
theorem pay30_apply (a b : Fin 256) : k0_pay30 k p u (ix2 a b) = ds (tile p a) (dp (row u a) (kvm k) 1) b := by
  pointwise [k0_pay30, k0_pay29]
  rfl
theorem pay36_apply (a b : Fin 256) : k0_pay36 p (k0_pay35 k u) (ix2 a b) = ds (tile p a) (dp (row u a) (kvm k) 2) b := by
  pointwise [k0_pay36, k0_pay35, k0_pay34]
  rfl
theorem pay41_apply (a b : Fin 256) : k0_pay41 k p u (ix2 a b) = ds (tile p a) (dp (row u a) (kvm k) 3) b := by
  pointwise [k0_pay41, k0_pay40]
  rfl

/-! The eight updates of the gradient of the keys and values. -/

theorem pay26_apply (a b : Fin 256) : k0_pay26 d k q p wo o (ix2 a b)
    = o (ix2 a b) + ∑ r : Fin 256, k0_pay24 d k p wo (ix2 r a) * row q r (hd 0 b) := by
  pointwise [k0_pay26]
  simp only [hd_zero]
theorem pay32_apply (a b : Fin 256) : k0_pay32 k q p u o (ix2 a b)
    = o (ix2 a b) + ∑ r : Fin 256, k0_pay30 k p u (ix2 r a) * row q r (hd 1 b) := by
  pointwise [k0_pay32]
  rfl
theorem pay38_apply (a b : Fin 256) : k0_pay38 q p s o (ix2 a b)
    = o (ix2 a b) + ∑ r : Fin 256, k0_pay36 p s (ix2 r a) * row q r (hd 2 b) := by
  pointwise [k0_pay38]
  rfl
theorem pay43_apply (a b : Fin 256) : k0_pay43 q s o (ix2 a b)
    = o (ix2 a b) + ∑ r : Fin 256, s (ix2 r a) * row q r (hd 3 b) := by
  pointwise [k0_pay43]
  rfl
theorem pay28_apply (a b : Fin 256) : k0_pay28 p (k0_pay23 d wo) o (ix2 a b)
    = o (ix2 a b) + ∑ r : Fin 256, p (ix2 r a) * row (k0_pay22 d wo) r (hd 0 b) := by
  pointwise [k0_pay28, k0_pay23]
  simp only [hd_zero]
theorem pay33_apply (a b : Fin 256) : k0_pay33 p u o (ix2 a b)
    = o (ix2 a b) + ∑ r : Fin 256, p (ix2 r a) * row u r (hd 1 b) := by
  pointwise [k0_pay33, k0_pay29]
  rfl
theorem pay39_apply (a b : Fin 256) : k0_pay39 p (k0_pay34 u) o (ix2 a b)
    = o (ix2 a b) + ∑ r : Fin 256, p (ix2 r a) * row u r (hd 2 b) := by
  pointwise [k0_pay39, k0_pay34]
  rfl
theorem pay44_apply (a b : Fin 256) : k0_pay44 p (k0_pay40 u) o (ix2 a b)
    = o (ix2 a b) + ∑ r : Fin 256, p (ix2 r a) * row u r (hd 3 b) := by
  pointwise [k0_pay44, k0_pay40]
  rfl

/-! The attention's output and the gradient of its queries, head by head. -/

theorem pay25_apply (a b : Fin 256) : k0_pay25 d k p wo (ix2 a b) = ∑ j, k0_pay24 d k p wo (ix2 a j) * kvm k j (kd 0 b) := by
  pointwise [k0_pay25]
  simp only [kd_zero]
theorem pay31_apply (a b : Fin 256) : k0_pay31 k p u (ix2 a b) = ∑ j, k0_pay30 k p u (ix2 a j) * kvm k j (kd 1 b) := by
  pointwise [k0_pay31]
  rfl
theorem pay37_apply (a b : Fin 256) : k0_pay37 k p s (ix2 a b) = ∑ j, k0_pay36 p s (ix2 a j) * kvm k j (kd 2 b) := by
  pointwise [k0_pay37]
  rfl
theorem pay42_apply (a b : Fin 256) : k0_pay42 k p u (ix2 a b) = ∑ j, k0_pay41 k p u (ix2 a j) * kvm k j (kd 3 b) := by
  pointwise [k0_pay42]
  rfl
theorem pay45_apply (a : Fin 256) (n : Fin 1024) : k0_pay45 q0 q1 q2 q3 (ix2 a n) = (![q0, q1, q2, q3] (ho n)) (ix2 a (co n)) := by
  pointwise [k0_pay45]
  refine Eq.trans ?_ (cat4 (fun h e => (![q0, q1, q2, q3] h) (ix2 a e)) n)
  split_ifs <;> rfl
theorem pay14_apply (a b : Fin 256) : k0_pay14 (k0_pay7 kv) (k0_pay11 x kv g wq) (k0_pay12 x kv g wq) (ix2 a b)
    = ∑ j, k0_pay13 (k0_pay11 x kv g wq) (k0_pay12 x kv g wq) (ix2 a j) * kvm kv j (vd 0 b) := by
  pointwise [k0_pay14, k0_pay7]
  rfl
theorem pay16_apply (a b : Fin 256) : k0_pay16 k q (ix2 a b) = ∑ j, k0_pay15 k q (ix2 a j) * kvm k j (vd 1 b) := by
  pointwise [k0_pay16]
  rfl
theorem pay18_apply (a b : Fin 256) : k0_pay18 k q (ix2 a b) = ∑ j, k0_pay17 k q (ix2 a j) * kvm k j (vd 2 b) := by
  pointwise [k0_pay18]
  rfl
theorem pay21_apply (a : Fin 256) (n : Fin 1024) : k0_pay21 k q0 q1 q2 s (ix2 a n)
    = (![q0, q1, q2, fun i => ∑ j, k0_pay20 s (ix2 (i 0) j) * kvm k j (vd 3 (i 1))] (ho n)) (ix2 a (co n)) := by
  pointwise [k0_pay21]
  refine Eq.trans ?_ (cat4 (fun h e => (![q0, q1, q2, fun i => ∑ j, k0_pay20 s (ix2 (i 0) j) * kvm k j (vd 3 (i 1))] h) (ix2 a e)) n)
  split_ifs <;> rfl

theorem pay46_apply (a : Fin 256) (b : Fin 1024) : k0_pay46 q0 q1 q2 q3 wq (ix2 a b)
    = ∑ n, k0_pay45 q0 q1 q2 q3 (ix2 a n) * wq (ix2 b n) := by
  pointwise [k0_pay46]
theorem pay47_apply (a : Fin 8) (b : Fin 1024) : k0_pay47 x (k0_pay8 x) q0 q1 q2 q3 wq o8 (ix2 a b)
    = o8 (ix2 a b) + ∑ r : Fin 256, k0_pay46 q0 q1 q2 q3 wq (ix2 r b) * (x (ix2 r b) * rstd (row x r)) := by
  pointwise [k0_pay47, k0_pay8]
  rfl
theorem pay1_apply (a : Fin 256) (b : Fin 1024) : k0_pay1 d (k0_pay8 x) (k0_pay48 q0 q1 q2 q3 wq g) (k0_pay49 x (k0_pay8 x))
      (k0_pay50 x (k0_pay8 x) q0 q1 q2 q3 wq g) (ix2 a b)
    = d (ix2 a b) + kbwd (row x a) (fun j => k0_pay46 q0 q1 q2 q3 wq (ix2 a j) * g (ix2 0 j)) b := by
  pointwise [k0_pay1, k0_pay48, k0_pay49, k0_pay50, k0_pay8]
  rfl

end Values

/-! ## One point's results, at an index -/

section Block

open Cert.Norm Cert.Attn

variable (x d : Vec Ideal S256x1024 .f32) (g : Vec Ideal S1x1024 .f32) (wq : Vec Ideal S1024x1024 .bf16) (kv : Vec Ideal S256x2048 .bf16)
  (wo : Vec Ideal S1024x1024 .bf16) (o10 : Vec Ideal S256x2048 .f32) (o8 : Vec Ideal S8x1024 .f32)

/-- The block's queries, the gradient of its attention's output, and the weights of each head. -/
abbrev qB : FVec Ideal S256x1024 .f32 := k0_pay10 x g wq
abbrev uB : FVec Ideal S256x1024 .f32 := k0_pay22 d wo
abbrev p0 : FVec Ideal S256x256 .f32 := k0_pay13 (k0_pay11 x kv g wq) (k0_pay12 x kv g wq)
abbrev p1 : FVec Ideal S256x256 .f32 := k0_pay15 (k0_pay7 kv) (qB x g wq)
abbrev p2 : FVec Ideal S256x256 .f32 := k0_pay17 (k0_pay7 kv) (qB x g wq)
abbrev p3 : FVec Ideal S256x256 .f32 := k0_pay20 (k0_pay19 (k0_pay7 kv) (qB x g wq))
abbrev s0 : FVec Ideal S256x256 .f32 := k0_pay24 d (k0_pay7 kv) (p0 x g wq kv) wo
abbrev s1 : FVec Ideal S256x256 .f32 := k0_pay30 (k0_pay7 kv) (p1 x g wq kv) (uB d wo)
abbrev s2 : FVec Ideal S256x256 .f32 := k0_pay36 (p2 x g wq kv) (k0_pay35 (k0_pay7 kv) (uB d wo))
abbrev s3 : FVec Ideal S256x256 .f32 := k0_pay41 (k0_pay7 kv) (p3 x g wq kv) (uB d wo)

/-- The same as functions of the block's rows. -/
abbrev qRow (a : Fin 256) : Fin 1024 → EReal := qr (row x a) (gain g) (mat wq)
abbrev uRow (a : Fin 256) : Fin 1024 → EReal := back (row d a) (mat wo)

theorem qB_row (a : Fin 256) : row (qB x g wq) a = qRow x g wq a := funext fun n => pay10_apply x g wq a n
theorem uB_row (a : Fin 256) : row (uB d wo) a = uRow d wo a := funext fun n => pay22_apply d wo a n

theorem p0_apply (a b : Fin 256) : p0 x g wq kv (ix2 a b) = sm (sc (qRow x g wq a) (kvm kv) 0) b := by
  rw [p0, pay13_apply, qB_row]
theorem p1_apply (a b : Fin 256) : p1 x g wq kv (ix2 a b) = sm (sc (qRow x g wq a) (kvm kv) 1) b := by
  rw [p1, pay7_eq, pay15_apply, qB_row]
theorem p2_apply (a b : Fin 256) : p2 x g wq kv (ix2 a b) = sm (sc (qRow x g wq a) (kvm kv) 2) b := by
  rw [p2, pay7_eq, pay17_apply, qB_row]
theorem p3_apply (a b : Fin 256) : p3 x g wq kv (ix2 a b) = sm (sc (qRow x g wq a) (kvm kv) 3) b := by
  rw [p3, pay7_eq, pay20_apply, qB_row]
theorem s0_apply (a b : Fin 256) : s0 x d g wq kv wo (ix2 a b) = dsc (qRow x g wq a) (uRow d wo a) (kvm kv) 0 b := by
  rw [s0, pay7_eq, pay24_apply, uB_row, show tile (p0 x g wq kv) a = _ from funext fun b => p0_apply x g wq kv a b]
  rfl
theorem s1_apply (a b : Fin 256) : s1 x d g wq kv wo (ix2 a b) = dsc (qRow x g wq a) (uRow d wo a) (kvm kv) 1 b := by
  rw [s1, pay30_apply, uB_row, pay7_eq, show tile (p1 x g wq kv) a = _ from funext fun b => p1_apply x g wq kv a b]
  rfl
theorem s2_apply (a b : Fin 256) : s2 x d g wq kv wo (ix2 a b) = dsc (qRow x g wq a) (uRow d wo a) (kvm kv) 2 b := by
  rw [s2, pay36_apply, uB_row, pay7_eq, show tile (p2 x g wq kv) a = _ from funext fun b => p2_apply x g wq kv a b]
  rfl
theorem s3_apply (a b : Fin 256) : s3 x d g wq kv wo (ix2 a b) = dsc (qRow x g wq a) (uRow d wo a) (kvm kv) 3 b := by
  rw [s3, pay41_apply, uB_row, pay7_eq, show tile (p3 x g wq kv) a = _ from funext fun b => p3_apply x g wq kv a b]
  rfl

/-- The accumulated gradient of the keys and values after the point. -/
def kvAcc : Vec Ideal S256x2048 .f32 := fun y => o10 y + ∑ r : Fin 256, kvT (qRow x g wq r) (uRow d wo r) (kvm kv) (y 0) (y 1)

/-- The attention's output, the gradient of the queries, of the normed rows and of the gain. -/
abbrev oB : FVec Ideal S256x1024 .f32 := k0_pay21 (k0_pay7 kv) (k0_pay14 (k0_pay7 kv) (k0_pay11 x kv g wq) (k0_pay12 x kv g wq))
  (k0_pay16 (k0_pay7 kv) (qB x g wq)) (k0_pay18 (k0_pay7 kv) (qB x g wq)) (k0_pay19 (k0_pay7 kv) (qB x g wq))
abbrev q0B : FVec Ideal S256x256 .f32 := k0_pay25 d (k0_pay7 kv) (p0 x g wq kv) wo
abbrev q1B : FVec Ideal S256x256 .f32 := k0_pay31 (k0_pay7 kv) (p1 x g wq kv) (uB d wo)
abbrev q2B : FVec Ideal S256x256 .f32 := k0_pay37 (k0_pay7 kv) (p2 x g wq kv) (k0_pay35 (k0_pay7 kv) (uB d wo))
abbrev q3B : FVec Ideal S256x256 .f32 := k0_pay42 (k0_pay7 kv) (p3 x g wq kv) (uB d wo)
abbrev dqB : FVec Ideal S256x1024 .f32 := k0_pay45 (q0B x d g wq kv wo) (q1B x d g wq kv wo) (q2B x d g wq kv wo) (q3B x d g wq kv wo)
abbrev dhB : FVec Ideal S256x1024 .f32 := k0_pay46 (q0B x d g wq kv wo) (q1B x d g wq kv wo) (q2B x d g wq kv wo) (q3B x d g wq kv wo) wq

theorem oB_apply (a : Fin 256) (n : Fin 1024) : oB x g wq kv (ix2 a n) = out (qRow x g wq a) (kvm kv) n := by
  rw [oB, pay21_apply]
  have key : ∀ (h : Fin 4) (e : Fin 256), (![k0_pay14 (k0_pay7 kv) (k0_pay11 x kv g wq) (k0_pay12 x kv g wq),
      k0_pay16 (k0_pay7 kv) (qB x g wq), k0_pay18 (k0_pay7 kv) (qB x g wq),
      fun i => ∑ j, k0_pay20 (k0_pay19 (k0_pay7 kv) (qB x g wq)) (ix2 (i 0) j) * kvm (k0_pay7 kv) j (vd 3 (i 1))] h) (ix2 a e)
      = ∑ k, sm (sc (qRow x g wq a) (kvm kv) h) k * kvm kv k (vd h e) := by
    intro h e
    match h with
    | 0 => exact (pay14_apply x g wq kv a e).trans (Finset.sum_congr rfl fun j _ => congrArg (· * _) (p0_apply x g wq kv a j))
    | 1 => exact (pay16_apply _ _ a e).trans (Finset.sum_congr rfl fun j _ => by rw [← p1_apply, p1, pay7_eq])
    | 2 => exact (pay18_apply _ _ a e).trans (Finset.sum_congr rfl fun j _ => by rw [← p2_apply, p2, pay7_eq])
    | 3 =>
      show ∑ j, p3 x g wq kv (ix2 a j) * kvm (k0_pay7 kv) j (vd 3 e) = _
      exact Finset.sum_congr rfl fun j _ => by rw [← p3_apply, p3, pay7_eq]
  exact key _ _

theorem dqB_apply (a : Fin 256) (n : Fin 1024) : dqB x d g wq kv wo (ix2 a n)
    = dq (kvm kv) (dsc (qRow x g wq a) (uRow d wo a) (kvm kv)) n := by
  rw [dqB, pay45_apply]
  have key : ∀ (h : Fin 4) (e : Fin 256), (![q0B x d g wq kv wo, q1B x d g wq kv wo, q2B x d g wq kv wo, q3B x d g wq kv wo] h) (ix2 a e)
      = ∑ k, dsc (qRow x g wq a) (uRow d wo a) (kvm kv) h k * kvm kv k (kd h e) := by
    intro h e
    match h with
    | 0 => exact (pay25_apply _ _ _ _ a e).trans (Finset.sum_congr rfl fun j _ => by rw [← s0_apply, s0, pay7_eq])
    | 1 => exact (pay31_apply _ _ _ a e).trans (Finset.sum_congr rfl fun j _ => by rw [← s1_apply, s1, pay7_eq])
    | 2 => exact (pay37_apply _ _ _ a e).trans (Finset.sum_congr rfl fun j _ => by rw [← s2_apply, s2, pay7_eq])
    | 3 => exact (pay42_apply _ _ _ a e).trans (Finset.sum_congr rfl fun j _ => by rw [← s3_apply, s3, pay7_eq])
  exact key _ _

/-- The gradient of a normed row. -/
abbrev dhRow (a : Fin 256) : Fin 1024 → EReal := back (dq (kvm kv) (dsc (qRow x g wq a) (uRow d wo a) (kvm kv))) (mat wq)

theorem dhB_apply (a : Fin 256) (b : Fin 1024) : dhB x d g wq kv wo (ix2 a b) = dhRow x d g wq kv wo a b := by
  rw [dhB, pay46_apply]
  exact Finset.sum_congr rfl fun n _ => congrArg (· * _) (dqB_apply x d g wq kv wo a n)

/-- The gradient of the stream and the accumulated gradient of the gain after the point. -/
abbrev pay6B : FVec Ideal S256x1024 .f32 := k0_pay1 d (k0_pay8 x) (k0_pay48 (q0B x d g wq kv wo) (q1B x d g wq kv wo) (q2B x d g wq kv wo) (q3B x d g wq kv wo) wq g)
  (k0_pay49 x (k0_pay8 x)) (k0_pay50 x (k0_pay8 x) (q0B x d g wq kv wo) (q1B x d g wq kv wo) (q2B x d g wq kv wo) (q3B x d g wq kv wo) wq g)
abbrev pay11B : FVec Ideal S8x1024 .f32 := k0_pay47 x (k0_pay8 x) (q0B x d g wq kv wo) (q1B x d g wq kv wo) (q2B x d g wq kv wo) (q3B x d g wq kv wo) wq o8

theorem pay6B_apply (a : Fin 256) (b : Fin 1024) : pay6B x d g wq kv wo (ix2 a b)
    = d (ix2 a b) + kbwd (row x a) (fun j => dhRow x d g wq kv wo a j * g (ix2 0 j)) b := by
  rw [pay6B, pay1_apply]
  exact congrArg (fun f => d (ix2 a b) + kbwd (row x a) f b) (funext fun j => congrArg (· * _) (dhB_apply x d g wq kv wo a j))
theorem pay11B_apply (a : Fin 8) (b : Fin 1024) : pay11B x d g wq kv wo o8 (ix2 a b)
    = o8 (ix2 a b) + ∑ r : Fin 256, dhRow x d g wq kv wo r b * (x (ix2 r b) * rstd (row x r)) := by
  rw [pay11B, pay47_apply]
  exact congrArg (o8 (ix2 a b) + ·) (Finset.sum_congr rfl fun r _ => congrArg (· * _) (dhB_apply x d g wq kv wo r b))

end Block

/-! ## The two cases of a point: the first one zeroes the two accumulators -/

section Cases

open Cert.Norm Cert.Attn

variable (c : Dev nD) (i : grid0.Coords)
  (a1 : Memref sig .tc .vmem S256x1024 .f32) (h1 : a1.IsWhole) (a2 : Memref sig .tc .vmem S256x1024 .f32) (h2 : a2.IsWhole)
  (a3 : Memref sig .tc .vmem S1x1024 .f32) (h3 : a3.IsWhole) (a4 : Memref sig .tc .vmem S1024x1024 .bf16) (h4 : a4.IsWhole)
  (a5 : Memref sig .tc .vmem S256x2048 .bf16) (h5 : a5.IsWhole) (a6 : Memref sig .tc .vmem S1024x1024 .bf16) (h6 : a6.IsWhole)
  (a7 : Memref sig .tc .vmem S256x1024 .f32) (h7 : a7.IsWhole) (a8 : Memref sig .tc .vmem S256x1024 .bf16) (h8 : a8.IsWhole)
  (a9 : Memref sig .tc .vmem S256x1024 .bf16) (h9 : a9.IsWhole) (a10 : Memref sig .tc .vmem S256x1024 .bf16) (h10 : a10.IsWhole)
  (a11 : Memref sig .tc .vmem S256x2048 .f32) (h11 : a11.IsWhole) (a12 : Memref sig .tc .vmem S8x1024 .f32) (h12 : a12.IsWhole)
  (x d : Vec Ideal S256x1024 .f32) (g : Vec Ideal S1x1024 .f32) (wq : Vec Ideal S1024x1024 .bf16) (kv : Vec Ideal S256x2048 .bf16)
  (wo : Vec Ideal S1024x1024 .bf16) (o10 : Vec Ideal S256x2048 .f32) (o11 : Vec Ideal S8x1024 .f32)

theorem out6_A (hc : cond0_0 i) : out0_A_6 c i a1 h1 a2 h2 a3 h3 a4 h4 a5 h5 a6 h6 a7 h7 a8 h8 a9 h9 a10 h10 a11 h11 a12 h12 hc x d g wq kv wo
    = k0_pay1 d (k0_pay8 x) (k0_pay48 (q0B x d g wq kv wo) (q1B x d g wq kv wo) (q2B x d g wq kv wo) (q3B x d g wq kv wo) wq g)
      (k0_pay49 x (k0_pay8 x)) (k0_pay50 x (k0_pay8 x) (q0B x d g wq kv wo) (q1B x d g wq kv wo) (q2B x d g wq kv wo) (q3B x d g wq kv wo) wq g) := by
  unfold out0_A_6
  rw [View.read_writes_eq_canon _ _ _ (cover0_A_6 c i a1 h1 a2 h2 a3 h3 a4 h4 a5 h5 a6 h6 a7 h7 a8 h8 a9 h9 a10 h10 a11 h11 a12 h12 hc x d g wq kv wo)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out6_B (hc : ¬cond0_0 i) : out0_B_6 c i a1 h1 a2 h2 a3 h3 a4 h4 a5 h5 a6 h6 a7 h7 a8 h8 a9 h9 a10 h10 a11 h11 a12 h12 hc x d g wq kv wo o10 o11
    = k0_pay1 d (k0_pay8 x) (k0_pay48 (q0B x d g wq kv wo) (q1B x d g wq kv wo) (q2B x d g wq kv wo) (q3B x d g wq kv wo) wq g)
      (k0_pay49 x (k0_pay8 x)) (k0_pay50 x (k0_pay8 x) (q0B x d g wq kv wo) (q1B x d g wq kv wo) (q2B x d g wq kv wo) (q3B x d g wq kv wo) wq g) := by
  unfold out0_B_6
  rw [View.read_writes_eq_canon _ _ _ (cover0_B_6 c i a1 h1 a2 h2 a3 h3 a4 h4 a5 h5 a6 h6 a7 h7 a8 h8 a9 h9 a10 h10 a11 h11 a12 h12 hc x d g wq kv wo o10 o11)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out7_A (hc : cond0_0 i) : out0_A_7 c i a1 h1 a2 h2 a3 h3 a4 h4 a5 h5 a6 h6 a7 h7 a8 h8 a9 h9 a10 h10 a11 h11 a12 h12 hc x d g wq kv wo
    = k0_pay2 (k0_pay9 x g) := by
  unfold out0_A_7
  rw [View.read_writes_eq_canon _ _ _ (cover0_A_7 c i a1 h1 a2 h2 a3 h3 a4 h4 a5 h5 a6 h6 a7 h7 a8 h8 a9 h9 a10 h10 a11 h11 a12 h12 hc x d g wq kv wo)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out7_B (hc : ¬cond0_0 i) : out0_B_7 c i a1 h1 a2 h2 a3 h3 a4 h4 a5 h5 a6 h6 a7 h7 a8 h8 a9 h9 a10 h10 a11 h11 a12 h12 hc x d g wq kv wo o10 o11
    = k0_pay2 (k0_pay9 x g) := by
  unfold out0_B_7
  rw [View.read_writes_eq_canon _ _ _ (cover0_B_7 c i a1 h1 a2 h2 a3 h3 a4 h4 a5 h5 a6 h6 a7 h7 a8 h8 a9 h9 a10 h10 a11 h11 a12 h12 hc x d g wq kv wo o10 o11)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out8_A (hc : cond0_0 i) : out0_A_8 c i a1 h1 a2 h2 a3 h3 a4 h4 a5 h5 a6 h6 a7 h7 a8 h8 a9 h9 a10 h10 a11 h11 a12 h12 hc x d g wq kv wo
    = k0_pay3 (dqB x d g wq kv wo) := by
  unfold out0_A_8
  rw [View.read_writes_eq_canon _ _ _ (cover0_A_8 c i a1 h1 a2 h2 a3 h3 a4 h4 a5 h5 a6 h6 a7 h7 a8 h8 a9 h9 a10 h10 a11 h11 a12 h12 hc x d g wq kv wo)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out8_B (hc : ¬cond0_0 i) : out0_B_8 c i a1 h1 a2 h2 a3 h3 a4 h4 a5 h5 a6 h6 a7 h7 a8 h8 a9 h9 a10 h10 a11 h11 a12 h12 hc x d g wq kv wo o10 o11
    = k0_pay3 (dqB x d g wq kv wo) := by
  unfold out0_B_8
  rw [View.read_writes_eq_canon _ _ _ (cover0_B_8 c i a1 h1 a2 h2 a3 h3 a4 h4 a5 h5 a6 h6 a7 h7 a8 h8 a9 h9 a10 h10 a11 h11 a12 h12 hc x d g wq kv wo o10 o11)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out9_A (hc : cond0_0 i) : out0_A_9 c i a1 h1 a2 h2 a3 h3 a4 h4 a5 h5 a6 h6 a7 h7 a8 h8 a9 h9 a10 h10 a11 h11 a12 h12 hc x d g wq kv wo
    = k0_pay4 (oB x g wq kv) := by
  unfold out0_A_9
  rw [View.read_writes_eq_canon _ _ _ (cover0_A_9 c i a1 h1 a2 h2 a3 h3 a4 h4 a5 h5 a6 h6 a7 h7 a8 h8 a9 h9 a10 h10 a11 h11 a12 h12 hc x d g wq kv wo)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out9_B (hc : ¬cond0_0 i) : out0_B_9 c i a1 h1 a2 h2 a3 h3 a4 h4 a5 h5 a6 h6 a7 h7 a8 h8 a9 h9 a10 h10 a11 h11 a12 h12 hc x d g wq kv wo o10 o11
    = k0_pay4 (oB x g wq kv) := by
  unfold out0_B_9
  rw [View.read_writes_eq_canon _ _ _ (cover0_B_9 c i a1 h1 a2 h2 a3 h3 a4 h4 a5 h5 a6 h6 a7 h7 a8 h8 a9 h9 a10 h10 a11 h11 a12 h12 hc x d g wq kv wo o10 o11)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

theorem out11_B (hc : ¬cond0_0 i) : out0_B_11 c i a1 h1 a2 h2 a3 h3 a4 h4 a5 h5 a6 h6 a7 h7 a8 h8 a9 h9 a10 h10 a11 h11 a12 h12 hc x d g wq kv wo o10 o11
    = k0_pay47 x (k0_pay8 x) (q0B x d g wq kv wo) (q1B x d g wq kv wo) (q2B x d g wq kv wo) (q3B x d g wq kv wo) wq o11 := by
  unfold out0_B_11
  rw [View.read_writes_eq_canon _ _ _ (cover0_B_11 c i a1 h1 a2 h2 a3 h3 a4 h4 a5 h5 a6 h6 a7 h7 a8 h8 a9 h9 a10 h10 a11 h11 a12 h12 hc x d g wq kv wo o10 o11)]
  unfold kernelRun0_B
  dsimp only
  sl_unfold_words
  rw [View.canon_unit_zero hz]
  simp only [View.readAt_eq_ld, h1.read_unread, h2.read_unread, h3.read_unread, h4.read_unread, h5.read_unread, h6.read_unread, h12.read_unread,
    View.ld_unit_zero (S := S256x1024) hz, View.ld_unit_zero (S := S1024x1024) hz, View.ld_unit_zero (S := S256x2048) hz,
    View.ld_unit_zero (S := S1x1024) hz, View.ld_unit_zero (S := S8x1024) hz]

theorem out11_A (hc : cond0_0 i) : out0_A_11 c i a1 h1 a2 h2 a3 h3 a4 h4 a5 h5 a6 h6 a7 h7 a8 h8 a9 h9 a10 h10 a11 h11 a12 h12 hc x d g wq kv wo
    = k0_pay47 x (k0_pay8 x) (q0B x d g wq kv wo) (q1B x d g wq kv wo) (q2B x d g wq kv wo) (q3B x d g wq kv wo) wq (k0_pay6 (F := Ideal)) := by
  unfold out0_A_11
  rw [View.read_writes_eq_canon _ _ _ (cover0_A_11 c i a1 h1 a2 h2 a3 h3 a4 h4 a5 h5 a6 h6 a7 h7 a8 h8 a9 h9 a10 h10 a11 h11 a12 h12 hc x d g wq kv wo)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]

/-- The eight column blocks of the gradient of the keys and values, over any earlier stores. -/
theorem emb_col (off : ℕ) (ho : off + 256 ≤ 2048) (inb : ∀ a : Fin 2, (![0, off] : Fin 2 → ℕ) a + (![256, 256] : Fin 2 → ℕ) a ≤ S256x2048.size a)
    (a b : Fin 256) : (Rect.unit (s := S256x2048) ![0, off] ![256, 256] inb).emb (ix2 a b) = ix2 a ⟨off + b.val, by omega⟩ := by
  funext k
  apply Fin.ext
  match k with
  | ⟨0, _⟩ => show 0 + 1 * a.val = a.val; omega
  | ⟨1, _⟩ => show off + 1 * b.val = off + b.val; omega

/-- A load of one column block reads past a store of another. -/
theorem skip (v : View sig .tc .vmem S256x2048 .f32) (o o' : ℕ)
    (inb : ∀ a : Fin 2, (![0, o] : Fin 2 → ℕ) a + (![256, 256] : Fin 2 → ℕ) a ≤ S256x2048.size a)
    (inb' : ∀ a : Fin 2, (![0, o'] : Fin 2 → ℕ) a + (![256, 256] : Fin 2 → ℕ) a ≤ S256x2048.size a)
    (w : Vec Ideal S256x256 .f32) (L : List (View.Piece (Elt Ideal) S256x2048 .f32)) (h : o + 256 ≤ o' ∨ o' + 256 ≤ o) :
    v.readCov (⟨Rect.unit ![0, o] ![256, 256] inb, w⟩ :: L) (Rect.unit (s := S256x2048) ![0, o'] ![256, 256] inb').toLoadRect
      = v.readCov L (Rect.unit (s := S256x2048) ![0, o'] ![256, 256] inb').toLoadRect := by
  rw [View.readCov_eq_canon', View.readCov_eq_canon']
  funext j
  refine View.canon_cons_of_not_mem _ L fun hm => ?_
  have h1 := (Rect.mem_set_unit (s := S256x2048) (inb := inb)).mp hm (1 : Fin 2)
  have hj : (j (1 : Fin 2)).val < 256 := (j (1 : Fin 2)).isLt
  have e : ((Rect.unit (s := S256x2048) ![0, o'] ![256, 256] inb').toLoadRect.idx j (1 : Fin 2)).val = o' + 1 * (j (1 : Fin 2)).val := rfl
  have h2 : o ≤ o' + 1 * (j (1 : Fin 2)).val ∧ o' + 1 * (j (1 : Fin 2)).val < o + 256 := e ▸ h1
  omega

/-- A load after the fill of the whole block reads the fill. -/
theorem fill (v : View sig .tc .vmem S256x2048 .f32) (o' : ℕ)
    (inb' : ∀ a : Fin 2, (![0, o'] : Fin 2 → ℕ) a + (![256, 256] : Fin 2 → ℕ) a ≤ S256x2048.size a)
    (w : Vec Ideal S256x2048 .f32) :
    v.readCov [⟨Rect.unit ![0, 0] ![256, 2048] inb_S256x2048_S256x2048_0_0, w⟩] (Rect.unit (s := S256x2048) ![0, o'] ![256, 256] inb').toLoadRect
      = View.ld w (Rect.unit (s := S256x2048) ![0, o'] ![256, 256] inb') :=
  View.readCov_fill (s := S256x2048) v _ w [] _ fun a => congrFun hz a

/-- A store is a block of the accumulated gradient when it is so at its columns. -/
theorem piece (off : ℕ) (ho : off + 256 ≤ 2048) (inb : ∀ a : Fin 2, (![0, off] : Fin 2 → ℕ) a + (![256, 256] : Fin 2 → ℕ) a ≤ S256x2048.size a)
    (w : FVec Ideal S256x256 .f32)
    (h : ∀ a b : Fin 256, w (ix2 a b) = o10 (ix2 a ⟨off + b.val, by omega⟩)
      + ∑ r : Fin 256, kvT (qRow x g wq r) (uRow d wo r) (kvm kv) a ⟨off + b.val, by omega⟩) :
    ∀ y : (Rect.unit (s := S256x2048) ![0, off] ![256, 256] inb).shape.Idx,
      w y = kvAcc x d g wq kv wo o10 ((Rect.unit (s := S256x2048) ![0, off] ![256, 256] inb).emb y) := by
  intro y
  obtain ⟨a, b, rfl⟩ : ∃ a b : Fin 256, y = ix2 a b := ⟨y 0, y 1, eq_ix2 y⟩
  rw [emb_col off ho]
  exact h a b

/-- The eight stores of the gradient of the keys and values, over an accumulator that holds `o10`. -/
def kvPieces : List (View.Piece (Elt Ideal) S256x2048 .f32) :=
  [⟨Rect.unit ![0, 1792] ![256, 256] inb_S256x2048_S256x256_0_1792,
      k0_pay44 (p3 x g wq kv) (k0_pay40 (uB d wo)) (View.ld o10 (Rect.unit ![0, 1792] ![256, 256] inb_S256x2048_S256x256_0_1792))⟩,
    ⟨Rect.unit ![0, 768] ![256, 256] inb_S256x2048_S256x256_0_768,
      k0_pay43 (qB x g wq) (s3 x d g wq kv wo) (View.ld o10 (Rect.unit ![0, 768] ![256, 256] inb_S256x2048_S256x256_0_768))⟩,
    ⟨Rect.unit ![0, 1536] ![256, 256] inb_S256x2048_S256x256_0_1536,
      k0_pay39 (p2 x g wq kv) (k0_pay34 (uB d wo)) (View.ld o10 (Rect.unit ![0, 1536] ![256, 256] inb_S256x2048_S256x256_0_1536))⟩,
    ⟨Rect.unit ![0, 512] ![256, 256] inb_S256x2048_S256x256_0_512,
      k0_pay38 (qB x g wq) (p2 x g wq kv) (k0_pay35 (k0_pay7 kv) (uB d wo)) (View.ld o10 (Rect.unit ![0, 512] ![256, 256] inb_S256x2048_S256x256_0_512))⟩,
    ⟨Rect.unit ![0, 1280] ![256, 256] inb_S256x2048_S256x256_0_1280,
      k0_pay33 (p1 x g wq kv) (uB d wo) (View.ld o10 (Rect.unit ![0, 1280] ![256, 256] inb_S256x2048_S256x256_0_1280))⟩,
    ⟨Rect.unit ![0, 256] ![256, 256] inb_S256x2048_S256x256_0_256,
      k0_pay32 (k0_pay7 kv) (qB x g wq) (p1 x g wq kv) (uB d wo) (View.ld o10 (Rect.unit ![0, 256] ![256, 256] inb_S256x2048_S256x256_0_256))⟩,
    ⟨Rect.unit ![0, 1024] ![256, 256] inb_S256x2048_S256x256_0_1024,
      k0_pay28 (p0 x g wq kv) (k0_pay23 d wo) (k0_pay27 (View.ld o10 (Rect.unit ![0, 1024] ![256, 256] inb_S256x2048_S256x256_0_1024)))⟩,
    ⟨Rect.unit ![0, 0] ![256, 256] inb_S256x2048_S256x256_0_0,
      k0_pay26 d (k0_pay7 kv) (qB x g wq) (p0 x g wq kv) wo (View.ld o10 (Rect.unit ![0, 0] ![256, 256] inb_S256x2048_S256x256_0_0))⟩]

theorem kvPieces_of : View.PiecesOf (kvAcc x d g wq kv wo o10) (kvPieces x d g wq kv wo o10) := by
  refine ⟨?_, ?_, ?_, ?_, ?_, ?_, ?_, ?_, trivial⟩
  · refine piece x d g wq kv wo o10 1792 (by omega) inb_S256x2048_S256x256_0_1792 _ fun a b => ?_
    refine (pay44_apply _ _ _ a b).trans (congrArg₂ (· + ·) (congrArg o10 (emb_col 1792 (by omega) inb_S256x2048_S256x256_0_1792 a b)) ?_)
    rw [show (⟨1792 + b.val, by omega⟩ : Fin 2048) = vd 3 b from Fin.ext rfl]
    exact (Finset.sum_congr rfl fun r _ => by rw [p3_apply, uB_row, kvT_vd])
  · refine piece x d g wq kv wo o10 768 (by omega) inb_S256x2048_S256x256_0_768 _ fun a b => ?_
    refine (pay43_apply _ _ _ a b).trans (congrArg₂ (· + ·) (congrArg o10 (emb_col 768 (by omega) inb_S256x2048_S256x256_0_768 a b)) ?_)
    rw [show (⟨768 + b.val, by omega⟩ : Fin 2048) = kd 3 b from Fin.ext rfl]
    exact (Finset.sum_congr rfl fun r _ => (congrArg₂ (· * ·) (s3_apply x d g wq kv wo r a) (congrFun (qB_row x g wq r) _)).trans
      (kvT_kd _ _ _ a 3 b).symm)
  · refine piece x d g wq kv wo o10 1536 (by omega) inb_S256x2048_S256x256_0_1536 _ fun a b => ?_
    refine (pay39_apply _ _ _ a b).trans (congrArg₂ (· + ·) (congrArg o10 (emb_col 1536 (by omega) inb_S256x2048_S256x256_0_1536 a b)) ?_)
    rw [show (⟨1536 + b.val, by omega⟩ : Fin 2048) = vd 2 b from Fin.ext rfl]
    exact (Finset.sum_congr rfl fun r _ => by rw [p2_apply, uB_row, kvT_vd])
  · refine piece x d g wq kv wo o10 512 (by omega) inb_S256x2048_S256x256_0_512 _ fun a b => ?_
    refine (pay38_apply _ _ _ _ a b).trans (congrArg₂ (· + ·) (congrArg o10 (emb_col 512 (by omega) inb_S256x2048_S256x256_0_512 a b)) ?_)
    rw [show (⟨512 + b.val, by omega⟩ : Fin 2048) = kd 2 b from Fin.ext rfl]
    exact (Finset.sum_congr rfl fun r _ => (congrArg₂ (· * ·) (s2_apply x d g wq kv wo r a) (congrFun (qB_row x g wq r) _)).trans
      (kvT_kd _ _ _ a 2 b).symm)
  · refine piece x d g wq kv wo o10 1280 (by omega) inb_S256x2048_S256x256_0_1280 _ fun a b => ?_
    refine (pay33_apply _ _ _ a b).trans (congrArg₂ (· + ·) (congrArg o10 (emb_col 1280 (by omega) inb_S256x2048_S256x256_0_1280 a b)) ?_)
    rw [show (⟨1280 + b.val, by omega⟩ : Fin 2048) = vd 1 b from Fin.ext rfl]
    exact (Finset.sum_congr rfl fun r _ => by rw [p1_apply, uB_row, kvT_vd])
  · refine piece x d g wq kv wo o10 256 (by omega) inb_S256x2048_S256x256_0_256 _ fun a b => ?_
    refine (pay32_apply _ _ _ _ _ a b).trans (congrArg₂ (· + ·) (congrArg o10 (emb_col 256 (by omega) inb_S256x2048_S256x256_0_256 a b)) ?_)
    rw [show (⟨256 + b.val, by omega⟩ : Fin 2048) = kd 1 b from Fin.ext rfl]
    exact (Finset.sum_congr rfl fun r _ => (congrArg₂ (· * ·) (s1_apply x d g wq kv wo r a) (congrFun (qB_row x g wq r) _)).trans
      (kvT_kd _ _ _ a 1 b).symm)
  · refine piece x d g wq kv wo o10 1024 (by omega) inb_S256x2048_S256x256_0_1024 _ fun a b => ?_
    rw [pay27_eq]; refine (pay28_apply _ _ _ _ a b).trans (congrArg₂ (· + ·) (congrArg o10 (emb_col 1024 (by omega) inb_S256x2048_S256x256_0_1024 a b)) ?_)
    rw [show (⟨1024 + b.val, by omega⟩ : Fin 2048) = vd 0 b from Fin.ext rfl]
    exact (Finset.sum_congr rfl fun r _ => by rw [p0_apply, uB_row, kvT_vd])
  · refine piece x d g wq kv wo o10 0 (by omega) inb_S256x2048_S256x256_0_0 _ fun a b => ?_
    refine (pay26_apply _ _ _ _ _ _ a b).trans (congrArg₂ (· + ·) (congrArg o10 (emb_col 0 (by omega) inb_S256x2048_S256x256_0_0 a b)) ?_)
    rw [show (⟨0 + b.val, by omega⟩ : Fin 2048) = kd 0 b from Fin.ext (by show 0 + b.val = 256 * 0 + b.val; omega)]
    exact (Finset.sum_congr rfl fun r _ => (congrArg₂ (· * ·) (s0_apply x d g wq kv wo r a) (congrFun (qB_row x g wq r) _)).trans
      (kvT_kd _ _ _ a 0 b).symm)

theorem kvPieces_cover (y : S256x2048.Idx) : ∃ p ∈ kvPieces x d g wq kv wo o10, y ∈ p.1.set := by
  exact View.cover_of_tiledL (kvPieces x d g wq kv wo o10) S256x256.size (by sl_kernel_rfl) y

theorem kv_canon (L : List (View.Piece (Elt Ideal) S256x2048 .f32)) :
    View.canon (kvPieces x d g wq kv wo o10 ++ L) = kvAcc x d g wq kv wo o10 :=
  funext fun y => View.canon_append_of_piecesOf _ L _ (kvPieces_of x d g wq kv wo o10) y (kvPieces_cover x d g wq kv wo o10 y)

theorem out10_B (hc : ¬cond0_0 i) : out0_B_10 c i a1 h1 a2 h2 a3 h3 a4 h4 a5 h5 a6 h6 a7 h7 a8 h8 a9 h9 a10 h10 a11 h11 a12 h12 hc x d g wq kv wo o10 o11 = kvAcc x d g wq kv wo o10 := by
  unfold out0_B_10
  rw [View.read_writes_eq_canon _ _ _ (cover0_B_10 c i a1 h1 a2 h2 a3 h3 a4 h4 a5 h5 a6 h6 a7 h7 a8 h8 a9 h9 a10 h10 a11 h11 a12 h12 hc x d g wq kv wo o10 o11)]
  unfold kernelRun0_B
  dsimp only
  sl_unfold_words
  simp only [View.readAt_eq_ld, h1.read_unread, h2.read_unread, h3.read_unread, h4.read_unread, h5.read_unread, h6.read_unread, h11.read_unread,
    View.ld_unit_zero (S := S256x1024) hz, View.ld_unit_zero (S := S1024x1024) hz, View.ld_unit_zero (S := S256x2048) hz,
    View.ld_unit_zero (S := S1x1024) hz]
  exact kv_canon x d g wq kv wo o10 []

theorem out10_A (hc : cond0_0 i) : out0_A_10 c i a1 h1 a2 h2 a3 h3 a4 h4 a5 h5 a6 h6 a7 h7 a8 h8 a9 h9 a10 h10 a11 h11 a12 h12 hc x d g wq kv wo = kvAcc x d g wq kv wo (k0_pay5 (F := Ideal)) := by
  unfold out0_A_10
  rw [View.read_writes_eq_canon _ _ _ (cover0_A_10 c i a1 h1 a2 h2 a3 h3 a4 h4 a5 h5 a6 h6 a7 h7 a8 h8 a9 h9 a10 h10 a11 h11 a12 h12 hc x d g wq kv wo)]
  unfold kernelRun0_A
  dsimp only
  sl_unfold_words
  simp only [View.readAt_eq_ld, h1.read_unread, h2.read_unread, h3.read_unread, h4.read_unread, h5.read_unread, h6.read_unread,
    View.ld_unit_zero (S := S256x1024) hz, View.ld_unit_zero (S := S1024x1024) hz, View.ld_unit_zero (S := S256x2048) hz,
    View.ld_unit_zero (S := S1x1024) hz]
  simp (disch := decide) only [↓skip]
  simp only [fill]
  exact kv_canon x d g wq kv wo (k0_pay5 (F := Ideal)) [⟨Rect.unit ![0, 0] ![256, 2048] inb_S256x2048_S256x2048_0_0, k0_pay5 (F := Ideal)⟩]

end Cases

end Cert.KernelXattnIdeal.Body
-- ==== Proof.Xattn.lean ====
/-
  The cross attention block: the gradients of the stream, the gain and the memory's keys and values, and what its weights' gradients are made of.
-/
module

public import proofs.«01_k».proof.Defs
public import proofs.«01_k».proof.Proof.XattnBody
public import proofs.«01_k».proof.Proof.Gen.KernelXattn
public import proofs.«01_k».proof.Proof.Gen.KernelXattn.Frame
public import proofs.«01_k».proof.Proof.Gen.KernelXattnIdeal
public import proofs.«01_k».proof.Proof.Gen.KernelXattnIdeal.Frame
public import proofs.«01_k».proof.Proof.Gen.KernelXattnIdeal.Value
public import proofs.«01_k».proof.Proof.Gen.ReferenceXattnIdeal
public import proofs.«01_k».proof.Proof.Gen.ReferenceXattnIdeal.Run
public import proofs.«01_k».proof.Proof.Gen.Pre_finite_xattn
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## The six arrays after the run -/

namespace Cert.KernelXattnIdeal.Whole

open Cert.KernelXattnIdeal Cert.KernelXattnIdeal.Gen Cert.KernelXattnIdeal.Body Cert.Norm Cert.Attn

variable (m : (ℓ : Loc nD τ sig) → Buf (Elt Ideal) ℓ) (c : Dev nD)

abbrev xR (r : Fin 4096) : Fin 1024 → EReal := fun k => m ((c : Thread nD τ).loc main_arg0) (ix2 r k)
abbrev dR (r : Fin 4096) : Fin 1024 → EReal := fun k => m ((c : Thread nD τ).loc main_arg1) (ix2 r k)
abbrev gR : Fin 1024 → EReal := fun k => m ((c : Thread nD τ).loc main_arg2) (ix1 k)
abbrev wqM : Fin 1024 → Fin 1024 → EReal := fun j n => m ((c : Thread nD τ).loc main_arg3) (ix2 j n)
abbrev kvM : Fin 256 → Fin 2048 → EReal := fun k n => m ((c : Thread nD τ).loc main_arg4) (ix2 k n)
abbrev woM : Fin 1024 → Fin 1024 → EReal := fun j n => m ((c : Thread nD τ).loc main_arg5) (ix2 j n)

/-- A row's queries, the gradient of its attention's output, of its queries and of its normed entries. -/
def qA (r : Fin 4096) : Fin 1024 → EReal := qr (xR m c r) (gR m c) (wqM m c)
def uA (r : Fin 4096) : Fin 1024 → EReal := back (dR m c r) (woM m c)
def dqA (r : Fin 4096) : Fin 1024 → EReal := dq (kvM m c) (dsc (qA m c r) (uA m c r) (kvM m c))
def dhA (r : Fin 4096) : Fin 1024 → EReal := back (dqA m c r) (wqM m c)

def dxArr : FVec Ideal S4096x1024 .f32 := fun j =>
  dR m c (j 0) (j 1) + kbwd (xR m c (j 0)) (fun k => dhA m c (j 0) k * gR m c k) (j 1)
def hArr : FVec Ideal S4096x1024 .bf16 := fun j => hr (xR m c (j 0)) (gR m c) (j 1)
def dqArr : FVec Ideal S4096x1024 .bf16 := fun j => dqA m c (j 0) (j 1)
def oArr : FVec Ideal S4096x1024 .bf16 := fun j => out (qA m c (j 0)) (kvM m c) (j 1)
/-- One row's part of the gradients of the keys and values and of the gain. -/
def kvR (k : Fin 256) (n : Fin 2048) (r : Fin 4096) : EReal := kvT (qA m c r) (uA m c r) (kvM m c) k n
def dgR (b : Fin 1024) (r : Fin 4096) : EReal := dhA m c r b * (xR m c r b * rstd (xR m c r))
def dkvArr : FVec Ideal S256x2048 .f32 := fun j => ∑ r, kvR m c (j 0) (j 1) r
def dgArr : FVec Ideal S8x1024 .f32 := fun j => ∑ r, dgR m c (j 1) r

/-- Row `a` of tile `t`. -/
def tr (t : ℕ) (h : t < 16) (a : Fin 256) : Fin 4096 := ⟨256 * t + a.val, by omega⟩
theorem lt16 (t : Fin cfg0.N) : t.val < 16 := by have := t.isLt; have h : cfg0.N = 16 := N_0; omega

/-- The sum over tile `i` of a function of the rows. -/
def tsum (f : Fin 4096 → EReal) (i : ℕ) : EReal := if h : i < 16 then ∑ a, f (tr i h a) else 0
theorem sum_tsum (f : Fin 4096 → EReal) : ∑ i ∈ Finset.range 16, tsum f i = ∑ r, f r := by
  rw [Fin.sum_univ_tiles 16 256 rfl f, Finset.sum_range]
  refine Finset.sum_congr rfl fun i _ => ?_
  unfold tsum
  rw [dif_pos i.isLt]
  exact Finset.sum_congr rfl fun a _ => congrArg f (Fin.ext (by show 256 * i.val + a.val = i.val * 256 + a.val; omega))

theorem V_v0 (b : Fin 1024) : (V m c main_v0 : Vec Ideal S1x1024 .f32) (ix2 0 b) = gR m c b := by
  dsimp only [V, hostOps0]
  after_reads_simp
  pointwise
theorem V_v1 : V m c main_v1 = m ((c : Thread nD τ).loc main_arg3) := by
  dsimp only [V, hostOps0]
  after_reads_simp
  rfl
theorem V_v2 : V m c main_v2 = m ((c : Thread nD τ).loc main_arg4) := by
  dsimp only [V, hostOps0]
  after_reads_simp
  rfl
theorem V_v3 : V m c main_v3 = m ((c : Thread nD τ).loc main_arg5) := by
  dsimp only [V, hostOps0]
  after_reads_simp
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

theorem x_row (t : Fin cfg0.N) (e : Fin 256) : row (iblk m c 0 t) e = xR m c (tr t.val (lt16 t) e) := by
  funext b
  refine Eq.trans ?_ (congrFun (V_main_arg0 m c) (ix2 (tr t.val (lt16 t) e) b))
  dsimp only [row]
  unfold iblk
  rw [View.read_apply]
  show V m c main_arg0 _ = V m c main_arg0 _
  congr 1
  funext a
  apply Fin.ext
  match a with
  | ⟨0, _⟩ => show win0_0.index t 0 * 256 + 1 * e.val = 256 * t.val + e.val; rw [(idx0 t).1]; omega
  | ⟨1, _⟩ => show win0_0.index t 1 * 1024 + 1 * b.val = b.val; rw [(idx0 t).2]; omega

theorem d_row (t : Fin cfg0.N) (e : Fin 256) : row (iblk m c 1 t) e = dR m c (tr t.val (lt16 t) e) := by
  funext b
  refine Eq.trans ?_ (congrFun (V_main_arg1 m c) (ix2 (tr t.val (lt16 t) e) b))
  dsimp only [row]
  unfold iblk
  rw [View.read_apply]
  show V m c main_arg1 _ = V m c main_arg1 _
  congr 1
  funext a
  apply Fin.ext
  match a with
  | ⟨0, _⟩ => show win0_1.index t 0 * 256 + 1 * e.val = 256 * t.val + e.val; rw [(idx1 t).1]; omega
  | ⟨1, _⟩ => show win0_1.index t 1 * 1024 + 1 * b.val = b.val; rw [(idx1 t).2]; omega

theorem g_row (t : Fin cfg0.N) : gain (iblk m c 2 t) = gR m c := by
  funext b
  refine Eq.trans ?_ (V_v0 m c b)
  dsimp only [gain]
  unfold iblk
  rw [View.read_apply]
  show V m c main_v0 _ = V m c main_v0 _
  congr 1
  funext a
  apply Fin.ext
  match a with
  | ⟨0, _⟩ => show win0_2.index t 0 * 1 + 1 * 0 = 0; rw [(idx2 t).1]
  | ⟨1, _⟩ => show win0_2.index t 1 * 1024 + 1 * b.val = b.val; rw [(idx2 t).2]; omega

theorem wq_mat (t : Fin cfg0.N) : mat (iblk m c 3 t) = wqM m c := by
  funext e b
  refine Eq.trans ?_ (congrFun (V_v1 m c) (ix2 e b))
  dsimp only [mat]
  unfold iblk
  rw [View.read_apply]
  show V m c main_v1 _ = V m c main_v1 _
  congr 1
  funext a
  apply Fin.ext
  match a with
  | ⟨0, _⟩ => show win0_3.index t 0 * 1024 + 1 * e.val = e.val; rw [(idx3 t).1]; omega
  | ⟨1, _⟩ => show win0_3.index t 1 * 1024 + 1 * b.val = b.val; rw [(idx3 t).2]; omega

theorem kv_mat (t : Fin cfg0.N) : kvm (iblk m c 4 t) = kvM m c := by
  funext e b
  refine Eq.trans ?_ (congrFun (V_v2 m c) (ix2 e b))
  dsimp only [kvm]
  unfold iblk
  rw [View.read_apply]
  show V m c main_v2 _ = V m c main_v2 _
  congr 1
  funext a
  apply Fin.ext
  match a with
  | ⟨0, _⟩ => show win0_4.index t 0 * 256 + 1 * e.val = e.val; rw [(idx4 t).1]; omega
  | ⟨1, _⟩ => show win0_4.index t 1 * 2048 + 1 * b.val = b.val; rw [(idx4 t).2]; omega

theorem wo_mat (t : Fin cfg0.N) : mat (iblk m c 5 t) = woM m c := by
  funext e b
  refine Eq.trans ?_ (congrFun (V_v3 m c) (ix2 e b))
  dsimp only [mat]
  unfold iblk
  rw [View.read_apply]
  show V m c main_v3 _ = V m c main_v3 _
  congr 1
  funext a
  apply Fin.ext
  match a with
  | ⟨0, _⟩ => show win0_5.index t 0 * 1024 + 1 * e.val = e.val; rw [(idx5 t).1]; omega
  | ⟨1, _⟩ => show win0_5.index t 1 * 1024 + 1 * b.val = b.val; rw [(idx5 t).2]; omega

theorem q_row (t : Fin cfg0.N) (e : Fin 256) : qRow (iblk m c 0 t) (iblk m c 2 t) (iblk m c 3 t) e = qA m c (tr t.val (lt16 t) e) := by
  rw [qRow, x_row, g_row, wq_mat]; rfl
theorem u_row (t : Fin cfg0.N) (e : Fin 256) : uRow (iblk m c 1 t) (iblk m c 5 t) e = uA m c (tr t.val (lt16 t) e) := by
  rw [uRow, d_row, wo_mat]; rfl
theorem dh_row (t : Fin cfg0.N) (e : Fin 256) :
    dhRow (iblk m c 0 t) (iblk m c 1 t) (iblk m c 2 t) (iblk m c 3 t) (iblk m c 4 t) (iblk m c 5 t) e = dhA m c (tr t.val (lt16 t) e) := by
  rw [dhRow, q_row, u_row, kv_mat, wq_mat]; rfl

/-! One point's results from the rows of its tile. -/

theorem b6 (t : Fin cfg0.N) (a : Fin 256) (b : Fin 1024) :
    pay6B (iblk m c 0 t) (iblk m c 1 t) (iblk m c 2 t) (iblk m c 3 t) (iblk m c 4 t) (iblk m c 5 t) (ix2 a b)
      = dxArr m c (ix2 (tr t.val (lt16 t) a) b) := by
  rw [pay6B_apply, dh_row, x_row]
  exact congrArg₂ (· + ·) (congrFun (d_row m c t a) b)
    (congrArg (fun f => kbwd _ f b) (funext fun k => congrArg (_ * ·) (congrFun (g_row m c t) k)))
theorem b7 (t : Fin cfg0.N) (a : Fin 256) (b : Fin 1024) :
    k0_pay2 (k0_pay9 (iblk m c 0 t) (iblk m c 2 t)) (ix2 a b) = hArr m c (ix2 (tr t.val (lt16 t) a) b) := by
  refine (pay9_apply _ _ a b).trans ?_
  rw [x_row, g_row]; rfl
theorem b8 (t : Fin cfg0.N) (a : Fin 256) (b : Fin 1024) :
    k0_pay3 (dqB (iblk m c 0 t) (iblk m c 1 t) (iblk m c 2 t) (iblk m c 3 t) (iblk m c 4 t) (iblk m c 5 t)) (ix2 a b)
      = dqArr m c (ix2 (tr t.val (lt16 t) a) b) := by
  refine (dqB_apply _ _ _ _ _ _ a b).trans ?_
  rw [q_row, u_row, kv_mat]; rfl
theorem b9 (t : Fin cfg0.N) (a : Fin 256) (b : Fin 1024) :
    k0_pay4 (oB (iblk m c 0 t) (iblk m c 2 t) (iblk m c 3 t) (iblk m c 4 t)) (ix2 a b) = oArr m c (ix2 (tr t.val (lt16 t) a) b) := by
  refine (oB_apply _ _ _ _ a b).trans ?_
  rw [q_row, kv_mat]; rfl
theorem b10 (t : Fin cfg0.N) (o : Vec Ideal S256x2048 .f32) (k : Fin 256) (n : Fin 2048) :
    kvAcc (iblk m c 0 t) (iblk m c 1 t) (iblk m c 2 t) (iblk m c 3 t) (iblk m c 4 t) (iblk m c 5 t) o (ix2 k n)
      = o (ix2 k n) + tsum (kvR m c k n) t.val := by
  unfold kvAcc tsum
  rw [dif_pos (lt16 t)]
  exact congrArg (o (ix2 k n) + ·) (Finset.sum_congr rfl fun r _ => by rw [q_row, u_row, kv_mat]; rfl)
theorem b11 (t : Fin cfg0.N) (o : Vec Ideal S8x1024 .f32) (a : Fin 8) (b : Fin 1024) :
    pay11B (iblk m c 0 t) (iblk m c 1 t) (iblk m c 2 t) (iblk m c 3 t) (iblk m c 4 t) (iblk m c 5 t) o (ix2 a b)
      = o (ix2 a b) + tsum (dgR m c b) t.val := by
  rw [pay11B_apply]
  unfold tsum
  rw [dif_pos (lt16 t)]
  exact congrArg (o (ix2 a b) + ·) (Finset.sum_congr rfl fun r _ => by
    rw [dh_row, x_row, show (iblk m c 0 t : Vec Ideal S256x1024 .f32) (ix2 r b) = _ from congrFun (x_row m c t r) b]; rfl)

/-! The outputs after each point. -/

theorem outsTile (t : Fin cfg0.N) (a : Fin 256) (b : Fin 1024) :
    (outsAt0 m c t.val t.isLt).1 (ix2 a b) = dxArr m c (ix2 (tr t.val (lt16 t) a) b)
    ∧ (outsAt0 m c t.val t.isLt).2.1 (ix2 a b) = hArr m c (ix2 (tr t.val (lt16 t) a) b)
    ∧ (outsAt0 m c t.val t.isLt).2.2.1 (ix2 a b) = dqArr m c (ix2 (tr t.val (lt16 t) a) b)
    ∧ (outsAt0 m c t.val t.isLt).2.2.2.1 (ix2 a b) = oArr m c (ix2 (tr t.val (lt16 t) a) b) := by
  by_cases h0 : t.val % 16 = 0
  · rw [outsAt0_A m c t h0]
    dsimp only
    rw [out6_A, out7_A, out8_A, out9_A]
    exact ⟨b6 m c t a b, b7 m c t a b, b8 m c t a b, b9 m c t a b⟩
  · rw [outsAt0_B m c t h0]
    dsimp only
    rw [out6_B, out7_B, out8_B, out9_B]
    exact ⟨b6 m c t a b, b7 m c t a b, b8 m c t a b, b9 m c t a b⟩

theorem outsAcc (n : ℕ) (h : n < cfg0.N) :
    (∀ k q, (outsAt0 m c n h).2.2.2.2.1 (ix2 k q) = ∑ i ∈ Finset.range (n + 1), tsum (kvR m c k q) i)
    ∧ ∀ a b, (outsAt0 m c n h).2.2.2.2.2 (ix2 a b) = ∑ i ∈ Finset.range (n + 1), tsum (dgR m c b) i := by
  induction n with
  | zero =>
    rw [outsAt0_A m c ⟨0, h⟩ rfl]
    dsimp only
    refine ⟨fun k q => ?_, fun a b => ?_⟩
    · rw [out10_A, b10, pay5_apply, zero_add, Finset.sum_range_one]
    · rw [out11_A, Finset.sum_range_one]
      refine (b11 m c ⟨0, h⟩ _ a b).trans ?_
      rw [pay6_apply, zero_add]
  | succ n ih =>
    obtain ⟨i4, i5⟩ := ih (by omega)
    have hl : n + 1 < 16 := lt16 ⟨n + 1, h⟩
    have hB : ¬(⟨n + 1, h⟩ : Fin cfg0.N).val % 16 = 0 := by dsimp only; omega
    rw [outsAt0_B m c ⟨n + 1, h⟩ hB]
    dsimp only
    refine ⟨fun k q => ?_, fun a b => ?_⟩
    · rw [out10_B, b10, Finset.sum_range_succ]; exact congrArg (· + _) (i4 k q)
    · rw [out11_B, Finset.sum_range_succ]
      refine (b11 m c ⟨n + 1, h⟩ _ a b).trans ?_
      exact congrArg (· + _) (i5 a b)

theorem read6 (G : FVec Ideal S4096x1024 .f32) (t : Fin cfg0.N) (r : Fin 256) (b : Fin 1024) :
    (((cfg0.win 6).blk t).view.read (Elt Ideal) G : Vec Ideal S256x1024 .f32) (ix2 r b) = G (ix2 (tr t.val (lt16 t) r) b) := by
  rw [View.read_apply]
  show G _ = _
  congr 1
  funext a
  apply Fin.ext
  match a with
  | ⟨0, _⟩ => show win0_6.index t 0 * 256 + 1 * r.val = 256 * t.val + r.val; rw [(idx6 t).1]; omega
  | ⟨1, _⟩ => show win0_6.index t 1 * 1024 + 1 * b.val = b.val; rw [(idx6 t).2]; omega

theorem final6 : (dats m 0 c).arrAt 6 cfg0.N = dxArr m c := by
  refine (dats m 0 c).arrAt_eq_of_cover 6 (dxArr m c) (fun t hf => ?_) fun i => ?_
  · rw [Value.flushed6]
    refine (funext fun j => ?_ : (outsAt0 m c t.val t.isLt).1 = (((cfg0.win 6).blk t).view.read (Elt Ideal) (dxArr m c) : Vec Ideal S256x1024 .f32))
    idx_vars j
    rw [read6]
    exact (outsTile m c t j0 j1).1
  · have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_6 _, ?_⟩
    show i ∈ ((View.whole main_v4_0).slice (win0_6.rect ⟨(i 0 : Nat) / 256, ht⟩)).set
    rw [View.set_slice_whole, Rect.mem_set_unit]
    intro a
    match a with
    | ⟨0, _⟩ =>
      show win0_6.index ⟨(i 0 : Nat) / 256, ht⟩ 0 * 256 ≤ (i 0 : Nat) ∧ (i 0 : Nat) < win0_6.index ⟨(i 0 : Nat) / 256, ht⟩ 0 * 256 + 256
      rw [(idx6 _).1]; dsimp only; omega
    | ⟨1, _⟩ =>
      show win0_6.index ⟨(i 0 : Nat) / 256, ht⟩ 1 * 1024 ≤ (i 1 : Nat) ∧ (i 1 : Nat) < win0_6.index ⟨(i 0 : Nat) / 256, ht⟩ 1 * 1024 + 1024
      rw [(idx6 _).2]; omega

theorem read7 (G : FVec Ideal S4096x1024 .bf16) (t : Fin cfg0.N) (r : Fin 256) (b : Fin 1024) :
    (((cfg0.win 7).blk t).view.read (Elt Ideal) G : Vec Ideal S256x1024 .bf16) (ix2 r b) = G (ix2 (tr t.val (lt16 t) r) b) := by
  rw [View.read_apply]
  show G _ = _
  congr 1
  funext a
  apply Fin.ext
  match a with
  | ⟨0, _⟩ => show win0_7.index t 0 * 256 + 1 * r.val = 256 * t.val + r.val; rw [(idx7 t).1]; omega
  | ⟨1, _⟩ => show win0_7.index t 1 * 1024 + 1 * b.val = b.val; rw [(idx7 t).2]; omega

theorem final7 : (dats m 0 c).arrAt 7 cfg0.N = hArr m c := by
  refine (dats m 0 c).arrAt_eq_of_cover 7 (hArr m c) (fun t hf => ?_) fun i => ?_
  · rw [Value.flushed7]
    refine (funext fun j => ?_ : (outsAt0 m c t.val t.isLt).2.1 = (((cfg0.win 7).blk t).view.read (Elt Ideal) (hArr m c) : Vec Ideal S256x1024 .bf16))
    idx_vars j
    rw [read7]
    exact (outsTile m c t j0 j1).2.1
  · have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_7 _, ?_⟩
    show i ∈ ((View.whole main_v4_1).slice (win0_7.rect ⟨(i 0 : Nat) / 256, ht⟩)).set
    rw [View.set_slice_whole, Rect.mem_set_unit]
    intro a
    match a with
    | ⟨0, _⟩ =>
      show win0_7.index ⟨(i 0 : Nat) / 256, ht⟩ 0 * 256 ≤ (i 0 : Nat) ∧ (i 0 : Nat) < win0_7.index ⟨(i 0 : Nat) / 256, ht⟩ 0 * 256 + 256
      rw [(idx7 _).1]; dsimp only; omega
    | ⟨1, _⟩ =>
      show win0_7.index ⟨(i 0 : Nat) / 256, ht⟩ 1 * 1024 ≤ (i 1 : Nat) ∧ (i 1 : Nat) < win0_7.index ⟨(i 0 : Nat) / 256, ht⟩ 1 * 1024 + 1024
      rw [(idx7 _).2]; omega

theorem read8 (G : FVec Ideal S4096x1024 .bf16) (t : Fin cfg0.N) (r : Fin 256) (b : Fin 1024) :
    (((cfg0.win 8).blk t).view.read (Elt Ideal) G : Vec Ideal S256x1024 .bf16) (ix2 r b) = G (ix2 (tr t.val (lt16 t) r) b) := by
  rw [View.read_apply]
  show G _ = _
  congr 1
  funext a
  apply Fin.ext
  match a with
  | ⟨0, _⟩ => show win0_8.index t 0 * 256 + 1 * r.val = 256 * t.val + r.val; rw [(idx8 t).1]; omega
  | ⟨1, _⟩ => show win0_8.index t 1 * 1024 + 1 * b.val = b.val; rw [(idx8 t).2]; omega

theorem final8 : (dats m 0 c).arrAt 8 cfg0.N = dqArr m c := by
  refine (dats m 0 c).arrAt_eq_of_cover 8 (dqArr m c) (fun t hf => ?_) fun i => ?_
  · rw [Value.flushed8]
    refine (funext fun j => ?_ : (outsAt0 m c t.val t.isLt).2.2.1 = (((cfg0.win 8).blk t).view.read (Elt Ideal) (dqArr m c) : Vec Ideal S256x1024 .bf16))
    idx_vars j
    rw [read8]
    exact (outsTile m c t j0 j1).2.2.1
  · have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_8 _, ?_⟩
    show i ∈ ((View.whole main_v4_2).slice (win0_8.rect ⟨(i 0 : Nat) / 256, ht⟩)).set
    rw [View.set_slice_whole, Rect.mem_set_unit]
    intro a
    match a with
    | ⟨0, _⟩ =>
      show win0_8.index ⟨(i 0 : Nat) / 256, ht⟩ 0 * 256 ≤ (i 0 : Nat) ∧ (i 0 : Nat) < win0_8.index ⟨(i 0 : Nat) / 256, ht⟩ 0 * 256 + 256
      rw [(idx8 _).1]; dsimp only; omega
    | ⟨1, _⟩ =>
      show win0_8.index ⟨(i 0 : Nat) / 256, ht⟩ 1 * 1024 ≤ (i 1 : Nat) ∧ (i 1 : Nat) < win0_8.index ⟨(i 0 : Nat) / 256, ht⟩ 1 * 1024 + 1024
      rw [(idx8 _).2]; omega

theorem read9 (G : FVec Ideal S4096x1024 .bf16) (t : Fin cfg0.N) (r : Fin 256) (b : Fin 1024) :
    (((cfg0.win 9).blk t).view.read (Elt Ideal) G : Vec Ideal S256x1024 .bf16) (ix2 r b) = G (ix2 (tr t.val (lt16 t) r) b) := by
  rw [View.read_apply]
  show G _ = _
  congr 1
  funext a
  apply Fin.ext
  match a with
  | ⟨0, _⟩ => show win0_9.index t 0 * 256 + 1 * r.val = 256 * t.val + r.val; rw [(idx9 t).1]; omega
  | ⟨1, _⟩ => show win0_9.index t 1 * 1024 + 1 * b.val = b.val; rw [(idx9 t).2]; omega

theorem final9 : (dats m 0 c).arrAt 9 cfg0.N = oArr m c := by
  refine (dats m 0 c).arrAt_eq_of_cover 9 (oArr m c) (fun t hf => ?_) fun i => ?_
  · rw [Value.flushed9]
    refine (funext fun j => ?_ : (outsAt0 m c t.val t.isLt).2.2.2.1 = (((cfg0.win 9).blk t).view.read (Elt Ideal) (oArr m c) : Vec Ideal S256x1024 .bf16))
    idx_vars j
    rw [read9]
    exact (outsTile m c t j0 j1).2.2.2
  · have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_9 _, ?_⟩
    show i ∈ ((View.whole main_v4_3).slice (win0_9.rect ⟨(i 0 : Nat) / 256, ht⟩)).set
    rw [View.set_slice_whole, Rect.mem_set_unit]
    intro a
    match a with
    | ⟨0, _⟩ =>
      show win0_9.index ⟨(i 0 : Nat) / 256, ht⟩ 0 * 256 ≤ (i 0 : Nat) ∧ (i 0 : Nat) < win0_9.index ⟨(i 0 : Nat) / 256, ht⟩ 0 * 256 + 256
      rw [(idx9 _).1]; dsimp only; omega
    | ⟨1, _⟩ =>
      show win0_9.index ⟨(i 0 : Nat) / 256, ht⟩ 1 * 1024 ≤ (i 1 : Nat) ∧ (i 1 : Nat) < win0_9.index ⟨(i 0 : Nat) / 256, ht⟩ 1 * 1024 + 1024
      rw [(idx9 _).2]; omega

/-- An accumulated window is written back after the last point, whole. -/
theorem last10 (t : Fin cfg0.N) (hf : (cfg0.win 10).flush t = true) : t = t0_15 := by
  have hN : cfg0.N = 16 := N_0
  have := (flush0_10 t).mp hf
  exact Fin.ext (by have := t.isLt; show t.val = 15; omega)

theorem final10 : (dats m 0 c).arrAt 10 cfg0.N = dkvArr m c := by
  refine (dats m 0 c).arrAt_eq_of_cover 10 (dkvArr m c) (fun t hf => ?_) fun i => ⟨t0_15, (flush0_10 t0_15).mpr rfl, ?_⟩
  · obtain rfl := last10 t hf
    have hz' : (fun a => win0_10.index t0_15 a * main_v4_4.ty.shape.size a) = fun _ => 0 := funext fun a => by fin_cases a <;> decide
    refine Eq.trans ?_ (Memref.read_access_unit_zero (Elt Ideal) main_v4_4 hz' (fun a => by rw [congrFun hz' a]; simp) (dkvArr m c)).symm
    rw [Value.flushed10]
    funext j
    show (outsAt0 m c 15 t0_15.isLt).2.2.2.2.1 j = _
    refine (congrArg _ (show j = ix2 (j 0) (j 1) by idx_vars j; rfl)).trans (((outsAcc m c 15 _).1 (j 0) (j 1)).trans ?_)
    exact sum_tsum _
  · show i ∈ ((View.whole main_v4_4).slice (win0_10.rect t0_15)).set
    rw [View.set_slice_whole, Rect.mem_set_unit]
    intro a
    have h0 : (i 0 : Nat) < 256 := (i 0).isLt
    have h1 : (i 1 : Nat) < 2048 := (i 1).isLt
    have e : ∀ a, win0_10.index t0_15 a = 0 := fun a => by fin_cases a <;> decide
    match a with
    | ⟨0, _⟩ => show win0_10.index t0_15 0 * 256 ≤ (i 0 : Nat) ∧ (i 0 : Nat) < win0_10.index t0_15 0 * 256 + 256; rw [e 0]; omega
    | ⟨1, _⟩ => show win0_10.index t0_15 1 * 2048 ≤ (i 1 : Nat) ∧ (i 1 : Nat) < win0_10.index t0_15 1 * 2048 + 2048; rw [e 1]; omega

/-- An accumulated window is written back after the last point, whole. -/
theorem last11 (t : Fin cfg0.N) (hf : (cfg0.win 11).flush t = true) : t = t0_15 := by
  have hN : cfg0.N = 16 := N_0
  have := (flush0_11 t).mp hf
  exact Fin.ext (by have := t.isLt; show t.val = 15; omega)

theorem final11 : (dats m 0 c).arrAt 11 cfg0.N = dgArr m c := by
  refine (dats m 0 c).arrAt_eq_of_cover 11 (dgArr m c) (fun t hf => ?_) fun i => ⟨t0_15, (flush0_11 t0_15).mpr rfl, ?_⟩
  · obtain rfl := last11 t hf
    have hz' : (fun a => win0_11.index t0_15 a * main_v4_5.ty.shape.size a) = fun _ => 0 := funext fun a => by fin_cases a <;> decide
    refine Eq.trans ?_ (Memref.read_access_unit_zero (Elt Ideal) main_v4_5 hz' (fun a => by rw [congrFun hz' a]; simp) (dgArr m c)).symm
    rw [Value.flushed11]
    funext j
    show (outsAt0 m c 15 t0_15.isLt).2.2.2.2.2 j = _
    refine (congrArg _ (show j = ix2 (j 0) (j 1) by idx_vars j; rfl)).trans (((outsAcc m c 15 _).2 (j 0) (j 1)).trans ?_)
    exact sum_tsum _
  · show i ∈ ((View.whole main_v4_5).slice (win0_11.rect t0_15)).set
    rw [View.set_slice_whole, Rect.mem_set_unit]
    intro a
    have h0 : (i 0 : Nat) < 8 := (i 0).isLt
    have h1 : (i 1 : Nat) < 1024 := (i 1).isLt
    have e : ∀ a, win0_11.index t0_15 a = 0 := fun a => by fin_cases a <;> decide
    match a with
    | ⟨0, _⟩ => show win0_11.index t0_15 0 * 8 ≤ (i 0 : Nat) ∧ (i 0 : Nat) < win0_11.index t0_15 0 * 8 + 8; rw [e 0]; omega
    | ⟨1, _⟩ => show win0_11.index t0_15 1 * 1024 ≤ (i 1 : Nat) ∧ (i 1 : Nat) < win0_11.index t0_15 1 * 1024 + 1024; rw [e 1]; omega

end Cert.KernelXattnIdeal.Whole

namespace Cert.Proof.Xattn

theorem frame_k : Cert.quiescent_KernelXattn := fun m ρ _ => Cert.KernelXattn.Gen.frame m ρ
theorem frame_ki : Cert.quiescent_KernelXattnIdeal := fun m ρ _ => Cert.KernelXattnIdeal.Gen.frame m ρ
theorem frame_kip : Cert.quiescent_KernelXattnIdeal_pre_finite_xattn := fun m ρ _ => Cert.KernelXattnIdeal.Gen.frame m ρ
theorem frame_ri : Cert.quiescent_ReferenceXattnIdeal := fun m ρ _ =>
  (θ_run Cert.ReferenceXattnIdeal.defs _ _).mono (fun r h => ⟨fun c => (h c).2.2.2.2.2.2, sem_eq_zero_of_no_sems (by decide) r.2⟩)
    (Cert.ReferenceXattnIdeal.Value.run (F := Ideal) m ρ)
theorem frame_rip : Cert.quiescent_ReferenceXattnIdeal_pre_finite_xattn := fun m ρ _ => frame_ri m ρ trivial

section Reference

open Cert.ReferenceXattnIdeal Cert.Norm Cert.Attn

variable (m : Valuation τ sig (Elt Ideal))

abbrev rx (r : Fin 4096) : Fin 1024 → EReal := fun k => (m main_arg0 : FVec Ideal S4096x1024 .f32) (ix2 r k)
abbrev rd (r : Fin 4096) : Fin 1024 → EReal := fun k => (m main_arg1 : FVec Ideal S4096x1024 .f32) (ix2 r k)
abbrev rg : Fin 1024 → EReal := fun k => (m main_arg2 : FVec Ideal S1024 .f32) (ix1 k)
abbrev rwq : Fin 1024 → Fin 1024 → EReal := fun j n => (m main_arg3 : FVec Ideal S1024x1024 .f32) (ix2 j n)
abbrev rkv : Fin 256 → Fin 2048 → EReal := fun k n => (m main_arg4 : FVec Ideal S256x2048 .f32) (ix2 k n)
abbrev rwo : Fin 1024 → Fin 1024 → EReal := fun j n => (m main_arg5 : FVec Ideal S1024x1024 .f32) (ix2 j n)
def rq (r : Fin 4096) : Fin 1024 → EReal := qr (rx m r) (rg m) (rwq m)
def ru (r : Fin 4096) : Fin 1024 → EReal := back (rd m r) (rwo m)

theorem v7_apply (a : Fin 4096) : (Value.res_main_v7 m : FVec Ideal S4096x1 .f32) (ix2 a 0) = rstd (rx m a) := by
  unfold Value.res_main_v7 Value.res_main_v6
  pointwise
  rfl
theorem v12_apply (a : Fin 4096) (b : Fin 1024) :
    (Value.res_main_v12 m : FVec Ideal S4096x1024 .f32) (ix2 a b) = rx m a b * rstd (rx m a) := by
  unfold Value.res_main_v12
  pointwise
  rw [v7_apply]
theorem v19_apply (a : Fin 4096) (h : Fin 4) (e : Fin 256) :
    (Value.res_main_v19 m : FVec Ideal S4096x4x256 .f32) (ix3 a h e) = rq m a (hd h e) := by
  unfold Value.res_main_v19 Value.res_main_v13
  pointwise
  simp only [v12_apply, hd_mul]
  rfl
theorem v20_apply (k : Fin 256) (h : Fin 4) (e : Fin 256) :
    (Value.res_main_v20 m : FVec Ideal S256x4x256 .f32) (ix3 k h e) = rkv m k (kd h e) := by
  unfold Value.res_main_v20
  pointwise
  rw [kd_mul]
theorem v21_apply (k : Fin 256) (h : Fin 4) (e : Fin 256) :
    (Value.res_main_v21 m : FVec Ideal S256x4x256 .f32) (ix3 k h e) = rkv m k (vd h e) := by
  unfold Value.res_main_v21
  pointwise
  rw [vd_mul]
theorem v24_apply (h : Fin 4) (a : Fin 4096) (k : Fin 256) :
    (Value.res_main_v24 m : FVec Ideal S4x4096x256 .f32) (ix3 h a k) = sc (rq m a) (rkv m) h k := by
  unfold Value.res_main_v24
  pointwise
  simp only [v19_apply, v20_apply]
  rfl
/-! A row's exponentials as the reference writes them, piece by piece. -/

theorem spread_apply (w : FVec Ideal S4x4096 .f32) (h : Fin 4) (a : Fin 4096) (k : Fin 256) :
    (broadcastInDim S4x4096x256 ![0, 1, 2] Gen.bcast_S4x4096x1_S4x4096x256_0_1_2
      (broadcastInDim S4x4096x1 ![0, 1] Gen.bcast_S4x4096_S4x4096x1_0_1 w) : FVec Ideal S4x4096x256 .f32) (ix3 h a k) = w (ix2 h a) := by
  pointwise
theorem top_apply (v : FVec Ideal S4x4096x256 .f32) (h : Fin 4) (a : Fin 4096) :
    (Host.reduce FloatOps.maximumf v (constant S_ .f32 0xFF800000#32) Gen.reducesTo_S4x4096x256_S4x4096_d2 Gen.h_S_
      : FVec Ideal S4x4096 .f32) (ix2 h a) = mx (fun k => v (ix3 h a k)) := by
  pointwise
  rfl
theorem floor_apply (w : FVec Ideal S4x4096 .f32) (h : Fin 4) (a : Fin 4096) :
    (maximumf (broadcastInDim S4x4096 ![] Gen.bcast_S_S4x4096 (constant S_ .f32 0xFF800000#32)) w : FVec Ideal S4x4096 .f32) (ix2 h a)
      = w (ix2 h a) := by
  pointwise
  rw [ofBits_neg_inf, max_eq_right bot_le]
theorem ex_apply (v : FVec Ideal S4x4096x256 .f32) (h : Fin 4) (a : Fin 4096) (k : Fin 256) :
    (Host.exp (subf v (broadcastInDim S4x4096x256 ![0, 1, 2] Gen.bcast_S4x4096x1_S4x4096x256_0_1_2
      (broadcastInDim S4x4096x1 ![0, 1] Gen.bcast_S4x4096_S4x4096x1_0_1
        (maximumf (broadcastInDim S4x4096 ![] Gen.bcast_S_S4x4096 (constant S_ .f32 0xFF800000#32))
          (Host.reduce FloatOps.maximumf v (constant S_ .f32 0xFF800000#32) Gen.reducesTo_S4x4096x256_S4x4096_d2 Gen.h_S_)))))
        : FVec Ideal S4x4096x256 .f32) (ix3 h a k) = ex (fun k => v (ix3 h a k)) k :=
  congrArg (fun z => Ideal.exp (v (ix3 h a k) - z)) ((spread_apply _ h a k).trans ((floor_apply _ h a).trans (top_apply v h a)))
theorem v45_apply (h : Fin 4) (a : Fin 4096) (k : Fin 256) :
    (Value.res_main_v45 m : FVec Ideal S4x4096x256 .f32) (ix3 h a k) = ex (sc (rq m a) (rkv m) h) k := by
  unfold Value.res_main_v45 Value.res_main_v25
  refine (ex_apply (Value.res_main_v24 m) h a k).trans ?_
  exact congrArg (fun f => ex f k) (funext fun k => v24_apply m h a k)
theorem v47_apply (h : Fin 4) (a : Fin 4096) :
    (Value.res_main_v47 m : FVec Ideal S4x4096x1 .f32) (ix3 h a 0) = zz (sc (rq m a) (rkv m) h) := by
  unfold Value.res_main_v47
  pointwise
  simp only [v45_apply]
  rfl
theorem v49_apply (h : Fin 4) (a : Fin 4096) (k : Fin 256) :
    (Value.res_main_v49 m : FVec Ideal S4x4096x256 .f32) (ix3 h a k) = sm (sc (rq m a) (rkv m) h) k := by
  unfold Value.res_main_v49
  pointwise
  simp only [v45_apply, v47_apply]
  rfl
theorem v61_apply (h : Fin 4) (e : Fin 256) (a : Fin 4096) :
    (Value.res_main_v61 m : FVec Ideal S4x256x4096 .f32) (ix3 h e a) = ru m a (hd h e) := by
  unfold Value.res_main_v61
  pointwise
  simp only [hd_mul]
  rfl
theorem v62_apply (h : Fin 4) (a : Fin 4096) (k : Fin 256) :
    (Value.res_main_v62 m : FVec Ideal S4x4096x256 .f32) (ix3 h a k) = dp (ru m a) (rkv m) h k := by
  unfold Value.res_main_v62
  pointwise
  simp only [v61_apply, v21_apply]
  rfl
theorem v78_apply (h : Fin 4) (a : Fin 4096) (k : Fin 256) :
    (Value.res_main_v78 m : FVec Ideal S4x4096x256 .f32) (ix3 h a k) = dscR (rq m a) (ru m a) (rkv m) h k := by
  unfold Value.res_main_v78
  pointwise [Norm.hostReduceAdd_lead, Norm.hostReduceAdd_ends]
  simp only [v45_apply, v47_apply, v62_apply, Fin.sum_univ_one]
  unfold dscR dsR
  rw [ofBits_one]
  rfl

/-- The gradient of the normed entries, with the scores' gradient as the reference writes it. -/
def rdq (r : Fin 4096) : Fin 1024 → EReal := dq (rkv m) (dscR (rq m r) (ru m r) (rkv m))
def rdh (r : Fin 4096) : Fin 1024 → EReal := back (rdq m r) (rwq m)

theorem v87_apply (a : Fin 4096) (b : Fin 1024) :
    (Value.res_main_v87 m : FVec Ideal S4096x1024 .f32) (ix2 a b) = rdh m a b := by
  unfold Value.res_main_v87
  pointwise
  simp only [v78_apply, v20_apply]
  rfl
theorem v92_apply (a : Fin 4096) (b : Fin 1024) :
    (Value.res_main_v92 m : FVec Ideal S4096x1024 .f32) (ix2 a b) = rdh m a b * rg m b := by
  unfold Value.res_main_v92 Value.res_main_v13
  pointwise
  rw [v87_apply]
theorem v104_apply (a : Fin 4096) (b : Fin 1024) :
    (Value.res_main_v104 m : FVec Ideal S4096x1024 .f32) (ix2 a b)
      = rmean (rx m a) (fun k => rdh m a k * rg m k) := by
  unfold Value.res_main_v104 Value.res_main_v7 Value.res_main_v6
  pointwise
  simp only [v92_apply, Fin.sum_univ_one]
  rfl

/-! The second and third copy of the forward lines. -/

theorem v121_apply (a : Fin 4096) (b : Fin 1024) :
    (Value.res_main_v121 m : FVec Ideal S4096x1024 .f32) (ix2 a b) = hr (rx m a) (rg m) b := by
  unfold Value.res_main_v121
  pointwise
  rfl
theorem v125_eq : Value.res_main_v125 m = Value.res_main_v19 m := rfl
theorem v126_eq : Value.res_main_v126 m = Value.res_main_v20 m := rfl
theorem v127_eq : Value.res_main_v127 m = Value.res_main_v21 m := rfl
theorem v130_eq : Value.res_main_v130 m = Value.res_main_v24 m := by unfold Value.res_main_v130; rw [v125_eq, v126_eq]; rfl
theorem v131_eq : Value.res_main_v131 m = Value.res_main_v25 m := by unfold Value.res_main_v131; rw [v130_eq]; rfl
theorem v151_eq : Value.res_main_v151 m = Value.res_main_v45 m := by unfold Value.res_main_v151; rw [v130_eq, v131_eq]; rfl
theorem v153_eq : Value.res_main_v153 m = Value.res_main_v47 m := by unfold Value.res_main_v153; rw [v151_eq]; rfl
theorem v165_apply (h : Fin 4) (e : Fin 256) (a : Fin 4096) :
    (Value.res_main_v165 m : FVec Ideal S4x256x4096 .f32) (ix3 h e a) = ru m a (hd h e) := by
  unfold Value.res_main_v165
  pointwise
  simp only [hd_mul]
  rfl
theorem v166_apply (h : Fin 4) (a : Fin 4096) (k : Fin 256) :
    (Value.res_main_v166 m : FVec Ideal S4x4096x256 .f32) (ix3 h a k) = dp (ru m a) (rkv m) h k := by
  unfold Value.res_main_v166
  rw [v127_eq]
  pointwise
  simp only [v165_apply, v21_apply]
  rfl
theorem v182_apply (h : Fin 4) (a : Fin 4096) (k : Fin 256) :
    (Value.res_main_v182 m : FVec Ideal S4x4096x256 .f32) (ix3 h a k) = dscR (rq m a) (ru m a) (rkv m) h k := by
  unfold Value.res_main_v182
  rw [v151_eq, v153_eq]
  pointwise [Norm.hostReduceAdd_lead, Norm.hostReduceAdd_ends]
  simp only [v45_apply, v47_apply, v166_apply, Fin.sum_univ_one]
  unfold dscR dsR
  rw [ofBits_one]
  rfl
theorem v198_eq : Value.res_main_v198 m = Value.res_main_v24 m := rfl
theorem v205_eq : Value.res_main_v205 m = Value.res_main_v45 m := by unfold Value.res_main_v205; rw [v198_eq]; rfl

end Reference

open Cert.KernelXattnIdeal.Whole in
/-- The six arguments are real arrays. -/
theorem real_of_pre (m : (ℓ : Loc Cert.KernelXattnIdeal.nD Cert.KernelXattnIdeal.τ Cert.KernelXattnIdeal.sig) → Buf (Elt Ideal) ℓ)
    (hp : Cert.Pre_KernelXattnIdeal_finite_xattn m) (c : Dev Cert.KernelXattnIdeal.nD) :
    (∀ r k, Norm.IsReal (xR m c r k)) ∧ (∀ r k, Norm.IsReal (dR m c r k)) ∧ (∀ k, Norm.IsReal (gR m c k))
    ∧ (∀ r k, Norm.IsReal (wqM m c r k)) ∧ (∀ r k, Norm.IsReal (kvM m c r k)) ∧ (∀ r k, Norm.IsReal (woM m c r k)) := by
  obtain ⟨h15, h6⟩ := Norm.andi_one (congrFun (hp c) (fun a => a.elim0))
  obtain ⟨h14, h5⟩ := Norm.andi_one h15
  obtain ⟨h13, h4⟩ := Norm.andi_one h14
  obtain ⟨h12, h3⟩ := Norm.andi_one h13
  obtain ⟨h1, h2⟩ := Norm.andi_one h12
  exact ⟨fun r k => Norm.isReal_of_all h1 _, fun r k => Norm.isReal_of_all h2 _, fun k => Norm.isReal_of_all h3 _,
    fun r k => Norm.isReal_of_all h4 _, fun r k => Norm.isReal_of_all h5 _, fun r k => Norm.isReal_of_all h6 _⟩

open Cert.KernelXattnIdeal.Whole Cert.Norm Cert.Attn in
/-- The kernel's six results are the reference's, at every finite input. -/
theorem value : Cert.algebraic_KernelXattnIdeal_ReferenceXattnIdeal_pre_finite_xattn := by
  intro m g m' g' hp ha
  refine ⟨fun c => dxArr m c, fun c => hArr m c, fun c => dqArr m c, fun c => oArr m c, fun c => dkvArr m c, fun c => dgArr m c,
    (θ_run _ _ _).mono (fun r h c => ?_) (Cert.KernelXattnIdeal.Value.run_blocks m g),
    (θ_run _ _ _).mono (fun r h c => ?_) (Cert.ReferenceXattnIdeal.Value.run m' g')⟩
  · obtain ⟨h6, h7, h8, h9, h10, h11, hk⟩ := h c
    exact ⟨h6.trans (final6 m c), h7.trans (final7 m c), h8.trans (final8 m c), h9.trans (final9 m c), h10.trans (final10 m c),
      h11.trans (final11 m c), hk⟩
  · obtain ⟨h6, h7, h8, h9, h10, h11, hk⟩ := h c
    obtain ⟨e0, e1, e2, e3, e4, e5⟩ := ha c
    obtain ⟨fx, fd, fg, fq, fk, fo⟩ := real_of_pre m hp c
    refine ⟨h6.trans ?_, h7.trans ?_, h8.trans ?_, h9.trans ?_, h10.trans ?_, h11.trans ?_, hk⟩
    all_goals
      clear h h6 h7 h8 h9 h10 h11 hk ha
      replace e0 : rx (StableHlo.launchContents m' c) = xR m c := funext fun a => funext fun b => congrFun e0 (ix2 a b)
      replace e1 : rd (StableHlo.launchContents m' c) = dR m c := funext fun a => funext fun b => congrFun e1 (ix2 a b)
      replace e2 : rg (StableHlo.launchContents m' c) = gR m c := funext fun b => congrFun e2 (ix1 b)
      replace e3 : rwq (StableHlo.launchContents m' c) = wqM m c := funext fun a => funext fun b => congrFun e3 (ix2 a b)
      replace e4 : rkv (StableHlo.launchContents m' c) = kvM m c := funext fun a => funext fun b => congrFun e4 (ix2 a b)
      replace e5 : rwo (StableHlo.launchContents m' c) = woM m c := funext fun a => funext fun b => congrFun e5 (ix2 a b)
      generalize StableHlo.launchContents m' c = V at *
      have eq : rq V = qA m c := by funext r; unfold rq qA; rw [e0, e2, e3]
      have eu : ru V = uA m c := by funext r; unfold ru uA; rw [e1, e5]
      have es (r : Fin 4096) : dscR (rq V r) (ru V r) (rkv V) = dsc (qA m c r) (uA m c r) (kvM m c) := by
        rw [eq, eu, e4]
        exact dscR_eq (qr_real (fx r) fg fq) (back_real (fd r) fo) fk
      have edq (r : Fin 4096) : rdq V r = dqA m c r := by unfold rdq dqA; rw [es, e4]
      have edh (r : Fin 4096) : rdh V r = dhA m c r := by unfold rdh dhA; rw [edq, e3]
      funext j
      idx_vars j
    · pointwise
      rw [v92_apply, v104_apply, v7_apply]
      have hd' (b : Fin 1024) : IsReal (dhA m c j0 b * gR m c b) :=
        (back_real (dq_real (dsc_real (qr_real (fx j0) fg fq) (back_real (fd j0) fo) fk) fk) fq b).mul (fg b)
      show ((rd V j0 j1 + rdh V j0 j1 * rg V j1 * rstd (rx V j0)) + rx V j0 j1 * rmean (rx V j0) (fun k => rdh V j0 k * rg V k))
        + rmean (rx V j0) (fun k => rdh V j0 k * rg V k) * rx V j0 j1
          = dR m c j0 j1 + kbwd (xR m c j0) (fun k => dhA m c j0 k * gR m c k) j1
      rw [← rbwd_eq_kbwd (fx j0) hd', edh, e0, e1, e2, rbwd, add_assoc, add_assoc, add_assoc]
    · pointwise
      rw [v121_apply, e0, e2]
      rfl
    · pointwise
      rw [v126_eq]
      simp only [v182_apply, v20_apply]
      exact Eq.trans rfl (congrFun (edq j0) j1)
    · rw [v205_eq]
      pointwise
      simp only [v45_apply]
      show _ = ∑ k, sm (sc (qA m c j0) (kvM m c) (ho j1)) k * kvM m c k (vd (ho j1) (co j1))
      refine Finset.sum_congr rfl fun k _ => ?_
      rw [eq, e4, mul_comm]
      exact congrArg (sm (sc (qA m c j0) (kvM m c) (ho j1)) k * ·) ((congrFun (congrFun e4 k) _).trans (congrArg (kvM m c k)
        (Fin.ext (by show 1024 + j1.val = 1024 + 256 * (j1.val / 256) + j1.val % 256; omega))))
    · pointwise
      simp only [v78_apply, v19_apply, v61_apply, v49_apply, es]
      rw [eq, eu, e4]
      show _ = ∑ r, kvT (qA m c r) (uA m c r) (kvM m c) j0 j1
      split_ifs with hj hz
      · refine Finset.sum_congr rfl fun r _ => ?_
        rw [kvT, dif_pos hj]
        exact congrArg (_ * qA m c r ·) (hd_ho ⟨j1.val, hj⟩)
      · refine Finset.sum_congr rfl fun r _ => ?_
        rw [kvT, dif_neg hj, mul_comm]
        exact congrArg (_ * uA m c r ·) (hd_ho ⟨j1.val - 1024, by omega⟩)
      · exact absurd rfl hz
    · pointwise [Norm.hostReduceAdd_lead, Norm.hostReduceAdd_ends]
      simp only [v12_apply, v87_apply, Fin.sum_univ_one, edh]
      refine Finset.sum_congr rfl fun r _ => ?_
      rw [e0, mul_comm]
      rfl

end Cert.Proof.Xattn
-- ==== Proof.Xfwd.lean ====
/-
  The cross attention block's forward pass.
-/
module

public import proofs.«01_k».proof.Defs
public import proofs.«01_k».proof.Proof.Attn
public import proofs.«01_k».proof.Proof.Gen.KernelXfwd
public import proofs.«01_k».proof.Proof.Gen.KernelXfwd.Frame
public import proofs.«01_k».proof.Proof.Gen.KernelXfwdIdeal
public import proofs.«01_k».proof.Proof.Gen.KernelXfwdIdeal.Frame
public import proofs.«01_k».proof.Proof.Gen.KernelXfwdIdeal.Value
public import proofs.«01_k».proof.Proof.Gen.ReferenceXfwdIdeal
public import proofs.«01_k».proof.Proof.Gen.ReferenceXfwdIdeal.Run
public import Idealize.ShloMosaic.Lib.Pointwise
public import Idealize.ShloMosaic.Lib.Tactic
public import Idealize.ShloMosaic.Lib.StableHlo.RunRead
public import Idealize.ShloMosaic.Lib.Pipeline.ReadBack
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## One grid point: what it stores, at an index -/

namespace Cert.KernelXfwdIdeal.Body

open Cert.KernelXfwdIdeal Cert.KernelXfwdIdeal.Gen Cert.Norm Cert.Attn

theorem hz : (![0, 0] : Fin 2 → Nat) = fun _ => 0 := funext fun a => by fin_cases a <;> rfl

variable (x : Vec Ideal S256x1024 .f32) (g : Vec Ideal S1x1024 .f32) (wq : Vec Ideal S1024x1024 .bf16) (kv : Vec Ideal S256x2048 .bf16)
  (wo : Vec Ideal S1024x1024 .bf16) (q : FVec Ideal S256x1024 .f32) (k : FVec Ideal S256x2048 .bf16) (q0 q1 q2 s : FVec Ideal S256x256 .f32)
  (z : FVec Ideal S256x1 .f32)

/-- Rows of a block, of the gain, and the matrices of keys and values and of weights. -/
abbrev row (q : FVec Ideal S256x1024 .f32) (a : Fin 256) : Fin 1024 → EReal := fun j => q (ix2 a j)
abbrev gain (g : Vec Ideal S1x1024 .f32) : Fin 1024 → EReal := fun j => g (ix2 0 j)
abbrev kvm (k : FVec Ideal S256x2048 .bf16) : Fin 256 → Fin 2048 → EReal := fun m n => k (ix2 m n)
abbrev mat (w : FVec Ideal S1024x1024 .bf16) : Fin 1024 → Fin 1024 → EReal := fun m n => w (ix2 m n)

theorem pay2_eq : k0_pay2 (F := Ideal) kv = kv := by funext j; idx_vars j; pointwise [k0_pay2]
theorem pay3_apply (a : Fin 256) (b : Fin 1024) : k0_pay3 x g wq (ix2 a b) = qr (row x a) (gain g) (mat wq) b := by
  pointwise [k0_pay3]
  rfl
theorem pay4_apply (a b : Fin 256) : k0_pay4 x g wq kv (ix2 a b)
    = ∑ j, sm (sc (row (k0_pay3 x g wq) a) (kvm kv) 0) j * kvm kv j (vd 0 b) := by
  have hs : sc (row (k0_pay3 x g wq) a) (kvm kv) 0
      = fun k => (∑ j : Fin 256, k0_pay3 x g wq (ix2 a ⟨j.val, by omega⟩) * kv (ix2 k ⟨j.val, by omega⟩)) * c16 :=
    funext fun k => by simp only [sc, hd_zero, kd_zero]
  rw [hs]
  pointwise [k0_pay4, k0_pay2]
  rfl
theorem pay7_apply (a b : Fin 256) : k0_pay7 kv (k0_pay5 kv) (k0_pay6 x g wq) (ix2 a b)
    = ∑ j, sm (sc (row (k0_pay3 x g wq) a) (kvm kv) 1) j * kvm kv j (vd 1 b) := by
  pointwise [k0_pay7, k0_pay5, k0_pay6, k0_pay2]
  rfl
theorem pay8_apply (a b : Fin 256) : k0_pay8 k q (ix2 a b)
    = ∑ j, sm (sc (row q a) (kvm k) 2) j * kvm k j (vd 2 b) := by
  pointwise [k0_pay8]
  rfl
theorem pay9_apply (a b : Fin 256) : k0_pay9 k q (ix2 a b) = ex (sc (row q a) (kvm k) 3) b := by
  pointwise [k0_pay9]
  rfl
theorem pay10_apply (a : Fin 256) : k0_pay10 k q (ix2 a 0) = zz (sc (row q a) (kvm k) 3) := by
  pointwise [k0_pay10]
  simp only [pay9_apply]
  rfl
/-- The last head's output from its exponentials and their sums. -/
def last (a b : Fin 256) : EReal := ∑ j, Ideal.div (s (ix2 a j)) (z (ix2 a 0)) * kvm k j (vd 3 b)
theorem pay1_apply (a : Fin 256) (b : Fin 1024) : k0_pay1 x k q0 q1 q2 s z wo (ix2 a b)
    = x (ix2 a b) + ∑ n, (![fun e => q0 (ix2 a e), fun e => q1 (ix2 a e), fun e => q2 (ix2 a e), last k s z a] (ho n)) (co n) * mat wo n b := by
  pointwise [k0_pay1]
  refine congrArg (x (ix2 a b) + ·) (Finset.sum_congr rfl fun n _ => congrArg (· * mat wo n b) ?_)
  refine Eq.trans ?_ (cat4 (![fun e => q0 (ix2 a e), fun e => q1 (ix2 a e), fun e => q2 (ix2 a e), last k s z a]) n)
  split_ifs <;> rfl

/-- The block's result at an index. -/
theorem out_apply (a : Fin 256) (b : Fin 1024) : out0_5 x g wq kv wo (ix2 a b)
    = x (ix2 a b) + ∑ n, out (qr (row x a) (gain g) (mat wq)) (kvm kv) n * mat wo n b := by
  unfold out0_5
  rw [View.canon_unit_zero hz]
  simp only [k0_pay11, k0_pay12, View.ld_unit_zero (S := S256x1024) hz, View.ld_unit_zero (S := S1024x1024) hz,
    View.ld_unit_zero (S := S256x2048) hz, View.ld_unit_zero (S := S1x1024) hz, pay2_eq]
  rw [pay1_apply]
  refine congrArg (x (ix2 a b) + ·) (Finset.sum_congr rfl fun n _ => congrArg (· * mat wo n b) ?_)
  have hq : row (k0_pay3 x g wq) a = qr (row x a) (gain g) (mat wq) := funext fun n => pay3_apply x g wq a n
  have key : ∀ (h : Fin 4) (e : Fin 256), (![fun e => k0_pay4 x g wq kv (ix2 a e), fun e => k0_pay7 kv (k0_pay5 kv) (k0_pay6 x g wq) (ix2 a e),
      fun e => k0_pay8 kv (k0_pay3 x g wq) (ix2 a e), last kv (k0_pay9 kv (k0_pay3 x g wq)) (k0_pay10 kv (k0_pay3 x g wq)) a] h) e
      = ∑ k, sm (sc (qr (row x a) (gain g) (mat wq)) (kvm kv) h) k * kvm kv k (vd h e) := by
    intro h e
    match h with
    | 0 => exact (pay4_apply x g wq kv a e).trans (by rw [hq])
    | 1 => exact (pay7_apply x g wq kv a e).trans (by rw [hq])
    | 2 => exact (pay8_apply _ _ a e).trans (by rw [hq])
    | 3 =>
      show last kv _ _ a e = _
      unfold last
      simp only [pay9_apply, pay10_apply, hq]
      rfl
  exact key _ _

end Cert.KernelXfwdIdeal.Body

/-! ## The array after the run -/

namespace Cert.KernelXfwdIdeal.Whole

open Cert.KernelXfwdIdeal Cert.KernelXfwdIdeal.Gen Cert.KernelXfwdIdeal.Body Cert.Norm Cert.Attn

variable (m : (ℓ : Loc nD τ sig) → Buf (Elt Ideal) ℓ) (c : Dev nD)

abbrev xR (r : Fin 4096) : Fin 1024 → EReal := fun k => m ((c : Thread nD τ).loc main_arg0) (ix2 r k)
abbrev gR : Fin 1024 → EReal := fun k => m ((c : Thread nD τ).loc main_arg1) (ix1 k)
abbrev wqM : Fin 1024 → Fin 1024 → EReal := fun j n => m ((c : Thread nD τ).loc main_arg2) (ix2 j n)
abbrev kvM : Fin 256 → Fin 2048 → EReal := fun k n => m ((c : Thread nD τ).loc main_arg3) (ix2 k n)
abbrev woM : Fin 1024 → Fin 1024 → EReal := fun j n => m ((c : Thread nD τ).loc main_arg4) (ix2 j n)

/-- The block's result: a row plus the attention's output times the output weights. -/
def res (x g : Fin 1024 → EReal) (wq : Fin 1024 → Fin 1024 → EReal) (kv : Fin 256 → Fin 2048 → EReal) (wo : Fin 1024 → Fin 1024 → EReal)
    (b : Fin 1024) : EReal := x b + ∑ n, out (qr x g wq) kv n * wo n b
def resArr : FVec Ideal S4096x1024 .f32 := fun j => res (xR m c (j 0)) (gR m c) (wqM m c) (kvM m c) (woM m c) (j 1)

/-- Row `a` of tile `t`. -/
def tr (t : ℕ) (h : t < 16) (a : Fin 256) : Fin 4096 := ⟨256 * t + a.val, by omega⟩
theorem lt16 (t : Fin cfg0.N) : t.val < 16 := by have := t.isLt; have h : cfg0.N = 16 := N_0; omega

theorem V_v0 (b : Fin 1024) : (V m c main_v0 : Vec Ideal S1x1024 .f32) (ix2 0 b) = gR m c b := by
  dsimp only [V, hostOps0]
  after_reads_simp
  pointwise
theorem V_v1 : V m c main_v1 = m ((c : Thread nD τ).loc main_arg2) := by
  dsimp only [V, hostOps0]
  after_reads_simp
  rfl
theorem V_v2 : V m c main_v2 = m ((c : Thread nD τ).loc main_arg3) := by
  dsimp only [V, hostOps0]
  after_reads_simp
  rfl
theorem V_v3 : V m c main_v3 = m ((c : Thread nD τ).loc main_arg4) := by
  dsimp only [V, hostOps0]
  after_reads_simp
  rfl
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem x_row (t : Fin cfg0.N) (e : Fin 256) : row (iblk m c 0 t) e = xR m c (tr t.val (lt16 t) e) := by
  funext b
  refine Eq.trans ?_ (congrFun (V_main_arg0 m c) (ix2 (tr t.val (lt16 t) e) b))
  dsimp only [row]
  unfold iblk
  rw [View.read_apply]
  show V m c main_arg0 _ = V m c main_arg0 _
  congr 1
  funext a
  apply Fin.ext
  match a with
  | ⟨0, _⟩ => show win0_0.index t 0 * 256 + 1 * e.val = 256 * t.val + e.val; rw [(idx0 t).1]; omega
  | ⟨1, _⟩ => show win0_0.index t 1 * 1024 + 1 * b.val = b.val; rw [(idx0 t).2]; omega

theorem g_row (t : Fin cfg0.N) : gain (iblk m c 1 t) = gR m c := by
  funext b
  refine Eq.trans ?_ (V_v0 m c b)
  dsimp only [gain]
  unfold iblk
  rw [View.read_apply]
  show V m c main_v0 _ = V m c main_v0 _
  congr 1
  funext a
  apply Fin.ext
  match a with
  | ⟨0, _⟩ => show win0_1.index t 0 * 1 + 1 * 0 = 0; rw [(idx1 t).1]
  | ⟨1, _⟩ => show win0_1.index t 1 * 1024 + 1 * b.val = b.val; rw [(idx1 t).2]; omega

theorem wq_mat (t : Fin cfg0.N) : mat (iblk m c 2 t) = wqM m c := by
  funext e b
  refine Eq.trans ?_ (congrFun (V_v1 m c) (ix2 e b))
  dsimp only [mat]
  unfold iblk
  rw [View.read_apply]
  show V m c main_v1 _ = V m c main_v1 _
  congr 1
  funext a
  apply Fin.ext
  match a with
  | ⟨0, _⟩ => show win0_2.index t 0 * 1024 + 1 * e.val = e.val; rw [(idx2 t).1]; omega
  | ⟨1, _⟩ => show win0_2.index t 1 * 1024 + 1 * b.val = b.val; rw [(idx2 t).2]; omega

theorem kv_mat (t : Fin cfg0.N) : kvm (iblk m c 3 t) = kvM m c := by
  funext e b
  refine Eq.trans ?_ (congrFun (V_v2 m c) (ix2 e b))
  dsimp only [kvm]
  unfold iblk
  rw [View.read_apply]
  show V m c main_v2 _ = V m c main_v2 _
  congr 1
  funext a
  apply Fin.ext
  match a with
  | ⟨0, _⟩ => show win0_3.index t 0 * 256 + 1 * e.val = e.val; rw [(idx3 t).1]; omega
  | ⟨1, _⟩ => show win0_3.index t 1 * 2048 + 1 * b.val = b.val; rw [(idx3 t).2]; omega

theorem wo_mat (t : Fin cfg0.N) : mat (iblk m c 4 t) = woM m c := by
  funext e b
  refine Eq.trans ?_ (congrFun (V_v3 m c) (ix2 e b))
  dsimp only [mat]
  unfold iblk
  rw [View.read_apply]
  show V m c main_v3 _ = V m c main_v3 _
  congr 1
  funext a
  apply Fin.ext
  match a with
  | ⟨0, _⟩ => show win0_4.index t 0 * 1024 + 1 * e.val = e.val; rw [(idx4 t).1]; omega
  | ⟨1, _⟩ => show win0_4.index t 1 * 1024 + 1 * b.val = b.val; rw [(idx4 t).2]; omega

theorem point (t : Fin cfg0.N) (a : Fin 256) (b : Fin 1024) :
    out0_5 (iblk m c 0 t) (iblk m c 1 t) (iblk m c 2 t) (iblk m c 3 t) (iblk m c 4 t) (ix2 a b) = resArr m c (ix2 (tr t.val (lt16 t) a) b) := by
  refine (out_apply (iblk m c 0 t) (iblk m c 1 t) (iblk m c 2 t) (iblk m c 3 t) (iblk m c 4 t) a b).trans ?_
  rw [x_row, g_row, wq_mat, kv_mat, wo_mat]
  exact congrArg (· + _) (congrFun (x_row m c t a) b)

theorem read5 (G : FVec Ideal S4096x1024 .f32) (t : Fin cfg0.N) (r : Fin 256) (b : Fin 1024) :
    (((cfg0.win 5).blk t).view.read (Elt Ideal) G : Vec Ideal S256x1024 .f32) (ix2 r b) = G (ix2 (tr t.val (lt16 t) r) b) := by
  rw [View.read_apply]
  show G _ = _
  congr 1
  funext a
  apply Fin.ext
  match a with
  | ⟨0, _⟩ => show win0_5.index t 0 * 256 + 1 * r.val = 256 * t.val + r.val; rw [(idx5 t).1]; omega
  | ⟨1, _⟩ => show win0_5.index t 1 * 1024 + 1 * b.val = b.val; rw [(idx5 t).2]; omega

theorem final5 : (dats m 0 c).arrAt 5 cfg0.N = resArr m c := by
  refine (dats m 0 c).arrAt_eq_of_cover 5 (resArr m c) (fun t hf => ?_) fun i => ?_
  · rw [Value.flushed5]
    refine (funext fun j => ?_ : out0_5 (iblk m c 0 t) (iblk m c 1 t) (iblk m c 2 t) (iblk m c 3 t) (iblk m c 4 t)
      = (((cfg0.win 5).blk t).view.read (Elt Ideal) (resArr m c) : Vec Ideal S256x1024 .f32))
    idx_vars j
    rw [read5]
    exact point m c t j0 j1
  · have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_5 _, ?_⟩
    show i ∈ ((View.whole main_v4).slice (win0_5.rect ⟨(i 0 : Nat) / 256, ht⟩)).set
    rw [View.set_slice_whole, Rect.mem_set_unit]
    intro a
    match a with
    | ⟨0, _⟩ =>
      show win0_5.index ⟨(i 0 : Nat) / 256, ht⟩ 0 * 256 ≤ (i 0 : Nat) ∧ (i 0 : Nat) < win0_5.index ⟨(i 0 : Nat) / 256, ht⟩ 0 * 256 + 256
      rw [(idx5 _).1]; dsimp only; omega
    | ⟨1, _⟩ =>
      show win0_5.index ⟨(i 0 : Nat) / 256, ht⟩ 1 * 1024 ≤ (i 1 : Nat) ∧ (i 1 : Nat) < win0_5.index ⟨(i 0 : Nat) / 256, ht⟩ 1 * 1024 + 1024
      rw [(idx5 _).2]; omega

end Cert.KernelXfwdIdeal.Whole

namespace Cert.Proof.Xfwd

theorem frame_k : Cert.quiescent_KernelXfwd := fun m ρ _ => Cert.KernelXfwd.Gen.frame m ρ
theorem frame_ki : Cert.quiescent_KernelXfwdIdeal := fun m ρ _ => Cert.KernelXfwdIdeal.Gen.frame m ρ
theorem frame_ri : Cert.quiescent_ReferenceXfwdIdeal := fun m ρ _ =>
  (θ_run Cert.ReferenceXfwdIdeal.defs _ _).mono (fun r h => ⟨fun c => (h c).2, sem_eq_zero_of_no_sems (by decide) r.2⟩)
    (Cert.ReferenceXfwdIdeal.Value.run (F := Ideal) m ρ)

section Reference

open Cert.ReferenceXfwdIdeal Cert.Norm Cert.Attn Idealize.ShloMosaic.StableHlo

variable (x : FVec Ideal S4096x1024 .f32) (g : FVec Ideal S1024 .f32) (wq wo : FVec Ideal S1024x1024 .f32) (kv : FVec Ideal S256x2048 .f32)
  (v : FVec Ideal S4x4096x256 .f32)

abbrev rq (r : Fin 4096) : Fin 1024 → EReal := qr (fun k => x (ix2 r k)) (fun k => g (ix1 k)) (fun j n => wq (ix2 j n))
abbrev rkv : Fin 256 → Fin 2048 → EReal := fun k n => kv (ix2 k n)

/-- The reference's scores, a row's exponentials, and its weights. -/
def scores : FVec Ideal S4x4096x256 .f32 := mulf (Host.dotGeneral dot_S4096x4x256_S256x4x256_S4x4096x256_2_2_0_0_1_1 none (shapeCast _ (Host.dotGeneral dot_S4096x1024_S1024x1024_S4096x1024_1_0_0_1_n_n none (mulf (mulf x (broadcastInDim S4096x1024 ![0, 1] Gen.bcast_S4096x1_S4096x1024_0_1 (Host.rsqrt (addf (Host.divf (broadcastInDim S4096x1 ![0] Gen.bcast_S4096_S4096x1_0 (Host.reduceAdd (mulf x x) (constant S_ .f32 0x00000000#32) Gen.reducesTo_S4096x1024_S4096_d1 Gen.h_S_)) (broadcastInDim S4096x1 ![] Gen.bcast_S_S4096x1 (constant S_ .f32 0x44800000#32))) (broadcastInDim S4096x1 ![] Gen.bcast_S_S4096x1 (constant S_ .f32 0x358637BD#32)))))) (broadcastInDim S4096x1024 ![0, 1] Gen.bcast_S1x1024_S4096x1024_0_1 (broadcastInDim S1x1024 ![1] Gen.bcast_S1024_S1x1024_1 g))) wq) Gen.shapeCasts_S4096x1024_S4096x4x256) (shapeCast _ (extractStridedSlice S256x1024 ![0, 0] kv Gen.slices_S256x2048_S256x1024_0_0) Gen.shapeCasts_S256x1024_S256x4x256)) (broadcastInDim S4x4096x256 ![] Gen.bcast_S_S4x4096x256 (constant S_ .f32 0x3D800000#32))
def exps : FVec Ideal S4x4096x256 .f32 := Host.exp (subf v (broadcastInDim S4x4096x256 ![0, 1, 2] Gen.bcast_S4x4096x1_S4x4096x256_0_1_2 (broadcastInDim S4x4096x1 ![0, 1] Gen.bcast_S4x4096_S4x4096x1_0_1 (maximumf (broadcastInDim S4x4096 ![] Gen.bcast_S_S4x4096 (constant S_ .f32 0xFF800000#32)) (Host.reduce FloatOps.maximumf v (constant S_ .f32 0xFF800000#32) Gen.reducesTo_S4x4096x256_S4x4096_d2 Gen.h_S_)))))
def probs : FVec Ideal S4x4096x256 .f32 := Host.divf (exps v) (broadcastInDim S4x4096x256 ![0, 1, 2] Gen.bcast_S4x4096x1_S4x4096x256_0_1_2
  (broadcastInDim S4x4096x1 ![0, 1] Gen.bcast_S4x4096_S4x4096x1_0_1 (Host.reduceAdd (exps v) (constant S_ .f32 0x00000000#32)
    Gen.reducesTo_S4x4096x256_S4x4096_d2 Gen.h_S_)))

theorem scores_apply (h : Fin 4) (a : Fin 4096) (k : Fin 256) : scores x g wq kv (ix3 h a k) = sc (rq x g wq a) (rkv kv) h k := by
  unfold scores
  pointwise
  simp only [hd_mul, kd_mul]
  rfl
theorem spread_apply (w : FVec Ideal S4x4096 .f32) (h : Fin 4) (a : Fin 4096) (k : Fin 256) :
    (broadcastInDim S4x4096x256 ![0, 1, 2] Gen.bcast_S4x4096x1_S4x4096x256_0_1_2
      (broadcastInDim S4x4096x1 ![0, 1] Gen.bcast_S4x4096_S4x4096x1_0_1 w) : FVec Ideal S4x4096x256 .f32) (ix3 h a k) = w (ix2 h a) := by
  pointwise
theorem top_apply (v : FVec Ideal S4x4096x256 .f32) (h : Fin 4) (a : Fin 4096) :
    (Host.reduce FloatOps.maximumf v (constant S_ .f32 0xFF800000#32) Gen.reducesTo_S4x4096x256_S4x4096_d2 Gen.h_S_
      : FVec Ideal S4x4096 .f32) (ix2 h a) = mx (fun k => v (ix3 h a k)) := by
  pointwise
  rfl
theorem floor_apply (w : FVec Ideal S4x4096 .f32) (h : Fin 4) (a : Fin 4096) :
    (maximumf (broadcastInDim S4x4096 ![] Gen.bcast_S_S4x4096 (constant S_ .f32 0xFF800000#32)) w : FVec Ideal S4x4096 .f32) (ix2 h a)
      = w (ix2 h a) := by
  pointwise
  rw [ofBits_neg_inf, max_eq_right bot_le]
theorem ex_apply (h : Fin 4) (a : Fin 4096) (k : Fin 256) :
    (Host.exp (subf v (broadcastInDim S4x4096x256 ![0, 1, 2] Gen.bcast_S4x4096x1_S4x4096x256_0_1_2
      (broadcastInDim S4x4096x1 ![0, 1] Gen.bcast_S4x4096_S4x4096x1_0_1
        (maximumf (broadcastInDim S4x4096 ![] Gen.bcast_S_S4x4096 (constant S_ .f32 0xFF800000#32))
          (Host.reduce FloatOps.maximumf v (constant S_ .f32 0xFF800000#32) Gen.reducesTo_S4x4096x256_S4x4096_d2 Gen.h_S_)))))
        : FVec Ideal S4x4096x256 .f32) (ix3 h a k) = ex (fun k => v (ix3 h a k)) k :=
  congrArg (fun z => Ideal.exp (v (ix3 h a k) - z)) ((spread_apply _ h a k).trans ((floor_apply _ h a).trans (top_apply v h a)))
theorem exps_apply (h : Fin 4) (a : Fin 4096) (k : Fin 256) : exps v (ix3 h a k) = ex (fun k => v (ix3 h a k)) k := ex_apply v h a k
theorem probs_apply (h : Fin 4) (a : Fin 4096) (k : Fin 256) : probs v (ix3 h a k) = sm (fun k => v (ix3 h a k)) k := by
  unfold probs
  have hz : (Host.reduceAdd (exps v) (constant S_ .f32 0x00000000#32) Gen.reducesTo_S4x4096x256_S4x4096_d2 Gen.h_S_ : FVec Ideal S4x4096 .f32)
      (ix2 h a) = zz (fun k => v (ix3 h a k)) := by
    pointwise
    simp only [exps_apply]
    rfl
  exact congrArg₂ Ideal.div (exps_apply v h a k) ((spread_apply _ h a k).trans hz)

theorem res_gen (a : Fin 4096) (b : Fin 1024) :
    (addf x (Host.dotGeneral dot_S4096x1024_S1024x1024_S4096x1024_1_0_0_1_n_n none
      (shapeCast _ (transpose S4096x4x256 [2, 0, 1] (Host.dotGeneral dot_S256x4x256_S4x4096x256_S4x256x4096_0_2_2_1_1_0 none
        (shapeCast _ (extractStridedSlice S256x1024 ![0, 1024] kv Gen.slices_S256x2048_S256x1024_0_1024) Gen.shapeCasts_S256x1024_S256x4x256)
        (probs (scores x g wq kv))) Gen.transposes_S4x256x4096_S4096x4x256_2_0_1) Gen.shapeCasts_S4096x4x256_S4096x1024) wo)
      : FVec Ideal S4096x1024 .f32) (ix2 a b)
      = Cert.KernelXfwdIdeal.Whole.res (fun k => x (ix2 a k)) (fun k => g (ix1 k)) (fun j n => wq (ix2 j n)) (fun k n => kv (ix2 k n))
        (fun j n => wo (ix2 j n)) b := by
  pointwise
  simp only [probs_apply, scores_apply]
  refine congrArg (x (ix2 a b) + ·) (Finset.sum_congr rfl fun n _ => congrArg (· * wo (ix2 n b)) (Finset.sum_congr rfl fun k _ => ?_))
  rw [mul_comm]
  exact congrArg (sm (sc (rq x g wq a) (rkv kv) (ho n)) k * ·) (congrArg (fun i => kv (ix2 k i))
    (Fin.ext (by show 1024 + n.val = 1024 + 256 * (n.val / 256) + n.val % 256; omega)))

/-- The reference's result at an index. -/
theorem res_apply (m : (ℓ : Loc nD τ sig) → Buf (Elt Ideal) ℓ) (c : Dev nD) (a : Fin 4096) (b : Fin 1024) :
    (Value.res_main_v37 m c : FVec Ideal S4096x1024 .f32) (ix2 a b)
      = Cert.KernelXfwdIdeal.Whole.res (fun k => m ((c.tc : Thread nD τ).loc main_arg0) (ix2 a k)) (fun k => m ((c.tc : Thread nD τ).loc main_arg1) (ix1 k))
        (fun j n => m ((c.tc : Thread nD τ).loc main_arg2) (ix2 j n)) (fun k n => m ((c.tc : Thread nD τ).loc main_arg3) (ix2 k n))
        (fun j n => m ((c.tc : Thread nD τ).loc main_arg4) (ix2 j n)) b :=
  res_gen (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg3)) a b

end Reference

open Cert.KernelXfwdIdeal.Whole Cert.Norm Cert.Attn in
/-- The kernel's result is the reference's, at every input. -/
theorem value : Cert.algebraic_KernelXfwdIdeal_ReferenceXfwdIdeal := by
  intro m g m' g' _ ha
  refine ⟨fun c => resArr m c, (θ_run _ _ _).mono (fun r h c => ?_) (Cert.KernelXfwdIdeal.Value.run_blocks m g),
    (θ_run _ _ _).mono (fun r h c => ?_) (Cert.ReferenceXfwdIdeal.Value.run m' g')⟩
  · obtain ⟨h5, hk⟩ := h c
    exact ⟨h5.trans (final5 m c), hk⟩
  · obtain ⟨h5, hk⟩ := h c
    obtain ⟨e0, e1, e2, e3, e4⟩ := ha c
    refine ⟨h5.trans ?_, hk⟩
    funext j
    idx_vars j
    rw [res_apply, e0, e1, e2, e3, e4]
    rfl

end Cert.Proof.Xfwd
-- ==== Proof.lean ====
module

public import proofs.«01_k».proof.Defs
public import proofs.«01_k».proof.Proof.Adam
public import proofs.«01_k».proof.Proof.Final
public import proofs.«01_k».proof.Proof.In
public import proofs.«01_k».proof.Proof.Mem
public import proofs.«01_k».proof.Proof.Mfwd
public import proofs.«01_k».proof.Proof.Mlp
public import proofs.«01_k».proof.Proof.Mmtn
public import proofs.«01_k».proof.Proof.Pfwd
public import proofs.«01_k».proof.Proof.Pre
public import proofs.«01_k».proof.Proof.Qfwd
public import proofs.«01_k».proof.Proof.Sfwd
public import proofs.«01_k».proof.Proof.Xattn
public import proofs.«01_k».proof.Proof.Xfwd
public import Idealize.ShloMosaic.Adequacy
public import Idealize.ShloMosaic.Init

@[expose] public section

noncomputable section

namespace Cert.Proof

open Idealize.ShloMosaic Idealize.SL.Sem

theorem claim : Cert.Claim :=
  ⟨Cert.KernelFinal.Gen.facts, Cert.KernelFinalIdeal.Gen.facts, Cert.ReferenceFinalIdeal.Gen.facts,
    Cert.KernelMem.Gen.facts, Cert.KernelMemIdeal.Gen.facts, Cert.ReferenceMemIdeal.Gen.facts,
    Cert.KernelIn.Gen.facts, Cert.KernelInIdeal.Gen.facts, Cert.ReferenceInIdeal.Gen.facts,
    Cert.KernelMlp.Gen.facts, Cert.KernelMlpIdeal.Gen.facts, Cert.ReferenceMlpIdeal.Gen.facts,
    Cert.KernelXattn.Gen.facts, Cert.KernelXattnIdeal.Gen.facts, Cert.ReferenceXattnIdeal.Gen.facts,
    Cert.KernelPre.Gen.facts, Cert.KernelPreIdeal.Gen.facts, Cert.ReferencePreIdeal.Gen.facts,
    Cert.KernelXfwd.Gen.facts, Cert.KernelXfwdIdeal.Gen.facts, Cert.ReferenceXfwdIdeal.Gen.facts,
    Cert.KernelSfwd.Gen.facts, Cert.KernelSfwdIdeal.Gen.facts, Cert.ReferenceSfwdIdeal.Gen.facts,
    Cert.KernelPfwd.Gen.facts, Cert.KernelPfwdIdeal.Gen.facts, Cert.ReferencePfwdIdeal.Gen.facts,
    Cert.KernelMfwd.Gen.facts, Cert.KernelMfwdIdeal.Gen.facts, Cert.ReferenceMfwdIdeal.Gen.facts,
    Cert.KernelQfwd.Gen.facts, Cert.KernelQfwdIdeal.Gen.facts, Cert.ReferenceQfwdIdeal.Gen.facts,
    Cert.KernelMmtn.Gen.facts, Cert.KernelMmtnIdeal.Gen.facts, Cert.ReferenceMmtnIdeal.Gen.facts,
    Cert.KernelAdam.Gen.facts, Cert.KernelAdamIdeal.Gen.facts, Cert.ReferenceAdamIdeal.Gen.facts,
    Cert.Pre_finite_final.Gen.facts, Cert.Pre_finite_in.Gen.facts, Cert.Pre_finite_mlp.Gen.facts, Cert.Pre_finite_xattn.Gen.facts,
    Final.frame_k, Final.frame_ki, Final.frame_kip, Final.frame_ri, Final.frame_rip,
    Mem.frame_k, Mem.frame_ki, Mem.frame_ri,
    In.frame_k, In.frame_ki, In.frame_kip, In.frame_ri, In.frame_rip,
    Mlp.frame_k, Mlp.frame_ki, Mlp.frame_kip, Mlp.frame_ri, Mlp.frame_rip,
    Xattn.frame_k, Xattn.frame_ki, Xattn.frame_kip, Xattn.frame_ri, Xattn.frame_rip,
    Pre.frame_k, Pre.frame_ki, Pre.frame_ri,
    Xfwd.frame_k, Xfwd.frame_ki, Xfwd.frame_ri,
    Sfwd.frame_k, Sfwd.frame_ki, Sfwd.frame_ri,
    Pfwd.frame_k, Pfwd.frame_ki, Pfwd.frame_ri,
    Mfwd.frame_k, Mfwd.frame_ki, Mfwd.frame_ri,
    Qfwd.frame_k, Qfwd.frame_ki, Qfwd.frame_ri,
    Mmtn.frame_k, Mmtn.frame_ki, Mmtn.frame_ri,
    Adam.frame_k, Adam.frame_ki, Adam.frame_ri,
    trivial, Final.value, trivial, Mem.value, trivial, In.value, trivial, Mlp.value, trivial, Xattn.value, trivial, trivial, Xfwd.value, trivial, Sfwd.value, trivial, Pfwd.value, trivial, Mfwd.value, trivial, Qfwd.value, trivial, Mmtn.value, trivial, Adam.value⟩

end Cert.Proof

end
